-- ==== Defs.lean ====
def Pre_Wd (m : (ℓ : Loc Cert.Wd.nD Cert.Wd.τ Cert.Wd.sig) → Buf (Elt Bits) ℓ) : Prop :=
  True

def Pre_WdIdeal (m : (ℓ : Loc Cert.WdIdeal.nD Cert.WdIdeal.τ Cert.WdIdeal.sig) → Buf (Elt Ideal) ℓ) : Prop :=
  True

def Pre_WdRefIdeal (m : (ℓ : Loc Cert.WdRefIdeal.nD Cert.WdRefIdeal.τ Cert.WdRefIdeal.sig) → Buf (Elt Ideal) ℓ) : Prop :=
  True

def Pre_Dgu (m : (ℓ : Loc Cert.Dgu.nD Cert.Dgu.τ Cert.Dgu.sig) → Buf (Elt Bits) ℓ) : Prop :=
  True

def Pre_DguIdeal (m : (ℓ : Loc Cert.DguIdeal.nD Cert.DguIdeal.τ Cert.DguIdeal.sig) → Buf (Elt Ideal) ℓ) : Prop :=
  True

def Pre_DguIdeal_finite [hPre_finite : Cert.Pre_finite.Facts] (m : (ℓ : Loc Cert.DguIdeal.nD Cert.DguIdeal.τ Cert.DguIdeal.sig) → Buf (Elt Ideal) ℓ) : Prop :=
  ∀ c : Dev Cert.DguIdeal.nD,
    (Cert.Pre_finite.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2))) = (fun _ => 1#1)

def Pre_DguRefIdeal (m : (ℓ : Loc Cert.DguRefIdeal.nD Cert.DguRefIdeal.τ Cert.DguRefIdeal.sig) → Buf (Elt Ideal) ℓ) : Prop :=
  True

def Pre_DguRefIdeal_finite [hPre_finite : Cert.Pre_finite.Facts] (m : (ℓ : Loc Cert.DguRefIdeal.nD Cert.DguRefIdeal.τ Cert.DguRefIdeal.sig) → Buf (Elt Ideal) ℓ) : Prop :=
  ∀ c : Dev Cert.DguRefIdeal.nD,
    (Cert.Pre_finite.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2))) = (fun _ => 1#1)

def Pre_Wgu (m : (ℓ : Loc Cert.Wgu.nD Cert.Wgu.τ Cert.Wgu.sig) → Buf (Elt Bits) ℓ) : Prop :=
  True

def Pre_WguIdeal (m : (ℓ : Loc Cert.WguIdeal.nD Cert.WguIdeal.τ Cert.WguIdeal.sig) → Buf (Elt Ideal) ℓ) : Prop :=
  True

def Pre_WguRefIdeal (m : (ℓ : Loc Cert.WguRefIdeal.nD Cert.WguRefIdeal.τ Cert.WguRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_OutY (m : (ℓ : Loc Cert.OutY.nD Cert.OutY.τ Cert.OutY.sig) → Buf (Elt Bits) ℓ) : Prop :=
  True

def Pre_OutYIdeal (m : (ℓ : Loc Cert.OutYIdeal.nD Cert.OutYIdeal.τ Cert.OutYIdeal.sig) → Buf (Elt Ideal) ℓ) : Prop :=
  True

def Pre_OutYRefIdeal (m : (ℓ : Loc Cert.OutYRefIdeal.nD Cert.OutYRefIdeal.τ Cert.OutYRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InH (m : (ℓ : Loc Cert.InH.nD Cert.InH.τ Cert.InH.sig) → Buf (Elt Bits) ℓ) : Prop :=
  True

def Pre_InHIdeal (m : (ℓ : Loc Cert.InHIdeal.nD Cert.InHIdeal.τ Cert.InHIdeal.sig) → Buf (Elt Ideal) ℓ) : Prop :=
  True

def Pre_InHRefIdeal (m : (ℓ : Loc Cert.InHRefIdeal.nD Cert.InHRefIdeal.τ Cert.InHRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixW (m : (ℓ : Loc Cert.MixW.nD Cert.MixW.τ Cert.MixW.sig) → Buf (Elt Bits) ℓ) : Prop :=
  True

def Pre_MixWIdeal (m : (ℓ : Loc Cert.MixWIdeal.nD Cert.MixWIdeal.τ Cert.MixWIdeal.sig) → Buf (Elt Ideal) ℓ) : Prop :=
  True

def Pre_MixWRefIdeal (m : (ℓ : Loc Cert.MixWRefIdeal.nD Cert.MixWRefIdeal.τ Cert.MixWRefIdeal.sig) → Buf (Elt Ideal) ℓ) : Prop :=
  True

def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleRefIdeal (m : (ℓ : Loc Cert.ScaleRefIdeal.nD Cert.ScaleRefIdeal.τ Cert.ScaleRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_PoolMix (m : (ℓ : Loc Cert.PoolMix.nD Cert.PoolMix.τ Cert.PoolMix.sig) → Buf (Elt Bits) ℓ) : Prop :=
  True

def Pre_PoolMixIdeal (m : (ℓ : Loc Cert.PoolMixIdeal.nD Cert.PoolMixIdeal.τ Cert.PoolMixIdeal.sig) → Buf (Elt Ideal) ℓ) : Prop :=
  True

def Pre_PoolMixRefIdeal (m : (ℓ : Loc Cert.PoolMixRefIdeal.nD Cert.PoolMixRefIdeal.τ Cert.PoolMixRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0))) = (fun _ => 1#1)

def Pre_LnB (m : (ℓ : Loc Cert.LnB.nD Cert.LnB.τ Cert.LnB.sig) → Buf (Elt Bits) ℓ) : Prop :=
  True

def Pre_LnBIdeal (m : (ℓ : Loc Cert.LnBIdeal.nD Cert.LnBIdeal.τ Cert.LnBIdeal.sig) → Buf (Elt Ideal) ℓ) : Prop :=
  True

def Pre_LnBIdeal_ln_finite [hPre_ln_finite : Cert.Pre_ln_finite.Facts] (m : (ℓ : Loc Cert.LnBIdeal.nD Cert.LnBIdeal.τ Cert.LnBIdeal.sig) → Buf (Elt Ideal) ℓ) : Prop :=
  ∀ c : Dev Cert.LnBIdeal.nD,
    (Cert.Pre_ln_finite.fn (F := Ideal) (m ((c.tc : Thread Cert.LnBIdeal.nD Cert.LnBIdeal.τ).loc Cert.LnBIdeal.main_arg0)) (m ((c.tc : Thread Cert.LnBIdeal.nD Cert.LnBIdeal.τ).loc Cert.LnBIdeal.main_arg1)) (m ((c.tc : Thread Cert.LnBIdeal.nD Cert.LnBIdeal.τ).loc Cert.LnBIdeal.main_arg2))) = (fun _ => 1#1)

def Pre_LnBRefIdeal (m : (ℓ : Loc Cert.LnBRefIdeal.nD Cert.LnBRefIdeal.τ Cert.LnBRefIdeal.sig) → Buf (Elt Ideal) ℓ) : Prop :=
  True

def Pre_LnBRefIdeal_ln_finite [hPre_ln_finite : Cert.Pre_ln_finite.Facts] (m : (ℓ : Loc Cert.LnBRefIdeal.nD Cert.LnBRefIdeal.τ Cert.LnBRefIdeal.sig) → Buf (Elt Ideal) ℓ) : Prop :=
  ∀ c : Dev Cert.LnBRefIdeal.nD,
    (Cert.Pre_ln_finite.fn (F := Ideal) (m ((c.tc : Thread Cert.LnBRefIdeal.nD Cert.LnBRefIdeal.τ).loc Cert.LnBRefIdeal.main_arg0)) (m ((c.tc : Thread Cert.LnBRefIdeal.nD Cert.LnBRefIdeal.τ).loc Cert.LnBRefIdeal.main_arg1)) (m ((c.tc : Thread Cert.LnBRefIdeal.nD Cert.LnBRefIdeal.τ).loc Cert.LnBRefIdeal.main_arg2))) = (fun _ => 1#1)

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFIdeal_pool_fwd_finite [hPre_pool_fwd_finite : Cert.Pre_pool_fwd_finite.Facts] (m : (ℓ : Loc Cert.PoolFIdeal.nD Cert.PoolFIdeal.τ Cert.PoolFIdeal.sig) → Buf (Elt Ideal) ℓ) : Prop :=
  ∀ c : Dev Cert.PoolFIdeal.nD,
    (Cert.Pre_pool_fwd_finite.fn (F := Ideal) (m ((c.tc : Thread Cert.PoolFIdeal.nD Cert.PoolFIdeal.τ).loc Cert.PoolFIdeal.main_arg0))) = (fun _ => 1#1)

def Pre_PoolFRefIdeal (m : (ℓ : Loc Cert.PoolFRefIdeal.nD Cert.PoolFRefIdeal.τ Cert.PoolFRefIdeal.sig) → Buf (Elt Ideal) ℓ) : Prop :=
  True

def Pre_PoolFRefIdeal_pool_fwd_finite [hPre_pool_fwd_finite : Cert.Pre_pool_fwd_finite.Facts] (m : (ℓ : Loc Cert.PoolFRefIdeal.nD Cert.PoolFRefIdeal.τ Cert.PoolFRefIdeal.sig) → Buf (Elt Ideal) ℓ) : Prop :=
  ∀ c : Dev Cert.PoolFRefIdeal.nD,
    (Cert.Pre_pool_fwd_finite.fn (F := Ideal) (m ((c.tc : Thread Cert.PoolFRefIdeal.nD Cert.PoolFRefIdeal.τ).loc Cert.PoolFRefIdeal.main_arg0))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))) = (fun _ => 1#1)

def quiescent_Wd [hWd : Cert.Wd.Facts] : Prop :=
  ∀ (m : (ℓ : Loc Cert.Wd.nD Cert.Wd.τ Cert.Wd.sig) → Buf (Elt Bits) ℓ) (g : Dev Cert.Wd.nD → PrngReg), Pre_Wd m →
    θ_run (Cert.Wd.defs (F := Bits)) (onTc (τ := Cert.Wd.τ) (Cert.Wd.main (F := Bits))) ⟨m, fun _ => 0, g⟩ (fun r => (∀ c : Dev Cert.Wd.nD,
      r.2.mem ((c.tc : Thread Cert.Wd.nD Cert.Wd.τ).loc Cert.Wd.main_arg0) = m ((c.tc : Thread Cert.Wd.nD Cert.Wd.τ).loc Cert.Wd.main_arg0)
      ∧ r.2.mem ((c.tc : Thread Cert.Wd.nD Cert.Wd.τ).loc Cert.Wd.main_arg1) = m ((c.tc : Thread Cert.Wd.nD Cert.Wd.τ).loc Cert.Wd.main_arg1))
      ∧ r.2.sem = fun _ => 0)

def quiescent_WdIdeal [hWdIdeal : Cert.WdIdeal.Facts] : Prop :=
  ∀ (m : (ℓ : Loc Cert.WdIdeal.nD Cert.WdIdeal.τ Cert.WdIdeal.sig) → Buf (Elt Ideal) ℓ) (g : Dev Cert.WdIdeal.nD → PrngReg), Pre_WdIdeal m →
    θ_run (Cert.WdIdeal.defs (F := Ideal)) (onTc (τ := Cert.WdIdeal.τ) (Cert.WdIdeal.main (F := Ideal))) ⟨m, fun _ => 0, g⟩ (fun r => (∀ c : Dev Cert.WdIdeal.nD,
      r.2.mem ((c.tc : Thread Cert.WdIdeal.nD Cert.WdIdeal.τ).loc Cert.WdIdeal.main_arg0) = m ((c.tc : Thread Cert.WdIdeal.nD Cert.WdIdeal.τ).loc Cert.WdIdeal.main_arg0)
      ∧ r.2.mem ((c.tc : Thread Cert.WdIdeal.nD Cert.WdIdeal.τ).loc Cert.WdIdeal.main_arg1) = m ((c.tc : Thread Cert.WdIdeal.nD Cert.WdIdeal.τ).loc Cert.WdIdeal.main_arg1))
      ∧ r.2.sem = fun _ => 0)

def quiescent_WdRefIdeal [hWdRefIdeal : Cert.WdRefIdeal.Facts] : Prop :=
  ∀ (m : (ℓ : Loc Cert.WdRefIdeal.nD Cert.WdRefIdeal.τ Cert.WdRefIdeal.sig) → Buf (Elt Ideal) ℓ) (g : Dev Cert.WdRefIdeal.nD → PrngReg), Pre_WdRefIdeal m →
    θ_run (Cert.WdRefIdeal.defs (F := Ideal)) (onTc (τ := Cert.WdRefIdeal.τ) (Cert.WdRefIdeal.main (F := Ideal))) ⟨m, fun _ => 0, g⟩ (fun r => (∀ c : Dev Cert.WdRefIdeal.nD,
      r.2.mem ((c.tc : Thread Cert.WdRefIdeal.nD Cert.WdRefIdeal.τ).loc Cert.WdRefIdeal.main_arg0) = m ((c.tc : Thread Cert.WdRefIdeal.nD Cert.WdRefIdeal.τ).loc Cert.WdRefIdeal.main_arg0)
      ∧ r.2.mem ((c.tc : Thread Cert.WdRefIdeal.nD Cert.WdRefIdeal.τ).loc Cert.WdRefIdeal.main_arg1) = m ((c.tc : Thread Cert.WdRefIdeal.nD Cert.WdRefIdeal.τ).loc Cert.WdRefIdeal.main_arg1))
      ∧ r.2.sem = fun _ => 0)

def quiescent_Dgu [hDgu : Cert.Dgu.Facts] : Prop :=
  ∀ (m : (ℓ : Loc Cert.Dgu.nD Cert.Dgu.τ Cert.Dgu.sig) → Buf (Elt Bits) ℓ) (g : Dev Cert.Dgu.nD → PrngReg), Pre_Dgu m →
    θ_run (Cert.Dgu.defs (F := Bits)) (onTc (τ := Cert.Dgu.τ) (Cert.Dgu.main (F := Bits))) ⟨m, fun _ => 0, g⟩ (fun r => (∀ c : Dev Cert.Dgu.nD,
      r.2.mem ((c.tc : Thread Cert.Dgu.nD Cert.Dgu.τ).loc Cert.Dgu.main_arg0) = m ((c.tc : Thread Cert.Dgu.nD Cert.Dgu.τ).loc Cert.Dgu.main_arg0)
      ∧ r.2.mem ((c.tc : Thread Cert.Dgu.nD Cert.Dgu.τ).loc Cert.Dgu.main_arg1) = m ((c.tc : Thread Cert.Dgu.nD Cert.Dgu.τ).loc Cert.Dgu.main_arg1)
      ∧ r.2.mem ((c.tc : Thread Cert.Dgu.nD Cert.Dgu.τ).loc Cert.Dgu.main_arg2) = m ((c.tc : Thread Cert.Dgu.nD Cert.Dgu.τ).loc Cert.Dgu.main_arg2))
      ∧ r.2.sem = fun _ => 0)

def quiescent_DguIdeal [hDguIdeal : Cert.DguIdeal.Facts] : Prop :=
  ∀ (m : (ℓ : Loc Cert.DguIdeal.nD Cert.DguIdeal.τ Cert.DguIdeal.sig) → Buf (Elt Ideal) ℓ) (g : Dev Cert.DguIdeal.nD → PrngReg), Pre_DguIdeal m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ r.2.sem = fun _ => 0)

def quiescent_DguIdeal_pre_finite [hDguIdeal : Cert.DguIdeal.Facts] [hPre_finite : Cert.Pre_finite.Facts] : Prop :=
  ∀ (m : (ℓ : Loc Cert.DguIdeal.nD Cert.DguIdeal.τ Cert.DguIdeal.sig) → Buf (Elt Ideal) ℓ) (g : Dev Cert.DguIdeal.nD → PrngReg), Pre_DguIdeal_finite m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ r.2.sem = fun _ => 0)

def quiescent_DguRefIdeal [hDguRefIdeal : Cert.DguRefIdeal.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1)
      ∧ r.2.mem ((c.tc : Thread Cert.DguRefIdeal.nD Cert.DguRefIdeal.τ).loc Cert.DguRefIdeal.main_arg2) = m ((c.tc : Thread Cert.DguRefIdeal.nD Cert.DguRefIdeal.τ).loc Cert.DguRefIdeal.main_arg2))
      ∧ r.2.sem = fun _ => 0)

def quiescent_DguRefIdeal_pre_finite [hDguRefIdeal : Cert.DguRefIdeal.Facts] [hPre_finite : Cert.Pre_finite.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal_finite m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1)
      ∧ r.2.mem ((c.tc : Thread Cert.DguRefIdeal.nD Cert.DguRefIdeal.τ).loc Cert.DguRefIdeal.main_arg2) = m ((c.tc : Thread Cert.DguRefIdeal.nD Cert.DguRefIdeal.τ).loc Cert.DguRefIdeal.main_arg2))
      ∧ r.2.sem = fun _ => 0)

def quiescent_Wgu [hWgu : Cert.Wgu.Facts] : Prop :=
  ∀ (m : (ℓ : Loc Cert.Wgu.nD Cert.Wgu.τ Cert.Wgu.sig) → Buf (Elt Bits) ℓ) (g : Dev Cert.Wgu.nD → PrngReg), Pre_Wgu m →
    θ_run (Cert.Wgu.defs (F := Bits)) (onTc (τ := Cert.Wgu.τ) (Cert.Wgu.main (F := Bits))) ⟨m, fun _ => 0, g⟩ (fun r => (∀ c : Dev Cert.Wgu.nD,
      r.2.mem ((c.tc : Thread Cert.Wgu.nD Cert.Wgu.τ).loc Cert.Wgu.main_arg0) = m ((c.tc : Thread Cert.Wgu.nD Cert.Wgu.τ).loc Cert.Wgu.main_arg0)
      ∧ r.2.mem ((c.tc : Thread Cert.Wgu.nD Cert.Wgu.τ).loc Cert.Wgu.main_arg1) = m ((c.tc : Thread Cert.Wgu.nD Cert.Wgu.τ).loc Cert.Wgu.main_arg1))
      ∧ r.2.sem = fun _ => 0)

def quiescent_WguIdeal [hWguIdeal : Cert.WguIdeal.Facts] : Prop :=
  ∀ (m : (ℓ : Loc Cert.WguIdeal.nD Cert.WguIdeal.τ Cert.WguIdeal.sig) → Buf (Elt Ideal) ℓ) (g : Dev Cert.WguIdeal.nD → PrngReg), Pre_WguIdeal m →
    θ_run (Cert.WguIdeal.defs (F := Ideal)) (onTc (τ := Cert.WguIdeal.τ) (Cert.WguIdeal.main (F := Ideal))) ⟨m, fun _ => 0, g⟩ (fun r => (∀ c : Dev Cert.WguIdeal.nD,
      r.2.mem ((c.tc : Thread Cert.WguIdeal.nD Cert.WguIdeal.τ).loc Cert.WguIdeal.main_arg0) = m ((c.tc : Thread Cert.WguIdeal.nD Cert.WguIdeal.τ).loc Cert.WguIdeal.main_arg0)
      ∧ r.2.mem ((c.tc : Thread Cert.WguIdeal.nD Cert.WguIdeal.τ).loc Cert.WguIdeal.main_arg1) = m ((c.tc : Thread Cert.WguIdeal.nD Cert.WguIdeal.τ).loc Cert.WguIdeal.main_arg1))
      ∧ r.2.sem = fun _ => 0)

def quiescent_WguRefIdeal [hWguRefIdeal : Cert.WguRefIdeal.Facts] : Prop :=
  ∀ (m : (ℓ : Loc Cert.WguRefIdeal.nD Cert.WguRefIdeal.τ Cert.WguRefIdeal.sig) → Buf (Elt Ideal) ℓ) (g : Dev Cert.WguRefIdeal.nD → PrngReg), Pre_WguRefIdeal m →
    θ_run (Cert.WguRefIdeal.defs (F := Ideal)) (onTc (τ := Cert.WguRefIdeal.τ) (Cert.WguRefIdeal.main (F := Ideal))) ⟨m, fun _ => 0, g⟩ (fun r => (∀ c : Dev Cert.WguRefIdeal.nD,
      r.2.mem ((c.tc : Thread Cert.WguRefIdeal.nD Cert.WguRefIdeal.τ).loc Cert.WguRefIdeal.main_arg0) = m ((c.tc : Thread Cert.WguRefIdeal.nD Cert.WguRefIdeal.τ).loc Cert.WguRefIdeal.main_arg0)
      ∧ r.2.mem ((c.tc : Thread Cert.WguRefIdeal.nD Cert.WguRefIdeal.τ).loc Cert.WguRefIdeal.main_arg1) = m ((c.tc : Thread Cert.WguRefIdeal.nD Cert.WguRefIdeal.τ).loc Cert.WguRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_OutY [hOutY : Cert.OutY.Facts] : Prop :=
  ∀ (m : (ℓ : Loc Cert.OutY.nD Cert.OutY.τ Cert.OutY.sig) → Buf (Elt Bits) ℓ) (g : Dev Cert.OutY.nD → PrngReg), Pre_OutY m →
    θ_run (Cert.OutY.defs (F := Bits)) (onTc (τ := Cert.OutY.τ) (Cert.OutY.main (F := Bits))) ⟨m, fun _ => 0, g⟩ (fun r => (∀ c : Dev Cert.OutY.nD,
      r.2.mem ((c.tc : Thread Cert.OutY.nD Cert.OutY.τ).loc Cert.OutY.main_arg0) = m ((c.tc : Thread Cert.OutY.nD Cert.OutY.τ).loc Cert.OutY.main_arg0)
      ∧ r.2.mem ((c.tc : Thread Cert.OutY.nD Cert.OutY.τ).loc Cert.OutY.main_arg1) = m ((c.tc : Thread Cert.OutY.nD Cert.OutY.τ).loc Cert.OutY.main_arg1))
      ∧ r.2.sem = fun _ => 0)

def quiescent_OutYIdeal [hOutYIdeal : Cert.OutYIdeal.Facts] : Prop :=
  ∀ (m : (ℓ : Loc Cert.OutYIdeal.nD Cert.OutYIdeal.τ Cert.OutYIdeal.sig) → Buf (Elt Ideal) ℓ) (g : Dev Cert.OutYIdeal.nD → PrngReg), Pre_OutYIdeal m →
    θ_run (Cert.OutYIdeal.defs (F := Ideal)) (onTc (τ := Cert.OutYIdeal.τ) (Cert.OutYIdeal.main (F := Ideal))) ⟨m, fun _ => 0, g⟩ (fun r => (∀ c : Dev Cert.OutYIdeal.nD,
      r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
      ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1))
      ∧ r.2.sem = fun _ => 0)

def quiescent_OutYRefIdeal [hOutYRefIdeal : Cert.OutYRefIdeal.Facts] : Prop :=
  ∀ (m : (ℓ : Loc Cert.OutYRefIdeal.nD Cert.OutYRefIdeal.τ Cert.OutYRefIdeal.sig) → Buf (Elt Ideal) ℓ) (g : Dev Cert.OutYRefIdeal.nD → PrngReg), Pre_OutYRefIdeal m →
    θ_run (Cert.OutYRefIdeal.defs (F := Ideal)) (onTc (τ := Cert.OutYRefIdeal.τ) (Cert.OutYRefIdeal.main (F := Ideal))) ⟨m, fun _ => 0, g⟩ (fun r => (∀ c : Dev Cert.OutYRefIdeal.nD,
      r.2.mem ((c.tc : Thread Cert.OutYRefIdeal.nD Cert.OutYRefIdeal.τ).loc Cert.OutYRefIdeal.main_arg0) = m ((c.tc : Thread Cert.OutYRefIdeal.nD Cert.OutYRefIdeal.τ).loc Cert.OutYRefIdeal.main_arg0)
      ∧ r.2.mem ((c.tc : Thread Cert.OutYRefIdeal.nD Cert.OutYRefIdeal.τ).loc Cert.OutYRefIdeal.main_arg1) = m ((c.tc : Thread Cert.OutYRefIdeal.nD Cert.OutYRefIdeal.τ).loc Cert.OutYRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InH [hInH : Cert.InH.Facts] : Prop :=
  ∀ (m : (ℓ : Loc Cert.InH.nD Cert.InH.τ Cert.InH.sig) → Buf (Elt Bits) ℓ) (g : Dev Cert.InH.nD → PrngReg), Pre_InH m →
    θ_run (Cert.InH.defs (F := Bits)) (onTc (τ := Cert.InH.τ) (Cert.InH.main (F := Bits))) ⟨m, fun _ => 0, g⟩ (fun r => (∀ c : Dev Cert.InH.nD,
      r.2.mem ((c.tc : Thread Cert.InH.nD Cert.InH.τ).loc Cert.InH.main_arg0) = m ((c.tc : Thread Cert.InH.nD Cert.InH.τ).loc Cert.InH.main_arg0)
      ∧ r.2.mem ((c.tc : Thread Cert.InH.nD Cert.InH.τ).loc Cert.InH.main_arg1) = m ((c.tc : Thread Cert.InH.nD Cert.InH.τ).loc Cert.InH.main_arg1)
      ∧ r.2.mem ((c.tc : Thread Cert.InH.nD Cert.InH.τ).loc Cert.InH.main_arg2) = m ((c.tc : Thread Cert.InH.nD Cert.InH.τ).loc Cert.InH.main_arg2))
      ∧ r.2.sem = fun _ => 0)

def quiescent_InHIdeal [hInHIdeal : Cert.InHIdeal.Facts] : Prop :=
  ∀ (m : (ℓ : Loc Cert.InHIdeal.nD Cert.InHIdeal.τ Cert.InHIdeal.sig) → Buf (Elt Ideal) ℓ) (g : Dev Cert.InHIdeal.nD → PrngReg), Pre_InHIdeal m →
    θ_run (Cert.InHIdeal.defs (F := Ideal)) (onTc (τ := Cert.InHIdeal.τ) (Cert.InHIdeal.main (F := Ideal))) ⟨m, fun _ => 0, g⟩ (fun r => (∀ c : Dev Cert.InHIdeal.nD,
      r.2.mem ((c.tc : Thread Cert.InHIdeal.nD Cert.InHIdeal.τ).loc Cert.InHIdeal.main_arg0) = m ((c.tc : Thread Cert.InHIdeal.nD Cert.InHIdeal.τ).loc Cert.InHIdeal.main_arg0)
      ∧ r.2.mem ((c.tc : Thread Cert.InHIdeal.nD Cert.InHIdeal.τ).loc Cert.InHIdeal.main_arg1) = m ((c.tc : Thread Cert.InHIdeal.nD Cert.InHIdeal.τ).loc Cert.InHIdeal.main_arg1)
      ∧ r.2.mem ((c.tc : Thread Cert.InHIdeal.nD Cert.InHIdeal.τ).loc Cert.InHIdeal.main_arg2) = m ((c.tc : Thread Cert.InHIdeal.nD Cert.InHIdeal.τ).loc Cert.InHIdeal.main_arg2))
      ∧ r.2.sem = fun _ => 0)

def quiescent_InHRefIdeal [hInHRefIdeal : Cert.InHRefIdeal.Facts] : Prop :=
  ∀ (m : (ℓ : Loc Cert.InHRefIdeal.nD Cert.InHRefIdeal.τ Cert.InHRefIdeal.sig) → Buf (Elt Ideal) ℓ) (g : Dev Cert.InHRefIdeal.nD → PrngReg), Pre_InHRefIdeal m →
    θ_run (Cert.InHRefIdeal.defs (F := Ideal)) (onTc (τ := Cert.InHRefIdeal.τ) (Cert.InHRefIdeal.main (F := Ideal))) ⟨m, fun _ => 0, g⟩ (fun r => (∀ c : Dev Cert.InHRefIdeal.nD,
      r.2.mem ((c.tc : Thread Cert.InHRefIdeal.nD Cert.InHRefIdeal.τ).loc Cert.InHRefIdeal.main_arg0) = m ((c.tc : Thread Cert.InHRefIdeal.nD Cert.InHRefIdeal.τ).loc Cert.InHRefIdeal.main_arg0)
      ∧ r.2.mem ((c.tc : Thread Cert.InHRefIdeal.nD Cert.InHRefIdeal.τ).loc Cert.InHRefIdeal.main_arg1) = m ((c.tc : Thread Cert.InHRefIdeal.nD Cert.InHRefIdeal.τ).loc Cert.InHRefIdeal.main_arg1)
      ∧ r.2.mem ((c.tc : Thread Cert.InHRefIdeal.nD Cert.InHRefIdeal.τ).loc Cert.InHRefIdeal.main_arg2) = m ((c.tc : Thread Cert.InHRefIdeal.nD Cert.InHRefIdeal.τ).loc Cert.InHRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixW [hMixW : Cert.MixW.Facts] : Prop :=
  ∀ (m : (ℓ : Loc Cert.MixW.nD Cert.MixW.τ Cert.MixW.sig) → Buf (Elt Bits) ℓ) (g : Dev Cert.MixW.nD → PrngReg), Pre_MixW m →
    θ_run (Cert.MixW.defs (F := Bits)) (onTc (τ := Cert.MixW.τ) (Cert.MixW.main (F := Bits))) ⟨m, fun _ => 0, g⟩ (fun r => (∀ c : Dev Cert.MixW.nD,
      r.2.mem ((c.tc : Thread Cert.MixW.nD Cert.MixW.τ).loc Cert.MixW.main_arg0) = m ((c.tc : Thread Cert.MixW.nD Cert.MixW.τ).loc Cert.MixW.main_arg0)
      ∧ r.2.mem ((c.tc : Thread Cert.MixW.nD Cert.MixW.τ).loc Cert.MixW.main_arg1) = m ((c.tc : Thread Cert.MixW.nD Cert.MixW.τ).loc Cert.MixW.main_arg1))
      ∧ r.2.sem = fun _ => 0)

def quiescent_MixWIdeal [hMixWIdeal : Cert.MixWIdeal.Facts] : Prop :=
  ∀ (m : (ℓ : Loc Cert.MixWIdeal.nD Cert.MixWIdeal.τ Cert.MixWIdeal.sig) → Buf (Elt Ideal) ℓ) (g : Dev Cert.MixWIdeal.nD → PrngReg), Pre_MixWIdeal m →
    θ_run (Cert.MixWIdeal.defs (F := Ideal)) (onTc (τ := Cert.MixWIdeal.τ) (Cert.MixWIdeal.main (F := Ideal))) ⟨m, fun _ => 0, g⟩ (fun r => (∀ c : Dev Cert.MixWIdeal.nD,
      r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
      ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1))
      ∧ r.2.sem = fun _ => 0)

def quiescent_MixWRefIdeal [hMixWRefIdeal : Cert.MixWRefIdeal.Facts] : Prop :=
  ∀ (m : (ℓ : Loc Cert.MixWRefIdeal.nD Cert.MixWRefIdeal.τ Cert.MixWRefIdeal.sig) → Buf (Elt Ideal) ℓ) (g : Dev Cert.MixWRefIdeal.nD → PrngReg), Pre_MixWRefIdeal m →
    θ_run (Cert.MixWRefIdeal.defs (F := Ideal)) (onTc (τ := Cert.MixWRefIdeal.τ) (Cert.MixWRefIdeal.main (F := Ideal))) ⟨m, fun _ => 0, g⟩ (fun r => (∀ c : Dev Cert.MixWRefIdeal.nD,
      r.2.mem ((c.tc : Thread Cert.MixWRefIdeal.nD Cert.MixWRefIdeal.τ).loc Cert.MixWRefIdeal.main_arg0) = m ((c.tc : Thread Cert.MixWRefIdeal.nD Cert.MixWRefIdeal.τ).loc Cert.MixWRefIdeal.main_arg0)
      ∧ r.2.mem ((c.tc : Thread Cert.MixWRefIdeal.nD Cert.MixWRefIdeal.τ).loc Cert.MixWRefIdeal.main_arg1) = m ((c.tc : Thread Cert.MixWRefIdeal.nD Cert.MixWRefIdeal.τ).loc Cert.MixWRefIdeal.main_arg1))
      ∧ r.2.sem = fun _ => 0)

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0)
      ∧ r.2.mem ((c.tc : Thread Cert.Scale.nD Cert.Scale.τ).loc Cert.Scale.main_arg1) = m ((c.tc : Thread Cert.Scale.nD Cert.Scale.τ).loc Cert.Scale.main_arg1)
      ∧ r.2.mem ((c.tc : Thread Cert.Scale.nD Cert.Scale.τ).loc Cert.Scale.main_arg2) = m ((c.tc : Thread Cert.Scale.nD Cert.Scale.τ).loc Cert.Scale.main_arg2))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
      ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
      ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2))
      ∧ r.2.sem = fun _ => 0)

def quiescent_ScaleRefIdeal [hScaleRefIdeal : Cert.ScaleRefIdeal.Facts] : Prop :=
  ∀ (m : (ℓ : Loc Cert.ScaleRefIdeal.nD Cert.ScaleRefIdeal.τ Cert.ScaleRefIdeal.sig) → Buf (Elt Ideal) ℓ) (g : Dev Cert.ScaleRefIdeal.nD → PrngReg), Pre_ScaleRefIdeal m →
    θ_run (Cert.ScaleRefIdeal.defs (F := Ideal)) (onTc (τ := Cert.ScaleRefIdeal.τ) (Cert.ScaleRefIdeal.main (F := Ideal))) ⟨m, fun _ => 0, g⟩ (fun r => (∀ c : Dev Cert.ScaleRefIdeal.nD,
      r.2.mem ((c.tc : Thread Cert.ScaleRefIdeal.nD Cert.ScaleRefIdeal.τ).loc Cert.ScaleRefIdeal.main_arg0) = m ((c.tc : Thread Cert.ScaleRefIdeal.nD Cert.ScaleRefIdeal.τ).loc Cert.ScaleRefIdeal.main_arg0)
      ∧ r.2.mem ((c.tc : Thread Cert.ScaleRefIdeal.nD Cert.ScaleRefIdeal.τ).loc Cert.ScaleRefIdeal.main_arg1) = m ((c.tc : Thread Cert.ScaleRefIdeal.nD Cert.ScaleRefIdeal.τ).loc Cert.ScaleRefIdeal.main_arg1)
      ∧ r.2.mem ((c.tc : Thread Cert.ScaleRefIdeal.nD Cert.ScaleRefIdeal.τ).loc Cert.ScaleRefIdeal.main_arg2) = m ((c.tc : Thread Cert.ScaleRefIdeal.nD Cert.ScaleRefIdeal.τ).loc Cert.ScaleRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2))
      ∧ r.2.sem = fun _ => 0)

def quiescent_PoolMix [hPoolMix : Cert.PoolMix.Facts] : Prop :=
  ∀ (m : (ℓ : Loc Cert.PoolMix.nD Cert.PoolMix.τ Cert.PoolMix.sig) → Buf (Elt Bits) ℓ) (g : Dev Cert.PoolMix.nD → PrngReg), Pre_PoolMix m →
    θ_run (Cert.PoolMix.defs (F := Bits)) (onTc (τ := Cert.PoolMix.τ) (Cert.PoolMix.main (F := Bits))) ⟨m, fun _ => 0, g⟩ (fun r => (∀ c : Dev Cert.PoolMix.nD,
      r.2.mem ((c.tc : Thread Cert.PoolMix.nD Cert.PoolMix.τ).loc Cert.PoolMix.main_arg0) = m ((c.tc : Thread Cert.PoolMix.nD Cert.PoolMix.τ).loc Cert.PoolMix.main_arg0)
      ∧ r.2.mem ((c.tc : Thread Cert.PoolMix.nD Cert.PoolMix.τ).loc Cert.PoolMix.main_arg1) = m ((c.tc : Thread Cert.PoolMix.nD Cert.PoolMix.τ).loc Cert.PoolMix.main_arg1)
      ∧ r.2.mem ((c.tc : Thread Cert.PoolMix.nD Cert.PoolMix.τ).loc Cert.PoolMix.main_arg2) = m ((c.tc : Thread Cert.PoolMix.nD Cert.PoolMix.τ).loc Cert.PoolMix.main_arg2))
      ∧ r.2.sem = fun _ => 0)

def quiescent_PoolMixIdeal [hPoolMixIdeal : Cert.PoolMixIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
      ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2))
      ∧ r.2.sem = fun _ => 0)

def quiescent_PoolMixRefIdeal [hPoolMixRefIdeal : Cert.PoolMixRefIdeal.Facts] : Prop :=
  ∀ (m : (ℓ : Loc Cert.PoolMixRefIdeal.nD Cert.PoolMixRefIdeal.τ Cert.PoolMixRefIdeal.sig) → Buf (Elt Ideal) ℓ) (g : Dev Cert.PoolMixRefIdeal.nD → PrngReg), Pre_PoolMixRefIdeal m →
    θ_run (Cert.PoolMixRefIdeal.defs (F := Ideal)) (onTc (τ := Cert.PoolMixRefIdeal.τ) (Cert.PoolMixRefIdeal.main (F := Ideal))) ⟨m, fun _ => 0, g⟩ (fun r => (∀ c : Dev Cert.PoolMixRefIdeal.nD,
      r.2.mem ((c.tc : Thread Cert.PoolMixRefIdeal.nD Cert.PoolMixRefIdeal.τ).loc Cert.PoolMixRefIdeal.main_arg0) = m ((c.tc : Thread Cert.PoolMixRefIdeal.nD Cert.PoolMixRefIdeal.τ).loc Cert.PoolMixRefIdeal.main_arg0)
      ∧ r.2.mem ((c.tc : Thread Cert.PoolMixRefIdeal.nD Cert.PoolMixRefIdeal.τ).loc Cert.PoolMixRefIdeal.main_arg1) = m ((c.tc : Thread Cert.PoolMixRefIdeal.nD Cert.PoolMixRefIdeal.τ).loc Cert.PoolMixRefIdeal.main_arg1)
      ∧ r.2.mem ((c.tc : Thread Cert.PoolMixRefIdeal.nD Cert.PoolMixRefIdeal.τ).loc Cert.PoolMixRefIdeal.main_arg2) = m ((c.tc : Thread Cert.PoolMixRefIdeal.nD Cert.PoolMixRefIdeal.τ).loc Cert.PoolMixRefIdeal.main_arg2))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_LnB [hLnB : Cert.LnB.Facts] : Prop :=
  ∀ (m : (ℓ : Loc Cert.LnB.nD Cert.LnB.τ Cert.LnB.sig) → Buf (Elt Bits) ℓ) (g : Dev Cert.LnB.nD → PrngReg), Pre_LnB m →
    θ_run (Cert.LnB.defs (F := Bits)) (onTc (τ := Cert.LnB.τ) (Cert.LnB.main (F := Bits))) ⟨m, fun _ => 0, g⟩ (fun r => (∀ c : Dev Cert.LnB.nD,
      r.2.mem ((c.tc : Thread Cert.LnB.nD Cert.LnB.τ).loc Cert.LnB.main_arg0) = m ((c.tc : Thread Cert.LnB.nD Cert.LnB.τ).loc Cert.LnB.main_arg0)
      ∧ r.2.mem ((c.tc : Thread Cert.LnB.nD Cert.LnB.τ).loc Cert.LnB.main_arg1) = m ((c.tc : Thread Cert.LnB.nD Cert.LnB.τ).loc Cert.LnB.main_arg1)
      ∧ r.2.mem ((c.tc : Thread Cert.LnB.nD Cert.LnB.τ).loc Cert.LnB.main_arg2) = m ((c.tc : Thread Cert.LnB.nD Cert.LnB.τ).loc Cert.LnB.main_arg2))
      ∧ r.2.sem = fun _ => 0)

def quiescent_LnBIdeal [hLnBIdeal : Cert.LnBIdeal.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2))
      ∧ r.2.sem = fun _ => 0)

def quiescent_LnBIdeal_pre_ln_finite [hLnBIdeal : Cert.LnBIdeal.Facts] [hPre_ln_finite : Cert.Pre_ln_finite.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal_ln_finite m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2))
      ∧ r.2.sem = fun _ => 0)

def quiescent_LnBRefIdeal [hLnBRefIdeal : Cert.LnBRefIdeal.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2))
      ∧ r.2.sem = fun _ => 0)

def quiescent_LnBRefIdeal_pre_ln_finite [hLnBRefIdeal : Cert.LnBRefIdeal.Facts] [hPre_ln_finite : Cert.Pre_ln_finite.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal_ln_finite m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0))
      ∧ r.2.sem = fun _ => 0)

def quiescent_PoolFIdeal_pre_pool_fwd_finite [hPoolFIdeal : Cert.PoolFIdeal.Facts] [hPre_pool_fwd_finite : Cert.Pre_pool_fwd_finite.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal_pool_fwd_finite m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0))
      ∧ r.2.sem = fun _ => 0)

def quiescent_PoolFRefIdeal_pre_pool_fwd_finite [hPoolFRefIdeal : Cert.PoolFRefIdeal.Facts] [hPre_pool_fwd_finite : Cert.Pre_pool_fwd_finite.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal_pool_fwd_finite m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def preserves_Wd_WdIdeal : Prop :=
  True

def algebraic_WdIdeal_WdRefIdeal [hWdIdeal : Cert.WdIdeal.Facts] [hWdRefIdeal : Cert.WdRefIdeal.Facts] : Prop :=
  ∀ (m : (ℓ : Loc Cert.WdIdeal.nD Cert.WdIdeal.τ Cert.WdIdeal.sig) → Buf (Elt Ideal) ℓ) (g : Dev Cert.WdIdeal.nD → PrngReg)
    (m' : (ℓ : Loc Cert.WdRefIdeal.nD Cert.WdRefIdeal.τ Cert.WdRefIdeal.sig) → Buf (Elt Ideal) ℓ) (g' : Dev Cert.WdRefIdeal.nD → PrngReg), Pre_WdIdeal m →
    (∀ c : Dev Cert.WdIdeal.nD,
      m' ((c.tc : Thread Cert.WdRefIdeal.nD Cert.WdRefIdeal.τ).loc Cert.WdRefIdeal.main_arg0) = m ((c.tc : Thread Cert.WdIdeal.nD Cert.WdIdeal.τ).loc Cert.WdIdeal.main_arg0)
      ∧ m' ((c.tc : Thread Cert.WdRefIdeal.nD Cert.WdRefIdeal.τ).loc Cert.WdRefIdeal.main_arg1) = m ((c.tc : Thread Cert.WdIdeal.nD Cert.WdIdeal.τ).loc Cert.WdIdeal.main_arg1)) →
    ∃ (v0 : (c : Dev Cert.WdIdeal.nD) → Buf (Elt Ideal) ((c.tc : Thread Cert.WdIdeal.nD Cert.WdIdeal.τ).loc Cert.WdIdeal.main_v9)),
      θ_run (Cert.WdIdeal.defs (F := Ideal)) (onTc (τ := Cert.WdIdeal.τ) (Cert.WdIdeal.main (F := Ideal))) ⟨m, fun _ => 0, g⟩ (fun r => ∀ c : Dev Cert.WdIdeal.nD,
          r.2.mem ((c.tc : Thread Cert.WdIdeal.nD Cert.WdIdeal.τ).loc Cert.WdIdeal.main_v9) = v0 c
          ∧ r.2.mem ((c.tc : Thread Cert.WdIdeal.nD Cert.WdIdeal.τ).loc Cert.WdIdeal.main_arg0) = m ((c.tc : Thread Cert.WdIdeal.nD Cert.WdIdeal.τ).loc Cert.WdIdeal.main_arg0)
          ∧ r.2.mem ((c.tc : Thread Cert.WdIdeal.nD Cert.WdIdeal.τ).loc Cert.WdIdeal.main_arg1) = m ((c.tc : Thread Cert.WdIdeal.nD Cert.WdIdeal.τ).loc Cert.WdIdeal.main_arg1))
      ∧ θ_run (Cert.WdRefIdeal.defs (F := Ideal)) (onTc (τ := Cert.WdRefIdeal.τ) (Cert.WdRefIdeal.main (F := Ideal))) ⟨m', fun _ => 0, g'⟩ (fun r => ∀ c : Dev Cert.WdRefIdeal.nD,
          r.2.mem ((c.tc : Thread Cert.WdRefIdeal.nD Cert.WdRefIdeal.τ).loc Cert.WdRefIdeal.main_v22) = v0 c
          ∧ r.2.mem ((c.tc : Thread Cert.WdRefIdeal.nD Cert.WdRefIdeal.τ).loc Cert.WdRefIdeal.main_arg0) = m' ((c.tc : Thread Cert.WdRefIdeal.nD Cert.WdRefIdeal.τ).loc Cert.WdRefIdeal.main_arg0)
          ∧ r.2.mem ((c.tc : Thread Cert.WdRefIdeal.nD Cert.WdRefIdeal.τ).loc Cert.WdRefIdeal.main_arg1) = m' ((c.tc : Thread Cert.WdRefIdeal.nD Cert.WdRefIdeal.τ).loc Cert.WdRefIdeal.main_arg1))

def preserves_Dgu_DguIdeal : Prop :=
  True

def algebraic_DguIdeal_DguRefIdeal_pre_finite [hDguIdeal : Cert.DguIdeal.Facts] [hDguRefIdeal : Cert.DguRefIdeal.Facts] [hPre_finite : Cert.Pre_finite.Facts] : Prop :=
  ∀ (m : (ℓ : Loc Cert.DguIdeal.nD Cert.DguIdeal.τ Cert.DguIdeal.sig) → Buf (Elt Ideal) ℓ) (g : Dev Cert.DguIdeal.nD → PrngReg)
    (m' : (ℓ : Loc Cert.DguRefIdeal.nD Cert.DguRefIdeal.τ Cert.DguRefIdeal.sig) → Buf (Elt Ideal) ℓ) (g' : Dev Cert.DguRefIdeal.nD → PrngReg), Pre_DguIdeal_finite m →
    (∀ c : Dev Cert.DguIdeal.nD,
      m' ((c.tc : Thread Cert.DguRefIdeal.nD Cert.DguRefIdeal.τ).loc Cert.DguRefIdeal.main_arg0) = m ((c.tc : Thread Cert.DguIdeal.nD Cert.DguIdeal.τ).loc Cert.DguIdeal.main_arg0)
      ∧ m' ((c.tc : Thread Cert.DguRefIdeal.nD Cert.DguRefIdeal.τ).loc Cert.DguRefIdeal.main_arg1) = m ((c.tc : Thread Cert.DguIdeal.nD Cert.DguIdeal.τ).loc Cert.DguIdeal.main_arg1)
      ∧ m' ((c.tc : Thread Cert.DguRefIdeal.nD Cert.DguRefIdeal.τ).loc Cert.DguRefIdeal.main_arg2) = m ((c.tc : Thread Cert.DguIdeal.nD Cert.DguIdeal.τ).loc Cert.DguIdeal.main_arg2)) →
    ∃ (v0 : (c : Dev Cert.DguIdeal.nD) → Buf (Elt Ideal) ((c.tc : Thread Cert.DguIdeal.nD Cert.DguIdeal.τ).loc Cert.DguIdeal.main_v1)),
      θ_run (Cert.DguIdeal.defs (F := Ideal)) (onTc (τ := Cert.DguIdeal.τ) (Cert.DguIdeal.main (F := Ideal))) ⟨m, fun _ => 0, g⟩ (fun r => ∀ c : Dev Cert.DguIdeal.nD,
          r.2.mem ((c.tc : Thread Cert.DguIdeal.nD Cert.DguIdeal.τ).loc Cert.DguIdeal.main_v1) = v0 c
          ∧ r.2.mem ((c.tc : Thread Cert.DguIdeal.nD Cert.DguIdeal.τ).loc Cert.DguIdeal.main_arg0) = m ((c.tc : Thread Cert.DguIdeal.nD Cert.DguIdeal.τ).loc Cert.DguIdeal.main_arg0)
          ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
          ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ θ_run (Cert.DguRefIdeal.defs (F := Ideal)) (onTc (τ := Cert.DguRefIdeal.τ) (Cert.DguRefIdeal.main (F := Ideal))) ⟨m', fun _ => 0, g'⟩ (fun r => ∀ c : Dev Cert.DguRefIdeal.nD,
          r.2.mem ((c.tc : Thread Cert.DguRefIdeal.nD Cert.DguRefIdeal.τ).loc Cert.DguRefIdeal.main_v30) = v0 c
          ∧ r.2.mem ((c.tc : Thread Cert.DguRefIdeal.nD Cert.DguRefIdeal.τ).loc Cert.DguRefIdeal.main_arg0) = m' ((c.tc : Thread Cert.DguRefIdeal.nD Cert.DguRefIdeal.τ).loc Cert.DguRefIdeal.main_arg0)
          ∧ r.2.mem ((c.tc : Thread Cert.DguRefIdeal.nD Cert.DguRefIdeal.τ).loc Cert.DguRefIdeal.main_arg1) = m' ((c.tc : Thread Cert.DguRefIdeal.nD Cert.DguRefIdeal.τ).loc Cert.DguRefIdeal.main_arg1)
          ∧ r.2.mem ((c.tc : Thread Cert.DguRefIdeal.nD Cert.DguRefIdeal.τ).loc Cert.DguRefIdeal.main_arg2) = m' ((c.tc : Thread Cert.DguRefIdeal.nD Cert.DguRefIdeal.τ).loc Cert.DguRefIdeal.main_arg2))

def preserves_Wgu_WguIdeal : Prop :=
  True

def algebraic_WguIdeal_WguRefIdeal [hWguIdeal : Cert.WguIdeal.Facts] [hWguRefIdeal : Cert.WguRefIdeal.Facts] : Prop :=
  ∀ (m : (ℓ : Loc Cert.WguIdeal.nD Cert.WguIdeal.τ Cert.WguIdeal.sig) → Buf (Elt Ideal) ℓ) (g : Dev Cert.WguIdeal.nD → PrngReg)
    (m' : (ℓ : Loc Cert.WguRefIdeal.nD Cert.WguRefIdeal.τ Cert.WguRefIdeal.sig) → Buf (Elt Ideal) ℓ) (g' : Dev Cert.WguRefIdeal.nD → PrngReg), Pre_WguIdeal m →
    (∀ c : Dev Cert.WguIdeal.nD,
      m' ((c.tc : Thread Cert.WguRefIdeal.nD Cert.WguRefIdeal.τ).loc Cert.WguRefIdeal.main_arg0) = m ((c.tc : Thread Cert.WguIdeal.nD Cert.WguIdeal.τ).loc Cert.WguIdeal.main_arg0)
      ∧ m' ((c.tc : Thread Cert.WguRefIdeal.nD Cert.WguRefIdeal.τ).loc Cert.WguRefIdeal.main_arg1) = m ((c.tc : Thread Cert.WguIdeal.nD Cert.WguIdeal.τ).loc Cert.WguIdeal.main_arg1)) →
    ∃ (v0 : (c : Dev Cert.WguIdeal.nD) → Buf (Elt Ideal) ((c.tc : Thread Cert.WguIdeal.nD Cert.WguIdeal.τ).loc Cert.WguIdeal.main_v0)),
      θ_run (Cert.WguIdeal.defs (F := Ideal)) (onTc (τ := Cert.WguIdeal.τ) (Cert.WguIdeal.main (F := Ideal))) ⟨m, fun _ => 0, g⟩ (fun r => ∀ c : Dev Cert.WguIdeal.nD,
          r.2.mem ((c.tc : Thread Cert.WguIdeal.nD Cert.WguIdeal.τ).loc Cert.WguIdeal.main_v0) = v0 c
          ∧ r.2.mem ((c.tc : Thread Cert.WguIdeal.nD Cert.WguIdeal.τ).loc Cert.WguIdeal.main_arg0) = m ((c.tc : Thread Cert.WguIdeal.nD Cert.WguIdeal.τ).loc Cert.WguIdeal.main_arg0)
          ∧ r.2.mem ((c.tc : Thread Cert.WguIdeal.nD Cert.WguIdeal.τ).loc Cert.WguIdeal.main_arg1) = m ((c.tc : Thread Cert.WguIdeal.nD Cert.WguIdeal.τ).loc Cert.WguIdeal.main_arg1))
      ∧ θ_run (Cert.WguRefIdeal.defs (F := Ideal)) (onTc (τ := Cert.WguRefIdeal.τ) (Cert.WguRefIdeal.main (F := Ideal))) ⟨m', fun _ => 0, g'⟩ (fun r => ∀ c : Dev Cert.WguRefIdeal.nD,
          r.2.mem ((c.tc : Thread Cert.WguRefIdeal.nD Cert.WguRefIdeal.τ).loc Cert.WguRefIdeal.main_v20) = v0 c
          ∧ r.2.mem ((c.tc : Thread Cert.WguRefIdeal.nD Cert.WguRefIdeal.τ).loc Cert.WguRefIdeal.main_arg0) = m' ((c.tc : Thread Cert.WguRefIdeal.nD Cert.WguRefIdeal.τ).loc Cert.WguRefIdeal.main_arg0)
          ∧ r.2.mem ((c.tc : Thread Cert.WguRefIdeal.nD Cert.WguRefIdeal.τ).loc Cert.WguRefIdeal.main_arg1) = m' ((c.tc : Thread Cert.WguRefIdeal.nD Cert.WguRefIdeal.τ).loc Cert.WguRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v19) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)) (v3 : (c : Dev Cert.ConvIdeal.nD) → Buf (Elt Ideal) ((c.tc : Thread Cert.ConvIdeal.nD Cert.ConvIdeal.τ).loc Cert.ConvIdeal.main_v2_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_v2_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v70) = v0 c
          ∧ r.2.mem ((c.tc : Thread Cert.ConvRefIdeal.nD Cert.ConvRefIdeal.τ).loc Cert.ConvRefIdeal.main_v73) = v1 c
          ∧ r.2.mem ((c.tc : Thread Cert.ConvRefIdeal.nD Cert.ConvRefIdeal.τ).loc Cert.ConvRefIdeal.main_v76) = v2 c
          ∧ r.2.mem ((c.tc : Thread Cert.ConvRefIdeal.nD Cert.ConvRefIdeal.τ).loc Cert.ConvRefIdeal.main_v61) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_OutY_OutYIdeal : Prop :=
  True

def algebraic_OutYIdeal_OutYRefIdeal [hOutYIdeal : Cert.OutYIdeal.Facts] [hOutYRefIdeal : Cert.OutYRefIdeal.Facts] : Prop :=
  ∀ (m : (ℓ : Loc Cert.OutYIdeal.nD Cert.OutYIdeal.τ Cert.OutYIdeal.sig) → Buf (Elt Ideal) ℓ) (g : Dev Cert.OutYIdeal.nD → PrngReg)
    (m' : (ℓ : Loc Cert.OutYRefIdeal.nD Cert.OutYRefIdeal.τ Cert.OutYRefIdeal.sig) → Buf (Elt Ideal) ℓ) (g' : Dev Cert.OutYRefIdeal.nD → PrngReg), Pre_OutYIdeal m →
    (∀ c : Dev Cert.OutYIdeal.nD,
      m' ((c.tc : Thread Cert.OutYRefIdeal.nD Cert.OutYRefIdeal.τ).loc Cert.OutYRefIdeal.main_arg0) = m ((c.tc : Thread Cert.OutYIdeal.nD Cert.OutYIdeal.τ).loc Cert.OutYIdeal.main_arg0)
      ∧ m' ((c.tc : Thread Cert.OutYRefIdeal.nD Cert.OutYRefIdeal.τ).loc Cert.OutYRefIdeal.main_arg1) = m ((c.tc : Thread Cert.OutYIdeal.nD Cert.OutYIdeal.τ).loc Cert.OutYIdeal.main_arg1)) →
    ∃ (v0 : (c : Dev Cert.OutYIdeal.nD) → Buf (Elt Ideal) ((c.tc : Thread Cert.OutYIdeal.nD Cert.OutYIdeal.τ).loc Cert.OutYIdeal.main_v1)),
      θ_run (Cert.OutYIdeal.defs (F := Ideal)) (onTc (τ := Cert.OutYIdeal.τ) (Cert.OutYIdeal.main (F := Ideal))) ⟨m, fun _ => 0, g⟩ (fun r => ∀ c : Dev Cert.OutYIdeal.nD,
          r.2.mem ((c.tc : Thread Cert.OutYIdeal.nD Cert.OutYIdeal.τ).loc Cert.OutYIdeal.main_v1) = v0 c
          ∧ r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
          ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1))
      ∧ θ_run (Cert.OutYRefIdeal.defs (F := Ideal)) (onTc (τ := Cert.OutYRefIdeal.τ) (Cert.OutYRefIdeal.main (F := Ideal))) ⟨m', fun _ => 0, g'⟩ (fun r => ∀ c : Dev Cert.OutYRefIdeal.nD,
          r.2.mem ((c.tc : Thread Cert.OutYRefIdeal.nD Cert.OutYRefIdeal.τ).loc Cert.OutYRefIdeal.main_v4) = v0 c
          ∧ r.2.mem ((c.tc : Thread Cert.OutYRefIdeal.nD Cert.OutYRefIdeal.τ).loc Cert.OutYRefIdeal.main_arg0) = m' ((c.tc : Thread Cert.OutYRefIdeal.nD Cert.OutYRefIdeal.τ).loc Cert.OutYRefIdeal.main_arg0)
          ∧ r.2.mem ((c.tc : Thread Cert.OutYRefIdeal.nD Cert.OutYRefIdeal.τ).loc Cert.OutYRefIdeal.main_arg1) = m' ((c.tc : Thread Cert.OutYRefIdeal.nD Cert.OutYRefIdeal.τ).loc Cert.OutYRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v7) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v10) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InH_InHIdeal : Prop :=
  True

def algebraic_InHIdeal_InHRefIdeal [hInHIdeal : Cert.InHIdeal.Facts] [hInHRefIdeal : Cert.InHRefIdeal.Facts] : Prop :=
  ∀ (m : (ℓ : Loc Cert.InHIdeal.nD Cert.InHIdeal.τ Cert.InHIdeal.sig) → Buf (Elt Ideal) ℓ) (g : Dev Cert.InHIdeal.nD → PrngReg)
    (m' : (ℓ : Loc Cert.InHRefIdeal.nD Cert.InHRefIdeal.τ Cert.InHRefIdeal.sig) → Buf (Elt Ideal) ℓ) (g' : Dev Cert.InHRefIdeal.nD → PrngReg), Pre_InHIdeal m →
    (∀ c : Dev Cert.InHIdeal.nD,
      m' ((c.tc : Thread Cert.InHRefIdeal.nD Cert.InHRefIdeal.τ).loc Cert.InHRefIdeal.main_arg0) = m ((c.tc : Thread Cert.InHIdeal.nD Cert.InHIdeal.τ).loc Cert.InHIdeal.main_arg0)
      ∧ m' ((c.tc : Thread Cert.InHRefIdeal.nD Cert.InHRefIdeal.τ).loc Cert.InHRefIdeal.main_arg1) = m ((c.tc : Thread Cert.InHIdeal.nD Cert.InHIdeal.τ).loc Cert.InHIdeal.main_arg1)
      ∧ m' ((c.tc : Thread Cert.InHRefIdeal.nD Cert.InHRefIdeal.τ).loc Cert.InHRefIdeal.main_arg2) = m ((c.tc : Thread Cert.InHIdeal.nD Cert.InHIdeal.τ).loc Cert.InHIdeal.main_arg2)) →
    ∃ (v0 : (c : Dev Cert.InHIdeal.nD) → Buf (Elt Ideal) ((c.tc : Thread Cert.InHIdeal.nD Cert.InHIdeal.τ).loc Cert.InHIdeal.main_v2)),
      θ_run (Cert.InHIdeal.defs (F := Ideal)) (onTc (τ := Cert.InHIdeal.τ) (Cert.InHIdeal.main (F := Ideal))) ⟨m, fun _ => 0, g⟩ (fun r => ∀ c : Dev Cert.InHIdeal.nD,
          r.2.mem ((c.tc : Thread Cert.InHIdeal.nD Cert.InHIdeal.τ).loc Cert.InHIdeal.main_v2) = v0 c
          ∧ r.2.mem ((c.tc : Thread Cert.InHIdeal.nD Cert.InHIdeal.τ).loc Cert.InHIdeal.main_arg0) = m ((c.tc : Thread Cert.InHIdeal.nD Cert.InHIdeal.τ).loc Cert.InHIdeal.main_arg0)
          ∧ r.2.mem ((c.tc : Thread Cert.InHIdeal.nD Cert.InHIdeal.τ).loc Cert.InHIdeal.main_arg1) = m ((c.tc : Thread Cert.InHIdeal.nD Cert.InHIdeal.τ).loc Cert.InHIdeal.main_arg1)
          ∧ r.2.mem ((c.tc : Thread Cert.InHIdeal.nD Cert.InHIdeal.τ).loc Cert.InHIdeal.main_arg2) = m ((c.tc : Thread Cert.InHIdeal.nD Cert.InHIdeal.τ).loc Cert.InHIdeal.main_arg2))
      ∧ θ_run (Cert.InHRefIdeal.defs (F := Ideal)) (onTc (τ := Cert.InHRefIdeal.τ) (Cert.InHRefIdeal.main (F := Ideal))) ⟨m', fun _ => 0, g'⟩ (fun r => ∀ c : Dev Cert.InHRefIdeal.nD,
          r.2.mem ((c.tc : Thread Cert.InHRefIdeal.nD Cert.InHRefIdeal.τ).loc Cert.InHRefIdeal.main_v9) = v0 c
          ∧ r.2.mem ((c.tc : Thread Cert.InHRefIdeal.nD Cert.InHRefIdeal.τ).loc Cert.InHRefIdeal.main_arg0) = m' ((c.tc : Thread Cert.InHRefIdeal.nD Cert.InHRefIdeal.τ).loc Cert.InHRefIdeal.main_arg0)
          ∧ r.2.mem ((c.tc : Thread Cert.InHRefIdeal.nD Cert.InHRefIdeal.τ).loc Cert.InHRefIdeal.main_arg1) = m' ((c.tc : Thread Cert.InHRefIdeal.nD Cert.InHRefIdeal.τ).loc Cert.InHRefIdeal.main_arg1)
          ∧ r.2.mem ((c.tc : Thread Cert.InHRefIdeal.nD Cert.InHRefIdeal.τ).loc Cert.InHRefIdeal.main_arg2) = m' ((c.tc : Thread Cert.InHRefIdeal.nD Cert.InHRefIdeal.τ).loc Cert.InHRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v11) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixW_MixWIdeal : Prop :=
  True

def algebraic_MixWIdeal_MixWRefIdeal [hMixWIdeal : Cert.MixWIdeal.Facts] [hMixWRefIdeal : Cert.MixWRefIdeal.Facts] : Prop :=
  ∀ (m : (ℓ : Loc Cert.MixWIdeal.nD Cert.MixWIdeal.τ Cert.MixWIdeal.sig) → Buf (Elt Ideal) ℓ) (g : Dev Cert.MixWIdeal.nD → PrngReg)
    (m' : (ℓ : Loc Cert.MixWRefIdeal.nD Cert.MixWRefIdeal.τ Cert.MixWRefIdeal.sig) → Buf (Elt Ideal) ℓ) (g' : Dev Cert.MixWRefIdeal.nD → PrngReg), Pre_MixWIdeal m →
    (∀ c : Dev Cert.MixWIdeal.nD,
      m' ((c.tc : Thread Cert.MixWRefIdeal.nD Cert.MixWRefIdeal.τ).loc Cert.MixWRefIdeal.main_arg0) = m ((c.tc : Thread Cert.MixWIdeal.nD Cert.MixWIdeal.τ).loc Cert.MixWIdeal.main_arg0)
      ∧ m' ((c.tc : Thread Cert.MixWRefIdeal.nD Cert.MixWRefIdeal.τ).loc Cert.MixWRefIdeal.main_arg1) = m ((c.tc : Thread Cert.MixWIdeal.nD Cert.MixWIdeal.τ).loc Cert.MixWIdeal.main_arg1)) →
    ∃ (v0 : (c : Dev Cert.MixWIdeal.nD) → Buf (Elt Ideal) ((c.tc : Thread Cert.MixWIdeal.nD Cert.MixWIdeal.τ).loc Cert.MixWIdeal.main_v0)),
      θ_run (Cert.MixWIdeal.defs (F := Ideal)) (onTc (τ := Cert.MixWIdeal.τ) (Cert.MixWIdeal.main (F := Ideal))) ⟨m, fun _ => 0, g⟩ (fun r => ∀ c : Dev Cert.MixWIdeal.nD,
          r.2.mem ((c.tc : Thread Cert.MixWIdeal.nD Cert.MixWIdeal.τ).loc Cert.MixWIdeal.main_v0) = v0 c
          ∧ r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
          ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1))
      ∧ θ_run (Cert.MixWRefIdeal.defs (F := Ideal)) (onTc (τ := Cert.MixWRefIdeal.τ) (Cert.MixWRefIdeal.main (F := Ideal))) ⟨m', fun _ => 0, g'⟩ (fun r => ∀ c : Dev Cert.MixWRefIdeal.nD,
          r.2.mem ((c.tc : Thread Cert.MixWRefIdeal.nD Cert.MixWRefIdeal.τ).loc Cert.MixWRefIdeal.main_v10) = v0 c
          ∧ r.2.mem ((c.tc : Thread Cert.MixWRefIdeal.nD Cert.MixWRefIdeal.τ).loc Cert.MixWRefIdeal.main_arg0) = m' ((c.tc : Thread Cert.MixWRefIdeal.nD Cert.MixWRefIdeal.τ).loc Cert.MixWRefIdeal.main_arg0)
          ∧ r.2.mem ((c.tc : Thread Cert.MixWRefIdeal.nD Cert.MixWRefIdeal.τ).loc Cert.MixWRefIdeal.main_arg1) = m' ((c.tc : Thread Cert.MixWRefIdeal.nD Cert.MixWRefIdeal.τ).loc Cert.MixWRefIdeal.main_arg1))

def preserves_Scale_ScaleIdeal : Prop :=
  True

def algebraic_ScaleIdeal_ScaleRefIdeal [hScaleIdeal : Cert.ScaleIdeal.Facts] [hScaleRefIdeal : Cert.ScaleRefIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleRefIdeal.nD Cert.ScaleRefIdeal.τ Cert.ScaleRefIdeal.sig) → Buf (Elt Ideal) ℓ) (g' : Dev Cert.ScaleRefIdeal.nD → PrngReg), Pre_ScaleIdeal m →
    (∀ c : Dev Cert.ScaleIdeal.nD,
      m' ((c.tc : Thread Cert.ScaleRefIdeal.nD Cert.ScaleRefIdeal.τ).loc Cert.ScaleRefIdeal.main_arg0) = m ((c.tc : Thread Cert.ScaleIdeal.nD Cert.ScaleIdeal.τ).loc Cert.ScaleIdeal.main_arg0)
      ∧ m' ((c.tc : Thread Cert.ScaleRefIdeal.nD Cert.ScaleRefIdeal.τ).loc Cert.ScaleRefIdeal.main_arg1) = m ((c.tc : Thread Cert.ScaleIdeal.nD Cert.ScaleIdeal.τ).loc Cert.ScaleIdeal.main_arg1)
      ∧ m' ((c.tc : Thread Cert.ScaleRefIdeal.nD Cert.ScaleRefIdeal.τ).loc Cert.ScaleRefIdeal.main_arg2) = m ((c.tc : Thread Cert.ScaleIdeal.nD Cert.ScaleIdeal.τ).loc Cert.ScaleIdeal.main_arg2)) →
    ∃ (v0 : (c : Dev Cert.ScaleIdeal.nD) → Buf (Elt Ideal) ((c.tc : Thread Cert.ScaleIdeal.nD Cert.ScaleIdeal.τ).loc Cert.ScaleIdeal.main_v0_0)) (v1 : (c : Dev Cert.ScaleIdeal.nD) → Buf (Elt Ideal) ((c.tc : Thread Cert.ScaleIdeal.nD Cert.ScaleIdeal.τ).loc Cert.ScaleIdeal.main_v0_1)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v0_0) = v0 c
          ∧ r.2.mem ((c.tc : Thread Cert.ScaleIdeal.nD Cert.ScaleIdeal.τ).loc Cert.ScaleIdeal.main_v0_1) = v1 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
          ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
          ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2))
      ∧ θ_run (Cert.ScaleRefIdeal.defs (F := Ideal)) (onTc (τ := Cert.ScaleRefIdeal.τ) (Cert.ScaleRefIdeal.main (F := Ideal))) ⟨m', fun _ => 0, g'⟩ (fun r => ∀ c : Dev Cert.ScaleRefIdeal.nD,
          r.2.mem ((c.tc : Thread Cert.ScaleRefIdeal.nD Cert.ScaleRefIdeal.τ).loc Cert.ScaleRefIdeal.main_v12) = v0 c
          ∧ r.2.mem ((c.tc : Thread Cert.ScaleRefIdeal.nD Cert.ScaleRefIdeal.τ).loc Cert.ScaleRefIdeal.main_v11) = v1 c
          ∧ r.2.mem ((c.tc : Thread Cert.ScaleRefIdeal.nD Cert.ScaleRefIdeal.τ).loc Cert.ScaleRefIdeal.main_arg0) = m' ((c.tc : Thread Cert.ScaleRefIdeal.nD Cert.ScaleRefIdeal.τ).loc Cert.ScaleRefIdeal.main_arg0)
          ∧ r.2.mem ((c.tc : Thread Cert.ScaleRefIdeal.nD Cert.ScaleRefIdeal.τ).loc Cert.ScaleRefIdeal.main_arg1) = m' ((c.tc : Thread Cert.ScaleRefIdeal.nD Cert.ScaleRefIdeal.τ).loc Cert.ScaleRefIdeal.main_arg1)
          ∧ r.2.mem ((c.tc : Thread Cert.ScaleRefIdeal.nD Cert.ScaleRefIdeal.τ).loc Cert.ScaleRefIdeal.main_arg2) = m' ((c.tc : Thread Cert.ScaleRefIdeal.nD Cert.ScaleRefIdeal.τ).loc Cert.ScaleRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v9) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v2)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v2) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v4) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v2)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v2) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v5) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2))

def preserves_PoolMix_PoolMixIdeal : Prop :=
  True

def algebraic_PoolMixIdeal_PoolMixRefIdeal [hPoolMixIdeal : Cert.PoolMixIdeal.Facts] [hPoolMixRefIdeal : Cert.PoolMixRefIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg)
    (m' : (ℓ : Loc Cert.PoolMixRefIdeal.nD Cert.PoolMixRefIdeal.τ Cert.PoolMixRefIdeal.sig) → Buf (Elt Ideal) ℓ) (g' : Dev Cert.PoolMixRefIdeal.nD → PrngReg), Pre_PoolMixIdeal m →
    (∀ c : Dev Cert.PoolMixIdeal.nD,
      m' ((c.tc : Thread Cert.PoolMixRefIdeal.nD Cert.PoolMixRefIdeal.τ).loc Cert.PoolMixRefIdeal.main_arg0) = m ((c.tc : Thread Cert.PoolMixIdeal.nD Cert.PoolMixIdeal.τ).loc Cert.PoolMixIdeal.main_arg0)
      ∧ m' ((c.tc : Thread Cert.PoolMixRefIdeal.nD Cert.PoolMixRefIdeal.τ).loc Cert.PoolMixRefIdeal.main_arg1) = m ((c.tc : Thread Cert.PoolMixIdeal.nD Cert.PoolMixIdeal.τ).loc Cert.PoolMixIdeal.main_arg1)
      ∧ m' ((c.tc : Thread Cert.PoolMixRefIdeal.nD Cert.PoolMixRefIdeal.τ).loc Cert.PoolMixRefIdeal.main_arg2) = m ((c.tc : Thread Cert.PoolMixIdeal.nD Cert.PoolMixIdeal.τ).loc Cert.PoolMixIdeal.main_arg2)) →
    ∃ (v0 : (c : Dev Cert.PoolMixIdeal.nD) → Buf (Elt Ideal) ((c.tc : Thread Cert.PoolMixIdeal.nD Cert.PoolMixIdeal.τ).loc Cert.PoolMixIdeal.main_v0_0)) (v1 : (c : Dev Cert.PoolMixIdeal.nD) → Buf (Elt Ideal) ((c.tc : Thread Cert.PoolMixIdeal.nD Cert.PoolMixIdeal.τ).loc Cert.PoolMixIdeal.main_v0_1)),
      θ_run (Cert.PoolMixIdeal.defs (F := Ideal)) (onTc (τ := Cert.PoolMixIdeal.τ) (Cert.PoolMixIdeal.main (F := Ideal))) ⟨m, fun _ => 0, g⟩ (fun r => ∀ c : Dev Cert.PoolMixIdeal.nD,
          r.2.mem ((c.tc : Thread Cert.PoolMixIdeal.nD Cert.PoolMixIdeal.τ).loc Cert.PoolMixIdeal.main_v0_0) = v0 c
          ∧ r.2.mem ((c.tc : Thread Cert.PoolMixIdeal.nD Cert.PoolMixIdeal.τ).loc Cert.PoolMixIdeal.main_v0_1) = v1 c
          ∧ r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
          ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
          ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2))
      ∧ θ_run (Cert.PoolMixRefIdeal.defs (F := Ideal)) (onTc (τ := Cert.PoolMixRefIdeal.τ) (Cert.PoolMixRefIdeal.main (F := Ideal))) ⟨m', fun _ => 0, g'⟩ (fun r => ∀ c : Dev Cert.PoolMixRefIdeal.nD,
          r.2.mem ((c.tc : Thread Cert.PoolMixRefIdeal.nD Cert.PoolMixRefIdeal.τ).loc Cert.PoolMixRefIdeal.main_v5) = v0 c
          ∧ r.2.mem ((c.tc : Thread Cert.PoolMixRefIdeal.nD Cert.PoolMixRefIdeal.τ).loc Cert.PoolMixRefIdeal.main_v10) = v1 c
          ∧ r.2.mem ((c.tc : Thread Cert.PoolMixRefIdeal.nD Cert.PoolMixRefIdeal.τ).loc Cert.PoolMixRefIdeal.main_arg0) = m' ((c.tc : Thread Cert.PoolMixRefIdeal.nD Cert.PoolMixRefIdeal.τ).loc Cert.PoolMixRefIdeal.main_arg0)
          ∧ r.2.mem ((c.tc : Thread Cert.PoolMixRefIdeal.nD Cert.PoolMixRefIdeal.τ).loc Cert.PoolMixRefIdeal.main_arg1) = m' ((c.tc : Thread Cert.PoolMixRefIdeal.nD Cert.PoolMixRefIdeal.τ).loc Cert.PoolMixRefIdeal.main_arg1)
          ∧ r.2.mem ((c.tc : Thread Cert.PoolMixRefIdeal.nD Cert.PoolMixRefIdeal.τ).loc Cert.PoolMixRefIdeal.main_arg2) = m' ((c.tc : Thread Cert.PoolMixRefIdeal.nD Cert.PoolMixRefIdeal.τ).loc Cert.PoolMixRefIdeal.main_arg2))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v2_0)) (v1 : (c : Dev Cert.GuIdeal.nD) → Buf (Elt Ideal) ((c.tc : Thread Cert.GuIdeal.nD Cert.GuIdeal.τ).loc Cert.GuIdeal.main_v2_1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v2_0) = v0 c
          ∧ r.2.mem ((c.tc : Thread Cert.GuIdeal.nD Cert.GuIdeal.τ).loc Cert.GuIdeal.main_v2_1) = v1 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v18) = v0 c
          ∧ r.2.mem ((c.tc : Thread Cert.GuRefIdeal.nD Cert.GuRefIdeal.τ).loc Cert.GuRefIdeal.main_v15) = v1 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v23) = v0 c
          ∧ r.2.mem ((c.tc : Thread Cert.LnRefIdeal.nD Cert.LnRefIdeal.τ).loc Cert.LnRefIdeal.main_v24) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v133) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0))

def preserves_LnB_LnBIdeal : Prop :=
  True

def algebraic_LnBIdeal_LnBRefIdeal_pre_ln_finite [hLnBIdeal : Cert.LnBIdeal.Facts] [hLnBRefIdeal : Cert.LnBRefIdeal.Facts] [hPre_ln_finite : Cert.Pre_ln_finite.Facts] : Prop :=
  ∀ (m : (ℓ : Loc Cert.LnBIdeal.nD Cert.LnBIdeal.τ Cert.LnBIdeal.sig) → Buf (Elt Ideal) ℓ) (g : Dev Cert.LnBIdeal.nD → PrngReg)
    (m' : (ℓ : Loc Cert.LnBRefIdeal.nD Cert.LnBRefIdeal.τ Cert.LnBRefIdeal.sig) → Buf (Elt Ideal) ℓ) (g' : Dev Cert.LnBRefIdeal.nD → PrngReg), Pre_LnBIdeal_ln_finite m →
    (∀ c : Dev Cert.LnBIdeal.nD,
      m' ((c.tc : Thread Cert.LnBRefIdeal.nD Cert.LnBRefIdeal.τ).loc Cert.LnBRefIdeal.main_arg0) = m ((c.tc : Thread Cert.LnBIdeal.nD Cert.LnBIdeal.τ).loc Cert.LnBIdeal.main_arg0)
      ∧ m' ((c.tc : Thread Cert.LnBRefIdeal.nD Cert.LnBRefIdeal.τ).loc Cert.LnBRefIdeal.main_arg1) = m ((c.tc : Thread Cert.LnBIdeal.nD Cert.LnBIdeal.τ).loc Cert.LnBIdeal.main_arg1)
      ∧ m' ((c.tc : Thread Cert.LnBRefIdeal.nD Cert.LnBRefIdeal.τ).loc Cert.LnBRefIdeal.main_arg2) = m ((c.tc : Thread Cert.LnBIdeal.nD Cert.LnBIdeal.τ).loc Cert.LnBIdeal.main_arg2)) →
    ∃ (v0 : (c : Dev Cert.LnBIdeal.nD) → Buf (Elt Ideal) ((c.tc : Thread Cert.LnBIdeal.nD Cert.LnBIdeal.τ).loc Cert.LnBIdeal.main_v0_0)) (v1 : (c : Dev Cert.LnBIdeal.nD) → Buf (Elt Ideal) ((c.tc : Thread Cert.LnBIdeal.nD Cert.LnBIdeal.τ).loc Cert.LnBIdeal.main_v0_1)) (v2 : (c : Dev Cert.LnBIdeal.nD) → Buf (Elt Ideal) ((c.tc : Thread Cert.LnBIdeal.nD Cert.LnBIdeal.τ).loc Cert.LnBIdeal.main_v0_2)) (v3 : (c : Dev Cert.LnBIdeal.nD) → Buf (Elt Ideal) ((c.tc : Thread Cert.LnBIdeal.nD Cert.LnBIdeal.τ).loc Cert.LnBIdeal.main_v0_3)),
      θ_run (Cert.LnBIdeal.defs (F := Ideal)) (onTc (τ := Cert.LnBIdeal.τ) (Cert.LnBIdeal.main (F := Ideal))) ⟨m, fun _ => 0, g⟩ (fun r => ∀ c : Dev Cert.LnBIdeal.nD,
          r.2.mem ((c.tc : Thread Cert.LnBIdeal.nD Cert.LnBIdeal.τ).loc Cert.LnBIdeal.main_v0_0) = v0 c
          ∧ r.2.mem ((c.tc : Thread Cert.LnBIdeal.nD Cert.LnBIdeal.τ).loc Cert.LnBIdeal.main_v0_1) = v1 c
          ∧ r.2.mem ((c.tc : Thread Cert.LnBIdeal.nD Cert.LnBIdeal.τ).loc Cert.LnBIdeal.main_v0_2) = v2 c
          ∧ r.2.mem ((c.tc : Thread Cert.LnBIdeal.nD Cert.LnBIdeal.τ).loc Cert.LnBIdeal.main_v0_3) = v3 c
          ∧ r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
          ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
          ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2))
      ∧ θ_run (Cert.LnBRefIdeal.defs (F := Ideal)) (onTc (τ := Cert.LnBRefIdeal.τ) (Cert.LnBRefIdeal.main (F := Ideal))) ⟨m', fun _ => 0, g'⟩ (fun r => ∀ c : Dev Cert.LnBRefIdeal.nD,
          r.2.mem ((c.tc : Thread Cert.LnBRefIdeal.nD Cert.LnBRefIdeal.τ).loc Cert.LnBRefIdeal.main_v59) = v0 c
          ∧ r.2.mem ((c.tc : Thread Cert.LnBRefIdeal.nD Cert.LnBRefIdeal.τ).loc Cert.LnBRefIdeal.main_v62) = v1 c
          ∧ r.2.mem ((c.tc : Thread Cert.LnBRefIdeal.nD Cert.LnBRefIdeal.τ).loc Cert.LnBRefIdeal.main_v61) = v2 c
          ∧ r.2.mem ((c.tc : Thread Cert.LnBRefIdeal.nD Cert.LnBRefIdeal.τ).loc Cert.LnBRefIdeal.main_v60) = v3 c
          ∧ r.2.mem ((c.tc : Thread Cert.LnBRefIdeal.nD Cert.LnBRefIdeal.τ).loc Cert.LnBRefIdeal.main_arg0) = m' ((c.tc : Thread Cert.LnBRefIdeal.nD Cert.LnBRefIdeal.τ).loc Cert.LnBRefIdeal.main_arg0)
          ∧ r.2.mem ((c.tc : Thread Cert.LnBRefIdeal.nD Cert.LnBRefIdeal.τ).loc Cert.LnBRefIdeal.main_arg1) = m' ((c.tc : Thread Cert.LnBRefIdeal.nD Cert.LnBRefIdeal.τ).loc Cert.LnBRefIdeal.main_arg1)
          ∧ r.2.mem ((c.tc : Thread Cert.LnBRefIdeal.nD Cert.LnBRefIdeal.τ).loc Cert.LnBRefIdeal.main_arg2) = m' ((c.tc : Thread Cert.LnBRefIdeal.nD Cert.LnBRefIdeal.τ).loc Cert.LnBRefIdeal.main_arg2))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)) →
    ∃ (v0 : (c : Dev Cert.ConvFIdeal.nD) → Buf (Elt Ideal) ((c.tc : Thread Cert.ConvFIdeal.nD Cert.ConvFIdeal.τ).loc Cert.ConvFIdeal.main_v2)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v2) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v29) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_PoolF_PoolFIdeal : Prop :=
  True

def algebraic_PoolFIdeal_PoolFRefIdeal_pre_pool_fwd_finite [hPoolFIdeal : Cert.PoolFIdeal.Facts] [hPoolFRefIdeal : Cert.PoolFRefIdeal.Facts] [hPre_pool_fwd_finite : Cert.Pre_pool_fwd_finite.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal_pool_fwd_finite m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)) →
    ∃ (v0 : (c : Dev Cert.PoolFIdeal.nD) → Buf (Elt Ideal) ((c.tc : Thread Cert.PoolFIdeal.nD Cert.PoolFIdeal.τ).loc Cert.PoolFIdeal.main_v0)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v0) = v0 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v83) = v0 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)) (v4 : (c : Dev Cert.LossIdeal.nD) → Buf (Elt Ideal) ((c.tc : Thread Cert.LossIdeal.nD Cert.LossIdeal.τ).loc Cert.LossIdeal.main_v3_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_v3_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v86) = v0 c
          ∧ r.2.mem ((c.tc : Thread Cert.LossRefIdeal.nD Cert.LossRefIdeal.τ).loc Cert.LossRefIdeal.main_v87) = v1 c
          ∧ r.2.mem ((c.tc : Thread Cert.LossRefIdeal.nD Cert.LossRefIdeal.τ).loc Cert.LossRefIdeal.main_v84) = v2 c
          ∧ r.2.mem ((c.tc : Thread Cert.LossRefIdeal.nD Cert.LossRefIdeal.τ).loc Cert.LossRefIdeal.main_v83) = v3 c
          ∧ r.2.mem ((c.tc : Thread Cert.LossRefIdeal.nD Cert.LossRefIdeal.τ).loc Cert.LossRefIdeal.main_v46) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def Claim : Prop :=
  ∃ (hWd : Cert.Wd.Facts) (hWdIdeal : Cert.WdIdeal.Facts) (hWdRefIdeal : Cert.WdRefIdeal.Facts) (hDgu : Cert.Dgu.Facts) (hDguIdeal : Cert.DguIdeal.Facts) (hDguRefIdeal : Cert.DguRefIdeal.Facts) (hWgu : Cert.Wgu.Facts) (hWguIdeal : Cert.WguIdeal.Facts) (hWguRefIdeal : Cert.WguRefIdeal.Facts) (hDh : Cert.Dh.Facts) (hDhIdeal : Cert.DhIdeal.Facts) (hDhRefIdeal : Cert.DhRefIdeal.Facts) (hConv : Cert.Conv.Facts) (hConvIdeal : Cert.ConvIdeal.Facts) (hConvRefIdeal : Cert.ConvRefIdeal.Facts) (hOutY : Cert.OutY.Facts) (hOutYIdeal : Cert.OutYIdeal.Facts) (hOutYRefIdeal : Cert.OutYRefIdeal.Facts) (hOutW : Cert.OutW.Facts) (hOutWIdeal : Cert.OutWIdeal.Facts) (hOutWRefIdeal : Cert.OutWRefIdeal.Facts) (hInW : Cert.InW.Facts) (hInWIdeal : Cert.InWIdeal.Facts) (hInWRefIdeal : Cert.InWRefIdeal.Facts) (hInH : Cert.InH.Facts) (hInHIdeal : Cert.InHIdeal.Facts) (hInHRefIdeal : Cert.InHRefIdeal.Facts) (hMixIn : Cert.MixIn.Facts) (hMixInIdeal : Cert.MixInIdeal.Facts) (hMixInRefIdeal : Cert.MixInRefIdeal.Facts) (hMixW : Cert.MixW.Facts) (hMixWIdeal : Cert.MixWIdeal.Facts) (hMixWRefIdeal : Cert.MixWRefIdeal.Facts) (hScale : Cert.Scale.Facts) (hScaleIdeal : Cert.ScaleIdeal.Facts) (hScaleRefIdeal : Cert.ScaleRefIdeal.Facts) (hDown : Cert.Down.Facts) (hDownIdeal : Cert.DownIdeal.Facts) (hDownRefIdeal : Cert.DownRefIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hPoolMix : Cert.PoolMix.Facts) (hPoolMixIdeal : Cert.PoolMixIdeal.Facts) (hPoolMixRefIdeal : Cert.PoolMixRefIdeal.Facts) (hGu : Cert.Gu.Facts) (hGuIdeal : Cert.GuIdeal.Facts) (hGuRefIdeal : Cert.GuRefIdeal.Facts) (hLn : Cert.Ln.Facts) (hLnIdeal : Cert.LnIdeal.Facts) (hLnRefIdeal : Cert.LnRefIdeal.Facts) (hPool : Cert.Pool.Facts) (hPoolIdeal : Cert.PoolIdeal.Facts) (hPoolRefIdeal : Cert.PoolRefIdeal.Facts) (hLnB : Cert.LnB.Facts) (hLnBIdeal : Cert.LnBIdeal.Facts) (hLnBRefIdeal : Cert.LnBRefIdeal.Facts) (hConvF : Cert.ConvF.Facts) (hConvFIdeal : Cert.ConvFIdeal.Facts) (hConvFRefIdeal : Cert.ConvFRefIdeal.Facts) (hSum : Cert.Sum.Facts) (hSumIdeal : Cert.SumIdeal.Facts) (hSumRefIdeal : Cert.SumRefIdeal.Facts) (hPoolF : Cert.PoolF.Facts) (hPoolFIdeal : Cert.PoolFIdeal.Facts) (hPoolFRefIdeal : Cert.PoolFRefIdeal.Facts) (hLoss : Cert.Loss.Facts) (hLossIdeal : Cert.LossIdeal.Facts) (hLossRefIdeal : Cert.LossRefIdeal.Facts) (hPre_finite : Cert.Pre_finite.Facts) (hPre_pool_finite : Cert.Pre_pool_finite.Facts) (hPre_ln_finite : Cert.Pre_ln_finite.Facts) (hPre_pool_fwd_finite : Cert.Pre_pool_fwd_finite.Facts) (hPre_loss_finite : Cert.Pre_loss_finite.Facts),
    quiescent_Wd (hWd := hWd)
    ∧ quiescent_WdIdeal (hWdIdeal := hWdIdeal)
    ∧ quiescent_WdRefIdeal (hWdRefIdeal := hWdRefIdeal)
    ∧ quiescent_Dgu (hDgu := hDgu)
    ∧ quiescent_DguIdeal (hDguIdeal := hDguIdeal)
    ∧ quiescent_DguIdeal_pre_finite (hDguIdeal := hDguIdeal) (hPre_finite := hPre_finite)
    ∧ quiescent_DguRefIdeal (hDguRefIdeal := hDguRefIdeal)
    ∧ quiescent_DguRefIdeal_pre_finite (hDguRefIdeal := hDguRefIdeal) (hPre_finite := hPre_finite)
    ∧ quiescent_Wgu (hWgu := hWgu)
    ∧ quiescent_WguIdeal (hWguIdeal := hWguIdeal)
    ∧ quiescent_WguRefIdeal (hWguRefIdeal := hWguRefIdeal)
    ∧ quiescent_Dh (hDh := hDh)
    ∧ quiescent_DhIdeal (hDhIdeal := hDhIdeal)
    ∧ quiescent_DhRefIdeal (hDhRefIdeal := hDhRefIdeal)
    ∧ quiescent_Conv (hConv := hConv)
    ∧ quiescent_ConvIdeal (hConvIdeal := hConvIdeal)
    ∧ quiescent_ConvRefIdeal (hConvRefIdeal := hConvRefIdeal)
    ∧ quiescent_OutY (hOutY := hOutY)
    ∧ quiescent_OutYIdeal (hOutYIdeal := hOutYIdeal)
    ∧ quiescent_OutYRefIdeal (hOutYRefIdeal := hOutYRefIdeal)
    ∧ quiescent_OutW (hOutW := hOutW)
    ∧ quiescent_OutWIdeal (hOutWIdeal := hOutWIdeal)
    ∧ quiescent_OutWRefIdeal (hOutWRefIdeal := hOutWRefIdeal)
    ∧ quiescent_InW (hInW := hInW)
    ∧ quiescent_InWIdeal (hInWIdeal := hInWIdeal)
    ∧ quiescent_InWRefIdeal (hInWRefIdeal := hInWRefIdeal)
    ∧ quiescent_InH (hInH := hInH)
    ∧ quiescent_InHIdeal (hInHIdeal := hInHIdeal)
    ∧ quiescent_InHRefIdeal (hInHRefIdeal := hInHRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixW (hMixW := hMixW)
    ∧ quiescent_MixWIdeal (hMixWIdeal := hMixWIdeal)
    ∧ quiescent_MixWRefIdeal (hMixWRefIdeal := hMixWRefIdeal)
    ∧ quiescent_Scale (hScale := hScale)
    ∧ quiescent_ScaleIdeal (hScaleIdeal := hScaleIdeal)
    ∧ quiescent_ScaleRefIdeal (hScaleRefIdeal := hScaleRefIdeal)
    ∧ quiescent_Down (hDown := hDown)
    ∧ quiescent_DownIdeal (hDownIdeal := hDownIdeal)
    ∧ quiescent_DownRefIdeal (hDownRefIdeal := hDownRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_PoolMix (hPoolMix := hPoolMix)
    ∧ quiescent_PoolMixIdeal (hPoolMixIdeal := hPoolMixIdeal)
    ∧ quiescent_PoolMixRefIdeal (hPoolMixRefIdeal := hPoolMixRefIdeal)
    ∧ quiescent_Gu (hGu := hGu)
    ∧ quiescent_GuIdeal (hGuIdeal := hGuIdeal)
    ∧ quiescent_GuRefIdeal (hGuRefIdeal := hGuRefIdeal)
    ∧ quiescent_Ln (hLn := hLn)
    ∧ quiescent_LnIdeal (hLnIdeal := hLnIdeal)
    ∧ quiescent_LnRefIdeal (hLnRefIdeal := hLnRefIdeal)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_LnB (hLnB := hLnB)
    ∧ quiescent_LnBIdeal (hLnBIdeal := hLnBIdeal)
    ∧ quiescent_LnBIdeal_pre_ln_finite (hLnBIdeal := hLnBIdeal) (hPre_ln_finite := hPre_ln_finite)
    ∧ quiescent_LnBRefIdeal (hLnBRefIdeal := hLnBRefIdeal)
    ∧ quiescent_LnBRefIdeal_pre_ln_finite (hLnBRefIdeal := hLnBRefIdeal) (hPre_ln_finite := hPre_ln_finite)
    ∧ quiescent_ConvF (hConvF := hConvF)
    ∧ quiescent_ConvFIdeal (hConvFIdeal := hConvFIdeal)
    ∧ quiescent_ConvFRefIdeal (hConvFRefIdeal := hConvFRefIdeal)
    ∧ quiescent_Sum (hSum := hSum)
    ∧ quiescent_SumIdeal (hSumIdeal := hSumIdeal)
    ∧ quiescent_SumRefIdeal (hSumRefIdeal := hSumRefIdeal)
    ∧ quiescent_PoolF (hPoolF := hPoolF)
    ∧ quiescent_PoolFIdeal (hPoolFIdeal := hPoolFIdeal)
    ∧ quiescent_PoolFIdeal_pre_pool_fwd_finite (hPoolFIdeal := hPoolFIdeal) (hPre_pool_fwd_finite := hPre_pool_fwd_finite)
    ∧ quiescent_PoolFRefIdeal (hPoolFRefIdeal := hPoolFRefIdeal)
    ∧ quiescent_PoolFRefIdeal_pre_pool_fwd_finite (hPoolFRefIdeal := hPoolFRefIdeal) (hPre_pool_fwd_finite := hPre_pool_fwd_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ preserves_Wd_WdIdeal
    ∧ algebraic_WdIdeal_WdRefIdeal (hWdIdeal := hWdIdeal) (hWdRefIdeal := hWdRefIdeal)
    ∧ preserves_Dgu_DguIdeal
    ∧ algebraic_DguIdeal_DguRefIdeal_pre_finite (hDguIdeal := hDguIdeal) (hDguRefIdeal := hDguRefIdeal) (hPre_finite := hPre_finite)
    ∧ preserves_Wgu_WguIdeal
    ∧ algebraic_WguIdeal_WguRefIdeal (hWguIdeal := hWguIdeal) (hWguRefIdeal := hWguRefIdeal)
    ∧ preserves_Dh_DhIdeal
    ∧ algebraic_DhIdeal_DhRefIdeal (hDhIdeal := hDhIdeal) (hDhRefIdeal := hDhRefIdeal)
    ∧ preserves_Conv_ConvIdeal
    ∧ algebraic_ConvIdeal_ConvRefIdeal (hConvIdeal := hConvIdeal) (hConvRefIdeal := hConvRefIdeal)
    ∧ preserves_OutY_OutYIdeal
    ∧ algebraic_OutYIdeal_OutYRefIdeal (hOutYIdeal := hOutYIdeal) (hOutYRefIdeal := hOutYRefIdeal)
    ∧ preserves_OutW_OutWIdeal
    ∧ algebraic_OutWIdeal_OutWRefIdeal (hOutWIdeal := hOutWIdeal) (hOutWRefIdeal := hOutWRefIdeal)
    ∧ preserves_InW_InWIdeal
    ∧ algebraic_InWIdeal_InWRefIdeal (hInWIdeal := hInWIdeal) (hInWRefIdeal := hInWRefIdeal)
    ∧ preserves_InH_InHIdeal
    ∧ algebraic_InHIdeal_InHRefIdeal (hInHIdeal := hInHIdeal) (hInHRefIdeal := hInHRefIdeal)
    ∧ preserves_MixIn_MixInIdeal
    ∧ algebraic_MixInIdeal_MixInRefIdeal (hMixInIdeal := hMixInIdeal) (hMixInRefIdeal := hMixInRefIdeal)
    ∧ preserves_MixW_MixWIdeal
    ∧ algebraic_MixWIdeal_MixWRefIdeal (hMixWIdeal := hMixWIdeal) (hMixWRefIdeal := hMixWRefIdeal)
    ∧ preserves_Scale_ScaleIdeal
    ∧ algebraic_ScaleIdeal_ScaleRefIdeal (hScaleIdeal := hScaleIdeal) (hScaleRefIdeal := hScaleRefIdeal)
    ∧ preserves_Down_DownIdeal
    ∧ algebraic_DownIdeal_DownRefIdeal (hDownIdeal := hDownIdeal) (hDownRefIdeal := hDownRefIdeal)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_PoolMix_PoolMixIdeal
    ∧ algebraic_PoolMixIdeal_PoolMixRefIdeal (hPoolMixIdeal := hPoolMixIdeal) (hPoolMixRefIdeal := hPoolMixRefIdeal)
    ∧ preserves_Gu_GuIdeal
    ∧ algebraic_GuIdeal_GuRefIdeal (hGuIdeal := hGuIdeal) (hGuRefIdeal := hGuRefIdeal)
    ∧ preserves_Ln_LnIdeal
    ∧ algebraic_LnIdeal_LnRefIdeal (hLnIdeal := hLnIdeal) (hLnRefIdeal := hLnRefIdeal)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_LnB_LnBIdeal
    ∧ algebraic_LnBIdeal_LnBRefIdeal_pre_ln_finite (hLnBIdeal := hLnBIdeal) (hLnBRefIdeal := hLnBRefIdeal) (hPre_ln_finite := hPre_ln_finite)
    ∧ preserves_ConvF_ConvFIdeal
    ∧ algebraic_ConvFIdeal_ConvFRefIdeal (hConvFIdeal := hConvFIdeal) (hConvFRefIdeal := hConvFRefIdeal)
    ∧ preserves_Sum_SumIdeal
    ∧ algebraic_SumIdeal_SumRefIdeal (hSumIdeal := hSumIdeal) (hSumRefIdeal := hSumRefIdeal)
    ∧ preserves_PoolF_PoolFIdeal
    ∧ algebraic_PoolFIdeal_PoolFRefIdeal_pre_pool_fwd_finite (hPoolFIdeal := hPoolFIdeal) (hPoolFRefIdeal := hPoolFRefIdeal) (hPre_pool_fwd_finite := hPre_pool_fwd_finite)
    ∧ preserves_Loss_LossIdeal
    ∧ algebraic_LossIdeal_LossRefIdeal_pre_loss_finite (hLossIdeal := hLossIdeal) (hLossRefIdeal := hLossRefIdeal) (hPre_loss_finite := hPre_loss_finite)
-- ==== Pre_finite.lean ====
abbrev S4224x4096 : Shape := ⟨2, ![4224, 4096]⟩
abbrev S11008x4096 : Shape := ⟨2, ![11008, 4096]⟩
abbrev S4x2x4224x2752 : Shape := ⟨4, ![4, 2, 4224, 2752]⟩
abbrev S_ : Shape := ⟨0, ![]⟩

class Facts : Prop where
  bcast_S_S4224x4096 : S_.BroadcastsInDim S4224x4096 (![] : Fin 0 → Fin S4224x4096.rank)
  reducesTo_S4224x4096_S_d0_1 : S4224x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4x2x4224x2752 : S_.BroadcastsInDim S4x2x4224x2752 (![] : Fin 0 → Fin S4x2x4224x2752.rank)
  reducesTo_S4x2x4224x2752_S_d0_1_2_3 : S4x2x4224x2752.ReducesTo [0, 1, 2, 3] S_

variable [Facts]

def fn {F : FTy → Type} [FloatOps F] (main_arg0 : FVec F S4224x4096 .bf16) (main_arg1 : FVec F S11008x4096 .bf16) (main_arg2 : FVec F S4x2x4224x2752 .bf16) : IVec S_ 1 :=
  let main_v0 : FVec F S4224x4096 .bf16 := Host.absf main_arg0
  let main_cst : FVec F S_ .bf16 := constant S_ .bf16 0x7F80#16
  let main_v1 : FVec F S4224x4096 .bf16 := broadcastInDim S4224x4096 ![] bcast_S_S4224x4096 main_cst
  let main_v2 : IVec S4224x4096 1 := cmpf .olt main_v0 main_v1
  let main_c : IVec S_ 1 := constantI S_ 1 1#1
  let main_v3 : IVec S_ 1 := (fun x v => Host.reduce IntOp.andi x v reducesTo_S4224x4096_S_d0_1 h_S_) main_v2 main_c
  let main_v4 : FVec F S11008x4096 .bf16 := Host.absf main_arg1
  let main_cst_0 : FVec F S_ .bf16 := constant S_ .bf16 0x7F80#16
  let main_v5 : FVec F S11008x4096 .bf16 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : FVec F S4x2x4224x2752 .bf16 := Host.absf main_arg2
  let main_cst_2 : FVec F S_ .bf16 := constant S_ .bf16 0x7F80#16
  let main_v9 : FVec F S4x2x4224x2752 .bf16 := broadcastInDim S4x2x4224x2752 ![] bcast_S_S4x2x4224x2752 main_cst_2
  let main_v10 : IVec S4x2x4224x2752 1 := cmpf .olt main_v8 main_v9
  let main_c_3 : IVec S_ 1 := constantI S_ 1 1#1
  let main_v11 : IVec S_ 1 := (fun x v => Host.reduce IntOp.andi x v reducesTo_S4x2x4224x2752_S_d0_1_2_3 h_S_) main_v10 main_c_3
  let main_v12 : IVec S_ 1 := andi main_v3 main_v7
  let main_v13 : IVec S_ 1 := andi main_v12 main_v11
  main_v13
-- ==== Pre_ln_finite.lean ====
abbrev S4224x4096 : Shape := ⟨2, ![4224, 4096]⟩
abbrev S1x4096 : Shape := ⟨2, ![1, 4096]⟩
abbrev S_ : Shape := ⟨0, ![]⟩

class Facts : Prop where
  bcast_S_S4224x4096 : S_.BroadcastsInDim S4224x4096 (![] : Fin 0 → Fin S4224x4096.rank)
  reducesTo_S4224x4096_S_d0_1 : S4224x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S4224x4096 .f32) (main_arg1 : FVec F S4224x4096 .f32) (main_arg2 : FVec F S1x4096 .f32) : IVec S_ 1 :=
  let main_v0 : FVec F S4224x4096 .f32 := Host.absf main_arg0
  let main_cst : FVec F S_ .f32 := constant S_ .f32 0x7F800000#32
  let main_v1 : FVec F S4224x4096 .f32 := broadcastInDim S4224x4096 ![] bcast_S_S4224x4096 main_cst
  let main_v2 : IVec S4224x4096 1 := cmpf .olt main_v0 main_v1
  let main_c : IVec S_ 1 := constantI S_ 1 1#1
  let main_v3 : IVec S_ 1 := (fun x v => Host.reduce IntOp.andi x v reducesTo_S4224x4096_S_d0_1 h_S_) main_v2 main_c
  let main_v4 : FVec F S4224x4096 .f32 := Host.absf main_arg1
  let main_cst_0 : FVec F S_ .f32 := constant S_ .f32 0x7F800000#32
  let main_v5 : FVec F S4224x4096 .f32 := broadcastInDim S4224x4096 ![] bcast_S_S4224x4096 main_cst_0
  let main_v6 : IVec S4224x4096 1 := cmpf .olt main_v4 main_v5
  let main_c_1 : IVec S_ 1 := constantI S_ 1 1#1
  let main_v7 : IVec S_ 1 := (fun x v => Host.reduce IntOp.andi x v reducesTo_S4224x4096_S_d0_1 h_S_) main_v6 main_c_1
  let main_v8 : FVec F S1x4096 .f32 := Host.absf main_arg2
  let main_cst_2 : FVec F S_ .f32 := constant S_ .f32 0x7F800000#32
  let main_v9 : FVec F S1x4096 .f32 := broadcastInDim S1x4096 ![] bcast_S_S1x4096 main_cst_2
  let main_v10 : IVec S1x4096 1 := cmpf .olt main_v8 main_v9
  let main_c_3 : IVec S_ 1 := constantI S_ 1 1#1
  let main_v11 : IVec S_ 1 := (fun x v => Host.reduce IntOp.andi x v reducesTo_S1x4096_S_d0_1 h_S_) main_v10 main_c_3
  let main_v12 : IVec S_ 1 := andi main_v3 main_v7
  let main_v13 : IVec S_ 1 := andi main_v12 main_v11
  main_v13
-- ==== Pre_loss_finite.lean ====
abbrev S4224x4096 : Shape := ⟨2, ![4224, 4096]⟩
abbrev S2x2048x4096 : Shape := ⟨3, ![2, 2048, 4096]⟩
abbrev S1x4096 : Shape := ⟨2, ![1, 4096]⟩
abbrev S_ : Shape := ⟨0, ![]⟩

class Facts : Prop where
  bcast_S_S4224x4096 : S_.BroadcastsInDim S4224x4096 (![] : Fin 0 → Fin S4224x4096.rank)
  reducesTo_S4224x4096_S_d0_1 : S4224x4096.ReducesTo [0, 1] S_
  h_S_ : 0 < S_.numel
  bcast_S_S2x2048x4096 : S_.BroadcastsInDim S2x2048x4096 (![] : Fin 0 → Fin S2x2048x4096.rank)
  reducesTo_S2x2048x4096_S_d0_1_2 : S2x2048x4096.ReducesTo [0, 1, 2] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4224x4096 .f32) (main_arg1 : FVec F S2x2048x4096 .f32) (main_arg2 : FVec F S1x4096 .f32) (main_arg3 : FVec F S1x4096 .f32) : IVec S_ 1 :=
  let main_v0 : FVec F S4224x4096 .f32 := Host.absf main_arg0
  let main_cst : FVec F S_ .f32 := constant S_ .f32 0x7F800000#32
  let main_v1 : FVec F S4224x4096 .f32 := broadcastInDim S4224x4096 ![] bcast_S_S4224x4096 main_cst
  let main_v2 : IVec S4224x4096 1 := cmpf .olt main_v0 main_v1
  let main_c : IVec S_ 1 := constantI S_ 1 1#1
  let main_v3 : IVec S_ 1 := (fun x v => Host.reduce IntOp.andi x v reducesTo_S4224x4096_S_d0_1 h_S_) main_v2 main_c
  let main_v4 : FVec F S2x2048x4096 .f32 := Host.absf main_arg1
  let main_cst_0 : FVec F S_ .f32 := constant S_ .f32 0x7F800000#32
  let main_v5 : FVec F S2x2048x4096 .f32 := broadcastInDim S2x2048x4096 ![] bcast_S_S2x2048x4096 main_cst_0
  let main_v6 : IVec S2x2048x4096 1 := cmpf .olt main_v4 main_v5
  let main_c_1 : IVec S_ 1 := constantI S_ 1 1#1
  let main_v7 : IVec S_ 1 := (fun x v => Host.reduce IntOp.andi x v reducesTo_S2x2048x4096_S_d0_1_2 h_S_) main_v6 main_c_1
  let main_v8 : FVec F S1x4096 .f32 := Host.absf main_arg2
  let main_cst_2 : FVec F S_ .f32 := constant S_ .f32 0x7F800000#32
  let main_v9 : FVec F S1x4096 .f32 := broadcastInDim S1x4096 ![] bcast_S_S1x4096 main_cst_2
  let main_v10 : IVec S1x4096 1 := cmpf .olt main_v8 main_v9
  let main_c_3 : IVec S_ 1 := constantI S_ 1 1#1
  let main_v11 : IVec S_ 1 := (fun x v => Host.reduce IntOp.andi x v reducesTo_S1x4096_S_d0_1 h_S_) main_v10 main_c_3
  let main_v12 : FVec F S1x4096 .f32 := Host.absf main_arg3
  let main_cst_4 : FVec F S_ .f32 := constant S_ .f32 0x7F800000#32
  let main_v13 : FVec F S1x4096 .f32 := broadcastInDim S1x4096 ![] bcast_S_S1x4096 main_cst_4
  let main_v14 : IVec S1x4096 1 := cmpf .olt main_v12 main_v13
  let main_c_5 : IVec S_ 1 := constantI S_ 1 1#1
  let main_v15 : IVec S_ 1 := (fun x v => Host.reduce IntOp.andi x v reducesTo_S1x4096_S_d0_1 h_S_) main_v14 main_c_5
  fn_part1 (F := F) main_v3 main_v7 main_v11 main_v15
-- ==== Pre_pool_finite.lean ====
abbrev S2x2064x2048 : Shape := ⟨3, ![2, 2064, 2048]⟩
abbrev S_ : Shape := ⟨0, ![]⟩

class Facts : Prop where
  bcast_S_S2x2064x2048 : S_.BroadcastsInDim S2x2064x2048 (![] : Fin 0 → Fin S2x2064x2048.rank)
  reducesTo_S2x2064x2048_S_d0_1_2 : S2x2064x2048.ReducesTo [0, 1, 2] S_
  h_S_ : 0 < S_.numel

variable [Facts]

def fn {F : FTy → Type} [FloatOps F] (main_arg0 : FVec F S2x2064x2048 .f32) : IVec S_ 1 :=
  let main_v0 : FVec F S2x2064x2048 .f32 := Host.absf main_arg0
  let main_cst : FVec F S_ .f32 := constant S_ .f32 0x7F800000#32
  let main_v1 : FVec F S2x2064x2048 .f32 := broadcastInDim S2x2064x2048 ![] bcast_S_S2x2064x2048 main_cst
  let main_v2 : IVec S2x2064x2048 1 := cmpf .olt main_v0 main_v1
  let main_c : IVec S_ 1 := constantI S_ 1 1#1
  let main_v3 : IVec S_ 1 := (fun x v => Host.reduce IntOp.andi x v reducesTo_S2x2064x2048_S_d0_1_2 h_S_) main_v2 main_c
  main_v3
-- ==== Pre_pool_fwd_finite.lean ====
abbrev S4224x8192 : Shape := ⟨2, ![4224, 8192]⟩
abbrev S4224x2048 : Shape := ⟨2, ![4224, 2048]⟩
abbrev S_ : Shape := ⟨0, ![]⟩

class Facts : Prop where
  slices_S4224x8192_S4224x2048_0_6144 : S4224x8192.Slices ![0, 6144] S4224x2048
  bcast_S_S4224x2048 : S_.BroadcastsInDim S4224x2048 (![] : Fin 0 → Fin S4224x2048.rank)
  reducesTo_S4224x2048_S_d0_1 : S4224x2048.ReducesTo [0, 1] S_
  h_S_ : 0 < S_.numel

variable [Facts]

def fn {F : FTy → Type} [FloatOps F] (main_arg0 : FVec F S4224x8192 .f32) : IVec S_ 1 :=
  let main_v0 : FVec F S4224x2048 .f32 := (extractStridedSlice S4224x2048 ![0, 6144] · slices_S4224x8192_S4224x2048_0_6144) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_c : IVec S_ 1 := constantI S_ 1 1#1
  let main_v4 : IVec S_ 1 := (fun x v => Host.reduce IntOp.andi x v reducesTo_S4224x2048_S_d0_1 h_S_) main_v3 main_c
  main_v4
-- ==== Wd.lean ====
abbrev S4x2x4224x2752 : Shape := ⟨4, ![4, 2, 4224, 2752]⟩
abbrev S4224x4096 : Shape := ⟨2, ![4224, 4096]⟩
abbrev S4x1x4224x2752 : Shape := ⟨4, ![4, 1, 4224, 2752]⟩
abbrev S4x4224x2752 : Shape := ⟨3, ![4, 4224, 2752]⟩
abbrev S_ : Shape := ⟨0, ![]⟩
abbrev S4x2752x4096 : Shape := ⟨3, ![4, 2752, 4096]⟩
abbrev S1x1408x2752 : Shape := ⟨3, ![1, 1408, 2752]⟩
abbrev S1408x1024 : Shape := ⟨2, ![1408, 1024]⟩
abbrev S1x2752x1024 : Shape := ⟨3, ![1, 2752, 1024]⟩
abbrev S2752x1024 : Shape := ⟨2, ![2752, 1024]⟩
abbrev S1408x2752 : Shape := ⟨2, ![1408, 2752]⟩
abbrev S64x1024 : Shape := ⟨2, ![64, 1024]⟩
abbrev S1x64x1024 : Shape := ⟨3, ![1, 64, 1024]⟩

abbrev nBuf : Space → Nat
  | .hbm => 20
  | .vmem => 7
  | .smem => 0
  | _ => 0

abbrev bufTy : (tb : Table) → Fin (tcTables nBuf tb) → BufTy
  | .hbm, ⟨0, _⟩ => ⟨S4x2x4224x2752, .bf16⟩
  | .hbm, ⟨1, _⟩ => ⟨S4224x4096, .bf16⟩
  | .hbm, ⟨2, _⟩ => ⟨S4x1x4224x2752, .bf16⟩
  | .hbm, ⟨3, _⟩ => ⟨S4x4224x2752, .bf16⟩
  | .hbm, ⟨4, _⟩ => ⟨S4x4224x2752, .f32⟩
  | .hbm, ⟨5, _⟩ => ⟨S4x1x4224x2752, .bf16⟩
  | .hbm, ⟨6, _⟩ => ⟨S4x4224x2752, .bf16⟩
  | .hbm, ⟨7, _⟩ => ⟨S4x4224x2752, .f32⟩
  | .hbm, ⟨8, _⟩ => ⟨S4x4224x2752, .f32⟩
  | .hbm, ⟨9, _⟩ => ⟨S4x4224x2752, .f32⟩
  | .hbm, ⟨10, _⟩ => ⟨S_, .f32⟩
  | .hbm, ⟨11, _⟩ => ⟨S4x4224x2752, .f32⟩
  | .hbm, ⟨12, _⟩ => ⟨S4x4224x2752, .f32⟩
  | .hbm, ⟨13, _⟩ => ⟨S_, .f32⟩
  | .hbm, ⟨14, _⟩ => ⟨S4x4224x2752, .f32⟩
  | .hbm, ⟨15, _⟩ => ⟨S4x4224x2752, .f32⟩
  | .hbm, ⟨16, _⟩ => ⟨S4x4224x2752, .f32⟩
  | .hbm, ⟨17, _⟩ => ⟨S4x4224x2752, .f32⟩
  | .hbm, ⟨18, _⟩ => ⟨S4x4224x2752, .bf16⟩
  | .hbm, ⟨19, _⟩ => ⟨S4x2752x4096, .bf16⟩
  | .local _ .vmem, ⟨0, _⟩ => ⟨S1x1408x2752, .bf16⟩
  | .local _ .vmem, ⟨1, _⟩ => ⟨S1x1408x2752, .bf16⟩
  | .local _ .vmem, ⟨2, _⟩ => ⟨S1408x1024, .bf16⟩
  | .local _ .vmem, ⟨3, _⟩ => ⟨S1408x1024, .bf16⟩
  | .local _ .vmem, ⟨4, _⟩ => ⟨S1x2752x1024, .bf16⟩
  | .local _ .vmem, ⟨5, _⟩ => ⟨S1x2752x1024, .bf16⟩
  | .local _ .vmem, ⟨6, _⟩ => ⟨S2752x1024, .f32⟩
  | _, _ => ⟨S4x2x4224x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c43_i32 : BitVec 32 := 43#32
  let v9 : BitVec 32 := Scalar.addi c0_i32_4 c43_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  v10
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v17 : Index := Scalar.indexCast v11
  let c0_7 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1408x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdRefIdeal.lean ====
abbrev S4x2x4224x2752 : Shape := ⟨4, ![4, 2, 4224, 2752]⟩
abbrev S4224x4096 : Shape := ⟨2, ![4224, 4096]⟩
abbrev S4x1x4224x2752 : Shape := ⟨4, ![4, 1, 4224, 2752]⟩
abbrev S4x4224x2752 : Shape := ⟨3, ![4, 4224, 2752]⟩
abbrev S4224x4x2752 : Shape := ⟨3, ![4224, 4, 2752]⟩
abbrev S4224x11008 : Shape := ⟨2, ![4224, 11008]⟩
abbrev S_ : Shape := ⟨0, ![]⟩
abbrev S11008x4096 : Shape := ⟨2, ![11008, 4096]⟩
abbrev S4096x11008 : Shape := ⟨2, ![4096, 11008]⟩
abbrev S4x2752x4096 : Shape := ⟨3, ![4, 2752, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2x4224x2752, .bf16⟩
  | .hbm, ⟨1, _⟩ => ⟨S4224x4096, .bf16⟩
  | .hbm, ⟨2, _⟩ => ⟨S4x1x4224x2752, .bf16⟩
  | .hbm, ⟨3, _⟩ => ⟨S4x4224x2752, .bf16⟩
  | .hbm, ⟨4, _⟩ => ⟨S4x4224x2752, .f32⟩
  | .hbm, ⟨5, _⟩ => ⟨S4224x4x2752, .f32⟩
  | .hbm, ⟨6, _⟩ => ⟨S4224x11008, .f32⟩
  | .hbm, ⟨7, _⟩ => ⟨S4x1x4224x2752, .bf16⟩
  | .hbm, ⟨8, _⟩ => ⟨S4x4224x2752, .bf16⟩
  | .hbm, ⟨9, _⟩ => ⟨S4x4224x2752, .f32⟩
  | .hbm, ⟨10, _⟩ => ⟨S4224x4x2752, .f32⟩
  | .hbm, ⟨11, _⟩ => ⟨S4224x11008, .f32⟩
  | .hbm, ⟨12, _⟩ => ⟨S_, .f32⟩
  | .hbm, ⟨13, _⟩ => ⟨S11008x4096, .f32⟩
  | .hbm, ⟨14, _⟩ => ⟨S4224x11008, .f32⟩
  | .hbm, ⟨15, _⟩ => ⟨S4224x11008, .f32⟩
  | .hbm, ⟨16, _⟩ => ⟨S_, .f32⟩
  | .hbm, ⟨17, _⟩ => ⟨S4224x11008, .f32⟩
  | .hbm, ⟨18, _⟩ => ⟨S4224x11008, .f32⟩
  | .hbm, ⟨19, _⟩ => ⟨S_, .f32⟩
  | .hbm, ⟨20, _⟩ => ⟨S4224x11008, .f32⟩
  | .hbm, ⟨21, _⟩ => ⟨S4224x11008, .f32⟩
  | .hbm, ⟨22, _⟩ => ⟨S4224x11008, .f32⟩
  | .hbm, ⟨23, _⟩ => ⟨S4224x11008, .f32⟩
  | .hbm, ⟨24, _⟩ => ⟨S4224x4096, .f32⟩
  | .hbm, ⟨25, _⟩ => ⟨S_, .f32⟩
  | .hbm, ⟨26, _⟩ => ⟨S4224x4096, .f32⟩
  | .hbm, ⟨27, _⟩ => ⟨S4224x4096, .f32⟩
  | .hbm, ⟨28, _⟩ => ⟨S4224x4096, .f32⟩
  | .hbm, ⟨29, _⟩ => ⟨S_, .f32⟩
  | .hbm, ⟨30, _⟩ => ⟨S4224x4096, .f32⟩
  | .hbm, ⟨31, _⟩ => ⟨S4224x4096, .f32⟩
  | .hbm, ⟨32, _⟩ => ⟨S4096x11008, .f32⟩
  | .hbm, ⟨33, _⟩ => ⟨S11008x4096, .f32⟩
  | .hbm, ⟨34, _⟩ => ⟨S4x2752x4096, .f32⟩
  | .hbm, ⟨35, _⟩ => ⟨S4x2752x4096, .bf16⟩
  | _, _ => ⟨S4x2x4224x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Dgu.lean ====
abbrev S4224x4096 : Shape := ⟨2, ![4224, 4096]⟩
abbrev S11008x4096 : Shape := ⟨2, ![11008, 4096]⟩
abbrev S4x2x4224x2752 : Shape := ⟨4, ![4, 2, 4224, 2752]⟩
abbrev S4x2752x4096 : Shape := ⟨3, ![4, 2752, 4096]⟩
abbrev S704x1024 : Shape := ⟨2, ![704, 1024]⟩
abbrev S1x2752x1024 : Shape := ⟨3, ![1, 2752, 1024]⟩
abbrev S1x2x704x2752 : Shape := ⟨4, ![1, 2, 704, 2752]⟩
abbrev S704x2752 : Shape := ⟨2, ![704, 2752]⟩
abbrev S2752x1024 : Shape := ⟨2, ![2752, 1024]⟩
abbrev S64x2752 : Shape := ⟨2, ![64, 2752]⟩
abbrev S1x1x64x2752 : Shape := ⟨4, ![1, 1, 64, 2752]⟩

abbrev nBuf : Space → Nat
  | .hbm => 5
  | .vmem => 9
  | .smem => 0
  | _ => 0

abbrev bufTy : (tb : Table) → Fin (tcTables nBuf tb) → BufTy
  | .hbm, ⟨0, _⟩ => ⟨S4224x4096, .bf16⟩
  | .hbm, ⟨1, _⟩ => ⟨S11008x4096, .bf16⟩
  | .hbm, ⟨2, _⟩ => ⟨S4x2x4224x2752, .bf16⟩
  | .hbm, ⟨3, _⟩ => ⟨S4x2752x4096, .bf16⟩
  | .hbm, ⟨4, _⟩ => ⟨S4x2x4224x2752, .bf16⟩
  | .local _ .vmem, ⟨0, _⟩ => ⟨S704x1024, .bf16⟩
  | .local _ .vmem, ⟨1, _⟩ => ⟨S704x1024, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x2x704x2752, .bf16⟩
  | .local _ .vmem, ⟨5, _⟩ => ⟨S1x2x704x2752, .bf16⟩
  | .local _ .vmem, ⟨6, _⟩ => ⟨S1x2x704x2752, .bf16⟩
  | .local _ .vmem, ⟨7, _⟩ => ⟨S1x2x704x2752, .bf16⟩
  | .local _ .vmem, ⟨8, _⟩ => ⟨S704x2752, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def k0_off2 (k0_t1 : Fin k0_t1_loop.trips) : Fin 4 → Nat :=
  let c0_6 : Index := 0#32
  let c0_7 : Index := 0#32
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v14 : Index := Scalar.indexCast v11
  let c0_8 : Index := 0#32
  ![0, 0, v14.toNat, 0]
def k0_off3 (k0_t1 : Fin k0_t1_loop.trips) : Fin 4 → Nat :=
  let c0_9 : Index := 0#32
  let c1 : Index := 1#32
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v18 : Index := Scalar.indexCast v11
  let c0_10 : Index := 0#32
  ![0, 1, v18.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x704x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x704x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DguRefIdeal.lean ====
abbrev S4224x4096 : Shape := ⟨2, ![4224, 4096]⟩
abbrev S11008x4096 : Shape := ⟨2, ![11008, 4096]⟩
abbrev S4x2x4224x2752 : Shape := ⟨4, ![4, 2, 4224, 2752]⟩
abbrev S4x1x4224x2752 : Shape := ⟨4, ![4, 1, 4224, 2752]⟩
abbrev S4x4224x2752 : Shape := ⟨3, ![4, 4224, 2752]⟩
abbrev S4224x4x2752 : Shape := ⟨3, ![4224, 4, 2752]⟩
abbrev S4224x11008 : Shape := ⟨2, ![4224, 11008]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S11008x4096, .bf16⟩
  | .hbm, ⟨2, _⟩ => ⟨S4x2x4224x2752, .bf16⟩
  | .hbm, ⟨3, _⟩ => ⟨S4x1x4224x2752, .bf16⟩
  | .hbm, ⟨4, _⟩ => ⟨S4x4224x2752, .bf16⟩
  | .hbm, ⟨5, _⟩ => ⟨S4x4224x2752, .f32⟩
  | .hbm, ⟨6, _⟩ => ⟨S4224x4x2752, .f32⟩
  | .hbm, ⟨7, _⟩ => ⟨S4224x11008, .f32⟩
  | .hbm, ⟨8, _⟩ => ⟨S4x1x4224x2752, .bf16⟩
  | .hbm, ⟨9, _⟩ => ⟨S4x4224x2752, .bf16⟩
  | .hbm, ⟨10, _⟩ => ⟨S4x4224x2752, .f32⟩
  | .hbm, ⟨11, _⟩ => ⟨S4224x4x2752, .f32⟩
  | .hbm, ⟨12, _⟩ => ⟨S4224x11008, .f32⟩
  | .hbm, ⟨13, _⟩ => ⟨S11008x4096, .f32⟩
  | .hbm, ⟨14, _⟩ => ⟨S4224x11008, .f32⟩
  | .hbm, ⟨15, _⟩ => ⟨S4224x11008, .f32⟩
  | .hbm, ⟨16, _⟩ => ⟨S_, .f32⟩
  | .hbm, ⟨17, _⟩ => ⟨S4224x11008, .f32⟩
  | .hbm, ⟨18, _⟩ => ⟨S4224x11008, .f32⟩
  | .hbm, ⟨19, _⟩ => ⟨S_, .f32⟩
  | .hbm, ⟨20, _⟩ => ⟨S4224x11008, .f32⟩
  | .hbm, ⟨21, _⟩ => ⟨S4224x11008, .f32⟩
  | .hbm, ⟨22, _⟩ => ⟨S_, .f32⟩
  | .hbm, ⟨23, _⟩ => ⟨S4224x11008, .f32⟩
  | .hbm, ⟨24, _⟩ => ⟨S4224x11008, .f32⟩
  | .hbm, ⟨25, _⟩ => ⟨S4224x11008, .f32⟩
  | .hbm, ⟨26, _⟩ => ⟨S4224x11008, .f32⟩
  | .hbm, ⟨27, _⟩ => ⟨S4224x11008, .f32⟩
  | .hbm, ⟨28, _⟩ => ⟨S4224x4096, .f32⟩
  | .hbm, ⟨29, _⟩ => ⟨S_, .f32⟩
  | .hbm, ⟨30, _⟩ => ⟨S4224x4096, .f32⟩
  | .hbm, ⟨31, _⟩ => ⟨S4224x4096, .f32⟩
  | .hbm, ⟨32, _⟩ => ⟨S4224x4096, .f32⟩
  | .hbm, ⟨33, _⟩ => ⟨S_, .f32⟩
  | .hbm, ⟨34, _⟩ => ⟨S4224x4096, .f32⟩
  | .hbm, ⟨35, _⟩ => ⟨S4224x4096, .f32⟩
  | .hbm, ⟨36, _⟩ => ⟨S4224x11008, .f32⟩
  | .hbm, ⟨37, _⟩ => ⟨S4224x11008, .f32⟩
  | .hbm, ⟨38, _⟩ => ⟨S4224x11008, .f32⟩
  | .hbm, ⟨39, _⟩ => ⟨S4224x11008, .f32⟩
  | .hbm, ⟨40, _⟩ => ⟨S4224x11008, .f32⟩
  | .hbm, ⟨41, _⟩ => ⟨S4224x11008, .f32⟩
  | .hbm, ⟨42, _⟩ => ⟨S4224x11008, .f32⟩
  | .hbm, ⟨43, _⟩ => ⟨S4224x4x2752, .f32⟩
  | .hbm, ⟨44, _⟩ => ⟨S4x4224x2752, .f32⟩
  | .hbm, ⟨45, _⟩ => ⟨S4224x4x2752, .f32⟩
  | .hbm, ⟨46, _⟩ => ⟨S4x4224x2752, .f32⟩
  | .hbm, ⟨47, _⟩ => ⟨S4x1x4224x2752, .f32⟩
  | .hbm, ⟨48, _⟩ => ⟨S4x1x4224x2752, .f32⟩
  | .hbm, ⟨49, _⟩ => ⟨S4x2x4224x2752, .f32⟩
  | .hbm, ⟨50, _⟩ => ⟨S4x2x4224x2752, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v11_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v11_1 : Ref sig .tc := ⟨.hbm, 25, rfl⟩
abbrev main_v11_0 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Wgu.lean ====
abbrev S4224x4096 : Shape := ⟨2, ![4224, 4096]⟩
abbrev S4x2x4224x2752 : Shape := ⟨4, ![4, 2, 4224, 2752]⟩
abbrev S8x4096x2752 : Shape := ⟨3, ![8, 4096, 2752]⟩
abbrev S1408x1024 : Shape := ⟨2, ![1408, 1024]⟩
abbrev S1x1x1408x2752 : Shape := ⟨4, ![1, 1, 1408, 2752]⟩
abbrev S1x1024x2752 : Shape := ⟨3, ![1, 1024, 2752]⟩
abbrev S1024x2752 : Shape := ⟨2, ![1024, 2752]⟩
abbrev S1408x2752 : Shape := ⟨2, ![1408, 2752]⟩
abbrev S64x2752 : Shape := ⟨2, ![64, 2752]⟩
abbrev S1x64x2752 : Shape := ⟨3, ![1, 64, 2752]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4x2x4224x2752, .bf16⟩
  | .hbm, ⟨2, _⟩ => ⟨S8x4096x2752, .bf16⟩
  | .local _ .vmem, ⟨0, _⟩ => ⟨S1408x1024, .bf16⟩
  | .local _ .vmem, ⟨1, _⟩ => ⟨S1408x1024, .bf16⟩
  | .local _ .vmem, ⟨2, _⟩ => ⟨S1x1x1408x2752, .bf16⟩
  | .local _ .vmem, ⟨3, _⟩ => ⟨S1x1x1408x2752, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1024x2752, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 4, 3], ![false, false, false, false]⟩

def k0_cond3 (i : grid0.Coords) : BitVec 1 :=
  let arg3 : BitVec 32 := BitVec.ofNat 32 (i 3).val
  let c2_i32 : BitVec 32 := 2#32
  let v6 : BitVec 1 := Scalar.cmpi .eq arg3 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c16_i32 : BitVec 32 := 16#32
  let v9 : BitVec 32 := Scalar.addi c0_i32_4 c16_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v15 : Index := Scalar.indexCast v11
  let c0_7 : Index := 0#32
  ![0, v15.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, arg2.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x1x1408x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== WguRefIdeal.lean ====
abbrev S4224x4096 : Shape := ⟨2, ![4224, 4096]⟩
abbrev S4x2x4224x2752 : Shape := ⟨4, ![4, 2, 4224, 2752]⟩
abbrev S4x1x4224x2752 : Shape := ⟨4, ![4, 1, 4224, 2752]⟩
abbrev S4x4224x2752 : Shape := ⟨3, ![4, 4224, 2752]⟩
abbrev S4224x4x2752 : Shape := ⟨3, ![4224, 4, 2752]⟩
abbrev S4224x11008 : Shape := ⟨2, ![4224, 11008]⟩
abbrev S4224x22016 : Shape := ⟨2, ![4224, 22016]⟩
abbrev S_ : Shape := ⟨0, ![]⟩
abbrev S4096x22016 : Shape := ⟨2, ![4096, 22016]⟩
abbrev S22016x4096 : Shape := ⟨2, ![22016, 4096]⟩
abbrev S4096x8x2752 : Shape := ⟨3, ![4096, 8, 2752]⟩
abbrev S8x4096x2752 : Shape := ⟨3, ![8, 4096, 2752]⟩

abbrev nBuf : Space → Nat
  | .hbm => 25
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4x2x4224x2752, .bf16⟩
  | .hbm, ⟨2, _⟩ => ⟨S4x1x4224x2752, .bf16⟩
  | .hbm, ⟨3, _⟩ => ⟨S4x4224x2752, .bf16⟩
  | .hbm, ⟨4, _⟩ => ⟨S4x4224x2752, .f32⟩
  | .hbm, ⟨5, _⟩ => ⟨S4224x4x2752, .f32⟩
  | .hbm, ⟨6, _⟩ => ⟨S4224x11008, .f32⟩
  | .hbm, ⟨7, _⟩ => ⟨S4x1x4224x2752, .bf16⟩
  | .hbm, ⟨8, _⟩ => ⟨S4x4224x2752, .bf16⟩
  | .hbm, ⟨9, _⟩ => ⟨S4x4224x2752, .f32⟩
  | .hbm, ⟨10, _⟩ => ⟨S4224x4x2752, .f32⟩
  | .hbm, ⟨11, _⟩ => ⟨S4224x11008, .f32⟩
  | .hbm, ⟨12, _⟩ => ⟨S4224x22016, .f32⟩
  | .hbm, ⟨13, _⟩ => ⟨S_, .f32⟩
  | .hbm, ⟨14, _⟩ => ⟨S4096x22016, .f32⟩
  | .hbm, ⟨15, _⟩ => ⟨S4224x4096, .f32⟩
  | .hbm, ⟨16, _⟩ => ⟨S_, .f32⟩
  | .hbm, ⟨17, _⟩ => ⟨S4224x4096, .f32⟩
  | .hbm, ⟨18, _⟩ => ⟨S4224x4096, .f32⟩
  | .hbm, ⟨19, _⟩ => ⟨S4224x22016, .f32⟩
  | .hbm, ⟨20, _⟩ => ⟨S22016x4096, .f32⟩
  | .hbm, ⟨21, _⟩ => ⟨S4096x22016, .f32⟩
  | .hbm, ⟨22, _⟩ => ⟨S4096x8x2752, .f32⟩
  | .hbm, ⟨23, _⟩ => ⟨S8x4096x2752, .f32⟩
  | .hbm, ⟨24, _⟩ => ⟨S8x4096x2752, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Dh.lean ====
abbrev S4x2x4224x2752 : Shape := ⟨4, ![4, 2, 4224, 2752]⟩
abbrev S4096x22016 : Shape := ⟨2, ![4096, 22016]⟩
abbrev S4224x4096 : Shape := ⟨2, ![4224, 4096]⟩
abbrev S4096x8x2752 : Shape := ⟨3, ![4096, 8, 2752]⟩
abbrev S8x4096x2752 : Shape := ⟨3, ![8, 4096, 2752]⟩
abbrev S1x1x704x2752 : Shape := ⟨4, ![1, 1, 704, 2752]⟩
abbrev S1x1024x2752 : Shape := ⟨3, ![1, 1024, 2752]⟩
abbrev S704x1024 : Shape := ⟨2, ![704, 1024]⟩
abbrev S704x2752 : Shape := ⟨2, ![704, 2752]⟩
abbrev S1024x2752 : Shape := ⟨2, ![1024, 2752]⟩
abbrev S64x1024 : Shape := ⟨2, ![64, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x2x4224x2752, .bf16⟩
  | .hbm, ⟨1, _⟩ => ⟨S4096x22016, .bf16⟩
  | .hbm, ⟨2, _⟩ => ⟨S4224x4096, .f32⟩
  | .hbm, ⟨3, _⟩ => ⟨S4096x8x2752, .bf16⟩
  | .hbm, ⟨4, _⟩ => ⟨S8x4096x2752, .bf16⟩
  | .hbm, ⟨5, _⟩ => ⟨S4224x4096, .f32⟩
  | .local _ .vmem, ⟨0, _⟩ => ⟨S1x1x704x2752, .bf16⟩
  | .local _ .vmem, ⟨1, _⟩ => ⟨S1x1x704x2752, .bf16⟩
  | .local _ .vmem, ⟨2, _⟩ => ⟨S1x1024x2752, .bf16⟩
  | .local _ .vmem, ⟨3, _⟩ => ⟨S1x1024x2752, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | _, _ => ⟨S4x2x4224x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg2 c4_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg2 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1x704x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhRefIdeal.lean ====
abbrev S4x2x4224x2752 : Shape := ⟨4, ![4, 2, 4224, 2752]⟩
abbrev S4096x22016 : Shape := ⟨2, ![4096, 22016]⟩
abbrev S4224x4096 : Shape := ⟨2, ![4224, 4096]⟩
abbrev S4x1x4224x2752 : Shape := ⟨4, ![4, 1, 4224, 2752]⟩
abbrev S4x4224x2752 : Shape := ⟨3, ![4, 4224, 2752]⟩
abbrev S4224x4x2752 : Shape := ⟨3, ![4224, 4, 2752]⟩
abbrev S4224x11008 : Shape := ⟨2, ![4224, 11008]⟩
abbrev S4224x22016 : Shape := ⟨2, ![4224, 22016]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4x2x4224x2752, .bf16⟩
  | .hbm, ⟨1, _⟩ => ⟨S4096x22016, .bf16⟩
  | .hbm, ⟨2, _⟩ => ⟨S4224x4096, .f32⟩
  | .hbm, ⟨3, _⟩ => ⟨S4x1x4224x2752, .bf16⟩
  | .hbm, ⟨4, _⟩ => ⟨S4x4224x2752, .bf16⟩
  | .hbm, ⟨5, _⟩ => ⟨S4x4224x2752, .f32⟩
  | .hbm, ⟨6, _⟩ => ⟨S4224x4x2752, .f32⟩
  | .hbm, ⟨7, _⟩ => ⟨S4224x11008, .f32⟩
  | .hbm, ⟨8, _⟩ => ⟨S4x1x4224x2752, .bf16⟩
  | .hbm, ⟨9, _⟩ => ⟨S4x4224x2752, .bf16⟩
  | .hbm, ⟨10, _⟩ => ⟨S4x4224x2752, .f32⟩
  | .hbm, ⟨11, _⟩ => ⟨S4224x4x2752, .f32⟩
  | .hbm, ⟨12, _⟩ => ⟨S4224x11008, .f32⟩
  | .hbm, ⟨13, _⟩ => ⟨S4224x22016, .f32⟩
  | .hbm, ⟨14, _⟩ => ⟨S4096x22016, .f32⟩
  | .hbm, ⟨15, _⟩ => ⟨S_, .f32⟩
  | .hbm, ⟨16, _⟩ => ⟨S4224x4096, .f32⟩
  | .hbm, ⟨17, _⟩ => ⟨S_, .f32⟩
  | .hbm, ⟨18, _⟩ => ⟨S4224x4096, .f32⟩
  | .hbm, ⟨19, _⟩ => ⟨S4224x4096, .f32⟩
  | .hbm, ⟨20, _⟩ => ⟨S4224x22016, .f32⟩
  | .hbm, ⟨21, _⟩ => ⟨S4224x4096, .f32⟩
  | .hbm, ⟨22, _⟩ => ⟨S_, .f32⟩
  | .hbm, ⟨23, _⟩ => ⟨S4224x4096, .f32⟩
  | .hbm, ⟨24, _⟩ => ⟨S4224x4096, .f32⟩
  | .hbm, ⟨25, _⟩ => ⟨S4224x4096, .f32⟩
  | _, _ => ⟨S4x2x4224x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Conv.lean ====
abbrev S4224x8192 : Shape := ⟨2, ![4224, 8192]⟩
abbrev S3x2048 : Shape := ⟨2, ![3, 2048]⟩
abbrev S2x2064x4096 : Shape := ⟨3, ![2, 2064, 4096]⟩
abbrev S4128x4096 : Shape := ⟨2, ![4128, 4096]⟩
abbrev S_ : Shape := ⟨0, ![]⟩
abbrev S4224x4096 : Shape := ⟨2, ![4224, 4096]⟩
abbrev S4224x2048 : Shape := ⟨2, ![4224, 2048]⟩
abbrev S4224x128 : Shape := ⟨2, ![4224, 128]⟩
abbrev S3x128 : Shape := ⟨2, ![3, 128]⟩
abbrev S4224x1 : Shape := ⟨2, ![4224, 1]⟩
abbrev S1x128 : Shape := ⟨2, ![1, 128]⟩
abbrev S128 : Shape := ⟨1, ![128]⟩

abbrev nBuf : Space → Nat
  | .hbm => 11
  | .vmem => 18
  | .smem => 0
  | _ => 0

abbrev bufTy : (tb : Table) → Fin (tcTables nBuf tb) → BufTy
  | .hbm, ⟨0, _⟩ => ⟨S4224x8192, .f32⟩
  | .hbm, ⟨1, _⟩ => ⟨S3x2048, .f32⟩
  | .hbm, ⟨2, _⟩ => ⟨S2x2064x4096, .f32⟩
  | .hbm, ⟨3, _⟩ => ⟨S4128x4096, .f32⟩
  | .hbm, ⟨4, _⟩ => ⟨S_, .i32⟩
  | .hbm, ⟨5, _⟩ => ⟨S_, .f32⟩
  | .hbm, ⟨6, _⟩ => ⟨S4224x4096, .f32⟩
  | .hbm, ⟨7, _⟩ => ⟨S4224x2048, .bf16⟩
  | .hbm, ⟨8, _⟩ => ⟨S4224x2048, .bf16⟩
  | .hbm, ⟨9, _⟩ => ⟨S4224x2048, .bf16⟩
  | .hbm, ⟨10, _⟩ => ⟨S3x2048, .f32⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S3x128, .f32⟩
  | .local _ .vmem, ⟨7, _⟩ => ⟨S3x128, .f32⟩
  | .local _ .vmem, ⟨8, _⟩ => ⟨S4224x128, .f32⟩
  | .local _ .vmem, ⟨9, _⟩ => ⟨S4224x128, .f32⟩
  | .local _ .vmem, ⟨10, _⟩ => ⟨S4224x128, .bf16⟩
  | .local _ .vmem, ⟨11, _⟩ => ⟨S4224x128, .bf16⟩
  | .local _ .vmem, ⟨12, _⟩ => ⟨S4224x128, .bf16⟩
  | .local _ .vmem, ⟨13, _⟩ => ⟨S4224x128, .bf16⟩
  | .local _ .vmem, ⟨14, _⟩ => ⟨S4224x128, .bf16⟩
  | .local _ .vmem, ⟨15, _⟩ => ⟨S4224x128, .bf16⟩
  | .local _ .vmem, ⟨16, _⟩ => ⟨S3x128, .f32⟩
  | .local _ .vmem, ⟨17, _⟩ => ⟨S3x128, .f32⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4224x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4224x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S4224x8192 : Shape := ⟨2, ![4224, 8192]⟩
abbrev S3x2048 : Shape := ⟨2, ![3, 2048]⟩
abbrev S2x2064x4096 : Shape := ⟨3, ![2, 2064, 4096]⟩
abbrev S4128x8192 : Shape := ⟨2, ![4128, 8192]⟩
abbrev S2x2064x8192 : Shape := ⟨3, ![2, 2064, 8192]⟩
abbrev S2x2064x2048 : Shape := ⟨3, ![2, 2064, 2048]⟩
abbrev S_ : Shape := ⟨0, ![]⟩
abbrev S2x2x2048 : Shape := ⟨3, ![2, 2, 2048]⟩
abbrev S2x2066x2048 : Shape := ⟨3, ![2, 2066, 2048]⟩
abbrev S1x2048 : Shape := ⟨2, ![1, 2048]⟩
abbrev S2048 : Shape := ⟨1, ![2048]⟩
abbrev S1x1x2048 : Shape := ⟨3, ![1, 1, 2048]⟩
abbrev S4128x2048 : Shape := ⟨2, ![4128, 2048]⟩
abbrev S4224x2048 : Shape := ⟨2, ![4224, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S3x2048, .f32⟩
  | .hbm, ⟨2, _⟩ => ⟨S2x2064x4096, .f32⟩
  | .hbm, ⟨3, _⟩ => ⟨S4128x8192, .f32⟩
  | .hbm, ⟨4, _⟩ => ⟨S2x2064x8192, .f32⟩
  | .hbm, ⟨5, _⟩ => ⟨S2x2064x2048, .f32⟩
  | .hbm, ⟨6, _⟩ => ⟨S2x2064x2048, .f32⟩
  | .hbm, ⟨7, _⟩ => ⟨S2x2064x2048, .f32⟩
  | .hbm, ⟨8, _⟩ => ⟨S2x2064x2048, .f32⟩
  | .hbm, ⟨9, _⟩ => ⟨S_, .f32⟩
  | .hbm, ⟨10, _⟩ => ⟨S2x2x2048, .f32⟩
  | .hbm, ⟨11, _⟩ => ⟨S2x2066x2048, .f32⟩
  | .hbm, ⟨12, _⟩ => ⟨S_, .f32⟩
  | .hbm, ⟨13, _⟩ => ⟨S2x2x2048, .f32⟩
  | .hbm, ⟨14, _⟩ => ⟨S2x2064x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S2x2064x2048, .f32⟩
  | .hbm, ⟨19, _⟩ => ⟨S2x2064x2048, .f32⟩
  | .hbm, ⟨20, _⟩ => ⟨S2x2064x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S2x2064x2048, .f32⟩
  | .hbm, ⟨25, _⟩ => ⟨S2x2064x2048, .f32⟩
  | .hbm, ⟨26, _⟩ => ⟨S2x2064x2048, .f32⟩
  | .hbm, ⟨27, _⟩ => ⟨S2x2064x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S2x2064x2048, .f32⟩
  | .hbm, ⟨32, _⟩ => ⟨S2x2064x2048, .f32⟩
  | .hbm, ⟨33, _⟩ => ⟨S2x2064x2048, .f32⟩
  | .hbm, ⟨34, _⟩ => ⟨S2x2064x2048, .f32⟩
  | .hbm, ⟨35, _⟩ => ⟨S2x2064x2048, .f32⟩
  | .hbm, ⟨36, _⟩ => ⟨S2x2064x2048, .f32⟩
  | .hbm, ⟨37, _⟩ => ⟨S2x2064x2048, .f32⟩
  | .hbm, ⟨38, _⟩ => ⟨S2x2064x2048, .f32⟩
  | .hbm, ⟨39, _⟩ => ⟨S_, .f32⟩
  | .hbm, ⟨40, _⟩ => ⟨S2048, .f32⟩
  | .hbm, ⟨41, _⟩ => ⟨S1x1x2048, .f32⟩
  | .hbm, ⟨42, _⟩ => ⟨S2x2064x2048, .f32⟩
  | .hbm, ⟨43, _⟩ => ⟨S2x2064x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S3x2048, .f32⟩
  | .hbm, ⟨49, _⟩ => ⟨S_, .f32⟩
  | .hbm, ⟨50, _⟩ => ⟨S2x2066x2048, .f32⟩
  | .hbm, ⟨51, _⟩ => ⟨S2x2064x2048, .f32⟩
  | .hbm, ⟨52, _⟩ => ⟨S_, .f32⟩
  | .hbm, ⟨53, _⟩ => ⟨S2048, .f32⟩
  | .hbm, ⟨54, _⟩ => ⟨S1x1x2048, .f32⟩
  | .hbm, ⟨55, _⟩ => ⟨S2x2064x2048, .f32⟩
  | .hbm, ⟨56, _⟩ => ⟨S2x2064x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S3x2048, .f32⟩
  | .hbm, ⟨62, _⟩ => ⟨S3x2048, .f32⟩
  | .hbm, ⟨63, _⟩ => ⟨S_, .f32⟩
  | .hbm, ⟨64, _⟩ => ⟨S2x2066x2048, .f32⟩
  | .hbm, ⟨65, _⟩ => ⟨S2x2066x2048, .f32⟩
  | .hbm, ⟨66, _⟩ => ⟨S2x2064x2048, .f32⟩
  | .hbm, ⟨67, _⟩ => ⟨S_, .f32⟩
  | .hbm, ⟨68, _⟩ => ⟨S2048, .f32⟩
  | .hbm, ⟨69, _⟩ => ⟨S1x1x2048, .f32⟩
  | .hbm, ⟨70, _⟩ => ⟨S2x2064x2048, .f32⟩
  | .hbm, ⟨71, _⟩ => ⟨S2x2064x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S3x2048, .f32⟩
  | .hbm, ⟨77, _⟩ => ⟨S3x2048, .f32⟩
  | .hbm, ⟨78, _⟩ => ⟨S_, .f32⟩
  | .hbm, ⟨79, _⟩ => ⟨S2x2066x2048, .f32⟩
  | .hbm, ⟨80, _⟩ => ⟨S2x2066x2048, .f32⟩
  | .hbm, ⟨81, _⟩ => ⟨S2x2x2048, .f32⟩
  | .hbm, ⟨82, _⟩ => ⟨S2x2064x2048, .f32⟩
  | .hbm, ⟨83, _⟩ => ⟨S2x2064x2048, .f32⟩
  | .hbm, ⟨84, _⟩ => ⟨S2x2064x2048, .f32⟩
  | .hbm, ⟨85, _⟩ => ⟨S4128x2048, .f32⟩
  | .hbm, ⟨86, _⟩ => ⟨S_, .i32⟩
  | .hbm, ⟨87, _⟩ => ⟨S_, .f32⟩
  | .hbm, ⟨88, _⟩ => ⟨S4224x2048, .f32⟩
  | .hbm, ⟨89, _⟩ => ⟨S4224x2048, .bf16⟩
  | .hbm, ⟨90, _⟩ => ⟨S4128x2048, .f32⟩
  | .hbm, ⟨91, _⟩ => ⟨S_, .i32⟩
  | .hbm, ⟨92, _⟩ => ⟨S_, .f32⟩
  | .hbm, ⟨93, _⟩ => ⟨S4224x2048, .f32⟩
  | .hbm, ⟨94, _⟩ => ⟨S4224x2048, .bf16⟩
  | .hbm, ⟨95, _⟩ => ⟨S4128x2048, .f32⟩
  | .hbm, ⟨96, _⟩ => ⟨S_, .i32⟩
  | .hbm, ⟨97, _⟩ => ⟨S_, .f32⟩
  | .hbm, ⟨98, _⟩ => ⟨S4224x2048, .f32⟩
  | .hbm, ⟨99, _⟩ => ⟨S4224x2048, .bf16⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c : Ref sig .tc := ⟨.hbm, 86, rfl⟩
abbrev main_call0_v0 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_13 : Ref sig .tc := ⟨.hbm, 91, rfl⟩
abbrev main_call1_v0 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_14 : Ref sig .tc := ⟨.hbm, 96, rfl⟩
abbrev main_call2_v0 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== OutY.lean ====
abbrev S4224x4096 : Shape := ⟨2, ![4224, 4096]⟩
abbrev S4096x4096 : Shape := ⟨2, ![4096, 4096]⟩
abbrev S8x512x4096 : Shape := ⟨3, ![8, 512, 4096]⟩
abbrev S1408x4096 : Shape := ⟨2, ![1408, 4096]⟩
abbrev S1x512x4096 : Shape := ⟨3, ![1, 512, 4096]⟩
abbrev S1408x512 : Shape := ⟨2, ![1408, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S8x512x4096, .bf16⟩
  | .hbm, ⟨3, _⟩ => ⟨S4224x4096, .f32⟩
  | .local _ .vmem, ⟨0, _⟩ => ⟨S1408x4096, .bf16⟩
  | .local _ .vmem, ⟨1, _⟩ => ⟨S1408x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1408x512, .f32⟩
  | .local _ .vmem, ⟨5, _⟩ => ⟨S1408x512, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutYRefIdeal.lean ====
abbrev S4224x4096 : Shape := ⟨2, ![4224, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4224x4096, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S4224x4096 : Shape := ⟨2, ![4224, 4096]⟩
abbrev S8x512x4096 : Shape := ⟨3, ![8, 512, 4096]⟩
abbrev S1408x512 : Shape := ⟨2, ![1408, 512]⟩
abbrev S1408x2048 : Shape := ⟨2, ![1408, 2048]⟩
abbrev S1x512x2048 : Shape := ⟨3, ![1, 512, 2048]⟩
abbrev S512x2048 : Shape := ⟨2, ![512, 2048]⟩
abbrev S64x2048 : Shape := ⟨2, ![64, 2048]⟩
abbrev S1x64x2048 : Shape := ⟨3, ![1, 64, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S8x512x4096, .bf16⟩
  | .local _ .vmem, ⟨0, _⟩ => ⟨S1408x512, .bf16⟩
  | .local _ .vmem, ⟨1, _⟩ => ⟨S1408x512, .bf16⟩
  | .local _ .vmem, ⟨2, _⟩ => ⟨S1408x2048, .bf16⟩
  | .local _ .vmem, ⟨3, _⟩ => ⟨S1408x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  v10
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v15 : Index := Scalar.indexCast v11
  let c0_7 : Index := 0#32
  ![0, v15.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4224x4096 : Shape := ⟨2, ![4224, 4096]⟩
abbrev S_ : Shape := ⟨0, ![]⟩
abbrev S4096x4096 : Shape := ⟨2, ![4096, 4096]⟩
abbrev S8x512x4096 : Shape := ⟨3, ![8, 512, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S_, .f32⟩
  | .hbm, ⟨3, _⟩ => ⟨S4096x4096, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4096x4096, .f32⟩
  | .hbm, ⟨8, _⟩ => ⟨S4096x4096, .f32⟩
  | .hbm, ⟨9, _⟩ => ⟨S8x512x4096, .f32⟩
  | .hbm, ⟨10, _⟩ => ⟨S8x512x4096, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InW.lean ====
abbrev S4224x4096 : Shape := ⟨2, ![4224, 4096]⟩
abbrev S4224x8192 : Shape := ⟨2, ![4224, 8192]⟩
abbrev S8x4096x1024 : Shape := ⟨3, ![8, 4096, 1024]⟩
abbrev S1408x2048 : Shape := ⟨2, ![1408, 2048]⟩
abbrev S1408x1024 : Shape := ⟨2, ![1408, 1024]⟩
abbrev S1x2048x1024 : Shape := ⟨3, ![1, 2048, 1024]⟩
abbrev S2048x1024 : Shape := ⟨2, ![2048, 1024]⟩
abbrev S64x1024 : Shape := ⟨2, ![64, 1024]⟩
abbrev S1x64x1024 : Shape := ⟨3, ![1, 64, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4224x8192, .bf16⟩
  | .hbm, ⟨2, _⟩ => ⟨S8x4096x1024, .bf16⟩
  | .local _ .vmem, ⟨0, _⟩ => ⟨S1408x2048, .bf16⟩
  | .local _ .vmem, ⟨1, _⟩ => ⟨S1408x2048, .bf16⟩
  | .local _ .vmem, ⟨2, _⟩ => ⟨S1408x1024, .bf16⟩
  | .local _ .vmem, ⟨3, _⟩ => ⟨S1408x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c32_i32 : BitVec 32 := 32#32
  let v9 : BitVec 32 := Scalar.addi c0_i32_4 c32_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  v10
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v15 : Index := Scalar.indexCast v11
  let c0_7 : Index := 0#32
  ![0, v15.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S4224x4096 : Shape := ⟨2, ![4224, 4096]⟩
abbrev S4224x8192 : Shape := ⟨2, ![4224, 8192]⟩
abbrev S_ : Shape := ⟨0, ![]⟩
abbrev S4096x8192 : Shape := ⟨2, ![4096, 8192]⟩
abbrev S8192x4096 : Shape := ⟨2, ![8192, 4096]⟩
abbrev S4096x8x1024 : Shape := ⟨3, ![4096, 8, 1024]⟩
abbrev S8x4096x1024 : Shape := ⟨3, ![8, 4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x8192, .bf16⟩
  | .hbm, ⟨2, _⟩ => ⟨S_, .f32⟩
  | .hbm, ⟨3, _⟩ => ⟨S4096x8192, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x8192, .f32⟩
  | .hbm, ⟨9, _⟩ => ⟨S4224x8192, .f32⟩
  | .hbm, ⟨10, _⟩ => ⟨S8192x4096, .f32⟩
  | .hbm, ⟨11, _⟩ => ⟨S4096x8192, .f32⟩
  | .hbm, ⟨12, _⟩ => ⟨S4096x8x1024, .f32⟩
  | .hbm, ⟨13, _⟩ => ⟨S8x4096x1024, .f32⟩
  | .hbm, ⟨14, _⟩ => ⟨S8x4096x1024, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InH.lean ====
abbrev S4224x8192 : Shape := ⟨2, ![4224, 8192]⟩
abbrev S4096x8192 : Shape := ⟨2, ![4096, 8192]⟩
abbrev S4224x4096 : Shape := ⟨2, ![4224, 4096]⟩
abbrev S4096x8x1024 : Shape := ⟨3, ![4096, 8, 1024]⟩
abbrev S8x4096x1024 : Shape := ⟨3, ![8, 4096, 1024]⟩
abbrev S1408x1024 : Shape := ⟨2, ![1408, 1024]⟩
abbrev S1x1024x1024 : Shape := ⟨3, ![1, 1024, 1024]⟩
abbrev S1024x1024 : Shape := ⟨2, ![1024, 1024]⟩
abbrev S64x1024 : Shape := ⟨2, ![64, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4224x8192, .bf16⟩
  | .hbm, ⟨1, _⟩ => ⟨S4096x8192, .bf16⟩
  | .hbm, ⟨2, _⟩ => ⟨S4224x4096, .f32⟩
  | .hbm, ⟨3, _⟩ => ⟨S4096x8x1024, .bf16⟩
  | .hbm, ⟨4, _⟩ => ⟨S8x4096x1024, .bf16⟩
  | .hbm, ⟨5, _⟩ => ⟨S4224x4096, .f32⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c22_i32 : BitVec 32 := 22#32
  let v9 : BitVec 32 := Scalar.addi c0_i32_4 c22_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InHRefIdeal.lean ====
abbrev S4224x8192 : Shape := ⟨2, ![4224, 8192]⟩
abbrev S4096x8192 : Shape := ⟨2, ![4096, 8192]⟩
abbrev S4224x4096 : Shape := ⟨2, ![4224, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S4096x8192, .bf16⟩
  | .hbm, ⟨2, _⟩ => ⟨S4224x4096, .f32⟩
  | .hbm, ⟨3, _⟩ => ⟨S4096x8192, .f32⟩
  | .hbm, ⟨4, _⟩ => ⟨S_, .f32⟩
  | .hbm, ⟨5, _⟩ => ⟨S4224x4096, .f32⟩
  | .hbm, ⟨6, _⟩ => ⟨S_, .f32⟩
  | .hbm, ⟨7, _⟩ => ⟨S4224x4096, .f32⟩
  | .hbm, ⟨8, _⟩ => ⟨S4224x4096, .f32⟩
  | .hbm, ⟨9, _⟩ => ⟨S4224x8192, .f32⟩
  | .hbm, ⟨10, _⟩ => ⟨S4224x8192, .f32⟩
  | .hbm, ⟨11, _⟩ => ⟨S4224x4096, .f32⟩
  | .hbm, ⟨12, _⟩ => ⟨S_, .f32⟩
  | .hbm, ⟨13, _⟩ => ⟨S4224x4096, .f32⟩
  | .hbm, ⟨14, _⟩ => ⟨S4224x4096, .f32⟩
  | .hbm, ⟨15, _⟩ => ⟨S4224x4096, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== MixIn.lean ====
abbrev S4224x2048 : Shape := ⟨2, ![4224, 2048]⟩
abbrev S4x512x512 : Shape := ⟨3, ![4, 512, 512]⟩
abbrev S1408x512 : Shape := ⟨2, ![1408, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4x512x512, .bf16⟩
  | .hbm, ⟨2, _⟩ => ⟨S4224x2048, .f32⟩
  | .local _ .vmem, ⟨0, _⟩ => ⟨S1408x512, .bf16⟩
  | .local _ .vmem, ⟨1, _⟩ => ⟨S1408x512, .bf16⟩
  | .local _ .vmem, ⟨2, _⟩ => ⟨S1x512x512, .bf16⟩
  | .local _ .vmem, ⟨3, _⟩ => ⟨S1x512x512, .bf16⟩
  | .local _ .vmem, ⟨4, _⟩ => ⟨S1408x512, .f32⟩
  | .local _ .vmem, ⟨5, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4224x2048 : Shape := ⟨2, ![4224, 2048]⟩
abbrev S4x512x512 : Shape := ⟨3, ![4, 512, 512]⟩
abbrev S_ : Shape := ⟨0, ![]⟩
abbrev S4224x4x512 : Shape := ⟨3, ![4224, 4, 512]⟩
abbrev S4x512x4224 : Shape := ⟨3, ![4, 512, 4224]⟩
abbrev S4x4224x512 : Shape := ⟨3, ![4, 4224, 512]⟩

abbrev nBuf : Space → Nat
  | .hbm => 15
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x512x512, .bf16⟩
  | .hbm, ⟨2, _⟩ => ⟨S4x512x512, .f32⟩
  | .hbm, ⟨3, _⟩ => ⟨S_, .f32⟩
  | .hbm, ⟨4, _⟩ => ⟨S4224x2048, .f32⟩
  | .hbm, ⟨5, _⟩ => ⟨S4224x4x512, .f32⟩
  | .hbm, ⟨6, _⟩ => ⟨S4x512x4224, .f32⟩
  | .hbm, ⟨7, _⟩ => ⟨S4224x4x512, .f32⟩
  | .hbm, ⟨8, _⟩ => ⟨S4224x2048, .f32⟩
  | .hbm, ⟨9, _⟩ => ⟨S4224x2048, .f32⟩
  | .hbm, ⟨10, _⟩ => ⟨S4224x4x512, .f32⟩
  | .hbm, ⟨11, _⟩ => ⟨S4x512x4224, .f32⟩
  | .hbm, ⟨12, _⟩ => ⟨S4x4224x512, .f32⟩
  | .hbm, ⟨13, _⟩ => ⟨S4224x4x512, .f32⟩
  | .hbm, ⟨14, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MixW.lean ====
abbrev S4224x2048 : Shape := ⟨2, ![4224, 2048]⟩
abbrev S4x512x512 : Shape := ⟨3, ![4, 512, 512]⟩
abbrev S1408x512 : Shape := ⟨2, ![1408, 512]⟩
abbrev S1x512x512 : Shape := ⟨3, ![1, 512, 512]⟩
abbrev S512x512 : Shape := ⟨2, ![512, 512]⟩
abbrev S64x512 : Shape := ⟨2, ![64, 512]⟩
abbrev S1x64x512 : Shape := ⟨3, ![1, 64, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4x512x512, .f32⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg6 : BitVec 32 := Scf.iv c0_i32_4 c1_i32 k0_t1
  let c64_i32 : BitVec 32 := 64#32
  let v10 : BitVec 32 := Scalar.muli arg6 c64_i32
  v10
def k0_off1 (k0_t1 : Fin k0_t1_loop.trips) : Fin 2 → Nat :=
  let c0_i32_4 : BitVec 32 := 0#32
  let c1_i32 : BitVec 32 := 1#32
  let arg6 : BitVec 32 := Scf.iv c0_i32_4 c1_i32 k0_t1
  let c64_i32 : BitVec 32 := 64#32
  let v10 : BitVec 32 := Scalar.muli arg6 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg6 : BitVec 32 := Scf.iv c0_i32_4 c1_i32 k0_t1
  let c64_i32 : BitVec 32 := 64#32
  let v10 : BitVec 32 := Scalar.muli arg6 c64_i32
  let v11 : BitVec 32 := v10
  let v14 : Index := Scalar.indexCast v11
  let c0_7 : Index := 0#32
  ![0, v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MixWRefIdeal.lean ====
abbrev S4224x2048 : Shape := ⟨2, ![4224, 2048]⟩
abbrev S_ : Shape := ⟨0, ![]⟩
abbrev S4x512x512 : Shape := ⟨3, ![4, 512, 512]⟩
abbrev S4224x4x512 : Shape := ⟨3, ![4224, 4, 512]⟩
abbrev S4x512x4224 : Shape := ⟨3, ![4, 512, 4224]⟩

abbrev nBuf : Space → Nat
  | .hbm => 14
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S4x512x512, .f32⟩
  | .hbm, ⟨4, _⟩ => ⟨S4224x2048, .f32⟩
  | .hbm, ⟨5, _⟩ => ⟨S4224x4x512, .f32⟩
  | .hbm, ⟨6, _⟩ => ⟨S4x512x4224, .f32⟩
  | .hbm, ⟨7, _⟩ => ⟨S4224x4x512, .f32⟩
  | .hbm, ⟨8, _⟩ => ⟨S4224x2048, .f32⟩
  | .hbm, ⟨9, _⟩ => ⟨S4224x2048, .f32⟩
  | .hbm, ⟨10, _⟩ => ⟨S4224x4x512, .f32⟩
  | .hbm, ⟨11, _⟩ => ⟨S4x512x4224, .f32⟩
  | .hbm, ⟨12, _⟩ => ⟨S4x512x512, .f32⟩
  | .hbm, ⟨13, _⟩ => ⟨S4x512x512, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Scale.lean ====
abbrev S4224x4096 : Shape := ⟨2, ![4224, 4096]⟩
abbrev S4224x2048 : Shape := ⟨2, ![4224, 2048]⟩
abbrev S1x2048 : Shape := ⟨2, ![1, 2048]⟩
abbrev S128x2048 : Shape := ⟨2, ![128, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4224x4096, .f32⟩
  | .hbm, ⟨1, _⟩ => ⟨S4224x2048, .f32⟩
  | .hbm, ⟨2, _⟩ => ⟨S1x2048, .f32⟩
  | .hbm, ⟨3, _⟩ => ⟨S4224x2048, .bf16⟩
  | .hbm, ⟨4, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .bf16⟩
  | .local _ .vmem, ⟨6, _⟩ => ⟨S128x2048, .bf16⟩
  | .local _ .vmem, ⟨7, _⟩ => ⟨S1x2048, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ScaleRefIdeal.lean ====
abbrev S4224x4096 : Shape := ⟨2, ![4224, 4096]⟩
abbrev S4224x2048 : Shape := ⟨2, ![4224, 2048]⟩
abbrev S1x2048 : Shape := ⟨2, ![1, 2048]⟩
abbrev S2048 : Shape := ⟨1, ![2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S4224x2048, .f32⟩
  | .hbm, ⟨6, _⟩ => ⟨S4224x2048, .f32⟩
  | .hbm, ⟨7, _⟩ => ⟨S4224x2048, .f32⟩
  | .hbm, ⟨8, _⟩ => ⟨S4224x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S4224x2048, .f32⟩
  | .hbm, ⟨13, _⟩ => ⟨S4224x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S4224x2048, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Down.lean ====
abbrev S4x4224x2752 : Shape := ⟨3, ![4, 4224, 2752]⟩
abbrev S11008x4096 : Shape := ⟨2, ![11008, 4096]⟩
abbrev S4224x4096 : Shape := ⟨2, ![4224, 4096]⟩
abbrev S4x2752x4096 : Shape := ⟨3, ![4, 2752, 4096]⟩
abbrev S1x704x2752 : Shape := ⟨3, ![1, 704, 2752]⟩
abbrev S1x2752x1024 : Shape := ⟨3, ![1, 2752, 1024]⟩
abbrev S704x1024 : Shape := ⟨2, ![704, 1024]⟩
abbrev S704x2752 : Shape := ⟨2, ![704, 2752]⟩
abbrev S2752x1024 : Shape := ⟨2, ![2752, 1024]⟩
abbrev S64x1024 : Shape := ⟨2, ![64, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4x4224x2752, .bf16⟩
  | .hbm, ⟨1, _⟩ => ⟨S11008x4096, .bf16⟩
  | .hbm, ⟨2, _⟩ => ⟨S4224x4096, .f32⟩
  | .hbm, ⟨3, _⟩ => ⟨S4x2752x4096, .bf16⟩
  | .hbm, ⟨4, _⟩ => ⟨S4224x4096, .f32⟩
  | .local _ .vmem, ⟨0, _⟩ => ⟨S1x704x2752, .bf16⟩
  | .local _ .vmem, ⟨1, _⟩ => ⟨S1x704x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | _, _ => ⟨S4x4224x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x704x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4x4224x2752 : Shape := ⟨3, ![4, 4224, 2752]⟩
abbrev S11008x4096 : Shape := ⟨2, ![11008, 4096]⟩
abbrev S4224x4096 : Shape := ⟨2, ![4224, 4096]⟩
abbrev S_ : Shape := ⟨0, ![]⟩
abbrev S4224x4x2752 : Shape := ⟨3, ![4224, 4, 2752]⟩
abbrev S4224x11008 : Shape := ⟨2, ![4224, 11008]⟩

abbrev nBuf : Space → Nat
  | .hbm => 15
  | .vmem => 0
  | .smem => 0
  | _ => 0

abbrev bufTy : (tb : Table) → Fin (tcTables nBuf tb) → BufTy
  | .hbm, ⟨0, _⟩ => ⟨S4x4224x2752, .bf16⟩
  | .hbm, ⟨1, _⟩ => ⟨S11008x4096, .bf16⟩
  | .hbm, ⟨2, _⟩ => ⟨S4224x4096, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S4x4224x2752, .f32⟩
  | .hbm, ⟨7, _⟩ => ⟨S4224x4x2752, .f32⟩
  | .hbm, ⟨8, _⟩ => ⟨S4224x11008, .f32⟩
  | .hbm, ⟨9, _⟩ => ⟨S11008x4096, .f32⟩
  | .hbm, ⟨10, _⟩ => ⟨S4224x4096, .f32⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S4224x4096, .f32⟩
  | _, _ => ⟨S4x4224x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ProjIn.lean ====
abbrev S4224x4096 : Shape := ⟨2, ![4224, 4096]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S4224x8192 : Shape := ⟨2, ![4224, 8192]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩
abbrev S64x1024 : Shape := ⟨2, ![64, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x4096, .bf16⟩
  | .hbm, ⟨1, _⟩ => ⟨S4096x8192, .bf16⟩
  | .hbm, ⟨2, _⟩ => ⟨S4096x8x1024, .bf16⟩
  | .hbm, ⟨3, _⟩ => ⟨S8x4096x1024, .bf16⟩
  | .hbm, ⟨4, _⟩ => ⟨S4224x8192, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c22_i32 : BitVec 32 := 22#32
  let v9 : BitVec 32 := Scalar.addi c0_i32_4 c22_i32
  let c1_i32_5 : BitVec 32 := 1#32
  ⟨c0_i32_4, v9, c1_i32_5⟩
def k0_mult1 (k0_t1 : Fin k0_t1_loop.trips) : BitVec 32 :=
  let c0_i32_4 : BitVec 32 := 0#32
  let c1_i32_5 : BitVec 32 := 1#32
  let arg7 : BitVec 32 := Scf.iv c0_i32_4 c1_i32_5 k0_t1
  let c64_i32 : BitVec 32 := 64#32
  let v10 : BitVec 32 := Scalar.muli arg7 c64_i32
  v10
def k0_off1 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c64_i32 : BitVec 32 := 64#32
  let v10 : BitVec 32 := Scalar.muli arg7 c64_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S4224x4096 : Shape := ⟨2, ![4224, 4096]⟩
abbrev S4096x8192 : Shape := ⟨2, ![4096, 8192]⟩
abbrev S_ : Shape := ⟨0, ![]⟩
abbrev S4224x8192 : Shape := ⟨2, ![4224, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x8192, .bf16⟩
  | .hbm, ⟨2, _⟩ => ⟨S4224x4096, .f32⟩
  | .hbm, ⟨3, _⟩ => ⟨S4096x8192, .f32⟩
  | .hbm, ⟨4, _⟩ => ⟨S_, .f32⟩
  | .hbm, ⟨5, _⟩ => ⟨S4224x4096, .f32⟩
  | .hbm, ⟨6, _⟩ => ⟨S4224x4096, .f32⟩
  | .hbm, ⟨7, _⟩ => ⟨S4224x8192, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjOut.lean ====
abbrev S4224x4096 : Shape := ⟨2, ![4224, 4096]⟩
abbrev S4096x4096 : Shape := ⟨2, ![4096, 4096]⟩
abbrev S8x512x4096 : Shape := ⟨3, ![8, 512, 4096]⟩
abbrev S1408x2048 : Shape := ⟨2, ![1408, 2048]⟩
abbrev S2048x1024 : Shape := ⟨2, ![2048, 1024]⟩
abbrev S1408x1024 : Shape := ⟨2, ![1408, 1024]⟩
abbrev S64x1024 : Shape := ⟨2, ![64, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S8x512x4096, .bf16⟩
  | .hbm, ⟨4, _⟩ => ⟨S4096x4096, .bf16⟩
  | .hbm, ⟨5, _⟩ => ⟨S4224x4096, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c22_i32 : BitVec 32 := 22#32
  let v9 : BitVec 32 := Scalar.addi c0_i32_4 c22_i32
  let c1_i32_5 : BitVec 32 := 1#32
  ⟨c0_i32_4, v9, c1_i32_5⟩
def k0_mult1 (k0_t1 : Fin k0_t1_loop.trips) : BitVec 32 :=
  let c0_i32_4 : BitVec 32 := 0#32
  let c1_i32_5 : BitVec 32 := 1#32
  let arg8 : BitVec 32 := Scf.iv c0_i32_4 c1_i32_5 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjOutRefIdeal.lean ====
abbrev S4224x4096 : Shape := ⟨2, ![4224, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x4096, .bf16⟩
  | .hbm, ⟨2, _⟩ => ⟨S4224x4096, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S4224x4096, .f32⟩
  | .hbm, ⟨7, _⟩ => ⟨S4096x4096, .f32⟩
  | .hbm, ⟨8, _⟩ => ⟨S4224x4096, .f32⟩
  | .hbm, ⟨9, _⟩ => ⟨S4224x4096, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== PoolMix.lean ====
abbrev S4224x2048 : Shape := ⟨2, ![4224, 2048]⟩
abbrev S4x512x512 : Shape := ⟨3, ![4, 512, 512]⟩
abbrev S1x2048 : Shape := ⟨2, ![1, 2048]⟩
abbrev S1408x512 : Shape := ⟨2, ![1408, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4224x2048, .bf16⟩
  | .hbm, ⟨1, _⟩ => ⟨S4x512x512, .bf16⟩
  | .hbm, ⟨2, _⟩ => ⟨S1x2048, .f32⟩
  | .hbm, ⟨3, _⟩ => ⟨S4224x2048, .f32⟩
  | .hbm, ⟨4, _⟩ => ⟨S4224x2048, .bf16⟩
  | .local _ .vmem, ⟨0, _⟩ => ⟨S1408x512, .bf16⟩
  | .local _ .vmem, ⟨1, _⟩ => ⟨S1408x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1408x512, .f32⟩
  | .local _ .vmem, ⟨7, _⟩ => ⟨S1408x512, .f32⟩
  | .local _ .vmem, ⟨8, _⟩ => ⟨S1408x512, .bf16⟩
  | .local _ .vmem, ⟨9, _⟩ => ⟨S1408x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== PoolMixRefIdeal.lean ====
abbrev S4224x2048 : Shape := ⟨2, ![4224, 2048]⟩
abbrev S4x512x512 : Shape := ⟨3, ![4, 512, 512]⟩
abbrev S1x2048 : Shape := ⟨2, ![1, 2048]⟩
abbrev S4224x4x512 : Shape := ⟨3, ![4224, 4, 512]⟩
abbrev S4x512x4224 : Shape := ⟨3, ![4, 512, 4224]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x512x512, .bf16⟩
  | .hbm, ⟨2, _⟩ => ⟨S1x2048, .f32⟩
  | .hbm, ⟨3, _⟩ => ⟨S4224x2048, .f32⟩
  | .hbm, ⟨4, _⟩ => ⟨S4x512x512, .f32⟩
  | .hbm, ⟨5, _⟩ => ⟨S4224x4x512, .f32⟩
  | .hbm, ⟨6, _⟩ => ⟨S4x512x4224, .f32⟩
  | .hbm, ⟨7, _⟩ => ⟨S4224x4x512, .f32⟩
  | .hbm, ⟨8, _⟩ => ⟨S4224x2048, .f32⟩
  | .hbm, ⟨9, _⟩ => ⟨S2048, .f32⟩
  | .hbm, ⟨10, _⟩ => ⟨S1x2048, .f32⟩
  | .hbm, ⟨11, _⟩ => ⟨S4224x2048, .f32⟩
  | .hbm, ⟨12, _⟩ => ⟨S4224x2048, .f32⟩
  | .hbm, ⟨13, _⟩ => ⟨S4224x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Gu.lean ====
abbrev S4224x4096 : Shape := ⟨2, ![4224, 4096]⟩
abbrev S4096x22016 : Shape := ⟨2, ![4096, 22016]⟩
abbrev S4096x8x2752 : Shape := ⟨3, ![4096, 8, 2752]⟩
abbrev S8x4096x2752 : Shape := ⟨3, ![8, 4096, 2752]⟩
abbrev S4x2x4224x2752 : Shape := ⟨4, ![4, 2, 4224, 2752]⟩
abbrev S4x4224x2752 : Shape := ⟨3, ![4, 4224, 2752]⟩
abbrev S528x1024 : Shape := ⟨2, ![528, 1024]⟩
abbrev S1x1024x2752 : Shape := ⟨3, ![1, 1024, 2752]⟩
abbrev S1x2x528x2752 : Shape := ⟨4, ![1, 2, 528, 2752]⟩
abbrev S1x528x2752 : Shape := ⟨3, ![1, 528, 2752]⟩
abbrev S528x2752 : Shape := ⟨2, ![528, 2752]⟩
abbrev S1024x2752 : Shape := ⟨2, ![1024, 2752]⟩
abbrev S48x2752 : Shape := ⟨2, ![48, 2752]⟩
abbrev S1x1x48x2752 : Shape := ⟨4, ![1, 1, 48, 2752]⟩
abbrev S1x48x2752 : Shape := ⟨3, ![1, 48, 2752]⟩

abbrev nBuf : Space → Nat
  | .hbm => 6
  | .vmem => 12
  | .smem => 0
  | _ => 0

abbrev bufTy : (tb : Table) → Fin (tcTables nBuf tb) → BufTy
  | .hbm, ⟨0, _⟩ => ⟨S4224x4096, .bf16⟩
  | .hbm, ⟨1, _⟩ => ⟨S4096x22016, .bf16⟩
  | .hbm, ⟨2, _⟩ => ⟨S4096x8x2752, .bf16⟩
  | .hbm, ⟨3, _⟩ => ⟨S8x4096x2752, .bf16⟩
  | .hbm, ⟨4, _⟩ => ⟨S4x2x4224x2752, .bf16⟩
  | .hbm, ⟨5, _⟩ => ⟨S4x4224x2752, .bf16⟩
  | .local _ .vmem, ⟨0, _⟩ => ⟨S528x1024, .bf16⟩
  | .local _ .vmem, ⟨1, _⟩ => ⟨S528x1024, .bf16⟩
  | .local _ .vmem, ⟨2, _⟩ => ⟨S1x1024x2752, .bf16⟩
  | .local _ .vmem, ⟨3, _⟩ => ⟨S1x1024x2752, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1x2x528x2752, .bf16⟩
  | .local _ .vmem, ⟨7, _⟩ => ⟨S1x2x528x2752, .bf16⟩
  | .local _ .vmem, ⟨8, _⟩ => ⟨S1x528x2752, .bf16⟩
  | .local _ .vmem, ⟨9, _⟩ => ⟨S1x528x2752, .bf16⟩
  | .local _ .vmem, ⟨10, _⟩ => ⟨S528x2752, .f32⟩
  | .local _ .vmem, ⟨11, _⟩ => ⟨S528x2752, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  v10
def k0_off1 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  let v11 : BitVec 32 := v10
  let v12 : Index := Scalar.indexCast v11
  let c0 : Index := 0#32
  ![v12.toNat, 0]
def k0_off2 (k0_t1 : Fin k0_t1_loop.trips) : Fin 4 → Nat :=
  let c0_9 : Index := 0#32
  let c0_10 : Index := 0#32
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  let v11 : BitVec 32 := v10
  let v25 : Index := Scalar.indexCast v11
  let c0_11 : Index := 0#32
  ![0, 0, v25.toNat, 0]
def k0_off3 (k0_t1 : Fin k0_t1_loop.trips) : Fin 4 → Nat :=
  let c0_12 : Index := 0#32
  let c1 : Index := 1#32
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  let v11 : BitVec 32 := v10
  let v30 : Index := Scalar.indexCast v11
  let c0_13 : Index := 0#32
  ![0, 1, v30.toNat, 0]
def k0_off4 (k0_t1 : Fin k0_t1_loop.trips) : Fin 3 → Nat :=
  let c0_14 : Index := 0#32
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  let v11 : BitVec 32 := v10
  let v36 : Index := Scalar.indexCast v11
  let c0_15 : Index := 0#32
  ![0, v36.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![v0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2x528x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x528x2752 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GuRefIdeal.lean ====
abbrev S4224x4096 : Shape := ⟨2, ![4224, 4096]⟩
abbrev S4096x22016 : Shape := ⟨2, ![4096, 22016]⟩
abbrev S4224x22016 : Shape := ⟨2, ![4224, 22016]⟩
abbrev S4224x11008 : Shape := ⟨2, ![4224, 11008]⟩
abbrev S_ : Shape := ⟨0, ![]⟩
abbrev S4224x4x2752 : Shape := ⟨3, ![4224, 4, 2752]⟩
abbrev S4x4224x2752 : Shape := ⟨3, ![4, 4224, 2752]⟩
abbrev S4x1x4224x2752 : Shape := ⟨4, ![4, 1, 4224, 2752]⟩
abbrev S4x2x4224x2752 : Shape := ⟨4, ![4, 2, 4224, 2752]⟩

abbrev nBuf : Space → Nat
  | .hbm => 29
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4096x22016, .bf16⟩
  | .hbm, ⟨2, _⟩ => ⟨S4224x4096, .f32⟩
  | .hbm, ⟨3, _⟩ => ⟨S4096x22016, .f32⟩
  | .hbm, ⟨4, _⟩ => ⟨S4224x22016, .f32⟩
  | .hbm, ⟨5, _⟩ => ⟨S4224x11008, .f32⟩
  | .hbm, ⟨6, _⟩ => ⟨S4224x11008, .f32⟩
  | .hbm, ⟨7, _⟩ => ⟨S4224x11008, .f32⟩
  | .hbm, ⟨8, _⟩ => ⟨S4224x11008, .f32⟩
  | .hbm, ⟨9, _⟩ => ⟨S_, .f32⟩
  | .hbm, ⟨10, _⟩ => ⟨S4224x11008, .f32⟩
  | .hbm, ⟨11, _⟩ => ⟨S4224x11008, .f32⟩
  | .hbm, ⟨12, _⟩ => ⟨S_, .f32⟩
  | .hbm, ⟨13, _⟩ => ⟨S4224x11008, .f32⟩
  | .hbm, ⟨14, _⟩ => ⟨S4224x11008, .f32⟩
  | .hbm, ⟨15, _⟩ => ⟨S4224x11008, .f32⟩
  | .hbm, ⟨16, _⟩ => ⟨S4224x11008, .f32⟩
  | .hbm, ⟨17, _⟩ => ⟨S4224x4x2752, .f32⟩
  | .hbm, ⟨18, _⟩ => ⟨S4x4224x2752, .f32⟩
  | .hbm, ⟨19, _⟩ => ⟨S4x4224x2752, .bf16⟩
  | .hbm, ⟨20, _⟩ => ⟨S4224x4x2752, .f32⟩
  | .hbm, ⟨21, _⟩ => ⟨S4x4224x2752, .f32⟩
  | .hbm, ⟨22, _⟩ => ⟨S4x4224x2752, .bf16⟩
  | .hbm, ⟨23, _⟩ => ⟨S4224x4x2752, .f32⟩
  | .hbm, ⟨24, _⟩ => ⟨S4x4224x2752, .f32⟩
  | .hbm, ⟨25, _⟩ => ⟨S4x4224x2752, .bf16⟩
  | .hbm, ⟨26, _⟩ => ⟨S4x1x4224x2752, .bf16⟩
  | .hbm, ⟨27, _⟩ => ⟨S4x1x4224x2752, .bf16⟩
  | .hbm, ⟨28, _⟩ => ⟨S4x2x4224x2752, .bf16⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Ln.lean ====
abbrev S4224x4096 : Shape := ⟨2, ![4224, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S1x4096, .f32⟩
  | .hbm, ⟨3, _⟩ => ⟨S4224x4096, .f32⟩
  | .hbm, ⟨4, _⟩ => ⟨S4224x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnRefIdeal.lean ====
abbrev S4224x4096 : Shape := ⟨2, ![4224, 4096]⟩
abbrev S1x4096 : Shape := ⟨2, ![1, 4096]⟩
abbrev S4096 : Shape := ⟨1, ![4096]⟩
abbrev S_ : Shape := ⟨0, ![]⟩
abbrev S4224 : Shape := ⟨1, ![4224]⟩
abbrev S4224x1 : Shape := ⟨2, ![4224, 1]⟩

abbrev nBuf : Space → Nat
  | .hbm => 33
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S1x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S4224x4096, .f32⟩
  | .hbm, ⟨12, _⟩ => ⟨S4224x4096, .f32⟩
  | .hbm, ⟨13, _⟩ => ⟨S4224x4096, .f32⟩
  | .hbm, ⟨14, _⟩ => ⟨S_, .f32⟩
  | .hbm, ⟨15, _⟩ => ⟨S4224, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S4224x4096, .f32⟩
  | .hbm, ⟨25, _⟩ => ⟨S4224x4096, .f32⟩
  | .hbm, ⟨26, _⟩ => ⟨S1x4096, .f32⟩
  | .hbm, ⟨27, _⟩ => ⟨S4224x4096, .f32⟩
  | .hbm, ⟨28, _⟩ => ⟨S4224x4096, .f32⟩
  | .hbm, ⟨29, _⟩ => ⟨S1x4096, .f32⟩
  | .hbm, ⟨30, _⟩ => ⟨S4224x4096, .f32⟩
  | .hbm, ⟨31, _⟩ => ⟨S4224x4096, .f32⟩
  | .hbm, ⟨32, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Pool.lean ====
abbrev S2x2064x2048 : Shape := ⟨3, ![2, 2064, 2048]⟩
abbrev S4128x2048 : Shape := ⟨2, ![4128, 2048]⟩
abbrev S_ : Shape := ⟨0, ![]⟩
abbrev S4224x2048 : Shape := ⟨2, ![4224, 2048]⟩
abbrev S4224x128 : Shape := ⟨2, ![4224, 128]⟩
abbrev S4224x1 : Shape := ⟨2, ![4224, 1]⟩

abbrev nBuf : Space → Nat
  | .hbm => 6
  | .vmem => 4
  | .smem => 0
  | _ => 0

abbrev bufTy : (tb : Table) → Fin (tcTables nBuf tb) → BufTy
  | .hbm, ⟨0, _⟩ => ⟨S2x2064x2048, .f32⟩
  | .hbm, ⟨1, _⟩ => ⟨S4128x2048, .f32⟩
  | .hbm, ⟨2, _⟩ => ⟨S_, .i32⟩
  | .hbm, ⟨3, _⟩ => ⟨S_, .f32⟩
  | .hbm, ⟨4, _⟩ => ⟨S4224x2048, .f32⟩
  | .hbm, ⟨5, _⟩ => ⟨S4224x2048, .bf16⟩
  | .local _ .vmem, ⟨0, _⟩ => ⟨S4224x128, .f32⟩
  | .local _ .vmem, ⟨1, _⟩ => ⟨S4224x128, .f32⟩
  | .local _ .vmem, ⟨2, _⟩ => ⟨S4224x128, .bf16⟩
  | .local _ .vmem, ⟨3, _⟩ => ⟨S4224x128, .bf16⟩
  | _, _ => ⟨S2x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolRefIdeal.lean ====
abbrev S2x2064x2048 : Shape := ⟨3, ![2, 2064, 2048]⟩
abbrev S2x2064x4x512 : Shape := ⟨4, ![2, 2064, 4, 512]⟩
abbrev S_ : Shape := ⟨0, ![]⟩
abbrev S2x2064x1x512 : Shape := ⟨4, ![2, 2064, 1, 512]⟩
abbrev S2x2064x512 : Shape := ⟨3, ![2, 2064, 512]⟩
abbrev S2x2x512 : Shape := ⟨3, ![2, 2, 512]⟩
abbrev S2x2066x512 : Shape := ⟨3, ![2, 2066, 512]⟩
abbrev S2064 : Shape := ⟨1, ![2064]⟩
abbrev S1x2064x1 : Shape := ⟨3, ![1, 2064, 1]⟩
abbrev S2x4x512 : Shape := ⟨3, ![2, 4, 512]⟩
abbrev S2x2068x512 : Shape := ⟨3, ![2, 2068, 512]⟩
abbrev S2x8x512 : Shape := ⟨3, ![2, 8, 512]⟩
abbrev S2x2072x512 : Shape := ⟨3, ![2, 2072, 512]⟩
abbrev S2x16x512 : Shape := ⟨3, ![2, 16, 512]⟩
abbrev S2x2080x512 : Shape := ⟨3, ![2, 2080, 512]⟩
abbrev S4128x2048 : Shape := ⟨2, ![4128, 2048]⟩
abbrev S4224x2048 : Shape := ⟨2, ![4224, 2048]⟩

abbrev nBuf : Space → Nat
  | .hbm => 178
  | .vmem => 0
  | .smem => 0
  | _ => 0

abbrev hbmTy0_0 (i : Nat) : BufTy := match i % 128 with
  | 0 => ⟨S2x2064x2048, .f32⟩
  | 1 => ⟨S2x2064x4x512, .f32⟩
  | 2 => ⟨S_, .f32⟩
  | 3 => ⟨S2x2064x2048, .f32⟩
  | 4 => ⟨S2x2064x4x512, .f32⟩
  | 5 => ⟨S2x2064x1x512, .f32⟩
  | 6 => ⟨S2x2064x512, .f32⟩
  | 7 => ⟨S_, .f32⟩
  | 8 => ⟨S_, .f32⟩
  | 9 => ⟨S2x2064x512, .f32⟩
  | 10 => ⟨S_, .f32⟩
  | 11 => ⟨S2x2x512, .f32⟩
  | 12 => ⟨S2x2066x512, .f32⟩
  | 13 => ⟨S_, .f32⟩
  | 14 => ⟨S2x2x512, .f32⟩
  | 15 => ⟨S2x2064x512, .f32⟩
  | 16 => ⟨S2064, .i32⟩
  | 17 => ⟨S_, .i32⟩
  | 18 => ⟨S2064, .i32⟩
  | 19 => ⟨S2064, .i32⟩
  | 20 => ⟨S_, .i32⟩
  | 21 => ⟨S2064, .i32⟩
  | 22 => ⟨S2064, .i32⟩
  | 23 => ⟨S2064, .f32⟩
  | 24 => ⟨S2x2064x512, .f32⟩
  | 25 => ⟨S1x2064x1, .f32⟩
  | 26 => ⟨S2x2064x512, .f32⟩
  | 27 => ⟨S2x2064x512, .f32⟩
  | 28 => ⟨S2x2064x1x512, .f32⟩
  | 29 => ⟨S2x2064x512, .f32⟩
  | 30 => ⟨S_, .f32⟩
  | 31 => ⟨S_, .f32⟩
  | 32 => ⟨S2x2064x512, .f32⟩
  | 33 => ⟨S_, .f32⟩
  | 34 => ⟨S2x4x512, .f32⟩
  | 35 => ⟨S2x2068x512, .f32⟩
  | 36 => ⟨S_, .f32⟩
  | 37 => ⟨S2x4x512, .f32⟩
  | 38 => ⟨S2x2064x512, .f32⟩
  | 39 => ⟨S2064, .i32⟩
  | 40 => ⟨S_, .i32⟩
  | 41 => ⟨S2064, .i32⟩
  | 42 => ⟨S2064, .i32⟩
  | 43 => ⟨S_, .i32⟩
  | 44 => ⟨S2064, .i32⟩
  | 45 => ⟨S2064, .i32⟩
  | 46 => ⟨S2064, .f32⟩
  | 47 => ⟨S2x2064x512, .f32⟩
  | 48 => ⟨S1x2064x1, .f32⟩
  | 49 => ⟨S2x2064x512, .f32⟩
  | 50 => ⟨S2x2064x512, .f32⟩
  | 51 => ⟨S2x2064x1x512, .f32⟩
  | 52 => ⟨S2x2064x512, .f32⟩
  | 53 => ⟨S_, .f32⟩
  | 54 => ⟨S_, .f32⟩
  | 55 => ⟨S2x2064x512, .f32⟩
  | 56 => ⟨S_, .f32⟩
  | 57 => ⟨S2x8x512, .f32⟩
  | 58 => ⟨S2x2072x512, .f32⟩
  | 59 => ⟨S_, .f32⟩
  | 60 => ⟨S2x8x512, .f32⟩
  | 61 => ⟨S2x2064x512, .f32⟩
  | 62 => ⟨S2064, .i32⟩
  | 63 => ⟨S_, .i32⟩
  | 64 => ⟨S2064, .i32⟩
  | 65 => ⟨S2064, .i32⟩
  | 66 => ⟨S_, .i32⟩
  | 67 => ⟨S2064, .i32⟩
  | 68 => ⟨S2064, .i32⟩
  | 69 => ⟨S2064, .f32⟩
  | 70 => ⟨S2x2064x512, .f32⟩
  | 71 => ⟨S1x2064x1, .f32⟩
  | 72 => ⟨S2x2064x512, .f32⟩
  | 73 => ⟨S2x2064x512, .f32⟩
  | 74 => ⟨S2x2064x1x512, .f32⟩
  | 75 => ⟨S2x2064x512, .f32⟩
  | 76 => ⟨S_, .f32⟩
  | 77 => ⟨S_, .f32⟩
  | 78 => ⟨S2x2064x512, .f32⟩
  | 79 => ⟨S_, .f32⟩
  | 80 => ⟨S2x16x512, .f32⟩
  | 81 => ⟨S2x2080x512, .f32⟩
  | 82 => ⟨S_, .f32⟩
  | 83 => ⟨S2x16x512, .f32⟩
  | 84 => ⟨S2x2064x512, .f32⟩
  | 85 => ⟨S2064, .i32⟩
  | 86 => ⟨S_, .i32⟩
  | 87 => ⟨S2064, .i32⟩
  | 88 => ⟨S2064, .i32⟩
  | 89 => ⟨S_, .i32⟩
  | 90 => ⟨S2064, .i32⟩
  | 91 => ⟨S2064, .i32⟩
  | 92 => ⟨S2064, .f32⟩
  | 93 => ⟨S2x2064x512, .f32⟩
  | 94 => ⟨S1x2064x1, .f32⟩
  | 95 => ⟨S2x2064x512, .f32⟩
  | 96 => ⟨S2x2064x512, .f32⟩
  | 97 => ⟨S2x2064x1x512, .f32⟩
  | 98 => ⟨S2x2064x1x512, .f32⟩
  | 99 => ⟨S2x2064x1x512, .f32⟩
  | 100 => ⟨S2x2064x1x512, .f32⟩
  | 101 => ⟨S2x2064x4x512, .f32⟩
  | 102 => ⟨S2x2064x4x512, .f32⟩
  | 103 => ⟨S2x2064x4x512, .f32⟩
  | 104 => ⟨S2x2064x1x512, .f32⟩
  | 105 => ⟨S2x2064x512, .f32⟩
  | 106 => ⟨S2x2064x1x512, .f32⟩
  | 107 => ⟨S2x2064x512, .f32⟩
  | 108 => ⟨S2x2064x1x512, .f32⟩
  | 109 => ⟨S2x2064x512, .f32⟩
  | 110 => ⟨S2x2064x1x512, .f32⟩
  | 111 => ⟨S2x2064x512, .f32⟩
  | 112 => ⟨S2x2064x512, .f32⟩
  | 113 => ⟨S2x2064x512, .f32⟩
  | 114 => ⟨S2x2064x512, .f32⟩
  | 115 => ⟨S_, .f32⟩
  | 116 => ⟨S2x2080x512, .f32⟩
  | 117 => ⟨S2x16x512, .f32⟩
  | 118 => ⟨S2x2064x512, .f32⟩
  | 119 => ⟨S2x2064x512, .f32⟩
  | 120 => ⟨S_, .f32⟩
  | 121 => ⟨S_, .f32⟩
  | 122 => ⟨S2x2064x512, .f32⟩
  | 123 => ⟨S2x2064x1x512, .f32⟩
  | 124 => ⟨S_, .f32⟩
  | 125 => ⟨S2x2064x4x512, .f32⟩
  | 126 => ⟨S2x2064x4x512, .f32⟩
  | 127 => ⟨S2x2064x512, .f32⟩
  | _ => ⟨S2x2064x2048, .f32⟩

abbrev hbmTy0_1 (i : Nat) : BufTy := match i % 128 with
  | 0 => ⟨S2x2064x512, .f32⟩
  | 1 => ⟨S2x2064x512, .f32⟩
  | 2 => ⟨S_, .f32⟩
  | 3 => ⟨S2x2072x512, .f32⟩
  | 4 => ⟨S2x8x512, .f32⟩
  | 5 => ⟨S2x2064x512, .f32⟩
  | 6 => ⟨S2x2064x512, .f32⟩
  | 7 => ⟨S_, .f32⟩
  | 8 => ⟨S_, .f32⟩
  | 9 => ⟨S2x2064x512, .f32⟩
  | 10 => ⟨S2x2064x1x512, .f32⟩
  | 11 => ⟨S_, .f32⟩
  | 12 => ⟨S2x2064x4x512, .f32⟩
  | 13 => ⟨S2x2064x4x512, .f32⟩
  | 14 => ⟨S2x2064x512, .f32⟩
  | 15 => ⟨S2x2064x512, .f32⟩
  | 16 => ⟨S2x2064x512, .f32⟩
  | 17 => ⟨S_, .f32⟩
  | 18 => ⟨S2x2068x512, .f32⟩
  | 19 => ⟨S2x4x512, .f32⟩
  | 20 => ⟨S2x2064x512, .f32⟩
  | 21 => ⟨S2x2064x512, .f32⟩
  | 22 => ⟨S_, .f32⟩
  | 23 => ⟨S_, .f32⟩
  | 24 => ⟨S2x2064x512, .f32⟩
  | 25 => ⟨S2x2064x1x512, .f32⟩
  | 26 => ⟨S_, .f32⟩
  | 27 => ⟨S2x2064x4x512, .f32⟩
  | 28 => ⟨S2x2064x4x512, .f32⟩
  | 29 => ⟨S2x2064x512, .f32⟩
  | 30 => ⟨S2x2064x512, .f32⟩
  | 31 => ⟨S2x2064x512, .f32⟩
  | 32 => ⟨S_, .f32⟩
  | 33 => ⟨S2x2066x512, .f32⟩
  | 34 => ⟨S2x2x512, .f32⟩
  | 35 => ⟨S2x2064x512, .f32⟩
  | 36 => ⟨S2x2064x512, .f32⟩
  | 37 => ⟨S_, .f32⟩
  | 38 => ⟨S_, .f32⟩
  | 39 => ⟨S2x2064x512, .f32⟩
  | 40 => ⟨S2x2064x1x512, .f32⟩
  | 41 => ⟨S_, .f32⟩
  | 42 => ⟨S2x2064x4x512, .f32⟩
  | 43 => ⟨S2x2064x4x512, .f32⟩
  | 44 => ⟨S2x2064x2048, .f32⟩
  | 45 => ⟨S4128x2048, .f32⟩
  | 46 => ⟨S_, .i32⟩
  | 47 => ⟨S_, .f32⟩
  | 48 => ⟨S4224x2048, .f32⟩
  | 49 => ⟨S4224x2048, .bf16⟩
  | _ => ⟨S2x2064x2048, .f32⟩

abbrev hbmTy (i : Nat) : BufTy := match i / 128 with
  | 0 => hbmTy0_0 i
  | 1 => hbmTy0_1 i
  | _ => ⟨S2x2064x2048, .f32⟩

abbrev bufTy : (tb : Table) → Fin (tcTables nBuf tb) → BufTy
  | .hbm, ⟨i, _⟩ => hbmTy i
  | _, _ => ⟨S2x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_call0_cst : Ref sig .tc := ⟨.hbm, 7, rfl⟩
abbrev main_call0_call0_v0 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call1_call0_cst : Ref sig .tc := ⟨.hbm, 30, rfl⟩
abbrev main_call1_call0_v0 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call2_call0_cst : Ref sig .tc := ⟨.hbm, 53, rfl⟩
abbrev main_call2_call0_v0 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call3_call0_cst : Ref sig .tc := ⟨.hbm, 76, rfl⟩
abbrev main_call3_call0_v0 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call4_call0_cst : Ref sig .tc := ⟨.hbm, 120, rfl⟩
abbrev main_call4_call0_v0 : Ref sig .tc := ⟨.hbm, 121, rfl⟩
abbrev main_v93 : Ref sig .tc := ⟨.hbm, 122, rfl⟩
abbrev main_v94 : Ref sig .tc := ⟨.hbm, 123, rfl⟩
abbrev main_cst_16 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_17 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_call5_call0_cst : Ref sig .tc := ⟨.hbm, 135, rfl⟩
abbrev main_call5_call0_v0 : Ref sig .tc := ⟨.hbm, 136, rfl⟩
abbrev main_v104 : Ref sig .tc := ⟨.hbm, 137, rfl⟩
abbrev main_v105 : Ref sig .tc := ⟨.hbm, 138, rfl⟩
abbrev main_cst_18 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_19 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_call6_call0_cst : Ref sig .tc := ⟨.hbm, 150, rfl⟩
abbrev main_call6_call0_v0 : Ref sig .tc := ⟨.hbm, 151, rfl⟩
abbrev main_v115 : Ref sig .tc := ⟨.hbm, 152, rfl⟩
abbrev main_v116 : Ref sig .tc := ⟨.hbm, 153, rfl⟩
abbrev main_cst_20 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_21 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_call7_call0_cst : Ref sig .tc := ⟨.hbm, 165, rfl⟩
abbrev main_call7_call0_v0 : Ref sig .tc := ⟨.hbm, 166, rfl⟩
abbrev main_v126 : Ref sig .tc := ⟨.hbm, 167, rfl⟩
abbrev main_v127 : Ref sig .tc := ⟨.hbm, 168, rfl⟩
abbrev main_cst_22 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_c_23 : Ref sig .tc := ⟨.hbm, 174, rfl⟩
abbrev main_call8_v0 : Ref sig .tc := ⟨.hbm, 175, rfl⟩
abbrev main_v132 : Ref sig .tc := ⟨.hbm, 176, rfl⟩
abbrev main_v133 : Ref sig .tc := ⟨.hbm, 177, rfl⟩

abbrev nD : Nat := 1
abbrev τ : Topo := Topo.v7x

variable {F : FTy → Type} [FloatOps F]
-- ==== LnB.lean ====
abbrev S4224x4096 : Shape := ⟨2, ![4224, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 7
  | .vmem => 11
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S1x4096, .f32⟩
  | .hbm, ⟨3, _⟩ => ⟨S4224x4096, .f32⟩
  | .hbm, ⟨4, _⟩ => ⟨S4224x4096, .bf16⟩
  | .hbm, ⟨5, _⟩ => ⟨S1x4096, .f32⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | .local _ .vmem, ⟨9, _⟩ => ⟨S1x4096, .f32⟩
  | .local _ .vmem, ⟨10, _⟩ => ⟨S1x4096, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_18 : BitVec 32 := 0#32
  let v45 : BitVec 1 := Scalar.cmpi .ne v44 c0_i32_18
  v45

def k0_cond2 (i : grid0.Coords) : BitVec 1 :=
  let arg0 : BitVec 32 := BitVec.ofNat 32 (i 0).val
  let c0_i32_19 : BitVec 32 := 0#32
  let v46 : BitVec 1 := Scalar.cmpi .sgt arg0 c0_i32_19
  let v47 : BitVec 32 := Scalar.extui v46
  let c0_i32_20 : BitVec 32 := 0#32
  let v48 : BitVec 1 := Scalar.cmpi .ne v47 c0_i32_20
  v48

def k0_cond3 (i : grid0.Coords) : BitVec 1 :=
  let arg0 : BitVec 32 := BitVec.ofNat 32 (i 0).val
  let c0_i32_22 : BitVec 32 := 0#32
  let v51 : BitVec 1 := Scalar.cmpi .eq arg0 c0_i32_22
  let v52 : BitVec 32 := Scalar.extui v51
  let c0_i32_23 : BitVec 32 := 0#32
  let v53 : BitVec 1 := Scalar.cmpi .ne v52 c0_i32_23
  v53

def k0_cond4 (i : grid0.Coords) : BitVec 1 :=
  let arg0 : BitVec 32 := BitVec.ofNat 32 (i 0).val
  let c0_i32_24 : BitVec 32 := 0#32
  let v54 : BitVec 1 := Scalar.cmpi .sgt arg0 c0_i32_24
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBRefIdeal.lean ====
abbrev S4224x4096 : Shape := ⟨2, ![4224, 4096]⟩
abbrev S1x4096 : Shape := ⟨2, ![1, 4096]⟩
abbrev S_ : Shape := ⟨0, ![]⟩
abbrev S4096 : Shape := ⟨1, ![4096]⟩
abbrev S4224 : Shape := ⟨1, ![4224]⟩
abbrev S4224x1 : Shape := ⟨2, ![4224, 1]⟩

abbrev nBuf : Space → Nat
  | .hbm => 84
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S1x4096, .f32⟩
  | .hbm, ⟨3, _⟩ => ⟨S_, .f32⟩
  | .hbm, ⟨4, _⟩ => ⟨S1x4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x4096, .f32⟩
  | .hbm, ⟨14, _⟩ => ⟨S4224x4096, .f32⟩
  | .hbm, ⟨15, _⟩ => ⟨S4224x4096, .f32⟩
  | .hbm, ⟨16, _⟩ => ⟨S_, .f32⟩
  | .hbm, ⟨17, _⟩ => ⟨S4224x4096, .f32⟩
  | .hbm, ⟨18, _⟩ => ⟨S4224x4096, .f32⟩
  | .hbm, ⟨19, _⟩ => ⟨S_, .f32⟩
  | .hbm, ⟨20, _⟩ => ⟨S4224, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S4224x1, .f32⟩
  | .hbm, ⟨29, _⟩ => ⟨S4224x1, .f32⟩
  | .hbm, ⟨30, _⟩ => ⟨S_, .f32⟩
  | .hbm, ⟨31, _⟩ => ⟨S4224x1, .f32⟩
  | .hbm, ⟨32, _⟩ => ⟨S4224x1, .f32⟩
  | .hbm, ⟨33, _⟩ => ⟨S4224x4096, .f32⟩
  | .hbm, ⟨34, _⟩ => ⟨S4224x4096, .f32⟩
  | .hbm, ⟨35, _⟩ => ⟨S1x4096, .f32⟩
  | .hbm, ⟨36, _⟩ => ⟨S4224x4096, .f32⟩
  | .hbm, ⟨37, _⟩ => ⟨S4224x4096, .f32⟩
  | .hbm, ⟨38, _⟩ => ⟨S1x4096, .f32⟩
  | .hbm, ⟨39, _⟩ => ⟨S4224x4096, .f32⟩
  | .hbm, ⟨40, _⟩ => ⟨S4224x4096, .f32⟩
  | .hbm, ⟨41, _⟩ => ⟨S4224x4096, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S_, .f32⟩
  | .hbm, ⟨46, _⟩ => ⟨S4096, .f32⟩
  | .hbm, ⟨47, _⟩ => ⟨S4224x4096, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S4224x4096, .f32⟩
  | .hbm, ⟨52, _⟩ => ⟨S4224x4096, .f32⟩
  | .hbm, ⟨53, _⟩ => ⟨S_, .f32⟩
  | .hbm, ⟨54, _⟩ => ⟨S4096, .f32⟩
  | .hbm, ⟨55, _⟩ => ⟨S4224x4096, .f32⟩
  | .hbm, ⟨56, _⟩ => ⟨S_, .f32⟩
  | .hbm, ⟨57, _⟩ => ⟨S4224, .f32⟩
  | .hbm, ⟨58, _⟩ => ⟨S4224x1, .f32⟩
  | .hbm, ⟨59, _⟩ => ⟨S4224x4096, .f32⟩
  | .hbm, ⟨60, _⟩ => ⟨S4224x4096, .f32⟩
  | .hbm, ⟨61, _⟩ => ⟨S4224x1, .f32⟩
  | .hbm, ⟨62, _⟩ => ⟨S_, .f32⟩
  | .hbm, ⟨63, _⟩ => ⟨S4224x1, .f32⟩
  | .hbm, ⟨64, _⟩ => ⟨S4224x1, .f32⟩
  | .hbm, ⟨65, _⟩ => ⟨S_, .f32⟩
  | .hbm, ⟨66, _⟩ => ⟨S4224, .f32⟩
  | .hbm, ⟨67, _⟩ => ⟨S4224x4096, .f32⟩
  | .hbm, ⟨68, _⟩ => ⟨S4224x4096, .f32⟩
  | .hbm, ⟨69, _⟩ => ⟨S4224x4096, .f32⟩
  | .hbm, ⟨70, _⟩ => ⟨S4224x4096, .f32⟩
  | .hbm, ⟨71, _⟩ => ⟨S_, .f32⟩
  | .hbm, ⟨72, _⟩ => ⟨S4224, .f32⟩
  | .hbm, ⟨73, _⟩ => ⟨S4224x1, .f32⟩
  | .hbm, ⟨74, _⟩ => ⟨S_, .f32⟩
  | .hbm, ⟨75, _⟩ => ⟨S4224x1, .f32⟩
  | .hbm, ⟨76, _⟩ => ⟨S4224x1, .f32⟩
  | .hbm, ⟨77, _⟩ => ⟨S_, .f32⟩
  | .hbm, ⟨78, _⟩ => ⟨S4224, .f32⟩
  | .hbm, ⟨79, _⟩ => ⟨S4224x4096, .f32⟩
  | .hbm, ⟨80, _⟩ => ⟨S4224x4096, .f32⟩
  | .hbm, ⟨81, _⟩ => ⟨S1x4096, .f32⟩
  | .hbm, ⟨82, _⟩ => ⟨S1x4096, .f32⟩
  | .hbm, ⟨83, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_cst_16 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== ConvF.lean ====
abbrev S2x2064x8192 : Shape := ⟨3, ![2, 2064, 8192]⟩
abbrev S3x2048 : Shape := ⟨2, ![3, 2048]⟩
abbrev S4128x8192 : Shape := ⟨2, ![4128, 8192]⟩
abbrev S_ : Shape := ⟨0, ![]⟩
abbrev S4224x8192 : Shape := ⟨2, ![4224, 8192]⟩
abbrev S4224x2048 : Shape := ⟨2, ![4224, 2048]⟩
abbrev S4224x128 : Shape := ⟨2, ![4224, 128]⟩
abbrev S3x128 : Shape := ⟨2, ![3, 128]⟩
abbrev S4224x1 : Shape := ⟨2, ![4224, 1]⟩
abbrev S1x128 : Shape := ⟨2, ![1, 128]⟩

abbrev nBuf : Space → Nat
  | .hbm => 7
  | .vmem => 10
  | .smem => 0
  | _ => 0

abbrev bufTy : (tb : Table) → Fin (tcTables nBuf tb) → BufTy
  | .hbm, ⟨0, _⟩ => ⟨S2x2064x8192, .f32⟩
  | .hbm, ⟨1, _⟩ => ⟨S3x2048, .f32⟩
  | .hbm, ⟨2, _⟩ => ⟨S4128x8192, .f32⟩
  | .hbm, ⟨3, _⟩ => ⟨S_, .i32⟩
  | .hbm, ⟨4, _⟩ => ⟨S_, .f32⟩
  | .hbm, ⟨5, _⟩ => ⟨S4224x8192, .f32⟩
  | .hbm, ⟨6, _⟩ => ⟨S4224x2048, .bf16⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S3x128, .f32⟩
  | .local _ .vmem, ⟨7, _⟩ => ⟨S3x128, .f32⟩
  | .local _ .vmem, ⟨8, _⟩ => ⟨S4224x128, .bf16⟩
  | .local _ .vmem, ⟨9, _⟩ => ⟨S4224x128, .bf16⟩
  | _, _ => ⟨S2x2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFRefIdeal.lean ====
abbrev S2x2064x8192 : Shape := ⟨3, ![2, 2064, 8192]⟩
abbrev S3x2048 : Shape := ⟨2, ![3, 2048]⟩
abbrev S2x2064x2048 : Shape := ⟨3, ![2, 2064, 2048]⟩
abbrev S_ : Shape := ⟨0, ![]⟩
abbrev S2x2x2048 : Shape := ⟨3, ![2, 2, 2048]⟩
abbrev S2x2066x2048 : Shape := ⟨3, ![2, 2066, 2048]⟩
abbrev S1x2048 : Shape := ⟨2, ![1, 2048]⟩
abbrev S2048 : Shape := ⟨1, ![2048]⟩
abbrev S1x1x2048 : Shape := ⟨3, ![1, 1, 2048]⟩
abbrev S4128x2048 : Shape := ⟨2, ![4128, 2048]⟩
abbrev S4224x2048 : Shape := ⟨2, ![4224, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x2064x8192, .f32⟩
  | .hbm, ⟨1, _⟩ => ⟨S3x2048, .f32⟩
  | .hbm, ⟨2, _⟩ => ⟨S2x2064x2048, .f32⟩
  | .hbm, ⟨3, _⟩ => ⟨S2x2064x2048, .f32⟩
  | .hbm, ⟨4, _⟩ => ⟨S2x2064x2048, .f32⟩
  | .hbm, ⟨5, _⟩ => ⟨S2x2064x2048, .f32⟩
  | .hbm, ⟨6, _⟩ => ⟨S_, .f32⟩
  | .hbm, ⟨7, _⟩ => ⟨S2x2x2048, .f32⟩
  | .hbm, ⟨8, _⟩ => ⟨S2x2066x2048, .f32⟩
  | .hbm, ⟨9, _⟩ => ⟨S2x2064x2048, .f32⟩
  | .hbm, ⟨10, _⟩ => ⟨S1x2048, .f32⟩
  | .hbm, ⟨11, _⟩ => ⟨S2048, .f32⟩
  | .hbm, ⟨12, _⟩ => ⟨S1x1x2048, .f32⟩
  | .hbm, ⟨13, _⟩ => ⟨S2x2064x2048, .f32⟩
  | .hbm, ⟨14, _⟩ => ⟨S2x2064x2048, .f32⟩
  | .hbm, ⟨15, _⟩ => ⟨S2x2064x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S2x2064x2048, .f32⟩
  | .hbm, ⟨20, _⟩ => ⟨S2x2064x2048, .f32⟩
  | .hbm, ⟨21, _⟩ => ⟨S2x2064x2048, .f32⟩
  | .hbm, ⟨22, _⟩ => ⟨S2x2064x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S2x2064x2048, .f32⟩
  | .hbm, ⟨27, _⟩ => ⟨S2x2064x2048, .f32⟩
  | .hbm, ⟨28, _⟩ => ⟨S2x2064x2048, .f32⟩
  | .hbm, ⟨29, _⟩ => ⟨S2x2064x2048, .f32⟩
  | .hbm, ⟨30, _⟩ => ⟨S4128x2048, .f32⟩
  | .hbm, ⟨31, _⟩ => ⟨S_, .i32⟩
  | .hbm, ⟨32, _⟩ => ⟨S_, .f32⟩
  | .hbm, ⟨33, _⟩ => ⟨S4224x2048, .f32⟩
  | .hbm, ⟨34, _⟩ => ⟨S4224x2048, .bf16⟩
  | _, _ => ⟨S2x2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_c : Ref sig .tc := ⟨.hbm, 31, rfl⟩
abbrev main_call0_v0 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Sum.lean ====
abbrev S8x16x4096 : Shape := ⟨3, ![8, 16, 4096]⟩
abbrev S16x4096 : Shape := ⟨2, ![16, 4096]⟩
abbrev S1x16x4096 : Shape := ⟨3, ![1, 16, 4096]⟩

abbrev nBuf : Space → Nat
  | .hbm => 2
  | .vmem => 2
  | .smem => 0
  | _ => 0

abbrev bufTy : (tb : Table) → Fin (tcTables nBuf tb) → BufTy
  | .hbm, ⟨0, _⟩ => ⟨S8x16x4096, .f32⟩
  | .hbm, ⟨1, _⟩ => ⟨S16x4096, .f32⟩
  | .local _ .vmem, ⟨0, _⟩ => ⟨S8x16x4096, .f32⟩
  | .local _ .vmem, ⟨1, _⟩ => ⟨S16x4096, .f32⟩
  | _, _ => ⟨S8x16x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRefIdeal.lean ====
abbrev S8x16x4096 : Shape := ⟨3, ![8, 16, 4096]⟩
abbrev S_ : Shape := ⟨0, ![]⟩
abbrev S16x4096 : Shape := ⟨2, ![16, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S_, .f32⟩
  | .hbm, ⟨2, _⟩ => ⟨S16x4096, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PoolF.lean ====
abbrev S4224x8192 : Shape := ⟨2, ![4224, 8192]⟩
abbrev S4224x2048 : Shape := ⟨2, ![4224, 2048]⟩
abbrev S4224x128 : Shape := ⟨2, ![4224, 128]⟩
abbrev S4224x1 : Shape := ⟨2, ![4224, 1]⟩

abbrev nBuf : Space → Nat
  | .hbm => 2
  | .vmem => 4
  | .smem => 0
  | _ => 0

abbrev bufTy : (tb : Table) → Fin (tcTables nBuf tb) → BufTy
  | .hbm, ⟨0, _⟩ => ⟨S4224x8192, .f32⟩
  | .hbm, ⟨1, _⟩ => ⟨S4224x2048, .bf16⟩
  | .local _ .vmem, ⟨0, _⟩ => ⟨S4224x128, .f32⟩
  | .local _ .vmem, ⟨1, _⟩ => ⟨S4224x128, .f32⟩
  | .local _ .vmem, ⟨2, _⟩ => ⟨S4224x128, .bf16⟩
  | .local _ .vmem, ⟨3, _⟩ => ⟨S4224x128, .bf16⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolFRefIdeal.lean ====
abbrev S4224x8192 : Shape := ⟨2, ![4224, 8192]⟩
abbrev S4224x2048 : Shape := ⟨2, ![4224, 2048]⟩
abbrev S2160x2048 : Shape := ⟨2, ![2160, 2048]⟩
abbrev S1x2160x2048 : Shape := ⟨3, ![1, 2160, 2048]⟩
abbrev S2x2160x2048 : Shape := ⟨3, ![2, 2160, 2048]⟩
abbrev S2x2160x4x512 : Shape := ⟨4, ![2, 2160, 4, 512]⟩
abbrev S2x2160x1x512 : Shape := ⟨4, ![2, 2160, 1, 512]⟩
abbrev S2x2160x512 : Shape := ⟨3, ![2, 2160, 512]⟩
abbrev S_ : Shape := ⟨0, ![]⟩
abbrev S2x2x512 : Shape := ⟨3, ![2, 2, 512]⟩
abbrev S2x2162x512 : Shape := ⟨3, ![2, 2162, 512]⟩
abbrev S2160 : Shape := ⟨1, ![2160]⟩
abbrev S1x2160x1 : Shape := ⟨3, ![1, 2160, 1]⟩
abbrev S2x4x512 : Shape := ⟨3, ![2, 4, 512]⟩
abbrev S2x2164x512 : Shape := ⟨3, ![2, 2164, 512]⟩
abbrev S2x8x512 : Shape := ⟨3, ![2, 8, 512]⟩
abbrev S2x2168x512 : Shape := ⟨3, ![2, 2168, 512]⟩
abbrev S2x16x512 : Shape := ⟨3, ![2, 16, 512]⟩
abbrev S2x2176x512 : Shape := ⟨3, ![2, 2176, 512]⟩
abbrev S1x2064x4x512 : Shape := ⟨4, ![1, 2064, 4, 512]⟩
abbrev S2064x4x512 : Shape := ⟨3, ![2064, 4, 512]⟩
abbrev S1x2160x4x512 : Shape := ⟨4, ![1, 2160, 4, 512]⟩
abbrev S2160x4x512 : Shape := ⟨3, ![2160, 4, 512]⟩
abbrev S4224x4x512 : Shape := ⟨3, ![4224, 4, 512]⟩

abbrev nBuf : Space → Nat
  | .hbm => 105
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S4224x2048, .f32⟩
  | .hbm, ⟨2, _⟩ => ⟨S2160x2048, .f32⟩
  | .hbm, ⟨3, _⟩ => ⟨S2160x2048, .f32⟩
  | .hbm, ⟨4, _⟩ => ⟨S1x2160x2048, .f32⟩
  | .hbm, ⟨5, _⟩ => ⟨S1x2160x2048, .f32⟩
  | .hbm, ⟨6, _⟩ => ⟨S2x2160x2048, .f32⟩
  | .hbm, ⟨7, _⟩ => ⟨S2x2160x4x512, .f32⟩
  | .hbm, ⟨8, _⟩ => ⟨S2x2160x1x512, .f32⟩
  | .hbm, ⟨9, _⟩ => ⟨S2x2160x512, .f32⟩
  | .hbm, ⟨10, _⟩ => ⟨S_, .f32⟩
  | .hbm, ⟨11, _⟩ => ⟨S_, .f32⟩
  | .hbm, ⟨12, _⟩ => ⟨S2x2160x512, .f32⟩
  | .hbm, ⟨13, _⟩ => ⟨S_, .f32⟩
  | .hbm, ⟨14, _⟩ => ⟨S2x2x512, .f32⟩
  | .hbm, ⟨15, _⟩ => ⟨S2x2162x512, .f32⟩
  | .hbm, ⟨16, _⟩ => ⟨S2x2160x512, .f32⟩
  | .hbm, ⟨17, _⟩ => ⟨S2160, .i32⟩
  | .hbm, ⟨18, _⟩ => ⟨S_, .i32⟩
  | .hbm, ⟨19, _⟩ => ⟨S2160, .i32⟩
  | .hbm, ⟨20, _⟩ => ⟨S2160, .i32⟩
  | .hbm, ⟨21, _⟩ => ⟨S_, .i32⟩
  | .hbm, ⟨22, _⟩ => ⟨S2160, .i32⟩
  | .hbm, ⟨23, _⟩ => ⟨S2160, .i32⟩
  | .hbm, ⟨24, _⟩ => ⟨S2160, .f32⟩
  | .hbm, ⟨25, _⟩ => ⟨S2x2160x512, .f32⟩
  | .hbm, ⟨26, _⟩ => ⟨S1x2160x1, .f32⟩
  | .hbm, ⟨27, _⟩ => ⟨S2x2160x512, .f32⟩
  | .hbm, ⟨28, _⟩ => ⟨S2x2160x512, .f32⟩
  | .hbm, ⟨29, _⟩ => ⟨S2x2160x1x512, .f32⟩
  | .hbm, ⟨30, _⟩ => ⟨S2x2160x512, .f32⟩
  | .hbm, ⟨31, _⟩ => ⟨S_, .f32⟩
  | .hbm, ⟨32, _⟩ => ⟨S_, .f32⟩
  | .hbm, ⟨33, _⟩ => ⟨S2x2160x512, .f32⟩
  | .hbm, ⟨34, _⟩ => ⟨S_, .f32⟩
  | .hbm, ⟨35, _⟩ => ⟨S2x4x512, .f32⟩
  | .hbm, ⟨36, _⟩ => ⟨S2x2164x512, .f32⟩
  | .hbm, ⟨37, _⟩ => ⟨S2x2160x512, .f32⟩
  | .hbm, ⟨38, _⟩ => ⟨S2160, .i32⟩
  | .hbm, ⟨39, _⟩ => ⟨S_, .i32⟩
  | .hbm, ⟨40, _⟩ => ⟨S2160, .i32⟩
  | .hbm, ⟨41, _⟩ => ⟨S2160, .i32⟩
  | .hbm, ⟨42, _⟩ => ⟨S_, .i32⟩
  | .hbm, ⟨43, _⟩ => ⟨S2160, .i32⟩
  | .hbm, ⟨44, _⟩ => ⟨S2160, .i32⟩
  | .hbm, ⟨45, _⟩ => ⟨S2160, .f32⟩
  | .hbm, ⟨46, _⟩ => ⟨S2x2160x512, .f32⟩
  | .hbm, ⟨47, _⟩ => ⟨S1x2160x1, .f32⟩
  | .hbm, ⟨48, _⟩ => ⟨S2x2160x512, .f32⟩
  | .hbm, ⟨49, _⟩ => ⟨S2x2160x512, .f32⟩
  | .hbm, ⟨50, _⟩ => ⟨S2x2160x1x512, .f32⟩
  | .hbm, ⟨51, _⟩ => ⟨S2x2160x512, .f32⟩
  | .hbm, ⟨52, _⟩ => ⟨S_, .f32⟩
  | .hbm, ⟨53, _⟩ => ⟨S_, .f32⟩
  | .hbm, ⟨54, _⟩ => ⟨S2x2160x512, .f32⟩
  | .hbm, ⟨55, _⟩ => ⟨S_, .f32⟩
  | .hbm, ⟨56, _⟩ => ⟨S2x8x512, .f32⟩
  | .hbm, ⟨57, _⟩ => ⟨S2x2168x512, .f32⟩
  | .hbm, ⟨58, _⟩ => ⟨S2x2160x512, .f32⟩
  | .hbm, ⟨59, _⟩ => ⟨S2160, .i32⟩
  | .hbm, ⟨60, _⟩ => ⟨S_, .i32⟩
  | .hbm, ⟨61, _⟩ => ⟨S2160, .i32⟩
  | .hbm, ⟨62, _⟩ => ⟨S2160, .i32⟩
  | .hbm, ⟨63, _⟩ => ⟨S_, .i32⟩
  | .hbm, ⟨64, _⟩ => ⟨S2160, .i32⟩
  | .hbm, ⟨65, _⟩ => ⟨S2160, .i32⟩
  | .hbm, ⟨66, _⟩ => ⟨S2160, .f32⟩
  | .hbm, ⟨67, _⟩ => ⟨S2x2160x512, .f32⟩
  | .hbm, ⟨68, _⟩ => ⟨S1x2160x1, .f32⟩
  | .hbm, ⟨69, _⟩ => ⟨S2x2160x512, .f32⟩
  | .hbm, ⟨70, _⟩ => ⟨S2x2160x512, .f32⟩
  | .hbm, ⟨71, _⟩ => ⟨S2x2160x1x512, .f32⟩
  | .hbm, ⟨72, _⟩ => ⟨S2x2160x512, .f32⟩
  | .hbm, ⟨73, _⟩ => ⟨S_, .f32⟩
  | .hbm, ⟨74, _⟩ => ⟨S_, .f32⟩
  | .hbm, ⟨75, _⟩ => ⟨S2x2160x512, .f32⟩
  | .hbm, ⟨76, _⟩ => ⟨S_, .f32⟩
  | .hbm, ⟨77, _⟩ => ⟨S2x16x512, .f32⟩
  | .hbm, ⟨78, _⟩ => ⟨S2x2176x512, .f32⟩
  | .hbm, ⟨79, _⟩ => ⟨S2x2160x512, .f32⟩
  | .hbm, ⟨80, _⟩ => ⟨S2160, .i32⟩
  | .hbm, ⟨81, _⟩ => ⟨S_, .i32⟩
  | .hbm, ⟨82, _⟩ => ⟨S2160, .i32⟩
  | .hbm, ⟨83, _⟩ => ⟨S2160, .i32⟩
  | .hbm, ⟨84, _⟩ => ⟨S_, .i32⟩
  | .hbm, ⟨85, _⟩ => ⟨S2160, .i32⟩
  | .hbm, ⟨86, _⟩ => ⟨S2160, .i32⟩
  | .hbm, ⟨87, _⟩ => ⟨S2160, .f32⟩
  | .hbm, ⟨88, _⟩ => ⟨S2x2160x512, .f32⟩
  | .hbm, ⟨89, _⟩ => ⟨S1x2160x1, .f32⟩
  | .hbm, ⟨90, _⟩ => ⟨S2x2160x512, .f32⟩
  | .hbm, ⟨91, _⟩ => ⟨S2x2160x512, .f32⟩
  | .hbm, ⟨92, _⟩ => ⟨S2x2160x1x512, .f32⟩
  | .hbm, ⟨93, _⟩ => ⟨S2x2160x1x512, .f32⟩
  | .hbm, ⟨94, _⟩ => ⟨S2x2160x1x512, .f32⟩
  | .hbm, ⟨95, _⟩ => ⟨S2x2160x1x512, .f32⟩
  | .hbm, ⟨96, _⟩ => ⟨S2x2160x4x512, .f32⟩
  | .hbm, ⟨97, _⟩ => ⟨S2x2160x4x512, .f32⟩
  | .hbm, ⟨98, _⟩ => ⟨S1x2064x4x512, .f32⟩
  | .hbm, ⟨99, _⟩ => ⟨S2064x4x512, .f32⟩
  | .hbm, ⟨100, _⟩ => ⟨S1x2160x4x512, .f32⟩
  | .hbm, ⟨101, _⟩ => ⟨S2160x4x512, .f32⟩
  | .hbm, ⟨102, _⟩ => ⟨S4224x4x512, .f32⟩
  | .hbm, ⟨103, _⟩ => ⟨S4224x2048, .f32⟩
  | .hbm, ⟨104, _⟩ => ⟨S4224x2048, .bf16⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_call0_call0_cst : Ref sig .tc := ⟨.hbm, 10, rfl⟩
abbrev main_call0_call0_v0 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call1_call0_cst : Ref sig .tc := ⟨.hbm, 31, rfl⟩
abbrev main_call1_call0_v0 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call2_call0_cst : Ref sig .tc := ⟨.hbm, 52, rfl⟩
abbrev main_call2_call0_v0 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call3_call0_cst : Ref sig .tc := ⟨.hbm, 73, rfl⟩
abbrev main_call3_call0_v0 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_8 : Ref sig .tc := ⟨.hbm, 81, rfl⟩
abbrev main_v62 : Ref sig .tc := ⟨.hbm, 82, rfl⟩
abbrev main_v63 : Ref sig .tc := ⟨.hbm, 83, rfl⟩
abbrev main_c_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Loss.lean ====
abbrev S4224x4096 : Shape := ⟨2, ![4224, 4096]⟩
abbrev S2x2048x4096 : Shape := ⟨3, ![2, 2048, 4096]⟩
abbrev S1x4096 : Shape := ⟨2, ![1, 4096]⟩
abbrev S_ : Shape := ⟨0, ![]⟩
abbrev S2x2064x4096 : Shape := ⟨3, ![2, 2064, 4096]⟩
abbrev S4128x4096 : Shape := ⟨2, ![4128, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 16
  | .vmem => 13
  | .smem => 0
  | _ => 0

abbrev bufTy : (tb : Table) → Fin (tcTables nBuf tb) → BufTy
  | .hbm, ⟨0, _⟩ => ⟨S4224x4096, .f32⟩
  | .hbm, ⟨1, _⟩ => ⟨S2x2048x4096, .f32⟩
  | .hbm, ⟨2, _⟩ => ⟨S1x4096, .f32⟩
  | .hbm, ⟨3, _⟩ => ⟨S1x4096, .f32⟩
  | .hbm, ⟨4, _⟩ => ⟨S_, .i32⟩
  | .hbm, ⟨5, _⟩ => ⟨S_, .f32⟩
  | .hbm, ⟨6, _⟩ => ⟨S2x2064x4096, .f32⟩
  | .hbm, ⟨7, _⟩ => ⟨S4128x4096, .f32⟩
  | .hbm, ⟨8, _⟩ => ⟨S_, .i32⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S4224x4096, .bf16⟩
  | .hbm, ⟨13, _⟩ => ⟨S1x4096, .f32⟩
  | .hbm, ⟨14, _⟩ => ⟨S1x4096, .f32⟩
  | .hbm, ⟨15, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_23 : BitVec 32 := 0#32
  let v72 : BitVec 1 := Scalar.cmpi .ne v71 c0_i32_23
  v72

def k0_cond2 (i : grid0.Coords) : BitVec 1 :=
  let arg0 : BitVec 32 := BitVec.ofNat 32 (i 0).val
  let c0_i32_24 : BitVec 32 := 0#32
  let v73 : BitVec 1 := Scalar.cmpi .sgt arg0 c0_i32_24
  let v74 : BitVec 32 := Scalar.extui v73
  let c0_i32_25 : BitVec 32 := 0#32
  let v75 : BitVec 1 := Scalar.cmpi .ne v74 c0_i32_25
  v75

def k0_cond3 (i : grid0.Coords) : BitVec 1 :=
  let arg0 : BitVec 32 := BitVec.ofNat 32 (i 0).val
  let c0_i32_27 : BitVec 32 := 0#32
  let v78 : BitVec 1 := Scalar.cmpi .eq arg0 c0_i32_27
  let v79 : BitVec 32 := Scalar.extui v78
  let c0_i32_28 : BitVec 32 := 0#32
  let v80 : BitVec 1 := Scalar.cmpi .ne v79 c0_i32_28
  v80

def k0_cond4 (i : grid0.Coords) : BitVec 1 :=
  let arg0 : BitVec 32 := BitVec.ofNat 32 (i 0).val
  let c0_i32_29 : BitVec 32 := 0#32
  let v81 : BitVec 1 := Scalar.cmpi .sgt arg0 c0_i32_29
  let v82 : BitVec 32 := Scalar.extui v81
  let c0_i32_30 : BitVec 32 := 0#32
  let v83 : BitVec 1 := Scalar.cmpi .ne v82 c0_i32_30
  v83

def k0_cond5 (i : grid0.Coords) : BitVec 1 :=
  let arg0 : BitVec 32 := BitVec.ofNat 32 (i 0).val
  let c0_i32_32 : BitVec 32 := 0#32
  let v87 : BitVec 1 := Scalar.cmpi .eq arg0 c0_i32_32
  let v88 : BitVec 32 := Scalar.extui v87
  let c0_i32_33 : BitVec 32 := 0#32
  let v89 : BitVec 1 := Scalar.cmpi .ne v88 c0_i32_33
  v89

def k0_cond6 (i : grid0.Coords) : BitVec 1 :=
  let arg0 : BitVec 32 := BitVec.ofNat 32 (i 0).val
  let c0_i32_34 : BitVec 32 := 0#32
  let v90 : BitVec 1 := Scalar.cmpi .sgt arg0 c0_i32_34
  let v91 : BitVec 32 := Scalar.extui v90
  let c0_i32_35 : BitVec 32 := 0#32
  let v92 : BitVec 1 := Scalar.cmpi .ne v91 c0_i32_35
  v92

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4224x4096 : Shape := ⟨2, ![4224, 4096]⟩
abbrev S2x2048x4096 : Shape := ⟨3, ![2, 2048, 4096]⟩
abbrev S1x4096 : Shape := ⟨2, ![1, 4096]⟩
abbrev S4128x4096 : Shape := ⟨2, ![4128, 4096]⟩
abbrev S2x2064x4096 : Shape := ⟨3, ![2, 2064, 4096]⟩
abbrev S4096 : Shape := ⟨1, ![4096]⟩
abbrev S_ : Shape := ⟨0, ![]⟩
abbrev S2x2064 : Shape := ⟨2, ![2, 2064]⟩
abbrev S2x2064x1 : Shape := ⟨3, ![2, 2064, 1]⟩
abbrev S1x1x4096 : Shape := ⟨3, ![1, 1, 4096]⟩
abbrev S2x2048 : Shape := ⟨2, ![2, 2048]⟩

abbrev nBuf : Space → Nat
  | .hbm => 121
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S2x2048x4096, .f32⟩
  | .hbm, ⟨2, _⟩ => ⟨S1x4096, .f32⟩
  | .hbm, ⟨3, _⟩ => ⟨S1x4096, .f32⟩
  | .hbm, ⟨4, _⟩ => ⟨S4128x4096, .f32⟩
  | .hbm, ⟨5, _⟩ => ⟨S2x2064x4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S2x2064, .f32⟩
  | .hbm, ⟨10, _⟩ => ⟨S2x2064x1, .f32⟩
  | .hbm, ⟨11, _⟩ => ⟨S_, .f32⟩
  | .hbm, ⟨12, _⟩ => ⟨S2x2064x1, .f32⟩
  | .hbm, ⟨13, _⟩ => ⟨S2x2064x1, .f32⟩
  | .hbm, ⟨14, _⟩ => ⟨S2x2064x4096, .f32⟩
  | .hbm, ⟨15, _⟩ => ⟨S2x2064x4096, .f32⟩
  | .hbm, ⟨16, _⟩ => ⟨S2x2064x4096, .f32⟩
  | .hbm, ⟨17, _⟩ => ⟨S_, .f32⟩
  | .hbm, ⟨18, _⟩ => ⟨S2x2064x4096, .f32⟩
  | .hbm, ⟨19, _⟩ => ⟨S2x2064x4096, .f32⟩
  | .hbm, ⟨20, _⟩ => ⟨S_, .f32⟩
  | .hbm, ⟨21, _⟩ => ⟨S2x2064, .f32⟩
  | .hbm, ⟨22, _⟩ => ⟨S2x2064x1, .f32⟩
  | .hbm, ⟨23, _⟩ => ⟨S_, .f32⟩
  | .hbm, ⟨24, _⟩ => ⟨S2x2064x1, .f32⟩
  | .hbm, ⟨25, _⟩ => ⟨S2x2064x1, .f32⟩
  | .hbm, ⟨26, _⟩ => ⟨S_, .f32⟩
  | .hbm, ⟨27, _⟩ => ⟨S2x2064x1, .f32⟩
  | .hbm, ⟨28, _⟩ => ⟨S2x2064x1, .f32⟩
  | .hbm, ⟨29, _⟩ => ⟨S2x2064x1, .f32⟩
  | .hbm, ⟨30, _⟩ => ⟨S2x2064x1, .f32⟩
  | .hbm, ⟨31, _⟩ => ⟨S_, .f32⟩
  | .hbm, ⟨32, _⟩ => ⟨S2x2064x1, .f32⟩
  | .hbm, ⟨33, _⟩ => ⟨S2x2064x1, .f32⟩
  | .hbm, ⟨34, _⟩ => ⟨S2x2064x4096, .f32⟩
  | .hbm, ⟨35, _⟩ => ⟨S2x2064x4096, .f32⟩
  | .hbm, ⟨36, _⟩ => ⟨S1x1x4096, .f32⟩
  | .hbm, ⟨37, _⟩ => ⟨S2x2064x4096, .f32⟩
  | .hbm, ⟨38, _⟩ => ⟨S2x2064x4096, .f32⟩
  | .hbm, ⟨39, _⟩ => ⟨S1x1x4096, .f32⟩
  | .hbm, ⟨40, _⟩ => ⟨S2x2064x4096, .f32⟩
  | .hbm, ⟨41, _⟩ => ⟨S2x2064x4096, .f32⟩
  | .hbm, ⟨42, _⟩ => ⟨S2x2048x4096, .f32⟩
  | .hbm, ⟨43, _⟩ => ⟨S2x2048x4096, .f32⟩
  | .hbm, ⟨44, _⟩ => ⟨S2x2048x4096, .f32⟩
  | .hbm, ⟨45, _⟩ => ⟨S_, .f32⟩
  | .hbm, ⟨46, _⟩ => ⟨S2x2048x4096, .f32⟩
  | .hbm, ⟨47, _⟩ => ⟨S2x2048x4096, .f32⟩
  | .hbm, ⟨48, _⟩ => ⟨S_, .f32⟩
  | .hbm, ⟨49, _⟩ => ⟨S2x2048, .f32⟩
  | .hbm, ⟨50, _⟩ => ⟨S_, .f32⟩
  | .hbm, ⟨51, _⟩ => ⟨S2x2048, .f32⟩
  | .hbm, ⟨52, _⟩ => ⟨S2x2048, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2x2048x4096, .f32⟩
  | .hbm, ⟨58, _⟩ => ⟨S2x2048x4096, .f32⟩
  | .hbm, ⟨59, _⟩ => ⟨S_, .f32⟩
  | .hbm, ⟨60, _⟩ => ⟨S2x2048x4096, .f32⟩
  | .hbm, ⟨61, _⟩ => ⟨S2x2048x4096, .f32⟩
  | .hbm, ⟨62, _⟩ => ⟨S_, .f32⟩
  | .hbm, ⟨63, _⟩ => ⟨S4096, .f32⟩
  | .hbm, ⟨64, _⟩ => ⟨S1x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2x2048, .f32⟩
  | .hbm, ⟨69, _⟩ => ⟨S_, .f32⟩
  | .hbm, ⟨70, _⟩ => ⟨S2x2048, .f32⟩
  | .hbm, ⟨71, _⟩ => ⟨S2x2048, .f32⟩
  | .hbm, ⟨72, _⟩ => ⟨S2x2048x4096, .f32⟩
  | .hbm, ⟨73, _⟩ => ⟨S2x2048x4096, .f32⟩
  | .hbm, ⟨74, _⟩ => ⟨S_, .f32⟩
  | .hbm, ⟨75, _⟩ => ⟨S2x2064x4096, .f32⟩
  | .hbm, ⟨76, _⟩ => ⟨S_, .f32⟩
  | .hbm, ⟨77, _⟩ => ⟨S4096, .f32⟩
  | .hbm, ⟨78, _⟩ => ⟨S1x1x4096, .f32⟩
  | .hbm, ⟨79, _⟩ => ⟨S_, .f32⟩
  | .hbm, ⟨80, _⟩ => ⟨S4096, .f32⟩
  | .hbm, ⟨81, _⟩ => ⟨S2x2064x4096, .f32⟩
  | .hbm, ⟨82, _⟩ => ⟨S_, .f32⟩
  | .hbm, ⟨83, _⟩ => ⟨S4096, .f32⟩
  | .hbm, ⟨84, _⟩ => ⟨S1x1x4096, .f32⟩
  | .hbm, ⟨85, _⟩ => ⟨S2x2064x4096, .f32⟩
  | .hbm, ⟨86, _⟩ => ⟨S2x2064x4096, .f32⟩
  | .hbm, ⟨87, _⟩ => ⟨S_, .f32⟩
  | .hbm, ⟨88, _⟩ => ⟨S4096, .f32⟩
  | .hbm, ⟨89, _⟩ => ⟨S2x2064x4096, .f32⟩
  | .hbm, ⟨90, _⟩ => ⟨S_, .f32⟩
  | .hbm, ⟨91, _⟩ => ⟨S2x2064, .f32⟩
  | .hbm, ⟨92, _⟩ => ⟨S2x2064x1, .f32⟩
  | .hbm, ⟨93, _⟩ => ⟨S2x2064x4096, .f32⟩
  | .hbm, ⟨94, _⟩ => ⟨S2x2064x4096, .f32⟩
  | .hbm, ⟨95, _⟩ => ⟨S2x2064x1, .f32⟩
  | .hbm, ⟨96, _⟩ => ⟨S_, .f32⟩
  | .hbm, ⟨97, _⟩ => ⟨S2x2064x1, .f32⟩
  | .hbm, ⟨98, _⟩ => ⟨S2x2064x1, .f32⟩
  | .hbm, ⟨99, _⟩ => ⟨S_, .f32⟩
  | .hbm, ⟨100, _⟩ => ⟨S2x2064, .f32⟩
  | .hbm, ⟨101, _⟩ => ⟨S2x2064x4096, .f32⟩
  | .hbm, ⟨102, _⟩ => ⟨S2x2064x4096, .f32⟩
  | .hbm, ⟨103, _⟩ => ⟨S2x2064x4096, .f32⟩
  | .hbm, ⟨104, _⟩ => ⟨S2x2064x4096, .f32⟩
  | .hbm, ⟨105, _⟩ => ⟨S_, .f32⟩
  | .hbm, ⟨106, _⟩ => ⟨S2x2064, .f32⟩
  | .hbm, ⟨107, _⟩ => ⟨S2x2064x1, .f32⟩
  | .hbm, ⟨108, _⟩ => ⟨S_, .f32⟩
  | .hbm, ⟨109, _⟩ => ⟨S2x2064x1, .f32⟩
  | .hbm, ⟨110, _⟩ => ⟨S2x2064x1, .f32⟩
  | .hbm, ⟨111, _⟩ => ⟨S_, .f32⟩
  | .hbm, ⟨112, _⟩ => ⟨S2x2064, .f32⟩
  | .hbm, ⟨113, _⟩ => ⟨S2x2064x4096, .f32⟩
  | .hbm, ⟨114, _⟩ => ⟨S2x2064x4096, .f32⟩
  | .hbm, ⟨115, _⟩ => ⟨S1x4096, .f32⟩
  | .hbm, ⟨116, _⟩ => ⟨S1x4096, .f32⟩
  | .hbm, ⟨117, _⟩ => ⟨S4128x4096, .f32⟩
  | .hbm, ⟨118, _⟩ => ⟨S_, .f32⟩
  | .hbm, ⟨119, _⟩ => ⟨S4224x4096, .f32⟩
  | .hbm, ⟨120, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_cst_13 : Ref sig .tc := ⟨.hbm, 65, rfl⟩
abbrev main_cst_14 : Ref sig .tc := ⟨.hbm, 66, rfl⟩
abbrev main_v47 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_v55 : Ref sig .tc := ⟨.hbm, 78, rfl⟩
abbrev main_cst_18 : Ref sig .tc := ⟨.hbm, 79, rfl⟩
abbrev main_v56 : Ref sig .tc := ⟨.hbm, 80, rfl⟩
abbrev main_v57 : Ref sig .tc := ⟨.hbm, 81, rfl⟩
abbrev main_cst_19 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_22 : Ref sig .tc := ⟨.hbm, 96, rfl⟩
abbrev main_v69 : Ref sig .tc := ⟨.hbm, 97, rfl⟩
abbrev main_v70 : Ref sig .tc := ⟨.hbm, 98, rfl⟩
abbrev main_cst_23 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_24 : Ref sig .tc := ⟨.hbm, 105, rfl⟩
abbrev main_v76 : Ref sig .tc := ⟨.hbm, 106, rfl⟩
abbrev main_v77 : Ref sig .tc := ⟨.hbm, 107, rfl⟩
abbrev main_cst_25 : Ref sig .tc := ⟨.hbm, 108, rfl⟩
abbrev main_v78 : Ref sig .tc := ⟨.hbm, 109, rfl⟩
abbrev main_v79 : Ref sig .tc := ⟨.hbm, 110, rfl⟩
abbrev main_cst_26 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_27 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== Proof.Common.lean ====
module

public import Idealize.ShloMosaic.Lib.Pipeline.ValueKit
public import Mathlib.Data.EReal.Operations
public import Mathlib.Algebra.BigOperators.Fin

@[expose] public section

namespace Cert.Common

open Idealize.ShloMosaic

/-- What holds of every member of each trip's list holds of every member of the list the trips build in front of each
    other, starting from the empty one. -/
theorem forall_mem_trips {α : Type*} {P : α → Prop} {T : ℕ} (pb : ℕ → List α) (trip : Fin T → List α) (h0 : pb 0 = [])
    (hs : ∀ k : Fin T, pb (k.val + 1) = trip k ++ pb k.val) (ht : ∀ k, ∀ p ∈ trip k, P p) :
    ∀ n, n ≤ T → ∀ p ∈ pb n, P p
  | 0, _, p, hp => by rw [h0] at hp; exact absurd hp List.not_mem_nil
  | n + 1, hn, p, hp => by
    rw [hs ⟨n, hn⟩] at hp
    rcases List.mem_append.mp hp with h | h
    · exact ht _ p h
    · exact forall_mem_trips pb trip h0 hs ht n (Nat.le_of_succ_le hn) p h

/-- A finite nonnegative factor distributes over a finite sum of extended reals, whatever the terms. -/
theorem coe_mul_sum {ι : Type*} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (EReal.coe_nonneg.mpr hr) (EReal.coe_ne_top r), ih]

/-- The word of one half is the real number one half. -/
theorem half : Ideal.ofBits .f32 0x3F000000#32 = (((1 / 2 : ℝ) : ℝ) : EReal) := by
  simp [Ideal.ofBits, Ideal.ieee, -EReal.coe_mul]; norm_num

/-- The gated unit: a gate times its logistic, times the other input. -/
noncomputable def swiglu (g u : EReal) : EReal := g * Ideal.div 1 (1 + Ideal.exp (-g)) * u

theorem half_mul_sum {n : ℕ} (f : Fin n → EReal) :
    Ideal.ofBits .f32 0x3F000000#32 * ∑ i, f i = ∑ i, Ideal.ofBits .f32 0x3F000000#32 * f i := by
  rw [half]; exact coe_mul_sum _ (by norm_num) _ _

end Cert.Common
end
-- ==== Proof.WdValue.lean ====
module

public import proofs.«01_k».proof.Proof.Gen.WdIdeal.Value
public import proofs.«01_k».proof.Proof.Gen.WdRefIdeal.Run
public import proofs.«01_k».proof.Proof.Gen.WdRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.WdIdeal.Value

open Cert.WdIdeal Cert.WdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem off1_eq : ∀ k : Fin k0_t1_loop.trips, k0_off1 k = ![64 * k.val, 0] := by decide +kernel

theorem off2_eq : ∀ k : Fin k0_t1_loop.trips, k0_off2 k = ![0, 64 * k.val, 0] := by decide +kernel

theorem trip_pieces (𝒱 : Variants) (c : Dev nD) (bd : Option 𝒱.V) (i : grid0.Coords) (arg3 : Memref sig .tc .vmem S1x1408x2752 .bf16) (harg3 : arg3.IsWhole) (arg4 : Memref sig .tc .vmem S1408x1024 .bf16) (harg4 : arg4.IsWhole) (arg5 : Memref sig .tc .vmem S1x2752x1024 .bf16) (harg5 : arg5.IsWhole) (arg6 : Memref sig .tc .vmem S2752x1024 .f32) (harg6 : arg6.IsWhole) (k0_h3 : k0_cond3 i = 1#1)
    (X : BufTy.Contents (Elt Ideal) arg6.view.ty) (acc : Vec Ideal S2752x1024 .f32) (hX : arg6.view.read (Elt Ideal) X = acc) (k : Fin k0_t1_loop.trips) :
    ∀ p ∈ tripL_k0_t1 (F := Ideal) 𝒱 c bd i arg3 harg3 arg4 harg4 arg5 harg5 arg6 harg6 k0_h3 X k, ∀ x : p.1.shape.Idx,
      p.2 x = (Ideal.ofBits .f32 0x3F000000#32 * acc (ix2 (p.1.emb x 1) (p.1.emb x 2)) : EReal) := by
  unfold tripL_k0_t1 trip_k0_t1
  dsimp only
  intro p hp x
  obtain rfl := List.mem_singleton.mp hp
  clear hp
  dsimp only
  rw [View.readAt_eq_ld, hX]
  pointwise [k0_pay3]
  refine congrArg₂ (· * ·) rfl (congrArg acc (congrArg₂ ix2 (Fin.ext ?_) (Fin.ext ?_)))
  all_goals simp only [off1_eq k, off2_eq k]
  · show _ = k0_off2 k 1 + 1 * (x 1).val
    have h2 := congrFun (off2_eq k) 1
    rw [one_mul]; exact congrArg (· + _) h2.symm
  · show _ = k0_off2 k 2 + 1 * (x 2).val
    have h2 := congrFun (off2_eq k) 2
    rw [one_mul]; exact congrArg (· + _) h2.symm

theorem scr_C (c : Dev nD) (i : grid0.Coords) (arg3 : Memref sig .tc .vmem S1x1408x2752 .bf16) (harg3 : arg3.IsWhole) (arg4 : Memref sig .tc .vmem S1408x1024 .bf16) (harg4 : arg4.IsWhole) (arg5 : Memref sig .tc .vmem S1x2752x1024 .bf16) (harg5 : arg5.IsWhole) (arg6 : Memref sig .tc .vmem S2752x1024 .f32) (harg6 : arg6.IsWhole) (hc0 : ¬cond0_0 i) (hc1 : cond0_1 i) (hc2 : cond0_2 i)
    (x0 : Vec Ideal S1x1408x2752 .bf16) (x1 : Vec Ideal S1408x1024 .bf16) (xs0 : Vec Ideal S2752x1024 .f32) :
    sout0_C_0 c i arg3 harg3 arg4 harg4 arg5 harg5 arg6 harg6 hc0 hc1 hc2 x0 x1 xs0 = k0_pay2 xs0 x0 x1 := by frame_out

theorem scr_B (c : Dev nD) (i : grid0.Coords) (arg3 : Memref sig .tc .vmem S1x1408x2752 .bf16) (harg3 : arg3.IsWhole) (arg4 : Memref sig .tc .vmem S1408x1024 .bf16) (harg4 : arg4.IsWhole) (arg5 : Memref sig .tc .vmem S1x2752x1024 .bf16) (harg5 : arg5.IsWhole) (arg6 : Memref sig .tc .vmem S2752x1024 .f32) (harg6 : arg6.IsWhole) (hc0 : ¬cond0_0 i) (hc1 : cond0_1 i) (hc2 : ¬cond0_2 i)
    (x0 : Vec Ideal S1x1408x2752 .bf16) (x1 : Vec Ideal S1408x1024 .bf16) (xs0 : Vec Ideal S2752x1024 .f32) :
    sout0_B_0 c i arg3 harg3 arg4 harg4 arg5 harg5 arg6 harg6 hc0 hc1 hc2 x0 x1 xs0 = k0_pay2 xs0 x0 x1 := by frame_out

theorem out_C (c : Dev nD) (i : grid0.Coords) (arg3 : Memref sig .tc .vmem S1x1408x2752 .bf16) (harg3 : arg3.IsWhole) (arg4 : Memref sig .tc .vmem S1408x1024 .bf16) (harg4 : arg4.IsWhole) (arg5 : Memref sig .tc .vmem S1x2752x1024 .bf16) (harg5 : arg5.IsWhole) (arg6 : Memref sig .tc .vmem S2752x1024 .f32) (harg6 : arg6.IsWhole) (hc0 : ¬cond0_0 i) (hc1 : cond0_1 i) (hc2 : cond0_2 i)
    (x0 : Vec Ideal S1x1408x2752 .bf16) (x1 : Vec Ideal S1408x1024 .bf16) (xs0 : Vec Ideal S2752x1024 .f32) (y : S1x2752x1024.Idx) :
    out0_C_2 c i arg3 harg3 arg4 harg4 arg5 harg5 arg6 harg6 hc0 hc1 hc2 x0 x1 xs0 y
      = (Ideal.ofBits .f32 0x3F000000#32 * sout0_C_0 c i arg3 harg3 arg4 harg4 arg5 harg5 arg6 harg6 hc0 hc1 hc2 x0 x1 xs0 (ix2 (y 1) (y 2)) : EReal) := by
  rw [scr_C]
  unfold out0_C_2
  rw [View.read_writes_junk_eq_canon]
  refine View.canon_apply_of_pieces (fun y => (Ideal.ofBits .f32 0x3F000000#32 * k0_pay2 xs0 x0 x1 (ix2 (y 1) (y 2)) : EReal)) _ ?_ y (cover0_C_2 c i arg3 harg3 arg4 harg4 arg5 harg5 arg6 harg6 hc0 hc1 hc2 x0 x1 xs0 y)
  unfold kernelRun0_C
  dsimp only
  refine Common.forall_mem_trips (fun n => pb_k0_t1 (F := Ideal) Variants.none c none i arg3 harg3 arg4 harg4 arg5 harg5 arg6 harg6 hc2 _ n)
    (fun k => tripL_k0_t1 (F := Ideal) Variants.none c none i arg3 harg3 arg4 harg4 arg5 harg5 arg6 harg6 hc2 _ k) rfl
    (fun k => pb_k0_t1_succ (F := Ideal) Variants.none c none i arg3 harg3 arg4 harg4 arg5 harg5 arg6 harg6 hc2 _ k)
    (trip_pieces Variants.none c none i arg3 harg3 arg4 harg4 arg5 harg5 arg6 harg6 hc2 _ _ ?_) _ (le_of_eq rfl)
  frame_out

theorem pay1_apply (x0 : Vec Ideal S1x1408x2752 .bf16) (x1 : Vec Ideal S1408x1024 .bf16) (j : S2752x1024.Idx) :
    k0_pay1 (F := Ideal) x0 x1 j = (0 + ∑ k : Fin 1408, x0 (ix3 0 k (j 0)) * x1 (ix2 k (j 1)) : EReal) := by
  rw [zero_add]; pointwise [k0_pay1]

theorem pay2_apply (acc : Vec Ideal S2752x1024 .f32) (x0 : Vec Ideal S1x1408x2752 .bf16) (x1 : Vec Ideal S1408x1024 .bf16) (j : S2752x1024.Idx) :
    k0_pay2 (F := Ideal) acc x0 x1 j = (acc j + ∑ k : Fin 1408, x0 (ix3 0 k (j 0)) * x1 (ix2 k (j 1)) : EReal) := by
  pointwise [k0_pay2]

theorem idx : ∀ t : Fin cfg0.N, win0_0.index t = ![t.val / 12, t.val % 3, 0] ∧ win0_1.index t = ![t.val % 3, t.val / 3 % 4] ∧ win0_2.index t = ![t.val / 12, 0, t.val / 3 % 4] :=
  (by decide +kernel : ∀ t : Fin grid0.N, _)

/-- What the scratch holds after the last point of a run: the sum over the run's points of the products of their blocks. -/
theorem scratch (c : Dev nD) (t : Fin cfg0.N) (h : t.val % 3 = 2) (j : S2752x1024.Idx) :
    (outsAt0 m c t.val t.isLt).2 j = (∑ s : Fin 3, ∑ k : Fin 1408, (show Vec Ideal S1x1408x2752 .bf16 from iblk m c 0 ⟨3 * (t.val / 3) + s.val, Pipeline.run_point_lt_of_flush t h s⟩) (ix3 0 k (j 0))
      * (show Vec Ideal S1408x1024 .bf16 from iblk m c 1 ⟨3 * (t.val / 3) + s.val, Pipeline.run_point_lt_of_flush t h s⟩) (ix2 k (j 1)) : EReal) := by
  rw [Pipeline.eq_sum_fin_of_reset_step_apply_of_flush (fun n h => (outsAt0 m c n h).2) 3 (fun _ => 0)
    (fun p j => (∑ k : Fin 1408, (show Vec Ideal S1x1408x2752 .bf16 from iblk m c 0 p) (ix3 0 k (j 0)) * (show Vec Ideal S1408x1024 .bf16 from iblk m c 1 p) (ix2 k (j 1)) : EReal))
    (fun t h j => by rw [outsAt0_A m c t h (by omega) (by omega)]; frame_out; rw [pay1_apply])
    (fun t h j => by
      rcases Nat.lt_or_ge (t.val % 3) 2 with h2 | h2
      · rw [outsAt0_B m c t h (by omega) (by omega)]; dsimp only; rw [scr_B, pay2_apply]
      · rw [outsAt0_C m c t h (by omega) (by omega)]; dsimp only; rw [scr_C, pay2_apply])
    t h j, zero_add]

/-- Element `i` of the reference's result. -/
theorem ref_apply (gu : (⟨S4x2x4224x2752, .bf16⟩ : BufTy).Contents (Elt Ideal)) (dp : (⟨S4224x4096, .bf16⟩ : BufTy).Contents (Elt Ideal)) (i : S4x2752x4096.Idx) :
    WdRefIdeal.Read.val_main_v22 (F := Ideal) gu dp i = (∑ l : Fin 4224, Ideal.ofBits .f32 0x3F000000#32 *
      (Common.swiglu (gu (ix4 (i 0) 0 l (i 1))) (gu (ix4 (i 0) 1 l (i 1))) * dp (ix2 l (i 2))) : EReal) := by
  pointwise [WdRefIdeal.Read.val_main_v0, WdRefIdeal.Read.val_main_v1, WdRefIdeal.Read.val_main_v2, WdRefIdeal.Read.val_main_v3, WdRefIdeal.Read.val_main_v4, WdRefIdeal.Read.val_main_v5, WdRefIdeal.Read.val_main_v6, WdRefIdeal.Read.val_main_v7, WdRefIdeal.Read.val_main_v8, WdRefIdeal.Read.val_main_v9, WdRefIdeal.Read.val_main_v10, WdRefIdeal.Read.val_main_v11, WdRefIdeal.Read.val_main_v12, WdRefIdeal.Read.val_main_v13, WdRefIdeal.Read.val_main_v14, WdRefIdeal.Read.val_main_v15, WdRefIdeal.Read.val_main_v16, WdRefIdeal.Read.val_main_v17, WdRefIdeal.Read.val_main_v18, WdRefIdeal.Read.val_main_v19, WdRefIdeal.Read.val_main_v20, WdRefIdeal.Read.val_main_v21, WdRefIdeal.Read.val_main_v22, WdRefIdeal.Read.val_main_call0_v0, WdRefIdeal.Read.val_main_call0_v1, WdRefIdeal.Read.val_main_call0_v2, WdRefIdeal.Read.val_main_call0_v3, WdRefIdeal.Read.val_main_call0_v4, WdRefIdeal.Read.val_main_call0_v5, WdRefIdeal.Read.val_main_cst, WdRefIdeal.Read.val_main_cst_0, WdRefIdeal.Read.val_main_cst_1, WdRefIdeal.Read.val_main_call0_cst, WdRefIdeal.Read.val_main_call0_cst_0, Common.swiglu]
  refine Fin.sum_fin_congr fun l => ?_
  rw [mul_assoc, mul_comm (dp _)]

/-- Element `i` of the activations the host prepares. -/
theorem act_apply (c : Dev nD) (i : S4x4224x2752.Idx) : (show EReal from V m c main_v8 i)
    = Common.swiglu (m ((c : Thread nD τ).loc main_arg0) (ix4 (i 0) 0 (i 1) (i 2))) (m ((c : Thread nD τ).loc main_arg0) (ix4 (i 0) 1 (i 1) (i 2))) := by
  unfold V
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise [Common.swiglu]

theorem blk0 (c : Dev nD) (p : Fin cfg0.N) (k : Fin 1408) (j : Fin 2752) (a : Fin 4) (l : Fin 4224) (ha : a.val = p.val / 12) (hl : l.val = p.val % 3 * 1408 + k.val) :
    (show Vec Ideal S1x1408x2752 .bf16 from iblk m c 0 p) (ix3 0 k j) = Common.swiglu (m ((c : Thread nD τ).loc main_arg0) (ix4 a 0 l j)) (m ((c : Thread nD τ).loc main_arg0) (ix4 a 1 l j)) := by
  refine Eq.trans (b := (show EReal from V m c main_v8 (ix3 a l j))) ?_ (act_apply m c _)
  show (V m c main_v8) (((cfg0.win 0).blk p).view.emb (ix3 0 k j)) = V m c main_v8 (ix3 a l j)
  generalize V m c main_v8 = A
  blk_point [idx p]

theorem blk1 (c : Dev nD) (p : Fin cfg0.N) (k : Fin 1408) (j : Fin 1024) (l : Fin 4224) (b : Fin 4096) (hl : l.val = p.val % 3 * 1408 + k.val) (hb : b.val = p.val / 3 % 4 * 1024 + j.val) :
    (show Vec Ideal S1408x1024 .bf16 from iblk m c 1 p) (ix2 k j) = m ((c : Thread nD τ).loc main_arg1) (ix2 l b) := by
  rw [← V_main_arg1 m c]
  show (V m c main_arg1) (((cfg0.win 1).blk p).view.emb (ix2 k j)) = V m c main_arg1 (ix2 l b)
  generalize V m c main_arg1 = A
  blk_point [idx p]

theorem point (c : Dev nD) (t : Fin cfg0.N) (ht : t.val % 3 = 2) (j : Fin 2752) (l : Fin 1024) (i : S4x2752x4096.Idx)
    (h0 : (i 0).val = t.val / 12) (h1 : (i 1).val = j.val) (h2 : (i 2).val = t.val / 3 % 4 * 1024 + l.val) :
    (Ideal.ofBits .f32 0x3F000000#32 * (outsAt0 m c t.val t.isLt).2 (ix2 j l) : EReal)
      = WdRefIdeal.Read.val_main_v22 (F := Ideal) (m ((c : Thread nD τ).loc main_arg0)) (m ((c : Thread nD τ).loc main_arg1)) i := by
  obtain rfl : i 1 = j := Fin.ext h1
  rw [ref_apply, scratch m c t ht, Common.half_mul_sum]
  simp only [Common.half_mul_sum]
  refine Fin.sum_mul_add_congr fun s k hl => ?_
  have hs := s.isLt
  have hN := lt_of_lt_of_eq t.isLt N_0
  exact congrArg (fun z : EReal => Ideal.ofBits .f32 0x3F000000#32 * z) (congrArg₂ (fun a b : EReal => a * b)
    (blk0 m c _ k (i 1) (i 0) ⟨s.val * 1408 + k.val, hl⟩ (by dsimp only; omega) (by dsimp only; omega))
    (blk1 m c _ k l ⟨s.val * 1408 + k.val, hl⟩ (i 2) (by dsimp only; omega) (by dsimp only; omega)))

theorem final (c : Dev nD) : (dats m 0 c).arrAt 2 cfg0.N = WdRefIdeal.Read.val_main_v22 (F := Ideal) (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  have e : (outsAt0 m c t.val t.isLt).1 y = (Ideal.ofBits .f32 0x3F000000#32 * (outsAt0 m c t.val t.isLt).2 (ix2 (y 1) (y 2)) : EReal) := by
    rw [outsAt0_C m c t (by omega) (by omega) ht]
    dsimp only
    rw [out_C]
  rw [e]
  refine point m c t ht _ _ _ ?_ ?_ ?_
  all_goals blk_simp [idx t] <;> try omega

end Cert.WdIdeal.Value
end
-- ==== Proof.Gate.lean ====
module

public import proofs.«01_k».proof.Proof.Common

@[expose] public section

namespace Cert.Common

open Idealize.ShloMosaic

/-- An extended real that is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {n : ℕ} {f : Fin n → EReal} (h : ∀ i, IsReal (f i)) : IsReal (∑ i, f i) := by
  choose r hr using h
  induction n with
  | zero => exact ⟨0, by simp⟩
  | succ n ih =>
    obtain ⟨a, ha⟩ := ih (f := fun i => f i.succ) (r := fun i => r i.succ) (fun i => hr i.succ)
    exact ⟨r 0 + a, by rw [Fin.sum_univ_succ, ha, hr 0, EReal.coe_add]⟩

theorem isReal_half : IsReal (Ideal.ofBits .f32 0x3F000000#32) := ⟨1 / 2, half⟩

/-- A number whose absolute value is below the word of infinity is real. -/
theorem isReal_of_lt {x : EReal} (h : Ideal.cmp .olt (max x (-x)) (Ideal.ofBits .bf16 0x7F80#16) = 1#1) : IsReal x := by
  have e : Ideal.ofBits .bf16 0x7F80#16 = ⊤ := by simp [Ideal.ofBits, Ideal.ieee]
  rw [e] at h
  induction x with
  | bot => simp [Ideal.cmp] at h
  | top => simp [Ideal.cmp] at h
  | coe r => exact ⟨r, rfl⟩

/-- The logistic of a gate. -/
noncomputable def sigma (g : EReal) : EReal := Ideal.div 1 (1 + Ideal.exp (-g))

theorem isReal_sigma {g : EReal} (h : IsReal g) : IsReal (sigma g) := by
  obtain ⟨r, rfl⟩ := h
  have hp := Real.exp_pos (-r)
  refine ⟨1 / (1 + Real.exp (-r)), ?_⟩
  have e : (1 + Ideal.exp (-(r : EReal)) : EReal) = ((1 + Real.exp (-r) : ℝ) : EReal) := by
    rw [← EReal.coe_neg, Ideal.exp_coe, EReal.coe_add, EReal.coe_one]
  rw [sigma, e, Ideal.div_coe (by positivity), one_mul]

/-- The gate's derivative factored as the kernel has it, and summed as the reference has it. -/
theorem gate_grad {a g : EReal} (ha : IsReal a) (hg : IsReal g) :
    a * (sigma g + g * sigma g * (1 - sigma g)) = a * sigma g + g * a * (sigma g * (1 - sigma g)) := by
  obtain ⟨s, hs⟩ := isReal_sigma hg
  rw [hs]
  obtain ⟨a, rfl⟩ := ha; obtain ⟨g, rfl⟩ := hg
  norm_cast
  ring

end Cert.Common
end
-- ==== Proof.DguValue.lean ====
module

public import proofs.«01_k».proof.Proof.Gen.DguIdeal.Value
public import proofs.«01_k».proof.Proof.Gen.DguRefIdeal.Run
public import proofs.«01_k».proof.Proof.Gen.DguRefIdeal.Read
public import Idealize.ShloMosaic.Lib.Pipeline.ValueKit
import Idealize.ShloMosaic.Lib.Pipeline.ReadBack
public import proofs.«01_k».proof.Proof.Common
public import proofs.«01_k».proof.Proof.Gate
public import proofs.«01_k».proof.Pre_finite
import Idealize.ShloMosaic.Lib.ReduceAll

@[expose] public section

set_option maxRecDepth 16384

noncomputable section

namespace Cert.DguIdeal.Value

open Cert.DguIdeal Cert.DguIdeal.Gen Idealize.ShloMosaic Idealize.ShloMosaic.TcCoe Idealize.SL.Sem
open Idealize.ShloMosaic.Pipeline (Dat)

/-- The kernel's gradient of a gate `g`, whose product with the input `u` has the gradient `a`. -/
def kerGate (a g u : EReal) : EReal := a * u * (Common.sigma g + g * Common.sigma g * (1 - Common.sigma g))

/-- The reference's. -/
def refGate (a g u : EReal) : EReal := a * u * Common.sigma g + g * (a * u) * (Common.sigma g * (1 - Common.sigma g))

theorem at_acc (acc : Vec Ideal S704x2752 .f32) (a : Fin 704) (b : Fin 2752) (a' : Fin 704) (b' : Fin 2752) (ha : a.val = a'.val) (hb : b.val = b'.val) :
    acc (ix2 a b) = acc (ix2 a' b') := by
  obtain rfl := Fin.ext ha; obtain rfl := Fin.ext hb; rfl

theorem at_gate (x2 : Vec Ideal S1x2x704x2752 .bf16) (p : Fin 1) (q : Fin 2) (a : Fin 704) (b : Fin 2752) (a' : Fin 704) (b' : Fin 2752)
    (hp : p.val = 0) (hq : q.val = 0) (ha : a.val = a'.val) (hb : b.val = b'.val) : x2 (ix4 p q a b) = x2 (ix4 0 0 a' b') := by
  obtain rfl := Fin.ext ha; obtain rfl := Fin.ext hb; obtain rfl : p = 0 := Fin.ext hp; obtain rfl : q = 0 := Fin.ext hq; rfl

theorem at_up (x2 : Vec Ideal S1x2x704x2752 .bf16) (p : Fin 1) (q : Fin 2) (a : Fin 704) (b : Fin 2752) (a' : Fin 704) (b' : Fin 2752)
    (hp : p.val = 0) (hq : q.val = 1) (ha : a.val = a'.val) (hb : b.val = b'.val) : x2 (ix4 p q a b) = x2 (ix4 0 1 a' b') := by
  obtain rfl := Fin.ext ha; obtain rfl := Fin.ext hb; obtain rfl : p = 0 := Fin.ext hp; obtain rfl : q = 1 := Fin.ext hq; rfl

variable (c : Dev nD) (i : grid0.Coords) (arg3 : Memref sig .tc .vmem S704x1024 .bf16) (harg3 : arg3.IsWhole) (arg4 : Memref sig .tc .vmem S1x2752x1024 .bf16) (harg4 : arg4.IsWhole) (arg5 : Memref sig .tc .vmem S1x2x704x2752 .bf16) (harg5 : arg5.IsWhole) (arg6 : Memref sig .tc .vmem S1x2x704x2752 .bf16) (harg6 : arg6.IsWhole) (arg7 : Memref sig .tc .vmem S704x2752 .f32) (harg7 : arg7.IsWhole)

/-- An element of the block written back, over the sums the scratch holds and the block of gates and other inputs. -/
def epi (acc : Vec Ideal S704x2752 .f32) (x2 : Vec Ideal S1x2x704x2752 .bf16) (y : S1x2x704x2752.Idx) : EReal :=
  if (y 1).val = 0 then kerGate (Ideal.ofBits .f32 0x3F000000#32 * acc (ix2 (y 2) (y 3))) (x2 (ix4 0 0 (y 2) (y 3))) (x2 (ix4 0 1 (y 2) (y 3)))
  else Ideal.ofBits .f32 0x3F000000#32 * acc (ix2 (y 2) (y 3)) * (x2 (ix4 0 0 (y 2) (y 3)) * Common.sigma (x2 (ix4 0 0 (y 2) (y 3))))

theorem off1_eq : ∀ k : Fin k0_t1_loop.trips, k0_off1 k = ![64 * k.val, 0] := by decide +kernel

theorem off2_eq : ∀ k : Fin k0_t1_loop.trips, k0_off2 k = ![0, 0, 64 * k.val, 0] := by decide +kernel

theorem off3_eq : ∀ k : Fin k0_t1_loop.trips, k0_off3 k = ![0, 1, 64 * k.val, 0] := by decide +kernel

/-- What one trip of the last point's loop stores, over what the scratch holds. -/
theorem trip_pieces (𝒱 : Variants) (bd : Option 𝒱.V) (h3 : k0_cond3 i = 1#1)
    (X2 : BufTy.Contents (Elt Ideal) arg5.view.ty) (X : BufTy.Contents (Elt Ideal) arg7.view.ty) (acc : Vec Ideal S704x2752 .f32) (x2 : Vec Ideal S1x2x704x2752 .bf16) (hX2 : arg5.view.read (Elt Ideal) X2 = x2) (hX : arg7.view.read (Elt Ideal) X = acc) (k : Fin k0_t1_loop.trips) :
    ∀ p ∈ tripL_k0_t1 (F := Ideal) 𝒱 c bd i arg3 harg3 arg4 harg4 arg5 harg5 arg6 harg6 arg7 harg7 h3 X2 X k, ∀ x : p.1.shape.Idx, p.2 x = epi acc x2 (p.1.emb x) := by
  unfold tripL_k0_t1 trip_k0_t1
  dsimp only
  intro p hp x
  generalize hy : p.1.emb x = y
  have a0 : k0_off1 k 0 = 64 * k.val := by rw [off1_eq]; rfl
  have a1 : k0_off1 k 1 = 0 := by rw [off1_eq]; rfl
  have g0 : k0_off2 k 0 = 0 := by rw [off2_eq]; rfl
  have g1 : k0_off2 k 1 = 0 := by rw [off2_eq]; rfl
  have g2 : k0_off2 k 2 = 64 * k.val := by rw [off2_eq]; rfl
  have g3 : k0_off2 k 3 = 0 := by rw [off2_eq]; rfl
  have u0 : k0_off3 k 0 = 0 := by rw [off3_eq]; rfl
  have u1 : k0_off3 k 1 = 1 := by rw [off3_eq]; rfl
  have u2 : k0_off3 k 2 = 64 * k.val := by rw [off3_eq]; rfl
  have u3 : k0_off3 k 3 = 0 := by rw [off3_eq]; rfl
  rcases List.mem_cons.mp hp with rfl | hp
  · clear hp
    dsimp only
    unfold trip_k0_t1.sl.r
    rw [View.readAt_eq_ld, View.readAt_eq_ld, hX, hX2]
    pointwise [k0_pay8, k0_pay4, k0_pay6, k0_pay5, k0_pay3, epi]
    have y1 : ¬(y 1).val = 0 := by rw [← hy]; show k0_off3 k 1 + 1 * (x 1).val ≠ 0; have : (x 1).val < 1 := (x 1).isLt; omega
    have y2 : (y 2).val = 64 * k.val + (x 2).val := by rw [← hy]; show k0_off3 k 2 + 1 * (x 2).val = _; omega
    have y3 : (y 3).val = (x 3).val := by rw [← hy]; show k0_off3 k 3 + 1 * (x 3).val = _; omega
    rw [at_acc acc _ _ (y 2) (y 3), at_gate x2 _ ⟨k0_off2 k 1, by omega⟩ _ _ (y 2) (y 3), zero_sub]
    · exact (if_neg y1).symm
    all_goals (dsimp only; omega)
  · obtain rfl := List.mem_singleton.mp hp
    clear hp
    dsimp only
    rw [View.readAt_eq_ld, View.readAt_eq_ld, View.readAt_eq_ld, hX, hX2]
    pointwise [k0_pay7, k0_pay4, k0_pay6, k0_pay5, k0_pay3, epi]
    have y1 : (y 1).val = 0 := by rw [← hy]; show k0_off2 k 1 + 1 * (x 1).val = 0; have : (x 1).val < 1 := (x 1).isLt; omega
    have y2 : (y 2).val = 64 * k.val + (x 2).val := by rw [← hy]; show k0_off2 k 2 + 1 * (x 2).val = _; omega
    have y3 : (y 3).val = (x 3).val := by rw [← hy]; show k0_off2 k 3 + 1 * (x 3).val = _; omega
    rw [at_acc acc _ _ (y 2) (y 3), at_gate x2 _ ⟨k0_off2 k 1, by omega⟩ _ _ (y 2) (y 3), at_up x2 _ ⟨k0_off3 k 1, by omega⟩ _ _ (y 2) (y 3), zero_sub]
    · exact (if_pos y1).symm
    all_goals (dsimp only; omega)

/-- What a point of case B leaves in the scratch. -/
theorem scr_B (hc0 : ¬cond0_0 i) (hc1 : cond0_1 i) (hc2 : ¬cond0_2 i) (x0 : Vec Ideal S704x1024 .bf16) (x1 : Vec Ideal S1x2752x1024 .bf16) (x2 : Vec Ideal S1x2x704x2752 .bf16) (xs0 : Vec Ideal S704x2752 .f32) :
    sout0_B_0 c i arg3 harg3 arg4 harg4 arg5 harg5 arg6 harg6 arg7 harg7 hc0 hc1 hc2 x0 x1 x2 xs0 = k0_pay2 xs0 x0 x1 := by frame_out

/-- What a point of case C leaves in the scratch. -/
theorem scr_C (hc0 : ¬cond0_0 i) (hc1 : cond0_1 i) (hc2 : cond0_2 i) (x0 : Vec Ideal S704x1024 .bf16) (x1 : Vec Ideal S1x2752x1024 .bf16) (x2 : Vec Ideal S1x2x704x2752 .bf16) (xs0 : Vec Ideal S704x2752 .f32) :
    sout0_C_0 c i arg3 harg3 arg4 harg4 arg5 harg5 arg6 harg6 arg7 harg7 hc0 hc1 hc2 x0 x1 x2 xs0 = k0_pay2 xs0 x0 x1 := by frame_out

/-- What the last point of a run stores, over what it leaves in the scratch. -/
theorem out_C (hc0 : ¬cond0_0 i) (hc1 : cond0_1 i) (hc2 : cond0_2 i) (x0 : Vec Ideal S704x1024 .bf16) (x1 : Vec Ideal S1x2752x1024 .bf16) (x2 : Vec Ideal S1x2x704x2752 .bf16) (xs0 : Vec Ideal S704x2752 .f32) (y : S1x2x704x2752.Idx) :
    out0_C_3 c i arg3 harg3 arg4 harg4 arg5 harg5 arg6 harg6 arg7 harg7 hc0 hc1 hc2 x0 x1 x2 xs0 y = epi (sout0_C_0 c i arg3 harg3 arg4 harg4 arg5 harg5 arg6 harg6 arg7 harg7 hc0 hc1 hc2 x0 x1 x2 xs0) x2 y := by
  rw [scr_C]
  unfold out0_C_3
  rw [View.read_writes_junk_eq_canon]
  refine View.canon_apply_of_pieces (fun y => epi (k0_pay2 xs0 x0 x1) x2 y) _ ?_ y (cover0_C_3 c i arg3 harg3 arg4 harg4 arg5 harg5 arg6 harg6 arg7 harg7 hc0 hc1 hc2 x0 x1 x2 xs0 y)
  unfold kernelRun0_C
  dsimp only
  refine Common.forall_mem_trips (fun n => pb_k0_t1 (F := Ideal) Variants.none c none i arg3 harg3 arg4 harg4 arg5 harg5 arg6 harg6 arg7 harg7 hc2 _ _ n)
    (fun k => tripL_k0_t1 (F := Ideal) Variants.none c none i arg3 harg3 arg4 harg4 arg5 harg5 arg6 harg6 arg7 harg7 hc2 _ _ k) rfl
    (fun k => pb_k0_t1_succ (F := Ideal) Variants.none c none i arg3 harg3 arg4 harg4 arg5 harg5 arg6 harg6 arg7 harg7 hc2 _ _ k)
    (trip_pieces c i arg3 harg3 arg4 harg4 arg5 harg5 arg6 harg6 arg7 harg7 Variants.none none hc2 _ _ _ _ ?_ ?_) _ (le_of_eq rfl)
  all_goals frame_out

omit c i arg3 harg3 arg4 harg4 arg5 harg5 arg6 harg6 arg7 harg7

variable (m : (ℓ : Loc nD τ sig) → Buf (Elt Ideal) ℓ)

theorem pay1_apply (x0 : Vec Ideal S704x1024 .bf16) (x1 : Vec Ideal S1x2752x1024 .bf16) (j : S704x2752.Idx) :
    k0_pay1 (F := Ideal) x0 x1 j = (0 + ∑ k : Fin 1024, x0 (ix2 (j 0) k) * x1 (ix3 0 (j 1) k) : EReal) := by
  rw [zero_add]; pointwise [k0_pay1]

theorem pay2_apply (xs0 : Vec Ideal S704x2752 .f32) (x0 : Vec Ideal S704x1024 .bf16) (x1 : Vec Ideal S1x2752x1024 .bf16) (j : S704x2752.Idx) :
    k0_pay2 (F := Ideal) xs0 x0 x1 j = (xs0 j + ∑ k : Fin 1024, x0 (ix2 (j 0) k) * x1 (ix3 0 (j 1) k) : EReal) := by
  pointwise [k0_pay2]

theorem idx : ∀ t : Fin cfg0.N, win0_0.index t = ![t.val / 16, t.val % 4] ∧ win0_1.index t = ![t.val / 4 % 4, 0, t.val % 4] ∧ win0_2.index t = ![t.val / 4 % 4, 0, t.val / 16, 0] ∧ win0_3.index t = ![t.val / 4 % 4, 0, t.val / 16, 0] :=
  (by decide +kernel : ∀ t : Fin grid0.N, _)

/-- What the scratch holds after the last point of a run: the sum over the run's points of the products of their blocks. -/
theorem scratch (c : Dev nD) (t : Fin cfg0.N) (h : t.val % 4 = 3) (j : S704x2752.Idx) :
    (outsAt0 m c t.val t.isLt).2 j = (∑ s : Fin 4, ∑ k : Fin 1024, (show Vec Ideal S704x1024 .bf16 from iblk m c 0 ⟨4 * (t.val / 4) + s.val, Pipeline.run_point_lt_of_flush t h s⟩) (ix2 (j 0) k) * (show Vec Ideal S1x2752x1024 .bf16 from iblk m c 1 ⟨4 * (t.val / 4) + s.val, Pipeline.run_point_lt_of_flush t h s⟩) (ix3 0 (j 1) k) : EReal) := by
  rw [Pipeline.eq_sum_fin_of_reset_step_apply_of_flush (fun n h => (outsAt0 m c n h).2) 4 (fun _ => 0)
    (fun p j => (∑ k : Fin 1024, (show Vec Ideal S704x1024 .bf16 from iblk m c 0 p) (ix2 (j 0) k) * (show Vec Ideal S1x2752x1024 .bf16 from iblk m c 1 p) (ix3 0 (j 1) k) : EReal))
    (fun t h j => by rw [outsAt0_A m c t h (by omega) (by omega)]; frame_out; rw [pay1_apply])
    (fun t h j => by
      rcases Nat.lt_or_ge (t.val % 4) 3 with h2 | h2
      · rw [outsAt0_B m c t h (by omega) (by omega)]; dsimp only; rw [scr_B, pay2_apply]
      · rw [outsAt0_C m c t h (by omega) (by omega)]; dsimp only; rw [scr_C, pay2_apply])
    t h j, zero_add]

/-- An element of the gates' gradient in the reference. -/
theorem ref_gate (dp : (⟨S4224x4096, .bf16⟩ : BufTy).Contents (Elt Ideal)) (w : (⟨S11008x4096, .bf16⟩ : BufTy).Contents (Elt Ideal))
    (gu : (⟨S4x2x4224x2752, .bf16⟩ : BufTy).Contents (Elt Ideal)) (a : Fin 4) (l : Fin 4224) (n : Fin 2752) (f : Fin 11008) (hf : f.val = a.val * 2752 + n.val) :
    DguRefIdeal.Read.val_main_v27 (F := Ideal) dp w gu (ix4 a 0 l n) = refGate (∑ k : Fin 4096, Ideal.ofBits .f32 0x3F000000#32 * dp (ix2 l k) * w (ix2 f k)) (gu (ix4 a 0 l n)) (gu (ix4 a 1 l n)) := by
  have hb : a.val * 2752 + n.val < 11008 := by omega
  obtain rfl : f = ⟨a.val * 2752 + n.val, hb⟩ := Fin.ext hf
  pointwise [DguRefIdeal.Read.val_main_v0, DguRefIdeal.Read.val_main_v1, DguRefIdeal.Read.val_main_v2, DguRefIdeal.Read.val_main_v3, DguRefIdeal.Read.val_main_v4, DguRefIdeal.Read.val_main_v5, DguRefIdeal.Read.val_main_v6, DguRefIdeal.Read.val_main_v7, DguRefIdeal.Read.val_main_v8, DguRefIdeal.Read.val_main_v9, DguRefIdeal.Read.val_main_v10, DguRefIdeal.Read.val_main_v16, DguRefIdeal.Read.val_main_v17, DguRefIdeal.Read.val_main_v18, DguRefIdeal.Read.val_main_v19, DguRefIdeal.Read.val_main_v20, DguRefIdeal.Read.val_main_v21, DguRefIdeal.Read.val_main_v22, DguRefIdeal.Read.val_main_v23, DguRefIdeal.Read.val_main_v24, DguRefIdeal.Read.val_main_v25, DguRefIdeal.Read.val_main_v26, DguRefIdeal.Read.val_main_v27, DguRefIdeal.Read.val_main_v11_0, DguRefIdeal.Read.val_main_v11_1, DguRefIdeal.Read.val_main_v11_2, DguRefIdeal.Read.val_main_call0_v0, DguRefIdeal.Read.val_main_call0_v1, DguRefIdeal.Read.val_main_call0_v2, DguRefIdeal.Read.val_main_call0_v3, DguRefIdeal.Read.val_main_call0_v4, DguRefIdeal.Read.val_main_call0_v6, DguRefIdeal.Read.val_main_call0_v7, DguRefIdeal.Read.val_main_call0_cst, DguRefIdeal.Read.val_main_call0_cst_0, DguRefIdeal.Read.val_main_call0_cst_1, DguRefIdeal.Read.val_main_call1_v0, DguRefIdeal.Read.val_main_call1_v1, DguRefIdeal.Read.val_main_call1_v2, DguRefIdeal.Read.val_main_cst, DguRefIdeal.Read.val_main_cst_0, refGate, Common.sigma]

/-- An element of the other inputs' gradient in the reference. -/
theorem ref_up (dp : (⟨S4224x4096, .bf16⟩ : BufTy).Contents (Elt Ideal)) (w : (⟨S11008x4096, .bf16⟩ : BufTy).Contents (Elt Ideal))
    (gu : (⟨S4x2x4224x2752, .bf16⟩ : BufTy).Contents (Elt Ideal)) (a : Fin 4) (l : Fin 4224) (n : Fin 2752) (f : Fin 11008) (hf : f.val = a.val * 2752 + n.val) :
    DguRefIdeal.Read.val_main_v28 (F := Ideal) dp w gu (ix4 a 0 l n) = (gu (ix4 a 0 l n) * Common.sigma (gu (ix4 a 0 l n)) * ∑ k : Fin 4096, Ideal.ofBits .f32 0x3F000000#32 * dp (ix2 l k) * w (ix2 f k) : EReal) := by
  have hb : a.val * 2752 + n.val < 11008 := by omega
  obtain rfl : f = ⟨a.val * 2752 + n.val, hb⟩ := Fin.ext hf
  pointwise [DguRefIdeal.Read.val_main_v0, DguRefIdeal.Read.val_main_v1, DguRefIdeal.Read.val_main_v2, DguRefIdeal.Read.val_main_v3, DguRefIdeal.Read.val_main_v4, DguRefIdeal.Read.val_main_v5, DguRefIdeal.Read.val_main_v6, DguRefIdeal.Read.val_main_v7, DguRefIdeal.Read.val_main_v8, DguRefIdeal.Read.val_main_v9, DguRefIdeal.Read.val_main_v10, DguRefIdeal.Read.val_main_v16, DguRefIdeal.Read.val_main_v17, DguRefIdeal.Read.val_main_v18, DguRefIdeal.Read.val_main_v19, DguRefIdeal.Read.val_main_v20, DguRefIdeal.Read.val_main_v21, DguRefIdeal.Read.val_main_v22, DguRefIdeal.Read.val_main_v23, DguRefIdeal.Read.val_main_v24, DguRefIdeal.Read.val_main_v25, DguRefIdeal.Read.val_main_v26, DguRefIdeal.Read.val_main_v27, DguRefIdeal.Read.val_main_v11_0, DguRefIdeal.Read.val_main_v11_1, DguRefIdeal.Read.val_main_v11_2, DguRefIdeal.Read.val_main_call0_v0, DguRefIdeal.Read.val_main_call0_v1, DguRefIdeal.Read.val_main_call0_v2, DguRefIdeal.Read.val_main_call0_v3, DguRefIdeal.Read.val_main_call0_v4, DguRefIdeal.Read.val_main_call0_v6, DguRefIdeal.Read.val_main_call0_v7, DguRefIdeal.Read.val_main_call0_cst, DguRefIdeal.Read.val_main_call0_cst_0, DguRefIdeal.Read.val_main_call0_cst_1, DguRefIdeal.Read.val_main_call1_v0, DguRefIdeal.Read.val_main_call1_v1, DguRefIdeal.Read.val_main_call1_v2, DguRefIdeal.Read.val_main_cst, DguRefIdeal.Read.val_main_cst_0, DguRefIdeal.Read.val_main_v28, Common.sigma]

/-- Element `i` of the reference's result, of its gates' half or of the other. -/
theorem ref_apply (dp : (⟨S4224x4096, .bf16⟩ : BufTy).Contents (Elt Ideal)) (w : (⟨S11008x4096, .bf16⟩ : BufTy).Contents (Elt Ideal))
    (gu : (⟨S4x2x4224x2752, .bf16⟩ : BufTy).Contents (Elt Ideal)) (i : S4x2x4224x2752.Idx) (f : Fin 11008) (hf : f.val = (i 0).val * 2752 + (i 3).val) :
    DguRefIdeal.Read.val_main_v30 (F := Ideal) dp w gu i
      = if (i 1).val = 0 then refGate (∑ k : Fin 4096, Ideal.ofBits .f32 0x3F000000#32 * dp (ix2 (i 2) k) * w (ix2 f k)) (gu (ix4 (i 0) 0 (i 2) (i 3))) (gu (ix4 (i 0) 1 (i 2) (i 3)))
        else (gu (ix4 (i 0) 0 (i 2) (i 3)) * Common.sigma (gu (ix4 (i 0) 0 (i 2) (i 3))) * ∑ k : Fin 4096, Ideal.ofBits .f32 0x3F000000#32 * dp (ix2 (i 2) k) * w (ix2 f k) : EReal) := by
  rw [← ref_gate dp w gu (i 0) (i 2) (i 3) f hf, ← ref_up dp w gu (i 0) (i 2) (i 3) f hf]
  unfold DguRefIdeal.Read.val_main_v30 DguRefIdeal.Read.val_main_v29
  generalize DguRefIdeal.Read.val_main_v27 (F := Ideal) dp w gu = A
  generalize DguRefIdeal.Read.val_main_v28 (F := Ideal) dp w gu = B
  pointwise
  have hlt : (i 1).val < 2 := (i 1).isLt
  by_cases h : (i 1).val < 1
  · have h0 : (i 1).val = 0 := by omega
    refine (dif_pos h).trans (Eq.trans ?_ (if_pos h0).symm)
    exact congrArg (fun z => A (ix4 (i 0) z (i 2) (i 3))) (Fin.ext (by show (i 1).val = 0; omega))
  · have h0 : ¬(i 1).val = 0 := by omega
    refine (dif_neg h).trans (Eq.trans ?_ (if_neg h0).symm)
    exact congrArg (fun z => B (ix4 (i 0) z (i 2) (i 3))) (Fin.ext (by show (i 1).val - 1 = 0; omega))

/-- Element `i` of the weights, which the host splits into blocks of rows. -/
theorem split_apply (c : Dev nD) (i : S4x2752x4096.Idx) (f : Fin 11008) (hf : f.val = (i 0).val * 2752 + (i 1).val) : (show EReal from V m c main_v0 i)
    = m ((c : Thread nD τ).loc main_arg1) (ix2 f (i 2)) := by
  have hb : (i 0).val * 2752 + (i 1).val < 11008 := by omega
  obtain rfl : f = ⟨(i 0).val * 2752 + (i 1).val, hb⟩ := Fin.ext hf
  unfold V
  simp only [hostOps0, List.flatten_cons, List.flatten_nil, List.append_nil, List.cons_append, List.nil_append]
  after_results_simp
  pointwise

theorem blk0 (c : Dev nD) (p : Fin cfg0.N) (k : Fin 1024) (j : Fin 704) (l : Fin 4224) (q : Fin 4096) (hl : l.val = p.val / 16 * 704 + j.val) (hq : q.val = p.val % 4 * 1024 + k.val) :
    (show Vec Ideal S704x1024 .bf16 from iblk m c 0 p) (ix2 j k) = m ((c : Thread nD τ).loc main_arg0) (ix2 l q) := by
  rw [← V_main_arg0 m c]
  show (V m c main_arg0) (((cfg0.win 0).blk p).view.emb (ix2 j k)) = V m c main_arg0 (ix2 l q)
  generalize V m c main_arg0 = A
  blk_point [idx p]

theorem blk1 (c : Dev nD) (p : Fin cfg0.N) (k : Fin 1024) (j : Fin 2752) (f : Fin 11008) (q : Fin 4096) (hf : f.val = p.val / 4 % 4 * 2752 + j.val) (hq : q.val = p.val % 4 * 1024 + k.val) :
    (show Vec Ideal S1x2752x1024 .bf16 from iblk m c 1 p) (ix3 0 j k) = m ((c : Thread nD τ).loc main_arg1) (ix2 f q) := by
  refine Eq.trans (b := (show EReal from V m c main_v0 (ix3 ⟨p.val / 4 % 4, by omega⟩ j q))) ?_ (split_apply m c _ f hf)
  show (V m c main_v0) (((cfg0.win 1).blk p).view.emb (ix3 0 j k)) = V m c main_v0 (ix3 ⟨p.val / 4 % 4, by omega⟩ j q)
  generalize V m c main_v0 = A
  blk_point [idx p]

theorem blk2 (c : Dev nD) (p : Fin cfg0.N) (b : Fin 2) (j : Fin 704) (k : Fin 2752) (a : Fin 4) (l : Fin 4224) (ha : a.val = p.val / 4 % 4) (hl : l.val = p.val / 16 * 704 + j.val) :
    (show Vec Ideal S1x2x704x2752 .bf16 from iblk m c 2 p) (ix4 0 b j k) = m ((c : Thread nD τ).loc main_arg2) (ix4 a b l k) := by
  rw [← V_main_arg2 m c]
  show (V m c main_arg2) (((cfg0.win 2).blk p).view.emb (ix4 0 b j k)) = V m c main_arg2 (ix4 a b l k)
  generalize V m c main_arg2 = A
  blk_point [idx p]

/-- Half of what the scratch holds after a run's last point, as the sum the reference forms. -/
theorem half_scratch (c : Dev nD) (t : Fin cfg0.N) (ht : t.val % 4 = 3) (j : Fin 704) (n : Fin 2752) (l : Fin 4224) (f : Fin 11008)
    (hl : l.val = t.val / 16 * 704 + j.val) (hf : f.val = t.val / 4 % 4 * 2752 + n.val) :
    (Ideal.ofBits .f32 0x3F000000#32 * (outsAt0 m c t.val t.isLt).2 (ix2 j n) : EReal)
      = ∑ k : Fin 4096, Ideal.ofBits .f32 0x3F000000#32 * m ((c : Thread nD τ).loc main_arg0) (ix2 l k) * m ((c : Thread nD τ).loc main_arg1) (ix2 f k) := by
  have hN := lt_of_lt_of_eq t.isLt N_0
  rw [scratch m c t ht, Common.half_mul_sum]
  simp only [Common.half_mul_sum]
  refine Fin.sum_mul_add_congr fun s k hk => ?_
  have hs := s.isLt
  refine Eq.trans ?_ (mul_assoc _ _ _).symm
  exact congrArg (fun z : EReal => Ideal.ofBits .f32 0x3F000000#32 * z) (congrArg₂ (fun a b : EReal => a * b)
    (blk0 m c _ k j l ⟨s.val * 1024 + k.val, hk⟩ (by dsimp only; omega) (by dsimp only; omega))
    (blk1 m c _ k n f ⟨s.val * 1024 + k.val, hk⟩ (by dsimp only; omega) (by dsimp only; omega)))

/-- What the precondition says of the arguments: every element is a real number. -/
def Reals (c : Dev nD) : Prop :=
  (∀ i, Common.IsReal (m ((c : Thread nD τ).loc main_arg0) i)) ∧ (∀ i, Common.IsReal (m ((c : Thread nD τ).loc main_arg1) i)) ∧ ∀ i, Common.IsReal (m ((c : Thread nD τ).loc main_arg2) i)

theorem reals_of_pre [Cert.Pre_finite.Facts] (c : Dev nD) (h : Cert.Pre_finite.fn (F := Ideal) (m ((c : Thread nD τ).loc main_arg0)) (m ((c : Thread nD τ).loc main_arg1)) (m ((c : Thread nD τ).loc main_arg2)) = fun _ => 1#1) :
    Reals m c := by
  have h := congrFun h ix0
  dsimp only [Cert.Pre_finite.fn] at h
  obtain ⟨h01, h2⟩ := IntOp.andi_eq_one.1 h
  obtain ⟨h0, h1⟩ := IntOp.andi_eq_one.1 h01
  haveI : Subsingleton (Shape.Idx Cert.Pre_finite.S_) := ⟨fun a b => funext fun i => i.elim0⟩
  exact ⟨fun i => Common.isReal_of_lt (Host.reduce_andi_all _ _ _ _ _ h0 i), fun i => Common.isReal_of_lt (Host.reduce_andi_all _ _ _ _ _ h1 i),
    fun i => Common.isReal_of_lt (Host.reduce_andi_all _ _ _ _ _ h2 i)⟩

theorem point (c : Dev nD) (hr : Reals m c) (t : Fin cfg0.N) (ht : t.val % 4 = 3) (b : Fin 2) (j : Fin 704) (n : Fin 2752) (i : S4x2x4224x2752.Idx)
    (h0 : (i 0).val = t.val / 4 % 4) (h1 : (i 1).val = b.val) (h2 : (i 2).val = t.val / 16 * 704 + j.val) (h3 : (i 3).val = n.val) :
    (epi (outsAt0 m c t.val t.isLt).2 (iblk m c 2 t) (ix4 0 b j n) : EReal)
      = DguRefIdeal.Read.val_main_v30 (F := Ideal) (m ((c : Thread nD τ).loc main_arg0)) (m ((c : Thread nD τ).loc main_arg1)) (m ((c : Thread nD τ).loc main_arg2)) i := by
  have hN := lt_of_lt_of_eq t.isLt N_0
  obtain rfl : i 3 = n := Fin.ext h3
  obtain rfl : i 1 = b := Fin.ext h1
  have hb0 : (i 0).val < 4 := (i 0).isLt
  have hb3 : (i 3).val < 2752 := (i 3).isLt
  have hb : (i 0).val * 2752 + (i 3).val < 11008 := by omega
  have hS := half_scratch m c t ht j (i 3) (i 2) ⟨(i 0).val * 2752 + (i 3).val, hb⟩ h2 (by dsimp only; omega)
  have hg := blk2 m c t 0 j (i 3) (i 0) (i 2) h0 h2
  have hu := blk2 m c t 1 j (i 3) (i 0) (i 2) h0 h2
  rw [ref_apply _ _ _ i ⟨(i 0).val * 2752 + (i 3).val, hb⟩ rfl, ← hS]
  refine (congrArg₂ (fun g u : EReal => if (i 1).val = 0 then kerGate (Ideal.ofBits .f32 0x3F000000#32 * (outsAt0 m c t.val t.isLt).2 (ix2 j (i 3))) g u
    else Ideal.ofBits .f32 0x3F000000#32 * (outsAt0 m c t.val t.isLt).2 (ix2 j (i 3)) * (g * Common.sigma g)) hg hu).trans ?_
  dsimp only
  split
  · refine Common.gate_grad (Common.IsReal.mul ?_ (hr.2.2 _)) (hr.2.2 _)
    rw [hS]
    exact Common.IsReal.sum fun k => ((Common.isReal_half.mul (hr.1 _)).mul (hr.2.1 _))
  · exact mul_comm _ _

theorem final (c : Dev nD) (hr : Reals m c) : (dats m 0 c).arrAt 3 cfg0.N = DguRefIdeal.Read.val_main_v30 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := (flush0_3 t).mp hf
  rw [after0_3]
  have e : (outsAt0 m c t.val t.isLt).1 y = epi (outsAt0 m c t.val t.isLt).2 (iblk m c 2 t) (ix4 0 (y 1) (y 2) (y 3)) := by
    rw [outsAt0_C m c t (by omega) (by omega) ht]
    dsimp only
    rw [out_C]
    exact congrArg (epi _ _) (by funext a; match a with | 0 => exact Fin.ext (by have := (y 0).isLt; change (y 0).val < 1 at this; show (y 0).val = 0; omega) | 1 => rfl | 2 => rfl | 3 => rfl)
  rw [e]
  refine point m c hr t ht _ _ _ _ ?_ ?_ ?_ ?_
  all_goals blk_simp [idx t] <;> try omega

end Cert.DguIdeal.Value
end
-- ==== Proof.WguValue.lean ====
module

public import proofs.«01_k».proof.Proof.Gen.WguIdeal.Value
public import proofs.«01_k».proof.Proof.Gen.WguRefIdeal.Run
public import proofs.«01_k».proof.Proof.Gen.WguRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.WguIdeal.Value

open Cert.WguIdeal Cert.WguIdeal.Gen Idealize.ShloMosaic Idealize.ShloMosaic.TcCoe Idealize.SL.Sem
open Idealize.ShloMosaic.Pipeline (Dat)

variable (c : Dev nD) (i : grid0.Coords) (arg4 : Memref sig .tc .vmem S1408x1024 .bf16) (harg4 : arg4.IsWhole) (arg5 : Memref sig .tc .vmem S1x1x1408x2752 .bf16) (harg5 : arg5.IsWhole) (arg6 : Memref sig .tc .vmem S1x1024x2752 .bf16) (harg6 : arg6.IsWhole) (arg7 : Memref sig .tc .vmem S1024x2752 .f32) (harg7 : arg7.IsWhole)

/-- An element of the block written back, over the sums the scratch holds. -/
def epi (acc : Vec Ideal S1024x2752 .f32)  (y : S1x1024x2752.Idx) : EReal :=
  acc (ix2 (y 1) (y 2))

theorem off1_eq : ∀ k : Fin k0_t1_loop.trips, k0_off1 k = ![64 * k.val, 0] := by decide +kernel

theorem off2_eq : ∀ k : Fin k0_t1_loop.trips, k0_off2 k = ![0, 64 * k.val, 0] := by decide +kernel

/-- What one trip of the last point's loop stores, over what the scratch holds. -/
theorem trip_pieces (𝒱 : Variants) (bd : Option 𝒱.V) (h3 : k0_cond3 i = 1#1)
     (X : BufTy.Contents (Elt Ideal) arg7.view.ty) (acc : Vec Ideal S1024x2752 .f32)   (hX : arg7.view.read (Elt Ideal) X = acc) (k : Fin k0_t1_loop.trips) :
    ∀ p ∈ tripL_k0_t1 (F := Ideal) 𝒱 c bd i arg4 harg4 arg5 harg5 arg6 harg6 arg7 harg7 h3 X k, ∀ x : p.1.shape.Idx, p.2 x = epi acc  (p.1.emb x) := by
  unfold tripL_k0_t1 trip_k0_t1
  dsimp only
  intro p hp x
  obtain rfl := List.mem_singleton.mp hp
  clear hp
  dsimp only
  rw [View.readAt_eq_ld, hX]
  pointwise [k0_pay3, epi]
  refine congrArg acc (congrArg₂ ix2 (Fin.ext ?_) (Fin.ext ?_))
  all_goals simp only [off1_eq k]
  · show _ = k0_off2 k 1 + 1 * (x 1).val
    have h2 := congrFun (off2_eq k) 1
    rw [one_mul]; exact congrArg (· + _) h2.symm
  · show _ = k0_off2 k 2 + 1 * (x 2).val
    have h2 := congrFun (off2_eq k) 2
    rw [one_mul]; exact congrArg (· + _) h2.symm

/-- What a point of case B leaves in the scratch. -/
theorem scr_B (hc0 : ¬cond0_0 i) (hc1 : cond0_1 i) (hc2 : ¬cond0_2 i) (x0 : Vec Ideal S1408x1024 .bf16) (x1 : Vec Ideal S1x1x1408x2752 .bf16) (xs0 : Vec Ideal S1024x2752 .f32) :
    sout0_B_0 c i arg4 harg4 arg5 harg5 arg6 harg6 arg7 harg7 hc0 hc1 hc2 x0 x1 xs0 = k0_pay2 xs0 x0 x1 := by frame_out

/-- What a point of case C leaves in the scratch. -/
theorem scr_C (hc0 : ¬cond0_0 i) (hc1 : cond0_1 i) (hc2 : cond0_2 i) (x0 : Vec Ideal S1408x1024 .bf16) (x1 : Vec Ideal S1x1x1408x2752 .bf16) (xs0 : Vec Ideal S1024x2752 .f32) :
    sout0_C_0 c i arg4 harg4 arg5 harg5 arg6 harg6 arg7 harg7 hc0 hc1 hc2 x0 x1 xs0 = k0_pay2 xs0 x0 x1 := by frame_out

/-- What the last point of a run stores, over what it leaves in the scratch. -/
theorem out_C (hc0 : ¬cond0_0 i) (hc1 : cond0_1 i) (hc2 : cond0_2 i) (x0 : Vec Ideal S1408x1024 .bf16) (x1 : Vec Ideal S1x1x1408x2752 .bf16) (xs0 : Vec Ideal S1024x2752 .f32) (y : S1x1024x2752.Idx) :
    out0_C_2 c i arg4 harg4 arg5 harg5 arg6 harg6 arg7 harg7 hc0 hc1 hc2 x0 x1 xs0 y = epi (sout0_C_0 c i arg4 harg4 arg5 harg5 arg6 harg6 arg7 harg7 hc0 hc1 hc2 x0 x1 xs0)  y := by
  rw [scr_C]
  unfold out0_C_2
  rw [View.read_writes_junk_eq_canon]
  refine View.canon_apply_of_pieces (fun y => epi (k0_pay2 xs0 x0 x1)  y) _ ?_ y (cover0_C_2 c i arg4 harg4 arg5 harg5 arg6 harg6 arg7 harg7 hc0 hc1 hc2 x0 x1 xs0 y)
  unfold kernelRun0_C
  dsimp only
  refine Common.forall_mem_trips (fun n => pb_k0_t1 (F := Ideal) Variants.none c none i arg4 harg4 arg5 harg5 arg6 harg6 arg7 harg7 hc2 _ n)
    (fun k => tripL_k0_t1 (F := Ideal) Variants.none c none i arg4 harg4 arg5 harg5 arg6 harg6 arg7 harg7 hc2 _ k) rfl
    (fun k => pb_k0_t1_succ (F := Ideal) Variants.none c none i arg4 harg4 arg5 harg5 arg6 harg6 arg7 harg7 hc2 _ k)
    (trip_pieces c i arg4 harg4 arg5 harg5 arg6 harg6 arg7 harg7 Variants.none none hc2 _ _ ?_) _ (le_of_eq rfl)
  all_goals frame_out

omit c i arg4 harg4 arg5 harg5 arg6 harg6 arg7 harg7

variable (m : (ℓ : Loc nD τ sig) → Buf (Elt Ideal) ℓ)

theorem pay1_apply (x0 : Vec Ideal S1408x1024 .bf16) (x1 : Vec Ideal S1x1x1408x2752 .bf16) (j : S1024x2752.Idx) :
    k0_pay1 (F := Ideal) x0 x1 j = (0 + ∑ k : Fin 1408, x0 (ix2 k (j 0)) * x1 (ix4 0 0 k (j 1)) : EReal) := by
  rw [zero_add]; pointwise [k0_pay1]

theorem pay2_apply (xs0 : Vec Ideal S1024x2752 .f32) (x0 : Vec Ideal S1408x1024 .bf16) (x1 : Vec Ideal S1x1x1408x2752 .bf16) (j : S1024x2752.Idx) :
    k0_pay2 (F := Ideal) xs0 x0 x1 j = (xs0 j + ∑ k : Fin 1408, x0 (ix2 k (j 0)) * x1 (ix4 0 0 k (j 1)) : EReal) := by
  pointwise [k0_pay2]

theorem idx : ∀ t : Fin cfg0.N, win0_0.index t = ![t.val % 3, t.val / 3 % 4] ∧ win0_1.index t = ![t.val / 24, t.val / 12 % 2, t.val % 3, 0] ∧ win0_2.index t = ![t.val / 12 % 2 * 4 + t.val / 24, t.val / 3 % 4, 0] :=
  (by decide +kernel : ∀ t : Fin grid0.N, _)

/-- What the scratch holds after the last point of a run: the sum over the run's points of the products of their blocks. -/
theorem scratch (c : Dev nD) (t : Fin cfg0.N) (h : t.val % 3 = 2) (j : S1024x2752.Idx) :
    (outsAt0 m c t.val t.isLt).2 j = (∑ s : Fin 3, ∑ k : Fin 1408, (show Vec Ideal S1408x1024 .bf16 from iblk m c 0 ⟨3 * (t.val / 3) + s.val, Pipeline.run_point_lt_of_flush t h s⟩) (ix2 k (j 0)) * (show Vec Ideal S1x1x1408x2752 .bf16 from iblk m c 1 ⟨3 * (t.val / 3) + s.val, Pipeline.run_point_lt_of_flush t h s⟩) (ix4 0 0 k (j 1)) : EReal) := by
  rw [Pipeline.eq_sum_fin_of_reset_step_apply_of_flush (fun n h => (outsAt0 m c n h).2) 3 (fun _ => 0)
    (fun p j => (∑ k : Fin 1408, (show Vec Ideal S1408x1024 .bf16 from iblk m c 0 p) (ix2 k (j 0)) * (show Vec Ideal S1x1x1408x2752 .bf16 from iblk m c 1 p) (ix4 0 0 k (j 1)) : EReal))
    (fun t h j => by rw [outsAt0_A m c t h (by omega) (by omega)]; frame_out; rw [pay1_apply])
    (fun t h j => by
      rcases Nat.lt_or_ge (t.val % 3) 2 with h2 | h2
      · rw [outsAt0_B m c t h (by omega) (by omega)]; dsimp only; rw [scr_B, pay2_apply]
      · rw [outsAt0_C m c t h (by omega) (by omega)]; dsimp only; rw [scr_C, pay2_apply])
    t h j, zero_add]

/-- A column of the joined gradients: block `a` of the gates' (`b = 0`) or of the other inputs' (`b = 1`). -/
theorem joined_apply (dgu : (⟨S4x2x4224x2752, .bf16⟩ : BufTy).Contents (Elt Ideal)) (l : Fin 4224) (f : Fin 22016)
    (a : Fin 4) (b : Fin 2) (n : Fin 2752) (hf : f.val = (b.val * 4 + a.val) * 2752 + n.val) :
    WguRefIdeal.Read.val_main_v10 (F := Ideal) dgu (ix2 l f) = dgu (ix4 a b l n) := by
  have h4 : ∀ q : Fin 11008, q.val = a.val * 2752 + n.val → WguRefIdeal.Read.val_main_v4 (F := Ideal) dgu (ix2 l q) = dgu (ix4 a 0 l n) := fun q hq => by
    pointwise [WguRefIdeal.Read.val_main_v4, WguRefIdeal.Read.val_main_v3, WguRefIdeal.Read.val_main_v2, WguRefIdeal.Read.val_main_v1, WguRefIdeal.Read.val_main_v0]
    blk_ext
  have h9 : ∀ q : Fin 11008, q.val = a.val * 2752 + n.val → WguRefIdeal.Read.val_main_v9 (F := Ideal) dgu (ix2 l q) = dgu (ix4 a 1 l n) := fun q hq => by
    pointwise [WguRefIdeal.Read.val_main_v9, WguRefIdeal.Read.val_main_v8, WguRefIdeal.Read.val_main_v7, WguRefIdeal.Read.val_main_v6, WguRefIdeal.Read.val_main_v5]
    blk_ext
  unfold WguRefIdeal.Read.val_main_v10
  generalize WguRefIdeal.Read.val_main_v4 (F := Ideal) dgu = A at h4 ⊢
  generalize WguRefIdeal.Read.val_main_v9 (F := Ideal) dgu = B at h9 ⊢
  pointwise
  match b, hf with
  | 0, hf =>
    have hf : f.val = a.val * 2752 + n.val := by rw [hf]; simp
    rw [dif_pos (by omega)]; exact h4 _ hf
  | 1, hf =>
    have hf : f.val = 11008 + (a.val * 2752 + n.val) := by rw [hf]; simp only [Fin.val_one]; omega
    rw [dif_neg (by omega)]; exact h9 _ (by dsimp only; omega)

/-- Element `i` of the reference's result. -/
theorem ref_apply (h : (⟨S4224x4096, .bf16⟩ : BufTy).Contents (Elt Ideal)) (dgu : (⟨S4x2x4224x2752, .bf16⟩ : BufTy).Contents (Elt Ideal)) (i : S8x4096x2752.Idx)
    (a : Fin 4) (b : Fin 2) (hi : (i 0).val = b.val * 4 + a.val) :
    WguRefIdeal.Read.val_main_v20 (F := Ideal) h dgu i = (∑ l : Fin 4224, h (ix2 l (i 1)) * dgu (ix4 a b l (i 2)) : EReal) := by
  have hj := fun l f => joined_apply dgu l f a b (i 2)
  unfold WguRefIdeal.Read.val_main_v20 WguRefIdeal.Read.val_main_v19 WguRefIdeal.Read.val_main_v18 WguRefIdeal.Read.val_main_v17 WguRefIdeal.Read.val_main_v16 WguRefIdeal.Read.val_main_v12
  generalize WguRefIdeal.Read.val_main_v10 (F := Ideal) dgu = A at hj ⊢
  pointwise
  refine Fin.sum_fin_congr fun l => ?_
  rw [hj l _ (by dsimp only; rw [hi]), mul_comm]

theorem blk0 (c : Dev nD) (p : Fin cfg0.N) (k : Fin 1408) (j : Fin 1024) (l : Fin 4224) (b : Fin 4096) (hl : l.val = p.val % 3 * 1408 + k.val) (hb : b.val = p.val / 3 % 4 * 1024 + j.val) :
    (show Vec Ideal S1408x1024 .bf16 from iblk m c 0 p) (ix2 k j) = m ((c : Thread nD τ).loc main_arg0) (ix2 l b) := by
  rw [← V_main_arg0 m c]
  show (V m c main_arg0) (((cfg0.win 0).blk p).view.emb (ix2 k j)) = V m c main_arg0 (ix2 l b)
  generalize V m c main_arg0 = A
  blk_point [idx p]

theorem blk1 (c : Dev nD) (p : Fin cfg0.N) (k : Fin 1408) (j : Fin 2752) (a : Fin 4) (b : Fin 2) (l : Fin 4224) (ha : a.val = p.val / 24) (hb : b.val = p.val / 12 % 2) (hl : l.val = p.val % 3 * 1408 + k.val) :
    (show Vec Ideal S1x1x1408x2752 .bf16 from iblk m c 1 p) (ix4 0 0 k j) = m ((c : Thread nD τ).loc main_arg1) (ix4 a b l j) := by
  rw [← V_main_arg1 m c]
  show (V m c main_arg1) (((cfg0.win 1).blk p).view.emb (ix4 0 0 k j)) = V m c main_arg1 (ix4 a b l j)
  generalize V m c main_arg1 = A
  blk_point [idx p]

theorem point (c : Dev nD) (t : Fin cfg0.N) (ht : t.val % 3 = 2) (j : Fin 1024) (l : Fin 2752) (i : S8x4096x2752.Idx)
    (h0 : (i 0).val = t.val / 12 % 2 * 4 + t.val / 24) (h1 : (i 1).val = t.val / 3 % 4 * 1024 + j.val) (h2 : (i 2).val = l.val) :
    ((outsAt0 m c t.val t.isLt).2 (ix2 j l) : EReal)
      = WguRefIdeal.Read.val_main_v20 (F := Ideal) (m ((c : Thread nD τ).loc main_arg0)) (m ((c : Thread nD τ).loc main_arg1)) i := by
  obtain rfl : i 2 = l := Fin.ext h2
  have hN := lt_of_lt_of_eq t.isLt N_0
  rw [ref_apply _ _ i ⟨t.val / 24, by omega⟩ ⟨t.val / 12 % 2, by omega⟩ (by dsimp only; omega), scratch m c t ht]
  refine Fin.sum_mul_add_congr fun s k hl => ?_
  have hs := s.isLt
  exact congrArg₂ (fun a b : EReal => a * b)
    (blk0 m c _ k j ⟨s.val * 1408 + k.val, hl⟩ (i 1) (by dsimp only; omega) (by dsimp only; omega))
    (blk1 m c _ k (i 2) _ _ ⟨s.val * 1408 + k.val, hl⟩ (by dsimp only; omega) (by dsimp only; omega) (by dsimp only; omega))

theorem final (c : Dev nD) : (dats m 0 c).arrAt 2 cfg0.N = WguRefIdeal.Read.val_main_v20 (F := Ideal) (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  have e : (outsAt0 m c t.val t.isLt).1 y = epi (outsAt0 m c t.val t.isLt).2 y := by
    rw [outsAt0_C m c t (by omega) (by omega) ht]
    dsimp only
    rw [out_C]
  rw [e]
  refine point m c t ht _ _ _ ?_ ?_ ?_
  all_goals blk_simp [idx t] <;> try omega

end Cert.WguIdeal.Value
end
-- ==== Proof.DhValue.lean ====
module

public import proofs.«01_k».proof.Proof.Gen.DhIdeal.Value
public import proofs.«01_k».proof.Proof.Gen.DhRefIdeal.Run
public import proofs.«01_k».proof.Proof.Gen.DhRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.DhIdeal.Value

open Cert.DhIdeal Cert.DhIdeal.Gen Idealize.ShloMosaic Idealize.ShloMosaic.TcCoe Idealize.SL.Sem
open Idealize.ShloMosaic.Pipeline (Dat)

variable (c : Dev nD) (i : grid0.Coords) (arg3 : Memref sig .tc .vmem S1x1x704x2752 .bf16) (harg3 : arg3.IsWhole) (arg4 : Memref sig .tc .vmem S1x1024x2752 .bf16) (harg4 : arg4.IsWhole) (arg5 : Memref sig .tc .vmem S704x1024 .f32) (harg5 : arg5.IsWhole) (arg6 : Memref sig .tc .vmem S704x1024 .f32) (harg6 : arg6.IsWhole) (arg7 : Memref sig .tc .vmem S704x1024 .f32) (harg7 : arg7.IsWhole)

/-- An element of the block written back, over the sums the scratch holds and the block of the other gradient. -/
def epi (acc : Vec Ideal S704x1024 .f32) (x2 : Vec Ideal S704x1024 .f32) (y : S704x1024.Idx) : EReal :=
  Ideal.ofBits .f32 0x3F9837F0#32 * x2 y + acc y

theorem off1_eq : ∀ k : Fin k0_t1_loop.trips, k0_off1 k = ![64 * k.val, 0] := by decide +kernel

/-- What one trip of the last point's loop stores, over what the scratch holds. -/
theorem trip_pieces (𝒱 : Variants) (bd : Option 𝒱.V) (h3 : k0_cond3 i = 1#1)
    (X2 : BufTy.Contents (Elt Ideal) arg5.view.ty) (X : BufTy.Contents (Elt Ideal) arg7.view.ty) (acc : Vec Ideal S704x1024 .f32) (x2 : Vec Ideal S704x1024 .f32) (hX2 : arg5.view.read (Elt Ideal) X2 = x2) (hX : arg7.view.read (Elt Ideal) X = acc) (k : Fin k0_t1_loop.trips) :
    ∀ p ∈ tripL_k0_t1 (F := Ideal) 𝒱 c bd i arg3 harg3 arg4 harg4 arg5 harg5 arg6 harg6 arg7 harg7 h3 X2 X k, ∀ x : p.1.shape.Idx, p.2 x = epi acc x2 (p.1.emb x) := by
  unfold tripL_k0_t1 trip_k0_t1
  dsimp only
  intro p hp x
  obtain rfl := List.mem_singleton.mp hp
  clear hp
  dsimp only
  rw [View.readAt_eq_ld, View.readAt_eq_ld, hX, hX2]
  pointwise [k0_pay3, epi]
  refine congrArg (fun y : S704x1024.Idx => Ideal.ofBits .f32 0x3F9837F0#32 * x2 y + acc y) ?_
  funext a; match a with | 0 => exact Fin.ext (congrArg (_ + ·) (one_mul _).symm) | 1 => exact Fin.ext (congrArg (_ + ·) (one_mul _).symm)

/-- What a point of case B leaves in the scratch. -/
theorem scr_B (hc0 : ¬cond0_0 i) (hc1 : cond0_1 i) (hc2 : ¬cond0_2 i) (x0 : Vec Ideal S1x1x704x2752 .bf16) (x1 : Vec Ideal S1x1024x2752 .bf16) (x2 : Vec Ideal S704x1024 .f32) (xs0 : Vec Ideal S704x1024 .f32) :
    sout0_B_0 c i arg3 harg3 arg4 harg4 arg5 harg5 arg6 harg6 arg7 harg7 hc0 hc1 hc2 x0 x1 x2 xs0 = k0_pay2 xs0 x0 x1 := by frame_out

/-- What a point of case C leaves in the scratch. -/
theorem scr_C (hc0 : ¬cond0_0 i) (hc1 : cond0_1 i) (hc2 : cond0_2 i) (x0 : Vec Ideal S1x1x704x2752 .bf16) (x1 : Vec Ideal S1x1024x2752 .bf16) (x2 : Vec Ideal S704x1024 .f32) (xs0 : Vec Ideal S704x1024 .f32) :
    sout0_C_0 c i arg3 harg3 arg4 harg4 arg5 harg5 arg6 harg6 arg7 harg7 hc0 hc1 hc2 x0 x1 x2 xs0 = k0_pay2 xs0 x0 x1 := by frame_out

/-- What the last point of a run stores, over what it leaves in the scratch. -/
theorem out_C (hc0 : ¬cond0_0 i) (hc1 : cond0_1 i) (hc2 : cond0_2 i) (x0 : Vec Ideal S1x1x704x2752 .bf16) (x1 : Vec Ideal S1x1024x2752 .bf16) (x2 : Vec Ideal S704x1024 .f32) (xs0 : Vec Ideal S704x1024 .f32) (y : S704x1024.Idx) :
    out0_C_3 c i arg3 harg3 arg4 harg4 arg5 harg5 arg6 harg6 arg7 harg7 hc0 hc1 hc2 x0 x1 x2 xs0 y = epi (sout0_C_0 c i arg3 harg3 arg4 harg4 arg5 harg5 arg6 harg6 arg7 harg7 hc0 hc1 hc2 x0 x1 x2 xs0) x2 y := by
  rw [scr_C]
  unfold out0_C_3
  rw [View.read_writes_junk_eq_canon]
  refine View.canon_apply_of_pieces (fun y => epi (k0_pay2 xs0 x0 x1) x2 y) _ ?_ y (cover0_C_3 c i arg3 harg3 arg4 harg4 arg5 harg5 arg6 harg6 arg7 harg7 hc0 hc1 hc2 x0 x1 x2 xs0 y)
  unfold kernelRun0_C
  dsimp only
  refine Common.forall_mem_trips (fun n => pb_k0_t1 (F := Ideal) Variants.none c none i arg3 harg3 arg4 harg4 arg5 harg5 arg6 harg6 arg7 harg7 hc2 _ _ n)
    (fun k => tripL_k0_t1 (F := Ideal) Variants.none c none i arg3 harg3 arg4 harg4 arg5 harg5 arg6 harg6 arg7 harg7 hc2 _ _ k) rfl
    (fun k => pb_k0_t1_succ (F := Ideal) Variants.none c none i arg3 harg3 arg4 harg4 arg5 harg5 arg6 harg6 arg7 harg7 hc2 _ _ k)
    (trip_pieces c i arg3 harg3 arg4 harg4 arg5 harg5 arg6 harg6 arg7 harg7 Variants.none none hc2 _ _ _ _ ?_ ?_) _ (le_of_eq rfl)
  all_goals frame_out

omit c i arg3 harg3 arg4 harg4 arg5 harg5 arg6 harg6 arg7 harg7

variable (m : (ℓ : Loc nD τ sig) → Buf (Elt Ideal) ℓ)

theorem pay1_apply (x0 : Vec Ideal S1x1x704x2752 .bf16) (x1 : Vec Ideal S1x1024x2752 .bf16) (j : S704x1024.Idx) :
    k0_pay1 (F := Ideal) x0 x1 j = (0 + ∑ k : Fin 2752, x0 (ix4 0 0 (j 0) k) * x1 (ix3 0 (j 1) k) : EReal) := by
  rw [zero_add]; pointwise [k0_pay1]

theorem pay2_apply (xs0 : Vec Ideal S704x1024 .f32) (x0 : Vec Ideal S1x1x704x2752 .bf16) (x1 : Vec Ideal S1x1024x2752 .bf16) (j : S704x1024.Idx) :
    k0_pay2 (F := Ideal) xs0 x0 x1 j = (xs0 j + ∑ k : Fin 2752, x0 (ix4 0 0 (j 0) k) * x1 (ix3 0 (j 1) k) : EReal) := by
  pointwise [k0_pay2]

theorem idx : ∀ t : Fin cfg0.N, win0_0.index t = ![t.val % 8 % 4, t.val % 8 / 4, t.val / 32, 0] ∧ win0_1.index t = ![t.val % 8, t.val / 8 % 4, 0] ∧ win0_2.index t = ![t.val / 32, t.val / 8 % 4] ∧ win0_3.index t = ![t.val / 32, t.val / 8 % 4] :=
  (by decide +kernel : ∀ t : Fin grid0.N, _)

/-- What the scratch holds after the last point of a run: the sum over the run's points of the products of their blocks. -/
theorem scratch (c : Dev nD) (t : Fin cfg0.N) (h : t.val % 8 = 7) (j : S704x1024.Idx) :
    (outsAt0 m c t.val t.isLt).2 j = (∑ s : Fin 8, ∑ k : Fin 2752, (show Vec Ideal S1x1x704x2752 .bf16 from iblk m c 0 ⟨8 * (t.val / 8) + s.val, Pipeline.run_point_lt_of_flush t h s⟩) (ix4 0 0 (j 0) k) * (show Vec Ideal S1x1024x2752 .bf16 from iblk m c 1 ⟨8 * (t.val / 8) + s.val, Pipeline.run_point_lt_of_flush t h s⟩) (ix3 0 (j 1) k) : EReal) := by
  rw [Pipeline.eq_sum_fin_of_reset_step_apply_of_flush (fun n h => (outsAt0 m c n h).2) 8 (fun _ => 0)
    (fun p j => (∑ k : Fin 2752, (show Vec Ideal S1x1x704x2752 .bf16 from iblk m c 0 p) (ix4 0 0 (j 0) k) * (show Vec Ideal S1x1024x2752 .bf16 from iblk m c 1 p) (ix3 0 (j 1) k) : EReal))
    (fun t h j => by rw [outsAt0_A m c t h (by omega) (by omega)]; frame_out; rw [pay1_apply])
    (fun t h j => by
      rcases Nat.lt_or_ge (t.val % 8) 7 with h2 | h2
      · rw [outsAt0_B m c t h (by omega) (by omega)]; dsimp only; rw [scr_B, pay2_apply]
      · rw [outsAt0_C m c t h (by omega) (by omega)]; dsimp only; rw [scr_C, pay2_apply])
    t h j, zero_add]

/-- A column of the joined gradients: block `a` of the gates' (`b = 0`) or of the other inputs' (`b = 1`). -/
theorem joined_apply (dgu : (⟨S4x2x4224x2752, .bf16⟩ : BufTy).Contents (Elt Ideal)) (l : Fin 4224) (f : Fin 22016)
    (a : Fin 4) (b : Fin 2) (n : Fin 2752) (hf : f.val = (b.val * 4 + a.val) * 2752 + n.val) :
    DhRefIdeal.Read.val_main_v10 (F := Ideal) dgu (ix2 l f) = dgu (ix4 a b l n) := by
  have h4 : ∀ q : Fin 11008, q.val = a.val * 2752 + n.val → DhRefIdeal.Read.val_main_v4 (F := Ideal) dgu (ix2 l q) = dgu (ix4 a 0 l n) := fun q hq => by
    pointwise [DhRefIdeal.Read.val_main_v4, DhRefIdeal.Read.val_main_v3, DhRefIdeal.Read.val_main_v2, DhRefIdeal.Read.val_main_v1, DhRefIdeal.Read.val_main_v0]
    blk_ext
  have h9 : ∀ q : Fin 11008, q.val = a.val * 2752 + n.val → DhRefIdeal.Read.val_main_v9 (F := Ideal) dgu (ix2 l q) = dgu (ix4 a 1 l n) := fun q hq => by
    pointwise [DhRefIdeal.Read.val_main_v9, DhRefIdeal.Read.val_main_v8, DhRefIdeal.Read.val_main_v7, DhRefIdeal.Read.val_main_v6, DhRefIdeal.Read.val_main_v5]
    blk_ext
  unfold DhRefIdeal.Read.val_main_v10
  generalize DhRefIdeal.Read.val_main_v4 (F := Ideal) dgu = A at h4 ⊢
  generalize DhRefIdeal.Read.val_main_v9 (F := Ideal) dgu = B at h9 ⊢
  pointwise
  match b, hf with
  | 0, hf =>
    have hf : f.val = a.val * 2752 + n.val := by rw [hf]; simp
    rw [dif_pos (by omega)]; exact h4 _ hf
  | 1, hf =>
    have hf : f.val = 11008 + (a.val * 2752 + n.val) := by rw [hf]; simp only [Fin.val_one]; omega
    rw [dif_neg (by omega)]; exact h9 _ (by dsimp only; omega)

/-- Element `i` of the reference's result. -/
theorem ref_apply (dgu : (⟨S4x2x4224x2752, .bf16⟩ : BufTy).Contents (Elt Ideal)) (w : (⟨S4096x22016, .bf16⟩ : BufTy).Contents (Elt Ideal))
    (dp : (⟨S4224x4096, .f32⟩ : BufTy).Contents (Elt Ideal)) (i : S4224x4096.Idx) :
    DhRefIdeal.Read.val_main_v19 (F := Ideal) dgu w dp i
      = (Ideal.ofBits .f32 0x3F9837F0#32 * dp (ix2 (i 0) (i 1)) + ∑ f : Fin 22016, DhRefIdeal.Read.val_main_v10 (F := Ideal) dgu (ix2 (i 0) f) * w (ix2 (i 1) f) : EReal) := by
  unfold DhRefIdeal.Read.val_main_v19 DhRefIdeal.Read.val_main_v18 DhRefIdeal.Read.val_main_v17 DhRefIdeal.Read.val_main_v16 DhRefIdeal.Read.val_main_v11
  generalize DhRefIdeal.Read.val_main_v10 (F := Ideal) dgu = A
  pointwise
  exact add_comm _ _

/-- Element `i` of the weights the host splits into blocks of columns. -/
theorem split_apply (c : Dev nD) (i : S8x4096x2752.Idx) (f : Fin 22016) (hf : f.val = (i 0).val * 2752 + (i 2).val) : (show EReal from V m c main_v1 i)
    = m ((c : Thread nD τ).loc main_arg1) (ix2 (i 1) f) := by
  unfold V
  simp only [hostOps0, List.flatten_cons, List.flatten_nil, List.append_nil, List.cons_append, List.nil_append]
  after_results_simp
  pointwise
  blk_ext

theorem blk0 (c : Dev nD) (p : Fin cfg0.N) (k : Fin 2752) (j : Fin 704) (a : Fin 4) (b : Fin 2) (l : Fin 4224) (ha : a.val = p.val % 8 % 4) (hb : b.val = p.val % 8 / 4) (hl : l.val = p.val / 32 * 704 + j.val) :
    (show Vec Ideal S1x1x704x2752 .bf16 from iblk m c 0 p) (ix4 0 0 j k) = m ((c : Thread nD τ).loc main_arg0) (ix4 a b l k) := by
  rw [← V_main_arg0 m c]
  show (V m c main_arg0) (((cfg0.win 0).blk p).view.emb (ix4 0 0 j k)) = V m c main_arg0 (ix4 a b l k)
  generalize V m c main_arg0 = A
  blk_point [idx p]

theorem blk1 (c : Dev nD) (p : Fin cfg0.N) (k : Fin 2752) (j : Fin 1024) (l : Fin 4096) (f : Fin 22016) (hl : l.val = p.val / 8 % 4 * 1024 + j.val) (hf : f.val = p.val % 8 * 2752 + k.val) :
    (show Vec Ideal S1x1024x2752 .bf16 from iblk m c 1 p) (ix3 0 j k) = m ((c : Thread nD τ).loc main_arg1) (ix2 l f) := by
  refine Eq.trans (b := (show EReal from V m c main_v1 (ix3 ⟨p.val % 8, by omega⟩ l k))) ?_ (split_apply m c _ f hf)
  show (V m c main_v1) (((cfg0.win 1).blk p).view.emb (ix3 0 j k)) = V m c main_v1 (ix3 ⟨p.val % 8, by omega⟩ l k)
  generalize V m c main_v1 = A
  blk_point [idx p]

theorem blk2 (c : Dev nD) (p : Fin cfg0.N) (j : Fin 704) (k : Fin 1024) (l : Fin 4224) (b : Fin 4096) (hl : l.val = p.val / 32 * 704 + j.val) (hb : b.val = p.val / 8 % 4 * 1024 + k.val) :
    (show Vec Ideal S704x1024 .f32 from iblk m c 2 p) (ix2 j k) = m ((c : Thread nD τ).loc main_arg2) (ix2 l b) := by
  rw [← V_main_arg2 m c]
  show (V m c main_arg2) (((cfg0.win 2).blk p).view.emb (ix2 j k)) = V m c main_arg2 (ix2 l b)
  generalize V m c main_arg2 = A
  blk_point [idx p]

theorem point (c : Dev nD) (t : Fin cfg0.N) (ht : t.val % 8 = 7) (j : Fin 704) (l : Fin 1024) (i : S4224x4096.Idx)
    (h0 : (i 0).val = t.val / 32 * 704 + j.val) (h1 : (i 1).val = t.val / 8 % 4 * 1024 + l.val) :
    (epi (outsAt0 m c t.val t.isLt).2 (iblk m c 2 t) (ix2 j l) : EReal)
      = DhRefIdeal.Read.val_main_v19 (F := Ideal) (m ((c : Thread nD τ).loc main_arg0)) (m ((c : Thread nD τ).loc main_arg1)) (m ((c : Thread nD τ).loc main_arg2)) i := by
  have hN := lt_of_lt_of_eq t.isLt N_0
  rw [ref_apply]
  refine congrArg₂ (fun a b : EReal => Ideal.ofBits .f32 0x3F9837F0#32 * a + b) (blk2 m c t j l (i 0) (i 1) h0 h1) ?_
  refine (scratch m c t ht _).trans ?_
  refine Fin.sum_mul_add_congr fun s k hl => ?_
  have hs := s.isLt
  exact congrArg₂ (fun a b : EReal => a * b)
    ((blk0 m c _ k j ⟨s.val % 4, by omega⟩ ⟨s.val / 4, by omega⟩ (i 0) (by dsimp only; omega) (by dsimp only; omega) (by dsimp only; omega)).trans
      (joined_apply _ (i 0) ⟨s.val * 2752 + k.val, hl⟩ ⟨s.val % 4, by omega⟩ ⟨s.val / 4, by omega⟩ k (by dsimp only; omega)).symm)
    (blk1 m c _ k l (i 1) ⟨s.val * 2752 + k.val, hl⟩ (by dsimp only; omega) (by dsimp only; omega))

theorem final (c : Dev nD) : (dats m 0 c).arrAt 3 cfg0.N = DhRefIdeal.Read.val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := (flush0_3 t).mp hf
  rw [after0_3]
  have e : (outsAt0 m c t.val t.isLt).1 y = epi (outsAt0 m c t.val t.isLt).2 (iblk m c 2 t) (ix2 (y 0) (y 1)) := by
    rw [outsAt0_C m c t (by omega) (by omega) ht]
    dsimp only
    rw [out_C]
    exact congrArg (epi _ _) (by funext a; match a with | 0 => rfl | 1 => rfl)
  rw [e]
  refine point m c t ht _ _ _ ?_ ?_
  all_goals blk_simp [idx t] <;> try omega

end Cert.DhIdeal.Value
end
-- ==== Proof.ConvValue.lean ====
/- The gated causal convolution's gradients: what the kernel leaves in each of its four results is what the reference
   computes, element by element, over the extended reals. The kernel runs over both sequences' rows at once, so a row's
   position in its sequence says which of the rows before or after it belong to the same sequence. -/
module

public import proofs.«01_k».proof.Proof.Gen.ConvIdeal.Value
public import proofs.«01_k».proof.Proof.Gen.ConvRefIdeal.Run
public import proofs.«01_k».proof.Proof.Gen.ConvRefIdeal.Read
public import Idealize.ShloMosaic.Lib.Pipeline.ValueKit
import Idealize.ShloMosaic.Lib.Pipeline.ReadBack
import Idealize.ShloMosaic.Lib.KernelVsHost

@[expose] public section

set_option maxRecDepth 16384

noncomputable section

namespace Cert.ConvIdeal.Value

open Cert.ConvIdeal Cert.ConvIdeal.Gen Idealize.ShloMosaic Idealize.ShloMosaic.TcCoe Idealize.SL.Sem
open Idealize.ShloMosaic.Pipeline (Dat)

/-- A row's position in its sequence; the rows added at the end continue the second one. -/
def pos (r : Fin 4224) : ℕ := if 2064 ≤ r.val then r.val - 2064 else r.val

/-- A column moved down by `s` rows within a sequence, with zeros before its beginning. -/
def down (s : ℕ) (x : Fin 4224 → EReal) (r : Fin 4224) : EReal := if s ≤ pos r then x ⟨(r.val + 4224 - s) % 4224, Nat.mod_lt _ (by decide)⟩ else 0

/-- A column moved up by `s` rows within a sequence, with zeros after its end. -/
def up (s : ℕ) (x : Fin 4224 → EReal) (r : Fin 4224) : EReal := if pos r + s < 2064 then x ⟨(r.val + s) % 4224, Nat.mod_lt _ (by decide)⟩ else 0

theorem pay3_apply (j : S4224x1.Idx) : k0_pay3 j = BitVec.ofNat 32 (pos (j 0)) := by
  pointwise [k0_pay3]
  have h : ∀ r : Fin 4224, Scalar.select (IntOp.cmpi CmpIPredicate.sge (BitVec.ofNat 32 r.val) 2064#32) (IntOp.subi (BitVec.ofNat 32 r.val) 2064#32) (BitVec.ofNat 32 r.val) = BitVec.ofNat 32 (pos r) := by decide +kernel
  exact h (j 0)

theorem sge_pos : ∀ (s : Fin 3) (r : Fin 4224), IntOp.cmpi .sge (BitVec.ofNat 32 (pos r)) (BitVec.ofNat 32 s.val) = if s.val ≤ pos r then 1#1 else 0#1 := by decide +kernel

theorem slt_pos : ∀ (s : Fin 3) (r : Fin 4224), IntOp.cmpi .slt (IntOp.addi (BitVec.ofNat 32 (pos r)) (BitVec.ofNat 32 s.val)) 2064#32 = if pos r + s.val < 2064 then 1#1 else 0#1 := by decide +kernel

theorem select_ite (p : Prop) [Decidable p] (a b : EReal) : Scalar.select (if p then 1#1 else 0#1) a b = if p then a else b := by
  split <;> rfl

theorem pay5_apply (x1 x2 : Vec Ideal S4224x128 .f32) (j : S4224x128.Idx) : k0_pay5 (F := Ideal) x1 x2 j = down 2 (fun r => x1 (ix2 r (j 1)) * x2 (ix2 r (j 1))) (j 0) := by
  pointwise [k0_pay5, k0_pay4]
  rw [pay3_apply]
  exact (congrArg (fun c => Scalar.select c _ _) (sge_pos 2 (j 0))).trans (select_ite _ _ _)

theorem pay6_apply (x1 x2 : Vec Ideal S4224x128 .f32) (j : S4224x128.Idx) : k0_pay6 (F := Ideal) x1 x2 j = down 1 (fun r => x1 (ix2 r (j 1)) * x2 (ix2 r (j 1))) (j 0) := by
  pointwise [k0_pay6, k0_pay4]
  rw [pay3_apply]
  exact (congrArg (fun c => Scalar.select c _ _) (sge_pos 1 (j 0))).trans (select_ite _ _ _)

set_option maxRecDepth 200000 in
/-- The convolution's gradient with respect to its input at element `j`: the gated outputs' gradient times the taps, from the row itself and from the two after it. -/
theorem pay10_apply (w : Vec Ideal S3x128 .f32) (x4 x0 : Vec Ideal S4224x128 .f32) (j : S4224x128.Idx) : k0_pay10 (F := Ideal) k0_pay3 w x4 x0 j
    = (x4 j * x0 j * w (ix2 2 (j 1)) + up 1 (fun r => x4 (ix2 r (j 1)) * x0 (ix2 r (j 1)) * w (ix2 1 (j 1))) (j 0) + up 2 (fun r => x4 (ix2 r (j 1)) * x0 (ix2 r (j 1)) * w (ix2 0 (j 1))) (j 0) : EReal) := by
  unfold k0_pay10
  dsimp only
  have hA : ∀ i, k0_pay9 (F := Ideal) x4 x0 i = (x4 i * x0 i : EReal) := fun i => by pointwise [k0_pay9]
  rw [← hA j]
  simp only [← hA (ix2 _ (j 1))]
  generalize k0_pay9 (F := Ideal) x4 x0 = A
  generalize hP : k0_pay3 = P
  pointwise
  subst hP
  rw [pay3_apply]
  refine congrArg₂ (fun a b : EReal => A j * w (ix2 2 (j 1)) + a + b) ?_ ?_
  · refine (congrArg (fun c => Scalar.select c _ _) (slt_pos 1 (j 0))).trans ((select_ite _ _ _).trans ?_)
    unfold up
    have : (j 0).val + 4224 - 4223 = (j 0).val + 1 := by omega
    simp only [this]; rfl
  · refine (congrArg (fun c => Scalar.select c _ _) (slt_pos 2 (j 0))).trans ((select_ite _ _ _).trans ?_)
    unfold up
    have : (j 0).val + 4224 - 4222 = (j 0).val + 2 := by omega
    simp only [this]; rfl

/-- The host's sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  classical
  refine congrArg (init + ·) ((Finset.sum_filter_eq_sum_of_fiber (fun i => h.drop i = j) (fun k : Fin n0 × Fin n1 => ix3 k.1 k.2 (j 0)) (fun _ _ e => Prod.ext (congrFun e 0) (congrFun e 1)) (fun i => ⟨fun e => ⟨(i 0, i 1), ?_⟩, ?_⟩) v).trans ?_)
  · funext a
    match a with
    | ⟨0, _⟩ => rfl
    | ⟨1, _⟩ => rfl
    | ⟨2, _⟩ => exact Fin.ext ((congrArg Fin.val (congrFun e 0)).symm.trans (h.drop_apply_val_of_eq i 0 2 (Nat.zero_lt_one) rfl))
  · rintro ⟨k, rfl⟩
    funext b
    match b with
    | ⟨0, _⟩ => exact Fin.ext (h.drop_apply_val_of_eq _ 0 2 (Nat.zero_lt_one) rfl)
  · exact Fintype.sum_prod_type _

/-- The zero the host pads with. -/
theorem pad_zero : (FloatOps.sitofp FTy.f32 0#32 : Ideal .f32) = (0 : EReal) := sitofp_zero

/-- The row of position `l` of sequence `b`. -/
def row (b : Fin 2) (l : Fin 2064) : Fin 4224 := ⟨b.val * 2064 + l.val, by omega⟩

theorem pos_row (b : Fin 2) (l : Fin 2064) : pos (row b l) = l.val := by
  unfold pos row
  dsimp only
  split <;> omega

theorem row_div (r : Fin 4224) (h : r.val < 4128) : row ⟨r.val / 2064, by omega⟩ ⟨r.val % 2064, by omega⟩ = r :=
  Fin.ext (by show r.val / 2064 * 2064 + r.val % 2064 = r.val; omega)

/-- A sum over the rows is the sum over the sequences and their positions, where the added rows hold zero. -/
theorem sum_row (f : Fin 4224 → EReal) (h : ∀ r : Fin 4224, 4128 ≤ r.val → f r = 0) : ∑ r, f r = ∑ b : Fin 2, ∑ l : Fin 2064, f (row b l) := by
  have e : ∑ r : Fin (4128 + 96), f r = _ := Fin.sum_univ_add (a := 4128) (b := 96) f
  refine e.trans ?_
  rw [Finset.sum_eq_zero (s := Finset.univ) (f := fun i : Fin 96 => f (Fin.natAdd 4128 i)) (fun i _ => h _ (by show 4128 ≤ 4128 + i.val; omega)), add_zero]
  exact (Fin.sum_mul_add_congr fun b l hk => rfl).symm

theorem down_row_two (x : Fin 4224 → EReal) (b : Fin 2) (l : Fin 2064) : down 2 x (row b l) = if h : l.val < 2 then 0 else x ⟨b.val * 2064 + (l.val - 2), by omega⟩ := by
  unfold down
  rw [pos_row]
  by_cases h : l.val < 2
  · rw [dif_pos h]; exact if_neg (by omega)
  · refine (if_pos (by omega)).trans (Eq.trans ?_ (dif_neg h).symm)
    exact congrArg x (Fin.ext (by show (b.val * 2064 + l.val + 4224 - 2) % 4224 = b.val * 2064 + (l.val - 2); omega))

theorem down_row_one (x : Fin 4224 → EReal) (b : Fin 2) (l : Fin 2064) : down 1 x (row b l) = if h : 1 + l.val < 2 then 0 else x ⟨b.val * 2064 + (1 + l.val - 2), by omega⟩ := by
  unfold down
  rw [pos_row]
  by_cases h : 1 + l.val < 2
  · rw [dif_pos h]; exact if_neg (by omega)
  · refine (if_pos (by omega)).trans (Eq.trans ?_ (dif_neg h).symm)
    exact congrArg x (Fin.ext (by show (b.val * 2064 + l.val + 4224 - 1) % 4224 = b.val * 2064 + (1 + l.val - 2); omega))

theorem up_row_one (x : Fin 4224 → EReal) (b : Fin 2) (l : Fin 2064) : up 1 x (row b l) = if h : 1 ≤ 2 + l.val ∧ 2 + l.val - 1 < 2064 then x (row b ⟨2 + l.val - 1, h.2⟩) else 0 := by
  unfold up
  rw [pos_row]
  by_cases h : 1 ≤ 2 + l.val ∧ 2 + l.val - 1 < 2064
  · refine (if_pos (by omega)).trans (Eq.trans ?_ (dif_pos h).symm)
    exact congrArg x (Fin.ext (by show (b.val * 2064 + l.val + 1) % 4224 = b.val * 2064 + (2 + l.val - 1); omega))
  · rw [dif_neg h]; exact if_neg (by omega)

theorem up_row_two (x : Fin 4224 → EReal) (b : Fin 2) (l : Fin 2064) : up 2 x (row b l) = if h : 2 + l.val < 2064 then x (row b ⟨2 + l.val, h⟩) else 0 := by
  unfold up
  rw [pos_row]
  by_cases h : 2 + l.val < 2064
  · refine (if_pos (by omega)).trans (Eq.trans ?_ (dif_pos h).symm)
    exact congrArg x (Fin.ext (by show (b.val * 2064 + l.val + 2) % 4224 = b.val * 2064 + (2 + l.val); omega))
  · rw [dif_neg h]; exact if_neg (by omega)

/-- Past the sequences nothing is moved up. -/
theorem up_end (s : ℕ) (x : Fin 4224 → EReal) (r : Fin 4224) (h : 4128 ≤ r.val) : up s x r = 0 :=
  if_neg (by unfold pos; split <;> omega)

/-- Column `n` of the convolution's input. -/
def gated (u : (⟨S4224x8192, .f32⟩ : BufTy).Contents (Elt Ideal)) (n : Fin 2048) (r : Fin 4224) : EReal := u (ix2 r ⟨2048 + n.val, by omega⟩) * u (ix2 r ⟨4096 + n.val, by omega⟩)

/-- Column `n` of the outputs' gradient over all rows. -/
def dcol (dy : (⟨S2x2064x4096, .f32⟩ : BufTy).Contents (Elt Ideal)) (n : Fin 2048) (r : Fin 4224) : EReal := if h : r.val < 4128 then dy (ix3 ⟨r.val / 2064, by omega⟩ ⟨r.val % 2064, by omega⟩ ⟨n.val, by omega⟩) else 0

/-- Column `n` of the convolution's outputs' gradient. -/
def grad (u : (⟨S4224x8192, .f32⟩ : BufTy).Contents (Elt Ideal)) (dy : (⟨S2x2064x4096, .f32⟩ : BufTy).Contents (Elt Ideal)) (n : Fin 2048) (r : Fin 4224) : EReal := dcol dy n r * u (ix2 r ⟨n.val, by omega⟩)

/-- Column `n` of the convolution itself. -/
def conv (u : (⟨S4224x8192, .f32⟩ : BufTy).Contents (Elt Ideal)) (w : (⟨S3x2048, .f32⟩ : BufTy).Contents (Elt Ideal)) (n : Fin 2048) (r : Fin 4224) : EReal := down 2 (gated u n) r * w (ix2 0 n) + down 1 (gated u n) r * w (ix2 1 n) + gated u n r * w (ix2 2 n)

/-- Column `n` of the gradient of the convolution's input. -/
def back (u : (⟨S4224x8192, .f32⟩ : BufTy).Contents (Elt Ideal)) (w : (⟨S3x2048, .f32⟩ : BufTy).Contents (Elt Ideal)) (dy : (⟨S2x2064x4096, .f32⟩ : BufTy).Contents (Elt Ideal)) (n : Fin 2048) (r : Fin 4224) : EReal :=
  grad u dy n r * w (ix2 2 n) + up 1 (fun r => grad u dy n r * w (ix2 1 n)) r + up 2 (fun r => grad u dy n r * w (ix2 0 n)) r

theorem dcol_row (dy : (⟨S2x2064x4096, .f32⟩ : BufTy).Contents (Elt Ideal)) (n : Fin 2048) (b : Fin 2) (l : Fin 2064) : dcol dy n (row b l) = dy (ix3 b l ⟨n.val, by omega⟩) := by
  have h : (row b l).val < 4128 := by show b.val * 2064 + l.val < 4128; omega
  refine (dif_pos h).trans (congrArg₂ (fun b l => dy (ix3 b l ⟨n.val, by omega⟩)) (Fin.ext ?_) (Fin.ext ?_))
  · show (b.val * 2064 + l.val) / 2064 = b.val; omega
  · show (b.val * 2064 + l.val) % 2064 = l.val; omega

theorem dcol_end (dy : (⟨S2x2064x4096, .f32⟩ : BufTy).Contents (Elt Ideal)) (n : Fin 2048) (r : Fin 4224) (h : 4128 ≤ r.val) : dcol dy n r = 0 := dif_neg (by omega)

theorem grad_end (u : (⟨S4224x8192, .f32⟩ : BufTy).Contents (Elt Ideal)) (dy : (⟨S2x2064x4096, .f32⟩ : BufTy).Contents (Elt Ideal)) (n : Fin 2048) (r : Fin 4224) (h : 4128 ≤ r.val) : grad u dy n r = 0 := by
  unfold grad; rw [dcol_end dy n r h, zero_mul]

theorem back_end (u : (⟨S4224x8192, .f32⟩ : BufTy).Contents (Elt Ideal)) (w : (⟨S3x2048, .f32⟩ : BufTy).Contents (Elt Ideal)) (dy : (⟨S2x2064x4096, .f32⟩ : BufTy).Contents (Elt Ideal)) (n : Fin 2048) (r : Fin 4224) (h : 4128 ≤ r.val) : back u w dy n r = 0 := by
  unfold back; rw [grad_end u dy n r h, up_end _ _ r h, up_end _ _ r h, zero_mul, add_zero, add_zero]

/-- The outputs' gradient that the host extends by rows of zeros, at row `r` of column `n`. -/
theorem padded (m : (ℓ : Loc nD τ sig) → Buf (Elt Ideal) ℓ) (c : Dev nD) (n : Fin 2048) (r : Fin 4224) : (show EReal from V m c main_v1 (ix2 r ⟨n.val, by omega⟩)) = dcol (m ((c : Thread nD τ).loc main_arg2)) n r := by
  show _ = dcol (m (c, Proc.tc.devRef main_arg2)) n r
  unfold V
  simp only [hostOps0, List.flatten_cons, List.flatten_nil, List.append_nil, List.cons_append, List.nil_append]
  after_results_simp
  simp only [StableHlo.TRef.toBuf, StableHlo.TRef.ofBuf, cast_eq]
  pointwise
  rw [pad_zero]
  generalize m (c, Proc.tc.devRef main_arg2) = B
  by_cases h : r.val < 4128
  · exact (dif_pos ⟨h, by omega⟩).trans (dif_pos h : dcol B n r = _).symm
  · exact (dif_neg fun e => h e.1).trans (dif_neg h : dcol B n r = _).symm

/-! The reference's values at a position of a sequence. -/

theorem ref_conv (u : (⟨S4224x8192, .f32⟩ : BufTy).Contents (Elt Ideal)) (w : (⟨S3x2048, .f32⟩ : BufTy).Contents (Elt Ideal)) (n : Fin 2048) (b : Fin 2) (l : Fin 2064) : ConvRefIdeal.Read.val_main_v28 (F := Ideal) u w (ix3 b l n) = conv u w n (row b l) := by
  unfold conv
  rw [down_row_two, down_row_one]
  pointwise [ConvRefIdeal.Read.val_main_v28, ConvRefIdeal.Read.val_main_v27, ConvRefIdeal.Read.val_main_v26, ConvRefIdeal.Read.val_main_v25, ConvRefIdeal.Read.val_main_v24, ConvRefIdeal.Read.val_main_v23, ConvRefIdeal.Read.val_main_v22, ConvRefIdeal.Read.val_main_v21, ConvRefIdeal.Read.val_main_v20, ConvRefIdeal.Read.val_main_v19, ConvRefIdeal.Read.val_main_v18, ConvRefIdeal.Read.val_main_v17, ConvRefIdeal.Read.val_main_v16, ConvRefIdeal.Read.val_main_v15, ConvRefIdeal.Read.val_main_v14, ConvRefIdeal.Read.val_main_v13, ConvRefIdeal.Read.val_main_v12, ConvRefIdeal.Read.val_main_v11, ConvRefIdeal.Read.val_main_v10, ConvRefIdeal.Read.val_main_v9, ConvRefIdeal.Read.val_main_v8, ConvRefIdeal.Read.val_main_v7, ConvRefIdeal.Read.val_main_v6, ConvRefIdeal.Read.val_main_v5, ConvRefIdeal.Read.val_main_v4, ConvRefIdeal.Read.val_main_v3, ConvRefIdeal.Read.val_main_v2, ConvRefIdeal.Read.val_main_v1, ConvRefIdeal.Read.val_main_v0, ConvRefIdeal.Read.val_main_cst, ConvRefIdeal.Read.val_main_cst_0]
  rfl

theorem ref_grad (u : (⟨S4224x8192, .f32⟩ : BufTy).Contents (Elt Ideal)) (dy : (⟨S2x2064x4096, .f32⟩ : BufTy).Contents (Elt Ideal)) (n : Fin 2048) (b : Fin 2) (l : Fin 2064) : ConvRefIdeal.Read.val_main_v31 (F := Ideal) u dy (ix3 b l n) = grad u dy n (row b l) := by
  unfold grad
  rw [dcol_row]
  pointwise [ConvRefIdeal.Read.val_main_v31, ConvRefIdeal.Read.val_main_v30, ConvRefIdeal.Read.val_main_v29, ConvRefIdeal.Read.val_main_v2, ConvRefIdeal.Read.val_main_v1, ConvRefIdeal.Read.val_main_v0]
  exact mul_comm _ _

theorem ref_back (u : (⟨S4224x8192, .f32⟩ : BufTy).Contents (Elt Ideal)) (w : (⟨S3x2048, .f32⟩ : BufTy).Contents (Elt Ideal)) (dy : (⟨S2x2064x4096, .f32⟩ : BufTy).Contents (Elt Ideal)) (n : Fin 2048) (b : Fin 2) (l : Fin 2064) : ConvRefIdeal.Read.val_main_v65 (F := Ideal) u w dy (ix3 b l n) = back u w dy n (row b l) := by
  unfold back
  rw [up_row_one, up_row_two]
  simp only [← ref_grad]
  unfold ConvRefIdeal.Read.val_main_v65 ConvRefIdeal.Read.val_main_v63 ConvRefIdeal.Read.val_main_v62 ConvRefIdeal.Read.val_main_v57 ConvRefIdeal.Read.val_main_v52 ConvRefIdeal.Read.val_main_v51 ConvRefIdeal.Read.val_main_v46 ConvRefIdeal.Read.val_main_v41 ConvRefIdeal.Read.val_main_v37
  generalize ConvRefIdeal.Read.val_main_v31 (F := Ideal) u dy = B
  pointwise [ConvRefIdeal.Read.val_main_v64, ConvRefIdeal.Read.val_main_v56, ConvRefIdeal.Read.val_main_v45, ConvRefIdeal.Read.val_main_v36, ConvRefIdeal.Read.val_main_v27, ConvRefIdeal.Read.val_main_v26, ConvRefIdeal.Read.val_main_v25, ConvRefIdeal.Read.val_main_v24, ConvRefIdeal.Read.val_main_v23, ConvRefIdeal.Read.val_main_v20, ConvRefIdeal.Read.val_main_v19, ConvRefIdeal.Read.val_main_v18, ConvRefIdeal.Read.val_main_v17, ConvRefIdeal.Read.val_main_v16, ConvRefIdeal.Read.val_main_v14, ConvRefIdeal.Read.val_main_v13, ConvRefIdeal.Read.val_main_v12, ConvRefIdeal.Read.val_main_v11, ConvRefIdeal.Read.val_main_v10, ConvRefIdeal.Read.val_main_cst_8, ConvRefIdeal.Read.val_main_cst_12]

theorem ref_rows_gate_row (u : (⟨S4224x8192, .f32⟩ : BufTy).Contents (Elt Ideal)) (w : (⟨S3x2048, .f32⟩ : BufTy).Contents (Elt Ideal)) (dy : (⟨S2x2064x4096, .f32⟩ : BufTy).Contents (Elt Ideal)) (b : Fin 2) (l : Fin 2064) (n : Fin 2048) : ConvRefIdeal.Read.val_main_v32 (F := Ideal) u w dy (ix3 b l n) = (dcol dy n (row b l) * conv u w n (row b l) : EReal) := by
  rw [dcol_row, ← ref_conv]
  unfold ConvRefIdeal.Read.val_main_v32
  generalize ConvRefIdeal.Read.val_main_v28 (F := Ideal) u w = B
  pointwise [ConvRefIdeal.Read.val_main_v30]

theorem ref_rows_gate (u : (⟨S4224x8192, .f32⟩ : BufTy).Contents (Elt Ideal)) (w : (⟨S3x2048, .f32⟩ : BufTy).Contents (Elt Ideal)) (dy : (⟨S2x2064x4096, .f32⟩ : BufTy).Contents (Elt Ideal)) (r : Fin 4224) (n : Fin 2048) : ConvRefIdeal.Read.val_main_v70 (F := Ideal) u w dy (ix2 r n) = (dcol dy n r * conv u w n r : EReal) := by
  pointwise [ConvRefIdeal.Read.val_main_v70, ConvRefIdeal.Read.val_main_v69, ConvRefIdeal.Read.val_main_v68, ConvRefIdeal.Read.val_main_call0_v0, ConvRefIdeal.Read.val_main_c]
  rw [pad_zero]
  by_cases h : r.val < 4128
  · rw [dif_pos h, ref_rows_gate_row, row_div r h]
  · rw [dif_neg h, dcol_end dy n r (by omega), zero_mul]

theorem ref_rows_in_row (u : (⟨S4224x8192, .f32⟩ : BufTy).Contents (Elt Ideal)) (w : (⟨S3x2048, .f32⟩ : BufTy).Contents (Elt Ideal)) (dy : (⟨S2x2064x4096, .f32⟩ : BufTy).Contents (Elt Ideal)) (b : Fin 2) (l : Fin 2064) (n : Fin 2048) : ConvRefIdeal.Read.val_main_v67 (F := Ideal) u w dy (ix3 b l n) = (back u w dy n (row b l) * u (ix2 (row b l) ⟨4096 + n.val, by omega⟩) : EReal) := by
  rw [← ref_back]
  unfold ConvRefIdeal.Read.val_main_v67
  generalize ConvRefIdeal.Read.val_main_v65 (F := Ideal) u w dy = B
  pointwise [ConvRefIdeal.Read.val_main_v4, ConvRefIdeal.Read.val_main_v1, ConvRefIdeal.Read.val_main_v0]
  rfl

theorem ref_rows_in (u : (⟨S4224x8192, .f32⟩ : BufTy).Contents (Elt Ideal)) (w : (⟨S3x2048, .f32⟩ : BufTy).Contents (Elt Ideal)) (dy : (⟨S2x2064x4096, .f32⟩ : BufTy).Contents (Elt Ideal)) (r : Fin 4224) (n : Fin 2048) : ConvRefIdeal.Read.val_main_v73 (F := Ideal) u w dy (ix2 r n) = (back u w dy n r * u (ix2 r ⟨4096 + n.val, by omega⟩) : EReal) := by
  pointwise [ConvRefIdeal.Read.val_main_v73, ConvRefIdeal.Read.val_main_v72, ConvRefIdeal.Read.val_main_v71, ConvRefIdeal.Read.val_main_call1_v0, ConvRefIdeal.Read.val_main_c_13]
  rw [pad_zero]
  by_cases h : r.val < 4128
  · rw [dif_pos h, ref_rows_in_row, row_div r h]
  · rw [dif_neg h, back_end u w dy n r (by omega), zero_mul]

theorem ref_rows_second_row (u : (⟨S4224x8192, .f32⟩ : BufTy).Contents (Elt Ideal)) (w : (⟨S3x2048, .f32⟩ : BufTy).Contents (Elt Ideal)) (dy : (⟨S2x2064x4096, .f32⟩ : BufTy).Contents (Elt Ideal)) (b : Fin 2) (l : Fin 2064) (n : Fin 2048) : ConvRefIdeal.Read.val_main_v66 (F := Ideal) u w dy (ix3 b l n) = (back u w dy n (row b l) * u (ix2 (row b l) ⟨2048 + n.val, by omega⟩) : EReal) := by
  rw [← ref_back]
  unfold ConvRefIdeal.Read.val_main_v66
  generalize ConvRefIdeal.Read.val_main_v65 (F := Ideal) u w dy = B
  pointwise [ConvRefIdeal.Read.val_main_v3, ConvRefIdeal.Read.val_main_v1, ConvRefIdeal.Read.val_main_v0]
  exact mul_comm _ _

theorem ref_rows_second (u : (⟨S4224x8192, .f32⟩ : BufTy).Contents (Elt Ideal)) (w : (⟨S3x2048, .f32⟩ : BufTy).Contents (Elt Ideal)) (dy : (⟨S2x2064x4096, .f32⟩ : BufTy).Contents (Elt Ideal)) (r : Fin 4224) (n : Fin 2048) : ConvRefIdeal.Read.val_main_v76 (F := Ideal) u w dy (ix2 r n) = (back u w dy n r * u (ix2 r ⟨2048 + n.val, by omega⟩) : EReal) := by
  pointwise [ConvRefIdeal.Read.val_main_v76, ConvRefIdeal.Read.val_main_v75, ConvRefIdeal.Read.val_main_v74, ConvRefIdeal.Read.val_main_call2_v0, ConvRefIdeal.Read.val_main_c_14]
  rw [pad_zero]
  by_cases h : r.val < 4128
  · rw [dif_pos h, ref_rows_second_row, row_div r h]
  · rw [dif_neg h, back_end u w dy n r (by omega), zero_mul]

theorem ref_taps_first (u : (⟨S4224x8192, .f32⟩ : BufTy).Contents (Elt Ideal)) (dy : (⟨S2x2064x4096, .f32⟩ : BufTy).Contents (Elt Ideal)) (n : Fin 2048) : ConvRefIdeal.Read.val_main_v61 (F := Ideal) u dy (ix2 0 n) = (∑ r : Fin 4224, grad u dy n r * down 2 (gated u n) r : EReal) := by
  pointwise [ConvRefIdeal.Read.val_main_v61, ConvRefIdeal.Read.val_main_v60, ConvRefIdeal.Read.val_main_v59, ConvRefIdeal.Read.val_main_v58, ConvRefIdeal.Read.val_main_v55, ConvRefIdeal.Read.val_main_v54, ConvRefIdeal.Read.val_main_v50, ConvRefIdeal.Read.val_main_v49, ConvRefIdeal.Read.val_main_v48, ConvRefIdeal.Read.val_main_v47, ConvRefIdeal.Read.val_main_v44, ConvRefIdeal.Read.val_main_v43, ConvRefIdeal.Read.val_main_v40, ConvRefIdeal.Read.val_main_v39, ConvRefIdeal.Read.val_main_v38, ConvRefIdeal.Read.val_main_v35, ConvRefIdeal.Read.val_main_v34, ConvRefIdeal.Read.val_main_cst_1, ConvRefIdeal.Read.val_main_cst_2, ConvRefIdeal.Read.val_main_cst_3, ConvRefIdeal.Read.val_main_cst_4, ConvRefIdeal.Read.val_main_cst_5, ConvRefIdeal.Read.val_main_cst_6, ConvRefIdeal.Read.val_main_cst_7, ConvRefIdeal.Read.val_main_cst_8, ConvRefIdeal.Read.val_main_cst_9, ConvRefIdeal.Read.val_main_cst_10, ConvRefIdeal.Read.val_main_cst_11, ConvRefIdeal.Read.val_main_cst_12]
  rw [sum01]
  pointwise
  rw [sum01]
  simp only [Finset.univ_unique, Finset.sum_singleton, zero_add]
  rw [sum_row _ (fun r h => by rw [grad_end u dy n r h, zero_mul])]
  refine Finset.sum_congr rfl fun b _ => Finset.sum_congr rfl fun l _ => ?_
  rw [down_row_two, ← ref_grad]
  unfold ConvRefIdeal.Read.val_main_v53
  generalize ConvRefIdeal.Read.val_main_v31 (F := Ideal) u dy = B
  pointwise [ConvRefIdeal.Read.val_main_v22, ConvRefIdeal.Read.val_main_v21, ConvRefIdeal.Read.val_main_v15, ConvRefIdeal.Read.val_main_v9, ConvRefIdeal.Read.val_main_v8, ConvRefIdeal.Read.val_main_v7, ConvRefIdeal.Read.val_main_v6, ConvRefIdeal.Read.val_main_v5, ConvRefIdeal.Read.val_main_v4, ConvRefIdeal.Read.val_main_v3, ConvRefIdeal.Read.val_main_v2, ConvRefIdeal.Read.val_main_v1, ConvRefIdeal.Read.val_main_v0, ConvRefIdeal.Read.val_main_cst, ConvRefIdeal.Read.val_main_cst_0]
  exact mul_comm _ _

theorem ref_taps_second (u : (⟨S4224x8192, .f32⟩ : BufTy).Contents (Elt Ideal)) (dy : (⟨S2x2064x4096, .f32⟩ : BufTy).Contents (Elt Ideal)) (n : Fin 2048) : ConvRefIdeal.Read.val_main_v61 (F := Ideal) u dy (ix2 1 n) = (∑ r : Fin 4224, grad u dy n r * down 1 (gated u n) r : EReal) := by
  pointwise [ConvRefIdeal.Read.val_main_v61, ConvRefIdeal.Read.val_main_v60, ConvRefIdeal.Read.val_main_v59, ConvRefIdeal.Read.val_main_v58, ConvRefIdeal.Read.val_main_v55, ConvRefIdeal.Read.val_main_v54, ConvRefIdeal.Read.val_main_v50, ConvRefIdeal.Read.val_main_v49, ConvRefIdeal.Read.val_main_v48, ConvRefIdeal.Read.val_main_v47, ConvRefIdeal.Read.val_main_v44, ConvRefIdeal.Read.val_main_v43, ConvRefIdeal.Read.val_main_v40, ConvRefIdeal.Read.val_main_v39, ConvRefIdeal.Read.val_main_v38, ConvRefIdeal.Read.val_main_v35, ConvRefIdeal.Read.val_main_v34, ConvRefIdeal.Read.val_main_cst_1, ConvRefIdeal.Read.val_main_cst_2, ConvRefIdeal.Read.val_main_cst_3, ConvRefIdeal.Read.val_main_cst_4, ConvRefIdeal.Read.val_main_cst_5, ConvRefIdeal.Read.val_main_cst_6, ConvRefIdeal.Read.val_main_cst_7, ConvRefIdeal.Read.val_main_cst_8, ConvRefIdeal.Read.val_main_cst_9, ConvRefIdeal.Read.val_main_cst_10, ConvRefIdeal.Read.val_main_cst_11, ConvRefIdeal.Read.val_main_cst_12]
  rw [sum01]
  pointwise
  rw [sum01]
  simp only [Finset.univ_unique, Finset.sum_singleton, zero_add]
  rw [sum_row _ (fun r h => by rw [grad_end u dy n r h, zero_mul])]
  refine Finset.sum_congr rfl fun b _ => Finset.sum_congr rfl fun l _ => ?_
  rw [down_row_one, ← ref_grad]
  unfold ConvRefIdeal.Read.val_main_v42
  generalize ConvRefIdeal.Read.val_main_v31 (F := Ideal) u dy = B
  pointwise [ConvRefIdeal.Read.val_main_v22, ConvRefIdeal.Read.val_main_v21, ConvRefIdeal.Read.val_main_v15, ConvRefIdeal.Read.val_main_v9, ConvRefIdeal.Read.val_main_v8, ConvRefIdeal.Read.val_main_v7, ConvRefIdeal.Read.val_main_v6, ConvRefIdeal.Read.val_main_v5, ConvRefIdeal.Read.val_main_v4, ConvRefIdeal.Read.val_main_v3, ConvRefIdeal.Read.val_main_v2, ConvRefIdeal.Read.val_main_v1, ConvRefIdeal.Read.val_main_v0, ConvRefIdeal.Read.val_main_cst, ConvRefIdeal.Read.val_main_cst_0]
  exact mul_comm _ _

theorem ref_taps_third (u : (⟨S4224x8192, .f32⟩ : BufTy).Contents (Elt Ideal)) (dy : (⟨S2x2064x4096, .f32⟩ : BufTy).Contents (Elt Ideal)) (n : Fin 2048) : ConvRefIdeal.Read.val_main_v61 (F := Ideal) u dy (ix2 2 n) = (∑ r : Fin 4224, grad u dy n r * gated u n r : EReal) := by
  pointwise [ConvRefIdeal.Read.val_main_v61, ConvRefIdeal.Read.val_main_v60, ConvRefIdeal.Read.val_main_v59, ConvRefIdeal.Read.val_main_v58, ConvRefIdeal.Read.val_main_v55, ConvRefIdeal.Read.val_main_v54, ConvRefIdeal.Read.val_main_v50, ConvRefIdeal.Read.val_main_v49, ConvRefIdeal.Read.val_main_v48, ConvRefIdeal.Read.val_main_v47, ConvRefIdeal.Read.val_main_v44, ConvRefIdeal.Read.val_main_v43, ConvRefIdeal.Read.val_main_v40, ConvRefIdeal.Read.val_main_v39, ConvRefIdeal.Read.val_main_v38, ConvRefIdeal.Read.val_main_v35, ConvRefIdeal.Read.val_main_v34, ConvRefIdeal.Read.val_main_cst_1, ConvRefIdeal.Read.val_main_cst_2, ConvRefIdeal.Read.val_main_cst_3, ConvRefIdeal.Read.val_main_cst_4, ConvRefIdeal.Read.val_main_cst_5, ConvRefIdeal.Read.val_main_cst_6, ConvRefIdeal.Read.val_main_cst_7, ConvRefIdeal.Read.val_main_cst_8, ConvRefIdeal.Read.val_main_cst_9, ConvRefIdeal.Read.val_main_cst_10, ConvRefIdeal.Read.val_main_cst_11, ConvRefIdeal.Read.val_main_cst_12]
  rw [sum01]
  pointwise
  rw [sum01]
  simp only [Finset.univ_unique, Finset.sum_singleton, zero_add]
  rw [sum_row _ (fun r h => by rw [grad_end u dy n r h, zero_mul])]
  refine Finset.sum_congr rfl fun b _ => Finset.sum_congr rfl fun l _ => ?_
  rw [← ref_grad]
  unfold ConvRefIdeal.Read.val_main_v33
  generalize ConvRefIdeal.Read.val_main_v31 (F := Ideal) u dy = B
  pointwise [ConvRefIdeal.Read.val_main_v22, ConvRefIdeal.Read.val_main_v21, ConvRefIdeal.Read.val_main_v15, ConvRefIdeal.Read.val_main_v9, ConvRefIdeal.Read.val_main_v8, ConvRefIdeal.Read.val_main_v7, ConvRefIdeal.Read.val_main_v6, ConvRefIdeal.Read.val_main_v5, ConvRefIdeal.Read.val_main_v4, ConvRefIdeal.Read.val_main_v3, ConvRefIdeal.Read.val_main_v2, ConvRefIdeal.Read.val_main_v1, ConvRefIdeal.Read.val_main_v0, ConvRefIdeal.Read.val_main_cst, ConvRefIdeal.Read.val_main_cst_0]
  exact mul_comm _ _

/-! The kernel's values at a row of a column of its blocks. -/

theorem kernel_gate (x1 x2 x4 : Vec Ideal S4224x128 .f32) (x3 : Vec Ideal S3x128 .f32) (u : (⟨S4224x8192, .f32⟩ : BufTy).Contents (Elt Ideal)) (w : (⟨S3x2048, .f32⟩ : BufTy).Contents (Elt Ideal)) (dy : (⟨S2x2064x4096, .f32⟩ : BufTy).Contents (Elt Ideal)) (n : Fin 2048) (r : Fin 4224) (k : Fin 128) (h1 : ∀ r, x1 (ix2 r k) = u (ix2 r ⟨2048 + n.val, by omega⟩)) (h2 : ∀ r, x2 (ix2 r k) = u (ix2 r ⟨4096 + n.val, by omega⟩)) (h3 : ∀ a, x3 (ix2 a k) = w (ix2 a n)) (h4 : ∀ r, x4 (ix2 r k) = dcol dy n r) :
    k0_pay8 (F := Ideal) x1 x2 x3 x4 (ix2 r k) = (dcol dy n r * conv u w n r : EReal) := by
  pointwise [k0_pay8, k0_pay4, k0_pay7]
  rw [pay5_apply, pay6_apply]
  pointwise
  simp only [h1, h2, h3, h4]
  rfl

theorem kernel_back (x0 x1 x2 x4 : Vec Ideal S4224x128 .f32) (x3 : Vec Ideal S3x128 .f32) (u : (⟨S4224x8192, .f32⟩ : BufTy).Contents (Elt Ideal)) (w : (⟨S3x2048, .f32⟩ : BufTy).Contents (Elt Ideal)) (dy : (⟨S2x2064x4096, .f32⟩ : BufTy).Contents (Elt Ideal)) (n : Fin 2048) (r : Fin 4224) (k : Fin 128) (h0 : ∀ r, x0 (ix2 r k) = u (ix2 r ⟨n.val, by omega⟩)) (h3 : ∀ a, x3 (ix2 a k) = w (ix2 a n)) (h4 : ∀ r, x4 (ix2 r k) = dcol dy n r) :
    k0_pay10 (F := Ideal) k0_pay3 x3 (k0_pay7 x4) x0 (ix2 r k) = (back u w dy n r : EReal) := by
  have e : k0_pay7 (F := Ideal) x4 = x4 := by funext j; pointwise [k0_pay7]
  rw [e, pay10_apply]
  pointwise
  simp only [h0, h3, h4]
  rfl

theorem kernel_in (x0 x1 x2 x4 : Vec Ideal S4224x128 .f32) (x3 : Vec Ideal S3x128 .f32) (u : (⟨S4224x8192, .f32⟩ : BufTy).Contents (Elt Ideal)) (w : (⟨S3x2048, .f32⟩ : BufTy).Contents (Elt Ideal)) (dy : (⟨S2x2064x4096, .f32⟩ : BufTy).Contents (Elt Ideal)) (n : Fin 2048) (r : Fin 4224) (k : Fin 128) (h0 : ∀ r, x0 (ix2 r k) = u (ix2 r ⟨n.val, by omega⟩)) (h2 : ∀ r, x2 (ix2 r k) = u (ix2 r ⟨4096 + n.val, by omega⟩)) (h3 : ∀ a, x3 (ix2 a k) = w (ix2 a n)) (h4 : ∀ r, x4 (ix2 r k) = dcol dy n r) :
    k0_pay11 (F := Ideal) k0_pay3 x2 x3 (k0_pay7 x4) x0 (ix2 r k) = (back u w dy n r * u (ix2 r ⟨4096 + n.val, by omega⟩) : EReal) := by
  rw [← kernel_back x0 x1 x2 x4 x3 u w dy n r k h0 h3 h4, ← h2]
  unfold k0_pay11
  generalize k0_pay10 (F := Ideal) k0_pay3 x3 (k0_pay7 x4) x0 = B
  pointwise

theorem kernel_second (x0 x1 x2 x4 : Vec Ideal S4224x128 .f32) (x3 : Vec Ideal S3x128 .f32) (u : (⟨S4224x8192, .f32⟩ : BufTy).Contents (Elt Ideal)) (w : (⟨S3x2048, .f32⟩ : BufTy).Contents (Elt Ideal)) (dy : (⟨S2x2064x4096, .f32⟩ : BufTy).Contents (Elt Ideal)) (n : Fin 2048) (r : Fin 4224) (k : Fin 128) (h0 : ∀ r, x0 (ix2 r k) = u (ix2 r ⟨n.val, by omega⟩)) (h1 : ∀ r, x1 (ix2 r k) = u (ix2 r ⟨2048 + n.val, by omega⟩)) (h3 : ∀ a, x3 (ix2 a k) = w (ix2 a n)) (h4 : ∀ r, x4 (ix2 r k) = dcol dy n r) :
    k0_pay12 (F := Ideal) k0_pay3 x1 x3 (k0_pay7 x4) x0 (ix2 r k) = (back u w dy n r * u (ix2 r ⟨2048 + n.val, by omega⟩) : EReal) := by
  rw [← kernel_back x0 x1 x2 x4 x3 u w dy n r k h0 h3 h4, ← h1]
  unfold k0_pay12
  generalize k0_pay10 (F := Ideal) k0_pay3 x3 (k0_pay7 x4) x0 = B
  pointwise

theorem kernel_taps (x0 x1 x2 x4 : Vec Ideal S4224x128 .f32) (x3 : Vec Ideal S3x128 .f32) (u : (⟨S4224x8192, .f32⟩ : BufTy).Contents (Elt Ideal)) (dy : (⟨S2x2064x4096, .f32⟩ : BufTy).Contents (Elt Ideal)) (n : Fin 2048) (a : Fin 3) (k : Fin 128) (h0 : ∀ r, x0 (ix2 r k) = u (ix2 r ⟨n.val, by omega⟩)) (h1 : ∀ r, x1 (ix2 r k) = u (ix2 r ⟨2048 + n.val, by omega⟩)) (h2 : ∀ r, x2 (ix2 r k) = u (ix2 r ⟨4096 + n.val, by omega⟩)) (h4 : ∀ r, x4 (ix2 r k) = dcol dy n r) :
    E8 x4 x0 x1 x2 (ix2 a k) = ConvRefIdeal.Read.val_main_v61 (F := Ideal) u dy (ix2 a n) := by
  match a with
  | ⟨0, _⟩ =>
    refine Eq.trans ?_ (ref_taps_first u dy n).symm
    pointwise [E8, sel8, ix8_0, Fam8_0]
    refine Finset.sum_congr rfl fun r _ => ?_
    rw [pay5_apply]
    pointwise
    simp only [h0, h1, h2, h4]
    rfl
  | ⟨1, _⟩ =>
    refine Eq.trans ?_ (ref_taps_second u dy n).symm
    pointwise [E8, sel8, ix8_0, Fam8_0]
    refine Finset.sum_congr rfl fun r _ => ?_
    rw [pay6_apply]
    pointwise
    simp only [h0, h1, h2, h4]
    rfl
  | ⟨2, _⟩ =>
    refine Eq.trans ?_ (ref_taps_third u dy n).symm
    pointwise [E8, sel8, ix8_0, Fam8_0]
    refine Finset.sum_congr rfl fun r _ => ?_
    simp only [h0, h1, h2, h4]
    rfl

theorem out5 (x0 x1 x2 x4 : Vec Ideal S4224x128 .f32) (x3 : Vec Ideal S3x128 .f32) : out0_5 x0 x1 x2 x3 x4 = k0_pay8 x1 x2 x3 x4 := by frame_out
theorem out6 (x0 x1 x2 x4 : Vec Ideal S4224x128 .f32) (x3 : Vec Ideal S3x128 .f32) : out0_6 x0 x1 x2 x3 x4 = k0_pay11 k0_pay3 x2 x3 (k0_pay7 x4) x0 := by frame_out [k0_pay14, k0_pay15]
theorem out7 (x0 x1 x2 x4 : Vec Ideal S4224x128 .f32) (x3 : Vec Ideal S3x128 .f32) : out0_7 x0 x1 x2 x3 x4 = k0_pay12 k0_pay3 x1 x3 (k0_pay7 x4) x0 := by frame_out [k0_pay14, k0_pay15]
theorem out8 (x0 x1 x2 x4 : Vec Ideal S4224x128 .f32) (x3 : Vec Ideal S3x128 .f32) : out0_8 x0 x1 x2 x3 x4 = E8 x4 x0 x1 x2 := by
  funext y
  frame_out [k0_pay14, k0_pay15, k0_pay16]
  exact canon8_eq x4 x0 x1 x2 y

variable (m : (ℓ : Loc nD τ sig) → Buf (Elt Ideal) ℓ)

theorem idx : ∀ t : Fin cfg0.N, win0_0.index t = ![0, t.val] ∧ win0_1.index t = ![0, 16 + t.val] ∧ win0_2.index t = ![0, 32 + t.val] ∧ win0_3.index t = ![0, t.val] ∧ win0_4.index t = ![0, t.val]
    ∧ win0_5.index t = ![0, t.val] ∧ win0_6.index t = ![0, t.val] ∧ win0_7.index t = ![0, t.val] ∧ win0_8.index t = ![0, t.val] :=
  (by decide +kernel : ∀ t : Fin grid0.N, _)

theorem blk0 (c : Dev nD) (p : Fin cfg0.N) (n : Fin 2048) (k : Fin 128) (hn : n.val = p.val * 128 + k.val) (r : Fin 4224) :
    (show Vec Ideal S4224x128 .f32 from iblk m c 0 p) (ix2 r k) = m ((c : Thread nD τ).loc main_arg0) (ix2 r ⟨n.val, by omega⟩) := by
  have hN := lt_of_lt_of_eq p.isLt N_0
  rw [← V_main_arg0 m c]
  show (V m c main_arg0) (((cfg0.win 0).blk p).view.emb (ix2 r k)) = V m c main_arg0 (ix2 r ⟨n.val, by omega⟩)
  generalize V m c main_arg0 = B
  blk_point [idx p]

theorem blk1 (c : Dev nD) (p : Fin cfg0.N) (n : Fin 2048) (k : Fin 128) (hn : n.val = p.val * 128 + k.val) (r : Fin 4224) :
    (show Vec Ideal S4224x128 .f32 from iblk m c 1 p) (ix2 r k) = m ((c : Thread nD τ).loc main_arg0) (ix2 r ⟨2048 + n.val, by omega⟩) := by
  have hN := lt_of_lt_of_eq p.isLt N_0
  rw [← V_main_arg0 m c]
  show (V m c main_arg0) (((cfg0.win 1).blk p).view.emb (ix2 r k)) = V m c main_arg0 (ix2 r ⟨2048 + n.val, by omega⟩)
  generalize V m c main_arg0 = B
  blk_point [idx p]

theorem blk2 (c : Dev nD) (p : Fin cfg0.N) (n : Fin 2048) (k : Fin 128) (hn : n.val = p.val * 128 + k.val) (r : Fin 4224) :
    (show Vec Ideal S4224x128 .f32 from iblk m c 2 p) (ix2 r k) = m ((c : Thread nD τ).loc main_arg0) (ix2 r ⟨4096 + n.val, by omega⟩) := by
  have hN := lt_of_lt_of_eq p.isLt N_0
  rw [← V_main_arg0 m c]
  show (V m c main_arg0) (((cfg0.win 2).blk p).view.emb (ix2 r k)) = V m c main_arg0 (ix2 r ⟨4096 + n.val, by omega⟩)
  generalize V m c main_arg0 = B
  blk_point [idx p]

theorem blk3 (c : Dev nD) (p : Fin cfg0.N) (n : Fin 2048) (k : Fin 128) (hn : n.val = p.val * 128 + k.val) (a : Fin 3) :
    (show Vec Ideal S3x128 .f32 from iblk m c 3 p) (ix2 a k) = m ((c : Thread nD τ).loc main_arg1) (ix2 a n) := by
  rw [← V_main_arg1 m c]
  show (V m c main_arg1) (((cfg0.win 3).blk p).view.emb (ix2 a k)) = V m c main_arg1 (ix2 a n)
  generalize V m c main_arg1 = B
  blk_point [idx p]

theorem blk4 (c : Dev nD) (p : Fin cfg0.N) (n : Fin 2048) (k : Fin 128) (hn : n.val = p.val * 128 + k.val) (r : Fin 4224) :
    (show Vec Ideal S4224x128 .f32 from iblk m c 4 p) (ix2 r k) = dcol (m ((c : Thread nD τ).loc main_arg2)) n r := by
  refine Eq.trans ?_ (padded m c n r)
  show (V m c main_v1) (((cfg0.win 4).blk p).view.emb (ix2 r k)) = V m c main_v1 (ix2 r ⟨n.val, by omega⟩)
  generalize V m c main_v1 = B
  blk_point [idx p]

theorem final0 (c : Dev nD) : (dats m 0 c).arrAt 5 cfg0.N = ConvRefIdeal.Read.val_main_v70 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, out5]
  obtain ⟨r, k, rfl⟩ : ∃ (r : Fin 4224) (k : Fin 128), y = ix2 r k := ⟨y 0, y 1, by funext a; match a with | ⟨0, _⟩ => rfl | ⟨1, _⟩ => rfl⟩
  have key : ∀ i : S4224x2048.Idx, (i 0).val = r.val → (i 1).val = t.val * 128 + k.val → k0_pay8 (F := Ideal) (iblk m c 1 t) (iblk m c 2 t) (iblk m c 3 t) (iblk m c 4 t) (ix2 r k) = ConvRefIdeal.Read.val_main_v70 (F := Ideal) (m ((c : Thread nD τ).loc main_arg0)) (m ((c : Thread nD τ).loc main_arg1)) (m ((c : Thread nD τ).loc main_arg2)) i := by
    intro i h0 h1
    obtain ⟨q, n, rfl⟩ : ∃ (q : Fin 4224) (n : Fin 2048), i = ix2 q n := ⟨i 0, i 1, by funext a; match a with | ⟨0, _⟩ => rfl | ⟨1, _⟩ => rfl⟩
    obtain rfl : q = r := Fin.ext h0
    exact (kernel_gate (iblk m c 1 t) (iblk m c 2 t) (iblk m c 4 t) (iblk m c 3 t) (m ((c : Thread nD τ).loc main_arg0)) (m ((c : Thread nD τ).loc main_arg1)) (m ((c : Thread nD τ).loc main_arg2)) n q k (blk1 m c t _ _ h1) (blk2 m c t _ _ h1) (blk3 m c t _ _ h1) (blk4 m c t _ _ h1)).trans (ref_rows_gate _ _ _ q n).symm
  refine key _ ?_ ?_
  all_goals blk_simp [idx t] <;> try omega

theorem final1 (c : Dev nD) : (dats m 0 c).arrAt 6 cfg0.N = ConvRefIdeal.Read.val_main_v73 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, out6]
  obtain ⟨r, k, rfl⟩ : ∃ (r : Fin 4224) (k : Fin 128), y = ix2 r k := ⟨y 0, y 1, by funext a; match a with | ⟨0, _⟩ => rfl | ⟨1, _⟩ => rfl⟩
  have key : ∀ i : S4224x2048.Idx, (i 0).val = r.val → (i 1).val = t.val * 128 + k.val → k0_pay11 (F := Ideal) k0_pay3 (iblk m c 2 t) (iblk m c 3 t) (k0_pay7 (iblk m c 4 t)) (iblk m c 0 t) (ix2 r k) = ConvRefIdeal.Read.val_main_v73 (F := Ideal) (m ((c : Thread nD τ).loc main_arg0)) (m ((c : Thread nD τ).loc main_arg1)) (m ((c : Thread nD τ).loc main_arg2)) i := by
    intro i h0 h1
    obtain ⟨q, n, rfl⟩ : ∃ (q : Fin 4224) (n : Fin 2048), i = ix2 q n := ⟨i 0, i 1, by funext a; match a with | ⟨0, _⟩ => rfl | ⟨1, _⟩ => rfl⟩
    obtain rfl : q = r := Fin.ext h0
    exact (kernel_in (iblk m c 0 t) (iblk m c 1 t) (iblk m c 2 t) (iblk m c 4 t) (iblk m c 3 t) (m ((c : Thread nD τ).loc main_arg0)) (m ((c : Thread nD τ).loc main_arg1)) (m ((c : Thread nD τ).loc main_arg2)) n q k (blk0 m c t _ _ h1) (blk2 m c t _ _ h1) (blk3 m c t _ _ h1) (blk4 m c t _ _ h1)).trans (ref_rows_in _ _ _ q n).symm
  refine key _ ?_ ?_
  all_goals blk_simp [idx t] <;> try omega

theorem final2 (c : Dev nD) : (dats m 0 c).arrAt 7 cfg0.N = ConvRefIdeal.Read.val_main_v76 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7, out7]
  obtain ⟨r, k, rfl⟩ : ∃ (r : Fin 4224) (k : Fin 128), y = ix2 r k := ⟨y 0, y 1, by funext a; match a with | ⟨0, _⟩ => rfl | ⟨1, _⟩ => rfl⟩
  have key : ∀ i : S4224x2048.Idx, (i 0).val = r.val → (i 1).val = t.val * 128 + k.val → k0_pay12 (F := Ideal) k0_pay3 (iblk m c 1 t) (iblk m c 3 t) (k0_pay7 (iblk m c 4 t)) (iblk m c 0 t) (ix2 r k) = ConvRefIdeal.Read.val_main_v76 (F := Ideal) (m ((c : Thread nD τ).loc main_arg0)) (m ((c : Thread nD τ).loc main_arg1)) (m ((c : Thread nD τ).loc main_arg2)) i := by
    intro i h0 h1
    obtain ⟨q, n, rfl⟩ : ∃ (q : Fin 4224) (n : Fin 2048), i = ix2 q n := ⟨i 0, i 1, by funext a; match a with | ⟨0, _⟩ => rfl | ⟨1, _⟩ => rfl⟩
    obtain rfl : q = r := Fin.ext h0
    exact (kernel_second (iblk m c 0 t) (iblk m c 1 t) (iblk m c 2 t) (iblk m c 4 t) (iblk m c 3 t) (m ((c : Thread nD τ).loc main_arg0)) (m ((c : Thread nD τ).loc main_arg1)) (m ((c : Thread nD τ).loc main_arg2)) n q k (blk0 m c t _ _ h1) (blk1 m c t _ _ h1) (blk3 m c t _ _ h1) (blk4 m c t _ _ h1)).trans (ref_rows_second _ _ _ q n).symm
  refine key _ ?_ ?_
  all_goals blk_simp [idx t] <;> try omega

theorem final3 (c : Dev nD) : (dats m 0 c).arrAt 8 cfg0.N = ConvRefIdeal.Read.val_main_v61 (F := Ideal) (m ((c : Thread nD τ).loc main_arg0)) (m ((c : Thread nD τ).loc main_arg2)) := by
  refine (dats m 0 c).arrAt_eq_of_covers 8 _ (by decide +kernel) fun t _ y => ?_
  blk_simp
  rw [after0_8, out8]
  obtain ⟨r, k, rfl⟩ : ∃ (r : Fin 3) (k : Fin 128), y = ix2 r k := ⟨y 0, y 1, by funext a; match a with | ⟨0, _⟩ => rfl | ⟨1, _⟩ => rfl⟩
  have key : ∀ i : S3x2048.Idx, (i 0).val = r.val → (i 1).val = t.val * 128 + k.val → E8 (F := Ideal) (iblk m c 4 t) (iblk m c 0 t) (iblk m c 1 t) (iblk m c 2 t) (ix2 r k) = ConvRefIdeal.Read.val_main_v61 (F := Ideal) (m ((c : Thread nD τ).loc main_arg0)) (m ((c : Thread nD τ).loc main_arg2)) i := by
    intro i h0 h1
    obtain ⟨q, n, rfl⟩ : ∃ (q : Fin 3) (n : Fin 2048), i = ix2 q n := ⟨i 0, i 1, by funext a; match a with | ⟨0, _⟩ => rfl | ⟨1, _⟩ => rfl⟩
    obtain rfl : q = r := Fin.ext h0
    exact kernel_taps (iblk m c 0 t) (iblk m c 1 t) (iblk m c 2 t) (iblk m c 4 t) (iblk m c 3 t) (m ((c : Thread nD τ).loc main_arg0)) (m ((c : Thread nD τ).loc main_arg2)) n q k (blk0 m c t _ _ h1) (blk1 m c t _ _ h1) (blk2 m c t _ _ h1) (blk4 m c t _ _ h1)
  refine key _ ?_ ?_
  all_goals blk_simp [idx t] <;> try omega

end Cert.ConvIdeal.Value
end
-- ==== Proof.OutYValue.lean ====
module

public import proofs.«01_k».proof.Proof.Gen.OutYIdeal.Value
public import proofs.«01_k».proof.Proof.Gen.OutYRefIdeal.Run
public import proofs.«01_k».proof.Proof.Gen.OutYRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.OutYIdeal.Value

open Cert.OutYIdeal Cert.OutYIdeal.Gen Idealize.ShloMosaic Idealize.ShloMosaic.TcCoe Idealize.SL.Sem
open Idealize.ShloMosaic.Pipeline (Dat)

theorem out2 (x0 : Vec Ideal S1408x4096 .bf16) (x1 : Vec Ideal S1x512x4096 .bf16) : out0_2 x0 x1 = k0_pay1 x0 x1 := by frame_out

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem pay1_apply (x0 : Vec Ideal S1408x4096 .bf16) (x1 : Vec Ideal S1x512x4096 .bf16) (j : S1408x512.Idx) :
    k0_pay1 (F := Ideal) x0 x1 j = (∑ k : Fin 4096, x0 (ix2 (j 0) k) * x1 (ix3 0 (j 1) k) : EReal) := by
  pointwise [k0_pay1]

/-- Element `i` of the reference's result. -/
theorem ref_apply (dp : (⟨S4224x4096, .bf16⟩ : BufTy).Contents (Elt Ideal)) (w : (⟨S4096x4096, .bf16⟩ : BufTy).Contents (Elt Ideal)) (i : S4224x4096.Idx) :
    OutYRefIdeal.Read.val_main_v4 (F := Ideal) dp w i = (∑ f : Fin 4096, dp (ix2 (i 0) f) * w (ix2 (i 1) f) : EReal) := by
  unfold OutYRefIdeal.Read.val_main_v4 OutYRefIdeal.Read.val_main_v3 OutYRefIdeal.Read.val_main_v0
  pointwise

/-- Element `i` of the weights the host splits into blocks of rows. -/
theorem split_apply (c : Dev nD) (i : S8x512x4096.Idx) (f : Fin 4096) (hf : f.val = (i 0).val * 512 + (i 1).val) : (show EReal from V m c main_v0 i)
    = m ((c : Thread nD τ).loc main_arg1) (ix2 f (i 2)) := by
  unfold V
  simp only [hostOps0, List.flatten_cons, List.flatten_nil, List.append_nil, List.cons_append, List.nil_append]
  after_results_simp
  pointwise
  blk_ext

theorem blk0 (c : Dev nD) (p : Fin cfg0.N) (k : Fin 4096) (j : Fin 1408) (l : Fin 4224) (hl : l.val = p.val / 8 * 1408 + j.val) :
    (show Vec Ideal S1408x4096 .bf16 from iblk m c 0 p) (ix2 j k) = m ((c : Thread nD τ).loc main_arg0) (ix2 l k) := by
  rw [← V_main_arg0 m c]
  show (V m c main_arg0) (((cfg0.win 0).blk p).view.emb (ix2 j k)) = V m c main_arg0 (ix2 l k)
  generalize V m c main_arg0 = A
  blk_point [idx p]

theorem blk1 (c : Dev nD) (p : Fin cfg0.N) (k : Fin 4096) (j : Fin 512) (f : Fin 4096) (hf : f.val = p.val % 8 * 512 + j.val) :
    (show Vec Ideal S1x512x4096 .bf16 from iblk m c 1 p) (ix3 0 j k) = m ((c : Thread nD τ).loc main_arg1) (ix2 f k) := by
  refine Eq.trans (b := (show EReal from V m c main_v0 (ix3 ⟨p.val % 8, by omega⟩ j k))) ?_ (split_apply m c _ f hf)
  show (V m c main_v0) (((cfg0.win 1).blk p).view.emb (ix3 0 j k)) = V m c main_v0 (ix3 ⟨p.val % 8, by omega⟩ j k)
  generalize V m c main_v0 = A
  blk_point [idx p]

theorem point (c : Dev nD) (t : Fin cfg0.N) (j : Fin 1408) (l : Fin 512) (i : S4224x4096.Idx)
    (h0 : (i 0).val = t.val / 8 * 1408 + j.val) (h1 : (i 1).val = t.val % 8 * 512 + l.val) :
    (k0_pay1 (F := Ideal) (iblk m c 0 t) (iblk m c 1 t) (ix2 j l) : EReal) = OutYRefIdeal.Read.val_main_v4 (F := Ideal) (m ((c : Thread nD τ).loc main_arg0)) (m ((c : Thread nD τ).loc main_arg1)) i := by
  rw [ref_apply]
  refine (pay1_apply _ _ _).trans (Fin.sum_fin_congr fun k => ?_)
  exact congrArg₂ (fun a b : EReal => a * b) (blk0 m c t k j (i 0) h0) (blk1 m c t k l (i 1) h1)

theorem final (c : Dev nD) : (dats m 0 c).arrAt 2 cfg0.N = OutYRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2, out2]
  obtain ⟨r, k, rfl⟩ : ∃ (r : Fin 1408) (k : Fin 512), y = ix2 r k := ⟨y 0, y 1, by funext a; match a with | ⟨0, _⟩ => rfl | ⟨1, _⟩ => rfl⟩
  refine point m c t r k _ ?_ ?_
  all_goals blk_simp [idx t] <;> try omega

end Cert.OutYIdeal.Value
end
-- ==== Proof.OutWValue.lean ====
module

public import proofs.«01_k».proof.Proof.Gen.OutWIdeal.Value
public import proofs.«01_k».proof.Proof.Gen.OutWRefIdeal.Run
public import proofs.«01_k».proof.Proof.Gen.OutWRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.OutWIdeal.Value

open Cert.OutWIdeal Cert.OutWIdeal.Gen Idealize.ShloMosaic Idealize.ShloMosaic.TcCoe Idealize.SL.Sem
open Idealize.ShloMosaic.Pipeline (Dat)

variable (c : Dev nD) (i : grid0.Coords) (arg3 : Memref sig .tc .vmem S1408x512 .bf16) (harg3 : arg3.IsWhole) (arg4 : Memref sig .tc .vmem S1408x2048 .bf16) (harg4 : arg4.IsWhole) (arg5 : Memref sig .tc .vmem S1x512x2048 .bf16) (harg5 : arg5.IsWhole) (arg6 : Memref sig .tc .vmem S512x2048 .f32) (harg6 : arg6.IsWhole)

/-- An element of the block written back, over the sums the scratch holds. -/
def epi (acc : Vec Ideal S512x2048 .f32)  (y : S1x512x2048.Idx) : EReal :=
  acc (ix2 (y 1) (y 2))

theorem off1_eq : ∀ k : Fin k0_t1_loop.trips, k0_off1 k = ![64 * k.val, 0] := by decide +kernel

theorem off2_eq : ∀ k : Fin k0_t1_loop.trips, k0_off2 k = ![0, 64 * k.val, 0] := by decide +kernel

/-- What one trip of the last point's loop stores, over what the scratch holds. -/
theorem trip_pieces (𝒱 : Variants) (bd : Option 𝒱.V) (h3 : k0_cond3 i = 1#1)
     (X : BufTy.Contents (Elt Ideal) arg6.view.ty) (acc : Vec Ideal S512x2048 .f32)   (hX : arg6.view.read (Elt Ideal) X = acc) (k : Fin k0_t1_loop.trips) :
    ∀ p ∈ tripL_k0_t1 (F := Ideal) 𝒱 c bd i arg3 harg3 arg4 harg4 arg5 harg5 arg6 harg6 h3 X k, ∀ x : p.1.shape.Idx, p.2 x = epi acc  (p.1.emb x) := by
  unfold tripL_k0_t1 trip_k0_t1
  dsimp only
  intro p hp x
  obtain rfl := List.mem_singleton.mp hp
  clear hp
  dsimp only
  rw [View.readAt_eq_ld, hX]
  pointwise [k0_pay3, epi]
  refine congrArg acc (congrArg₂ ix2 (Fin.ext ?_) (Fin.ext ?_))
  all_goals simp only [off1_eq k]
  · show _ = k0_off2 k 1 + 1 * (x 1).val
    have h2 := congrFun (off2_eq k) 1
    rw [one_mul]; exact congrArg (· + _) h2.symm
  · show _ = k0_off2 k 2 + 1 * (x 2).val
    have h2 := congrFun (off2_eq k) 2
    rw [one_mul]; exact congrArg (· + _) h2.symm

/-- What a point of case B leaves in the scratch. -/
theorem scr_B (hc0 : ¬cond0_0 i) (hc1 : cond0_1 i) (hc2 : ¬cond0_2 i) (x0 : Vec Ideal S1408x512 .bf16) (x1 : Vec Ideal S1408x2048 .bf16) (xs0 : Vec Ideal S512x2048 .f32) :
    sout0_B_0 c i arg3 harg3 arg4 harg4 arg5 harg5 arg6 harg6 hc0 hc1 hc2 x0 x1 xs0 = k0_pay2 xs0 x0 x1 := by frame_out

/-- What a point of case C leaves in the scratch. -/
theorem scr_C (hc0 : ¬cond0_0 i) (hc1 : cond0_1 i) (hc2 : cond0_2 i) (x0 : Vec Ideal S1408x512 .bf16) (x1 : Vec Ideal S1408x2048 .bf16) (xs0 : Vec Ideal S512x2048 .f32) :
    sout0_C_0 c i arg3 harg3 arg4 harg4 arg5 harg5 arg6 harg6 hc0 hc1 hc2 x0 x1 xs0 = k0_pay2 xs0 x0 x1 := by frame_out

/-- What the last point of a run stores, over what it leaves in the scratch. -/
theorem out_C (hc0 : ¬cond0_0 i) (hc1 : cond0_1 i) (hc2 : cond0_2 i) (x0 : Vec Ideal S1408x512 .bf16) (x1 : Vec Ideal S1408x2048 .bf16) (xs0 : Vec Ideal S512x2048 .f32) (y : S1x512x2048.Idx) :
    out0_C_2 c i arg3 harg3 arg4 harg4 arg5 harg5 arg6 harg6 hc0 hc1 hc2 x0 x1 xs0 y = epi (sout0_C_0 c i arg3 harg3 arg4 harg4 arg5 harg5 arg6 harg6 hc0 hc1 hc2 x0 x1 xs0)  y := by
  rw [scr_C]
  unfold out0_C_2
  rw [View.read_writes_junk_eq_canon]
  refine View.canon_apply_of_pieces (fun y => epi (k0_pay2 xs0 x0 x1)  y) _ ?_ y (cover0_C_2 c i arg3 harg3 arg4 harg4 arg5 harg5 arg6 harg6 hc0 hc1 hc2 x0 x1 xs0 y)
  unfold kernelRun0_C
  dsimp only
  refine Common.forall_mem_trips (fun n => pb_k0_t1 (F := Ideal) Variants.none c none i arg3 harg3 arg4 harg4 arg5 harg5 arg6 harg6 hc2 _ n)
    (fun k => tripL_k0_t1 (F := Ideal) Variants.none c none i arg3 harg3 arg4 harg4 arg5 harg5 arg6 harg6 hc2 _ k) rfl
    (fun k => pb_k0_t1_succ (F := Ideal) Variants.none c none i arg3 harg3 arg4 harg4 arg5 harg5 arg6 harg6 hc2 _ k)
    (trip_pieces c i arg3 harg3 arg4 harg4 arg5 harg5 arg6 harg6 Variants.none none hc2 _ _ ?_) _ (le_of_eq rfl)
  all_goals frame_out

omit c i arg3 harg3 arg4 harg4 arg5 harg5 arg6 harg6

variable (m : (ℓ : Loc nD τ sig) → Buf (Elt Ideal) ℓ)

theorem pay1_apply (x0 : Vec Ideal S1408x512 .bf16) (x1 : Vec Ideal S1408x2048 .bf16) (j : S512x2048.Idx) :
    k0_pay1 (F := Ideal) x0 x1 j = (0 + ∑ k : Fin 1408, x0 (ix2 k (j 0)) * x1 (ix2 k (j 1)) : EReal) := by
  rw [zero_add]; pointwise [k0_pay1]

theorem pay2_apply (xs0 : Vec Ideal S512x2048 .f32) (x0 : Vec Ideal S1408x512 .bf16) (x1 : Vec Ideal S1408x2048 .bf16) (j : S512x2048.Idx) :
    k0_pay2 (F := Ideal) xs0 x0 x1 j = (xs0 j + ∑ k : Fin 1408, x0 (ix2 k (j 0)) * x1 (ix2 k (j 1)) : EReal) := by
  pointwise [k0_pay2]

theorem idx : ∀ t : Fin cfg0.N, win0_0.index t = ![t.val % 3, t.val / 6] ∧ win0_1.index t = ![t.val % 3, t.val / 3 % 2] ∧ win0_2.index t = ![t.val / 6, 0, t.val / 3 % 2] :=
  (by decide +kernel : ∀ t : Fin grid0.N, _)

/-- What the scratch holds after the last point of a run: the sum over the run's points of the products of their blocks. -/
theorem scratch (c : Dev nD) (t : Fin cfg0.N) (h : t.val % 3 = 2) (j : S512x2048.Idx) :
    (outsAt0 m c t.val t.isLt).2 j = (∑ s : Fin 3, ∑ k : Fin 1408, (show Vec Ideal S1408x512 .bf16 from iblk m c 0 ⟨3 * (t.val / 3) + s.val, Pipeline.run_point_lt_of_flush t h s⟩) (ix2 k (j 0)) * (show Vec Ideal S1408x2048 .bf16 from iblk m c 1 ⟨3 * (t.val / 3) + s.val, Pipeline.run_point_lt_of_flush t h s⟩) (ix2 k (j 1)) : EReal) := by
  rw [Pipeline.eq_sum_fin_of_reset_step_apply_of_flush (fun n h => (outsAt0 m c n h).2) 3 (fun _ => 0)
    (fun p j => (∑ k : Fin 1408, (show Vec Ideal S1408x512 .bf16 from iblk m c 0 p) (ix2 k (j 0)) * (show Vec Ideal S1408x2048 .bf16 from iblk m c 1 p) (ix2 k (j 1)) : EReal))
    (fun t h j => by rw [outsAt0_A m c t h (by omega) (by omega)]; frame_out; rw [pay1_apply])
    (fun t h j => by
      rcases Nat.lt_or_ge (t.val % 3) 2 with h2 | h2
      · rw [outsAt0_B m c t h (by omega) (by omega)]; dsimp only; rw [scr_B, pay2_apply]
      · rw [outsAt0_C m c t h (by omega) (by omega)]; dsimp only; rw [scr_C, pay2_apply])
    t h j, zero_add]

/-- Element `i` of the reference's result. -/
theorem ref_apply (y dp : (⟨S4224x4096, .bf16⟩ : BufTy).Contents (Elt Ideal)) (i : S8x512x4096.Idx) (b : Fin 4096) (hb : b.val = (i 0).val * 512 + (i 1).val) :
    OutWRefIdeal.Read.val_main_v7 (F := Ideal) y dp i = (∑ l : Fin 4224, y (ix2 l b) * dp (ix2 l (i 2)) : EReal) := by
  unfold OutWRefIdeal.Read.val_main_v7 OutWRefIdeal.Read.val_main_v6 OutWRefIdeal.Read.val_main_v5 OutWRefIdeal.Read.val_main_v4 OutWRefIdeal.Read.val_main_v3 OutWRefIdeal.Read.val_main_v1
  pointwise
  refine Fin.sum_fin_congr fun l => ?_
  rw [mul_comm]
  refine congrArg₂ (fun a b : EReal => a * b) ?_ ?_ <;> first | rfl | blk_ext

theorem blk0 (c : Dev nD) (p : Fin cfg0.N) (k : Fin 1408) (j : Fin 512) (l : Fin 4224) (b : Fin 4096) (hl : l.val = p.val % 3 * 1408 + k.val) (hb : b.val = p.val / 6 * 512 + j.val) :
    (show Vec Ideal S1408x512 .bf16 from iblk m c 0 p) (ix2 k j) = m ((c : Thread nD τ).loc main_arg0) (ix2 l b) := by
  rw [← V_main_arg0 m c]
  show (V m c main_arg0) (((cfg0.win 0).blk p).view.emb (ix2 k j)) = V m c main_arg0 (ix2 l b)
  generalize V m c main_arg0 = A
  blk_point [idx p]

theorem blk1 (c : Dev nD) (p : Fin cfg0.N) (k : Fin 1408) (j : Fin 2048) (l : Fin 4224) (b : Fin 4096) (hl : l.val = p.val % 3 * 1408 + k.val) (hb : b.val = p.val / 3 % 2 * 2048 + j.val) :
    (show Vec Ideal S1408x2048 .bf16 from iblk m c 1 p) (ix2 k j) = m ((c : Thread nD τ).loc main_arg1) (ix2 l b) := by
  rw [← V_main_arg1 m c]
  show (V m c main_arg1) (((cfg0.win 1).blk p).view.emb (ix2 k j)) = V m c main_arg1 (ix2 l b)
  generalize V m c main_arg1 = A
  blk_point [idx p]

theorem point (c : Dev nD) (t : Fin cfg0.N) (ht : t.val % 3 = 2) (j : Fin 512) (l : Fin 2048) (i : S8x512x4096.Idx)
    (h0 : (i 0).val = t.val / 6) (h1 : (i 1).val = j.val) (h2 : (i 2).val = t.val / 3 % 2 * 2048 + l.val) :
    ((outsAt0 m c t.val t.isLt).2 (ix2 j l) : EReal) = OutWRefIdeal.Read.val_main_v7 (F := Ideal) (m ((c : Thread nD τ).loc main_arg0)) (m ((c : Thread nD τ).loc main_arg1)) i := by
  have hN := lt_of_lt_of_eq t.isLt N_0
  have hi0 := (i 0).isLt
  have hi1 := (i 1).isLt
  rw [ref_apply _ _ i ⟨(i 0).val * 512 + (i 1).val, by simp only [Shape.size] at *; omega⟩ rfl, scratch m c t ht]
  refine Fin.sum_mul_add_congr fun s k hl => ?_
  have hs := s.isLt
  exact congrArg₂ (fun a b : EReal => a * b)
    (blk0 m c _ k j ⟨s.val * 1408 + k.val, hl⟩ _ (by dsimp only; omega) (by dsimp only; omega))
    (blk1 m c _ k l ⟨s.val * 1408 + k.val, hl⟩ (i 2) (by dsimp only; omega) (by dsimp only; omega))

theorem final (c : Dev nD) : (dats m 0 c).arrAt 2 cfg0.N = OutWRefIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  have e : (outsAt0 m c t.val t.isLt).1 y = epi (outsAt0 m c t.val t.isLt).2 y := by
    rw [outsAt0_C m c t (by omega) (by omega) ht]
    dsimp only
    rw [out_C]
  rw [e]
  refine point m c t ht _ _ _ ?_ ?_ ?_
  all_goals blk_simp [idx t] <;> try omega

end Cert.OutWIdeal.Value
end
-- ==== Proof.InWValue.lean ====
module

public import proofs.«01_k».proof.Proof.Gen.InWIdeal.Value
public import proofs.«01_k».proof.Proof.Gen.InWRefIdeal.Run
public import proofs.«01_k».proof.Proof.Gen.InWRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.InWIdeal.Value

open Cert.InWIdeal Cert.InWIdeal.Gen Idealize.ShloMosaic Idealize.ShloMosaic.TcCoe Idealize.SL.Sem
open Idealize.ShloMosaic.Pipeline (Dat)

variable (c : Dev nD) (i : grid0.Coords) (arg3 : Memref sig .tc .vmem S1408x2048 .bf16) (harg3 : arg3.IsWhole) (arg4 : Memref sig .tc .vmem S1408x1024 .bf16) (harg4 : arg4.IsWhole) (arg5 : Memref sig .tc .vmem S1x2048x1024 .bf16) (harg5 : arg5.IsWhole) (arg6 : Memref sig .tc .vmem S2048x1024 .f32) (harg6 : arg6.IsWhole)

/-- An element of the block written back, over the sums the scratch holds. -/
def epi (acc : Vec Ideal S2048x1024 .f32)  (y : S1x2048x1024.Idx) : EReal :=
  acc (ix2 (y 1) (y 2))

theorem off1_eq : ∀ k : Fin k0_t1_loop.trips, k0_off1 k = ![64 * k.val, 0] := by decide +kernel

theorem off2_eq : ∀ k : Fin k0_t1_loop.trips, k0_off2 k = ![0, 64 * k.val, 0] := by decide +kernel

/-- What one trip of the last point's loop stores, over what the scratch holds. -/
theorem trip_pieces (𝒱 : Variants) (bd : Option 𝒱.V) (h3 : k0_cond3 i = 1#1)
     (X : BufTy.Contents (Elt Ideal) arg6.view.ty) (acc : Vec Ideal S2048x1024 .f32)   (hX : arg6.view.read (Elt Ideal) X = acc) (k : Fin k0_t1_loop.trips) :
    ∀ p ∈ tripL_k0_t1 (F := Ideal) 𝒱 c bd i arg3 harg3 arg4 harg4 arg5 harg5 arg6 harg6 h3 X k, ∀ x : p.1.shape.Idx, p.2 x = epi acc  (p.1.emb x) := by
  unfold tripL_k0_t1 trip_k0_t1
  dsimp only
  intro p hp x
  obtain rfl := List.mem_singleton.mp hp
  clear hp
  dsimp only
  rw [View.readAt_eq_ld, hX]
  pointwise [k0_pay3, epi]
  refine congrArg acc (congrArg₂ ix2 (Fin.ext ?_) (Fin.ext ?_))
  all_goals simp only [off1_eq k]
  · show _ = k0_off2 k 1 + 1 * (x 1).val
    have h2 := congrFun (off2_eq k) 1
    rw [one_mul]; exact congrArg (· + _) h2.symm
  · show _ = k0_off2 k 2 + 1 * (x 2).val
    have h2 := congrFun (off2_eq k) 2
    rw [one_mul]; exact congrArg (· + _) h2.symm

/-- What a point of case B leaves in the scratch. -/
theorem scr_B (hc0 : ¬cond0_0 i) (hc1 : cond0_1 i) (hc2 : ¬cond0_2 i) (x0 : Vec Ideal S1408x2048 .bf16) (x1 : Vec Ideal S1408x1024 .bf16) (xs0 : Vec Ideal S2048x1024 .f32) :
    sout0_B_0 c i arg3 harg3 arg4 harg4 arg5 harg5 arg6 harg6 hc0 hc1 hc2 x0 x1 xs0 = k0_pay2 xs0 x0 x1 := by frame_out

/-- What a point of case C leaves in the scratch. -/
theorem scr_C (hc0 : ¬cond0_0 i) (hc1 : cond0_1 i) (hc2 : cond0_2 i) (x0 : Vec Ideal S1408x2048 .bf16) (x1 : Vec Ideal S1408x1024 .bf16) (xs0 : Vec Ideal S2048x1024 .f32) :
    sout0_C_0 c i arg3 harg3 arg4 harg4 arg5 harg5 arg6 harg6 hc0 hc1 hc2 x0 x1 xs0 = k0_pay2 xs0 x0 x1 := by frame_out

/-- What the last point of a run stores, over what it leaves in the scratch. -/
theorem out_C (hc0 : ¬cond0_0 i) (hc1 : cond0_1 i) (hc2 : cond0_2 i) (x0 : Vec Ideal S1408x2048 .bf16) (x1 : Vec Ideal S1408x1024 .bf16) (xs0 : Vec Ideal S2048x1024 .f32) (y : S1x2048x1024.Idx) :
    out0_C_2 c i arg3 harg3 arg4 harg4 arg5 harg5 arg6 harg6 hc0 hc1 hc2 x0 x1 xs0 y = epi (sout0_C_0 c i arg3 harg3 arg4 harg4 arg5 harg5 arg6 harg6 hc0 hc1 hc2 x0 x1 xs0)  y := by
  rw [scr_C]
  unfold out0_C_2
  rw [View.read_writes_junk_eq_canon]
  refine View.canon_apply_of_pieces (fun y => epi (k0_pay2 xs0 x0 x1)  y) _ ?_ y (cover0_C_2 c i arg3 harg3 arg4 harg4 arg5 harg5 arg6 harg6 hc0 hc1 hc2 x0 x1 xs0 y)
  unfold kernelRun0_C
  dsimp only
  refine Common.forall_mem_trips (fun n => pb_k0_t1 (F := Ideal) Variants.none c none i arg3 harg3 arg4 harg4 arg5 harg5 arg6 harg6 hc2 _ n)
    (fun k => tripL_k0_t1 (F := Ideal) Variants.none c none i arg3 harg3 arg4 harg4 arg5 harg5 arg6 harg6 hc2 _ k) rfl
    (fun k => pb_k0_t1_succ (F := Ideal) Variants.none c none i arg3 harg3 arg4 harg4 arg5 harg5 arg6 harg6 hc2 _ k)
    (trip_pieces c i arg3 harg3 arg4 harg4 arg5 harg5 arg6 harg6 Variants.none none hc2 _ _ ?_) _ (le_of_eq rfl)
  all_goals frame_out

omit c i arg3 harg3 arg4 harg4 arg5 harg5 arg6 harg6

variable (m : (ℓ : Loc nD τ sig) → Buf (Elt Ideal) ℓ)

theorem pay1_apply (x0 : Vec Ideal S1408x2048 .bf16) (x1 : Vec Ideal S1408x1024 .bf16) (j : S2048x1024.Idx) :
    k0_pay1 (F := Ideal) x0 x1 j = (0 + ∑ k : Fin 1408, x0 (ix2 k (j 0)) * x1 (ix2 k (j 1)) : EReal) := by
  rw [zero_add]; pointwise [k0_pay1]

theorem pay2_apply (xs0 : Vec Ideal S2048x1024 .f32) (x0 : Vec Ideal S1408x2048 .bf16) (x1 : Vec Ideal S1408x1024 .bf16) (j : S2048x1024.Idx) :
    k0_pay2 (F := Ideal) xs0 x0 x1 j = (xs0 j + ∑ k : Fin 1408, x0 (ix2 k (j 0)) * x1 (ix2 k (j 1)) : EReal) := by
  pointwise [k0_pay2]

theorem idx : ∀ t : Fin cfg0.N, win0_0.index t = ![t.val % 3, t.val / 3 % 2] ∧ win0_1.index t = ![t.val % 3, t.val / 6] ∧ win0_2.index t = ![t.val / 6, t.val / 3 % 2, 0] :=
  (by decide +kernel : ∀ t : Fin grid0.N, _)

/-- What the scratch holds after the last point of a run: the sum over the run's points of the products of their blocks. -/
theorem scratch (c : Dev nD) (t : Fin cfg0.N) (h : t.val % 3 = 2) (j : S2048x1024.Idx) :
    (outsAt0 m c t.val t.isLt).2 j = (∑ s : Fin 3, ∑ k : Fin 1408, (show Vec Ideal S1408x2048 .bf16 from iblk m c 0 ⟨3 * (t.val / 3) + s.val, Pipeline.run_point_lt_of_flush t h s⟩) (ix2 k (j 0)) * (show Vec Ideal S1408x1024 .bf16 from iblk m c 1 ⟨3 * (t.val / 3) + s.val, Pipeline.run_point_lt_of_flush t h s⟩) (ix2 k (j 1)) : EReal) := by
  rw [Pipeline.eq_sum_fin_of_reset_step_apply_of_flush (fun n h => (outsAt0 m c n h).2) 3 (fun _ => 0)
    (fun p j => (∑ k : Fin 1408, (show Vec Ideal S1408x2048 .bf16 from iblk m c 0 p) (ix2 k (j 0)) * (show Vec Ideal S1408x1024 .bf16 from iblk m c 1 p) (ix2 k (j 1)) : EReal))
    (fun t h j => by rw [outsAt0_A m c t h (by omega) (by omega)]; frame_out; rw [pay1_apply])
    (fun t h j => by
      rcases Nat.lt_or_ge (t.val % 3) 2 with h2 | h2
      · rw [outsAt0_B m c t h (by omega) (by omega)]; dsimp only; rw [scr_B, pay2_apply]
      · rw [outsAt0_C m c t h (by omega) (by omega)]; dsimp only; rw [scr_C, pay2_apply])
    t h j, zero_add]

/-- Element `i` of the reference's result. -/
theorem ref_apply (h : (⟨S4224x4096, .bf16⟩ : BufTy).Contents (Elt Ideal)) (du : (⟨S4224x8192, .bf16⟩ : BufTy).Contents (Elt Ideal)) (i : S8x4096x1024.Idx) (b : Fin 8192) (hb : b.val = (i 0).val * 1024 + (i 2).val) :
    InWRefIdeal.Read.val_main_v10 (F := Ideal) h du i = (∑ l : Fin 4224, h (ix2 l (i 1)) * du (ix2 l b) : EReal) := by
  unfold InWRefIdeal.Read.val_main_v10 InWRefIdeal.Read.val_main_v9 InWRefIdeal.Read.val_main_v8 InWRefIdeal.Read.val_main_v7 InWRefIdeal.Read.val_main_v6 InWRefIdeal.Read.val_main_v5 InWRefIdeal.Read.val_main_v1
  pointwise
  refine Fin.sum_fin_congr fun l => ?_
  rw [mul_comm]
  refine congrArg₂ (fun a b : EReal => a * b) ?_ ?_ <;> first | rfl | blk_ext

theorem blk0 (c : Dev nD) (p : Fin cfg0.N) (k : Fin 1408) (j : Fin 2048) (l : Fin 4224) (b : Fin 4096) (hl : l.val = p.val % 3 * 1408 + k.val) (hb : b.val = p.val / 3 % 2 * 2048 + j.val) :
    (show Vec Ideal S1408x2048 .bf16 from iblk m c 0 p) (ix2 k j) = m ((c : Thread nD τ).loc main_arg0) (ix2 l b) := by
  rw [← V_main_arg0 m c]
  show (V m c main_arg0) (((cfg0.win 0).blk p).view.emb (ix2 k j)) = V m c main_arg0 (ix2 l b)
  generalize V m c main_arg0 = A
  blk_point [idx p]

theorem blk1 (c : Dev nD) (p : Fin cfg0.N) (k : Fin 1408) (j : Fin 1024) (l : Fin 4224) (b : Fin 8192) (hl : l.val = p.val % 3 * 1408 + k.val) (hb : b.val = p.val / 6 * 1024 + j.val) :
    (show Vec Ideal S1408x1024 .bf16 from iblk m c 1 p) (ix2 k j) = m ((c : Thread nD τ).loc main_arg1) (ix2 l b) := by
  rw [← V_main_arg1 m c]
  show (V m c main_arg1) (((cfg0.win 1).blk p).view.emb (ix2 k j)) = V m c main_arg1 (ix2 l b)
  generalize V m c main_arg1 = A
  blk_point [idx p]

theorem point (c : Dev nD) (t : Fin cfg0.N) (ht : t.val % 3 = 2) (j : Fin 2048) (l : Fin 1024) (i : S8x4096x1024.Idx)
    (h0 : (i 0).val = t.val / 6) (h1 : (i 1).val = t.val / 3 % 2 * 2048 + j.val) (h2 : (i 2).val = l.val) :
    ((outsAt0 m c t.val t.isLt).2 (ix2 j l) : EReal) = InWRefIdeal.Read.val_main_v10 (F := Ideal) (m ((c : Thread nD τ).loc main_arg0)) (m ((c : Thread nD τ).loc main_arg1)) i := by
  have hN := lt_of_lt_of_eq t.isLt N_0
  rw [ref_apply _ _ i ⟨(i 0).val * 1024 + (i 2).val, by rw [h0, h2]; omega⟩ rfl, scratch m c t ht]
  refine Fin.sum_mul_add_congr fun s k hl => ?_
  have hs := s.isLt
  exact congrArg₂ (fun a b : EReal => a * b)
    (blk0 m c _ k j ⟨s.val * 1408 + k.val, hl⟩ (i 1) (by dsimp only; omega) (by dsimp only; omega))
    (blk1 m c _ k l ⟨s.val * 1408 + k.val, hl⟩ _ (by dsimp only; omega) (by dsimp only; omega))

theorem final (c : Dev nD) : (dats m 0 c).arrAt 2 cfg0.N = InWRefIdeal.Read.val_main_v10 (F := Ideal) (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  have e : (outsAt0 m c t.val t.isLt).1 y = epi (outsAt0 m c t.val t.isLt).2 y := by
    rw [outsAt0_C m c t (by omega) (by omega) ht]
    dsimp only
    rw [out_C]
  rw [e]
  refine point m c t ht _ _ _ ?_ ?_ ?_
  all_goals blk_simp [idx t] <;> try omega

end Cert.InWIdeal.Value
end
-- ==== Proof.InHValue.lean ====
module

public import proofs.«01_k».proof.Proof.Gen.InHIdeal.Value
public import proofs.«01_k».proof.Proof.Gen.InHRefIdeal.Run
public import proofs.«01_k».proof.Proof.Gen.InHRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.InHIdeal.Value

open Cert.InHIdeal Cert.InHIdeal.Gen Idealize.ShloMosaic Idealize.ShloMosaic.TcCoe Idealize.SL.Sem
open Idealize.ShloMosaic.Pipeline (Dat)

variable (c : Dev nD) (i : grid0.Coords) (arg3 : Memref sig .tc .vmem S1408x1024 .bf16) (harg3 : arg3.IsWhole) (arg4 : Memref sig .tc .vmem S1x1024x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .f32) (harg7 : arg7.IsWhole)

/-- An element of the block written back, over the sums the scratch holds and the block of the other summand. -/
def epi (acc : Vec Ideal S1408x1024 .f32) (x2 : Vec Ideal S1408x1024 .f32) (y : S1408x1024.Idx) : EReal :=
  Ideal.ofBits .f32 0x3F9837F0#32 * x2 y + acc y

theorem off1_eq : ∀ k : Fin k0_t1_loop.trips, k0_off1 k = ![64 * k.val, 0] := by decide +kernel

/-- What one trip of the last point's loop stores, over what the scratch holds. -/
theorem trip_pieces (𝒱 : Variants) (bd : Option 𝒱.V) (h3 : k0_cond3 i = 1#1)
    (X2 : BufTy.Contents (Elt Ideal) arg5.view.ty) (X : BufTy.Contents (Elt Ideal) arg7.view.ty) (acc : Vec Ideal S1408x1024 .f32) (x2 : Vec Ideal S1408x1024 .f32) (hX2 : arg5.view.read (Elt Ideal) X2 = x2) (hX : arg7.view.read (Elt Ideal) X = acc) (k : Fin k0_t1_loop.trips) :
    ∀ p ∈ tripL_k0_t1 (F := Ideal) 𝒱 c bd i arg3 harg3 arg4 harg4 arg5 harg5 arg6 harg6 arg7 harg7 h3 X2 X k, ∀ x : p.1.shape.Idx, p.2 x = epi acc x2 (p.1.emb x) := by
  unfold tripL_k0_t1 trip_k0_t1
  dsimp only
  intro p hp x
  obtain rfl := List.mem_singleton.mp hp
  clear hp
  dsimp only
  rw [View.readAt_eq_ld, View.readAt_eq_ld, hX, hX2]
  pointwise [k0_pay3, epi]
  refine congrArg (fun y : S1408x1024.Idx => Ideal.ofBits .f32 0x3F9837F0#32 * x2 y + acc y) ?_
  funext a; match a with | 0 => exact Fin.ext (congrArg (_ + ·) (one_mul _).symm) | 1 => exact Fin.ext (congrArg (_ + ·) (one_mul _).symm)

/-- What a point of case B leaves in the scratch. -/
theorem scr_B (hc0 : ¬cond0_0 i) (hc1 : cond0_1 i) (hc2 : ¬cond0_2 i) (x0 : Vec Ideal S1408x1024 .bf16) (x1 : Vec Ideal S1x1024x1024 .bf16) (x2 : Vec Ideal S1408x1024 .f32) (xs0 : Vec Ideal S1408x1024 .f32) :
    sout0_B_0 c i arg3 harg3 arg4 harg4 arg5 harg5 arg6 harg6 arg7 harg7 hc0 hc1 hc2 x0 x1 x2 xs0 = k0_pay2 xs0 x0 x1 := by frame_out

/-- What a point of case C leaves in the scratch. -/
theorem scr_C (hc0 : ¬cond0_0 i) (hc1 : cond0_1 i) (hc2 : cond0_2 i) (x0 : Vec Ideal S1408x1024 .bf16) (x1 : Vec Ideal S1x1024x1024 .bf16) (x2 : Vec Ideal S1408x1024 .f32) (xs0 : Vec Ideal S1408x1024 .f32) :
    sout0_C_0 c i arg3 harg3 arg4 harg4 arg5 harg5 arg6 harg6 arg7 harg7 hc0 hc1 hc2 x0 x1 x2 xs0 = k0_pay2 xs0 x0 x1 := by frame_out

/-- What the last point of a run stores, over what it leaves in the scratch. -/
theorem out_C (hc0 : ¬cond0_0 i) (hc1 : cond0_1 i) (hc2 : cond0_2 i) (x0 : Vec Ideal S1408x1024 .bf16) (x1 : Vec Ideal S1x1024x1024 .bf16) (x2 : Vec Ideal S1408x1024 .f32) (xs0 : Vec Ideal S1408x1024 .f32) (y : S1408x1024.Idx) :
    out0_C_3 c i arg3 harg3 arg4 harg4 arg5 harg5 arg6 harg6 arg7 harg7 hc0 hc1 hc2 x0 x1 x2 xs0 y = epi (sout0_C_0 c i arg3 harg3 arg4 harg4 arg5 harg5 arg6 harg6 arg7 harg7 hc0 hc1 hc2 x0 x1 x2 xs0) x2 y := by
  rw [scr_C]
  unfold out0_C_3
  rw [View.read_writes_junk_eq_canon]
  refine View.canon_apply_of_pieces (fun y => epi (k0_pay2 xs0 x0 x1) x2 y) _ ?_ y (cover0_C_3 c i arg3 harg3 arg4 harg4 arg5 harg5 arg6 harg6 arg7 harg7 hc0 hc1 hc2 x0 x1 x2 xs0 y)
  unfold kernelRun0_C
  dsimp only
  refine Common.forall_mem_trips (fun n => pb_k0_t1 (F := Ideal) Variants.none c none i arg3 harg3 arg4 harg4 arg5 harg5 arg6 harg6 arg7 harg7 hc2 _ _ n)
    (fun k => tripL_k0_t1 (F := Ideal) Variants.none c none i arg3 harg3 arg4 harg4 arg5 harg5 arg6 harg6 arg7 harg7 hc2 _ _ k) rfl
    (fun k => pb_k0_t1_succ (F := Ideal) Variants.none c none i arg3 harg3 arg4 harg4 arg5 harg5 arg6 harg6 arg7 harg7 hc2 _ _ k)
    (trip_pieces c i arg3 harg3 arg4 harg4 arg5 harg5 arg6 harg6 arg7 harg7 Variants.none none hc2 _ _ _ _ ?_ ?_) _ (le_of_eq rfl)
  all_goals frame_out

omit c i arg3 harg3 arg4 harg4 arg5 harg5 arg6 harg6 arg7 harg7

variable (m : (ℓ : Loc nD τ sig) → Buf (Elt Ideal) ℓ)

theorem pay1_apply (x0 : Vec Ideal S1408x1024 .bf16) (x1 : Vec Ideal S1x1024x1024 .bf16) (j : S1408x1024.Idx) :
    k0_pay1 (F := Ideal) x0 x1 j = (0 + ∑ k : Fin 1024, x0 (ix2 (j 0) k) * x1 (ix3 0 (j 1) k) : EReal) := by
  rw [zero_add]; pointwise [k0_pay1]

theorem pay2_apply (xs0 : Vec Ideal S1408x1024 .f32) (x0 : Vec Ideal S1408x1024 .bf16) (x1 : Vec Ideal S1x1024x1024 .bf16) (j : S1408x1024.Idx) :
    k0_pay2 (F := Ideal) xs0 x0 x1 j = (xs0 j + ∑ k : Fin 1024, x0 (ix2 (j 0) k) * x1 (ix3 0 (j 1) k) : EReal) := by
  pointwise [k0_pay2]

theorem idx : ∀ t : Fin cfg0.N, win0_0.index t = ![t.val / 32, t.val % 8] ∧ win0_1.index t = ![t.val % 8, t.val / 8 % 4, 0] ∧ win0_2.index t = ![t.val / 32, t.val / 8 % 4] ∧ win0_3.index t = ![t.val / 32, t.val / 8 % 4] :=
  (by decide +kernel : ∀ t : Fin grid0.N, _)

/-- What the scratch holds after the last point of a run: the sum over the run's points of the products of their blocks. -/
theorem scratch (c : Dev nD) (t : Fin cfg0.N) (h : t.val % 8 = 7) (j : S1408x1024.Idx) :
    (outsAt0 m c t.val t.isLt).2 j = (∑ s : Fin 8, ∑ k : Fin 1024, (show Vec Ideal S1408x1024 .bf16 from iblk m c 0 ⟨8 * (t.val / 8) + s.val, Pipeline.run_point_lt_of_flush t h s⟩) (ix2 (j 0) k) * (show Vec Ideal S1x1024x1024 .bf16 from iblk m c 1 ⟨8 * (t.val / 8) + s.val, Pipeline.run_point_lt_of_flush t h s⟩) (ix3 0 (j 1) k) : EReal) := by
  rw [Pipeline.eq_sum_fin_of_reset_step_apply_of_flush (fun n h => (outsAt0 m c n h).2) 8 (fun _ => 0)
    (fun p j => (∑ k : Fin 1024, (show Vec Ideal S1408x1024 .bf16 from iblk m c 0 p) (ix2 (j 0) k) * (show Vec Ideal S1x1024x1024 .bf16 from iblk m c 1 p) (ix3 0 (j 1) k) : EReal))
    (fun t h j => by rw [outsAt0_A m c t h (by omega) (by omega)]; frame_out; rw [pay1_apply])
    (fun t h j => by
      rcases Nat.lt_or_ge (t.val % 8) 7 with h2 | h2
      · rw [outsAt0_B m c t h (by omega) (by omega)]; dsimp only; rw [scr_B, pay2_apply]
      · rw [outsAt0_C m c t h (by omega) (by omega)]; dsimp only; rw [scr_C, pay2_apply])
    t h j, zero_add]

/-- Element `i` of the reference's result. -/
theorem ref_apply (du : (⟨S4224x8192, .bf16⟩ : BufTy).Contents (Elt Ideal)) (w : (⟨S4096x8192, .bf16⟩ : BufTy).Contents (Elt Ideal)) (dp : (⟨S4224x4096, .f32⟩ : BufTy).Contents (Elt Ideal)) (i : S4224x4096.Idx) :
    InHRefIdeal.Read.val_main_v9 (F := Ideal) du w dp i
      = (Ideal.ofBits .f32 0x3F9837F0#32 * dp (ix2 (i 0) (i 1)) + ∑ f : Fin 8192, du (ix2 (i 0) f) * w (ix2 (i 1) f) : EReal) := by
  unfold InHRefIdeal.Read.val_main_v9 InHRefIdeal.Read.val_main_v8 InHRefIdeal.Read.val_main_v7 InHRefIdeal.Read.val_main_v6 InHRefIdeal.Read.val_main_v5 InHRefIdeal.Read.val_main_v0
  pointwise
  exact add_comm _ _

/-- Element `i` of the weights the host splits into blocks of columns. -/
theorem split_apply (c : Dev nD) (i : S8x4096x1024.Idx) (f : Fin 8192) (hf : f.val = (i 0).val * 1024 + (i 2).val) : (show EReal from V m c main_v1 i)
    = m ((c : Thread nD τ).loc main_arg1) (ix2 (i 1) f) := by
  unfold V
  simp only [hostOps0, List.flatten_cons, List.flatten_nil, List.append_nil, List.cons_append, List.nil_append]
  after_results_simp
  pointwise
  blk_ext

theorem blk0 (c : Dev nD) (p : Fin cfg0.N) (k : Fin 1024) (j : Fin 1408) (l : Fin 4224) (f : Fin 8192) (hl : l.val = p.val / 32 * 1408 + j.val) (hf : f.val = p.val % 8 * 1024 + k.val) :
    (show Vec Ideal S1408x1024 .bf16 from iblk m c 0 p) (ix2 j k) = m ((c : Thread nD τ).loc main_arg0) (ix2 l f) := by
  rw [← V_main_arg0 m c]
  show (V m c main_arg0) (((cfg0.win 0).blk p).view.emb (ix2 j k)) = V m c main_arg0 (ix2 l f)
  generalize V m c main_arg0 = A
  blk_point [idx p]

theorem blk1 (c : Dev nD) (p : Fin cfg0.N) (k : Fin 1024) (j : Fin 1024) (l : Fin 4096) (f : Fin 8192) (hl : l.val = p.val / 8 % 4 * 1024 + j.val) (hf : f.val = p.val % 8 * 1024 + k.val) :
    (show Vec Ideal S1x1024x1024 .bf16 from iblk m c 1 p) (ix3 0 j k) = m ((c : Thread nD τ).loc main_arg1) (ix2 l f) := by
  refine Eq.trans (b := (show EReal from V m c main_v1 (ix3 ⟨p.val % 8, by omega⟩ l k))) ?_ (split_apply m c _ f hf)
  show (V m c main_v1) (((cfg0.win 1).blk p).view.emb (ix3 0 j k)) = V m c main_v1 (ix3 ⟨p.val % 8, by omega⟩ l k)
  generalize V m c main_v1 = A
  blk_point [idx p]

theorem blk2 (c : Dev nD) (p : Fin cfg0.N) (j : Fin 1408) (k : Fin 1024) (l : Fin 4224) (b : Fin 4096) (hl : l.val = p.val / 32 * 1408 + j.val) (hb : b.val = p.val / 8 % 4 * 1024 + k.val) :
    (show Vec Ideal S1408x1024 .f32 from iblk m c 2 p) (ix2 j k) = m ((c : Thread nD τ).loc main_arg2) (ix2 l b) := by
  rw [← V_main_arg2 m c]
  show (V m c main_arg2) (((cfg0.win 2).blk p).view.emb (ix2 j k)) = V m c main_arg2 (ix2 l b)
  generalize V m c main_arg2 = A
  blk_point [idx p]

theorem point (c : Dev nD) (t : Fin cfg0.N) (ht : t.val % 8 = 7) (j : Fin 1408) (l : Fin 1024) (i : S4224x4096.Idx)
    (h0 : (i 0).val = t.val / 32 * 1408 + j.val) (h1 : (i 1).val = t.val / 8 % 4 * 1024 + l.val) :
    (epi (outsAt0 m c t.val t.isLt).2 (iblk m c 2 t) (ix2 j l) : EReal) = InHRefIdeal.Read.val_main_v9 (F := Ideal) (m ((c : Thread nD τ).loc main_arg0)) (m ((c : Thread nD τ).loc main_arg1)) (m ((c : Thread nD τ).loc main_arg2)) i := by
  have hN := lt_of_lt_of_eq t.isLt N_0
  rw [ref_apply]
  refine congrArg₂ (fun a b : EReal => Ideal.ofBits .f32 0x3F9837F0#32 * a + b) (blk2 m c t j l (i 0) (i 1) h0 h1) ?_
  refine (scratch m c t ht _).trans ?_
  refine Fin.sum_mul_add_congr fun s k hl => ?_
  have hs := s.isLt
  exact congrArg₂ (fun a b : EReal => a * b)
    (blk0 m c _ k j (i 0) ⟨s.val * 1024 + k.val, hl⟩ (by dsimp only; omega) (by dsimp only; omega))
    (blk1 m c _ k l (i 1) ⟨s.val * 1024 + k.val, hl⟩ (by dsimp only; omega) (by dsimp only; omega))

theorem final (c : Dev nD) : (dats m 0 c).arrAt 3 cfg0.N = InHRefIdeal.Read.val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := (flush0_3 t).mp hf
  rw [after0_3]
  have e : (outsAt0 m c t.val t.isLt).1 y = epi (outsAt0 m c t.val t.isLt).2 (iblk m c 2 t) (ix2 (y 0) (y 1)) := by
    rw [outsAt0_C m c t (by omega) (by omega) ht]
    dsimp only
    rw [out_C]
    exact congrArg (epi _ _) (by funext a; match a with | 0 => rfl | 1 => rfl)
  rw [e]
  refine point m c t ht _ _ _ ?_ ?_
  all_goals blk_simp [idx t] <;> try omega

end Cert.InHIdeal.Value
end
-- ==== Proof.MixInValue.lean ====
module

public import proofs.«01_k».proof.Proof.Gen.MixInIdeal.Value
public import proofs.«01_k».proof.Proof.Gen.MixInRefIdeal.Run
public import proofs.«01_k».proof.Proof.Gen.MixInRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.MixInIdeal.Value

open Cert.MixInIdeal Cert.MixInIdeal.Gen Idealize.ShloMosaic Idealize.ShloMosaic.TcCoe Idealize.SL.Sem
open Idealize.ShloMosaic.Pipeline (Dat)

theorem out2 (x0 : Vec Ideal S1408x512 .bf16) (x1 : Vec Ideal S1x512x512 .bf16) : out0_2 x0 x1 = k0_pay1 x0 x1 := by frame_out

variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![t.val / 4, t.val % 4] :=
  (by decide +kernel : ∀ t : Fin grid0.N, _)

theorem pay1_apply (x0 : Vec Ideal S1408x512 .bf16) (x1 : Vec Ideal S1x512x512 .bf16) (j : S1408x512.Idx) :
    k0_pay1 (F := Ideal) x0 x1 j = (∑ k : Fin 512, x0 (ix2 (j 0) k) * x1 (ix3 0 (j 1) k) : EReal) := by
  pointwise [k0_pay1]

/-- Element `i` of the reference's result, a column of group `g`. -/
theorem ref_apply (dy : (⟨S4224x2048, .bf16⟩ : BufTy).Contents (Elt Ideal)) (w : (⟨S4x512x512, .bf16⟩ : BufTy).Contents (Elt Ideal)) (i : S4224x2048.Idx) (g : Fin 4) (j : Fin 512) (h : (i 1).val = g.val * 512 + j.val) :
    MixInRefIdeal.Read.val_main_v11 (F := Ideal) dy w i = (∑ k : Fin 512, dy (ix2 (i 0) ⟨g.val * 512 + k.val, by omega⟩) * w (ix3 g j k) : EReal) := by
  unfold MixInRefIdeal.Read.val_main_v11 MixInRefIdeal.Read.val_main_v10 MixInRefIdeal.Read.val_main_v9 MixInRefIdeal.Read.val_main_v8 MixInRefIdeal.Read.val_main_v7 MixInRefIdeal.Read.val_main_v6 MixInRefIdeal.Read.val_main_v0
  pointwise
  refine Fin.sum_fin_congr fun k => ?_
  refine congrArg₂ (fun a b : EReal => a * b) ?_ ?_ <;> blk_ext

theorem blk0 (c : Dev nD) (p : Fin cfg0.N) (k : Fin 512) (j : Fin 1408) (l : Fin 4224) (b : Fin 2048) (hl : l.val = p.val / 4 * 1408 + j.val) (hb : b.val = p.val % 4 * 512 + k.val) :
    (show Vec Ideal S1408x512 .bf16 from iblk m c 0 p) (ix2 j k) = m ((c : Thread nD τ).loc main_arg0) (ix2 l b) := by
  rw [← V_main_arg0 m c]
  show (V m c main_arg0) (((cfg0.win 0).blk p).view.emb (ix2 j k)) = V m c main_arg0 (ix2 l b)
  generalize V m c main_arg0 = A
  blk_point [idx p]

theorem blk1 (c : Dev nD) (p : Fin cfg0.N) (k : Fin 512) (j : Fin 512) (g : Fin 4) (hg : g.val = p.val % 4) :
    (show Vec Ideal S1x512x512 .bf16 from iblk m c 1 p) (ix3 0 j k) = m ((c : Thread nD τ).loc main_arg1) (ix3 g j k) := by
  rw [← V_main_arg1 m c]
  show (V m c main_arg1) (((cfg0.win 1).blk p).view.emb (ix3 0 j k)) = V m c main_arg1 (ix3 g j k)
  generalize V m c main_arg1 = A
  blk_point [idx p]

theorem point (c : Dev nD) (t : Fin cfg0.N) (j : Fin 1408) (l : Fin 512) (i : S4224x2048.Idx)
    (h0 : (i 0).val = t.val / 4 * 1408 + j.val) (h1 : (i 1).val = t.val % 4 * 512 + l.val) :
    (k0_pay1 (F := Ideal) (iblk m c 0 t) (iblk m c 1 t) (ix2 j l) : EReal) = MixInRefIdeal.Read.val_main_v11 (F := Ideal) (m ((c : Thread nD τ).loc main_arg0)) (m ((c : Thread nD τ).loc main_arg1)) i := by
  rw [ref_apply _ _ i ⟨t.val % 4, by omega⟩ l h1]
  refine (pay1_apply _ _ _).trans (Fin.sum_fin_congr fun k => ?_)
  exact congrArg₂ (fun a b : EReal => a * b) (blk0 m c t k j (i 0) _ h0 rfl) (blk1 m c t k l _ rfl)

theorem final (c : Dev nD) : (dats m 0 c).arrAt 2 cfg0.N = MixInRefIdeal.Read.val_main_v11 (F := Ideal) (m ((c : Thread nD τ).loc main_arg0)) (m ((c : Thread nD τ).loc main_arg1)) := by
  refine (dats m 0 c).arrAt_eq_of_covers 2 _ (by decide +kernel) fun t _ y => ?_
  blk_simp
  rw [after0_2, out2]
  obtain ⟨r, k, rfl⟩ : ∃ (r : Fin 1408) (k : Fin 512), y = ix2 r k := ⟨y 0, y 1, by funext a; match a with | ⟨0, _⟩ => rfl | ⟨1, _⟩ => rfl⟩
  refine point m c t r k _ ?_ ?_
  all_goals blk_simp [idx t] <;> try omega

end Cert.MixInIdeal.Value
end
-- ==== Proof.MixWValue.lean ====
module

public import proofs.«01_k».proof.Proof.Gen.MixWIdeal.Value
public import proofs.«01_k».proof.Proof.Gen.MixWRefIdeal.Run
public import proofs.«01_k».proof.Proof.Gen.MixWRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.MixWIdeal.Value

open Cert.MixWIdeal Cert.MixWIdeal.Gen Idealize.ShloMosaic Idealize.ShloMosaic.TcCoe Idealize.SL.Sem
open Idealize.ShloMosaic.Pipeline (Dat)

variable (c : Dev nD) (i : grid0.Coords) (arg2 : Memref sig .tc .vmem S1408x512 .bf16) (harg2 : arg2.IsWhole) (arg3 : Memref sig .tc .vmem S1408x512 .bf16) (harg3 : arg3.IsWhole) (arg4 : Memref sig .tc .vmem S1x512x512 .f32) (harg4 : arg4.IsWhole) (arg5 : Memref sig .tc .vmem S512x512 .f32) (harg5 : arg5.IsWhole)

/-- An element of the block written back, over the sums the scratch holds. -/
def epi (acc : Vec Ideal S512x512 .f32)  (y : S1x512x512.Idx) : EReal :=
  acc (ix2 (y 1) (y 2))

theorem off1_eq : ∀ k : Fin k0_t1_loop.trips, k0_off1 k = ![64 * k.val, 0] := by decide +kernel

theorem off2_eq : ∀ k : Fin k0_t1_loop.trips, k0_off2 k = ![0, 64 * k.val, 0] := by decide +kernel

/-- What one trip of the last point's loop stores, over what the scratch holds. -/
theorem trip_pieces (𝒱 : Variants) (bd : Option 𝒱.V) (h3 : k0_cond3 i = 1#1)
     (X : BufTy.Contents (Elt Ideal) arg5.view.ty) (acc : Vec Ideal S512x512 .f32)   (hX : arg5.view.read (Elt Ideal) X = acc) (k : Fin k0_t1_loop.trips) :
    ∀ p ∈ tripL_k0_t1 (F := Ideal) 𝒱 c bd i arg2 harg2 arg3 harg3 arg4 harg4 arg5 harg5 h3 X k, ∀ x : p.1.shape.Idx, p.2 x = epi acc  (p.1.emb x) := by
  unfold tripL_k0_t1 trip_k0_t1
  dsimp only
  intro p hp x
  obtain rfl := List.mem_singleton.mp hp
  clear hp
  dsimp only
  rw [View.readAt_eq_ld, hX]
  pointwise [k0_pay3, epi]
  refine congrArg acc (congrArg₂ ix2 (Fin.ext ?_) (Fin.ext ?_))
  all_goals simp only [off1_eq k]
  · show _ = k0_off2 k 1 + 1 * (x 1).val
    have h2 := congrFun (off2_eq k) 1
    rw [one_mul]; exact congrArg (· + _) h2.symm
  · show _ = k0_off2 k 2 + 1 * (x 2).val
    have h2 := congrFun (off2_eq k) 2
    rw [one_mul]; exact congrArg (· + _) h2.symm

/-- What a point of case B leaves in the scratch. -/
theorem scr_B (hc0 : ¬cond0_0 i) (hc1 : cond0_1 i) (hc2 : ¬cond0_2 i) (x0 : Vec Ideal S1408x512 .bf16) (x1 : Vec Ideal S1408x512 .bf16) (xs0 : Vec Ideal S512x512 .f32) :
    sout0_B_0 c i arg2 harg2 arg3 harg3 arg4 harg4 arg5 harg5 hc0 hc1 hc2 x0 x1 xs0 = k0_pay2 xs0 x0 x1 := by frame_out

/-- What a point of case C leaves in the scratch. -/
theorem scr_C (hc0 : ¬cond0_0 i) (hc1 : cond0_1 i) (hc2 : cond0_2 i) (x0 : Vec Ideal S1408x512 .bf16) (x1 : Vec Ideal S1408x512 .bf16) (xs0 : Vec Ideal S512x512 .f32) :
    sout0_C_0 c i arg2 harg2 arg3 harg3 arg4 harg4 arg5 harg5 hc0 hc1 hc2 x0 x1 xs0 = k0_pay2 xs0 x0 x1 := by frame_out

/-- What the last point of a run stores, over what it leaves in the scratch. -/
theorem out_C (hc0 : ¬cond0_0 i) (hc1 : cond0_1 i) (hc2 : cond0_2 i) (x0 : Vec Ideal S1408x512 .bf16) (x1 : Vec Ideal S1408x512 .bf16) (xs0 : Vec Ideal S512x512 .f32) (y : S1x512x512.Idx) :
    out0_C_2 c i arg2 harg2 arg3 harg3 arg4 harg4 arg5 harg5 hc0 hc1 hc2 x0 x1 xs0 y = epi (sout0_C_0 c i arg2 harg2 arg3 harg3 arg4 harg4 arg5 harg5 hc0 hc1 hc2 x0 x1 xs0)  y := by
  rw [scr_C]
  unfold out0_C_2
  rw [View.read_writes_junk_eq_canon]
  refine View.canon_apply_of_pieces (fun y => epi (k0_pay2 xs0 x0 x1)  y) _ ?_ y (cover0_C_2 c i arg2 harg2 arg3 harg3 arg4 harg4 arg5 harg5 hc0 hc1 hc2 x0 x1 xs0 y)
  unfold kernelRun0_C
  dsimp only
  refine Common.forall_mem_trips (fun n => pb_k0_t1 (F := Ideal) Variants.none c none i arg2 harg2 arg3 harg3 arg4 harg4 arg5 harg5 hc2 _ n)
    (fun k => tripL_k0_t1 (F := Ideal) Variants.none c none i arg2 harg2 arg3 harg3 arg4 harg4 arg5 harg5 hc2 _ k) rfl
    (fun k => pb_k0_t1_succ (F := Ideal) Variants.none c none i arg2 harg2 arg3 harg3 arg4 harg4 arg5 harg5 hc2 _ k)
    (trip_pieces c i arg2 harg2 arg3 harg3 arg4 harg4 arg5 harg5 Variants.none none hc2 _ _ ?_) _ (le_of_eq rfl)
  all_goals frame_out

omit c i arg2 harg2 arg3 harg3 arg4 harg4 arg5 harg5

variable (m : (ℓ : Loc nD τ sig) → Buf (Elt Ideal) ℓ)

theorem pay1_apply (x0 : Vec Ideal S1408x512 .bf16) (x1 : Vec Ideal S1408x512 .bf16) (j : S512x512.Idx) :
    k0_pay1 (F := Ideal) x0 x1 j = (0 + ∑ k : Fin 1408, x0 (ix2 k (j 0)) * x1 (ix2 k (j 1)) : EReal) := by
  rw [zero_add]; pointwise [k0_pay1]

theorem pay2_apply (xs0 : Vec Ideal S512x512 .f32) (x0 : Vec Ideal S1408x512 .bf16) (x1 : Vec Ideal S1408x512 .bf16) (j : S512x512.Idx) :
    k0_pay2 (F := Ideal) xs0 x0 x1 j = (xs0 j + ∑ k : Fin 1408, x0 (ix2 k (j 0)) * x1 (ix2 k (j 1)) : EReal) := by
  pointwise [k0_pay2]

theorem idx : ∀ t : Fin cfg0.N, win0_0.index t = ![t.val % 3, t.val / 3] ∧ win0_1.index t = ![t.val % 3, t.val / 3] ∧ win0_2.index t = ![t.val / 3, 0, 0] :=
  (by decide +kernel : ∀ t : Fin grid0.N, _)

/-- What the scratch holds after the last point of a run: the sum over the run's points of the products of their blocks. -/
theorem scratch (c : Dev nD) (t : Fin cfg0.N) (h : t.val % 3 = 2) (j : S512x512.Idx) :
    (outsAt0 m c t.val t.isLt).2 j = (∑ s : Fin 3, ∑ k : Fin 1408, (show Vec Ideal S1408x512 .bf16 from iblk m c 0 ⟨3 * (t.val / 3) + s.val, Pipeline.run_point_lt_of_flush t h s⟩) (ix2 k (j 0)) * (show Vec Ideal S1408x512 .bf16 from iblk m c 1 ⟨3 * (t.val / 3) + s.val, Pipeline.run_point_lt_of_flush t h s⟩) (ix2 k (j 1)) : EReal) := by
  rw [Pipeline.eq_sum_fin_of_reset_step_apply_of_flush (fun n h => (outsAt0 m c n h).2) 3 (fun _ => 0)
    (fun p j => (∑ k : Fin 1408, (show Vec Ideal S1408x512 .bf16 from iblk m c 0 p) (ix2 k (j 0)) * (show Vec Ideal S1408x512 .bf16 from iblk m c 1 p) (ix2 k (j 1)) : EReal))
    (fun t h j => by rw [outsAt0_A m c t h (by omega) (by omega)]; frame_out; rw [pay1_apply])
    (fun t h j => by
      rcases Nat.lt_or_ge (t.val % 3) 2 with h2 | h2
      · rw [outsAt0_B m c t h (by omega) (by omega)]; dsimp only; rw [scr_B, pay2_apply]
      · rw [outsAt0_C m c t h (by omega) (by omega)]; dsimp only; rw [scr_C, pay2_apply])
    t h j, zero_add]

/-- Element `i` of the reference's result. -/
theorem ref_apply (x dy : (⟨S4224x2048, .bf16⟩ : BufTy).Contents (Elt Ideal)) (i : S4x512x512.Idx) (a b : Fin 2048) (ha : a.val = (i 0).val * 512 + (i 1).val) (hb : b.val = (i 0).val * 512 + (i 2).val) :
    MixWRefIdeal.Read.val_main_v10 (F := Ideal) x dy i = (∑ l : Fin 4224, x (ix2 l a) * dy (ix2 l b) : EReal) := by
  unfold MixWRefIdeal.Read.val_main_v10 MixWRefIdeal.Read.val_main_v9 MixWRefIdeal.Read.val_main_v8 MixWRefIdeal.Read.val_main_v7 MixWRefIdeal.Read.val_main_v6 MixWRefIdeal.Read.val_main_v2 MixWRefIdeal.Read.val_main_v1
  pointwise
  refine Fin.sum_fin_congr fun l => ?_
  rw [mul_comm]
  refine congrArg₂ (fun a b : EReal => a * b) ?_ ?_ <;> first | rfl | blk_ext

theorem blk0 (c : Dev nD) (p : Fin cfg0.N) (k : Fin 1408) (j : Fin 512) (l : Fin 4224) (b : Fin 2048) (hl : l.val = p.val % 3 * 1408 + k.val) (hb : b.val = p.val / 3 * 512 + j.val) :
    (show Vec Ideal S1408x512 .bf16 from iblk m c 0 p) (ix2 k j) = m ((c : Thread nD τ).loc main_arg0) (ix2 l b) := by
  rw [← V_main_arg0 m c]
  show (V m c main_arg0) (((cfg0.win 0).blk p).view.emb (ix2 k j)) = V m c main_arg0 (ix2 l b)
  generalize V m c main_arg0 = A
  blk_point [idx p]

theorem blk1 (c : Dev nD) (p : Fin cfg0.N) (k : Fin 1408) (j : Fin 512) (l : Fin 4224) (b : Fin 2048) (hl : l.val = p.val % 3 * 1408 + k.val) (hb : b.val = p.val / 3 * 512 + j.val) :
    (show Vec Ideal S1408x512 .bf16 from iblk m c 1 p) (ix2 k j) = m ((c : Thread nD τ).loc main_arg1) (ix2 l b) := by
  rw [← V_main_arg1 m c]
  show (V m c main_arg1) (((cfg0.win 1).blk p).view.emb (ix2 k j)) = V m c main_arg1 (ix2 l b)
  generalize V m c main_arg1 = A
  blk_point [idx p]

theorem point (c : Dev nD) (t : Fin cfg0.N) (ht : t.val % 3 = 2) (j l : Fin 512) (i : S4x512x512.Idx)
    (h0 : (i 0).val = t.val / 3) (h1 : (i 1).val = j.val) (h2 : (i 2).val = l.val) :
    ((outsAt0 m c t.val t.isLt).2 (ix2 j l) : EReal) = MixWRefIdeal.Read.val_main_v10 (F := Ideal) (m ((c : Thread nD τ).loc main_arg0)) (m ((c : Thread nD τ).loc main_arg1)) i := by
  have hN := lt_of_lt_of_eq t.isLt N_0
  rw [ref_apply _ _ i ⟨(i 0).val * 512 + (i 1).val, by rw [h0, h1]; omega⟩ ⟨(i 0).val * 512 + (i 2).val, by rw [h0, h2]; omega⟩ rfl rfl, scratch m c t ht]
  refine Fin.sum_mul_add_congr fun s k hl => ?_
  have hs := s.isLt
  exact congrArg₂ (fun a b : EReal => a * b)
    (blk0 m c _ k j ⟨s.val * 1408 + k.val, hl⟩ _ (by dsimp only; omega) (by dsimp only; omega))
    (blk1 m c _ k l ⟨s.val * 1408 + k.val, hl⟩ _ (by dsimp only; omega) (by dsimp only; omega))

theorem final (c : Dev nD) : (dats m 0 c).arrAt 2 cfg0.N = MixWRefIdeal.Read.val_main_v10 (F := Ideal) (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  have e : (outsAt0 m c t.val t.isLt).1 y = epi (outsAt0 m c t.val t.isLt).2 y := by
    rw [outsAt0_C m c t (by omega) (by omega) ht]
    dsimp only
    rw [out_C]
  rw [e]
  refine point m c t ht _ _ _ ?_ ?_ ?_
  all_goals blk_simp [idx t] <;> try omega

end Cert.MixWIdeal.Value
end
-- ==== Proof.ScaleValue.lean ====
module

public import proofs.«01_k».proof.Proof.Gen.ScaleIdeal.Value
public import proofs.«01_k».proof.Proof.Gen.ScaleRefIdeal.Run
public import proofs.«01_k».proof.Proof.Gen.ScaleRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.ScaleIdeal.Value

open Cert.ScaleIdeal Cert.ScaleIdeal.Gen Idealize.ShloMosaic Idealize.ShloMosaic.TcCoe Idealize.SL.Sem
open Idealize.ShloMosaic.Pipeline (Dat)

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .bf16) (harg4 : arg4.IsWhole) (arg5 : Memref sig .tc .vmem S1x2048 .f32) (harg5 : arg5.IsWhole)

theorem out_A3 (hc0 : cond0_0 i) (hc1 : ¬cond0_1 i) (x0 x1 : Vec Ideal S128x2048 .f32) (x2 : Vec Ideal S1x2048 .f32) : out0_A_3 c i arg1 harg1 arg2 harg2 arg3 harg3 arg4 harg4 arg5 harg5 hc0 hc1 x0 x1 x2 = k0_pay1 x0 x2 := by frame_out

theorem out_B3 (hc0 : ¬cond0_0 i) (hc1 : cond0_1 i) (x0 x1 : Vec Ideal S128x2048 .f32) (x2 : Vec Ideal S1x2048 .f32) (xo4 : Vec Ideal S1x2048 .f32) : out0_B_3 c i arg1 harg1 arg2 harg2 arg3 harg3 arg4 harg4 arg5 harg5 hc0 hc1 x0 x1 x2 xo4 = k0_pay1 x0 x2 := by frame_out

theorem out_A4 (hc0 : cond0_0 i) (hc1 : ¬cond0_1 i) (x0 x1 : Vec Ideal S128x2048 .f32) (x2 : Vec Ideal S1x2048 .f32) : out0_A_4 c i arg1 harg1 arg2 harg2 arg3 harg3 arg4 harg4 arg5 harg5 hc0 hc1 x0 x1 x2 = k0_pay2 x0 x1 := by frame_out

theorem out_B4 (hc0 : ¬cond0_0 i) (hc1 : cond0_1 i) (x0 x1 : Vec Ideal S128x2048 .f32) (x2 : Vec Ideal S1x2048 .f32) (xo4 : Vec Ideal S1x2048 .f32) : out0_B_4 c i arg1 harg1 arg2 harg2 arg3 harg3 arg4 harg4 arg5 harg5 hc0 hc1 x0 x1 x2 xo4 = k0_pay3 x0 x1 xo4 := by frame_out

omit c i arg1 harg1 arg2 harg2 arg3 harg3 arg4 harg4 arg5 harg5

theorem pay1_apply (x0 : Vec Ideal S128x2048 .f32) (x2 : Vec Ideal S1x2048 .f32) (j : S128x2048.Idx) :
    k0_pay1 (F := Ideal) x0 x2 j = (x0 j * x2 (ix2 0 (j 1)) : EReal) := by
  pointwise [k0_pay1]

theorem pay2_apply (x0 x1 : Vec Ideal S128x2048 .f32) (j : S1x2048.Idx) :
    k0_pay2 (F := Ideal) x0 x1 j = (0 + ∑ k : Fin 128, x0 (ix2 k (j 1)) * x1 (ix2 k (j 1)) : EReal) := by
  rw [zero_add]; pointwise [k0_pay2]

theorem pay3_apply (x0 x1 : Vec Ideal S128x2048 .f32) (acc : Vec Ideal S1x2048 .f32) (j : S1x2048.Idx) :
    k0_pay3 (F := Ideal) x0 x1 acc j = (acc j + ∑ k : Fin 128, x0 (ix2 k (j 1)) * x1 (ix2 k (j 1)) : EReal) := by
  have h := pay2_apply x0 x1 j
  rw [zero_add] at h
  rw [← h]
  unfold k0_pay3
  generalize k0_pay2 (F := Ideal) x0 x1 = A
  pointwise

variable (m : (ℓ : Loc nD τ sig) → Buf (Elt Ideal) ℓ)

theorem idx : ∀ t : Fin cfg0.N, win0_0.index t = ![t.val, 1] ∧ win0_1.index t = ![t.val, 0] ∧ win0_2.index t = ![0, 0] ∧ win0_3.index t = ![t.val, 0] ∧ win0_4.index t = ![0, 0] :=
  (by decide +kernel : ∀ t : Fin grid0.N, _)

/-- What the row of sums holds after the last point: the sum over the points of their blocks' sums of products. -/
theorem sums (c : Dev nD) (t : Fin cfg0.N) (h : t.val % 33 = 32) (j : S1x2048.Idx) :
    (outsAt0 m c t.val t.isLt).2 j = (∑ s : Fin 33, ∑ k : Fin 128, (show Vec Ideal S128x2048 .f32 from iblk m c 0 ⟨33 * (t.val / 33) + s.val, Pipeline.run_point_lt_of_flush t h s⟩) (ix2 k (j 1)) * (show Vec Ideal S128x2048 .f32 from iblk m c 1 ⟨33 * (t.val / 33) + s.val, Pipeline.run_point_lt_of_flush t h s⟩) (ix2 k (j 1)) : EReal) := by
  rw [Pipeline.eq_sum_fin_of_reset_step_apply_of_flush (fun n h => (outsAt0 m c n h).2) 33 (fun _ => 0)
    (fun p j => (∑ k : Fin 128, (show Vec Ideal S128x2048 .f32 from iblk m c 0 p) (ix2 k (j 1)) * (show Vec Ideal S128x2048 .f32 from iblk m c 1 p) (ix2 k (j 1)) : EReal))
    (fun t h j => by
      have hN := lt_of_lt_of_eq t.isLt N_0
      rw [outsAt0_A m c t h (by omega)]; dsimp only; rw [out_A4, pay2_apply])
    (fun t h j => by rw [outsAt0_B m c t h (by omega)]; dsimp only; rw [out_B4, pay3_apply])
    t h j, zero_add]

/-- Element `i` of the reference's scaled gradient. -/
theorem ref_apply (dy : (⟨S4224x4096, .f32⟩ : BufTy).Contents (Elt Ideal)) (s : (⟨S1x2048, .f32⟩ : BufTy).Contents (Elt Ideal)) (i : S4224x2048.Idx) (b : Fin 4096) (hb : b.val = 2048 + (i 1).val) :
    ScaleRefIdeal.Read.val_main_v12 (F := Ideal) dy s i = (dy (ix2 (i 0) b) * s (ix2 0 (i 1)) : EReal) := by
  unfold ScaleRefIdeal.Read.val_main_v12 ScaleRefIdeal.Read.val_main_v9 ScaleRefIdeal.Read.val_main_v8 ScaleRefIdeal.Read.val_main_v4 ScaleRefIdeal.Read.val_main_v1 ScaleRefIdeal.Read.val_main_v0
  pointwise
  refine congrArg₂ (fun a b : EReal => a * b) ?_ ?_ <;> first | rfl | blk_ext

/-- Element `i` of the reference's gradient in the scales. -/
theorem ref_apply2 (dy : (⟨S4224x4096, .f32⟩ : BufTy).Contents (Elt Ideal)) (x : (⟨S4224x2048, .f32⟩ : BufTy).Contents (Elt Ideal)) (i : S1x2048.Idx) (b : Fin 4096) (hb : b.val = 2048 + (i 1).val) :
    ScaleRefIdeal.Read.val_main_v11 (F := Ideal) dy x i = (∑ l : Fin 4224, dy (ix2 l b) * x (ix2 l (i 1)) : EReal) := by
  unfold ScaleRefIdeal.Read.val_main_v11 ScaleRefIdeal.Read.val_main_v10 ScaleRefIdeal.Read.val_main_v7 ScaleRefIdeal.Read.val_main_v6 ScaleRefIdeal.Read.val_main_v5 ScaleRefIdeal.Read.val_main_v4 ScaleRefIdeal.Read.val_main_cst ScaleRefIdeal.Read.val_main_cst_0
  pointwise
  rw [Fin.sum_univ_one]
  refine Fin.sum_fin_congr fun l => ?_
  rw [mul_comm]
  refine congrArg₂ (fun a b : EReal => a * b) ?_ ?_ <;> first | rfl | blk_ext

theorem blk0 (c : Dev nD) (p : Fin cfg0.N) (k : Fin 128) (j : Fin 2048) (l : Fin 4224) (b : Fin 4096) (hl : l.val = p.val * 128 + k.val) (hb : b.val = 2048 + j.val) :
    (show Vec Ideal S128x2048 .f32 from iblk m c 0 p) (ix2 k j) = m ((c : Thread nD τ).loc main_arg0) (ix2 l b) := by
  rw [← V_main_arg0 m c]
  show (V m c main_arg0) (((cfg0.win 0).blk p).view.emb (ix2 k j)) = V m c main_arg0 (ix2 l b)
  generalize V m c main_arg0 = A
  blk_point [idx p]

theorem blk1 (c : Dev nD) (p : Fin cfg0.N) (k : Fin 128) (j : Fin 2048) (l : Fin 4224) (hl : l.val = p.val * 128 + k.val) :
    (show Vec Ideal S128x2048 .f32 from iblk m c 1 p) (ix2 k j) = m ((c : Thread nD τ).loc main_arg1) (ix2 l j) := by
  rw [← V_main_arg1 m c]
  show (V m c main_arg1) (((cfg0.win 1).blk p).view.emb (ix2 k j)) = V m c main_arg1 (ix2 l j)
  generalize V m c main_arg1 = A
  blk_point [idx p]

theorem blk2 (c : Dev nD) (p : Fin cfg0.N) (j : Fin 2048)  :
    (show Vec Ideal S1x2048 .f32 from iblk m c 2 p) (ix2 0 j) = m ((c : Thread nD τ).loc main_arg2) (ix2 0 j) := by
  rw [← V_main_arg2 m c]
  show (V m c main_arg2) (((cfg0.win 2).blk p).view.emb (ix2 0 j)) = V m c main_arg2 (ix2 0 j)
  generalize V m c main_arg2 = A
  blk_point [idx p]

theorem point3 (c : Dev nD) (t : Fin cfg0.N) (j : Fin 128) (l : Fin 2048) (i : S4224x2048.Idx)
    (h0 : (i 0).val = t.val * 128 + j.val) (h1 : (i 1).val = l.val) :
    (k0_pay1 (F := Ideal) (iblk m c 0 t) (iblk m c 2 t) (ix2 j l) : EReal) = ScaleRefIdeal.Read.val_main_v12 (F := Ideal) (m ((c : Thread nD τ).loc main_arg0)) (m ((c : Thread nD τ).loc main_arg2)) i := by
  have h1' : i 1 = l := Fin.ext h1
  rw [ref_apply _ _ i ⟨2048 + (i 1).val, by rw [h1]; omega⟩ rfl]
  refine (pay1_apply _ _ _).trans (congrArg₂ (fun a b : EReal => a * b) (blk0 m c t j l (i 0) _ h0 (by dsimp only; rw [h1])) ((blk2 m c t l).trans ?_))
  rw [h1']

theorem point4 (c : Dev nD) (t : Fin cfg0.N) (ht : t.val % 33 = 32) (l : Fin 2048) (i : S1x2048.Idx) (h1 : (i 1).val = l.val) :
    ((outsAt0 m c t.val t.isLt).2 (ix2 0 l) : EReal) = ScaleRefIdeal.Read.val_main_v11 (F := Ideal) (m ((c : Thread nD τ).loc main_arg0)) (m ((c : Thread nD τ).loc main_arg1)) i := by
  have hN := lt_of_lt_of_eq t.isLt N_0
  have h1' : i 1 = l := Fin.ext h1
  rw [ref_apply2 _ _ i ⟨2048 + (i 1).val, by rw [h1]; omega⟩ rfl, sums m c t ht]
  refine Fin.sum_mul_add_congr fun s k hl => ?_
  have hs := s.isLt
  refine congrArg₂ (fun a b : EReal => a * b) (blk0 m c _ k l ⟨s.val * 128 + k.val, hl⟩ _ (by dsimp only; omega) (by dsimp only; rw [h1])) ?_
  exact (blk1 m c _ k l ⟨s.val * 128 + k.val, hl⟩ (by dsimp only; omega)).trans (by rw [h1'])

theorem final0 (c : Dev nD) : (dats m 0 c).arrAt 3 cfg0.N = ScaleRefIdeal.Read.val_main_v12 (F := Ideal) (m ((c : Thread nD τ).loc main_arg0)) (m ((c : Thread nD τ).loc main_arg2)) := by
  refine (dats m 0 c).arrAt_eq_of_covers 3 _ (by decide +kernel) fun t _ y => ?_
  blk_simp
  rw [after0_3]
  have e : (outsAt0 m c t.val t.isLt).1 = k0_pay1 (F := Ideal) (iblk m c 0 t) (iblk m c 2 t) := by
    have hN := lt_of_lt_of_eq t.isLt N_0
    rcases Nat.eq_zero_or_pos t.val with h | h
    · rw [outsAt0_A m c t (by omega) (by omega)]; dsimp only; rw [out_A3]
    · rw [outsAt0_B m c t (by omega) (by omega)]; dsimp only; rw [out_B3]
  rw [e]
  obtain ⟨r, k, rfl⟩ : ∃ (r : Fin 128) (k : Fin 2048), y = ix2 r k := ⟨y 0, y 1, by funext a; match a with | ⟨0, _⟩ => rfl | ⟨1, _⟩ => rfl⟩
  refine point3 m c t r k _ ?_ ?_
  all_goals blk_simp [idx t] <;> try omega

theorem final1 (c : Dev nD) : (dats m 0 c).arrAt 4 cfg0.N = ScaleRefIdeal.Read.val_main_v11 (F := Ideal) (m ((c : Thread nD τ).loc main_arg0)) (m ((c : Thread nD τ).loc main_arg1)) := by
  refine (dats m 0 c).arrAt_eq_of_covers 4 _ (by decide +kernel) fun t hf y => ?_
  blk_simp
  have ht := (flush0_4 t).mp hf
  rw [after0_4]
  obtain ⟨r, k, rfl⟩ : ∃ (r : Fin 1) (k : Fin 2048), y = ix2 r k := ⟨y 0, y 1, by funext a; match a with | ⟨0, _⟩ => rfl | ⟨1, _⟩ => rfl⟩
  obtain rfl : r = 0 := Subsingleton.elim _ _
  refine point4 m c t ht k _ ?_
  all_goals blk_simp [idx t] <;> try omega

end Cert.ScaleIdeal.Value
end
-- ==== Proof.DownValue.lean ====
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.DownIdeal.Value

open Cert.DownIdeal Cert.DownIdeal.Gen Idealize.ShloMosaic Idealize.ShloMosaic.TcCoe Idealize.SL.Sem
open Idealize.ShloMosaic.Pipeline (Dat)

variable (c : Dev nD) (i : grid0.Coords) (arg3 : Memref sig .tc .vmem S1x704x2752 .bf16) (harg3 : arg3.IsWhole) (arg4 : Memref sig .tc .vmem S1x2752x1024 .bf16) (harg4 : arg4.IsWhole) (arg5 : Memref sig .tc .vmem S704x1024 .f32) (harg5 : arg5.IsWhole) (arg6 : Memref sig .tc .vmem S704x1024 .f32) (harg6 : arg6.IsWhole) (arg7 : Memref sig .tc .vmem S704x1024 .f32) (harg7 : arg7.IsWhole)

/-- An element of the block written back, over the sums the scratch holds and the block of the other summand. -/
def epi (acc : Vec Ideal S704x1024 .f32) (x2 : Vec Ideal S704x1024 .f32) (y : S704x1024.Idx) : EReal :=
  Ideal.ofBits .f32 0x3F9837F0#32 * x2 y + Ideal.ofBits .f32 0x3F000000#32 * acc y

theorem off1_eq : ∀ k : Fin k0_t1_loop.trips, k0_off1 k = ![64 * k.val, 0] := by decide +kernel

/-- What one trip of the last point's loop stores, over what the scratch holds. -/
theorem trip_pieces (𝒱 : Variants) (bd : Option 𝒱.V) (h3 : k0_cond3 i = 1#1)
    (X2 : BufTy.Contents (Elt Ideal) arg5.view.ty) (X : BufTy.Contents (Elt Ideal) arg7.view.ty) (acc : Vec Ideal S704x1024 .f32) (x2 : Vec Ideal S704x1024 .f32) (hX2 : arg5.view.read (Elt Ideal) X2 = x2) (hX : arg7.view.read (Elt Ideal) X = acc) (k : Fin k0_t1_loop.trips) :
    ∀ p ∈ tripL_k0_t1 (F := Ideal) 𝒱 c bd i arg3 harg3 arg4 harg4 arg5 harg5 arg6 harg6 arg7 harg7 h3 X2 X k, ∀ x : p.1.shape.Idx, p.2 x = epi acc x2 (p.1.emb x) := by
  unfold tripL_k0_t1 trip_k0_t1
  dsimp only
  intro p hp x
  obtain rfl := List.mem_singleton.mp hp
  clear hp
  dsimp only
  rw [View.readAt_eq_ld, View.readAt_eq_ld, hX, hX2]
  pointwise [k0_pay3, epi]
  refine congrArg (fun y : S704x1024.Idx => Ideal.ofBits .f32 0x3F9837F0#32 * x2 y + Ideal.ofBits .f32 0x3F000000#32 * acc y) ?_
  funext a; match a with | 0 => exact Fin.ext (congrArg (_ + ·) (one_mul _).symm) | 1 => exact Fin.ext (congrArg (_ + ·) (one_mul _).symm)

/-- What a point of case B leaves in the scratch. -/
theorem scr_B (hc0 : ¬cond0_0 i) (hc1 : cond0_1 i) (hc2 : ¬cond0_2 i) (x0 : Vec Ideal S1x704x2752 .bf16) (x1 : Vec Ideal S1x2752x1024 .bf16) (x2 : Vec Ideal S704x1024 .f32) (xs0 : Vec Ideal S704x1024 .f32) :
    sout0_B_0 c i arg3 harg3 arg4 harg4 arg5 harg5 arg6 harg6 arg7 harg7 hc0 hc1 hc2 x0 x1 x2 xs0 = k0_pay2 xs0 x0 x1 := by frame_out

/-- What a point of case C leaves in the scratch. -/
theorem scr_C (hc0 : ¬cond0_0 i) (hc1 : cond0_1 i) (hc2 : cond0_2 i) (x0 : Vec Ideal S1x704x2752 .bf16) (x1 : Vec Ideal S1x2752x1024 .bf16) (x2 : Vec Ideal S704x1024 .f32) (xs0 : Vec Ideal S704x1024 .f32) :
    sout0_C_0 c i arg3 harg3 arg4 harg4 arg5 harg5 arg6 harg6 arg7 harg7 hc0 hc1 hc2 x0 x1 x2 xs0 = k0_pay2 xs0 x0 x1 := by frame_out

/-- What the last point of a run stores, over what it leaves in the scratch. -/
theorem out_C (hc0 : ¬cond0_0 i) (hc1 : cond0_1 i) (hc2 : cond0_2 i) (x0 : Vec Ideal S1x704x2752 .bf16) (x1 : Vec Ideal S1x2752x1024 .bf16) (x2 : Vec Ideal S704x1024 .f32) (xs0 : Vec Ideal S704x1024 .f32) (y : S704x1024.Idx) :
    out0_C_3 c i arg3 harg3 arg4 harg4 arg5 harg5 arg6 harg6 arg7 harg7 hc0 hc1 hc2 x0 x1 x2 xs0 y = epi (sout0_C_0 c i arg3 harg3 arg4 harg4 arg5 harg5 arg6 harg6 arg7 harg7 hc0 hc1 hc2 x0 x1 x2 xs0) x2 y := by
  rw [scr_C]
  unfold out0_C_3
  rw [View.read_writes_junk_eq_canon]
  refine View.canon_apply_of_pieces (fun y => epi (k0_pay2 xs0 x0 x1) x2 y) _ ?_ y (cover0_C_3 c i arg3 harg3 arg4 harg4 arg5 harg5 arg6 harg6 arg7 harg7 hc0 hc1 hc2 x0 x1 x2 xs0 y)
  unfold kernelRun0_C
  dsimp only
  refine Common.forall_mem_trips (fun n => pb_k0_t1 (F := Ideal) Variants.none c none i arg3 harg3 arg4 harg4 arg5 harg5 arg6 harg6 arg7 harg7 hc2 _ _ n)
    (fun k => tripL_k0_t1 (F := Ideal) Variants.none c none i arg3 harg3 arg4 harg4 arg5 harg5 arg6 harg6 arg7 harg7 hc2 _ _ k) rfl
    (fun k => pb_k0_t1_succ (F := Ideal) Variants.none c none i arg3 harg3 arg4 harg4 arg5 harg5 arg6 harg6 arg7 harg7 hc2 _ _ k)
    (trip_pieces c i arg3 harg3 arg4 harg4 arg5 harg5 arg6 harg6 arg7 harg7 Variants.none none hc2 _ _ _ _ ?_ ?_) _ (le_of_eq rfl)
  all_goals frame_out

omit c i arg3 harg3 arg4 harg4 arg5 harg5 arg6 harg6 arg7 harg7

variable (m : (ℓ : Loc nD τ sig) → Buf (Elt Ideal) ℓ)

theorem pay1_apply (x0 : Vec Ideal S1x704x2752 .bf16) (x1 : Vec Ideal S1x2752x1024 .bf16) (j : S704x1024.Idx) :
    k0_pay1 (F := Ideal) x0 x1 j = (0 + ∑ k : Fin 2752, x0 (ix3 0 (j 0) k) * x1 (ix3 0 k (j 1)) : EReal) := by
  rw [zero_add]; pointwise [k0_pay1]

theorem pay2_apply (xs0 : Vec Ideal S704x1024 .f32) (x0 : Vec Ideal S1x704x2752 .bf16) (x1 : Vec Ideal S1x2752x1024 .bf16) (j : S704x1024.Idx) :
    k0_pay2 (F := Ideal) xs0 x0 x1 j = (xs0 j + ∑ k : Fin 2752, x0 (ix3 0 (j 0) k) * x1 (ix3 0 k (j 1)) : EReal) := by
  pointwise [k0_pay2]

theorem idx : ∀ t : Fin cfg0.N, win0_0.index t = ![t.val % 4, t.val / 16, 0] ∧ win0_1.index t = ![t.val % 4, 0, t.val / 4 % 4] ∧ win0_2.index t = ![t.val / 16, t.val / 4 % 4] ∧ win0_3.index t = ![t.val / 16, t.val / 4 % 4] :=
  (by decide +kernel : ∀ t : Fin grid0.N, _)

/-- What the scratch holds after the last point of a run: the sum over the run's points of the products of their blocks. -/
theorem scratch (c : Dev nD) (t : Fin cfg0.N) (h : t.val % 4 = 3) (j : S704x1024.Idx) :
    (outsAt0 m c t.val t.isLt).2 j = (∑ s : Fin 4, ∑ k : Fin 2752, (show Vec Ideal S1x704x2752 .bf16 from iblk m c 0 ⟨4 * (t.val / 4) + s.val, Pipeline.run_point_lt_of_flush t h s⟩) (ix3 0 (j 0) k) * (show Vec Ideal S1x2752x1024 .bf16 from iblk m c 1 ⟨4 * (t.val / 4) + s.val, Pipeline.run_point_lt_of_flush t h s⟩) (ix3 0 k (j 1)) : EReal) := by
  rw [Pipeline.eq_sum_fin_of_reset_step_apply_of_flush (fun n h => (outsAt0 m c n h).2) 4 (fun _ => 0)
    (fun p j => (∑ k : Fin 2752, (show Vec Ideal S1x704x2752 .bf16 from iblk m c 0 p) (ix3 0 (j 0) k) * (show Vec Ideal S1x2752x1024 .bf16 from iblk m c 1 p) (ix3 0 k (j 1)) : EReal))
    (fun t h j => by rw [outsAt0_A m c t h (by omega) (by omega)]; frame_out; rw [pay1_apply])
    (fun t h j => by
      rcases Nat.lt_or_ge (t.val % 4) 3 with h2 | h2
      · rw [outsAt0_B m c t h (by omega) (by omega)]; dsimp only; rw [scr_B, pay2_apply]
      · rw [outsAt0_C m c t h (by omega) (by omega)]; dsimp only; rw [scr_C, pay2_apply])
    t h j, zero_add]

/-- A column of the joined activations: a column of one block. -/
theorem joined_apply (a : (⟨S4x4224x2752, .bf16⟩ : BufTy).Contents (Elt Ideal)) (l : Fin 4224) (f : Fin 11008) (s : Fin 4) (n : Fin 2752) (hf : f.val = s.val * 2752 + n.val) :
    DownRefIdeal.Read.val_main_v4 (F := Ideal) a (ix2 l f) = a (ix3 s l n) := by
  pointwise [DownRefIdeal.Read.val_main_v4, DownRefIdeal.Read.val_main_v3, DownRefIdeal.Read.val_main_v2]
  blk_ext

/-- Element `i` of the reference's result. -/
theorem ref_apply (a : (⟨S4x4224x2752, .bf16⟩ : BufTy).Contents (Elt Ideal)) (w : (⟨S11008x4096, .bf16⟩ : BufTy).Contents (Elt Ideal)) (h : (⟨S4224x4096, .f32⟩ : BufTy).Contents (Elt Ideal)) (i : S4224x4096.Idx) :
    DownRefIdeal.Read.val_main_v9 (F := Ideal) a w h i
      = (Ideal.ofBits .f32 0x3F9837F0#32 * h (ix2 (i 0) (i 1)) + Ideal.ofBits .f32 0x3F000000#32 * ∑ f : Fin 11008, DownRefIdeal.Read.val_main_v4 (F := Ideal) a (ix2 (i 0) f) * w (ix2 f (i 1)) : EReal) := by
  unfold DownRefIdeal.Read.val_main_v9 DownRefIdeal.Read.val_main_v8 DownRefIdeal.Read.val_main_v7 DownRefIdeal.Read.val_main_v6 DownRefIdeal.Read.val_main_v5 DownRefIdeal.Read.val_main_v1 DownRefIdeal.Read.val_main_v0
  generalize DownRefIdeal.Read.val_main_v4 (F := Ideal) a = A
  pointwise
  rfl

/-- Element `i` of the weights the host splits into blocks of rows. -/
theorem split_apply (c : Dev nD) (i : S4x2752x4096.Idx) (f : Fin 11008) (hf : f.val = (i 0).val * 2752 + (i 1).val) : (show EReal from V m c main_v0 i)
    = m ((c : Thread nD τ).loc main_arg1) (ix2 f (i 2)) := by
  unfold V
  simp only [hostOps0, List.flatten_cons, List.flatten_nil, List.append_nil, List.cons_append, List.nil_append]
  after_results_simp
  pointwise
  blk_ext

theorem blk0 (c : Dev nD) (p : Fin cfg0.N) (k : Fin 2752) (j : Fin 704) (a : Fin 4) (l : Fin 4224) (ha : a.val = p.val % 4) (hl : l.val = p.val / 16 * 704 + j.val) :
    (show Vec Ideal S1x704x2752 .bf16 from iblk m c 0 p) (ix3 0 j k) = m ((c : Thread nD τ).loc main_arg0) (ix3 a l k) := by
  rw [← V_main_arg0 m c]
  show (V m c main_arg0) (((cfg0.win 0).blk p).view.emb (ix3 0 j k)) = V m c main_arg0 (ix3 a l k)
  generalize V m c main_arg0 = A
  blk_point [idx p]

theorem blk1 (c : Dev nD) (p : Fin cfg0.N) (k : Fin 2752) (j : Fin 1024) (l : Fin 4096) (f : Fin 11008) (hl : l.val = p.val / 4 % 4 * 1024 + j.val) (hf : f.val = p.val % 4 * 2752 + k.val) :
    (show Vec Ideal S1x2752x1024 .bf16 from iblk m c 1 p) (ix3 0 k j) = m ((c : Thread nD τ).loc main_arg1) (ix2 f l) := by
  refine Eq.trans (b := (show EReal from V m c main_v0 (ix3 ⟨p.val % 4, by omega⟩ k l))) ?_ (split_apply m c _ f hf)
  show (V m c main_v0) (((cfg0.win 1).blk p).view.emb (ix3 0 k j)) = V m c main_v0 (ix3 ⟨p.val % 4, by omega⟩ k l)
  generalize V m c main_v0 = A
  blk_point [idx p]

theorem blk2 (c : Dev nD) (p : Fin cfg0.N) (j : Fin 704) (k : Fin 1024) (l : Fin 4224) (b : Fin 4096) (hl : l.val = p.val / 16 * 704 + j.val) (hb : b.val = p.val / 4 % 4 * 1024 + k.val) :
    (show Vec Ideal S704x1024 .f32 from iblk m c 2 p) (ix2 j k) = m ((c : Thread nD τ).loc main_arg2) (ix2 l b) := by
  rw [← V_main_arg2 m c]
  show (V m c main_arg2) (((cfg0.win 2).blk p).view.emb (ix2 j k)) = V m c main_arg2 (ix2 l b)
  generalize V m c main_arg2 = A
  blk_point [idx p]

theorem point (c : Dev nD) (t : Fin cfg0.N) (ht : t.val % 4 = 3) (j : Fin 704) (l : Fin 1024) (i : S4224x4096.Idx)
    (h0 : (i 0).val = t.val / 16 * 704 + j.val) (h1 : (i 1).val = t.val / 4 % 4 * 1024 + l.val) :
    (epi (outsAt0 m c t.val t.isLt).2 (iblk m c 2 t) (ix2 j l) : EReal) = DownRefIdeal.Read.val_main_v9 (F := Ideal) (m ((c : Thread nD τ).loc main_arg0)) (m ((c : Thread nD τ).loc main_arg1)) (m ((c : Thread nD τ).loc main_arg2)) i := by
  have hN := lt_of_lt_of_eq t.isLt N_0
  rw [ref_apply]
  refine congrArg₂ (fun a b : EReal => Ideal.ofBits .f32 0x3F9837F0#32 * a + Ideal.ofBits .f32 0x3F000000#32 * b) (blk2 m c t j l (i 0) (i 1) h0 h1) ?_
  refine (scratch m c t ht _).trans ?_
  refine Fin.sum_mul_add_congr fun s k hl => ?_
  have hs := s.isLt
  exact congrArg₂ (fun a b : EReal => a * b)
    ((blk0 m c _ k j s (i 0) (by dsimp only; omega) (by dsimp only; omega)).trans (joined_apply _ (i 0) ⟨s.val * 2752 + k.val, hl⟩ s k rfl).symm)
    (blk1 m c _ k l (i 1) ⟨s.val * 2752 + k.val, hl⟩ (by dsimp only; omega) (by dsimp only; omega))

theorem final (c : Dev nD) : (dats m 0 c).arrAt 3 cfg0.N = DownRefIdeal.Read.val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := (flush0_3 t).mp hf
  rw [after0_3]
  have e : (outsAt0 m c t.val t.isLt).1 y = epi (outsAt0 m c t.val t.isLt).2 (iblk m c 2 t) (ix2 (y 0) (y 1)) := by
    rw [outsAt0_C m c t (by omega) (by omega) ht]
    dsimp only
    rw [out_C]
    exact congrArg (epi _ _) (by funext a; match a with | 0 => rfl | 1 => rfl)
  rw [e]
  refine point m c t ht _ _ _ ?_ ?_
  all_goals blk_simp [idx t] <;> try omega

end Cert.DownIdeal.Value
end
-- ==== Proof.ProjInValue.lean ====
module

public import proofs.«01_k».proof.Proof.Gen.ProjInIdeal.Value
public import proofs.«01_k».proof.Proof.Gen.ProjInRefIdeal.Run
public import proofs.«01_k».proof.Proof.Gen.ProjInRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.ProjInIdeal.Value

open Cert.ProjInIdeal Cert.ProjInIdeal.Gen Idealize.ShloMosaic Idealize.ShloMosaic.TcCoe Idealize.SL.Sem
open Idealize.ShloMosaic.Pipeline (Dat)

variable (c : Dev nD) (i : grid0.Coords) (arg3 : Memref sig .tc .vmem S1408x2048 .bf16) (harg3 : arg3.IsWhole) (arg4 : Memref sig .tc .vmem S1x2048x1024 .bf16) (harg4 : arg4.IsWhole) (arg5 : Memref sig .tc .vmem S1408x1024 .f32) (harg5 : arg5.IsWhole) (arg6 : Memref sig .tc .vmem S1408x1024 .f32) (harg6 : arg6.IsWhole)

/-- An element of the block written back, over the sums the scratch holds. -/
def epi (acc : Vec Ideal S1408x1024 .f32)  (y : S1408x1024.Idx) : EReal :=
  acc y

theorem off1_eq : ∀ k : Fin k0_t1_loop.trips, k0_off1 k = ![64 * k.val, 0] := by decide +kernel

/-- What one trip of the last point's loop stores, over what the scratch holds. -/
theorem trip_pieces (𝒱 : Variants) (bd : Option 𝒱.V) (h3 : k0_cond3 i = 1#1)
     (X : BufTy.Contents (Elt Ideal) arg6.view.ty) (acc : Vec Ideal S1408x1024 .f32)   (hX : arg6.view.read (Elt Ideal) X = acc) (k : Fin k0_t1_loop.trips) :
    ∀ p ∈ tripL_k0_t1 (F := Ideal) 𝒱 c bd i arg3 harg3 arg4 harg4 arg5 harg5 arg6 harg6 h3 X k, ∀ x : p.1.shape.Idx, p.2 x = epi acc  (p.1.emb x) := by
  unfold tripL_k0_t1 trip_k0_t1
  dsimp only
  intro p hp x
  obtain rfl := List.mem_singleton.mp hp
  clear hp
  dsimp only
  rw [View.readAt_eq_ld, hX]
  pointwise [epi]
  refine congrArg (fun y : S1408x1024.Idx => acc y) ?_
  funext a; match a with | 0 => exact Fin.ext (congrArg (_ + ·) (one_mul _).symm) | 1 => exact Fin.ext (congrArg (_ + ·) (one_mul _).symm)

/-- What a point of case B leaves in the scratch. -/
theorem scr_B (hc0 : ¬cond0_0 i) (hc1 : cond0_1 i) (hc2 : cond0_2 i) (x0 : Vec Ideal S1408x2048 .bf16) (x1 : Vec Ideal S1x2048x1024 .bf16) (xs0 : Vec Ideal S1408x1024 .f32) :
    sout0_B_0 c i arg3 harg3 arg4 harg4 arg5 harg5 arg6 harg6 hc0 hc1 hc2 x0 x1 xs0 = k0_pay2 xs0 x0 x1 := by frame_out

/-- What the last point of a run stores, over what it leaves in the scratch. -/
theorem out_B (hc0 : ¬cond0_0 i) (hc1 : cond0_1 i) (hc2 : cond0_2 i) (x0 : Vec Ideal S1408x2048 .bf16) (x1 : Vec Ideal S1x2048x1024 .bf16) (xs0 : Vec Ideal S1408x1024 .f32) (y : S1408x1024.Idx) :
    out0_B_2 c i arg3 harg3 arg4 harg4 arg5 harg5 arg6 harg6 hc0 hc1 hc2 x0 x1 xs0 y = epi (sout0_B_0 c i arg3 harg3 arg4 harg4 arg5 harg5 arg6 harg6 hc0 hc1 hc2 x0 x1 xs0)  y := by
  rw [scr_B]
  unfold out0_B_2
  rw [View.read_writes_junk_eq_canon]
  refine View.canon_apply_of_pieces (fun y => epi (k0_pay2 xs0 x0 x1)  y) _ ?_ y (cover0_B_2 c i arg3 harg3 arg4 harg4 arg5 harg5 arg6 harg6 hc0 hc1 hc2 x0 x1 xs0 y)
  unfold kernelRun0_B
  dsimp only
  refine Common.forall_mem_trips (fun n => pb_k0_t1 (F := Ideal) Variants.none c none i arg3 harg3 arg4 harg4 arg5 harg5 arg6 harg6 hc2 _ n)
    (fun k => tripL_k0_t1 (F := Ideal) Variants.none c none i arg3 harg3 arg4 harg4 arg5 harg5 arg6 harg6 hc2 _ k) rfl
    (fun k => pb_k0_t1_succ (F := Ideal) Variants.none c none i arg3 harg3 arg4 harg4 arg5 harg5 arg6 harg6 hc2 _ k)
    (trip_pieces c i arg3 harg3 arg4 harg4 arg5 harg5 arg6 harg6 Variants.none none hc2 _ _ ?_) _ (le_of_eq rfl)
  all_goals frame_out

omit c i arg3 harg3 arg4 harg4 arg5 harg5 arg6 harg6

variable (m : (ℓ : Loc nD τ sig) → Buf (Elt Ideal) ℓ)

theorem pay1_apply (x0 : Vec Ideal S1408x2048 .bf16) (x1 : Vec Ideal S1x2048x1024 .bf16) (j : S1408x1024.Idx) :
    k0_pay1 (F := Ideal) x0 x1 j = (0 + ∑ k : Fin 2048, x0 (ix2 (j 0) k) * x1 (ix3 0 k (j 1)) : EReal) := by
  rw [zero_add]; pointwise [k0_pay1]

theorem pay2_apply (xs0 : Vec Ideal S1408x1024 .f32) (x0 : Vec Ideal S1408x2048 .bf16) (x1 : Vec Ideal S1x2048x1024 .bf16) (j : S1408x1024.Idx) :
    k0_pay2 (F := Ideal) xs0 x0 x1 j = (xs0 j + ∑ k : Fin 2048, x0 (ix2 (j 0) k) * x1 (ix3 0 k (j 1)) : EReal) := by
  pointwise [k0_pay2]

theorem idx : ∀ t : Fin cfg0.N, win0_0.index t = ![t.val / 16, t.val % 2] ∧ win0_1.index t = ![t.val / 2 % 8, t.val % 2, 0] ∧ win0_2.index t = ![t.val / 16, t.val / 2 % 8] :=
  (by decide +kernel : ∀ t : Fin grid0.N, _)

/-- What the scratch holds after the last point of a run: the sum over the run's points of the products of their blocks. -/
theorem scratch (c : Dev nD) (t : Fin cfg0.N) (h : t.val % 2 = 1) (j : S1408x1024.Idx) :
    (outsAt0 m c t.val t.isLt).2 j = (∑ s : Fin 2, ∑ k : Fin 2048, (show Vec Ideal S1408x2048 .bf16 from iblk m c 0 ⟨2 * (t.val / 2) + s.val, Pipeline.run_point_lt_of_flush t h s⟩) (ix2 (j 0) k) * (show Vec Ideal S1x2048x1024 .bf16 from iblk m c 1 ⟨2 * (t.val / 2) + s.val, Pipeline.run_point_lt_of_flush t h s⟩) (ix3 0 k (j 1)) : EReal) := by
  rw [Pipeline.eq_sum_fin_of_reset_step_apply_of_flush (fun n h => (outsAt0 m c n h).2) 2 (fun _ => 0)
    (fun p j => (∑ k : Fin 2048, (show Vec Ideal S1408x2048 .bf16 from iblk m c 0 p) (ix2 (j 0) k) * (show Vec Ideal S1x2048x1024 .bf16 from iblk m c 1 p) (ix3 0 k (j 1)) : EReal))
    (fun t h j => by rw [outsAt0_A m c t h (by omega) (by omega)]; frame_out; rw [pay1_apply])
    (fun t h j => by
      rw [outsAt0_B m c t h (by omega) (by omega)]; dsimp only; rw [scr_B, pay2_apply])
    t h j, zero_add]

/-- Element `i` of the reference's result. -/
theorem ref_apply (h : (⟨S4224x4096, .bf16⟩ : BufTy).Contents (Elt Ideal)) (w : (⟨S4096x8192, .bf16⟩ : BufTy).Contents (Elt Ideal)) (i : S4224x8192.Idx) :
    ProjInRefIdeal.Read.val_main_v4 (F := Ideal) h w i = (∑ f : Fin 4096, h (ix2 (i 0) f) * w (ix2 f (i 1)) : EReal) := by
  unfold ProjInRefIdeal.Read.val_main_v4 ProjInRefIdeal.Read.val_main_v1 ProjInRefIdeal.Read.val_main_v0
  pointwise

/-- Element `i` of the weights the host splits into blocks of columns. -/
theorem split_apply (c : Dev nD) (i : S8x4096x1024.Idx) (f : Fin 8192) (hf : f.val = (i 0).val * 1024 + (i 2).val) : (show EReal from V m c main_v1 i)
    = m ((c : Thread nD τ).loc main_arg1) (ix2 (i 1) f) := by
  unfold V
  simp only [hostOps0, List.flatten_cons, List.flatten_nil, List.append_nil, List.cons_append, List.nil_append]
  after_results_simp
  pointwise
  blk_ext

theorem blk0 (c : Dev nD) (p : Fin cfg0.N) (k : Fin 2048) (j : Fin 1408) (l : Fin 4224) (f : Fin 4096) (hl : l.val = p.val / 16 * 1408 + j.val) (hf : f.val = p.val % 2 * 2048 + k.val) :
    (show Vec Ideal S1408x2048 .bf16 from iblk m c 0 p) (ix2 j k) = m ((c : Thread nD τ).loc main_arg0) (ix2 l f) := by
  rw [← V_main_arg0 m c]
  show (V m c main_arg0) (((cfg0.win 0).blk p).view.emb (ix2 j k)) = V m c main_arg0 (ix2 l f)
  generalize V m c main_arg0 = A
  blk_point [idx p]

theorem blk1 (c : Dev nD) (p : Fin cfg0.N) (k : Fin 2048) (j : Fin 1024) (l : Fin 4096) (f : Fin 8192) (hl : l.val = p.val % 2 * 2048 + k.val) (hf : f.val = p.val / 2 % 8 * 1024 + j.val) :
    (show Vec Ideal S1x2048x1024 .bf16 from iblk m c 1 p) (ix3 0 k j) = m ((c : Thread nD τ).loc main_arg1) (ix2 l f) := by
  refine Eq.trans (b := (show EReal from V m c main_v1 (ix3 ⟨p.val / 2 % 8, by omega⟩ l j))) ?_ (split_apply m c _ f hf)
  show (V m c main_v1) (((cfg0.win 1).blk p).view.emb (ix3 0 k j)) = V m c main_v1 (ix3 ⟨p.val / 2 % 8, by omega⟩ l j)
  generalize V m c main_v1 = A
  blk_point [idx p]

theorem point (c : Dev nD) (t : Fin cfg0.N) (ht : t.val % 2 = 1) (j : Fin 1408) (l : Fin 1024) (i : S4224x8192.Idx)
    (h0 : (i 0).val = t.val / 16 * 1408 + j.val) (h1 : (i 1).val = t.val / 2 % 8 * 1024 + l.val) :
    (epi (outsAt0 m c t.val t.isLt).2 (ix2 j l) : EReal) = ProjInRefIdeal.Read.val_main_v4 (F := Ideal) (m ((c : Thread nD τ).loc main_arg0)) (m ((c : Thread nD τ).loc main_arg1)) i := by
  have hN := lt_of_lt_of_eq t.isLt N_0
  rw [ref_apply]
  refine (scratch m c t ht _).trans ?_
  refine Fin.sum_mul_add_congr fun s k hl => ?_
  have hs := s.isLt
  exact congrArg₂ (fun a b : EReal => a * b)
    (blk0 m c _ k j (i 0) ⟨s.val * 2048 + k.val, hl⟩ (by dsimp only; omega) (by dsimp only; omega))
    (blk1 m c _ k l ⟨s.val * 2048 + k.val, hl⟩ (i 1) (by dsimp only; omega) (by dsimp only; omega))

theorem final (c : Dev nD) : (dats m 0 c).arrAt 2 cfg0.N = ProjInRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  have e : (outsAt0 m c t.val t.isLt).1 y = epi (outsAt0 m c t.val t.isLt).2 (ix2 (y 0) (y 1)) := by
    rw [outsAt0_B m c t (by omega) (by omega) (by omega)]
    dsimp only
    rw [out_B]
    exact congrArg (epi _) (by funext a; match a with | 0 => rfl | 1 => rfl)
  rw [e]
  refine point m c t ht _ _ _ ?_ ?_
  all_goals blk_simp [idx t] <;> try omega

end Cert.ProjInIdeal.Value
end
-- ==== Proof.ProjOutValue.lean ====
module

public import proofs.«01_k».proof.Proof.Gen.ProjOutIdeal.Value
public import proofs.«01_k».proof.Proof.Gen.ProjOutRefIdeal.Run
public import proofs.«01_k».proof.Proof.Gen.ProjOutRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.ProjOutIdeal.Value

open Cert.ProjOutIdeal Cert.ProjOutIdeal.Gen Idealize.ShloMosaic Idealize.ShloMosaic.TcCoe Idealize.SL.Sem
open Idealize.ShloMosaic.Pipeline (Dat)

variable (c : Dev nD) (i : grid0.Coords) (arg3 : Memref sig .tc .vmem S1408x2048 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .f32) (harg7 : arg7.IsWhole)

/-- An element of the block written back, over the sums the scratch holds and the block of the other summand. -/
def epi (acc : Vec Ideal S1408x1024 .f32) (x2 : Vec Ideal S1408x1024 .f32) (y : S1408x1024.Idx) : EReal :=
  Ideal.ofBits .f32 0x3F9837F0#32 * x2 y + acc y

theorem off1_eq : ∀ k : Fin k0_t1_loop.trips, k0_off1 k = ![64 * k.val, 0] := by decide +kernel

/-- What one trip of the last point's loop stores, over what the scratch holds. -/
theorem trip_pieces (𝒱 : Variants) (bd : Option 𝒱.V) (h3 : k0_cond3 i = 1#1)
    (X2 : BufTy.Contents (Elt Ideal) arg5.view.ty) (X : BufTy.Contents (Elt Ideal) arg7.view.ty) (acc : Vec Ideal S1408x1024 .f32) (x2 : Vec Ideal S1408x1024 .f32) (hX2 : arg5.view.read (Elt Ideal) X2 = x2) (hX : arg7.view.read (Elt Ideal) X = acc) (k : Fin k0_t1_loop.trips) :
    ∀ p ∈ tripL_k0_t1 (F := Ideal) 𝒱 c bd i arg3 harg3 arg4 harg4 arg5 harg5 arg6 harg6 arg7 harg7 h3 X2 X k, ∀ x : p.1.shape.Idx, p.2 x = epi acc x2 (p.1.emb x) := by
  unfold tripL_k0_t1 trip_k0_t1
  dsimp only
  intro p hp x
  obtain rfl := List.mem_singleton.mp hp
  clear hp
  dsimp only
  rw [View.readAt_eq_ld, View.readAt_eq_ld, hX, hX2]
  pointwise [k0_pay3, epi]
  refine congrArg (fun y : S1408x1024.Idx => Ideal.ofBits .f32 0x3F9837F0#32 * x2 y + acc y) ?_
  funext a; match a with | 0 => exact Fin.ext (congrArg (_ + ·) (one_mul _).symm) | 1 => exact Fin.ext (congrArg (_ + ·) (one_mul _).symm)

/-- What a point of case B leaves in the scratch. -/
theorem scr_B (hc0 : ¬cond0_0 i) (hc1 : cond0_1 i) (hc2 : cond0_2 i) (x0 : Vec Ideal S1408x2048 .bf16) (x1 : Vec Ideal S2048x1024 .bf16) (x2 : Vec Ideal S1408x1024 .f32) (xs0 : Vec Ideal S1408x1024 .f32) :
    sout0_B_0 c i arg3 harg3 arg4 harg4 arg5 harg5 arg6 harg6 arg7 harg7 hc0 hc1 hc2 x0 x1 x2 xs0 = k0_pay2 xs0 x0 x1 := by frame_out

/-- What the last point of a run stores, over what it leaves in the scratch. -/
theorem out_B (hc0 : ¬cond0_0 i) (hc1 : cond0_1 i) (hc2 : cond0_2 i) (x0 : Vec Ideal S1408x2048 .bf16) (x1 : Vec Ideal S2048x1024 .bf16) (x2 : Vec Ideal S1408x1024 .f32) (xs0 : Vec Ideal S1408x1024 .f32) (y : S1408x1024.Idx) :
    out0_B_3 c i arg3 harg3 arg4 harg4 arg5 harg5 arg6 harg6 arg7 harg7 hc0 hc1 hc2 x0 x1 x2 xs0 y = epi (sout0_B_0 c i arg3 harg3 arg4 harg4 arg5 harg5 arg6 harg6 arg7 harg7 hc0 hc1 hc2 x0 x1 x2 xs0) x2 y := by
  rw [scr_B]
  unfold out0_B_3
  rw [View.read_writes_junk_eq_canon]
  refine View.canon_apply_of_pieces (fun y => epi (k0_pay2 xs0 x0 x1) x2 y) _ ?_ y (cover0_B_3 c i arg3 harg3 arg4 harg4 arg5 harg5 arg6 harg6 arg7 harg7 hc0 hc1 hc2 x0 x1 x2 xs0 y)
  unfold kernelRun0_B
  dsimp only
  refine Common.forall_mem_trips (fun n => pb_k0_t1 (F := Ideal) Variants.none c none i arg3 harg3 arg4 harg4 arg5 harg5 arg6 harg6 arg7 harg7 hc2 _ _ n)
    (fun k => tripL_k0_t1 (F := Ideal) Variants.none c none i arg3 harg3 arg4 harg4 arg5 harg5 arg6 harg6 arg7 harg7 hc2 _ _ k) rfl
    (fun k => pb_k0_t1_succ (F := Ideal) Variants.none c none i arg3 harg3 arg4 harg4 arg5 harg5 arg6 harg6 arg7 harg7 hc2 _ _ k)
    (trip_pieces c i arg3 harg3 arg4 harg4 arg5 harg5 arg6 harg6 arg7 harg7 Variants.none none hc2 _ _ _ _ ?_ ?_) _ (le_of_eq rfl)
  all_goals frame_out

omit c i arg3 harg3 arg4 harg4 arg5 harg5 arg6 harg6 arg7 harg7

variable (m : (ℓ : Loc nD τ sig) → Buf (Elt Ideal) ℓ)

theorem pay1_apply (x0 : Vec Ideal S1408x2048 .bf16) (x1 : Vec Ideal S2048x1024 .bf16) (j : S1408x1024.Idx) :
    k0_pay1 (F := Ideal) x0 x1 j = (0 + ∑ k : Fin 2048, x0 (ix2 (j 0) k) * x1 (ix2 k (j 1)) : EReal) := by
  rw [zero_add]; pointwise [k0_pay1]

theorem pay2_apply (xs0 : Vec Ideal S1408x1024 .f32) (x0 : Vec Ideal S1408x2048 .bf16) (x1 : Vec Ideal S2048x1024 .bf16) (j : S1408x1024.Idx) :
    k0_pay2 (F := Ideal) xs0 x0 x1 j = (xs0 j + ∑ k : Fin 2048, x0 (ix2 (j 0) k) * x1 (ix2 k (j 1)) : EReal) := by
  pointwise [k0_pay2]

theorem idx : ∀ t : Fin cfg0.N, win0_0.index t = ![t.val / 8, t.val % 2] ∧ win0_1.index t = ![t.val % 2, t.val / 2 % 4] ∧ win0_2.index t = ![t.val / 8, t.val / 2 % 4] ∧ win0_3.index t = ![t.val / 8, t.val / 2 % 4] :=
  (by decide +kernel : ∀ t : Fin grid0.N, _)

/-- What the scratch holds after the last point of a run: the sum over the run's points of the products of their blocks. -/
theorem scratch (c : Dev nD) (t : Fin cfg0.N) (h : t.val % 2 = 1) (j : S1408x1024.Idx) :
    (outsAt0 m c t.val t.isLt).2 j = (∑ s : Fin 2, ∑ k : Fin 2048, (show Vec Ideal S1408x2048 .bf16 from iblk m c 0 ⟨2 * (t.val / 2) + s.val, Pipeline.run_point_lt_of_flush t h s⟩) (ix2 (j 0) k) * (show Vec Ideal S2048x1024 .bf16 from iblk m c 1 ⟨2 * (t.val / 2) + s.val, Pipeline.run_point_lt_of_flush t h s⟩) (ix2 k (j 1)) : EReal) := by
  rw [Pipeline.eq_sum_fin_of_reset_step_apply_of_flush (fun n h => (outsAt0 m c n h).2) 2 (fun _ => 0)
    (fun p j => (∑ k : Fin 2048, (show Vec Ideal S1408x2048 .bf16 from iblk m c 0 p) (ix2 (j 0) k) * (show Vec Ideal S2048x1024 .bf16 from iblk m c 1 p) (ix2 k (j 1)) : EReal))
    (fun t h j => by rw [outsAt0_A m c t h (by omega) (by omega)]; frame_out; rw [pay1_apply])
    (fun t h j => by
      rw [outsAt0_B m c t h (by omega) (by omega)]; dsimp only; rw [scr_B, pay2_apply])
    t h j, zero_add]

/-- Element `i` of the reference's result. -/
theorem ref_apply (y : (⟨S4224x4096, .bf16⟩ : BufTy).Contents (Elt Ideal)) (w : (⟨S4096x4096, .bf16⟩ : BufTy).Contents (Elt Ideal)) (h : (⟨S4224x4096, .f32⟩ : BufTy).Contents (Elt Ideal)) (i : S4224x4096.Idx) :
    ProjOutRefIdeal.Read.val_main_v5 (F := Ideal) y w h i
      = (Ideal.ofBits .f32 0x3F9837F0#32 * h (ix2 (i 0) (i 1)) + ∑ f : Fin 4096, y (ix2 (i 0) f) * w (ix2 f (i 1)) : EReal) := by
  unfold ProjOutRefIdeal.Read.val_main_v5 ProjOutRefIdeal.Read.val_main_v4 ProjOutRefIdeal.Read.val_main_v3 ProjOutRefIdeal.Read.val_main_v2 ProjOutRefIdeal.Read.val_main_v1 ProjOutRefIdeal.Read.val_main_v0
  pointwise
  rfl

/-- Element `i` of the weights that the host splits into blocks of rows and joins again. -/
theorem split_apply (c : Dev nD) (i : S4096x4096.Idx) : (show EReal from V m c main_v1 i)
    = m ((c : Thread nD τ).loc main_arg1) (ix2 (i 0) (i 1)) := by
  unfold V
  simp only [hostOps0, List.flatten_cons, List.flatten_nil, List.append_nil, List.cons_append, List.nil_append]
  after_results_simp
  pointwise
  blk_ext

theorem blk0 (c : Dev nD) (p : Fin cfg0.N) (k : Fin 2048) (j : Fin 1408) (l : Fin 4224) (f : Fin 4096) (hl : l.val = p.val / 8 * 1408 + j.val) (hf : f.val = p.val % 2 * 2048 + k.val) :
    (show Vec Ideal S1408x2048 .bf16 from iblk m c 0 p) (ix2 j k) = m ((c : Thread nD τ).loc main_arg0) (ix2 l f) := by
  rw [← V_main_arg0 m c]
  show (V m c main_arg0) (((cfg0.win 0).blk p).view.emb (ix2 j k)) = V m c main_arg0 (ix2 l f)
  generalize V m c main_arg0 = A
  blk_point [idx p]

theorem blk1 (c : Dev nD) (p : Fin cfg0.N) (k : Fin 2048) (j : Fin 1024) (l : Fin 4096) (f : Fin 4096) (hl : l.val = p.val % 2 * 2048 + k.val) (hf : f.val = p.val / 2 % 4 * 1024 + j.val) :
    (show Vec Ideal S2048x1024 .bf16 from iblk m c 1 p) (ix2 k j) = m ((c : Thread nD τ).loc main_arg1) (ix2 l f) := by
  refine Eq.trans (b := (show EReal from V m c main_v1 (ix2 l f))) ?_ (split_apply m c _)
  show (V m c main_v1) (((cfg0.win 1).blk p).view.emb (ix2 k j)) = V m c main_v1 (ix2 l f)
  generalize V m c main_v1 = A
  blk_point [idx p]

theorem blk2 (c : Dev nD) (p : Fin cfg0.N) (j : Fin 1408) (k : Fin 1024) (l : Fin 4224) (b : Fin 4096) (hl : l.val = p.val / 8 * 1408 + j.val) (hb : b.val = p.val / 2 % 4 * 1024 + k.val) :
    (show Vec Ideal S1408x1024 .f32 from iblk m c 2 p) (ix2 j k) = m ((c : Thread nD τ).loc main_arg2) (ix2 l b) := by
  rw [← V_main_arg2 m c]
  show (V m c main_arg2) (((cfg0.win 2).blk p).view.emb (ix2 j k)) = V m c main_arg2 (ix2 l b)
  generalize V m c main_arg2 = A
  blk_point [idx p]

theorem point (c : Dev nD) (t : Fin cfg0.N) (ht : t.val % 2 = 1) (j : Fin 1408) (l : Fin 1024) (i : S4224x4096.Idx)
    (h0 : (i 0).val = t.val / 8 * 1408 + j.val) (h1 : (i 1).val = t.val / 2 % 4 * 1024 + l.val) :
    (epi (outsAt0 m c t.val t.isLt).2 (iblk m c 2 t) (ix2 j l) : EReal) = ProjOutRefIdeal.Read.val_main_v5 (F := Ideal) (m ((c : Thread nD τ).loc main_arg0)) (m ((c : Thread nD τ).loc main_arg1)) (m ((c : Thread nD τ).loc main_arg2)) i := by
  have hN := lt_of_lt_of_eq t.isLt N_0
  rw [ref_apply]
  refine congrArg₂ (fun a b : EReal => Ideal.ofBits .f32 0x3F9837F0#32 * a + b) (blk2 m c t j l (i 0) (i 1) h0 h1) ?_
  refine (scratch m c t ht _).trans ?_
  refine Fin.sum_mul_add_congr fun s k hl => ?_
  have hs := s.isLt
  exact congrArg₂ (fun a b : EReal => a * b)
    (blk0 m c _ k j (i 0) ⟨s.val * 2048 + k.val, hl⟩ (by dsimp only; omega) (by dsimp only; omega))
    (blk1 m c _ k l ⟨s.val * 2048 + k.val, hl⟩ (i 1) (by dsimp only; omega) (by dsimp only; omega))

theorem final (c : Dev nD) : (dats m 0 c).arrAt 3 cfg0.N = ProjOutRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := (flush0_3 t).mp hf
  rw [after0_3]
  have e : (outsAt0 m c t.val t.isLt).1 y = epi (outsAt0 m c t.val t.isLt).2 (iblk m c 2 t) (ix2 (y 0) (y 1)) := by
    rw [outsAt0_B m c t (by omega) (by omega) (by omega)]
    dsimp only
    rw [out_B]
    exact congrArg (epi _ _) (by funext a; match a with | 0 => rfl | 1 => rfl)
  rw [e]
  refine point m c t ht _ _ _ ?_ ?_
  all_goals blk_simp [idx t] <;> try omega

end Cert.ProjOutIdeal.Value
end
-- ==== Proof.PoolMixValue.lean ====
module

public import proofs.«01_k».proof.Proof.Gen.PoolMixIdeal.Value
public import proofs.«01_k».proof.Proof.Gen.PoolMixRefIdeal.Run
public import proofs.«01_k».proof.Proof.Gen.PoolMixRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.PoolMixIdeal.Value

open Cert.PoolMixIdeal Cert.PoolMixIdeal.Gen Idealize.ShloMosaic Idealize.ShloMosaic.TcCoe Idealize.SL.Sem
open Idealize.ShloMosaic.Pipeline (Dat)

theorem out3 (x0 : Vec Ideal S1408x512 .bf16) (x1 : Vec Ideal S1x512x512 .bf16) (x2 : Vec Ideal S1x512 .f32) : out0_3 x0 x1 x2 = k0_pay1 x0 x1 := by frame_out

theorem out4 (x0 : Vec Ideal S1408x512 .bf16) (x1 : Vec Ideal S1x512x512 .bf16) (x2 : Vec Ideal S1x512 .f32) : out0_4 x0 x1 x2 = k0_pay2 x0 x1 x2 := by frame_out

variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![0, t.val % 4] ∧ win0_3.index t = ![t.val / 4, t.val % 4] ∧ win0_4.index t = ![t.val / 4, t.val % 4] :=
  (by decide +kernel : ∀ t : Fin grid0.N, _)

theorem pay1_apply (x0 : Vec Ideal S1408x512 .bf16) (x1 : Vec Ideal S1x512x512 .bf16) (j : S1408x512.Idx) :
    k0_pay1 (F := Ideal) x0 x1 j = (∑ k : Fin 512, x0 (ix2 (j 0) k) * x1 (ix3 0 k (j 1)) : EReal) := by
  pointwise [k0_pay1]

theorem pay2_apply (x0 : Vec Ideal S1408x512 .bf16) (x1 : Vec Ideal S1x512x512 .bf16) (x2 : Vec Ideal S1x512 .f32) (j : S1408x512.Idx) :
    k0_pay2 (F := Ideal) x0 x1 x2 j = (k0_pay1 (F := Ideal) x0 x1 j * x2 (ix2 0 (j 1)) : EReal) := by
  unfold k0_pay2
  generalize k0_pay1 (F := Ideal) x0 x1 = A
  pointwise

/-- Element `i` of the reference's first result, a column of group `g`. -/
theorem ref_apply (d : (⟨S4224x2048, .bf16⟩ : BufTy).Contents (Elt Ideal)) (w : (⟨S4x512x512, .bf16⟩ : BufTy).Contents (Elt Ideal)) (i : S4224x2048.Idx) (g : Fin 4) (j : Fin 512) (h : (i 1).val = g.val * 512 + j.val) :
    PoolMixRefIdeal.Read.val_main_v5 (F := Ideal) d w i = (∑ k : Fin 512, d (ix2 (i 0) ⟨g.val * 512 + k.val, by omega⟩) * w (ix3 g k j) : EReal) := by
  unfold PoolMixRefIdeal.Read.val_main_v5 PoolMixRefIdeal.Read.val_main_v4 PoolMixRefIdeal.Read.val_main_v3 PoolMixRefIdeal.Read.val_main_v2 PoolMixRefIdeal.Read.val_main_v1 PoolMixRefIdeal.Read.val_main_v0
  pointwise
  refine Fin.sum_fin_congr fun k => ?_
  rw [mul_comm]
  refine congrArg₂ (fun a b : EReal => a * b) ?_ ?_ <;> blk_ext

/-- Element `i` of the reference's second result, over its first. -/
theorem ref_apply2 (d : (⟨S4224x2048, .bf16⟩ : BufTy).Contents (Elt Ideal)) (w : (⟨S4x512x512, .bf16⟩ : BufTy).Contents (Elt Ideal)) (s : (⟨S1x2048, .f32⟩ : BufTy).Contents (Elt Ideal)) (i : S4224x2048.Idx) :
    PoolMixRefIdeal.Read.val_main_v10 (F := Ideal) d w s i = (PoolMixRefIdeal.Read.val_main_v5 (F := Ideal) d w i * s (ix2 0 (i 1)) : EReal) := by
  unfold PoolMixRefIdeal.Read.val_main_v10 PoolMixRefIdeal.Read.val_main_v9 PoolMixRefIdeal.Read.val_main_v8 PoolMixRefIdeal.Read.val_main_v7 PoolMixRefIdeal.Read.val_main_v6
  generalize PoolMixRefIdeal.Read.val_main_v5 (F := Ideal) d w = A
  pointwise

theorem blk0 (c : Dev nD) (p : Fin cfg0.N) (k : Fin 512) (j : Fin 1408) (l : Fin 4224) (b : Fin 2048) (hl : l.val = p.val / 4 * 1408 + j.val) (hb : b.val = p.val % 4 * 512 + k.val) :
    (show Vec Ideal S1408x512 .bf16 from iblk m c 0 p) (ix2 j k) = m ((c : Thread nD τ).loc main_arg0) (ix2 l b) := by
  rw [← V_main_arg0 m c]
  show (V m c main_arg0) (((cfg0.win 0).blk p).view.emb (ix2 j k)) = V m c main_arg0 (ix2 l b)
  generalize V m c main_arg0 = A
  blk_point [idx p]

theorem blk1 (c : Dev nD) (p : Fin cfg0.N) (k : Fin 512) (j : Fin 512) (g : Fin 4) (hg : g.val = p.val % 4) :
    (show Vec Ideal S1x512x512 .bf16 from iblk m c 1 p) (ix3 0 j k) = m ((c : Thread nD τ).loc main_arg1) (ix3 g j k) := by
  rw [← V_main_arg1 m c]
  show (V m c main_arg1) (((cfg0.win 1).blk p).view.emb (ix3 0 j k)) = V m c main_arg1 (ix3 g j k)
  generalize V m c main_arg1 = A
  blk_point [idx p]

theorem blk2 (c : Dev nD) (p : Fin cfg0.N) (k : Fin 512) (b : Fin 2048) (hb : b.val = p.val % 4 * 512 + k.val) :
    (show Vec Ideal S1x512 .f32 from iblk m c 2 p) (ix2 0 k) = m ((c : Thread nD τ).loc main_arg2) (ix2 0 b) := by
  rw [← V_main_arg2 m c]
  show (V m c main_arg2) (((cfg0.win 2).blk p).view.emb (ix2 0 k)) = V m c main_arg2 (ix2 0 b)
  generalize V m c main_arg2 = A
  blk_point [idx p]

theorem point (c : Dev nD) (t : Fin cfg0.N) (j : Fin 1408) (l : Fin 512) (i : S4224x2048.Idx)
    (h0 : (i 0).val = t.val / 4 * 1408 + j.val) (h1 : (i 1).val = t.val % 4 * 512 + l.val) :
    (k0_pay1 (F := Ideal) (iblk m c 0 t) (iblk m c 1 t) (ix2 j l) : EReal) = PoolMixRefIdeal.Read.val_main_v5 (F := Ideal) (m ((c : Thread nD τ).loc main_arg0)) (m ((c : Thread nD τ).loc main_arg1)) i := by
  rw [ref_apply _ _ i ⟨t.val % 4, by omega⟩ l h1]
  refine (pay1_apply _ _ _).trans (Fin.sum_fin_congr fun k => ?_)
  exact congrArg₂ (fun a b : EReal => a * b) (blk0 m c t k j (i 0) _ h0 rfl) (blk1 m c t l k _ rfl)

theorem point2 (c : Dev nD) (t : Fin cfg0.N) (j : Fin 1408) (l : Fin 512) (i : S4224x2048.Idx)
    (h0 : (i 0).val = t.val / 4 * 1408 + j.val) (h1 : (i 1).val = t.val % 4 * 512 + l.val) :
    (k0_pay2 (F := Ideal) (iblk m c 0 t) (iblk m c 1 t) (iblk m c 2 t) (ix2 j l) : EReal) = PoolMixRefIdeal.Read.val_main_v10 (F := Ideal) (m ((c : Thread nD τ).loc main_arg0)) (m ((c : Thread nD τ).loc main_arg1)) (m ((c : Thread nD τ).loc main_arg2)) i := by
  rw [ref_apply2]
  exact (pay2_apply _ _ _ _).trans (congrArg₂ (fun a b : EReal => a * b) (point m c t j l i h0 h1) (blk2 m c t l (i 1) h1))

theorem final0 (c : Dev nD) : (dats m 0 c).arrAt 3 cfg0.N = PoolMixRefIdeal.Read.val_main_v5 (F := Ideal) (m ((c : Thread nD τ).loc main_arg0)) (m ((c : Thread nD τ).loc main_arg1)) := by
  refine (dats m 0 c).arrAt_eq_of_covers 3 _ (by decide +kernel) fun t _ y => ?_
  blk_simp
  rw [after0_3, out3]
  obtain ⟨r, k, rfl⟩ : ∃ (r : Fin 1408) (k : Fin 512), y = ix2 r k := ⟨y 0, y 1, by funext a; match a with | ⟨0, _⟩ => rfl | ⟨1, _⟩ => rfl⟩
  refine point m c t r k _ ?_ ?_
  all_goals blk_simp [idx t] <;> try omega

theorem final1 (c : Dev nD) : (dats m 0 c).arrAt 4 cfg0.N = PoolMixRefIdeal.Read.val_main_v10 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, out4]
  obtain ⟨r, k, rfl⟩ : ∃ (r : Fin 1408) (k : Fin 512), y = ix2 r k := ⟨y 0, y 1, by funext a; match a with | ⟨0, _⟩ => rfl | ⟨1, _⟩ => rfl⟩
  refine point2 m c t r k _ ?_ ?_
  all_goals blk_simp [idx t] <;> try omega

end Cert.PoolMixIdeal.Value
end
-- ==== Proof.GuValue.lean ====
module

public import proofs.«01_k».proof.Proof.Gen.GuIdeal.Value
public import proofs.«01_k».proof.Proof.Gen.GuRefIdeal.Run
public import proofs.«01_k».proof.Proof.Gen.GuRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.GuIdeal.Value

open Cert.GuIdeal Cert.GuIdeal.Gen Idealize.ShloMosaic Idealize.ShloMosaic.TcCoe Idealize.SL.Sem
open Idealize.ShloMosaic.Pipeline (Dat)

theorem at_acc (acc : Vec Ideal S528x2752 .f32) (a : Fin 528) (b : Fin 2752) (a' : Fin 528) (b' : Fin 2752) (ha : a.val = a'.val) (hb : b.val = b'.val) :
    acc (ix2 a b) = acc (ix2 a' b') := by
  obtain rfl := Fin.ext ha; obtain rfl := Fin.ext hb; rfl

variable (c : Dev nD) (i : grid0.Coords) (arg3 : Memref sig .tc .vmem S528x1024 .bf16) (harg3 : arg3.IsWhole) (arg4 : Memref sig .tc .vmem S1x1024x2752 .bf16) (harg4 : arg4.IsWhole) (arg5 : Memref sig .tc .vmem S1x1024x2752 .bf16) (harg5 : arg5.IsWhole) (arg6 : Memref sig .tc .vmem S1x2x528x2752 .bf16) (harg6 : arg6.IsWhole) (arg7 : Memref sig .tc .vmem S1x528x2752 .bf16) (harg7 : arg7.IsWhole) (arg8 : Memref sig .tc .vmem S528x2752 .f32) (harg8 : arg8.IsWhole) (arg9 : Memref sig .tc .vmem S528x2752 .f32) (harg9 : arg9.IsWhole)

/-- An element of the block of gates and other inputs written back, over the two sums the scratches hold. -/
def epi3 (g u : Vec Ideal S528x2752 .f32) (y : S1x2x528x2752.Idx) : EReal :=
  if (y 1).val = 0 then g (ix2 (y 2) (y 3)) else u (ix2 (y 2) (y 3))

/-- An element of the block of activations written back, over the two sums the scratches hold. -/
def epi4 (g u : Vec Ideal S528x2752 .f32) (y : S1x528x2752.Idx) : EReal :=
  Common.swiglu (g (ix2 (y 1) (y 2))) (u (ix2 (y 1) (y 2)))

theorem off1_eq : ∀ k : Fin k0_t1_loop.trips, k0_off1 k = ![48 * k.val, 0] := by decide +kernel

theorem off2_eq : ∀ k : Fin k0_t1_loop.trips, k0_off2 k = ![0, 0, 48 * k.val, 0] := by decide +kernel

theorem off3_eq : ∀ k : Fin k0_t1_loop.trips, k0_off3 k = ![0, 1, 48 * k.val, 0] := by decide +kernel

theorem off4_eq : ∀ k : Fin k0_t1_loop.trips, k0_off4 k = ![0, 48 * k.val, 0] := by decide +kernel

/-- What one trip of the last point's loop stores among the gates and other inputs. -/
theorem trip_pieces3 (𝒱 : Variants) (bd : Option 𝒱.V) (h3 : k0_cond3 i = 1#1) (X8 : BufTy.Contents (Elt Ideal) arg8.view.ty) (X9 : BufTy.Contents (Elt Ideal) arg9.view.ty) (g u : Vec Ideal S528x2752 .f32) (h8 : arg8.view.read (Elt Ideal) X8 = g) (h9 : arg9.view.read (Elt Ideal) X9 = u) (k : Fin k0_t1_loop.trips) :
    ∀ p ∈ (tripL_k0_t1 (F := Ideal) 𝒱 c bd i arg3 harg3 arg4 harg4 arg5 harg5 arg6 harg6 arg7 harg7 arg8 harg8 arg9 harg9 h3 X8 X9 k).1, ∀ x : p.1.shape.Idx, p.2 x = epi3 g u (p.1.emb x) := by
  unfold tripL_k0_t1 trip_k0_t1
  dsimp only
  intro p hp x
  generalize hy : p.1.emb x = y
  have a0 : k0_off1 k 0 = 48 * k.val := by rw [off1_eq]; rfl
  have a1 : k0_off1 k 1 = 0 := by rw [off1_eq]; rfl
  have g1 : k0_off2 k 1 = 0 := by rw [off2_eq]; rfl
  have g2 : k0_off2 k 2 = 48 * k.val := by rw [off2_eq]; rfl
  have g3 : k0_off2 k 3 = 0 := by rw [off2_eq]; rfl
  have u1 : k0_off3 k 1 = 1 := by rw [off3_eq]; rfl
  have u2 : k0_off3 k 2 = 48 * k.val := by rw [off3_eq]; rfl
  have u3 : k0_off3 k 3 = 0 := by rw [off3_eq]; rfl
  rcases List.mem_cons.mp hp with rfl | hp
  · clear hp
    dsimp only
    rw [View.readAt_eq_ld, h9]
    pointwise [k0_pay6, epi3]
    have y1 : ¬(y 1).val = 0 := by rw [← hy]; show k0_off3 k 1 + 1 * (x 1).val ≠ 0; have : (x 1).val < 1 := (x 1).isLt; omega
    have y2 : (y 2).val = 48 * k.val + (x 2).val := by rw [← hy]; show k0_off3 k 2 + 1 * (x 2).val = _; omega
    have y3 : (y 3).val = (x 3).val := by rw [← hy]; show k0_off3 k 3 + 1 * (x 3).val = _; omega
    rw [at_acc u _ _ (y 2) (y 3)]
    · exact (if_neg y1).symm
    all_goals (dsimp only; omega)
  · obtain rfl := List.mem_singleton.mp hp
    clear hp
    dsimp only
    rw [View.readAt_eq_ld, h8]
    pointwise [k0_pay5, epi3]
    have y1 : (y 1).val = 0 := by rw [← hy]; show k0_off2 k 1 + 1 * (x 1).val = 0; have : (x 1).val < 1 := (x 1).isLt; omega
    have y2 : (y 2).val = 48 * k.val + (x 2).val := by rw [← hy]; show k0_off2 k 2 + 1 * (x 2).val = _; omega
    have y3 : (y 3).val = (x 3).val := by rw [← hy]; show k0_off2 k 3 + 1 * (x 3).val = _; omega
    rw [at_acc g _ _ (y 2) (y 3)]
    · exact (if_pos y1).symm
    all_goals (dsimp only; omega)

/-- What one trip of the last point's loop stores among the activations. -/
theorem trip_pieces4 (𝒱 : Variants) (bd : Option 𝒱.V) (h3 : k0_cond3 i = 1#1) (X8 : BufTy.Contents (Elt Ideal) arg8.view.ty) (X9 : BufTy.Contents (Elt Ideal) arg9.view.ty) (g u : Vec Ideal S528x2752 .f32) (h8 : arg8.view.read (Elt Ideal) X8 = g) (h9 : arg9.view.read (Elt Ideal) X9 = u) (k : Fin k0_t1_loop.trips) :
    ∀ p ∈ (tripL_k0_t1 (F := Ideal) 𝒱 c bd i arg3 harg3 arg4 harg4 arg5 harg5 arg6 harg6 arg7 harg7 arg8 harg8 arg9 harg9 h3 X8 X9 k).2, ∀ x : p.1.shape.Idx, p.2 x = epi4 g u (p.1.emb x) := by
  unfold tripL_k0_t1 trip_k0_t1
  dsimp only
  intro p hp x
  generalize hy : p.1.emb x = y
  have a0 : k0_off1 k 0 = 48 * k.val := by rw [off1_eq]; rfl
  have a1 : k0_off1 k 1 = 0 := by rw [off1_eq]; rfl
  have g1 : k0_off4 k 1 = 48 * k.val := by rw [off4_eq]; rfl
  have g2 : k0_off4 k 2 = 0 := by rw [off4_eq]; rfl
  obtain rfl := List.mem_singleton.mp hp
  clear hp
  dsimp only
  rw [View.readAt_eq_ld, View.readAt_eq_ld, h8, h9]
  pointwise [k0_pay7, epi4, Common.swiglu]
  have y1 : (y 1).val = 48 * k.val + (x 1).val := by rw [← hy]; show k0_off4 k 1 + 1 * (x 1).val = _; omega
  have y2 : (y 2).val = (x 2).val := by rw [← hy]; show k0_off4 k 2 + 1 * (x 2).val = _; omega
  rw [at_acc g _ _ (y 1) (y 2), at_acc u _ _ (y 1) (y 2), zero_sub]
  all_goals (dsimp only; omega)

/-- What a point of case B leaves in the first scratch. -/
theorem scr_B0 (hc0 : ¬cond0_0 i) (hc1 : cond0_1 i) (hc2 : ¬cond0_2 i) (x0 : Vec Ideal S528x1024 .bf16) (x1 x2 : Vec Ideal S1x1024x2752 .bf16) (xs0 xs1 : Vec Ideal S528x2752 .f32) :
    sout0_B_0 c i arg3 harg3 arg4 harg4 arg5 harg5 arg6 harg6 arg7 harg7 arg8 harg8 arg9 harg9 hc0 hc1 hc2 x0 x1 x2 xs0 xs1 = k0_pay3 xs0 x0 x1 := by frame_out

/-- What a point of case B leaves in the second scratch. -/
theorem scr_B1 (hc0 : ¬cond0_0 i) (hc1 : cond0_1 i) (hc2 : ¬cond0_2 i) (x0 : Vec Ideal S528x1024 .bf16) (x1 x2 : Vec Ideal S1x1024x2752 .bf16) (xs0 xs1 : Vec Ideal S528x2752 .f32) :
    sout0_B_1 c i arg3 harg3 arg4 harg4 arg5 harg5 arg6 harg6 arg7 harg7 arg8 harg8 arg9 harg9 hc0 hc1 hc2 x0 x1 x2 xs0 xs1 = k0_pay4 xs1 x0 x2 := by frame_out

/-- What a point of case C leaves in the first scratch. -/
theorem scr_C0 (hc0 : ¬cond0_0 i) (hc1 : cond0_1 i) (hc2 : cond0_2 i) (x0 : Vec Ideal S528x1024 .bf16) (x1 x2 : Vec Ideal S1x1024x2752 .bf16) (xs0 xs1 : Vec Ideal S528x2752 .f32) :
    sout0_C_0 c i arg3 harg3 arg4 harg4 arg5 harg5 arg6 harg6 arg7 harg7 arg8 harg8 arg9 harg9 hc0 hc1 hc2 x0 x1 x2 xs0 xs1 = k0_pay3 xs0 x0 x1 := by frame_out

/-- What a point of case C leaves in the second scratch. -/
theorem scr_C1 (hc0 : ¬cond0_0 i) (hc1 : cond0_1 i) (hc2 : cond0_2 i) (x0 : Vec Ideal S528x1024 .bf16) (x1 x2 : Vec Ideal S1x1024x2752 .bf16) (xs0 xs1 : Vec Ideal S528x2752 .f32) :
    sout0_C_1 c i arg3 harg3 arg4 harg4 arg5 harg5 arg6 harg6 arg7 harg7 arg8 harg8 arg9 harg9 hc0 hc1 hc2 x0 x1 x2 xs0 xs1 = k0_pay4 xs1 x0 x2 := by frame_out

/-- What the last point of a run stores in output 3, over what it leaves in the scratches. -/
theorem out_C3 (hc0 : ¬cond0_0 i) (hc1 : cond0_1 i) (hc2 : cond0_2 i) (x0 : Vec Ideal S528x1024 .bf16) (x1 x2 : Vec Ideal S1x1024x2752 .bf16) (xs0 xs1 : Vec Ideal S528x2752 .f32) (y : S1x2x528x2752.Idx) :
    out0_C_3 c i arg3 harg3 arg4 harg4 arg5 harg5 arg6 harg6 arg7 harg7 arg8 harg8 arg9 harg9 hc0 hc1 hc2 x0 x1 x2 xs0 xs1 y = epi3 (sout0_C_0 c i arg3 harg3 arg4 harg4 arg5 harg5 arg6 harg6 arg7 harg7 arg8 harg8 arg9 harg9 hc0 hc1 hc2 x0 x1 x2 xs0 xs1) (sout0_C_1 c i arg3 harg3 arg4 harg4 arg5 harg5 arg6 harg6 arg7 harg7 arg8 harg8 arg9 harg9 hc0 hc1 hc2 x0 x1 x2 xs0 xs1) y := by
  rw [scr_C0, scr_C1]
  unfold out0_C_3
  rw [View.read_writes_junk_eq_canon]
  refine View.canon_apply_of_pieces (fun y => epi3 (k0_pay3 xs0 x0 x1) (k0_pay4 xs1 x0 x2) y) _ ?_ y (cover0_C_3 c i arg3 harg3 arg4 harg4 arg5 harg5 arg6 harg6 arg7 harg7 arg8 harg8 arg9 harg9 hc0 hc1 hc2 x0 x1 x2 xs0 xs1 y)
  unfold kernelRun0_C
  dsimp only
  refine Common.forall_mem_trips (fun n => (pb_k0_t1 (F := Ideal) Variants.none c none i arg3 harg3 arg4 harg4 arg5 harg5 arg6 harg6 arg7 harg7 arg8 harg8 arg9 harg9 hc2 _ _ n).1)
    (fun k => (tripL_k0_t1 (F := Ideal) Variants.none c none i arg3 harg3 arg4 harg4 arg5 harg5 arg6 harg6 arg7 harg7 arg8 harg8 arg9 harg9 hc2 _ _ k).1) rfl
    (fun k => congrArg (fun z => z.1) (pb_k0_t1_succ (F := Ideal) Variants.none c none i arg3 harg3 arg4 harg4 arg5 harg5 arg6 harg6 arg7 harg7 arg8 harg8 arg9 harg9 hc2 _ _ k))
    (trip_pieces3 c i arg3 harg3 arg4 harg4 arg5 harg5 arg6 harg6 arg7 harg7 arg8 harg8 arg9 harg9 Variants.none none hc2 _ _ _ _ ?_ ?_) _ (le_of_eq rfl)
  all_goals frame_out

/-- What the last point of a run stores in output 4, over what it leaves in the scratches. -/
theorem out_C4 (hc0 : ¬cond0_0 i) (hc1 : cond0_1 i) (hc2 : cond0_2 i) (x0 : Vec Ideal S528x1024 .bf16) (x1 x2 : Vec Ideal S1x1024x2752 .bf16) (xs0 xs1 : Vec Ideal S528x2752 .f32) (y : S1x528x2752.Idx) :
    out0_C_4 c i arg3 harg3 arg4 harg4 arg5 harg5 arg6 harg6 arg7 harg7 arg8 harg8 arg9 harg9 hc0 hc1 hc2 x0 x1 x2 xs0 xs1 y = epi4 (sout0_C_0 c i arg3 harg3 arg4 harg4 arg5 harg5 arg6 harg6 arg7 harg7 arg8 harg8 arg9 harg9 hc0 hc1 hc2 x0 x1 x2 xs0 xs1) (sout0_C_1 c i arg3 harg3 arg4 harg4 arg5 harg5 arg6 harg6 arg7 harg7 arg8 harg8 arg9 harg9 hc0 hc1 hc2 x0 x1 x2 xs0 xs1) y := by
  rw [scr_C0, scr_C1]
  unfold out0_C_4
  rw [View.read_writes_junk_eq_canon]
  refine View.canon_apply_of_pieces (fun y => epi4 (k0_pay3 xs0 x0 x1) (k0_pay4 xs1 x0 x2) y) _ ?_ y (cover0_C_4 c i arg3 harg3 arg4 harg4 arg5 harg5 arg6 harg6 arg7 harg7 arg8 harg8 arg9 harg9 hc0 hc1 hc2 x0 x1 x2 xs0 xs1 y)
  unfold kernelRun0_C
  dsimp only
  refine Common.forall_mem_trips (fun n => (pb_k0_t1 (F := Ideal) Variants.none c none i arg3 harg3 arg4 harg4 arg5 harg5 arg6 harg6 arg7 harg7 arg8 harg8 arg9 harg9 hc2 _ _ n).2)
    (fun k => (tripL_k0_t1 (F := Ideal) Variants.none c none i arg3 harg3 arg4 harg4 arg5 harg5 arg6 harg6 arg7 harg7 arg8 harg8 arg9 harg9 hc2 _ _ k).2) rfl
    (fun k => congrArg (fun z => z.2) (pb_k0_t1_succ (F := Ideal) Variants.none c none i arg3 harg3 arg4 harg4 arg5 harg5 arg6 harg6 arg7 harg7 arg8 harg8 arg9 harg9 hc2 _ _ k))
    (trip_pieces4 c i arg3 harg3 arg4 harg4 arg5 harg5 arg6 harg6 arg7 harg7 arg8 harg8 arg9 harg9 Variants.none none hc2 _ _ _ _ ?_ ?_) _ (le_of_eq rfl)
  all_goals frame_out

omit c i arg3 harg3 arg4 harg4 arg5 harg5 arg6 harg6 arg7 harg7 arg8 harg8 arg9 harg9

theorem pay1_apply (x0 : Vec Ideal S528x1024 .bf16) (x1 : Vec Ideal S1x1024x2752 .bf16) (j : S528x2752.Idx) :
    k0_pay1 (F := Ideal) x0 x1 j = (0 + ∑ k : Fin 1024, x0 (ix2 (j 0) k) * x1 (ix3 0 k (j 1)) : EReal) := by
  rw [zero_add]; pointwise [k0_pay1]

theorem pay3_apply (xs0 : Vec Ideal S528x2752 .f32) (x0 : Vec Ideal S528x1024 .bf16) (x1 : Vec Ideal S1x1024x2752 .bf16) (j : S528x2752.Idx) :
    k0_pay3 (F := Ideal) xs0 x0 x1 j = (xs0 j + ∑ k : Fin 1024, x0 (ix2 (j 0) k) * x1 (ix3 0 k (j 1)) : EReal) := by
  pointwise [k0_pay3]

theorem pay2_apply (x0 : Vec Ideal S528x1024 .bf16) (x1 : Vec Ideal S1x1024x2752 .bf16) (j : S528x2752.Idx) :
    k0_pay2 (F := Ideal) x0 x1 j = (0 + ∑ k : Fin 1024, x0 (ix2 (j 0) k) * x1 (ix3 0 k (j 1)) : EReal) := by
  rw [zero_add]; pointwise [k0_pay2]

theorem pay4_apply (xs0 : Vec Ideal S528x2752 .f32) (x0 : Vec Ideal S528x1024 .bf16) (x1 : Vec Ideal S1x1024x2752 .bf16) (j : S528x2752.Idx) :
    k0_pay4 (F := Ideal) xs0 x0 x1 j = (xs0 j + ∑ k : Fin 1024, x0 (ix2 (j 0) k) * x1 (ix3 0 k (j 1)) : EReal) := by
  pointwise [k0_pay4]

variable (m : (ℓ : Loc nD τ sig) → Buf (Elt Ideal) ℓ)

theorem idx : ∀ t : Fin cfg0.N, win0_0.index t = ![t.val / 16, t.val % 4] ∧ win0_1.index t = ![t.val / 4 % 4, t.val % 4, 0] ∧ win0_2.index t = ![t.val / 4 % 4 + 4, t.val % 4, 0] ∧ win0_3.index t = ![t.val / 4 % 4, 0, t.val / 16, 0] ∧ win0_4.index t = ![t.val / 4 % 4, t.val / 16, 0] :=
  (by decide +kernel : ∀ t : Fin grid0.N, _)

/-- What the first scratch holds after the last point of a run: the sum over the run's points of the products of their blocks. -/
theorem scratch0 (c : Dev nD) (t : Fin cfg0.N) (h : t.val % 4 = 3) (j : S528x2752.Idx) :
    (outsAt0 m c t.val t.isLt).2.2.1 j = (∑ s : Fin 4, ∑ k : Fin 1024, (show Vec Ideal S528x1024 .bf16 from iblk m c 0 ⟨4 * (t.val / 4) + s.val, Pipeline.run_point_lt_of_flush t h s⟩) (ix2 (j 0) k) * (show Vec Ideal S1x1024x2752 .bf16 from iblk m c 1 ⟨4 * (t.val / 4) + s.val, Pipeline.run_point_lt_of_flush t h s⟩) (ix3 0 k (j 1)) : EReal) := by
  rw [Pipeline.eq_sum_fin_of_reset_step_apply_of_flush (fun n h => (outsAt0 m c n h).2.2.1) 4 (fun _ => 0)
    (fun p j => (∑ k : Fin 1024, (show Vec Ideal S528x1024 .bf16 from iblk m c 0 p) (ix2 (j 0) k) * (show Vec Ideal S1x1024x2752 .bf16 from iblk m c 1 p) (ix3 0 k (j 1)) : EReal))
    (fun t h j => by rw [outsAt0_A m c t h (by omega) (by omega)]; frame_out; rw [pay1_apply])
    (fun t h j => by
      rcases Nat.lt_or_ge (t.val % 4) 3 with h2 | h2
      · rw [outsAt0_B m c t h (by omega) (by omega)]; dsimp only; rw [scr_B0, pay3_apply]
      · rw [outsAt0_C m c t h (by omega) (by omega)]; dsimp only; rw [scr_C0, pay3_apply])
    t h j, zero_add]

/-- What the second scratch holds after the last point of a run: the sum over the run's points of the products of their blocks. -/
theorem scratch1 (c : Dev nD) (t : Fin cfg0.N) (h : t.val % 4 = 3) (j : S528x2752.Idx) :
    (outsAt0 m c t.val t.isLt).2.2.2 j = (∑ s : Fin 4, ∑ k : Fin 1024, (show Vec Ideal S528x1024 .bf16 from iblk m c 0 ⟨4 * (t.val / 4) + s.val, Pipeline.run_point_lt_of_flush t h s⟩) (ix2 (j 0) k) * (show Vec Ideal S1x1024x2752 .bf16 from iblk m c 2 ⟨4 * (t.val / 4) + s.val, Pipeline.run_point_lt_of_flush t h s⟩) (ix3 0 k (j 1)) : EReal) := by
  rw [Pipeline.eq_sum_fin_of_reset_step_apply_of_flush (fun n h => (outsAt0 m c n h).2.2.2) 4 (fun _ => 0)
    (fun p j => (∑ k : Fin 1024, (show Vec Ideal S528x1024 .bf16 from iblk m c 0 p) (ix2 (j 0) k) * (show Vec Ideal S1x1024x2752 .bf16 from iblk m c 2 p) (ix3 0 k (j 1)) : EReal))
    (fun t h j => by rw [outsAt0_A m c t h (by omega) (by omega)]; frame_out; rw [pay2_apply])
    (fun t h j => by
      rcases Nat.lt_or_ge (t.val % 4) 3 with h2 | h2
      · rw [outsAt0_B m c t h (by omega) (by omega)]; dsimp only; rw [scr_B1, pay4_apply]
      · rw [outsAt0_C m c t h (by omega) (by omega)]; dsimp only; rw [scr_C1, pay4_apply])
    t h j, zero_add]

theorem ref_dot (h : (⟨S4224x4096, .bf16⟩ : BufTy).Contents (Elt Ideal)) (w : (⟨S4096x22016, .bf16⟩ : BufTy).Contents (Elt Ideal)) (l : Fin 4224) (f : Fin 22016) :
    GuRefIdeal.Read.val_main_v2 (F := Ideal) h w (ix2 l f) = (∑ k : Fin 4096, h (ix2 l k) * w (ix2 k f) : EReal) := by
  pointwise [GuRefIdeal.Read.val_main_v2, GuRefIdeal.Read.val_main_v1, GuRefIdeal.Read.val_main_v0]

/-- A gate of the reference: a column of the first half of the product. -/
theorem ref_gate (h : (⟨S4224x4096, .bf16⟩ : BufTy).Contents (Elt Ideal)) (w : (⟨S4096x22016, .bf16⟩ : BufTy).Contents (Elt Ideal)) (a : Fin 4) (l : Fin 4224) (n : Fin 2752) (f : Fin 22016) (hf : f.val = a.val * 2752 + n.val) :
    GuRefIdeal.Read.val_main_v9 (F := Ideal) h w (ix3 a l n) = GuRefIdeal.Read.val_main_v2 (F := Ideal) h w (ix2 l f) := by
  unfold GuRefIdeal.Read.val_main_v9 GuRefIdeal.Read.val_main_v8 GuRefIdeal.Read.val_main_v7 GuRefIdeal.Read.val_main_v3
  generalize GuRefIdeal.Read.val_main_v2 (F := Ideal) h w = A
  pointwise
  blk_ext

/-- Another input of the reference: a column of the second half of the product. -/
theorem ref_up (h : (⟨S4224x4096, .bf16⟩ : BufTy).Contents (Elt Ideal)) (w : (⟨S4096x22016, .bf16⟩ : BufTy).Contents (Elt Ideal)) (a : Fin 4) (l : Fin 4224) (n : Fin 2752) (f : Fin 22016) (hf : f.val = a.val * 2752 + n.val + 11008) :
    GuRefIdeal.Read.val_main_v12 (F := Ideal) h w (ix3 a l n) = GuRefIdeal.Read.val_main_v2 (F := Ideal) h w (ix2 l f) := by
  unfold GuRefIdeal.Read.val_main_v12 GuRefIdeal.Read.val_main_v11 GuRefIdeal.Read.val_main_v10 GuRefIdeal.Read.val_main_v4
  generalize GuRefIdeal.Read.val_main_v2 (F := Ideal) h w = A
  pointwise
  blk_ext

/-- Element `i` of the reference's gates and other inputs. -/
theorem ref_apply (h : (⟨S4224x4096, .bf16⟩ : BufTy).Contents (Elt Ideal)) (w : (⟨S4096x22016, .bf16⟩ : BufTy).Contents (Elt Ideal)) (i : S4x2x4224x2752.Idx) :
    GuRefIdeal.Read.val_main_v18 (F := Ideal) h w i
      = if (i 1).val = 0 then GuRefIdeal.Read.val_main_v9 (F := Ideal) h w (ix3 (i 0) (i 2) (i 3)) else GuRefIdeal.Read.val_main_v12 (F := Ideal) h w (ix3 (i 0) (i 2) (i 3)) := by
  unfold GuRefIdeal.Read.val_main_v18 GuRefIdeal.Read.val_main_v17 GuRefIdeal.Read.val_main_v16
  generalize GuRefIdeal.Read.val_main_v9 (F := Ideal) h w = A
  generalize GuRefIdeal.Read.val_main_v12 (F := Ideal) h w = B
  pointwise
  have hlt : (i 1).val < 2 := (i 1).isLt
  by_cases hi : (i 1).val < 1
  · have h0 : (i 1).val = 0 := by omega
    exact (dif_pos hi).trans (if_pos h0).symm
  · have h0 : ¬(i 1).val = 0 := by omega
    exact (dif_neg hi).trans (if_neg h0).symm

/-- An activation of the reference: the gated unit of its gate and other input. -/
theorem ref_act (h : (⟨S4224x4096, .bf16⟩ : BufTy).Contents (Elt Ideal)) (w : (⟨S4096x22016, .bf16⟩ : BufTy).Contents (Elt Ideal)) (a : Fin 4) (l : Fin 4224) (n : Fin 2752) :
    GuRefIdeal.Read.val_main_v15 (F := Ideal) h w (ix3 a l n) = Common.swiglu (GuRefIdeal.Read.val_main_v9 (F := Ideal) h w (ix3 a l n)) (GuRefIdeal.Read.val_main_v12 (F := Ideal) h w (ix3 a l n)) := by
  unfold GuRefIdeal.Read.val_main_v15 GuRefIdeal.Read.val_main_v14 GuRefIdeal.Read.val_main_v13 GuRefIdeal.Read.val_main_v12 GuRefIdeal.Read.val_main_v11 GuRefIdeal.Read.val_main_v10 GuRefIdeal.Read.val_main_v9 GuRefIdeal.Read.val_main_v8 GuRefIdeal.Read.val_main_v7 GuRefIdeal.Read.val_main_v6 GuRefIdeal.Read.val_main_v5 GuRefIdeal.Read.val_main_call0_v5 GuRefIdeal.Read.val_main_call0_v4 GuRefIdeal.Read.val_main_call0_v3 GuRefIdeal.Read.val_main_call0_v2 GuRefIdeal.Read.val_main_call0_v1 GuRefIdeal.Read.val_main_call0_v0 GuRefIdeal.Read.val_main_call0_cst GuRefIdeal.Read.val_main_call0_cst_0
  generalize GuRefIdeal.Read.val_main_v3 (F := Ideal) h w = A
  generalize GuRefIdeal.Read.val_main_v4 (F := Ideal) h w = B
  pointwise [Common.swiglu]

/-- Element `i` of the weights the host splits into blocks of columns. -/
theorem split_apply (c : Dev nD) (i : S8x4096x2752.Idx) (f : Fin 22016) (hf : f.val = (i 0).val * 2752 + (i 2).val) : (show EReal from V m c main_v1 i)
    = m ((c : Thread nD τ).loc main_arg1) (ix2 (i 1) f) := by
  unfold V
  simp only [hostOps0, List.flatten_cons, List.flatten_nil, List.append_nil, List.cons_append, List.nil_append]
  after_results_simp
  pointwise
  blk_ext

theorem blk0 (c : Dev nD) (p : Fin cfg0.N) (k : Fin 1024) (j : Fin 528) (l : Fin 4224) (f : Fin 4096) (hl : l.val = p.val / 16 * 528 + j.val) (hf : f.val = p.val % 4 * 1024 + k.val) :
    (show Vec Ideal S528x1024 .bf16 from iblk m c 0 p) (ix2 j k) = m ((c : Thread nD τ).loc main_arg0) (ix2 l f) := by
  rw [← V_main_arg0 m c]
  show (V m c main_arg0) (((cfg0.win 0).blk p).view.emb (ix2 j k)) = V m c main_arg0 (ix2 l f)
  generalize V m c main_arg0 = A
  blk_point [idx p]

theorem blk1 (c : Dev nD) (p : Fin cfg0.N) (k : Fin 1024) (j : Fin 2752) (l : Fin 4096) (f : Fin 22016) (hl : l.val = p.val % 4 * 1024 + k.val) (hf : f.val = p.val / 4 % 4 * 2752 + j.val) :
    (show Vec Ideal S1x1024x2752 .bf16 from iblk m c 1 p) (ix3 0 k j) = m ((c : Thread nD τ).loc main_arg1) (ix2 l f) := by
  refine Eq.trans (b := (show EReal from V m c main_v1 (ix3 ⟨p.val / 4 % 4, by omega⟩ l j))) ?_ (split_apply m c _ f hf)
  show (V m c main_v1) (((cfg0.win 1).blk p).view.emb (ix3 0 k j)) = V m c main_v1 (ix3 ⟨p.val / 4 % 4, by omega⟩ l j)
  generalize V m c main_v1 = A
  blk_point [idx p]

theorem blk2 (c : Dev nD) (p : Fin cfg0.N) (k : Fin 1024) (j : Fin 2752) (l : Fin 4096) (f : Fin 22016) (hl : l.val = p.val % 4 * 1024 + k.val) (hf : f.val = (p.val / 4 % 4 + 4) * 2752 + j.val) :
    (show Vec Ideal S1x1024x2752 .bf16 from iblk m c 2 p) (ix3 0 k j) = m ((c : Thread nD τ).loc main_arg1) (ix2 l f) := by
  refine Eq.trans (b := (show EReal from V m c main_v1 (ix3 ⟨p.val / 4 % 4 + 4, by omega⟩ l j))) ?_ (split_apply m c _ f hf)
  show (V m c main_v1) (((cfg0.win 2).blk p).view.emb (ix3 0 k j)) = V m c main_v1 (ix3 ⟨p.val / 4 % 4 + 4, by omega⟩ l j)
  generalize V m c main_v1 = A
  blk_point [idx p]

theorem point_gate (c : Dev nD) (t : Fin cfg0.N) (ht : t.val % 4 = 3) (j : Fin 528) (n : Fin 2752) (a : Fin 4) (l : Fin 4224)
    (ha : a.val = t.val / 4 % 4) (hl : l.val = t.val / 16 * 528 + j.val) :
    ((outsAt0 m c t.val t.isLt).2.2.1 (ix2 j n) : EReal) = GuRefIdeal.Read.val_main_v9 (F := Ideal) (m ((c : Thread nD τ).loc main_arg0)) (m ((c : Thread nD τ).loc main_arg1)) (ix3 a l n) := by
  have hN := lt_of_lt_of_eq t.isLt N_0
  rw [ref_gate _ _ a l n ⟨a.val * 2752 + n.val, by omega⟩ rfl, ref_dot]
  refine (scratch0 m c t ht _).trans ?_
  refine Fin.sum_mul_add_congr fun s k hk => ?_
  have hs := s.isLt
  exact congrArg₂ (fun a b : EReal => a * b)
    (blk0 m c _ k j l ⟨s.val * 1024 + k.val, hk⟩ (by dsimp only; omega) (by dsimp only; omega))
    (blk1 m c _ k n ⟨s.val * 1024 + k.val, hk⟩ _ (by dsimp only; omega) (by dsimp only; omega))

theorem point_up (c : Dev nD) (t : Fin cfg0.N) (ht : t.val % 4 = 3) (j : Fin 528) (n : Fin 2752) (a : Fin 4) (l : Fin 4224)
    (ha : a.val = t.val / 4 % 4) (hl : l.val = t.val / 16 * 528 + j.val) :
    ((outsAt0 m c t.val t.isLt).2.2.2 (ix2 j n) : EReal) = GuRefIdeal.Read.val_main_v12 (F := Ideal) (m ((c : Thread nD τ).loc main_arg0)) (m ((c : Thread nD τ).loc main_arg1)) (ix3 a l n) := by
  have hN := lt_of_lt_of_eq t.isLt N_0
  rw [ref_up _ _ a l n ⟨a.val * 2752 + n.val + 11008, by omega⟩ rfl, ref_dot]
  refine (scratch1 m c t ht _).trans ?_
  refine Fin.sum_mul_add_congr fun s k hk => ?_
  have hs := s.isLt
  exact congrArg₂ (fun a b : EReal => a * b)
    (blk0 m c _ k j l ⟨s.val * 1024 + k.val, hk⟩ (by dsimp only; omega) (by dsimp only; omega))
    (blk2 m c _ k n ⟨s.val * 1024 + k.val, hk⟩ _ (by dsimp only; omega) (by dsimp only; omega))

theorem point3 (c : Dev nD) (t : Fin cfg0.N) (ht : t.val % 4 = 3) (y : S1x2x528x2752.Idx) (i : S4x2x4224x2752.Idx)
    (h0 : (i 0).val = t.val / 4 % 4) (h1 : (i 1).val = (y 1).val) (h2 : (i 2).val = t.val / 16 * 528 + (y 2).val) (h3 : (i 3).val = (y 3).val) :
    (epi3 (outsAt0 m c t.val t.isLt).2.2.1 (outsAt0 m c t.val t.isLt).2.2.2 y : EReal) = GuRefIdeal.Read.val_main_v18 (F := Ideal) (m ((c : Thread nD τ).loc main_arg0)) (m ((c : Thread nD τ).loc main_arg1)) i := by
  rw [ref_apply, ← point_gate m c t ht (y 2) (i 3) (i 0) (i 2) h0 h2, ← point_up m c t ht (y 2) (i 3) (i 0) (i 2) h0 h2]
  have e3 : i 3 = y 3 := Fin.ext h3
  unfold epi3
  rw [h1, e3]

theorem point4 (c : Dev nD) (t : Fin cfg0.N) (ht : t.val % 4 = 3) (y : S1x528x2752.Idx) (i : S4x4224x2752.Idx)
    (h0 : (i 0).val = t.val / 4 % 4) (h1 : (i 1).val = t.val / 16 * 528 + (y 1).val) (h2 : (i 2).val = (y 2).val) :
    (epi4 (outsAt0 m c t.val t.isLt).2.2.1 (outsAt0 m c t.val t.isLt).2.2.2 y : EReal) = GuRefIdeal.Read.val_main_v15 (F := Ideal) (m ((c : Thread nD τ).loc main_arg0)) (m ((c : Thread nD τ).loc main_arg1)) i := by
  obtain ⟨a, l, n, rfl⟩ : ∃ (a : Fin 4) (l : Fin 4224) (n : Fin 2752), i = ix3 a l n := ⟨i 0, i 1, i 2, by funext a; match a with | ⟨0, _⟩ => rfl | ⟨1, _⟩ => rfl | ⟨2, _⟩ => rfl⟩
  rw [ref_act, ← point_gate m c t ht (y 1) n a l h0 h1, ← point_up m c t ht (y 1) n a l h0 h1]
  obtain rfl : n = y 2 := Fin.ext h2
  rfl

theorem final0 (c : Dev nD) : (dats m 0 c).arrAt 3 cfg0.N = GuRefIdeal.Read.val_main_v18 (F := Ideal) (m ((c : Thread nD τ).loc main_arg0)) (m ((c : Thread nD τ).loc main_arg1)) := by
  refine (dats m 0 c).arrAt_eq_of_covers 3 _ (by decide +kernel) fun t hf y => ?_
  blk_simp
  have ht := (flush0_3 t).mp hf
  rw [after0_3]
  have e : (outsAt0 m c t.val t.isLt).1 y = epi3 (outsAt0 m c t.val t.isLt).2.2.1 (outsAt0 m c t.val t.isLt).2.2.2 y := by
    rw [outsAt0_C m c t (by omega) (by omega) ht]
    dsimp only
    rw [out_C3]
  rw [e]
  refine point3 m c t ht y _ ?_ ?_ ?_ ?_
  all_goals blk_simp [idx t] <;> try omega

theorem final1 (c : Dev nD) : (dats m 0 c).arrAt 4 cfg0.N = GuRefIdeal.Read.val_main_v15 (F := Ideal) (m ((c : Thread nD τ).loc main_arg0)) (m ((c : Thread nD τ).loc main_arg1)) := by
  refine (dats m 0 c).arrAt_eq_of_covers 4 _ (by decide +kernel) fun t hf y => ?_
  blk_simp
  have ht := (flush0_4 t).mp hf
  rw [after0_4]
  have e : (outsAt0 m c t.val t.isLt).2.1 y = epi4 (outsAt0 m c t.val t.isLt).2.2.1 (outsAt0 m c t.val t.isLt).2.2.2 y := by
    rw [outsAt0_C m c t (by omega) (by omega) ht]
    dsimp only
    rw [out_C4]
  rw [e]
  refine point4 m c t ht y _ ?_ ?_ ?_
  all_goals blk_simp [idx t] <;> try omega

end Cert.GuIdeal.Value
end
-- ==== Proof.LnValue.lean ====
module

public import proofs.«01_k».proof.Proof.Gen.LnIdeal.Value
public import proofs.«01_k».proof.Proof.Gen.LnRefIdeal.Run
public import proofs.«01_k».proof.Proof.Gen.LnRefIdeal.Read
public import Idealize.ShloMosaic.Lib.Pipeline.ValueKit
import Idealize.ShloMosaic.Lib.Pipeline.ReadBack
public import proofs.«01_k».proof.Proof.Common

@[expose] public section

set_option maxRecDepth 16384

noncomputable section

namespace Cert.LnIdeal.Value

open Cert.LnIdeal Cert.LnIdeal.Gen Idealize.ShloMosaic Idealize.ShloMosaic.TcCoe Idealize.SL.Sem
open Idealize.ShloMosaic.Pipeline (Dat)

/-- The mean of a row. -/
def mean (row : Fin 4096 → EReal) : EReal := Ideal.div (∑ n, row n) (Ideal.ofBits .f32 0x45800000#32)

/-- An element of a row, less the row's mean and over its spread, scaled and shifted. -/
def norm (row : Fin 4096 → EReal) (g b : EReal) (k : Fin 4096) : EReal :=
  (row k - mean row) * Ideal.rsqrt (Ideal.div (∑ n, (row n - mean row) * (row n - mean row)) (Ideal.ofBits .f32 0x45800000#32) + Ideal.ofBits .f32 0x3727C5AC#32) * g + b

theorem out3 (x0 : Vec Ideal S128x4096 .f32) (x1 : Vec Ideal S1x4096 .f32) (x2 : Vec Ideal S1x4096 .f32) : out0_3 x0 x1 x2 = k0_pay1 x0 x1 x2 := by frame_out

theorem out4 (x0 : Vec Ideal S128x4096 .f32) (x1 : Vec Ideal S1x4096 .f32) (x2 : Vec Ideal S1x4096 .f32) : out0_4 x0 x1 x2 = k0_pay2 x0 x1 x2 := by frame_out

theorem pay1_apply (x0 : Vec Ideal S128x4096 .f32) (x1 x2 : Vec Ideal S1x4096 .f32) (j : S128x4096.Idx) :
    k0_pay1 (F := Ideal) x0 x1 x2 j = norm (fun n => x0 (ix2 (j 0) n)) (x1 (ix2 0 (j 1))) (x2 (ix2 0 (j 1))) (j 1) := by
  pointwise [k0_pay1, norm, mean]

theorem pay2_apply (x0 : Vec Ideal S128x4096 .f32) (x1 x2 : Vec Ideal S1x4096 .f32) (j : S128x4096.Idx) :
    k0_pay2 (F := Ideal) x0 x1 x2 j = (k0_pay1 (F := Ideal) x0 x1 x2 j : EReal) := by
  unfold k0_pay2
  generalize k0_pay1 (F := Ideal) x0 x1 x2 = A
  pointwise

/-- Element `i` of the reference's normalised rows. -/
theorem ref_apply (x : (⟨S4224x4096, .f32⟩ : BufTy).Contents (Elt Ideal)) (g b : (⟨S1x4096, .f32⟩ : BufTy).Contents (Elt Ideal)) (i : S4224x4096.Idx) :
    LnRefIdeal.Read.val_main_v23 (F := Ideal) x g b i = norm (fun n => x (ix2 (i 0) n)) (g (ix2 0 (i 1))) (b (ix2 0 (i 1))) (i 1) := by
  pointwise [LnRefIdeal.Read.val_main_v0, LnRefIdeal.Read.val_main_v1, LnRefIdeal.Read.val_main_v2, LnRefIdeal.Read.val_main_v3, LnRefIdeal.Read.val_main_v4, LnRefIdeal.Read.val_main_v5, LnRefIdeal.Read.val_main_v6, LnRefIdeal.Read.val_main_v7, LnRefIdeal.Read.val_main_v8, LnRefIdeal.Read.val_main_v9, LnRefIdeal.Read.val_main_v10, LnRefIdeal.Read.val_main_v11, LnRefIdeal.Read.val_main_v12, LnRefIdeal.Read.val_main_v13, LnRefIdeal.Read.val_main_v14, LnRefIdeal.Read.val_main_v15, LnRefIdeal.Read.val_main_v16, LnRefIdeal.Read.val_main_v17, LnRefIdeal.Read.val_main_v18, LnRefIdeal.Read.val_main_v19, LnRefIdeal.Read.val_main_v20, LnRefIdeal.Read.val_main_v21, LnRefIdeal.Read.val_main_v22, LnRefIdeal.Read.val_main_v23, LnRefIdeal.Read.val_main_cst, LnRefIdeal.Read.val_main_cst_0, LnRefIdeal.Read.val_main_cst_1, LnRefIdeal.Read.val_main_cst_2, LnRefIdeal.Read.val_main_cst_3, norm, mean]

theorem ref_apply2 (x : (⟨S4224x4096, .f32⟩ : BufTy).Contents (Elt Ideal)) (g b : (⟨S1x4096, .f32⟩ : BufTy).Contents (Elt Ideal)) (i : S4224x4096.Idx) :
    LnRefIdeal.Read.val_main_v24 (F := Ideal) x g b i = (LnRefIdeal.Read.val_main_v23 (F := Ideal) x g b i : EReal) := by
  unfold LnRefIdeal.Read.val_main_v24
  generalize LnRefIdeal.Read.val_main_v23 (F := Ideal) x g b = A
  pointwise

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem blk0 (c : Dev nD) (p : Fin cfg0.N) (k : Fin 128) (j : Fin 4096) (l : Fin 4224) (hl : l.val = p.val * 128 + k.val) :
    (show Vec Ideal S128x4096 .f32 from iblk m c 0 p) (ix2 k j) = m ((c : Thread nD τ).loc main_arg0) (ix2 l j) := by
  rw [← V_main_arg0 m c]
  show (V m c main_arg0) (((cfg0.win 0).blk p).view.emb (ix2 k j)) = V m c main_arg0 (ix2 l j)
  generalize V m c main_arg0 = A
  blk_point [idx p]

theorem blk1 (c : Dev nD) (p : Fin cfg0.N) (j : Fin 4096)  :
    (show Vec Ideal S1x4096 .f32 from iblk m c 1 p) (ix2 0 j) = m ((c : Thread nD τ).loc main_arg1) (ix2 0 j) := by
  rw [← V_main_arg1 m c]
  show (V m c main_arg1) (((cfg0.win 1).blk p).view.emb (ix2 0 j)) = V m c main_arg1 (ix2 0 j)
  generalize V m c main_arg1 = A
  blk_point [idx p]

theorem blk2 (c : Dev nD) (p : Fin cfg0.N) (j : Fin 4096)  :
    (show Vec Ideal S1x4096 .f32 from iblk m c 2 p) (ix2 0 j) = m ((c : Thread nD τ).loc main_arg2) (ix2 0 j) := by
  rw [← V_main_arg2 m c]
  show (V m c main_arg2) (((cfg0.win 2).blk p).view.emb (ix2 0 j)) = V m c main_arg2 (ix2 0 j)
  generalize V m c main_arg2 = A
  blk_point [idx p]

theorem point (c : Dev nD) (t : Fin cfg0.N) (j : Fin 128) (l : Fin 4096) (i : S4224x4096.Idx)
    (h0 : (i 0).val = t.val * 128 + j.val) (h1 : (i 1).val = l.val) :
    (k0_pay1 (F := Ideal) (iblk m c 0 t) (iblk m c 1 t) (iblk m c 2 t) (ix2 j l) : EReal) = LnRefIdeal.Read.val_main_v23 (F := Ideal) (m ((c : Thread nD τ).loc main_arg0)) (m ((c : Thread nD τ).loc main_arg1)) (m ((c : Thread nD τ).loc main_arg2)) i := by
  have h1' : i 1 = l := Fin.ext h1
  have hrow : (fun n => (show Vec Ideal S128x4096 .f32 from iblk m c 0 t) (ix2 j n)) = fun n => (m ((c : Thread nD τ).loc main_arg0)) (ix2 (i 0) n) := by
    funext n; exact blk0 m c t j n (i 0) h0
  rw [ref_apply, h1', ← hrow, ← blk1 m c t l, ← blk2 m c t l]
  exact pay1_apply _ _ _ _

theorem point2 (c : Dev nD) (t : Fin cfg0.N) (j : Fin 128) (l : Fin 4096) (i : S4224x4096.Idx)
    (h0 : (i 0).val = t.val * 128 + j.val) (h1 : (i 1).val = l.val) :
    (k0_pay2 (F := Ideal) (iblk m c 0 t) (iblk m c 1 t) (iblk m c 2 t) (ix2 j l) : EReal) = LnRefIdeal.Read.val_main_v24 (F := Ideal) (m ((c : Thread nD τ).loc main_arg0)) (m ((c : Thread nD τ).loc main_arg1)) (m ((c : Thread nD τ).loc main_arg2)) i :=
  ((pay2_apply _ _ _ _).trans (point m c t j l i h0 h1)).trans (ref_apply2 _ _ _ i).symm

theorem final0 (c : Dev nD) : (dats m 0 c).arrAt 3 cfg0.N = LnRefIdeal.Read.val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out3]
  obtain ⟨r, k, rfl⟩ : ∃ (r : Fin 128) (k : Fin 4096), y = ix2 r k := ⟨y 0, y 1, by funext a; match a with | ⟨0, _⟩ => rfl | ⟨1, _⟩ => rfl⟩
  refine point m c t r k _ ?_ ?_
  all_goals blk_simp [idx t] <;> try omega

theorem final1 (c : Dev nD) : (dats m 0 c).arrAt 4 cfg0.N = LnRefIdeal.Read.val_main_v24 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, out4]
  obtain ⟨r, k, rfl⟩ : ∃ (r : Fin 128) (k : Fin 4096), y = ix2 r k := ⟨y 0, y 1, by funext a; match a with | ⟨0, _⟩ => rfl | ⟨1, _⟩ => rfl⟩
  refine point2 m c t r k _ ?_ ?_
  all_goals blk_simp [idx t] <;> try omega

end Cert.LnIdeal.Value
end
-- ==== Proof.Rows.lean ====
/- Rows of several sequences one after another: a row's position in its sequence, and columns moved within a sequence. -/
module

public import Idealize.ShloMosaic.Lib.Pipeline.ValueKit
import Idealize.ShloMosaic.Lib.KernelVsHost

@[expose] public section

noncomputable section

namespace Cert.Rows

open Idealize.ShloMosaic

/-- A row's position in its sequence; the rows added at the end continue the second one. -/
def pos (r : Fin 4224) : ℕ := if 2064 ≤ r.val then r.val - 2064 else r.val

/-- A column moved down by `s` rows within a sequence, with zeros before its beginning. -/
def down (s : ℕ) (x : Fin 4224 → EReal) (r : Fin 4224) : EReal := if s ≤ pos r then x ⟨(r.val + 4224 - s) % 4224, Nat.mod_lt _ (by decide)⟩ else 0

/-- A column moved up by `s` rows within a sequence, with zeros after its end. -/
def up (s : ℕ) (x : Fin 4224 → EReal) (r : Fin 4224) : EReal := if pos r + s < 2064 then x ⟨(r.val + s) % 4224, Nat.mod_lt _ (by decide)⟩ else 0

theorem select_ite (p : Prop) [Decidable p] (a b : EReal) : Scalar.select (if p then 1#1 else 0#1) a b = if p then a else b := by
  split <;> rfl

theorem select_pos : ∀ r : Fin 4224, Scalar.select (IntOp.cmpi CmpIPredicate.sge (BitVec.ofNat 32 r.val) 2064#32) (IntOp.subi (BitVec.ofNat 32 r.val) 2064#32) (BitVec.ofNat 32 r.val) = BitVec.ofNat 32 (pos r) := by decide +kernel

/-- The zero the host pads with. -/
theorem pad_zero : (FloatOps.sitofp FTy.f32 0#32 : Ideal .f32) = (0 : EReal) := sitofp_zero

/-- The row of position `l` of sequence `b`. -/
def row (b : Fin 2) (l : Fin 2064) : Fin 4224 := ⟨b.val * 2064 + l.val, by omega⟩

theorem pos_row (b : Fin 2) (l : Fin 2064) : pos (row b l) = l.val := by
  unfold pos row
  dsimp only
  split <;> omega

theorem row_div (r : Fin 4224) (h : r.val < 4128) : row ⟨r.val / 2064, by omega⟩ ⟨r.val % 2064, by omega⟩ = r :=
  Fin.ext (by show r.val / 2064 * 2064 + r.val % 2064 = r.val; omega)

theorem pos_end (r : Fin 4224) (h : 4128 ≤ r.val) : 2064 ≤ pos r := by
  unfold pos; split <;> omega

theorem end_pos (r : Fin 4224) (h : 2064 ≤ pos r) : 4128 ≤ r.val := by
  unfold pos at h; split at h <;> omega

end Cert.Rows
end
-- ==== Proof.Pooling.lean ====
/- Sums over the window of rows that a pooled position is averaged over, and what undoes them: the windows that double,
   and the differences of two sums over all the later rows. -/
module

public import proofs.«01_k».proof.Proof.Gate
public import proofs.«01_k».proof.Proof.Rows

@[expose] public section

noncomputable section

namespace Cert.Pooling

open Idealize.ShloMosaic
open Cert.Rows (pos up row pos_row)

/-- The sum of a column over the `w` rows from `r` on that lie in the same sequence. -/
def window (w : ℕ) (x : Fin 4224 → EReal) (r : Fin 4224) : EReal :=
  ∑ i ∈ Finset.range w, if pos r + i < 2064 then x ⟨(r.val + i) % 4224, Nat.mod_lt _ (by decide)⟩ else 0

theorem window_one (x : Fin 4224 → EReal) (r : Fin 4224) (h : pos r < 2064) : window 1 x r = x r := by
  unfold window
  rw [Finset.sum_range_one, if_pos (by omega)]
  exact congrArg x (Fin.ext (by show (r.val + 0) % 4224 = r.val; omega))

/-- Past the sequences' ends a window is empty. -/
theorem window_end (w : ℕ) (x : Fin 4224 → EReal) (r : Fin 4224) (h : 2064 ≤ pos r) : window w x r = 0 :=
  Finset.sum_eq_zero fun i _ => if_neg (by omega)

theorem window_one_of_zero (x : Fin 4224 → EReal) (hx : ∀ r, 2064 ≤ pos r → x r = 0) : x = window 1 x := by
  funext r
  by_cases h : pos r < 2064
  · exact (window_one x r h).symm
  · rw [window_end 1 x r (by omega), hx r (by omega)]

/-- How many rows a window of `w` rows holds that ends at position `p`. -/
def count (w p : ℕ) : EReal := FloatOps.sitofp (F := Ideal) .f32 (BitVec.ofNat 32 (min (p + 1) w))

theorem count_eq (w p : ℕ) (h : w < 1000) : count w p = ((min (p + 1) w : ℕ) : ℝ) := by
  unfold count
  show (((BitVec.ofNat 32 (min (p + 1) w)).toInt : ℝ) : EReal) = _
  have e : (BitVec.ofNat 32 (min (p + 1) w)).toInt = ((min (p + 1) w : ℕ) : ℤ) := by
    rw [BitVec.toInt_ofNat']
    simp only [Int.bmod_def]
    omega
  rw [e]; push_cast; rfl

theorem isReal_div_count (w p : ℕ) (h : w < 1000) (h0 : 0 < w) {x : EReal} (hx : Common.IsReal x) : Common.IsReal (Ideal.div x (count w p)) := by
  rw [count_eq w p h, Ideal.div_coe (by have : 0 < min (p + 1) w := by omega
                                        exact_mod_cast this.ne')]
  exact hx.mul ⟨_, rfl⟩

theorem pos_moved (r : Fin 4224) (i : ℕ) (h : pos r + i < 2064) : pos ⟨(r.val + i) % 4224, Nat.mod_lt _ (by decide)⟩ = pos r + i := by
  unfold pos at *
  dsimp only
  split at h <;> rename_i g
  · rw [if_pos (by omega), if_pos g]; omega
  · rw [if_neg (by omega), if_neg g]; omega

/-- The window of twice the length is the window and the window as many rows on. -/
theorem window_double (w : ℕ) (x : Fin 4224 → EReal) (r : Fin 4224) : window (w + w) x r = window w x r + up w (window w x) r := by
  unfold up
  show _ = _ + (if pos r + w < 2064 then window w x ⟨(r.val + w) % 4224, _⟩ else 0)
  have e : window (w + w) x r = window w x r + ∑ i ∈ Finset.range w, if pos r + (w + i) < 2064 then x ⟨(r.val + (w + i)) % 4224, Nat.mod_lt _ (by decide)⟩ else 0 :=
    Finset.sum_range_add _ w w
  rw [e]
  refine congrArg (window w x r + ·) ?_
  split
  · next h =>
    unfold window
    rw [pos_moved r w h]
    refine Finset.sum_congr rfl fun i _ => ?_
    by_cases g : pos r + w + i < 2064
    · rw [if_pos g, if_pos (by omega)]
      exact congrArg x (Fin.ext (by show (r.val + (w + i)) % 4224 = ((r.val + w) % 4224 + i) % 4224; omega))
    · rw [if_neg g, if_neg (by omega)]
  · exact Finset.sum_eq_zero fun i _ => if_neg (by omega)

/-- Past the sequences a window sees only itself. -/
theorem window_row (w : ℕ) (x : Fin 4224 → EReal) (b : Fin 2) (l : Fin 2064) :
    window w x (row b l) = ∑ i ∈ Finset.range w, if h : l.val + i < 2064 then x (row b ⟨l.val + i, h⟩) else 0 := by
  unfold window
  rw [pos_row]
  refine Finset.sum_congr rfl fun i _ => ?_
  by_cases h : l.val + i < 2064
  · rw [if_pos h, dif_pos h]
    exact congrArg x (Fin.ext (by show (b.val * 2064 + l.val + i) % 4224 = b.val * 2064 + (l.val + i); omega))
  · rw [if_neg h, dif_neg h]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Of real numbers: the sum over all later positions, less the same sum `w` positions on, is the sum over a window. -/
theorem suffix_sub (w : ℕ) (a : Fin 2064 → EReal) (ha : ∀ i, Common.IsReal (a i)) (l : Fin 2064) :
    (∑ k : Fin 2064, if h : l.val + k.val < 2064 then a ⟨l.val + k.val, h⟩ + (if g : w + (l.val + k.val) < 2064 then -a ⟨w + (l.val + k.val), g⟩ else 0) else 0)
      = ∑ i ∈ Finset.range w, if h : l.val + i < 2064 then a ⟨l.val + i, h⟩ else 0 := by
  choose A hA using ha
  obtain ⟨B, hB⟩ : ∃ B : ℕ → ℝ, B = fun n => if h : n < 2064 then A ⟨n, h⟩ else 0 := ⟨_, rfl⟩
  have hB1 : ∀ n (h : n < 2064), B n = A ⟨n, h⟩ := fun n h => by rw [hB]; exact dif_pos h
  have hB0 : ∀ n, ¬ n < 2064 → B n = 0 := fun n h => by rw [hB]; exact dif_neg h
  have hl : ∀ k : Fin 2064, (if h : l.val + k.val < 2064 then a ⟨l.val + k.val, h⟩ + (if g : w + (l.val + k.val) < 2064 then -a ⟨w + (l.val + k.val), g⟩ else 0) else 0)
      = ((B (l.val + k.val) - B (l.val + (w + k.val)) : ℝ) : EReal) := by
    intro k
    have e : l.val + (w + k.val) = w + (l.val + k.val) := by omega
    by_cases h : l.val + k.val < 2064
    · rw [dif_pos h, hA, hB1 _ h, e]
      by_cases g : w + (l.val + k.val) < 2064
      · rw [dif_pos g, hA, hB1 _ g, EReal.coe_sub, sub_eq_add_neg]
      · rw [dif_neg g, hB0 _ g, add_zero, sub_zero]
    · rw [dif_neg h, hB0 _ h, hB0 _ (by omega), sub_zero, EReal.coe_zero]
  have hr : ∀ i, (if h : l.val + i < 2064 then a ⟨l.val + i, h⟩ else 0) = ((B (l.val + i) : ℝ) : EReal) := by
    intro i
    by_cases h : l.val + i < 2064
    · rw [dif_pos h, hA, hB1 _ h]
    · rw [dif_neg h, hB0 _ h, EReal.coe_zero]
  rw [Finset.sum_congr rfl fun k _ => hl k, Finset.sum_congr rfl fun i _ => hr i, ← coe_sum, ← coe_sum]
  refine congrArg _ ?_
  rw [Fin.sum_univ_eq_sum_range (fun k => B (l.val + k) - B (l.val + (w + k))) 2064, Finset.sum_sub_distrib]
  have e1 := Finset.sum_range_add (fun k => B (l.val + k)) 2064 w
  have e2 := Finset.sum_range_add (fun k => B (l.val + k)) w 2064
  have e3 : ∑ i ∈ Finset.range w, B (l.val + (2064 + i)) = 0 := Finset.sum_eq_zero fun i _ => hB0 _ (by omega)
  rw [Nat.add_comm w 2064] at e2
  linarith

theorem foldl_add {n : ℕ} (g : Fin n → EReal) (v : EReal) : (List.finRange n).foldl (fun r i => r + g i) v = v + ∑ i, g i := by
  have h : ∀ (L : List (Fin n)) (v : EReal), L.foldl (fun r i => r + g i) v = v + (L.map g).sum := by
    intro L
    induction L with
    | nil => intro v; simp
    | cons a L ih => intro v; rw [List.foldl_cons, ih, List.map_cons, List.sum_cons, add_assoc]
  rw [h, Fin.sum_univ_def]

/-- The host's sum over the later positions of the middle axis. -/
theorem suffix_sum {n0 n1 n2 : ℕ} (h : (⟨3, ![n0, n1, n2]⟩ : Shape).ReduceWindows ![1, n1, 1] ![1, 1, 1] ![0, 0, 0] ![0, n1 - 1, 0] ⟨3, ![n0, n1, n2]⟩)
    (x : (⟨3, ![n0, n1, n2]⟩ : Shape).Idx → EReal) (b : Fin n0) (l : Fin n1) (n : Fin n2) :
    Ideal.hostReduceWindowAdd ![1, n1, 1] ![1, 1, 1] ![0, 0, 0] ![0, n1 - 1, 0] h x 0 (ix3 b l n)
      = ∑ k : Fin n1, if h : l.val + k.val < n1 then x (ix3 b ⟨l.val + k.val, h⟩ n) else 0 := by
  unfold Ideal.hostReduceWindowAdd Host.reduceWindow
  refine (foldl_add _ _).trans ((zero_add _).trans ?_)
  have term : ∀ (p : (⟨3, ![1, n1, 1]⟩ : Shape).Idx) (_ : Decidable (∀ a : Fin 3, ![0, 0, 0] a ≤ (ix3 b l n a).val * ![1, 1, 1] a + (p a).val ∧ (ix3 b l n a).val * ![1, 1, 1] a + (p a).val - ![0, 0, 0] a < ![n0, n1, n2] a)),
      (if hin : ∀ a : Fin 3, ![0, 0, 0] a ≤ (ix3 b l n a).val * ![1, 1, 1] a + (p a).val ∧ (ix3 b l n a).val * ![1, 1, 1] a + (p a).val - ![0, 0, 0] a < ![n0, n1, n2] a
        then x (fun a => ⟨(ix3 b l n a).val * ![1, 1, 1] a + (p a).val - ![0, 0, 0] a, (hin a).2⟩) else 0)
      = if h : l.val + (p 1).val < n1 then x (ix3 b ⟨l.val + (p 1).val, h⟩ n) else 0 := by
    intro p _
    have p0 : (p 0).val = 0 := Nat.lt_one_iff.mp (p 0).isLt
    have p2 : (p 2).val = 0 := Nat.lt_one_iff.mp (p 2).isLt
    by_cases g : l.val + (p 1).val < n1
    · rw [dif_pos g]
      refine (dif_pos ?_).trans (congrArg x ?_)
      · intro a
        match a with
        | ⟨0, _⟩ => exact ⟨Nat.zero_le _, by show b.val * 1 + (p 0).val - 0 < n0; omega⟩
        | ⟨1, _⟩ => exact ⟨Nat.zero_le _, by show l.val * 1 + (p 1).val - 0 < n1; omega⟩
        | ⟨2, _⟩ => exact ⟨Nat.zero_le _, by show n.val * 1 + (p 2).val - 0 < n2; omega⟩
      · funext a
        match a with
        | ⟨0, _⟩ => exact Fin.ext (by show b.val * 1 + (p 0).val - 0 = b.val; omega)
        | ⟨1, _⟩ => exact Fin.ext (by show l.val * 1 + (p 1).val - 0 = l.val + (p 1).val; omega)
        | ⟨2, _⟩ => exact Fin.ext (by show n.val * 1 + (p 2).val - 0 = n.val; omega)
    · rw [dif_neg g]
      exact dif_neg fun hin => g (by have := (hin 1).2; change l.val * 1 + (p 1).val - 0 < n1 at this; omega)
  refine (Finset.sum_congr rfl fun i _ => term ((⟨3, ![1, n1, 1]⟩ : Shape).rowMajor.symm i) _).trans ?_
  refine (Equiv.sum_comp ((⟨3, ![1, n1, 1]⟩ : Shape).rowMajor.symm) (fun p => if h : l.val + (p 1).val < n1 then x (ix3 b ⟨l.val + (p 1).val, h⟩ n) else 0)).trans ?_
  refine (Fintype.sum_bijective (fun k : Fin n1 => (ix3 0 k 0 : (⟨3, ![1, n1, 1]⟩ : Shape).Idx)) ⟨fun a c e => congrFun e 1, fun p => ⟨p 1, ?_⟩⟩ _ _ fun k => rfl).symm
  funext a
  match a with
  | ⟨0, _⟩ => exact Fin.ext (Nat.lt_one_iff.mp (p 0).isLt).symm
  | ⟨1, _⟩ => rfl
  | ⟨2, _⟩ => exact Fin.ext (Nat.lt_one_iff.mp (p 2).isLt).symm

end Cert.Pooling
end
-- ==== Proof.Finite.lean ====
module

public import proofs.«01_k».proof.Proof.Gate

@[expose] public section

namespace Cert.Common

open Idealize.ShloMosaic

/-- A number whose absolute value is below the wide word of infinity is real. -/
theorem isReal_of_lt_wide {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

end Cert.Common
end
-- ==== Proof.PoolValue.lean ====
/- The pooling's gradient: what the kernel leaves in its result is what the reference computes, element by element, over the
   extended reals. The kernel sums the rows a window reaches by doubling, the reference takes the difference of two sums
   over all the later rows: they agree where every element is a real number. -/
module

public import proofs.«01_k».proof.Proof.Gen.PoolIdeal.Value
public import proofs.«01_k».proof.Proof.Gen.PoolRefIdeal.Run
public import proofs.«01_k».proof.Proof.Gen.PoolRefIdeal.Read
public import proofs.«01_k».proof.Pre_pool_finite
public import Idealize.ShloMosaic.Lib.Pipeline.ValueKit
import Idealize.ShloMosaic.Lib.Pipeline.ReadBack
import Idealize.ShloMosaic.Lib.KernelVsHost
import Idealize.ShloMosaic.Lib.ReduceAll
public import proofs.«01_k».proof.Proof.Rows
public import proofs.«01_k».proof.Proof.Pooling
public import proofs.«01_k».proof.Proof.Finite

@[expose] public section

set_option maxRecDepth 16384

noncomputable section

namespace Cert.PoolIdeal.Value

open Cert.PoolIdeal Cert.PoolIdeal.Gen Idealize.ShloMosaic Idealize.ShloMosaic.TcCoe Idealize.SL.Sem
open Idealize.ShloMosaic.Pipeline (Dat)
open Cert.Rows (pos up row pos_row row_div pad_zero select_ite select_pos pos_end end_pos)
open Cert.Pooling (window count window_double window_end window_one_of_zero window_row suffix_sum suffix_sub isReal_div_count)

theorem pay2_apply (j : S4224x1.Idx) : k0_pay2 j = BitVec.ofNat 32 (pos (j 0)) := by
  pointwise [k0_pay2]
  exact select_pos (j 0)

theorem pay3_apply (x : Vec Ideal S4224x128 .f32) (j : S4224x128.Idx) : k0_pay3 (F := Ideal) x j = (x j : EReal) := by
  pointwise [k0_pay3]

/-- The rows and, added to them, the rows `w` on. -/
def stage (w rot : BitVec 32) (A : FVec Ideal S4224x128 .f32) : FVec Ideal S4224x128 .f32 :=
  addf A (select (broadcastTo S4224x128 (shapeCast S4224x1 (cmpi .slt (addi k0_pay2 (broadcast S4224x1 w)) (broadcast S4224x1 2064#32)) shapeCasts_S4224x1_S4224x1) broadcasts_S4224x1_S4224x128)
    (dynamicRotate 0 rot none A rotates_S4224x128_d0) (broadcast S4224x128 (Scalar.ofBits .f32 0x00000000#32)))

theorem slt_pos : ∀ (s : Fin 9) (r : Fin 4224), IntOp.cmpi .slt (IntOp.addi (BitVec.ofNat 32 (pos r)) (BitVec.ofNat 32 s.val)) 2064#32 = if pos r + s.val < 2064 then 1#1 else 0#1 := by decide +kernel

set_option maxRecDepth 200000 in
theorem stage1 (A : FVec Ideal S4224x128 .f32) (k : Fin 128) (r : Fin 4224) : stage 1#32 4223#32 A (ix2 r k) = (A (ix2 r k) + up 1 (fun r => A (ix2 r k)) r : EReal) := by
  unfold stage
  generalize hP : k0_pay2 = P
  pointwise
  subst hP
  rw [pay2_apply]
  refine congrArg (A (ix2 r k) + · : EReal → EReal) ((congrArg (fun c => Scalar.select c _ _) (slt_pos 1 r)).trans ((select_ite _ _ _).trans ?_))
  unfold up
  have : r.val + 4224 - 4223 = r.val + 1 := by omega
  simp only [this]; rfl

set_option maxRecDepth 200000 in
theorem stage2 (A : FVec Ideal S4224x128 .f32) (k : Fin 128) (r : Fin 4224) : stage 2#32 4222#32 A (ix2 r k) = (A (ix2 r k) + up 2 (fun r => A (ix2 r k)) r : EReal) := by
  unfold stage
  generalize hP : k0_pay2 = P
  pointwise
  subst hP
  rw [pay2_apply]
  refine congrArg (A (ix2 r k) + · : EReal → EReal) ((congrArg (fun c => Scalar.select c _ _) (slt_pos 2 r)).trans ((select_ite _ _ _).trans ?_))
  unfold up
  have : r.val + 4224 - 4222 = r.val + 2 := by omega
  simp only [this]; rfl

set_option maxRecDepth 200000 in
theorem stage4 (A : FVec Ideal S4224x128 .f32) (k : Fin 128) (r : Fin 4224) : stage 4#32 4220#32 A (ix2 r k) = (A (ix2 r k) + up 4 (fun r => A (ix2 r k)) r : EReal) := by
  unfold stage
  generalize hP : k0_pay2 = P
  pointwise
  subst hP
  rw [pay2_apply]
  refine congrArg (A (ix2 r k) + · : EReal → EReal) ((congrArg (fun c => Scalar.select c _ _) (slt_pos 4 r)).trans ((select_ite _ _ _).trans ?_))
  unfold up
  have : r.val + 4224 - 4220 = r.val + 4 := by omega
  simp only [this]; rfl

set_option maxRecDepth 200000 in
theorem stage8 (A : FVec Ideal S4224x128 .f32) (k : Fin 128) (r : Fin 4224) : stage 8#32 4216#32 A (ix2 r k) = (A (ix2 r k) + up 8 (fun r => A (ix2 r k)) r : EReal) := by
  unfold stage
  generalize hP : k0_pay2 = P
  pointwise
  subst hP
  rw [pay2_apply]
  refine congrArg (A (ix2 r k) + · : EReal → EReal) ((congrArg (fun c => Scalar.select c _ _) (slt_pos 8 r)).trans ((select_ite _ _ _).trans ?_))
  unfold up
  have : r.val + 4224 - 4216 = r.val + 8 := by omega
  simp only [this]; rfl

def s2 (A : FVec Ideal S4224x128 .f32) : FVec Ideal S4224x128 .f32 := stage 1#32 4223#32 A
def s4 (A : FVec Ideal S4224x128 .f32) : FVec Ideal S4224x128 .f32 := stage 2#32 4222#32 (s2 A)
def s8 (A : FVec Ideal S4224x128 .f32) : FVec Ideal S4224x128 .f32 := stage 4#32 4220#32 (s4 A)
def s16 (A : FVec Ideal S4224x128 .f32) : FVec Ideal S4224x128 .f32 := stage 8#32 4216#32 (s8 A)

section
variable (A : FVec Ideal S4224x128 .f32) (k : Fin 128) (hA : ∀ r, 2064 ≤ pos r → A (ix2 r k) = (0 : EReal))
include hA

theorem s2_apply (r : Fin 4224) : s2 A (ix2 r k) = window 2 (fun r => A (ix2 r k)) r := by
  have e : (fun r => A (ix2 r k) : Fin 4224 → EReal) = window 1 (fun r => A (ix2 r k)) := window_one_of_zero _ hA
  refine (stage1 A k r).trans ((window_double 1 _ r).trans ?_).symm
  rw [← e]

theorem s4_apply (r : Fin 4224) : s4 A (ix2 r k) = window 4 (fun r => A (ix2 r k)) r := by
  refine (stage2 (s2 A) k r).trans ((window_double 2 _ r).trans ?_).symm
  simp only [s2_apply A k hA]

theorem s8_apply (r : Fin 4224) : s8 A (ix2 r k) = window 8 (fun r => A (ix2 r k)) r := by
  refine (stage4 (s4 A) k r).trans ((window_double 4 _ r).trans ?_).symm
  simp only [s4_apply A k hA]

theorem s16_apply (r : Fin 4224) : s16 A (ix2 r k) = window 16 (fun r => A (ix2 r k)) r := by
  refine (stage8 (s8 A) k r).trans ((window_double 8 _ r).trans ?_).symm
  simp only [s8_apply A k hA]
end

/-- The number of the group of columns a point works on, as the kernel forms it. -/
def grp (i : grid0.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 4#32 0#32)) (Scalar.extui (Scalar.cmpi .slt 4#32 0#32)))) (Scalar.cmpi .ne (Scalar.remsi (BitVec.ofNat 32 (i 0).val) 4#32) 0#32)) (Scalar.subi (Scalar.divsi (BitVec.ofNat 32 (i 0).val) 4#32) 1#32) (Scalar.divsi (BitVec.ofNat 32 (i 0).val) 4#32)

theorem grp_eq : ∀ t : Fin cfg0.N, grp (grid0.coords t) = BitVec.ofNat 32 (t.val / 4) :=
  (by decide +kernel : ∀ t : Fin grid0.N, _)

/-- The length of the window of a group of columns. -/
def wide (g : ℕ) : ℕ := 2 ^ (g + 1)

theorem count_word : ∀ (g : Fin 4) (r : Fin 4224), IntOp.minsi (IntOp.addi (BitVec.ofNat 32 (pos r)) 1#32) (Scalar.shli 2#32 (BitVec.ofNat 32 g.val)) = BitVec.ofNat 32 (min (pos r + 1) (wide g.val)) := by decide +kernel

theorem pay4_eq (i : grid0.Coords) (v : Vec Ideal S4224x128 .f32) : k0_pay4 (F := Ideal) i v
    = divf (k0_pay3 v) (broadcastTo S4224x128 (sitofp .f32 (minsi (addi k0_pay2 (broadcast S4224x1 1#32)) (broadcast S4224x1 (Scalar.shli 2#32 (grp i))))) broadcasts_S4224x1_S4224x128) := rfl

theorem pay4_apply (i : grid0.Coords) (g : Fin 4) (hg : grp i = BitVec.ofNat 32 g.val) (v : Vec Ideal S4224x128 .f32) (j : S4224x128.Idx) : k0_pay4 (F := Ideal) i v j = Ideal.div (v j) (count (wide g.val) (pos (j 0))) := by
  rw [pay4_eq, hg]
  pointwise
  rw [pay2_apply, pay3_apply]
  refine congrArg (Ideal.div (v j)) ?_
  exact congrArg (FloatOps.sitofp (F := Ideal) .f32) (count_word g (j 0))

def chosen (v : BitVec 32) (A : FVec Ideal S4224x128 .f32) : FVec Ideal S4224x128 .f32 :=
  Scalar.select (Scalar.cmpi .eq v 0#32) (s2 A) (Scalar.select (Scalar.cmpi .eq v 1#32) (s4 A) (Scalar.select (Scalar.cmpi .eq v 2#32) (s8 A) (s16 A)))

theorem out_eq (i : grid0.Coords) (x0 : Vec Ideal S4224x128 .f32) : out0_1 (F := Ideal) i x0 = truncf .bf16 (subf (chosen (grp i) (k0_pay4 i x0)) (k0_pay3 x0)) bitsLt_bf16_f32 := by
  have h : out0_1 (F := Ideal) i x0 = k0_pay1 (grp i) k0_pay2 (k0_pay3 x0) (k0_pay4 i x0) (k0_pay5 i x0) := by frame_out [grp]
  rw [h]
  rfl

theorem out_apply (i : grid0.Coords) (g : Fin 4) (hg : grp i = BitVec.ofNat 32 g.val) (x0 : Vec Ideal S4224x128 .f32) (k : Fin 128) (hx : ∀ r, 2064 ≤ pos r → x0 (ix2 r k) = (0 : EReal)) (r : Fin 4224) :
    out0_1 (F := Ideal) i x0 (ix2 r k) = (window (wide g.val) (fun r => Ideal.div (x0 (ix2 r k)) (count (wide g.val) (pos r))) r - x0 (ix2 r k) : EReal) := by
  have hA : ∀ r, k0_pay4 (F := Ideal) i x0 (ix2 r k) = Ideal.div (x0 (ix2 r k)) (count (wide g.val) (pos r)) := fun r => pay4_apply i g hg x0 (ix2 r k)
  have hz : ∀ r, 2064 ≤ pos r → k0_pay4 (F := Ideal) i x0 (ix2 r k) = (0 : EReal) := by
    intro r h
    rw [hA, hx r h]
    have hw : wide g.val < 1000 := by unfold wide; have := g.isLt; interval_cases h : g.val <;> decide
    have h0 : 0 < wide g.val := by unfold wide; positivity
    rw [Pooling.count_eq _ _ hw, Ideal.div_coe (by have : 0 < min (pos r + 1) (wide g.val) := by omega
                                                   exact_mod_cast this.ne'), zero_mul]
  rw [out_eq, hg]
  simp only [← hA]
  rw [← pay3_apply x0 (ix2 r k)]
  generalize k0_pay3 (F := Ideal) x0 = D
  generalize k0_pay4 (F := Ideal) i x0 = A at *
  have e : ∀ B : FVec Ideal S4224x128 .f32, truncf .bf16 (subf B D) bitsLt_bf16_f32 (ix2 r k) = (B (ix2 r k) - D (ix2 r k) : EReal) := fun B => by pointwise
  rw [e]
  refine congrArg (fun a : EReal => a - D (ix2 r k)) ?_
  match g with
  | ⟨0, _⟩ => exact s2_apply A k hz r
  | ⟨1, _⟩ => exact s4_apply A k hz r
  | ⟨2, _⟩ => exact s8_apply A k hz r
  | ⟨3, _⟩ => exact s16_apply A k hz r

/-! The reference's values at a position of a sequence. -/

/-- Column `n` of the gradient over all rows, with zeros in the rows added at the end. -/
def dcol (d : (⟨S2x2064x2048, .f32⟩ : BufTy).Contents (Elt Ideal)) (n : Fin 2048) (r : Fin 4224) : EReal := if h : r.val < 4128 then d (ix3 ⟨r.val / 2064, by omega⟩ ⟨r.val % 2064, by omega⟩ n) else 0

theorem dcol_row (d : (⟨S2x2064x2048, .f32⟩ : BufTy).Contents (Elt Ideal)) (n : Fin 2048) (b : Fin 2) (l : Fin 2064) : dcol d n (row b l) = d (ix3 b l n) := by
  have h : (row b l).val < 4128 := by show b.val * 2064 + l.val < 4128; omega
  refine (dif_pos h).trans (congrArg₂ (fun b l => d (ix3 b l n)) (Fin.ext ?_) (Fin.ext ?_))
  · show (b.val * 2064 + l.val) / 2064 = b.val; omega
  · show (b.val * 2064 + l.val) % 2064 = l.val; omega

theorem dcol_end (d : (⟨S2x2064x2048, .f32⟩ : BufTy).Contents (Elt Ideal)) (n : Fin 2048) (r : Fin 4224) (h : 4128 ≤ r.val) : dcol d n r = 0 := dif_neg (by omega)

/-- Column `n` of the gradient, each row over the number of rows its window holds. -/
def over (w : ℕ) (d : (⟨S2x2064x2048, .f32⟩ : BufTy).Contents (Elt Ideal)) (n : Fin 2048) (r : Fin 4224) : EReal := Ideal.div (dcol d n r) (count w (pos r))

/-- Column `n` of the gradient of the pooling's input. -/
def back (d : (⟨S2x2064x2048, .f32⟩ : BufTy).Contents (Elt Ideal)) (n : Fin 2048) (r : Fin 4224) : EReal :=
  window (wide (n.val / 512)) (over (wide (n.val / 512)) d n) r - dcol d n r

theorem back_end (d : (⟨S2x2064x2048, .f32⟩ : BufTy).Contents (Elt Ideal)) (n : Fin 2048) (r : Fin 4224) (h : 4128 ≤ r.val) : back d n r = 0 := by
  unfold back; rw [window_end _ _ r (pos_end r h), dcol_end d n r h, sub_zero]

section
open PoolRefIdeal.Read
variable (d : (⟨S2x2064x2048, .f32⟩ : BufTy).Contents (Elt Ideal))

theorem word_count : ∀ (g : Fin 4) (l : Fin 2064), IntOp.minsi (IntOp.addi 1#32 (BitVec.ofNat 32 l.val)) (BitVec.ofNat 32 (wide g.val)) = BitVec.ofNat 32 (min (l.val + 1) (wide g.val)) := by decide +kernel

theorem col (g : Fin 4) (q : Fin 512) : g.val * 512 + q.val < 2048 := by omega

theorem word_zero : Ideal.ofBits .f32 0x00000000#32 = 0 := by simp [Ideal.ofBits, Ideal.ieee]

theorem sum_later (A : FVec Ideal PoolRefIdeal.S2x2064x512 .f32) (z : FVec Ideal PoolRefIdeal.S_ .f32) (hz : ∀ j, z j = (0 : EReal)) (b : Fin 2) (l : Fin 2064) (q : Fin 512) :
    Host.reduceWindowAdd (F := Ideal) ![1, 2064, 1] ![1, 1, 1] ![0, 0, 0] ![0, 2063, 0] A z PoolRefIdeal.Gen.reduceWindows_S2x2064x512_S2x2064x512_w1s1p0_0_w2064s1p0_2063_w1s1p0_0 PoolRefIdeal.Gen.h_S_ (ix3 b l q)
      = ∑ k : Fin 2064, if h : l.val + k.val < 2064 then A (ix3 b ⟨l.val + k.val, h⟩ q) else 0 := by
  unfold Host.reduceWindowAdd
  rw [Ideal.hostReduceWindowAdd_def, hz]
  exact suffix_sum PoolRefIdeal.Gen.reduceWindows_S2x2064x512_S2x2064x512_w1s1p0_0_w2064s1p0_2063_w1s1p0_0 A b l q

theorem ref_over0 (b : Fin 2) (l : Fin 2064) (q : Fin 512) : val_main_v120 (F := Ideal) d (ix3 b l q) = over 2 d ⟨q.val, by omega⟩ (row b l) := by
  unfold over
  rw [dcol_row, pos_row]
  pointwise [val_main_v120, val_main_v79, val_main_v78, val_main_v119, val_main_v17, val_main_v15, val_main_v14, val_main_v13, val_main_v12, val_main_v11, val_main_v10, val_main_c, val_main_c_2, val_main_v0]
  exact congrArg (Ideal.div (d (ix3 b l ⟨q.val, by omega⟩))) (congrArg (FloatOps.sitofp (F := Ideal) .f32) (word_count 0 l))

theorem ref_diff0 (b : Fin 2) (l : Fin 2064) (q : Fin 512) : val_main_v125 (F := Ideal) d (ix3 b l q)
    = (over 2 d ⟨q.val, by omega⟩ (row b l) + (if g : 2 + l.val < 2064 then -over 2 d ⟨q.val, by omega⟩ (row b ⟨2 + l.val, g⟩) else 0) : EReal) := by
  have h := fun b l => ref_over0 d b l q
  unfold val_main_v125 val_main_v124 val_main_v122 val_main_v121 val_main_cst_21
  generalize val_main_v120 (F := Ideal) d = A at h
  pointwise
  simp only [h]

theorem ref_sum0 (b : Fin 2) (l : Fin 2064) (q : Fin 512) (hr : ∀ i, Common.IsReal (d i)) : val_main_v126 (F := Ideal) d (ix3 b l q)
    = window 2 (over 2 d ⟨q.val, by omega⟩) (row b l) := by
  have h := fun b l => ref_diff0 d b l q
  unfold val_main_v126 val_main_call7_call0_v0 val_main_call7_call0_cst
  generalize val_main_v125 (F := Ideal) d = A at h
  rw [window_row]
  refine Eq.trans ?_ (suffix_sub 2 (fun l => over 2 d ⟨q.val, by omega⟩ (row b l)) (fun l => ?_) l)
  · refine (sum_later A _ (fun _ => word_zero) b l q).trans ?_
    simp only [h]
  · unfold over
    rw [dcol_row]
    exact isReal_div_count _ _ (by decide) (by decide) (hr _)

theorem ref_back0 (b : Fin 2) (l : Fin 2064) (q : Fin 512) : val_main_v129 (F := Ideal) d (ix4 b l 0 q) = (-d (ix3 b l ⟨q.val, by omega⟩) + val_main_v126 (F := Ideal) d (ix3 b l q) : EReal) := by
  unfold val_main_v129 val_main_v128 val_main_v127 val_main_v118 val_main_v117 val_main_v116 val_main_v107 val_main_v106 val_main_v105 val_main_v96 val_main_v95 val_main_v94 val_main_v77 val_main_v0 val_main_cst_16 val_main_cst_18 val_main_cst_20 val_main_cst_22
  generalize val_main_v93 (F := Ideal) d = A3
  generalize val_main_v104 (F := Ideal) d = A2
  generalize val_main_v115 (F := Ideal) d = A1
  generalize val_main_v126 (F := Ideal) d = A0
  pointwise

theorem ref_over1 (b : Fin 2) (l : Fin 2064) (q : Fin 512) : val_main_v109 (F := Ideal) d (ix3 b l q) = over 4 d ⟨512 + q.val, by omega⟩ (row b l) := by
  unfold over
  rw [dcol_row, pos_row]
  pointwise [val_main_v109, val_main_v81, val_main_v80, val_main_v108, val_main_v34, val_main_v32, val_main_v31, val_main_v30, val_main_v29, val_main_v28, val_main_v27, val_main_c_5, val_main_c_6, val_main_v0]
  exact congrArg (Ideal.div (d (ix3 b l ⟨512 + q.val, by omega⟩))) (congrArg (FloatOps.sitofp (F := Ideal) .f32) (word_count 1 l))

theorem ref_diff1 (b : Fin 2) (l : Fin 2064) (q : Fin 512) : val_main_v114 (F := Ideal) d (ix3 b l q)
    = (over 4 d ⟨512 + q.val, by omega⟩ (row b l) + (if g : 4 + l.val < 2064 then -over 4 d ⟨512 + q.val, by omega⟩ (row b ⟨4 + l.val, g⟩) else 0) : EReal) := by
  have h := fun b l => ref_over1 d b l q
  unfold val_main_v114 val_main_v113 val_main_v111 val_main_v110 val_main_cst_19
  generalize val_main_v109 (F := Ideal) d = A at h
  pointwise
  simp only [h]

theorem ref_sum1 (b : Fin 2) (l : Fin 2064) (q : Fin 512) (hr : ∀ i, Common.IsReal (d i)) : val_main_v115 (F := Ideal) d (ix3 b l q)
    = window 4 (over 4 d ⟨512 + q.val, by omega⟩) (row b l) := by
  have h := fun b l => ref_diff1 d b l q
  unfold val_main_v115 val_main_call6_call0_v0 val_main_call6_call0_cst
  generalize val_main_v114 (F := Ideal) d = A at h
  rw [window_row]
  refine Eq.trans ?_ (suffix_sub 4 (fun l => over 4 d ⟨512 + q.val, by omega⟩ (row b l)) (fun l => ?_) l)
  · refine (sum_later A _ (fun _ => word_zero) b l q).trans ?_
    simp only [h]
  · unfold over
    rw [dcol_row]
    exact isReal_div_count _ _ (by decide) (by decide) (hr _)

theorem ref_back1 (b : Fin 2) (l : Fin 2064) (q : Fin 512) : val_main_v129 (F := Ideal) d (ix4 b l 1 q) = (-d (ix3 b l ⟨512 + q.val, by omega⟩) + val_main_v115 (F := Ideal) d (ix3 b l q) : EReal) := by
  unfold val_main_v129 val_main_v128 val_main_v127 val_main_v118 val_main_v117 val_main_v116 val_main_v107 val_main_v106 val_main_v105 val_main_v96 val_main_v95 val_main_v94 val_main_v77 val_main_v0 val_main_cst_16 val_main_cst_18 val_main_cst_20 val_main_cst_22
  generalize val_main_v93 (F := Ideal) d = A3
  generalize val_main_v104 (F := Ideal) d = A2
  generalize val_main_v115 (F := Ideal) d = A1
  generalize val_main_v126 (F := Ideal) d = A0
  pointwise

theorem ref_over2 (b : Fin 2) (l : Fin 2064) (q : Fin 512) : val_main_v98 (F := Ideal) d (ix3 b l q) = over 8 d ⟨1024 + q.val, by omega⟩ (row b l) := by
  unfold over
  rw [dcol_row, pos_row]
  pointwise [val_main_v98, val_main_v83, val_main_v82, val_main_v97, val_main_v51, val_main_v49, val_main_v48, val_main_v47, val_main_v46, val_main_v45, val_main_v44, val_main_c_9, val_main_c_10, val_main_v0]
  exact congrArg (Ideal.div (d (ix3 b l ⟨1024 + q.val, by omega⟩))) (congrArg (FloatOps.sitofp (F := Ideal) .f32) (word_count 2 l))

theorem ref_diff2 (b : Fin 2) (l : Fin 2064) (q : Fin 512) : val_main_v103 (F := Ideal) d (ix3 b l q)
    = (over 8 d ⟨1024 + q.val, by omega⟩ (row b l) + (if g : 8 + l.val < 2064 then -over 8 d ⟨1024 + q.val, by omega⟩ (row b ⟨8 + l.val, g⟩) else 0) : EReal) := by
  have h := fun b l => ref_over2 d b l q
  unfold val_main_v103 val_main_v102 val_main_v100 val_main_v99 val_main_cst_17
  generalize val_main_v98 (F := Ideal) d = A at h
  pointwise
  simp only [h]

theorem ref_sum2 (b : Fin 2) (l : Fin 2064) (q : Fin 512) (hr : ∀ i, Common.IsReal (d i)) : val_main_v104 (F := Ideal) d (ix3 b l q)
    = window 8 (over 8 d ⟨1024 + q.val, by omega⟩) (row b l) := by
  have h := fun b l => ref_diff2 d b l q
  unfold val_main_v104 val_main_call5_call0_v0 val_main_call5_call0_cst
  generalize val_main_v103 (F := Ideal) d = A at h
  rw [window_row]
  refine Eq.trans ?_ (suffix_sub 8 (fun l => over 8 d ⟨1024 + q.val, by omega⟩ (row b l)) (fun l => ?_) l)
  · refine (sum_later A _ (fun _ => word_zero) b l q).trans ?_
    simp only [h]
  · unfold over
    rw [dcol_row]
    exact isReal_div_count _ _ (by decide) (by decide) (hr _)

theorem ref_back2 (b : Fin 2) (l : Fin 2064) (q : Fin 512) : val_main_v129 (F := Ideal) d (ix4 b l 2 q) = (-d (ix3 b l ⟨1024 + q.val, by omega⟩) + val_main_v104 (F := Ideal) d (ix3 b l q) : EReal) := by
  unfold val_main_v129 val_main_v128 val_main_v127 val_main_v118 val_main_v117 val_main_v116 val_main_v107 val_main_v106 val_main_v105 val_main_v96 val_main_v95 val_main_v94 val_main_v77 val_main_v0 val_main_cst_16 val_main_cst_18 val_main_cst_20 val_main_cst_22
  generalize val_main_v93 (F := Ideal) d = A3
  generalize val_main_v104 (F := Ideal) d = A2
  generalize val_main_v115 (F := Ideal) d = A1
  generalize val_main_v126 (F := Ideal) d = A0
  pointwise

theorem ref_over3 (b : Fin 2) (l : Fin 2064) (q : Fin 512) : val_main_v87 (F := Ideal) d (ix3 b l q) = over 16 d ⟨1536 + q.val, by omega⟩ (row b l) := by
  unfold over
  rw [dcol_row, pos_row]
  pointwise [val_main_v87, val_main_v85, val_main_v84, val_main_v86, val_main_v68, val_main_v66, val_main_v65, val_main_v64, val_main_v63, val_main_v62, val_main_v61, val_main_c_13, val_main_c_14, val_main_v0]
  exact congrArg (Ideal.div (d (ix3 b l ⟨1536 + q.val, by omega⟩))) (congrArg (FloatOps.sitofp (F := Ideal) .f32) (word_count 3 l))

theorem ref_diff3 (b : Fin 2) (l : Fin 2064) (q : Fin 512) : val_main_v92 (F := Ideal) d (ix3 b l q)
    = (over 16 d ⟨1536 + q.val, by omega⟩ (row b l) + (if g : 16 + l.val < 2064 then -over 16 d ⟨1536 + q.val, by omega⟩ (row b ⟨16 + l.val, g⟩) else 0) : EReal) := by
  have h := fun b l => ref_over3 d b l q
  unfold val_main_v92 val_main_v91 val_main_v89 val_main_v88 val_main_cst_15
  generalize val_main_v87 (F := Ideal) d = A at h
  pointwise
  simp only [h]

theorem ref_sum3 (b : Fin 2) (l : Fin 2064) (q : Fin 512) (hr : ∀ i, Common.IsReal (d i)) : val_main_v93 (F := Ideal) d (ix3 b l q)
    = window 16 (over 16 d ⟨1536 + q.val, by omega⟩) (row b l) := by
  have h := fun b l => ref_diff3 d b l q
  unfold val_main_v93 val_main_call4_call0_v0 val_main_call4_call0_cst
  generalize val_main_v92 (F := Ideal) d = A at h
  rw [window_row]
  refine Eq.trans ?_ (suffix_sub 16 (fun l => over 16 d ⟨1536 + q.val, by omega⟩ (row b l)) (fun l => ?_) l)
  · refine (sum_later A _ (fun _ => word_zero) b l q).trans ?_
    simp only [h]
  · unfold over
    rw [dcol_row]
    exact isReal_div_count _ _ (by decide) (by decide) (hr _)

theorem ref_back3 (b : Fin 2) (l : Fin 2064) (q : Fin 512) : val_main_v129 (F := Ideal) d (ix4 b l 3 q) = (-d (ix3 b l ⟨1536 + q.val, by omega⟩) + val_main_v93 (F := Ideal) d (ix3 b l q) : EReal) := by
  unfold val_main_v129 val_main_v128 val_main_v127 val_main_v118 val_main_v117 val_main_v116 val_main_v107 val_main_v106 val_main_v105 val_main_v96 val_main_v95 val_main_v94 val_main_v77 val_main_v0 val_main_cst_16 val_main_cst_18 val_main_cst_20 val_main_cst_22
  generalize val_main_v93 (F := Ideal) d = A3
  generalize val_main_v104 (F := Ideal) d = A2
  generalize val_main_v115 (F := Ideal) d = A1
  generalize val_main_v126 (F := Ideal) d = A0
  pointwise

theorem ref_full0 (hr : ∀ i, Common.IsReal (d i)) (b : Fin 2) (l : Fin 2064) (q : Fin 512) (n : Fin 2048) (hn : n.val = 0 + q.val) :
    val_main_v129 (F := Ideal) d (ix4 b l 0 q) = back d n (row b l) := by
  have hw : wide (n.val / 512) = 2 := by
    rw [show n.val / 512 = 0 by omega]; decide
  unfold back
  rw [hw, dcol_row, ref_back0, ref_sum0 d b l q hr, sub_eq_add_neg, add_comm]
  have e : (⟨q.val, by omega⟩ : Fin 2048) = n := Fin.ext (by dsimp only; omega)
  rw [e]

theorem ref_full1 (hr : ∀ i, Common.IsReal (d i)) (b : Fin 2) (l : Fin 2064) (q : Fin 512) (n : Fin 2048) (hn : n.val = 512 + q.val) :
    val_main_v129 (F := Ideal) d (ix4 b l 1 q) = back d n (row b l) := by
  have hw : wide (n.val / 512) = 4 := by
    rw [show n.val / 512 = 1 by omega]; decide
  unfold back
  rw [hw, dcol_row, ref_back1, ref_sum1 d b l q hr, sub_eq_add_neg, add_comm]
  have e : (⟨512 + q.val, by omega⟩ : Fin 2048) = n := Fin.ext (by dsimp only; omega)
  rw [e]

theorem ref_full2 (hr : ∀ i, Common.IsReal (d i)) (b : Fin 2) (l : Fin 2064) (q : Fin 512) (n : Fin 2048) (hn : n.val = 1024 + q.val) :
    val_main_v129 (F := Ideal) d (ix4 b l 2 q) = back d n (row b l) := by
  have hw : wide (n.val / 512) = 8 := by
    rw [show n.val / 512 = 2 by omega]; decide
  unfold back
  rw [hw, dcol_row, ref_back2, ref_sum2 d b l q hr, sub_eq_add_neg, add_comm]
  have e : (⟨1024 + q.val, by omega⟩ : Fin 2048) = n := Fin.ext (by dsimp only; omega)
  rw [e]

theorem ref_full3 (hr : ∀ i, Common.IsReal (d i)) (b : Fin 2) (l : Fin 2064) (q : Fin 512) (n : Fin 2048) (hn : n.val = 1536 + q.val) :
    val_main_v129 (F := Ideal) d (ix4 b l 3 q) = back d n (row b l) := by
  have hw : wide (n.val / 512) = 16 := by
    rw [show n.val / 512 = 3 by omega]; decide
  unfold back
  rw [hw, dcol_row, ref_back3, ref_sum3 d b l q hr, sub_eq_add_neg, add_comm]
  have e : (⟨1536 + q.val, by omega⟩ : Fin 2048) = n := Fin.ext (by dsimp only; omega)
  rw [e]

theorem ref_back (hr : ∀ i, Common.IsReal (d i)) (b : Fin 2) (l : Fin 2064) (g : Fin 4) (q : Fin 512) (n : Fin 2048) (hn : n.val = g.val * 512 + q.val) :
    val_main_v129 (F := Ideal) d (ix4 b l g q) = back d n (row b l) := by
  have h4 : g = 0 ∨ g = 1 ∨ g = 2 ∨ g = 3 := by clear hn; revert g; decide
  rcases h4 with rfl | rfl | rfl | rfl
  · exact ref_full0 d hr b l q n (hn.trans (by rfl))
  · exact ref_full1 d hr b l q n (hn.trans (by rfl))
  · exact ref_full2 d hr b l q n (hn.trans (by rfl))
  · exact ref_full3 d hr b l q n (hn.trans (by rfl))

theorem ref_out (hr : ∀ i, Common.IsReal (d i)) (r : Fin 4224) (n : Fin 2048) : val_main_v133 (F := Ideal) d (ix2 r n) = back d n r := by
  have h := ref_back d hr
  unfold val_main_v133 val_main_v132 val_main_v131 val_main_v130 val_main_call8_v0 val_main_c_23
  generalize val_main_v129 (F := Ideal) d = A at h
  pointwise
  rw [pad_zero]
  by_cases g : r.val < 4128
  · refine (dif_pos g).trans ((h _ _ _ _ n ?_).trans (congrArg (back d n) (row_div r g)))
    show n.val = n.val / 512 * 512 + n.val % 512
    omega
  · exact (dif_neg g).trans (back_end d n r (by omega)).symm
end

variable (m : (ℓ : Loc nD τ sig) → Buf (Elt Ideal) ℓ)

/-- The gradient that the host extends by rows of zeros, at row `r` of column `n`. -/
theorem padded (c : Dev nD) (n : Fin 2048) (r : Fin 4224) : (show EReal from V m c main_v1 (ix2 r n)) = dcol (m ((c : Thread nD τ).loc main_arg0)) n r := by
  show _ = dcol (m (c, Proc.tc.devRef main_arg0)) n r
  unfold V
  simp only [hostOps0, hostOps0_1, List.flatten_cons, List.flatten_nil, List.append_nil, List.cons_append, List.nil_append]
  after_results_simp
  simp only [StableHlo.TRef.toBuf, StableHlo.TRef.ofBuf, cast_eq]
  pointwise
  rw [pad_zero]
  generalize m (c, Proc.tc.devRef main_arg0) = B
  by_cases h : r.val < 4128
  · exact (dif_pos h).trans (dif_pos h : dcol B n r = _).symm
  · exact (dif_neg h).trans (dif_neg h : dcol B n r = _).symm

theorem idx : ∀ t : Fin cfg0.N, win0_0.index t = ![0, t.val] ∧ win0_1.index t = ![0, t.val] :=
  (by decide +kernel : ∀ t : Fin grid0.N, _)

theorem blk0 (c : Dev nD) (p : Fin cfg0.N) (n : Fin 2048) (k : Fin 128) (hn : n.val = p.val * 128 + k.val) (r : Fin 4224) :
    (show Vec Ideal S4224x128 .f32 from iblk m c 0 p) (ix2 r k) = dcol (m ((c : Thread nD τ).loc main_arg0)) n r := by
  refine Eq.trans ?_ (padded m c n r)
  show (V m c main_v1) (((cfg0.win 0).blk p).view.emb (ix2 r k)) = V m c main_v1 (ix2 r n)
  generalize V m c main_v1 = B
  blk_point [idx p]

/-- What the precondition says of the argument: every element is a real number. -/
def Reals (c : Dev nD) : Prop := ∀ i, Common.IsReal (m ((c : Thread nD τ).loc main_arg0) i)

theorem reals_of_pre [Cert.Pre_pool_finite.Facts] (c : Dev nD) (h : Cert.Pre_pool_finite.fn (F := Ideal) (m ((c : Thread nD τ).loc main_arg0)) = fun _ => 1#1) : Reals m c := by
  have h := congrFun h ix0
  dsimp only [Cert.Pre_pool_finite.fn] at h
  haveI : Subsingleton (Shape.Idx Cert.Pre_pool_finite.S_) := ⟨fun a b => funext fun i => i.elim0⟩
  exact fun i => Common.isReal_of_lt_wide (Host.reduce_andi_all _ _ _ _ _ h i)

theorem final (c : Dev nD) (hr : Reals m c) : (dats m 0 c).arrAt 1 cfg0.N = PoolRefIdeal.Read.val_main_v133 (F := Ideal) (m ((c : Thread nD τ).loc main_arg0)) := by
  refine (dats m 0 c).arrAt_eq_of_covers 1 _ (by decide +kernel) fun t _ y => ?_
  blk_simp
  rw [after0_1]
  obtain ⟨r, k, rfl⟩ : ∃ (r : Fin 4224) (k : Fin 128), y = ix2 r k := ⟨y 0, y 1, by funext a; match a with | ⟨0, _⟩ => rfl | ⟨1, _⟩ => rfl⟩
  have hN := lt_of_lt_of_eq t.isLt N_0
  have key : ∀ i : S4224x2048.Idx, (i 0).val = r.val → (i 1).val = t.val * 128 + k.val → (out0_1 (F := Ideal) (grid0.coords t) (iblk m c 0 t) (ix2 r k) : EReal) = PoolRefIdeal.Read.val_main_v133 (F := Ideal) (m ((c : Thread nD τ).loc main_arg0)) i := by
    intro i h0 h1
    obtain ⟨q, n, rfl⟩ : ∃ (q : Fin 4224) (n : Fin 2048), i = ix2 q n := ⟨i 0, i 1, by funext a; match a with | ⟨0, _⟩ => rfl | ⟨1, _⟩ => rfl⟩
    obtain rfl : q = r := Fin.ext h0
    have h1' : n.val = t.val * 128 + k.val := h1
    have hg : n.val / 512 = t.val / 4 := by omega
    have hb := blk0 m c t n k h1'
    rw [ref_out _ hr]
    refine (out_apply (grid0.coords t) ⟨t.val / 4, by omega⟩ (grp_eq t) (iblk m c 0 t) k (fun r h => (hb r).trans (dcol_end _ n r (end_pos r h))) q).trans ?_
    unfold back
    rw [hg]
    simp only [hb]
    rfl
  refine key _ ?_ ?_
  all_goals blk_simp [idx t] <;> try omega

end Cert.PoolIdeal.Value
end
-- ==== Proof.LayerNorm.lean ====
module

public import proofs.«01_k».proof.Proof.Gate

@[expose] public section

/-! The gradient of a row's normalisation: the form with the mean of the gradient and the mean of its product with the
    normalised row, and the form that differentiates the mean and the spread in turn, agree on real numbers. -/

namespace Cert.LayerNorm

open Idealize.ShloMosaic
open Cert.Common (IsReal)

noncomputable section

/-- The words of the width, of the small number under the root, of minus one half and of two. -/
theorem width : Ideal.ofBits .f32 0x45800000#32 = ((4096 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem tiny : ∃ e : ℝ, 0 < e ∧ Ideal.ofBits .f32 0x3727C5AC#32 = (e : EReal) := by
  refine ⟨_, ?_, by simp [Ideal.ofBits, Ideal.ieee, -EReal.coe_mul]; rfl⟩
  positivity

/-- The mean of a row. -/
def mean (row : Fin 4096 → EReal) : EReal := Ideal.div (∑ n, row n) (Ideal.ofBits .f32 0x45800000#32)

/-- A row less its mean. -/
def less (row : Fin 4096 → EReal) (k : Fin 4096) : EReal := row k - mean row

/-- A row's variance, and the small number. -/
def spread (row : Fin 4096 → EReal) : EReal := mean (fun n => less row n * less row n) + Ideal.ofBits .f32 0x3727C5AC#32

/-- The normalised row. -/
def hat (row : Fin 4096 → EReal) (k : Fin 4096) : EReal := less row k * Ideal.rsqrt (spread row)

/-- The gradient by the mean of `d` and the mean of its product with the normalised row. -/
def short (row d : Fin 4096 → EReal) (k : Fin 4096) : EReal :=
  Ideal.rsqrt (spread row) * (d k - mean d - hat row k * mean (fun n => d n * hat row n))

/-- The gradient through the normalised row's factors, before that of the mean. -/
def inner (row d : Fin 4096 → EReal) (k : Fin 4096) : EReal :=
  d k * Ideal.rsqrt (spread row) + Ideal.div ((∑ n, less row n * d n) * (Ideal.ofBits .f32 0xBF000000#32 * Ideal.div (Ideal.rsqrt (spread row)) (spread row))) (Ideal.ofBits .f32 0x45800000#32) * (Ideal.ofBits .f32 0x40000000#32 * less row k)

/-- The gradient through the variance, the root and the mean in turn. -/
def long (row d : Fin 4096 → EReal) (k : Fin 4096) : EReal := inner row d k + mean (fun n => -inner row d n)

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem mean_coe (f : Fin 4096 → ℝ) : mean (fun n => (f n : EReal)) = (((∑ n, f n) / 4096 : ℝ) : EReal) := by
  rw [mean, coe_sum, width, Ideal.div_coe (by norm_num), ← EReal.coe_mul, mul_one_div]

/-- The two forms over the reals, for a row `c` whose sum is zero. -/
theorem real_forms (c d : Fin 4096 → ℝ) (p q : ℝ) (hc : ∑ n, c n = 0) (hp : p ≠ 0) (hq : q * q * p = 1) (k : Fin 4096) :
    q * (d k - (∑ n, d n) / 4096 - c k * q * ((∑ n, d n * (c n * q)) / 4096)) =
      (d k * q + (∑ n, c n * d n) * (-(1 / 2) * (q / p)) / 4096 * (2 * c k))
        + (∑ n, -(d n * q + (∑ n, c n * d n) * (-(1 / 2) * (q / p)) / 4096 * (2 * c n))) / 4096 := by
  have e1 : ∑ n, d n * (c n * q) = (∑ n, c n * d n) * q := by
    rw [Finset.sum_mul]; exact Finset.sum_congr rfl fun n _ => by ring
  generalize hS : ∑ n, c n * d n = S at *
  have e2 : q / p = q * q * q := by
    rw [div_eq_iff hp]; linear_combination (-q) * hq
  have e3 : ∑ n, -(d n * q + S * (-(1 / 2) * (q / p)) / 4096 * (2 * c n)) = -((∑ n, d n) * q) := by
    rw [Finset.sum_neg_distrib, Finset.sum_add_distrib, ← Finset.sum_mul, ← Finset.mul_sum, ← Finset.mul_sum, hc]; ring
  rw [e1, e3, e2]
  ring

theorem forms {row d : Fin 4096 → EReal} (hr : ∀ n, IsReal (row n)) (hd : ∀ n, IsReal (d n)) (k : Fin 4096) : short row d k = long row d k := by
  choose x hx using hr
  choose y hy using hd
  obtain rfl : row = fun n => (x n : EReal) := funext hx
  obtain rfl : d = fun n => (y n : EReal) := funext hy
  obtain ⟨e, he, hw⟩ := tiny
  have hl : less (fun n => (x n : EReal)) = fun n => ((x n - (∑ n, x n) / 4096 : ℝ) : EReal) := by
    funext n; rw [less, mean_coe, EReal.coe_sub]
  have hs0 : ∑ n, (x n - (∑ n, x n) / 4096) = 0 := by
    rw [Finset.sum_sub_distrib, Finset.sum_const, Finset.card_univ, Fintype.card_fin, nsmul_eq_mul]; push_cast; ring
  obtain ⟨c, hc⟩ : ∃ c : Fin 4096 → ℝ, c = fun n => x n - (∑ n, x n) / 4096 := ⟨_, rfl⟩
  have hl' : less (fun n => (x n : EReal)) = fun n => (c n : EReal) := by rw [hl, hc]
  have hs' : ∑ n, c n = 0 := by rw [hc]; exact hs0
  clear hl hs0 hc hx hy
  have hp0 : 0 ≤ ∑ n, c n * c n := Finset.sum_nonneg fun n _ => mul_self_nonneg _
  obtain ⟨p, hp, hsp⟩ : ∃ p : ℝ, 0 < p ∧ spread (fun n => (x n : EReal)) = (p : EReal) := by
    refine ⟨(∑ n, c n * c n) / 4096 + e, by positivity, ?_⟩
    have : (fun n => less (fun n => (x n : EReal)) n * less (fun n => (x n : EReal)) n) = fun n => ((c n * c n : ℝ) : EReal) := by
      funext n; rw [hl', EReal.coe_mul]
    rw [spread, this, mean_coe, hw, EReal.coe_add]
  have hq : Ideal.rsqrt (spread (fun n => (x n : EReal))) = (((Real.sqrt p)⁻¹ : ℝ) : EReal) := by
    rw [hsp, Ideal.rsqrt_coe, if_neg (not_lt.mpr hp.le), if_neg hp.ne']
  have hqp : (Real.sqrt p)⁻¹ * (Real.sqrt p)⁻¹ * p = 1 := by
    rw [← mul_inv, Real.mul_self_sqrt hp.le, inv_mul_cancel₀ hp.ne']
  generalize (Real.sqrt p)⁻¹ = q at *
  have hh : hat (fun n => (x n : EReal)) = fun n => ((c n * q : ℝ) : EReal) := by
    funext n; rw [hat, hl', hq, EReal.coe_mul]
  have hdh : (fun n => (y n : EReal) * hat (fun n => (x n : EReal)) n) = fun n => ((y n * (c n * q) : ℝ) : EReal) := by
    funext n; rw [hh, EReal.coe_mul]
  have hcd : ∑ n, less (fun n => (x n : EReal)) n * (y n : EReal) = ((∑ n, c n * y n : ℝ) : EReal) := by
    rw [← coe_sum]; exact Finset.sum_congr rfl fun n _ => by rw [hl', EReal.coe_mul]
  have hi : inner (fun n => (x n : EReal)) (fun n => (y n : EReal)) = fun k => ((y k * q + (∑ n, c n * y n) * (-(1 / 2) * (q / p)) / 4096 * (2 * c k) : ℝ) : EReal) := by
    funext k
    rw [inner, hq, hcd, hsp, hl', minus_half, two, width, Ideal.div_coe hp.ne', Ideal.div_coe (by norm_num)]
    simp only [← EReal.coe_mul, ← EReal.coe_add]
    exact congrArg _ (by ring)
  have hni : (fun n => -inner (fun n => (x n : EReal)) (fun n => (y n : EReal)) n) = fun n => ((-(y n * q + (∑ n, c n * y n) * (-(1 / 2) * (q / p)) / 4096 * (2 * c n)) : ℝ) : EReal) := by
    funext n; rw [hi, EReal.coe_neg]
  rw [long, hni, mean_coe, hi, ← EReal.coe_add, ← real_forms c y p q hs' hp.ne' hqp k, short, hq, hdh, hh, mean_coe, mean_coe]
  simp only [← EReal.coe_mul, ← EReal.coe_sub]

end

end Cert.LayerNorm
end
-- ==== Proof.LnBValue.lean ====
module

public import proofs.«01_k».proof.Proof.Gen.LnBIdeal.Value
public import proofs.«01_k».proof.Proof.Gen.LnBRefIdeal.Run
public import proofs.«01_k».proof.Proof.Gen.LnBRefIdeal.Read
public import proofs.«01_k».proof.Pre_ln_finite
public import Idealize.ShloMosaic.Lib.Pipeline.ValueKit
import Idealize.ShloMosaic.Lib.Pipeline.ReadBack
public import proofs.«01_k».proof.Proof.LayerNorm
public import proofs.«01_k».proof.Proof.Finite
import Idealize.ShloMosaic.Lib.ReduceAll

@[expose] public section

set_option maxRecDepth 16384

noncomputable section

namespace Cert.LnBIdeal.Value

open Cert.LnBIdeal Cert.LnBIdeal.Gen Idealize.ShloMosaic Idealize.ShloMosaic.TcCoe Idealize.SL.Sem
open Idealize.ShloMosaic.Pipeline (Dat)
open Cert.LayerNorm (mean less spread hat short inner long forms)

variable (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S128x4096 .f32) (harg4 : arg4.IsWhole) (arg5 : Memref sig .tc .vmem S128x4096 .bf16) (harg5 : arg5.IsWhole) (arg6 : Memref sig .tc .vmem S1x4096 .f32) (harg6 : arg6.IsWhole) (arg7 : Memref sig .tc .vmem S1x4096 .f32) (harg7 : arg7.IsWhole)

section
variable (hc0 : cond0_0 i) (hc1 : ¬cond0_1 i) (hc2 : cond0_2 i) (hc3 : ¬cond0_3 i) (x0 x1 : Vec Ideal S128x4096 .f32) (x2 : Vec Ideal S1x4096 .f32)

theorem out_A3 : out0_A_3 c i arg1 harg1 arg2 harg2 arg3 harg3 arg4 harg4 arg5 harg5 arg6 harg6 arg7 harg7 hc0 hc1 hc2 hc3 x0 x1 x2 = k0_pay8 x0 x1 x2 := by frame_out
theorem out_A4 : out0_A_4 c i arg1 harg1 arg2 harg2 arg3 harg3 arg4 harg4 arg5 harg5 arg6 harg6 arg7 harg7 hc0 hc1 hc2 hc3 x0 x1 x2 = k0_pay9 x0 x1 x2 := by frame_out
theorem out_A5 : out0_A_5 c i arg1 harg1 arg2 harg2 arg3 harg3 arg4 harg4 arg5 harg5 arg6 harg6 arg7 harg7 hc0 hc1 hc2 hc3 x0 x1 x2 = k0_pay1 (k0_pay7 x0) x1 := by frame_out
theorem out_A6 : out0_A_6 c i arg1 harg1 arg2 harg2 arg3 harg3 arg4 harg4 arg5 harg5 arg6 harg6 arg7 harg7 hc0 hc1 hc2 hc3 x0 x1 x2 = k0_pay3 x1 := by frame_out
end

section
variable (hc0 : ¬cond0_0 i) (hc1 : cond0_1 i) (hc2 : ¬cond0_2 i) (hc3 : cond0_3 i) (x0 x1 : Vec Ideal S128x4096 .f32) (x2 y5 y6 : Vec Ideal S1x4096 .f32)

theorem out_B3 : out0_B_3 c i arg1 harg1 arg2 harg2 arg3 harg3 arg4 harg4 arg5 harg5 arg6 harg6 arg7 harg7 hc0 hc1 hc2 hc3 x0 x1 x2 y5 y6 = k0_pay8 x0 x1 x2 := by frame_out
theorem out_B4 : out0_B_4 c i arg1 harg1 arg2 harg2 arg3 harg3 arg4 harg4 arg5 harg5 arg6 harg6 arg7 harg7 hc0 hc1 hc2 hc3 x0 x1 x2 y5 y6 = k0_pay9 x0 x1 x2 := by frame_out
theorem out_B5 : out0_B_5 c i arg1 harg1 arg2 harg2 arg3 harg3 arg4 harg4 arg5 harg5 arg6 harg6 arg7 harg7 hc0 hc1 hc2 hc3 x0 x1 x2 y5 y6 = k0_pay2 (k0_pay7 x0) x1 y5 := by frame_out
theorem out_B6 : out0_B_6 c i arg1 harg1 arg2 harg2 arg3 harg3 arg4 harg4 arg5 harg5 arg6 harg6 arg7 harg7 hc0 hc1 hc2 hc3 x0 x1 x2 y5 y6 = k0_pay4 x1 y6 := by frame_out
end

omit c i arg1 harg1 arg2 harg2 arg3 harg3 arg4 harg4 arg5 harg5 arg6 harg6 arg7 harg7

/-- A row of a block, and a row of an array. -/
def brow (x : Vec Ideal S128x4096 .f32) (r : Fin 128) (n : Fin 4096) : EReal := x (ix2 r n)
def arow (x : (⟨S4224x4096, .f32⟩ : BufTy).Contents (Elt Ideal)) (r : Fin 4224) (n : Fin 4096) : EReal := x (ix2 r n)
/-- A row scaled by the gain. -/
def bscaled (x : Vec Ideal S128x4096 .f32) (g : Vec Ideal S1x4096 .f32) (r : Fin 128) (n : Fin 4096) : EReal := x (ix2 r n) * g (ix2 0 n)
def ascaled (x : (⟨S4224x4096, .f32⟩ : BufTy).Contents (Elt Ideal)) (g : (⟨S1x4096, .f32⟩ : BufTy).Contents (Elt Ideal)) (r : Fin 4224) (n : Fin 4096) : EReal := x (ix2 r n) * g (ix2 0 n)

theorem pay5_apply (x0 : Vec Ideal S128x4096 .f32) (j : S128x4096.Idx) : k0_pay5 (F := Ideal) x0 j = less (brow x0 (j 0)) (j 1) := by
  pointwise [k0_pay5, less, mean, brow]

theorem pay6_apply (x0 : Vec Ideal S128x4096 .f32) (j : S128x1.Idx) : k0_pay6 (F := Ideal) x0 j = Ideal.rsqrt (spread (brow x0 (j 0))) := by
  have h := pay5_apply x0
  unfold k0_pay6
  generalize k0_pay5 (F := Ideal) x0 = A at h
  pointwise
  simp only [h]
  rfl

theorem pay7_apply (x0 : Vec Ideal S128x4096 .f32) (j : S128x4096.Idx) : k0_pay7 (F := Ideal) x0 j = hat (brow x0 (j 0)) (j 1) := by
  have h := pay5_apply x0
  have h' := pay6_apply x0
  unfold k0_pay7
  generalize k0_pay5 (F := Ideal) x0 = A at h
  generalize k0_pay6 (F := Ideal) x0 = B at h'
  pointwise
  simp only [h, h']
  rfl

theorem pay8_apply (x0 x1 : Vec Ideal S128x4096 .f32) (x2 : Vec Ideal S1x4096 .f32) (j : S128x4096.Idx) :
    k0_pay8 (F := Ideal) x0 x1 x2 j = short (brow x0 (j 0)) (bscaled x1 x2 (j 0)) (j 1) := by
  obtain ⟨r, k, rfl⟩ : ∃ (r : Fin 128) (k : Fin 4096), j = ix2 r k := ⟨j 0, j 1, by funext a; match a with | ⟨0, _⟩ => rfl | ⟨1, _⟩ => rfl⟩
  have h := pay7_apply x0
  have h' := pay6_apply x0
  unfold k0_pay8
  generalize k0_pay7 (F := Ideal) x0 = A at h
  generalize k0_pay6 (F := Ideal) x0 = B at h'
  pointwise
  simp only [h, h']
  rfl

theorem pay9_apply (x0 x1 : Vec Ideal S128x4096 .f32) (x2 : Vec Ideal S1x4096 .f32) (j : S128x4096.Idx) :
    k0_pay9 (F := Ideal) x0 x1 x2 j = (k0_pay8 (F := Ideal) x0 x1 x2 j : EReal) := by
  unfold k0_pay9
  generalize k0_pay8 (F := Ideal) x0 x1 x2 = A
  pointwise

theorem pay1_apply (A x1 : Vec Ideal S128x4096 .f32) (j : S1x4096.Idx) :
    k0_pay1 (F := Ideal) A x1 j = (0 + ∑ k : Fin 128, x1 (ix2 k (j 1)) * A (ix2 k (j 1)) : EReal) := by
  rw [zero_add]; pointwise [k0_pay1]

theorem pay2_apply (A x1 : Vec Ideal S128x4096 .f32) (acc : Vec Ideal S1x4096 .f32) (j : S1x4096.Idx) :
    k0_pay2 (F := Ideal) A x1 acc j = (acc j + ∑ k : Fin 128, x1 (ix2 k (j 1)) * A (ix2 k (j 1)) : EReal) := by
  have h := pay1_apply A x1 j
  rw [zero_add] at h
  rw [← h]
  unfold k0_pay2
  generalize k0_pay1 (F := Ideal) A x1 = B
  pointwise

theorem pay3_apply (x1 : Vec Ideal S128x4096 .f32) (j : S1x4096.Idx) :
    k0_pay3 (F := Ideal) x1 j = (0 + ∑ k : Fin 128, x1 (ix2 k (j 1)) : EReal) := by
  rw [zero_add]; pointwise [k0_pay3]

theorem pay4_apply (x1 : Vec Ideal S128x4096 .f32) (acc : Vec Ideal S1x4096 .f32) (j : S1x4096.Idx) :
    k0_pay4 (F := Ideal) x1 acc j = (acc j + ∑ k : Fin 128, x1 (ix2 k (j 1)) : EReal) := by
  have h := pay3_apply x1 j
  rw [zero_add] at h
  rw [← h]
  unfold k0_pay4
  generalize k0_pay3 (F := Ideal) x1 = B
  pointwise

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

/-- The blocks at a point. -/
abbrev b0 (c : Dev nD) (p : Fin cfg0.N) : Vec Ideal S128x4096 .f32 := iblk m c 0 p
abbrev b1 (c : Dev nD) (p : Fin cfg0.N) : Vec Ideal S128x4096 .f32 := iblk m c 1 p
abbrev b2 (c : Dev nD) (p : Fin cfg0.N) : Vec Ideal S1x4096 .f32 := iblk m c 2 p

/-- What the rows of sums hold after the last point: the sums over the points of their blocks' sums. -/
theorem sums5 (c : Dev nD) (t : Fin cfg0.N) (h : t.val % 33 = 32) (j : S1x4096.Idx) :
    (outsAt0 m c t.val t.isLt).2.2.1 j = (∑ s : Fin 33, ∑ k : Fin 128, b1 m c ⟨33 * (t.val / 33) + s.val, Pipeline.run_point_lt_of_flush t h s⟩ (ix2 k (j 1)) * hat (brow (b0 m c ⟨33 * (t.val / 33) + s.val, Pipeline.run_point_lt_of_flush t h s⟩) k) (j 1) : EReal) := by
  rw [Pipeline.eq_sum_fin_of_reset_step_apply_of_flush (fun n h => (outsAt0 m c n h).2.2.1) 33 (fun _ => 0)
    (fun p j => (∑ k : Fin 128, b1 m c p (ix2 k (j 1)) * hat (brow (b0 m c p) k) (j 1) : EReal))
    (fun t h j => by
      have hN := lt_of_lt_of_eq t.isLt N_0
      rw [outsAt0_A m c t h (by omega) h (by omega)]; dsimp only; rw [out_A5, pay1_apply]; simp only [pay7_apply]; rfl)
    (fun t h j => by
      rw [outsAt0_B m c t h (by omega) h (by omega)]; dsimp only; rw [out_B5, pay2_apply]; simp only [pay7_apply]; rfl)
    t h j, zero_add]

theorem sums6 (c : Dev nD) (t : Fin cfg0.N) (h : t.val % 33 = 32) (j : S1x4096.Idx) :
    (outsAt0 m c t.val t.isLt).2.2.2 j = (∑ s : Fin 33, ∑ k : Fin 128, b1 m c ⟨33 * (t.val / 33) + s.val, Pipeline.run_point_lt_of_flush t h s⟩ (ix2 k (j 1)) : EReal) := by
  rw [Pipeline.eq_sum_fin_of_reset_step_apply_of_flush (fun n h => (outsAt0 m c n h).2.2.2) 33 (fun _ => 0)
    (fun p j => (∑ k : Fin 128, b1 m c p (ix2 k (j 1)) : EReal))
    (fun t h j => by
      have hN := lt_of_lt_of_eq t.isLt N_0
      rw [outsAt0_A m c t h (by omega) h (by omega)]; dsimp only; rw [out_A6, pay3_apply])
    (fun t h j => by
      rw [outsAt0_B m c t h (by omega) h (by omega)]; dsimp only; rw [out_B6, pay4_apply])
    t h j, zero_add]

section
variable (x dy : (⟨S4224x4096, .f32⟩ : BufTy).Contents (Elt Ideal)) (g : (⟨S1x4096, .f32⟩ : BufTy).Contents (Elt Ideal))
open LnBRefIdeal.Read

theorem ref_less (i : S4224x4096.Idx) : val_main_v8 (F := Ideal) x i = less (arow x (i 0)) (i 1) := by
  pointwise [val_main_v8, val_main_v7, val_main_v6, val_main_v5, val_main_v4, val_main_v3, val_main_cst_0, val_main_cst_1, less, mean, arow]

theorem ref_spread (i : LnBRefIdeal.S4224x1.Idx) : val_main_v17 (F := Ideal) x i = spread (arow x (i 0)) := by
  have h := ref_less x
  unfold val_main_v17 val_main_v16 val_main_v15 val_main_v14 val_main_v13 val_main_v12 val_main_v9 val_main_cst_3 val_main_cst_4 val_main_cst_5
  generalize val_main_v8 (F := Ideal) x = A at h
  pointwise
  simp only [h]
  rfl

theorem ref_hat (i : S4224x4096.Idx) : val_main_v23 (F := Ideal) x i = hat (arow x (i 0)) (i 1) := by
  have h := ref_less x
  have h' := ref_spread x
  unfold val_main_v23 val_main_v22 val_main_v18
  generalize val_main_v8 (F := Ideal) x = A at h
  generalize val_main_v17 (F := Ideal) x = B at h'
  pointwise
  simp only [h, h']
  rfl

theorem ref_scaled (i : S4224x4096.Idx) : val_main_v38 (F := Ideal) dy g i = ascaled dy g (i 0) (i 1) := by
  unfold val_main_v38 val_main_v37 val_main_v24 val_main_v1 val_main_v30
  pointwise [ascaled]

theorem ref_inner (i : S4224x4096.Idx) : val_main_v51 (F := Ideal) x dy g i = inner (arow x (i 0)) (ascaled dy g (i 0)) (i 1) := by
  have h := ref_less x
  have h' := ref_spread x
  have hd := ref_scaled dy g
  unfold val_main_v51 val_main_v50 val_main_v49 val_main_v48 val_main_v47 val_main_v46 val_main_v45 val_main_v44 val_main_v43 val_main_v42 val_main_v41 val_main_v40 val_main_v21 val_main_v20 val_main_v19 val_main_v18 val_main_v11 val_main_v10 val_main_cst_2 val_main_cst_6 val_main_cst_11 val_main_cst_12 val_main_cst_13
  generalize val_main_v8 (F := Ideal) x = A at h
  generalize val_main_v17 (F := Ideal) x = B at h'
  generalize val_main_v38 (F := Ideal) dy g = C at hd
  pointwise
  rw [Fin.sum_univ_one]
  simp only [h, h', hd]
  rfl

theorem ref_long (i : S4224x4096.Idx) : val_main_v59 (F := Ideal) x dy g i = long (arow x (i 0)) (ascaled dy g (i 0)) (i 1) := by
  have h := ref_inner x dy g
  unfold val_main_v59 val_main_v58 val_main_v57 val_main_v56 val_main_v55 val_main_v54 val_main_v53 val_main_v52 val_main_cst_14 val_main_cst_15 val_main_cst_16
  generalize val_main_v51 (F := Ideal) x dy g = A at h
  pointwise
  rw [Fin.sum_univ_one]
  simp only [h]
  rfl

theorem ref_cast (i : S4224x4096.Idx) : val_main_v62 (F := Ideal) x dy g i = (val_main_v59 (F := Ideal) x dy g i : EReal) := by
  unfold val_main_v62
  generalize val_main_v59 (F := Ideal) x dy g = A
  pointwise

theorem ref_gain (i : S1x4096.Idx) : val_main_v61 (F := Ideal) x dy i = (∑ l : Fin 4224, dy (ix2 l (i 1)) * hat (arow x l) (i 1) : EReal) := by
  have h := ref_hat x
  unfold val_main_v61 val_main_v39 val_main_v36 val_main_v35 val_main_v34 val_main_v30 val_main_cst_9 val_main_cst_10
  generalize val_main_v23 (F := Ideal) x = A at h
  pointwise
  rw [Fin.sum_univ_one]
  refine Fin.sum_fin_congr fun l => ?_
  rw [h, mul_comm]
  refine congrArg₂ (fun a b : EReal => a * b) ?_ ?_ <;> first | rfl | blk_ext

theorem ref_shift (i : S1x4096.Idx) : val_main_v60 (F := Ideal) dy i = (∑ l : Fin 4224, dy (ix2 l (i 1)) : EReal) := by
  unfold val_main_v60 val_main_v33 val_main_v32 val_main_v31 val_main_cst_7 val_main_cst_8
  pointwise
  rw [Fin.sum_univ_one]
  all_goals refine Fin.sum_fin_congr fun l => ?_
  all_goals first | rfl | blk_ext
end

theorem blk0 (c : Dev nD) (p : Fin cfg0.N) (k : Fin 128) (j : Fin 4096) (l : Fin 4224) (hl : l.val = p.val * 128 + k.val) :
    b0 m c p (ix2 k j) = m ((c : Thread nD τ).loc main_arg0) (ix2 l j) := by
  rw [← V_main_arg0 m c]
  show (V m c main_arg0) (((cfg0.win 0).blk p).view.emb (ix2 k j)) = V m c main_arg0 (ix2 l j)
  generalize V m c main_arg0 = A
  blk_point [idx p]

theorem blk1 (c : Dev nD) (p : Fin cfg0.N) (k : Fin 128) (j : Fin 4096) (l : Fin 4224) (hl : l.val = p.val * 128 + k.val) :
    b1 m c p (ix2 k j) = m ((c : Thread nD τ).loc main_arg1) (ix2 l j) := by
  rw [← V_main_arg1 m c]
  show (V m c main_arg1) (((cfg0.win 1).blk p).view.emb (ix2 k j)) = V m c main_arg1 (ix2 l j)
  generalize V m c main_arg1 = A
  blk_point [idx p]

theorem blk2 (c : Dev nD) (p : Fin cfg0.N) (j : Fin 4096)  :
    b2 m c p (ix2 0 j) = m ((c : Thread nD τ).loc main_arg2) (ix2 0 j) := by
  rw [← V_main_arg2 m c]
  show (V m c main_arg2) (((cfg0.win 2).blk p).view.emb (ix2 0 j)) = V m c main_arg2 (ix2 0 j)
  generalize V m c main_arg2 = A
  blk_point [idx p]

/-- What the precondition says of the arguments: every element is a real number. -/
def Reals (c : Dev nD) : Prop :=
  (∀ i, Common.IsReal (m ((c : Thread nD τ).loc main_arg0) i)) ∧ (∀ i, Common.IsReal (m ((c : Thread nD τ).loc main_arg1) i)) ∧ ∀ i, Common.IsReal (m ((c : Thread nD τ).loc main_arg2) i)

theorem reals_of_pre [Cert.Pre_ln_finite.Facts] (c : Dev nD) (h : Cert.Pre_ln_finite.fn (F := Ideal) (m ((c : Thread nD τ).loc main_arg0)) (m ((c : Thread nD τ).loc main_arg1)) (m ((c : Thread nD τ).loc main_arg2)) = fun _ => 1#1) :
    Reals m c := by
  have h := congrFun h ix0
  dsimp only [Cert.Pre_ln_finite.fn] at h
  obtain ⟨h01, h2⟩ := IntOp.andi_eq_one.1 h
  obtain ⟨h0, h1⟩ := IntOp.andi_eq_one.1 h01
  haveI : Subsingleton (Shape.Idx Cert.Pre_ln_finite.S_) := ⟨fun a b => funext fun i => i.elim0⟩
  exact ⟨fun i => Common.isReal_of_lt_wide (Host.reduce_andi_all _ _ _ _ _ h0 i), fun i => Common.isReal_of_lt_wide (Host.reduce_andi_all _ _ _ _ _ h1 i),
    fun i => Common.isReal_of_lt_wide (Host.reduce_andi_all _ _ _ _ _ h2 i)⟩

theorem brow_eq (c : Dev nD) (p : Fin cfg0.N) (k : Fin 128) (l : Fin 4224) (hl : l.val = p.val * 128 + k.val) :
    brow (b0 m c p) k = arow (m ((c : Thread nD τ).loc main_arg0)) l := by
  funext n; exact blk0 m c p k n l hl

theorem bscaled_eq (c : Dev nD) (p : Fin cfg0.N) (k : Fin 128) (l : Fin 4224) (hl : l.val = p.val * 128 + k.val) :
    bscaled (b1 m c p) (b2 m c p) k = ascaled (m ((c : Thread nD τ).loc main_arg1)) (m ((c : Thread nD τ).loc main_arg2)) l := by
  funext n; exact congrArg₂ (fun a b : EReal => a * b) (blk1 m c p k n l hl) (blk2 m c p n)

theorem point (c : Dev nD) (hr : Reals m c) (t : Fin cfg0.N) (j : Fin 128) (n : Fin 4096) (i : S4224x4096.Idx)
    (h0 : (i 0).val = t.val * 128 + j.val) (h1 : (i 1).val = n.val) :
    (k0_pay8 (F := Ideal) (iblk m c 0 t) (iblk m c 1 t) (iblk m c 2 t) (ix2 j n) : EReal) = LnBRefIdeal.Read.val_main_v59 (F := Ideal) (m ((c : Thread nD τ).loc main_arg0)) (m ((c : Thread nD τ).loc main_arg1)) (m ((c : Thread nD τ).loc main_arg2)) i := by
  have h1' : i 1 = n := Fin.ext h1
  rw [ref_long, h1']
  refine (pay8_apply _ _ _ _).trans ?_
  show short (brow (b0 m c t) j) (bscaled (b1 m c t) (b2 m c t) j) n = _
  rw [brow_eq m c t j (i 0) h0, bscaled_eq m c t j (i 0) h0]
  exact forms (fun n => hr.1 _) (fun n => (hr.2.1 _).mul (hr.2.2 _)) n

theorem point_cast (c : Dev nD) (hr : Reals m c) (t : Fin cfg0.N) (j : Fin 128) (n : Fin 4096) (i : S4224x4096.Idx)
    (h0 : (i 0).val = t.val * 128 + j.val) (h1 : (i 1).val = n.val) :
    (k0_pay9 (F := Ideal) (iblk m c 0 t) (iblk m c 1 t) (iblk m c 2 t) (ix2 j n) : EReal) = LnBRefIdeal.Read.val_main_v62 (F := Ideal) (m ((c : Thread nD τ).loc main_arg0)) (m ((c : Thread nD τ).loc main_arg1)) (m ((c : Thread nD τ).loc main_arg2)) i :=
  ((pay9_apply _ _ _ _).trans (point m c hr t j n i h0 h1)).trans (ref_cast _ _ _ i).symm

theorem final0 (c : Dev nD) (hr : Reals m c) : (dats m 0 c).arrAt 3 cfg0.N = LnBRefIdeal.Read.val_main_v59 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have e : (outsAt0 m c t.val t.isLt).1 = k0_pay8 (F := Ideal) (iblk m c 0 t) (iblk m c 1 t) (iblk m c 2 t) := by
    have hN := lt_of_lt_of_eq t.isLt N_0
    rcases Nat.eq_zero_or_pos t.val with h | h
    · rw [outsAt0_A m c t (by omega) (by omega) (by omega) (by omega)]; dsimp only; rw [out_A3]
    · rw [outsAt0_B m c t (by omega) (by omega) (by omega) (by omega)]; dsimp only; rw [out_B3]
  rw [e]
  obtain ⟨r, k, rfl⟩ : ∃ (r : Fin 128) (k : Fin 4096), y = ix2 r k := ⟨y 0, y 1, by funext a; match a with | ⟨0, _⟩ => rfl | ⟨1, _⟩ => rfl⟩
  refine point m c hr t r k _ ?_ ?_
  all_goals blk_simp [idx t] <;> try omega

theorem final1 (c : Dev nD) (hr : Reals m c) : (dats m 0 c).arrAt 4 cfg0.N = LnBRefIdeal.Read.val_main_v62 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have e : (outsAt0 m c t.val t.isLt).2.1 = k0_pay9 (F := Ideal) (iblk m c 0 t) (iblk m c 1 t) (iblk m c 2 t) := by
    have hN := lt_of_lt_of_eq t.isLt N_0
    rcases Nat.eq_zero_or_pos t.val with h | h
    · rw [outsAt0_A m c t (by omega) (by omega) (by omega) (by omega)]; dsimp only; rw [out_A4]
    · rw [outsAt0_B m c t (by omega) (by omega) (by omega) (by omega)]; dsimp only; rw [out_B4]
  rw [e]
  obtain ⟨r, k, rfl⟩ : ∃ (r : Fin 128) (k : Fin 4096), y = ix2 r k := ⟨y 0, y 1, by funext a; match a with | ⟨0, _⟩ => rfl | ⟨1, _⟩ => rfl⟩
  refine point_cast m c hr t r k _ ?_ ?_
  all_goals blk_simp [idx t] <;> try omega

theorem final2 (c : Dev nD) (hr : Reals m c) : (dats m 0 c).arrAt 5 cfg0.N = LnBRefIdeal.Read.val_main_v61 (F := Ideal) (m ((c : Thread nD τ).loc main_arg0)) (m ((c : Thread nD τ).loc main_arg1)) := by
  refine (dats m 0 c).arrAt_eq_of_covers 5 _ (by decide +kernel) fun t hf y => ?_
  blk_simp
  have ht := (flush0_5 t).mp hf
  have hN := lt_of_lt_of_eq t.isLt N_0
  rw [after0_5]
  obtain ⟨r, n, rfl⟩ : ∃ (r : Fin 1) (n : Fin 4096), y = ix2 r n := ⟨y 0, y 1, by funext a; match a with | ⟨0, _⟩ => rfl | ⟨1, _⟩ => rfl⟩
  obtain rfl : r = 0 := Subsingleton.elim _ _
  have key : ∀ i : S1x4096.Idx, (i 1).val = n.val → ((outsAt0 m c t.val t.isLt).2.2.1 (ix2 0 n) : EReal) = LnBRefIdeal.Read.val_main_v61 (F := Ideal) (m ((c : Thread nD τ).loc main_arg0)) (m ((c : Thread nD τ).loc main_arg1)) i := by
    intro i h1
    have h1' : i 1 = n := Fin.ext h1
    rw [ref_gain, h1', sums5 m c t ht]
    refine Fin.sum_mul_add_congr fun s k hl => ?_
    have hs := s.isLt
    refine congrArg₂ (fun a b : EReal => a * b) (blk1 m c _ k n ⟨s.val * 128 + k.val, hl⟩ (by dsimp only; omega)) ?_
    rw [brow_eq m c _ k ⟨s.val * 128 + k.val, hl⟩ (by dsimp only; omega)]
    rfl
  refine key _ ?_
  all_goals blk_simp [idx t] <;> try omega

theorem final3 (c : Dev nD) (hr : Reals m c) : (dats m 0 c).arrAt 6 cfg0.N = LnBRefIdeal.Read.val_main_v60 (F := Ideal) (m ((c : Thread nD τ).loc main_arg1)) := by
  refine (dats m 0 c).arrAt_eq_of_covers 6 _ (by decide +kernel) fun t hf y => ?_
  blk_simp
  have ht := (flush0_6 t).mp hf
  have hN := lt_of_lt_of_eq t.isLt N_0
  rw [after0_6]
  obtain ⟨r, n, rfl⟩ : ∃ (r : Fin 1) (n : Fin 4096), y = ix2 r n := ⟨y 0, y 1, by funext a; match a with | ⟨0, _⟩ => rfl | ⟨1, _⟩ => rfl⟩
  obtain rfl : r = 0 := Subsingleton.elim _ _
  have key : ∀ i : S1x4096.Idx, (i 1).val = n.val → ((outsAt0 m c t.val t.isLt).2.2.2 (ix2 0 n) : EReal) = LnBRefIdeal.Read.val_main_v60 (F := Ideal) (m ((c : Thread nD τ).loc main_arg1)) i := by
    intro i h1
    have h1' : i 1 = n := Fin.ext h1
    rw [ref_shift, h1', sums6 m c t ht]
    refine Fin.sum_mul_add_congr fun s k hl => ?_
    have hs := s.isLt
    exact blk1 m c _ k n ⟨s.val * 128 + k.val, hl⟩ (by dsimp only; omega)
  refine key _ ?_
  all_goals blk_simp [idx t] <;> try omega

end Cert.LnBIdeal.Value
end
-- ==== Proof.ConvFValue.lean ====
/- The gated causal convolution: what the kernel leaves in its result is what the reference computes, element by element,
   over the extended reals. -/
module

public import proofs.«01_k».proof.Proof.Gen.ConvFIdeal.Value
public import proofs.«01_k».proof.Proof.Gen.ConvFRefIdeal.Run
public import proofs.«01_k».proof.Proof.Gen.ConvFRefIdeal.Read
public import Idealize.ShloMosaic.Lib.Pipeline.ValueKit
import Idealize.ShloMosaic.Lib.Pipeline.ReadBack
import Idealize.ShloMosaic.Lib.KernelVsHost
public import proofs.«01_k».proof.Proof.Rows

@[expose] public section

set_option maxRecDepth 16384

noncomputable section

namespace Cert.ConvFIdeal.Value

open Cert.ConvFIdeal Cert.ConvFIdeal.Gen Idealize.ShloMosaic Idealize.ShloMosaic.TcCoe Idealize.SL.Sem
open Idealize.ShloMosaic.Pipeline (Dat)
open Cert.Rows (pos down row pos_row row_div pad_zero select_ite select_pos)

/-- Each row's position in its sequence, as the kernel forms it. -/
def place : IVec S4224x1 32 :=
  select (cmpi .sge (iota .tc S4224x1 32 [0] iota_S4224x1_d0_w32) (broadcast S4224x1 2064#32)) (subi (iota .tc S4224x1 32 [0] iota_S4224x1_d0_w32) (broadcast S4224x1 2064#32)) (iota .tc S4224x1 32 [0] iota_S4224x1_d0_w32)

theorem place_apply (j : S4224x1.Idx) : place j = BitVec.ofNat 32 (pos (j 0)) := by
  pointwise [place]
  exact select_pos (j 0)

theorem sge_pos : ∀ (s : Fin 3) (r : Fin 4224), IntOp.cmpi .sge (BitVec.ofNat 32 (pos r)) (BitVec.ofNat 32 s.val) = if s.val ≤ pos r then 1#1 else 0#1 := by decide +kernel

/-- The rows moved down within their sequences. -/
def moved (s : BitVec 32) (v : FVec Ideal S4224x128 .f32) : FVec Ideal S4224x128 .f32 :=
  select (broadcastTo S4224x128 (shapeCast S4224x1 (cmpi .sge place (broadcast S4224x1 s)) shapeCasts_S4224x1_S4224x1) broadcasts_S4224x1_S4224x128)
    (dynamicRotate 0 s none v rotates_S4224x128_d0) (broadcast S4224x128 (Scalar.ofBits .f32 0x00000000#32))

set_option maxRecDepth 200000 in
theorem moved2 (v : FVec Ideal S4224x128 .f32) (r : Fin 4224) (k : Fin 128) : moved 2#32 v (ix2 r k) = down 2 (fun r => v (ix2 r k)) r := by
  unfold moved
  generalize hP : place = P
  pointwise
  subst hP
  rw [place_apply]
  exact (congrArg (fun c => Scalar.select c _ _) (sge_pos 2 r)).trans (select_ite _ _ _)

set_option maxRecDepth 200000 in
theorem moved1 (v : FVec Ideal S4224x128 .f32) (r : Fin 4224) (k : Fin 128) : moved 1#32 v (ix2 r k) = down 1 (fun r => v (ix2 r k)) r := by
  unfold moved
  generalize hP : place = P
  pointwise
  subst hP
  rw [place_apply]
  exact (congrArg (fun c => Scalar.select c _ _) (sge_pos 1 r)).trans (select_ite _ _ _)

def product (x1 x2 : Vec Ideal S4224x128 .f32) : FVec Ideal S4224x128 .f32 :=
  mulf (shapeCast S4224x128 x1 shapeCasts_S4224x128_S4224x128) (shapeCast S4224x128 x2 shapeCasts_S4224x128_S4224x128)

/-- Column `n` of the input over all rows, with zeros in the rows added at the end. -/
def ucol (u : (⟨S2x2064x8192, .f32⟩ : BufTy).Contents (Elt Ideal)) (n : Fin 8192) (r : Fin 4224) : EReal := if h : r.val < 4128 then u (ix3 ⟨r.val / 2064, by omega⟩ ⟨r.val % 2064, by omega⟩ n) else 0

theorem ucol_row (u : (⟨S2x2064x8192, .f32⟩ : BufTy).Contents (Elt Ideal)) (n : Fin 8192) (b : Fin 2) (l : Fin 2064) : ucol u n (row b l) = u (ix3 b l n) := by
  have h : (row b l).val < 4128 := by show b.val * 2064 + l.val < 4128; omega
  refine (dif_pos h).trans (congrArg₂ (fun b l => u (ix3 b l n)) (Fin.ext ?_) (Fin.ext ?_))
  · show (b.val * 2064 + l.val) / 2064 = b.val; omega
  · show (b.val * 2064 + l.val) % 2064 = l.val; omega

theorem ucol_end (u : (⟨S2x2064x8192, .f32⟩ : BufTy).Contents (Elt Ideal)) (n : Fin 8192) (r : Fin 4224) (h : 4128 ≤ r.val) : ucol u n r = 0 := dif_neg (by omega)

/-- Column `n` of the convolution's input. -/
def gated (u : (⟨S2x2064x8192, .f32⟩ : BufTy).Contents (Elt Ideal)) (n : Fin 2048) (r : Fin 4224) : EReal := ucol u ⟨2048 + n.val, by omega⟩ r * ucol u ⟨4096 + n.val, by omega⟩ r

/-- Column `n` of the convolution. -/
def conv (u : (⟨S2x2064x8192, .f32⟩ : BufTy).Contents (Elt Ideal)) (w : (⟨S3x2048, .f32⟩ : BufTy).Contents (Elt Ideal)) (n : Fin 2048) (r : Fin 4224) : EReal :=
  down 2 (gated u n) r * w (ix2 0 n) + down 1 (gated u n) r * w (ix2 1 n) + gated u n r * w (ix2 2 n)

theorem kernel_out (x0 x1 x2 : Vec Ideal S4224x128 .f32) (x3 : Vec Ideal S3x128 .f32) (u : (⟨S2x2064x8192, .f32⟩ : BufTy).Contents (Elt Ideal)) (w : (⟨S3x2048, .f32⟩ : BufTy).Contents (Elt Ideal)) (n : Fin 2048) (r : Fin 4224) (k : Fin 128)
    (h0 : ∀ r, x0 (ix2 r k) = ucol u ⟨n.val, by omega⟩ r) (h1 : ∀ r, x1 (ix2 r k) = ucol u ⟨2048 + n.val, by omega⟩ r) (h2 : ∀ r, x2 (ix2 r k) = ucol u ⟨4096 + n.val, by omega⟩ r) (h3 : ∀ a, x3 (ix2 a k) = w (ix2 a n)) :
    k0_pay1 (F := Ideal) x1 x2 x3 x0 (ix2 r k) = (ucol u ⟨n.val, by omega⟩ r * conv u w n r : EReal) := by
  have e : k0_pay1 (F := Ideal) x1 x2 x3 x0 = truncf .bf16 (mulf (shapeCast S4224x128 x0 shapeCasts_S4224x128_S4224x128)
      (addf (addf (mulf (moved 2#32 (product x1 x2)) (broadcastTo S4224x128 (extractStridedSlice S1x128 ![0, 0] x3 slices_S3x128_o0_0_S1x128) broadcasts_S1x128_S4224x128))
        (mulf (moved 1#32 (product x1 x2)) (broadcastTo S4224x128 (extractStridedSlice S1x128 ![1, 0] x3 slices_S3x128_o1_0_S1x128) broadcasts_S1x128_S4224x128)))
        (mulf (product x1 x2) (broadcastTo S4224x128 (extractStridedSlice S1x128 ![2, 0] x3 slices_S3x128_o2_0_S1x128) broadcasts_S1x128_S4224x128)))) bitsLt_bf16_f32 := rfl
  have hp : ∀ r, product x1 x2 (ix2 r k) = gated u n r := fun r => by
    pointwise [product]
    rw [h1, h2]; rfl
  have hm2 : moved 2#32 (product x1 x2) (ix2 r k) = down 2 (gated u n) r := (moved2 _ r k).trans (congrArg (fun f => down 2 f r) (funext hp))
  have hm1 : moved 1#32 (product x1 x2) (ix2 r k) = down 1 (gated u n) r := (moved1 _ r k).trans (congrArg (fun f => down 1 f r) (funext hp))
  have hp' := hp r
  rw [e]
  generalize moved 2#32 (product x1 x2) = M2 at hm2
  generalize moved 1#32 (product x1 x2) = M1 at hm1
  generalize product x1 x2 = M0 at hp'
  pointwise
  rw [hm2, hm1, hp', h0, h3, h3, h3]
  rfl

/-! The reference's values at a position of a sequence. -/

theorem down_row_two (x : Fin 4224 → EReal) (b : Fin 2) (l : Fin 2064) : down 2 x (row b l) = if h : l.val < 2 then 0 else x (row b ⟨l.val - 2, by omega⟩) := by
  unfold down
  rw [pos_row]
  by_cases h : l.val < 2
  · rw [dif_pos h]; exact if_neg (by omega)
  · refine (if_pos (by omega)).trans (Eq.trans ?_ (dif_neg h).symm)
    exact congrArg x (Fin.ext (by show (b.val * 2064 + l.val + 4224 - 2) % 4224 = b.val * 2064 + (l.val - 2); omega))

theorem down_row_one (x : Fin 4224 → EReal) (b : Fin 2) (l : Fin 2064) : down 1 x (row b l) = if h : 1 + l.val < 2 then 0 else x (row b ⟨1 + l.val - 2, by omega⟩) := by
  unfold down
  rw [pos_row]
  by_cases h : 1 + l.val < 2
  · rw [dif_pos h]; exact if_neg (by omega)
  · refine (if_pos (by omega)).trans (Eq.trans ?_ (dif_neg h).symm)
    exact congrArg x (Fin.ext (by show (b.val * 2064 + l.val + 4224 - 1) % 4224 = b.val * 2064 + (1 + l.val - 2); omega))

section
open ConvFRefIdeal.Read
variable (u : (⟨S2x2064x8192, .f32⟩ : BufTy).Contents (Elt Ideal)) (w : (⟨S3x2048, .f32⟩ : BufTy).Contents (Elt Ideal))

theorem ref_gated (n : Fin 2048) (b : Fin 2) (l : Fin 2064) : val_main_v3 (F := Ideal) u (ix3 b l n) = gated u n (row b l) := by
  unfold gated
  rw [ucol_row, ucol_row]
  pointwise [val_main_v3, val_main_v2, val_main_v1]

theorem ref_conv (n : Fin 2048) (b : Fin 2) (l : Fin 2064) : val_main_v25 (F := Ideal) u w (ix3 b l n) = conv u w n (row b l) := by
  have h := fun b l => ref_gated u n b l
  unfold conv
  rw [down_row_two, down_row_one]
  unfold val_main_v25 val_main_v24 val_main_v19 val_main_v18 val_main_v17 val_main_v12 val_main_v11 val_main_v6 val_main_v5 val_main_v4 val_main_cst
  generalize val_main_v3 (F := Ideal) u = A at h
  pointwise [val_main_v23, val_main_v22, val_main_v21, val_main_v20, val_main_v16, val_main_v15, val_main_v14, val_main_v13, val_main_v10, val_main_v9, val_main_v8, val_main_v7]
  simp only [h]

theorem ref_out (r : Fin 4224) (n : Fin 2048) : val_main_v29 (F := Ideal) u w (ix2 r n) = (ucol u ⟨n.val, by omega⟩ r * conv u w n r : EReal) := by
  have h := fun b l => ref_conv u w n b l
  unfold val_main_v29 val_main_v28 val_main_v27 val_main_v26 val_main_call0_v0 val_main_c
  generalize val_main_v25 (F := Ideal) u w = A at h
  pointwise [val_main_v0]
  rw [pad_zero]
  by_cases g : r.val < 4128
  · refine (dif_pos g).trans ?_
    rw [h, row_div r g]
    exact congrArg (fun a : EReal => a * conv u w n r) (dif_pos g : ucol u ⟨n.val, by omega⟩ r = _).symm
  · rw [dif_neg g, ucol_end _ _ r (by omega), zero_mul]
end

variable (m : (ℓ : Loc nD τ sig) → Buf (Elt Ideal) ℓ)

/-- The input that the host extends by rows of zeros, at row `r` of column `n`. -/
theorem padded (c : Dev nD) (n : Fin 8192) (r : Fin 4224) : (show EReal from V m c main_v1 (ix2 r n)) = ucol (m ((c : Thread nD τ).loc main_arg0)) n r := by
  show _ = ucol (m (c, Proc.tc.devRef main_arg0)) n r
  unfold V
  simp only [hostOps0, hostOps0_1, List.flatten_cons, List.flatten_nil, List.append_nil, List.cons_append, List.nil_append]
  after_results_simp
  simp only [StableHlo.TRef.toBuf, StableHlo.TRef.ofBuf, cast_eq]
  pointwise
  rw [pad_zero]
  generalize m (c, Proc.tc.devRef main_arg0) = B
  by_cases h : r.val < 4128
  · exact (dif_pos h).trans (dif_pos h : ucol B n r = _).symm
  · exact (dif_neg h).trans (dif_neg h : ucol B n r = _).symm

theorem idx : ∀ t : Fin cfg0.N, win0_0.index t = ![0, t.val] ∧ win0_1.index t = ![0, 16 + t.val] ∧ win0_2.index t = ![0, 32 + t.val] ∧ win0_3.index t = ![0, t.val] ∧ win0_4.index t = ![0, t.val] :=
  (by decide +kernel : ∀ t : Fin grid0.N, _)

theorem blk0 (c : Dev nD) (p : Fin cfg0.N) (n : Fin 2048) (k : Fin 128) (hn : n.val = p.val * 128 + k.val) (r : Fin 4224) :
    (show Vec Ideal S4224x128 .f32 from iblk m c 0 p) (ix2 r k) = ucol (m ((c : Thread nD τ).loc main_arg0)) ⟨n.val, by omega⟩ r := by
  refine Eq.trans ?_ (padded m c ⟨n.val, by omega⟩ r)
  show (V m c main_v1) (((cfg0.win 0).blk p).view.emb (ix2 r k)) = V m c main_v1 (ix2 r ⟨n.val, by omega⟩)
  generalize V m c main_v1 = B
  blk_point [idx p]

theorem blk1 (c : Dev nD) (p : Fin cfg0.N) (n : Fin 2048) (k : Fin 128) (hn : n.val = p.val * 128 + k.val) (r : Fin 4224) :
    (show Vec Ideal S4224x128 .f32 from iblk m c 1 p) (ix2 r k) = ucol (m ((c : Thread nD τ).loc main_arg0)) ⟨2048 + n.val, by omega⟩ r := by
  refine Eq.trans ?_ (padded m c ⟨2048 + n.val, by omega⟩ r)
  show (V m c main_v1) (((cfg0.win 1).blk p).view.emb (ix2 r k)) = V m c main_v1 (ix2 r ⟨2048 + n.val, by omega⟩)
  generalize V m c main_v1 = B
  blk_point [idx p]

theorem blk2 (c : Dev nD) (p : Fin cfg0.N) (n : Fin 2048) (k : Fin 128) (hn : n.val = p.val * 128 + k.val) (r : Fin 4224) :
    (show Vec Ideal S4224x128 .f32 from iblk m c 2 p) (ix2 r k) = ucol (m ((c : Thread nD τ).loc main_arg0)) ⟨4096 + n.val, by omega⟩ r := by
  refine Eq.trans ?_ (padded m c ⟨4096 + n.val, by omega⟩ r)
  show (V m c main_v1) (((cfg0.win 2).blk p).view.emb (ix2 r k)) = V m c main_v1 (ix2 r ⟨4096 + n.val, by omega⟩)
  generalize V m c main_v1 = B
  blk_point [idx p]

theorem blk3 (c : Dev nD) (p : Fin cfg0.N) (n : Fin 2048) (k : Fin 128) (hn : n.val = p.val * 128 + k.val) (a : Fin 3) :
    (show Vec Ideal S3x128 .f32 from iblk m c 3 p) (ix2 a k) = m ((c : Thread nD τ).loc main_arg1) (ix2 a n) := by
  rw [← V_main_arg1 m c]
  show (V m c main_arg1) (((cfg0.win 3).blk p).view.emb (ix2 a k)) = V m c main_arg1 (ix2 a n)
  generalize V m c main_arg1 = B
  blk_point [idx p]

theorem out4 (x0 x1 x2 : Vec Ideal S4224x128 .f32) (x3 : Vec Ideal S3x128 .f32) : out0_4 x0 x1 x2 x3 = k0_pay1 x1 x2 x3 x0 := by frame_out

theorem final (c : Dev nD) : (dats m 0 c).arrAt 4 cfg0.N = ConvFRefIdeal.Read.val_main_v29 (F := Ideal) (m ((c : Thread nD τ).loc main_arg0)) (m ((c : Thread nD τ).loc main_arg1)) := by
  refine (dats m 0 c).arrAt_eq_of_covers 4 _ (by decide +kernel) fun t _ y => ?_
  blk_simp
  rw [after0_4, out4]
  obtain ⟨r, k, rfl⟩ : ∃ (r : Fin 4224) (k : Fin 128), y = ix2 r k := ⟨y 0, y 1, by funext a; match a with | ⟨0, _⟩ => rfl | ⟨1, _⟩ => rfl⟩
  have key : ∀ i : S4224x2048.Idx, (i 0).val = r.val → (i 1).val = t.val * 128 + k.val → (k0_pay1 (F := Ideal) (iblk m c 1 t) (iblk m c 2 t) (iblk m c 3 t) (iblk m c 0 t) (ix2 r k) : EReal) = ConvFRefIdeal.Read.val_main_v29 (F := Ideal) (m ((c : Thread nD τ).loc main_arg0)) (m ((c : Thread nD τ).loc main_arg1)) i := by
    intro i h0 h1
    obtain ⟨q, n, rfl⟩ : ∃ (q : Fin 4224) (n : Fin 2048), i = ix2 q n := ⟨i 0, i 1, by funext a; match a with | ⟨0, _⟩ => rfl | ⟨1, _⟩ => rfl⟩
    obtain rfl : q = r := Fin.ext h0
    exact (kernel_out (iblk m c 0 t) (iblk m c 1 t) (iblk m c 2 t) (iblk m c 3 t) (m ((c : Thread nD τ).loc main_arg0)) (m ((c : Thread nD τ).loc main_arg1)) n q k (blk0 m c t _ _ h1) (blk1 m c t _ _ h1) (blk2 m c t _ _ h1) (blk3 m c t _ _ h1)).trans (ref_out _ _ q n).symm
  refine key _ ?_ ?_
  all_goals blk_simp [idx t] <;> try omega

end Cert.ConvFIdeal.Value
end
-- ==== Proof.SumValue.lean ====
/- The sum of the devices' parts: what the kernel leaves in its result is what the reference computes, element by element,
   over the extended reals. -/
module

public import proofs.«01_k».proof.Proof.Gen.SumIdeal.Value
public import proofs.«01_k».proof.Proof.Gen.SumRefIdeal.Run
public import proofs.«01_k».proof.Proof.Gen.SumRefIdeal.Read
public import Idealize.ShloMosaic.Lib.Pipeline.ValueKit

@[expose] public section

noncomputable section

namespace Cert.SumIdeal.Value

open Cert.SumIdeal Cert.SumIdeal.Gen Idealize.ShloMosaic Idealize.ShloMosaic.TcCoe Idealize.SL.Sem

variable (m : (ℓ : Loc nD τ sig) → Buf (Elt Ideal) ℓ)

theorem sum_parts (a : Vec Ideal S8x16x4096 .f32) (i : S16x4096.Idx) : G1 a i = SumRefIdeal.Read.val_main_v0 (F := Ideal) a i := by
  have hz : (SumRefIdeal.Read.val_main_cst (F := Ideal)) (Shape.Idx.first SumRefIdeal.Gen.h_S_) = (0 : EReal) := by
    show Ideal.ofBits .f32 0x00000000#32 = 0
    simp [Ideal.ofBits, Ideal.ieee]
  rw [SumRefIdeal.Read.val_main_v0_apply, hz, zero_add]
  obtain ⟨r, n, rfl⟩ : ∃ (r : Fin 16) (n : Fin 4096), i = ix2 r n := ⟨i 0, i 1, by funext a; match a with | ⟨0, _⟩ => rfl | ⟨1, _⟩ => rfl⟩
  have hx : ∀ k : Fin 8, SumRefIdeal.Read.idx_main_v0 (ix2 r n) k = ix3 k r n := fun k => by funext a; match a with | ⟨0, _⟩ => rfl | ⟨1, _⟩ => rfl | ⟨2, _⟩ => rfl
  simp only [hx, Fin.sum_univ_eight]
  show k0_pay1 (F := Ideal) (View.ld a r0_0) (View.ld a r0_1) (View.ld a r0_2) (View.ld a r0_3) (View.ld a r0_4) (View.ld a r0_5) (View.ld a r0_6) (View.ld a r0_7) (ix2 r n) = _
  pointwise [k0_pay1]

theorem final (c : Dev nD) : (dats m 0 c).arrAt 1 cfg0.N = SumRefIdeal.Read.val_main_v0 (F := Ideal) (m ((c : Thread nD τ).loc main_arg0)) :=
  (final1 m c).trans (funext (sum_parts _))

end Cert.SumIdeal.Value

end
-- ==== Proof.Averaging.lean ====
/- Sums over the window of rows before a position: the windows that double, and the differences of two sums over all the
   earlier rows. -/
module

public import proofs.«01_k».proof.Proof.Pooling

@[expose] public section

noncomputable section

namespace Cert.Averaging

open Idealize.ShloMosaic
open Cert.Rows (pos down)
open Cert.Pooling (coe_sum foldl_add)

/-- The sum of a column over the `w` rows up to `r` that lie in the same sequence. -/
def past (w : ℕ) (x : Fin 4224 → EReal) (r : Fin 4224) : EReal :=
  ∑ i ∈ Finset.range w, if i ≤ pos r then x ⟨(r.val + 4224 - i) % 4224, Nat.mod_lt _ (by decide)⟩ else 0

theorem past_one (x : Fin 4224 → EReal) (r : Fin 4224) : past 1 x r = x r := by
  unfold past
  rw [Finset.sum_range_one, if_pos (Nat.zero_le _)]
  exact congrArg x (Fin.ext (by show (r.val + 4224 - 0) % 4224 = r.val; omega))

theorem pos_le (r : Fin 4224) : pos r ≤ r.val := by
  unfold pos; split <;> omega

theorem pos_lt (r : Fin 4224) : pos r < 2160 := by
  unfold pos; split <;> omega

theorem pos_back (r : Fin 4224) (i : ℕ) (h : i ≤ pos r) : pos ⟨(r.val + 4224 - i) % 4224, Nat.mod_lt _ (by decide)⟩ = pos r - i := by
  unfold pos at *
  dsimp only
  split at h <;> rename_i g
  · rw [if_pos (by omega), if_pos g]; omega
  · rw [if_neg (by omega), if_neg g]; omega

/-- The window of twice the length is the window and the window as many rows before. -/
theorem past_double (w : ℕ) (x : Fin 4224 → EReal) (r : Fin 4224) : past (w + w) x r = past w x r + down w (past w x) r := by
  unfold down
  show _ = _ + (if w ≤ pos r then past w x ⟨(r.val + 4224 - w) % 4224, _⟩ else 0)
  have e : past (w + w) x r = past w x r + ∑ i ∈ Finset.range w, if w + i ≤ pos r then x ⟨(r.val + 4224 - (w + i)) % 4224, Nat.mod_lt _ (by decide)⟩ else 0 :=
    Finset.sum_range_add _ w w
  rw [e]
  refine congrArg (past w x r + ·) ?_
  have hl := pos_le r
  split
  · next h =>
    unfold past
    rw [pos_back r w h]
    refine Finset.sum_congr rfl fun i _ => ?_
    by_cases g : i ≤ pos r - w
    · rw [if_pos g, if_pos (by omega)]
      exact congrArg x (Fin.ext (by show (r.val + 4224 - (w + i)) % 4224 = ((r.val + 4224 - w) % 4224 + 4224 - i) % 4224; omega))
    · rw [if_neg g, if_neg (by omega)]
  · exact Finset.sum_eq_zero fun i _ => if_neg (by omega)

/-- The sum over a position and all the earlier ones, as the host forms it. -/
def before (a : Fin 2160 → EReal) (l : Fin 2160) : EReal :=
  ∑ k : Fin 2160, if h : 2159 ≤ l.val + k.val then a ⟨l.val + k.val - 2159, by omega⟩ else 0

/-- Of real numbers: the sum over all earlier positions, less the same sum `w` positions before, is the sum over a window. -/
theorem before_sub (w : ℕ) (a : Fin 2160 → EReal) (ha : ∀ i, Common.IsReal (a i)) (l : Fin 2160) :
    before a l - (if g : w ≤ l.val then before a ⟨l.val - w, by omega⟩ else 0)
      = ∑ i ∈ Finset.range w, if i ≤ l.val then a ⟨l.val - i, by omega⟩ else 0 := by
  choose A hA using ha
  obtain ⟨B, hB⟩ : ∃ B : ℕ → ℕ → ℝ, B = fun p j => if h : j ≤ p ∧ p < 2160 then A ⟨p - j, by omega⟩ else 0 := ⟨_, rfl⟩
  have hB1 : ∀ (p : Fin 2160) (j : ℕ) (h : j ≤ p.val), B p.val j = A ⟨p.val - j, by omega⟩ := fun p j h => by rw [hB]; exact dif_pos ⟨h, p.isLt⟩
  have hB0 : ∀ p j, ¬ j ≤ p → B p j = 0 := fun p j h => by rw [hB]; exact dif_neg fun g => h g.1
  have hs : ∀ p : Fin 2160, before a p = ((∑ j ∈ Finset.range 2160, B p.val j : ℝ) : EReal) := by
    intro p
    have e : ∀ k : Fin 2160, (if h : 2159 ≤ p.val + k.val then a ⟨p.val + k.val - 2159, by omega⟩ else 0) = ((B p.val (2160 - 1 - k.val) : ℝ) : EReal) := by
      intro k
      by_cases h : 2159 ≤ p.val + k.val
      · rw [dif_pos h, hA, hB1 p _ (by omega)]
        exact congrArg (fun i => ((A i : ℝ) : EReal)) (Fin.ext (by dsimp only; omega))
      · rw [dif_neg h, hB0 _ _ (by omega), EReal.coe_zero]
    unfold before
    rw [Finset.sum_congr rfl fun k _ => e k, ← coe_sum]
    refine congrArg _ ?_
    rw [Fin.sum_univ_eq_sum_range (fun k => B p.val (2160 - 1 - k)) 2160]
    exact Finset.sum_range_reflect (B p.val) 2160
  have hr : ∀ i, (if i ≤ l.val then a ⟨l.val - i, by omega⟩ else 0) = ((B l.val i : ℝ) : EReal) := by
    intro i
    by_cases h : i ≤ l.val
    · rw [if_pos h, hA, hB1 l i h]
    · rw [if_neg h, hB0 _ _ h, EReal.coe_zero]
  have hq : (if g : w ≤ l.val then before a ⟨l.val - w, by omega⟩ else 0) = ((∑ j ∈ Finset.range 2160, B l.val (w + j) : ℝ) : EReal) := by
    by_cases g : w ≤ l.val
    · rw [dif_pos g, hs]
      refine congrArg _ (Finset.sum_congr rfl fun j _ => ?_)
      by_cases h : j ≤ l.val - w
      · rw [hB1 ⟨l.val - w, by omega⟩ j h, hB1 l (w + j) (by omega)]
        exact congrArg A (Fin.ext (by dsimp only; omega))
      · rw [hB0 _ _ h, hB0 _ _ (by omega)]
    · rw [dif_neg g, Finset.sum_eq_zero fun j _ => hB0 _ _ (by omega), EReal.coe_zero]
  rw [hq, hs, Finset.sum_congr rfl fun i _ => hr i, ← coe_sum, ← EReal.coe_sub]
  refine congrArg _ ?_
  have e1 := Finset.sum_range_add (B l.val) 2160 w
  have e2 := Finset.sum_range_add (B l.val) w 2160
  have e3 : ∑ i ∈ Finset.range w, B l.val (2160 + i) = 0 := Finset.sum_eq_zero fun i _ => hB0 _ _ (by omega)
  rw [Nat.add_comm w 2160] at e2
  linarith

/-- The host's sum over the earlier positions of the middle axis. -/
theorem prefix_sum {n0 n2 : ℕ} (h : (⟨3, ![n0, 2160, n2]⟩ : Shape).ReduceWindows ![1, 2160, 1] ![1, 1, 1] ![0, 2159, 0] ![0, 0, 0] ⟨3, ![n0, 2160, n2]⟩)
    (x : (⟨3, ![n0, 2160, n2]⟩ : Shape).Idx → EReal) (b : Fin n0) (l : Fin 2160) (n : Fin n2) :
    Ideal.hostReduceWindowAdd ![1, 2160, 1] ![1, 1, 1] ![0, 2159, 0] ![0, 0, 0] h x 0 (ix3 b l n) = before (fun l => x (ix3 b l n)) l := by
  unfold Ideal.hostReduceWindowAdd Host.reduceWindow before
  refine (foldl_add _ _).trans ((zero_add _).trans ?_)
  have term : ∀ (p : (⟨3, ![1, 2160, 1]⟩ : Shape).Idx) (_ : Decidable (∀ a : Fin 3, ![0, 2159, 0] a ≤ (ix3 b l n a).val * ![1, 1, 1] a + (p a).val ∧ (ix3 b l n a).val * ![1, 1, 1] a + (p a).val - ![0, 2159, 0] a < ![n0, 2160, n2] a)),
      (if hin : ∀ a : Fin 3, ![0, 2159, 0] a ≤ (ix3 b l n a).val * ![1, 1, 1] a + (p a).val ∧ (ix3 b l n a).val * ![1, 1, 1] a + (p a).val - ![0, 2159, 0] a < ![n0, 2160, n2] a
        then x (fun a => ⟨(ix3 b l n a).val * ![1, 1, 1] a + (p a).val - ![0, 2159, 0] a, (hin a).2⟩) else 0)
      = if h : 2159 ≤ l.val + (p 1).val then x (ix3 b ⟨l.val + (p 1).val - 2159, by have := (p 1).isLt; change (p 1).val < 2160 at this; omega⟩ n) else 0 := by
    intro p _
    have p0 : (p 0).val = 0 := Nat.lt_one_iff.mp (p 0).isLt
    have p2 : (p 2).val = 0 := Nat.lt_one_iff.mp (p 2).isLt
    have p1 : (p 1).val < 2160 := (p 1).isLt
    by_cases g : 2159 ≤ l.val + (p 1).val
    · rw [dif_pos g]
      refine (dif_pos ?_).trans (congrArg x ?_)
      · intro a
        match a with
        | ⟨0, _⟩ => exact ⟨Nat.zero_le _, by show b.val * 1 + (p 0).val - 0 < n0; omega⟩
        | ⟨1, _⟩ => exact ⟨by show 2159 ≤ l.val * 1 + (p 1).val; omega, by show l.val * 1 + (p 1).val - 2159 < 2160; omega⟩
        | ⟨2, _⟩ => exact ⟨Nat.zero_le _, by show n.val * 1 + (p 2).val - 0 < n2; omega⟩
      · funext a
        match a with
        | ⟨0, _⟩ => exact Fin.ext (by show b.val * 1 + (p 0).val - 0 = b.val; omega)
        | ⟨1, _⟩ => exact Fin.ext (by show l.val * 1 + (p 1).val - 2159 = l.val + (p 1).val - 2159; omega)
        | ⟨2, _⟩ => exact Fin.ext (by show n.val * 1 + (p 2).val - 0 = n.val; omega)
    · rw [dif_neg g]
      exact dif_neg fun hin => g (by have := (hin 1).1; change 2159 ≤ l.val * 1 + (p 1).val at this; omega)
  refine (Finset.sum_congr rfl fun i _ => term ((⟨3, ![1, 2160, 1]⟩ : Shape).rowMajor.symm i) _).trans ?_
  refine (Equiv.sum_comp ((⟨3, ![1, 2160, 1]⟩ : Shape).rowMajor.symm) (fun p => if h : 2159 ≤ l.val + (p 1).val then x (ix3 b ⟨l.val + (p 1).val - 2159, by have := (p 1).isLt; change (p 1).val < 2160 at this; omega⟩ n) else 0)).trans ?_
  refine (Fintype.sum_bijective (fun k : Fin 2160 => (ix3 0 k 0 : (⟨3, ![1, 2160, 1]⟩ : Shape).Idx)) ⟨fun a c e => congrFun e 1, fun p => ⟨p 1, ?_⟩⟩ _ _ fun k => rfl).symm
  funext a
  match a with
  | ⟨0, _⟩ => exact Fin.ext (Nat.lt_one_iff.mp (p 0).isLt).symm
  | ⟨1, _⟩ => rfl
  | ⟨2, _⟩ => exact Fin.ext (Nat.lt_one_iff.mp (p 2).isLt).symm

/-- The window's sum at a row, by the row's sequence and position. -/
theorem past_row (w : ℕ) (x : Fin 4224 → EReal) (r : Fin 4224) (f : Fin 2160 → EReal)
    (hf : ∀ i (h : i ≤ pos r), f ⟨pos r - i, by have := pos_lt r; omega⟩ = x ⟨(r.val + 4224 - i) % 4224, Nat.mod_lt _ (by decide)⟩) :
    (∑ i ∈ Finset.range w, if i ≤ pos r then f ⟨pos r - i, by have := pos_lt r; omega⟩ else 0) = past w x r := by
  unfold past
  refine Finset.sum_congr rfl fun i _ => ?_
  by_cases h : i ≤ pos r
  · rw [if_pos h, if_pos h, hf i h]
  · rw [if_neg h, if_neg h]

end Cert.Averaging
end
-- ==== Proof.PoolFValue.lean ====
/- The pooling: what the kernel leaves in its result is what the reference computes, element by element, over the extended
   reals. The kernel sums the rows of a window by doubling, the reference takes the difference of two sums over all the
   earlier rows: they agree where every element is a real number. -/
module

public import proofs.«01_k».proof.Proof.Gen.PoolFIdeal.Value
public import proofs.«01_k».proof.Proof.Gen.PoolFRefIdeal.Run
public import proofs.«01_k».proof.Proof.Gen.PoolFRefIdeal.Read
public import proofs.«01_k».proof.Pre_pool_fwd_finite
public import Idealize.ShloMosaic.Lib.Pipeline.ValueKit
import Idealize.ShloMosaic.Lib.Pipeline.ReadBack
import Idealize.ShloMosaic.Lib.KernelVsHost
import Idealize.ShloMosaic.Lib.ReduceAll
public import proofs.«01_k».proof.Proof.Rows
public import proofs.«01_k».proof.Proof.Averaging
public import proofs.«01_k».proof.Proof.Finite

@[expose] public section

set_option maxRecDepth 16384

noncomputable section

namespace Cert.PoolFIdeal.Value

open Cert.PoolFIdeal Cert.PoolFIdeal.Gen Idealize.ShloMosaic Idealize.ShloMosaic.TcCoe Idealize.SL.Sem
open Idealize.ShloMosaic.Pipeline (Dat)
open Cert.Rows (pos down select_ite select_pos)
open Cert.Pooling (count)
open Cert.Averaging (past past_one past_double pos_le pos_lt before before_sub prefix_sum past_row)

theorem pay2_apply (j : S4224x1.Idx) : k0_pay2 j = BitVec.ofNat 32 (pos (j 0)) := by
  pointwise [k0_pay2]
  exact select_pos (j 0)

/-- The rows and, added to them, the rows `s` before. -/
def stage (s : BitVec 32) (A : FVec Ideal S4224x128 .f32) : FVec Ideal S4224x128 .f32 :=
  addf A (select (broadcastTo S4224x128 (shapeCast S4224x1 (cmpi .sge k0_pay2 (broadcast S4224x1 s)) shapeCasts_S4224x1_S4224x1) broadcasts_S4224x1_S4224x128)
    (dynamicRotate 0 s none A rotates_S4224x128_d0) (broadcast S4224x128 (Scalar.ofBits .f32 0x00000000#32)))

theorem sge_pos : ∀ (s : Fin 9) (r : Fin 4224), IntOp.cmpi .sge (BitVec.ofNat 32 (pos r)) (BitVec.ofNat 32 s.val) = if s.val ≤ pos r then 1#1 else 0#1 := by decide +kernel

set_option maxRecDepth 200000 in
theorem stage1 (A : FVec Ideal S4224x128 .f32) (k : Fin 128) (r : Fin 4224) : stage 1#32 A (ix2 r k) = (A (ix2 r k) + down 1 (fun r => A (ix2 r k)) r : EReal) := by
  unfold stage
  generalize hP : k0_pay2 = P
  pointwise
  subst hP
  rw [pay2_apply]
  refine congrArg (A (ix2 r k) + · : EReal → EReal) ((congrArg (fun c => Scalar.select c _ _) (sge_pos 1 r)).trans ((select_ite _ _ _).trans ?_))
  rfl

set_option maxRecDepth 200000 in
theorem stage2 (A : FVec Ideal S4224x128 .f32) (k : Fin 128) (r : Fin 4224) : stage 2#32 A (ix2 r k) = (A (ix2 r k) + down 2 (fun r => A (ix2 r k)) r : EReal) := by
  unfold stage
  generalize hP : k0_pay2 = P
  pointwise
  subst hP
  rw [pay2_apply]
  refine congrArg (A (ix2 r k) + · : EReal → EReal) ((congrArg (fun c => Scalar.select c _ _) (sge_pos 2 r)).trans ((select_ite _ _ _).trans ?_))
  rfl

set_option maxRecDepth 200000 in
theorem stage4 (A : FVec Ideal S4224x128 .f32) (k : Fin 128) (r : Fin 4224) : stage 4#32 A (ix2 r k) = (A (ix2 r k) + down 4 (fun r => A (ix2 r k)) r : EReal) := by
  unfold stage
  generalize hP : k0_pay2 = P
  pointwise
  subst hP
  rw [pay2_apply]
  refine congrArg (A (ix2 r k) + · : EReal → EReal) ((congrArg (fun c => Scalar.select c _ _) (sge_pos 4 r)).trans ((select_ite _ _ _).trans ?_))
  rfl

set_option maxRecDepth 200000 in
theorem stage8 (A : FVec Ideal S4224x128 .f32) (k : Fin 128) (r : Fin 4224) : stage 8#32 A (ix2 r k) = (A (ix2 r k) + down 8 (fun r => A (ix2 r k)) r : EReal) := by
  unfold stage
  generalize hP : k0_pay2 = P
  pointwise
  subst hP
  rw [pay2_apply]
  refine congrArg (A (ix2 r k) + · : EReal → EReal) ((congrArg (fun c => Scalar.select c _ _) (sge_pos 8 r)).trans ((select_ite _ _ _).trans ?_))
  rfl

def s2 (A : FVec Ideal S4224x128 .f32) : FVec Ideal S4224x128 .f32 := stage 1#32 A
def s4 (A : FVec Ideal S4224x128 .f32) : FVec Ideal S4224x128 .f32 := stage 2#32 (s2 A)
def s8 (A : FVec Ideal S4224x128 .f32) : FVec Ideal S4224x128 .f32 := stage 4#32 (s4 A)
def s16 (A : FVec Ideal S4224x128 .f32) : FVec Ideal S4224x128 .f32 := stage 8#32 (s8 A)

theorem s2_apply (A : FVec Ideal S4224x128 .f32) (k : Fin 128) (r : Fin 4224) : s2 A (ix2 r k) = past 2 (fun r => A (ix2 r k)) r := by
  have e : (fun r => A (ix2 r k) : Fin 4224 → EReal) = past 1 (fun r => A (ix2 r k)) := funext fun r => (past_one (fun r => A (ix2 r k)) r).symm
  refine (stage1 A k r).trans ((past_double 1 _ r).trans ?_).symm
  rw [← e]

theorem s4_apply (A : FVec Ideal S4224x128 .f32) (k : Fin 128) (r : Fin 4224) : s4 A (ix2 r k) = past 4 (fun r => A (ix2 r k)) r := by
  refine (stage2 (s2 A) k r).trans ((past_double 2 _ r).trans ?_).symm
  simp only [s2_apply]

theorem s8_apply (A : FVec Ideal S4224x128 .f32) (k : Fin 128) (r : Fin 4224) : s8 A (ix2 r k) = past 8 (fun r => A (ix2 r k)) r := by
  refine (stage4 (s4 A) k r).trans ((past_double 4 _ r).trans ?_).symm
  simp only [s4_apply]

theorem s16_apply (A : FVec Ideal S4224x128 .f32) (k : Fin 128) (r : Fin 4224) : s16 A (ix2 r k) = past 16 (fun r => A (ix2 r k)) r := by
  refine (stage8 (s8 A) k r).trans ((past_double 8 _ r).trans ?_).symm
  simp only [s8_apply]

/-- The number of the group of columns a point works on, as the kernel forms it. -/
def grp (i : grid0.Coords) : BitVec 32 :=
  Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 4#32 0#32)) (Scalar.extui (Scalar.cmpi .slt 4#32 0#32)))) (Scalar.cmpi .ne (Scalar.remsi (BitVec.ofNat 32 (i 0).val) 4#32) 0#32)) (Scalar.subi (Scalar.divsi (BitVec.ofNat 32 (i 0).val) 4#32) 1#32) (Scalar.divsi (BitVec.ofNat 32 (i 0).val) 4#32)

theorem grp_eq : ∀ t : Fin cfg0.N, grp (grid0.coords t) = BitVec.ofNat 32 (t.val / 4) :=
  (by decide +kernel : ∀ t : Fin grid0.N, _)

/-- The length of the window of a group of columns. -/
def wide (g : ℕ) : ℕ := 2 ^ (g + 1)

theorem count_word : ∀ (g : Fin 4) (r : Fin 4224), IntOp.minsi (IntOp.addi (BitVec.ofNat 32 (pos r)) 1#32) (Scalar.shli 2#32 (BitVec.ofNat 32 g.val)) = BitVec.ofNat 32 (min (pos r + 1) (wide g.val)) := by decide +kernel

def chosen (v : BitVec 32) (A : FVec Ideal S4224x128 .f32) : FVec Ideal S4224x128 .f32 :=
  Scalar.select (Scalar.cmpi .eq v 0#32) (s2 A) (Scalar.select (Scalar.cmpi .eq v 1#32) (s4 A) (Scalar.select (Scalar.cmpi .eq v 2#32) (s8 A) (s16 A)))

theorem out_eq (i : grid0.Coords) (x0 : Vec Ideal S4224x128 .f32) : out0_1 (F := Ideal) i x0
    = truncf .bf16 (subf (divf (chosen (grp i) x0) (broadcastTo S4224x128 (sitofp .f32 (minsi (addi k0_pay2 (broadcast S4224x1 1#32)) (broadcast S4224x1 (Scalar.shli 2#32 (grp i))))) broadcasts_S4224x1_S4224x128)) x0) bitsLt_bf16_f32 := by
  have h : out0_1 (F := Ideal) i x0 = k0_pay1 (grp i) k0_pay2 x0 (k0_pay3 x0) (k0_pay4 x0) k0_pay5 := by frame_out [grp]
  rw [h]
  rfl

theorem out_apply (i : grid0.Coords) (g : Fin 4) (hg : grp i = BitVec.ofNat 32 g.val) (x0 : Vec Ideal S4224x128 .f32) (k : Fin 128) (r : Fin 4224) :
    out0_1 (F := Ideal) i x0 (ix2 r k) = (Ideal.div (past (wide g.val) (fun r => x0 (ix2 r k)) r) (count (wide g.val) (pos r)) - x0 (ix2 r k) : EReal) := by
  rw [out_eq, hg]
  have hc : chosen (BitVec.ofNat 32 g.val) x0 (ix2 r k) = past (wide g.val) (fun r => x0 (ix2 r k)) r :=
    match g with
    | ⟨0, _⟩ => s2_apply x0 k r
    | ⟨1, _⟩ => s4_apply x0 k r
    | ⟨2, _⟩ => s8_apply x0 k r
    | ⟨3, _⟩ => s16_apply x0 k r
  generalize chosen (BitVec.ofNat 32 g.val) x0 = C at hc
  have hP := pay2_apply
  generalize k0_pay2 = P at hP
  pointwise
  rw [hP, hc]
  refine congrArg (fun a : EReal => Ideal.div (past (wide g.val) (fun r => x0 (ix2 r k)) r) a - x0 (ix2 r k)) ?_
  exact congrArg (FloatOps.sitofp (F := Ideal) .f32) (count_word g r)

/-! The reference's values at a position of a sequence. -/

section
open PoolFRefIdeal.Read
variable (u : (⟨S4224x8192, .f32⟩ : BufTy).Contents (Elt Ideal))

/-- The row of position `l` of sequence `b`, where a sequence runs on over the rows added at the end. -/
def row (b : Fin 2) (l : Fin 2160) : Fin 4224 := ⟨b.val * 2064 + l.val, by omega⟩

/-- Column `n` of the pooling's input. -/
def zcol (n : Fin 2048) (r : Fin 4224) : EReal := u (ix2 r ⟨6144 + n.val, by omega⟩)

/-- Column `n` of a sequence. -/
def scol (b : Fin 2) (n : Fin 2048) (l : Fin 2160) : EReal := zcol u n (row b l)

/-- Column `n` of the pooling's result. -/
def pool (n : Fin 2048) (r : Fin 4224) : EReal := Ideal.div (past (wide (n.val / 512)) (zcol u n) r) (count (wide (n.val / 512)) (pos r)) - zcol u n r

theorem word_count : ∀ (g : Fin 4) (l : Fin 2160), IntOp.minsi (IntOp.addi 1#32 (BitVec.ofNat 32 l.val)) (BitVec.ofNat 32 (wide g.val)) = BitVec.ofNat 32 (min (l.val + 1) (wide g.val)) := by decide +kernel

theorem word_zero : Ideal.ofBits .f32 0x00000000#32 = 0 := by simp [Ideal.ofBits, Ideal.ieee]

theorem sum_before (A : FVec Ideal PoolFRefIdeal.S2x2160x512 .f32) (z : FVec Ideal PoolFRefIdeal.S_ .f32) (hz : ∀ j, z j = (0 : EReal)) (b : Fin 2) (l : Fin 2160) (q : Fin 512) :
    Host.reduceWindowAdd (F := Ideal) ![1, 2160, 1] ![1, 1, 1] ![0, 2159, 0] ![0, 0, 0] A z PoolFRefIdeal.Gen.reduceWindows_S2x2160x512_S2x2160x512_w1s1p0_0_w2160s1p2159_0_w1s1p0_0 PoolFRefIdeal.Gen.h_S_ (ix3 b l q)
      = before (fun l => A (ix3 b l q)) l := by
  unfold Host.reduceWindowAdd
  rw [Ideal.hostReduceWindowAdd_def, hz]
  exact prefix_sum PoolFRefIdeal.Gen.reduceWindows_S2x2160x512_S2x2160x512_w1s1p0_0_w2160s1p2159_0_w1s1p0_0 A b l q

/-- The two sequences as the reference stacks them. -/
theorem ref_stack (b : Fin 2) (l : Fin 2160) (n : Fin 2048) : val_main_v5 (F := Ideal) u (ix3 b l n) = scol u b n l := by
  have hb : b = 0 ∨ b = 1 := by omega
  unfold val_main_v5 scol zcol
  rcases hb with rfl | rfl
  · pointwise [val_main_v4, val_main_v3, val_main_v2, val_main_v1, val_main_v0]
    refine congrArg u (congrArg (fun r => ix2 r _) (Fin.ext ?_))
    show l.val = 0 * 2064 + l.val
    omega
  · pointwise [val_main_v4, val_main_v3, val_main_v2, val_main_v1, val_main_v0]
    refine congrArg u (congrArg (fun r => ix2 r _) (Fin.ext ?_))
    show 2064 + l.val = 1 * 2064 + l.val
    omega

theorem squeeze (y : FVec Ideal PoolFRefIdeal.S2x2160x1x512 .f32) (b : Fin 2) (l : Fin 2160) (q : Fin 512) : shapeCast PoolFRefIdeal.S2x2160x512 y PoolFRefIdeal.Gen.shapeCasts_S2x2160x1x512_S2x2160x512 (ix3 b l q) = y (ix4 b l 0 q) :=
  shapeCast_apply y _ (ix3 b l q) (ix4 b l 0 q) (by rewrite [Shape.rowMajor_val_four, Shape.rowMajor_val_three]; show ((b.val * 2160 + l.val) * 1 + 0) * 512 + q.val = (b.val * 2160 + l.val) * 512 + q.val; omega)

theorem squeeze0 (y : FVec Ideal PoolFRefIdeal.S1x2064x4x512 .f32) (l : Fin 2064) (g : Fin 4) (q : Fin 512) : shapeCast PoolFRefIdeal.S2064x4x512 y PoolFRefIdeal.Gen.shapeCasts_S1x2064x4x512_S2064x4x512 (ix3 l g q) = y (ix4 0 l g q) :=
  shapeCast_apply y _ (ix3 l g q) (ix4 0 l g q) (by rewrite [Shape.rowMajor_val_four, Shape.rowMajor_val_three]; show ((0 * 2064 + l.val) * 4 + g.val) * 512 + q.val = (l.val * 4 + g.val) * 512 + q.val; omega)

theorem squeeze1 (y : FVec Ideal PoolFRefIdeal.S1x2160x4x512 .f32) (l : Fin 2160) (g : Fin 4) (q : Fin 512) : shapeCast PoolFRefIdeal.S2160x4x512 y PoolFRefIdeal.Gen.shapeCasts_S1x2160x4x512_S2160x4x512 (ix3 l g q) = y (ix4 0 l g q) :=
  shapeCast_apply y _ (ix3 l g q) (ix4 0 l g q) (by rewrite [Shape.rowMajor_val_four, Shape.rowMajor_val_three]; show ((0 * 2160 + l.val) * 4 + g.val) * 512 + q.val = (l.val * 4 + g.val) * 512 + q.val; omega)

theorem ref_split (b : Fin 2) (l : Fin 2160) (g : Fin 4) (q : Fin 512) (n : Fin 2048) (hn : g.val * 512 + q.val = n.val) : val_main_v6 (F := Ideal) u (ix4 b l g q) = scol u b n l := by
  have h := ref_stack u b l n
  unfold val_main_v6
  generalize val_main_v5 (F := Ideal) u = A at h
  rw [← h]
  clear h
  obtain ⟨n, hlt⟩ := n
  dsimp only at hn
  subst hn
  pointwise

theorem lt0 (q : Fin 512) : q.val < 2048 := by omega

theorem ref_split0 (b : Fin 2) (l : Fin 2160) (q : Fin 512) : val_main_v6 (F := Ideal) u (ix4 b l 0 q) = scol u b ⟨q.val, lt0 q⟩ l := by
  exact ref_split u b l 0 q ⟨q.val, lt0 q⟩ (show 0 * 512 + q.val = q.val by omega)

theorem ref_in0 (b : Fin 2) (l : Fin 2160) (q : Fin 512) : val_main_v8 (F := Ideal) u (ix3 b l q) = scol u b ⟨q.val, lt0 q⟩ l := by
  have h := ref_split0 u b l q
  unfold val_main_v8
  refine (squeeze _ b l q).trans ?_
  unfold val_main_v7
  refine Eq.trans ?_ h
  generalize val_main_v6 (F := Ideal) u = A
  exact extractStridedSlice_apply ![0, 0, 0, 0] A _ (ix4 b l 0 q) (ix4 b l 0 q) (fun a => match a with
    | ⟨0, _⟩ => by show b.val = 0 + b.val; omega
    | ⟨1, _⟩ => by show l.val = 0 + l.val; omega
    | ⟨2, _⟩ => by show 0 = 0 + 0; omega
    | ⟨3, _⟩ => by show q.val = 0 + q.val; omega)

theorem ref_cum0 (b : Fin 2) (l : Fin 2160) (q : Fin 512) : val_main_v9 (F := Ideal) u (ix3 b l q) = before (scol u b ⟨q.val, lt0 q⟩) l := by
  have h := fun l => ref_in0 u b l q
  unfold val_main_v9 val_main_call0_call0_v0 val_main_call0_call0_cst
  generalize val_main_v8 (F := Ideal) u = A at h
  refine (sum_before A _ (fun _ => word_zero) b l q).trans ?_
  simp only [h]

theorem ref_diff0 (b : Fin 2) (l : Fin 2160) (q : Fin 512) : val_main_v19 (F := Ideal) u (ix3 b l q)
    = (before (scol u b ⟨q.val, lt0 q⟩) l - (if g : 2 ≤ l.val then before (scol u b ⟨q.val, lt0 q⟩) ⟨l.val - 2, by omega⟩ else 0) : EReal) := by
  have h := fun l => ref_cum0 u b l q
  unfold val_main_v19 val_main_v12 val_main_v11 val_main_v10 val_main_cst
  generalize val_main_v9 (F := Ideal) u = A at h
  pointwise
  simp only [h]
  refine congrArg (fun a : EReal => before (scol u b ⟨q.val, lt0 q⟩) l - a) ?_
  by_cases g : 2 ≤ l.val
  · rw [dif_pos g, dif_neg (by omega)]
  · rw [dif_neg g, dif_pos (by omega)]

theorem ref_mean0 (hr : ∀ n r, Common.IsReal (zcol u n r)) (b : Fin 2) (l : Fin 2160) (q : Fin 512) : val_main_v22 (F := Ideal) u (ix3 b l q)
    = Ideal.div (∑ i ∈ Finset.range 2, if i ≤ l.val then scol u b ⟨q.val, lt0 q⟩ ⟨l.val - i, by omega⟩ else 0) (count 2 l.val) := by
  have h := (ref_diff0 u b l q).trans (before_sub 2 (scol u b ⟨q.val, lt0 q⟩) (fun _ => hr _ _) l)
  unfold val_main_v22
  generalize val_main_v19 (F := Ideal) u = A at h
  pointwise [val_main_v21, val_main_v20, val_main_v18, val_main_v17, val_main_v16, val_main_v15, val_main_v14, val_main_v13, val_main_c, val_main_c_0]
  rw [h]
  exact congrArg (Ideal.div _) (congrArg (FloatOps.sitofp (F := Ideal) .f32) (word_count 0 l))

theorem ref_pool0 (hr : ∀ n r, Common.IsReal (zcol u n r)) (b : Fin 2) (l : Fin 2160) (q : Fin 512) : val_main_v76 (F := Ideal) u (ix4 b l 0 q)
    = (Ideal.div (∑ i ∈ Finset.range 2, if i ≤ l.val then scol u b ⟨q.val, lt0 q⟩ ⟨l.val - i, by omega⟩ else 0) (count 2 l.val) - scol u b ⟨q.val, lt0 q⟩ l : EReal) := by
  have h := ref_mean0 u hr b l q
  have h6 := ref_split0 u b l q
  unfold val_main_v76 val_main_v75 val_main_v74 val_main_v73 val_main_v72 val_main_v71
  generalize val_main_v6 (F := Ideal) u = A6 at h6
  generalize val_main_v22 (F := Ideal) u = A0 at *
  generalize val_main_v38 (F := Ideal) u = A1 at *
  generalize val_main_v54 (F := Ideal) u = A2 at *
  generalize val_main_v70 (F := Ideal) u = A3 at *
  pointwise
  rw [h, h6]

theorem ref_at0 (hr : ∀ n r, Common.IsReal (zcol u n r)) (b : Fin 2) (l : Fin 2160) (q : Fin 512) (n : Fin 2048) (hn : n.val = 0 * 512 + q.val) (r : Fin 4224) (hl : l.val = pos r) (hb : row b l = r) :
    val_main_v76 (F := Ideal) u (ix4 b l 0 q) = pool u n r := by
  have hw : wide (n.val / 512) = 2 := by
    rw [show n.val / 512 = 0 by omega]; decide
  have hC : n = ⟨q.val, lt0 q⟩ := Fin.ext (by dsimp only; omega)
  have hp : l = ⟨pos r, pos_lt r⟩ := Fin.ext hl
  have hs : (∑ i ∈ Finset.range 2, if i ≤ pos r then scol u b ⟨q.val, lt0 q⟩ ⟨pos r - i, by have := pos_lt r; omega⟩ else 0) = past 2 (zcol u ⟨q.val, lt0 q⟩) r := by
    refine past_row 2 _ r (scol u b ⟨q.val, lt0 q⟩) fun i h => congrArg (zcol u ⟨q.val, lt0 q⟩) (Fin.ext ?_)
    have := congrArg Fin.val hb
    change b.val * 2064 + l.val = r.val at this
    have := pos_le r
    show b.val * 2064 + (pos r - i) = (r.val + 4224 - i) % 4224
    omega
  have hz : scol u b ⟨q.val, lt0 q⟩ l = zcol u ⟨q.val, lt0 q⟩ r := congrArg (zcol u ⟨q.val, lt0 q⟩) hb
  refine (ref_pool0 u hr b l q).trans ?_
  rw [hz]
  subst hp
  unfold pool
  rw [hw, hC, ← hs]

theorem lt1 (q : Fin 512) : 512 + q.val < 2048 := by omega

theorem ref_split1 (b : Fin 2) (l : Fin 2160) (q : Fin 512) : val_main_v6 (F := Ideal) u (ix4 b l 1 q) = scol u b ⟨512 + q.val, lt1 q⟩ l := by
  exact ref_split u b l 1 q ⟨512 + q.val, lt1 q⟩ (show 1 * 512 + q.val = 512 + q.val by omega)

theorem ref_in1 (b : Fin 2) (l : Fin 2160) (q : Fin 512) : val_main_v24 (F := Ideal) u (ix3 b l q) = scol u b ⟨512 + q.val, lt1 q⟩ l := by
  have h := ref_split1 u b l q
  unfold val_main_v24
  refine (squeeze _ b l q).trans ?_
  unfold val_main_v23
  refine Eq.trans ?_ h
  generalize val_main_v6 (F := Ideal) u = A
  exact extractStridedSlice_apply ![0, 0, 1, 0] A _ (ix4 b l 0 q) (ix4 b l 1 q) (fun a => match a with
    | ⟨0, _⟩ => by show b.val = 0 + b.val; omega
    | ⟨1, _⟩ => by show l.val = 0 + l.val; omega
    | ⟨2, _⟩ => by show 1 = 1 + 0; omega
    | ⟨3, _⟩ => by show q.val = 0 + q.val; omega)

theorem ref_cum1 (b : Fin 2) (l : Fin 2160) (q : Fin 512) : val_main_v25 (F := Ideal) u (ix3 b l q) = before (scol u b ⟨512 + q.val, lt1 q⟩) l := by
  have h := fun l => ref_in1 u b l q
  unfold val_main_v25 val_main_call1_call0_v0 val_main_call1_call0_cst
  generalize val_main_v24 (F := Ideal) u = A at h
  refine (sum_before A _ (fun _ => word_zero) b l q).trans ?_
  simp only [h]

theorem ref_diff1 (b : Fin 2) (l : Fin 2160) (q : Fin 512) : val_main_v35 (F := Ideal) u (ix3 b l q)
    = (before (scol u b ⟨512 + q.val, lt1 q⟩) l - (if g : 4 ≤ l.val then before (scol u b ⟨512 + q.val, lt1 q⟩) ⟨l.val - 4, by omega⟩ else 0) : EReal) := by
  have h := fun l => ref_cum1 u b l q
  unfold val_main_v35 val_main_v28 val_main_v27 val_main_v26 val_main_cst_1
  generalize val_main_v25 (F := Ideal) u = A at h
  pointwise
  simp only [h]
  refine congrArg (fun a : EReal => before (scol u b ⟨512 + q.val, lt1 q⟩) l - a) ?_
  by_cases g : 4 ≤ l.val
  · rw [dif_pos g, dif_neg (by omega)]
  · rw [dif_neg g, dif_pos (by omega)]

theorem ref_mean1 (hr : ∀ n r, Common.IsReal (zcol u n r)) (b : Fin 2) (l : Fin 2160) (q : Fin 512) : val_main_v38 (F := Ideal) u (ix3 b l q)
    = Ideal.div (∑ i ∈ Finset.range 4, if i ≤ l.val then scol u b ⟨512 + q.val, lt1 q⟩ ⟨l.val - i, by omega⟩ else 0) (count 4 l.val) := by
  have h := (ref_diff1 u b l q).trans (before_sub 4 (scol u b ⟨512 + q.val, lt1 q⟩) (fun _ => hr _ _) l)
  unfold val_main_v38
  generalize val_main_v35 (F := Ideal) u = A at h
  pointwise [val_main_v37, val_main_v36, val_main_v34, val_main_v33, val_main_v32, val_main_v31, val_main_v30, val_main_v29, val_main_c_2, val_main_c_3]
  rw [h]
  exact congrArg (Ideal.div _) (congrArg (FloatOps.sitofp (F := Ideal) .f32) (word_count 1 l))

theorem ref_pool1 (hr : ∀ n r, Common.IsReal (zcol u n r)) (b : Fin 2) (l : Fin 2160) (q : Fin 512) : val_main_v76 (F := Ideal) u (ix4 b l 1 q)
    = (Ideal.div (∑ i ∈ Finset.range 4, if i ≤ l.val then scol u b ⟨512 + q.val, lt1 q⟩ ⟨l.val - i, by omega⟩ else 0) (count 4 l.val) - scol u b ⟨512 + q.val, lt1 q⟩ l : EReal) := by
  have h := ref_mean1 u hr b l q
  have h6 := ref_split1 u b l q
  unfold val_main_v76 val_main_v75 val_main_v74 val_main_v73 val_main_v72 val_main_v71
  generalize val_main_v6 (F := Ideal) u = A6 at h6
  generalize val_main_v22 (F := Ideal) u = A0 at *
  generalize val_main_v38 (F := Ideal) u = A1 at *
  generalize val_main_v54 (F := Ideal) u = A2 at *
  generalize val_main_v70 (F := Ideal) u = A3 at *
  pointwise
  rw [h, h6]

theorem ref_at1 (hr : ∀ n r, Common.IsReal (zcol u n r)) (b : Fin 2) (l : Fin 2160) (q : Fin 512) (n : Fin 2048) (hn : n.val = 1 * 512 + q.val) (r : Fin 4224) (hl : l.val = pos r) (hb : row b l = r) :
    val_main_v76 (F := Ideal) u (ix4 b l 1 q) = pool u n r := by
  have hw : wide (n.val / 512) = 4 := by
    rw [show n.val / 512 = 1 by omega]; decide
  have hC : n = ⟨512 + q.val, lt1 q⟩ := Fin.ext (by dsimp only; omega)
  have hp : l = ⟨pos r, pos_lt r⟩ := Fin.ext hl
  have hs : (∑ i ∈ Finset.range 4, if i ≤ pos r then scol u b ⟨512 + q.val, lt1 q⟩ ⟨pos r - i, by have := pos_lt r; omega⟩ else 0) = past 4 (zcol u ⟨512 + q.val, lt1 q⟩) r := by
    refine past_row 4 _ r (scol u b ⟨512 + q.val, lt1 q⟩) fun i h => congrArg (zcol u ⟨512 + q.val, lt1 q⟩) (Fin.ext ?_)
    have := congrArg Fin.val hb
    change b.val * 2064 + l.val = r.val at this
    have := pos_le r
    show b.val * 2064 + (pos r - i) = (r.val + 4224 - i) % 4224
    omega
  have hz : scol u b ⟨512 + q.val, lt1 q⟩ l = zcol u ⟨512 + q.val, lt1 q⟩ r := congrArg (zcol u ⟨512 + q.val, lt1 q⟩) hb
  refine (ref_pool1 u hr b l q).trans ?_
  rw [hz]
  subst hp
  unfold pool
  rw [hw, hC, ← hs]

theorem lt2 (q : Fin 512) : 1024 + q.val < 2048 := by omega

theorem ref_split2 (b : Fin 2) (l : Fin 2160) (q : Fin 512) : val_main_v6 (F := Ideal) u (ix4 b l 2 q) = scol u b ⟨1024 + q.val, lt2 q⟩ l := by
  exact ref_split u b l 2 q ⟨1024 + q.val, lt2 q⟩ (show 2 * 512 + q.val = 1024 + q.val by omega)

theorem ref_in2 (b : Fin 2) (l : Fin 2160) (q : Fin 512) : val_main_v40 (F := Ideal) u (ix3 b l q) = scol u b ⟨1024 + q.val, lt2 q⟩ l := by
  have h := ref_split2 u b l q
  unfold val_main_v40
  refine (squeeze _ b l q).trans ?_
  unfold val_main_v39
  refine Eq.trans ?_ h
  generalize val_main_v6 (F := Ideal) u = A
  exact extractStridedSlice_apply ![0, 0, 2, 0] A _ (ix4 b l 0 q) (ix4 b l 2 q) (fun a => match a with
    | ⟨0, _⟩ => by show b.val = 0 + b.val; omega
    | ⟨1, _⟩ => by show l.val = 0 + l.val; omega
    | ⟨2, _⟩ => by show 2 = 2 + 0; omega
    | ⟨3, _⟩ => by show q.val = 0 + q.val; omega)

theorem ref_cum2 (b : Fin 2) (l : Fin 2160) (q : Fin 512) : val_main_v41 (F := Ideal) u (ix3 b l q) = before (scol u b ⟨1024 + q.val, lt2 q⟩) l := by
  have h := fun l => ref_in2 u b l q
  unfold val_main_v41 val_main_call2_call0_v0 val_main_call2_call0_cst
  generalize val_main_v40 (F := Ideal) u = A at h
  refine (sum_before A _ (fun _ => word_zero) b l q).trans ?_
  simp only [h]

theorem ref_diff2 (b : Fin 2) (l : Fin 2160) (q : Fin 512) : val_main_v51 (F := Ideal) u (ix3 b l q)
    = (before (scol u b ⟨1024 + q.val, lt2 q⟩) l - (if g : 8 ≤ l.val then before (scol u b ⟨1024 + q.val, lt2 q⟩) ⟨l.val - 8, by omega⟩ else 0) : EReal) := by
  have h := fun l => ref_cum2 u b l q
  unfold val_main_v51 val_main_v44 val_main_v43 val_main_v42 val_main_cst_4
  generalize val_main_v41 (F := Ideal) u = A at h
  pointwise
  simp only [h]
  refine congrArg (fun a : EReal => before (scol u b ⟨1024 + q.val, lt2 q⟩) l - a) ?_
  by_cases g : 8 ≤ l.val
  · rw [dif_pos g, dif_neg (by omega)]
  · rw [dif_neg g, dif_pos (by omega)]

theorem ref_mean2 (hr : ∀ n r, Common.IsReal (zcol u n r)) (b : Fin 2) (l : Fin 2160) (q : Fin 512) : val_main_v54 (F := Ideal) u (ix3 b l q)
    = Ideal.div (∑ i ∈ Finset.range 8, if i ≤ l.val then scol u b ⟨1024 + q.val, lt2 q⟩ ⟨l.val - i, by omega⟩ else 0) (count 8 l.val) := by
  have h := (ref_diff2 u b l q).trans (before_sub 8 (scol u b ⟨1024 + q.val, lt2 q⟩) (fun _ => hr _ _) l)
  unfold val_main_v54
  generalize val_main_v51 (F := Ideal) u = A at h
  pointwise [val_main_v53, val_main_v52, val_main_v50, val_main_v49, val_main_v48, val_main_v47, val_main_v46, val_main_v45, val_main_c_5, val_main_c_6]
  rw [h]
  exact congrArg (Ideal.div _) (congrArg (FloatOps.sitofp (F := Ideal) .f32) (word_count 2 l))

theorem ref_pool2 (hr : ∀ n r, Common.IsReal (zcol u n r)) (b : Fin 2) (l : Fin 2160) (q : Fin 512) : val_main_v76 (F := Ideal) u (ix4 b l 2 q)
    = (Ideal.div (∑ i ∈ Finset.range 8, if i ≤ l.val then scol u b ⟨1024 + q.val, lt2 q⟩ ⟨l.val - i, by omega⟩ else 0) (count 8 l.val) - scol u b ⟨1024 + q.val, lt2 q⟩ l : EReal) := by
  have h := ref_mean2 u hr b l q
  have h6 := ref_split2 u b l q
  unfold val_main_v76 val_main_v75 val_main_v74 val_main_v73 val_main_v72 val_main_v71
  generalize val_main_v6 (F := Ideal) u = A6 at h6
  generalize val_main_v22 (F := Ideal) u = A0 at *
  generalize val_main_v38 (F := Ideal) u = A1 at *
  generalize val_main_v54 (F := Ideal) u = A2 at *
  generalize val_main_v70 (F := Ideal) u = A3 at *
  pointwise
  rw [h, h6]

theorem ref_at2 (hr : ∀ n r, Common.IsReal (zcol u n r)) (b : Fin 2) (l : Fin 2160) (q : Fin 512) (n : Fin 2048) (hn : n.val = 2 * 512 + q.val) (r : Fin 4224) (hl : l.val = pos r) (hb : row b l = r) :
    val_main_v76 (F := Ideal) u (ix4 b l 2 q) = pool u n r := by
  have hw : wide (n.val / 512) = 8 := by
    rw [show n.val / 512 = 2 by omega]; decide
  have hC : n = ⟨1024 + q.val, lt2 q⟩ := Fin.ext (by dsimp only; omega)
  have hp : l = ⟨pos r, pos_lt r⟩ := Fin.ext hl
  have hs : (∑ i ∈ Finset.range 8, if i ≤ pos r then scol u b ⟨1024 + q.val, lt2 q⟩ ⟨pos r - i, by have := pos_lt r; omega⟩ else 0) = past 8 (zcol u ⟨1024 + q.val, lt2 q⟩) r := by
    refine past_row 8 _ r (scol u b ⟨1024 + q.val, lt2 q⟩) fun i h => congrArg (zcol u ⟨1024 + q.val, lt2 q⟩) (Fin.ext ?_)
    have := congrArg Fin.val hb
    change b.val * 2064 + l.val = r.val at this
    have := pos_le r
    show b.val * 2064 + (pos r - i) = (r.val + 4224 - i) % 4224
    omega
  have hz : scol u b ⟨1024 + q.val, lt2 q⟩ l = zcol u ⟨1024 + q.val, lt2 q⟩ r := congrArg (zcol u ⟨1024 + q.val, lt2 q⟩) hb
  refine (ref_pool2 u hr b l q).trans ?_
  rw [hz]
  subst hp
  unfold pool
  rw [hw, hC, ← hs]

theorem lt3 (q : Fin 512) : 1536 + q.val < 2048 := by omega

theorem ref_split3 (b : Fin 2) (l : Fin 2160) (q : Fin 512) : val_main_v6 (F := Ideal) u (ix4 b l 3 q) = scol u b ⟨1536 + q.val, lt3 q⟩ l := by
  exact ref_split u b l 3 q ⟨1536 + q.val, lt3 q⟩ (show 3 * 512 + q.val = 1536 + q.val by omega)

theorem ref_in3 (b : Fin 2) (l : Fin 2160) (q : Fin 512) : val_main_v56 (F := Ideal) u (ix3 b l q) = scol u b ⟨1536 + q.val, lt3 q⟩ l := by
  have h := ref_split3 u b l q
  unfold val_main_v56
  refine (squeeze _ b l q).trans ?_
  unfold val_main_v55
  refine Eq.trans ?_ h
  generalize val_main_v6 (F := Ideal) u = A
  exact extractStridedSlice_apply ![0, 0, 3, 0] A _ (ix4 b l 0 q) (ix4 b l 3 q) (fun a => match a with
    | ⟨0, _⟩ => by show b.val = 0 + b.val; omega
    | ⟨1, _⟩ => by show l.val = 0 + l.val; omega
    | ⟨2, _⟩ => by show 3 = 3 + 0; omega
    | ⟨3, _⟩ => by show q.val = 0 + q.val; omega)

theorem ref_cum3 (b : Fin 2) (l : Fin 2160) (q : Fin 512) : val_main_v57 (F := Ideal) u (ix3 b l q) = before (scol u b ⟨1536 + q.val, lt3 q⟩) l := by
  have h := fun l => ref_in3 u b l q
  unfold val_main_v57 val_main_call3_call0_v0 val_main_call3_call0_cst
  generalize val_main_v56 (F := Ideal) u = A at h
  refine (sum_before A _ (fun _ => word_zero) b l q).trans ?_
  simp only [h]

theorem ref_diff3 (b : Fin 2) (l : Fin 2160) (q : Fin 512) : val_main_v67 (F := Ideal) u (ix3 b l q)
    = (before (scol u b ⟨1536 + q.val, lt3 q⟩) l - (if g : 16 ≤ l.val then before (scol u b ⟨1536 + q.val, lt3 q⟩) ⟨l.val - 16, by omega⟩ else 0) : EReal) := by
  have h := fun l => ref_cum3 u b l q
  unfold val_main_v67 val_main_v60 val_main_v59 val_main_v58 val_main_cst_7
  generalize val_main_v57 (F := Ideal) u = A at h
  pointwise
  simp only [h]
  refine congrArg (fun a : EReal => before (scol u b ⟨1536 + q.val, lt3 q⟩) l - a) ?_
  by_cases g : 16 ≤ l.val
  · rw [dif_pos g, dif_neg (by omega)]
  · rw [dif_neg g, dif_pos (by omega)]

theorem ref_mean3 (hr : ∀ n r, Common.IsReal (zcol u n r)) (b : Fin 2) (l : Fin 2160) (q : Fin 512) : val_main_v70 (F := Ideal) u (ix3 b l q)
    = Ideal.div (∑ i ∈ Finset.range 16, if i ≤ l.val then scol u b ⟨1536 + q.val, lt3 q⟩ ⟨l.val - i, by omega⟩ else 0) (count 16 l.val) := by
  have h := (ref_diff3 u b l q).trans (before_sub 16 (scol u b ⟨1536 + q.val, lt3 q⟩) (fun _ => hr _ _) l)
  unfold val_main_v70
  generalize val_main_v67 (F := Ideal) u = A at h
  pointwise [val_main_v69, val_main_v68, val_main_v66, val_main_v65, val_main_v64, val_main_v63, val_main_v62, val_main_v61, val_main_c_8, val_main_c_9]
  rw [h]
  exact congrArg (Ideal.div _) (congrArg (FloatOps.sitofp (F := Ideal) .f32) (word_count 3 l))

theorem ref_pool3 (hr : ∀ n r, Common.IsReal (zcol u n r)) (b : Fin 2) (l : Fin 2160) (q : Fin 512) : val_main_v76 (F := Ideal) u (ix4 b l 3 q)
    = (Ideal.div (∑ i ∈ Finset.range 16, if i ≤ l.val then scol u b ⟨1536 + q.val, lt3 q⟩ ⟨l.val - i, by omega⟩ else 0) (count 16 l.val) - scol u b ⟨1536 + q.val, lt3 q⟩ l : EReal) := by
  have h := ref_mean3 u hr b l q
  have h6 := ref_split3 u b l q
  unfold val_main_v76 val_main_v75 val_main_v74 val_main_v73 val_main_v72 val_main_v71
  generalize val_main_v6 (F := Ideal) u = A6 at h6
  generalize val_main_v22 (F := Ideal) u = A0 at *
  generalize val_main_v38 (F := Ideal) u = A1 at *
  generalize val_main_v54 (F := Ideal) u = A2 at *
  generalize val_main_v70 (F := Ideal) u = A3 at *
  pointwise
  rw [h, h6]

theorem ref_at3 (hr : ∀ n r, Common.IsReal (zcol u n r)) (b : Fin 2) (l : Fin 2160) (q : Fin 512) (n : Fin 2048) (hn : n.val = 3 * 512 + q.val) (r : Fin 4224) (hl : l.val = pos r) (hb : row b l = r) :
    val_main_v76 (F := Ideal) u (ix4 b l 3 q) = pool u n r := by
  have hw : wide (n.val / 512) = 16 := by
    rw [show n.val / 512 = 3 by omega]; decide
  have hC : n = ⟨1536 + q.val, lt3 q⟩ := Fin.ext (by dsimp only; omega)
  have hp : l = ⟨pos r, pos_lt r⟩ := Fin.ext hl
  have hs : (∑ i ∈ Finset.range 16, if i ≤ pos r then scol u b ⟨1536 + q.val, lt3 q⟩ ⟨pos r - i, by have := pos_lt r; omega⟩ else 0) = past 16 (zcol u ⟨1536 + q.val, lt3 q⟩) r := by
    refine past_row 16 _ r (scol u b ⟨1536 + q.val, lt3 q⟩) fun i h => congrArg (zcol u ⟨1536 + q.val, lt3 q⟩) (Fin.ext ?_)
    have := congrArg Fin.val hb
    change b.val * 2064 + l.val = r.val at this
    have := pos_le r
    show b.val * 2064 + (pos r - i) = (r.val + 4224 - i) % 4224
    omega
  have hz : scol u b ⟨1536 + q.val, lt3 q⟩ l = zcol u ⟨1536 + q.val, lt3 q⟩ r := congrArg (zcol u ⟨1536 + q.val, lt3 q⟩) hb
  refine (ref_pool3 u hr b l q).trans ?_
  rw [hz]
  subst hp
  unfold pool
  rw [hw, hC, ← hs]

theorem ref_at (hr : ∀ n r, Common.IsReal (zcol u n r)) (b : Fin 2) (l : Fin 2160) (g : Fin 4) (q : Fin 512) (n : Fin 2048) (hn : n.val = g.val * 512 + q.val) (r : Fin 4224) (hl : l.val = pos r) (hb : row b l = r) :
    val_main_v76 (F := Ideal) u (ix4 b l g q) = pool u n r := by
  have h4 : g = 0 ∨ g = 1 ∨ g = 2 ∨ g = 3 := by clear hn; revert g; decide
  rcases h4 with rfl | rfl | rfl | rfl
  · exact ref_at0 u hr b l q n hn r hl hb
  · exact ref_at1 u hr b l q n hn r hl hb
  · exact ref_at2 u hr b l q n hn r hl hb
  · exact ref_at3 u hr b l q n hn r hl hb

theorem ref_out (hr : ∀ n r, Common.IsReal (zcol u n r)) (r : Fin 4224) (n : Fin 2048) : val_main_v83 (F := Ideal) u (ix2 r n) = pool u n r := by
  have h := ref_at u hr
  have h0 : ∀ (l : Fin 2064) (g : Fin 4) (q : Fin 512), val_main_v78 (F := Ideal) u (ix3 l g q) = val_main_v76 (F := Ideal) u (ix4 0 ⟨l.val, by omega⟩ g q) := by
    intro l g q
    unfold val_main_v78
    refine (squeeze0 _ l g q).trans ?_
    unfold val_main_v77
    generalize val_main_v76 (F := Ideal) u = A
    exact extractStridedSlice_apply ![0, 0, 0, 0] A _ (ix4 0 l g q) (ix4 0 ⟨l.val, by omega⟩ g q) (fun a => match a with
      | ⟨0, _⟩ => by show 0 = 0 + 0; omega
      | ⟨1, _⟩ => by show l.val = 0 + l.val; omega
      | ⟨2, _⟩ => by show g.val = 0 + g.val; omega
      | ⟨3, _⟩ => by show q.val = 0 + q.val; omega)
  have h1 : ∀ (l : Fin 2160) (g : Fin 4) (q : Fin 512), val_main_v80 (F := Ideal) u (ix3 l g q) = val_main_v76 (F := Ideal) u (ix4 1 l g q) := by
    intro l g q
    unfold val_main_v80
    refine (squeeze1 _ l g q).trans ?_
    unfold val_main_v79
    generalize val_main_v76 (F := Ideal) u = A
    exact extractStridedSlice_apply ![1, 0, 0, 0] A _ (ix4 0 l g q) (ix4 1 l g q) (fun a => match a with
      | ⟨0, _⟩ => by show 1 = 1 + 0; omega
      | ⟨1, _⟩ => by show l.val = 0 + l.val; omega
      | ⟨2, _⟩ => by show g.val = 0 + g.val; omega
      | ⟨3, _⟩ => by show q.val = 0 + q.val; omega)
  unfold val_main_v83 val_main_v82 val_main_v81
  generalize val_main_v76 (F := Ideal) u = A at h h0 h1
  generalize val_main_v78 (F := Ideal) u = A0 at h0
  generalize val_main_v80 (F := Ideal) u = A1 at h1
  pointwise
  by_cases g : r.val < 2064
  · refine (dif_pos g).trans ((h0 _ _ _).trans (h _ _ _ _ n ?_ r ?_ ?_))
    · show n.val = n.val / 512 * 512 + n.val % 512
      omega
    · exact (if_neg (by omega) : pos r = r.val).symm
    · exact Fin.ext (by simp [row])
  · refine (dif_neg g).trans ((h1 _ _ _).trans (h _ _ _ _ n ?_ r ?_ ?_))
    · show n.val = n.val / 512 * 512 + n.val % 512
      omega
    · exact (if_pos (by omega) : pos r = r.val - 2064).symm
    · exact Fin.ext (by simp [row]; omega)
end

variable (m : (ℓ : Loc nD τ sig) → Buf (Elt Ideal) ℓ)

theorem idx : ∀ t : Fin cfg0.N, win0_0.index t = ![0, 48 + t.val] ∧ win0_1.index t = ![0, t.val] :=
  (by decide +kernel : ∀ t : Fin grid0.N, _)

theorem blk0 (c : Dev nD) (p : Fin cfg0.N) (n : Fin 2048) (k : Fin 128) (hn : n.val = p.val * 128 + k.val) (r : Fin 4224) :
    (show Vec Ideal S4224x128 .f32 from iblk m c 0 p) (ix2 r k) = zcol (m ((c : Thread nD τ).loc main_arg0)) n r := by
  show (V m c main_arg0) (((cfg0.win 0).blk p).view.emb (ix2 r k)) = V m c main_arg0 (ix2 r ⟨6144 + n.val, by omega⟩)
  generalize V m c main_arg0 = B
  blk_point [idx p]

/-- What the precondition says of the argument: every element of the pooled columns is a real number. -/
def Reals (c : Dev nD) : Prop := ∀ n r, Common.IsReal (zcol (m ((c : Thread nD τ).loc main_arg0)) n r)

theorem reals_of_pre [Cert.Pre_pool_fwd_finite.Facts] (c : Dev nD) (h : Cert.Pre_pool_fwd_finite.fn (F := Ideal) (m ((c : Thread nD τ).loc main_arg0)) = fun _ => 1#1) : Reals m c := by
  have h := congrFun h ix0
  dsimp only [Cert.Pre_pool_fwd_finite.fn] at h
  haveI : Subsingleton (Shape.Idx Cert.Pre_pool_fwd_finite.S_) := ⟨fun a b => funext fun i => i.elim0⟩
  intro n r
  have h1 := Host.reduce_andi_all _ _ _ _ _ h (ix2 r n)
  refine Common.isReal_of_lt_wide (x := zcol (m ((c : Thread nD τ).loc main_arg0)) n r) ?_
  unfold zcol
  generalize m ((c : Thread nD τ).loc main_arg0) = B at h1 ⊢
  refine Eq.trans ?_ h1
  symm
  pointwise
  rfl

theorem final (c : Dev nD) (hr : Reals m c) : (dats m 0 c).arrAt 1 cfg0.N = PoolFRefIdeal.Read.val_main_v83 (F := Ideal) (m ((c : Thread nD τ).loc main_arg0)) := by
  refine (dats m 0 c).arrAt_eq_of_covers 1 _ (by decide +kernel) fun t _ y => ?_
  blk_simp
  rw [after0_1]
  obtain ⟨r, k, rfl⟩ : ∃ (r : Fin 4224) (k : Fin 128), y = ix2 r k := ⟨y 0, y 1, by funext a; match a with | ⟨0, _⟩ => rfl | ⟨1, _⟩ => rfl⟩
  have hN := lt_of_lt_of_eq t.isLt N_0
  have key : ∀ i : S4224x2048.Idx, (i 0).val = r.val → (i 1).val = t.val * 128 + k.val → (out0_1 (F := Ideal) (grid0.coords t) (iblk m c 0 t) (ix2 r k) : EReal) = PoolFRefIdeal.Read.val_main_v83 (F := Ideal) (m ((c : Thread nD τ).loc main_arg0)) i := by
    intro i h0 h1
    obtain ⟨q, n, rfl⟩ : ∃ (q : Fin 4224) (n : Fin 2048), i = ix2 q n := ⟨i 0, i 1, by funext a; match a with | ⟨0, _⟩ => rfl | ⟨1, _⟩ => rfl⟩
    obtain rfl : q = r := Fin.ext h0
    have h1' : n.val = t.val * 128 + k.val := h1
    have hg : n.val / 512 = t.val / 4 := by omega
    have hb := blk0 m c t n k h1'
    rw [ref_out _ hr]
    refine (out_apply (grid0.coords t) ⟨t.val / 4, by omega⟩ (grp_eq t) (iblk m c 0 t) k q).trans ?_
    unfold pool
    rw [hg]
    simp only [hb]
  refine key _ ?_ ?_
  all_goals blk_simp [idx t] <;> try omega

end Cert.PoolFIdeal.Value
end
-- ==== Proof.LossRows.lean ====
/- The loss: the error of a row, and what the reference computes from it, over the extended reals. -/
module

public import proofs.«01_k».proof.Proof.Gen.LossRefIdeal.Run
public import proofs.«01_k».proof.Proof.Gen.LossRefIdeal.Read
public import Idealize.ShloMosaic.Lib.Pipeline.ValueKit
import Idealize.ShloMosaic.Lib.KernelVsHost
public import proofs.«01_k».proof.Proof.LayerNorm
public import proofs.«01_k».proof.Proof.Rows

@[expose] public section

set_option maxRecDepth 16384

noncomputable section

namespace Cert.LossRows

open Cert.LossRefIdeal Cert.LossRefIdeal.Read Idealize.ShloMosaic Idealize.ShloMosaic.TcCoe Idealize.SL.Sem
open Cert.LayerNorm (mean less spread hat short inner long forms)
open Cert.Rows (row row_div)
open Cert.Common (IsReal)

abbrev Big := (⟨S4224x4096, .f32⟩ : BufTy).Contents (Elt Ideal)
abbrev Tgt := (⟨S2x2048x4096, .f32⟩ : BufTy).Contents (Elt Ideal)
abbrev Vec1 := (⟨S1x4096, .f32⟩ : BufTy).Contents (Elt Ideal)

/-- The words of one over the width, of one half and of one. -/
theorem share : Ideal.ofBits .f32 0x39800000#32 = ((1 / 4096 : ℝ) : EReal) := by
  simp [Ideal.ofBits, Ideal.ieee, -EReal.coe_mul]; norm_num

theorem one_half : Ideal.ofBits .f32 0x3F000000#32 = ((1 / 2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

/-- The derivative of half a mean of squares. -/
theorem weight (e : EReal) : Ideal.div (Ideal.ofBits .f32 0x3F000000#32 * Ideal.ofBits .f32 0x3F800000#32) (Ideal.ofBits .f32 0x45800000#32) * (Ideal.ofBits .f32 0x40000000#32 * e) = e * Ideal.ofBits .f32 0x39800000#32 := by
  rw [share, one_half, one, LayerNorm.width, LayerNorm.two, ← EReal.coe_mul, Ideal.div_coe (by norm_num), ← EReal.coe_mul, ← mul_assoc, ← EReal.coe_mul, mul_comm]
  norm_num

theorem real_sub {a c : EReal} (ha : IsReal a) (hc : IsReal c) : IsReal (a - c) := by
  obtain ⟨p, rfl⟩ := ha; obtain ⟨q, rfl⟩ := hc; exact ⟨p - q, (EReal.coe_sub p q).symm⟩

/-- A normalised row of real numbers is one. -/
theorem hat_real {row : Fin 4096 → EReal} (hr : ∀ n, IsReal (row n)) (n : Fin 4096) : IsReal (hat row n) := by
  choose y hy using hr
  obtain rfl : row = fun n => (y n : EReal) := funext hy
  obtain ⟨e, he, hw⟩ := LayerNorm.tiny
  have hl : less (fun n => (y n : EReal)) = fun n => ((y n - (∑ n, y n) / 4096 : ℝ) : EReal) := by
    funext n; rw [less, LayerNorm.mean_coe, EReal.coe_sub]
  obtain ⟨c, hc⟩ : ∃ c : Fin 4096 → ℝ, c = fun n => y n - (∑ n, y n) / 4096 := ⟨_, rfl⟩
  have hl' : less (fun n => (y n : EReal)) = fun n => (c n : EReal) := by rw [hl, hc]
  have hp0 : 0 ≤ ∑ n, c n * c n := Finset.sum_nonneg fun n _ => mul_self_nonneg _
  obtain ⟨p, hp, hsp⟩ : ∃ p : ℝ, 0 < p ∧ spread (fun n => (y n : EReal)) = (p : EReal) := by
    refine ⟨(∑ n, c n * c n) / 4096 + e, by positivity, ?_⟩
    have : (fun n => less (fun n => (y n : EReal)) n * less (fun n => (y n : EReal)) n) = fun n => ((c n * c n : ℝ) : EReal) := by
      funext n; rw [hl', EReal.coe_mul]
    rw [spread, this, LayerNorm.mean_coe, hw, EReal.coe_add]
  have hq : Ideal.rsqrt (spread (fun n => (y n : EReal))) = (((Real.sqrt p)⁻¹ : ℝ) : EReal) := by
    rw [hsp, Ideal.rsqrt_coe, if_neg (not_lt.mpr hp.le), if_neg hp.ne']
  exact ⟨c n * (Real.sqrt p)⁻¹, by rw [hat, hl', hq, EReal.coe_mul]⟩

/-- The rows that have a target: those of a sequence, past its first sixteen. -/
abbrev live (r : ℕ) : Prop := r < 4128 ∧ 16 ≤ r % 2064

def arow (x : Big) (r : Fin 4224) (n : Fin 4096) : EReal := x (ix2 r n)

section
variable (x : Big) (t : Tgt) (g b : Vec1)

/-- The difference of a normalised row and its target, zero in the rows without one. -/
def err (r : Fin 4224) (n : Fin 4096) : EReal :=
  if h : live r.val then hat (arow x r) n * g (ix2 0 n) + b (ix2 0 n) - t (ix3 ⟨r.val / 2064, by omega⟩ ⟨r.val % 2064 - 16, by omega⟩ n) else 0

/-- The loss's derivative in a row, and that times the gain. -/
def slopeAt (r : Fin 4224) (n : Fin 4096) : EReal := err x t g b r n * Ideal.ofBits .f32 0x39800000#32
def scaled (r : Fin 4224) (n : Fin 4096) : EReal := slopeAt x t g b r n * g (ix2 0 n)

theorem err_end (r : Fin 4224) (n : Fin 4096) (h : 4128 ≤ r.val) : err x t g b r n = 0 := dif_neg (by intro q; omega)

theorem err_early (s : Fin 2) (l : Fin 2064) (n : Fin 4096) (h : l.val < 16) : err x t g b (row s l) n = 0 :=
  dif_neg (by rintro ⟨h1, h2⟩; have e : (row s l).val = s.val * 2064 + l.val := rfl; omega)

theorem err_late (s : Fin 2) (l : Fin 2064) (q : Fin 2048) (n : Fin 4096) (h : l.val = 16 + q.val) :
    err x t g b (row s l) n = hat (arow x (row s l)) n * g (ix2 0 n) + b (ix2 0 n) - t (ix3 s q n) := by
  have e : (row s l).val = s.val * 2064 + l.val := rfl
  refine (dif_pos (⟨by omega, by omega⟩ : live (row s l).val)).trans ?_
  refine congrArg (fun a : EReal => _ - a) (congrArg₂ (fun a c => t (ix3 a c n)) (Fin.ext ?_) (Fin.ext ?_))
  · show (row s l).val / 2064 = s.val; omega
  · show (row s l).val % 2064 - 16 = q.val; omega

theorem slope_end (r : Fin 4224) (n : Fin 4096) (h : 4128 ≤ r.val) : slopeAt x t g b r n = 0 := by
  rw [slopeAt, err_end _ _ _ _ _ _ h, zero_mul]

/-- The host's sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  classical
  refine congrArg (init + ·) ((Finset.sum_filter_eq_sum_of_fiber (fun i => h.drop i = j) (fun k : Fin n0 × Fin n1 => ix3 k.1 k.2 (j 0)) (fun _ _ e => Prod.ext (congrFun e 0) (congrFun e 1)) (fun i => ⟨fun e => ⟨(i 0, i 1), ?_⟩, ?_⟩) v).trans ?_)
  · funext a
    match a with
    | ⟨0, _⟩ => rfl
    | ⟨1, _⟩ => rfl
    | ⟨2, _⟩ => exact Fin.ext ((congrArg Fin.val (congrFun e 0)).symm.trans (h.drop_apply_val_of_eq i 0 2 (Nat.zero_lt_one) rfl))
  · rintro ⟨k, rfl⟩
    funext b
    match b with
    | ⟨0, _⟩ => exact Fin.ext (h.drop_apply_val_of_eq _ 0 2 (Nat.zero_lt_one) rfl)
  · exact Fintype.sum_prod_type _

/-- A sum over the rows is the sum over the sequences and their positions, where the added rows hold zero. -/
theorem sum_row (f : Fin 4224 → EReal) (h : ∀ r : Fin 4224, 4128 ≤ r.val → f r = 0) : ∑ r, f r = ∑ b : Fin 2, ∑ l : Fin 2064, f (row b l) := by
  have e : ∑ r : Fin (4128 + 96), f r = _ := Fin.sum_univ_add (a := 4128) (b := 96) f
  refine e.trans ?_
  rw [Finset.sum_eq_zero (s := Finset.univ) (f := fun i : Fin 96 => f (Fin.natAdd 4128 i)) (fun i _ => h _ (by show 4128 ≤ 4128 + i.val; omega)), add_zero]
  exact (Fin.sum_mul_add_congr fun b l hk => rfl).symm

theorem ref_in (s : Fin 2) (l : Fin 2064) (n : Fin 4096) : val_main_v1 (F := Ideal) x (ix3 s l n) = arow x (row s l) n := by
  rw [val_main_v1_apply, val_main_v0_apply]
  refine congrArg x ?_
  funext a
  match a with
  | ⟨0, _⟩ => exact Fin.ext (by show _ = s.val * 2064 + l.val; have := n.isLt; simp only [idx_main_v0, idx_main_v1]; dsimp; omega)
  | ⟨1, _⟩ => exact Fin.ext (by show _ = n.val; have := n.isLt; simp only [idx_main_v0, idx_main_v1]; dsimp; omega)

theorem ref_less (s : Fin 2) (l : Fin 2064) (n : Fin 4096) : val_main_v9 (F := Ideal) x (ix3 s l n) = less (arow x (row s l)) n := by
  have h := fun s l n => ref_in x s l n
  unfold val_main_v9 val_main_v8 val_main_v7 val_main_v6 val_main_v5 val_main_v4 val_main_cst val_main_cst_0
  generalize val_main_v1 (F := Ideal) x = A at h
  pointwise
  simp only [h]
  rfl

theorem ref_spread (s : Fin 2) (l : Fin 2064) : val_main_v18 (F := Ideal) x (ix3 s l 0) = spread (arow x (row s l)) := by
  have h := fun s l n => ref_less x s l n
  unfold val_main_v18 val_main_v17 val_main_v16 val_main_v15 val_main_v14 val_main_v13 val_main_v10 val_main_cst_2 val_main_cst_3 val_main_cst_4
  generalize val_main_v9 (F := Ideal) x = A at h
  pointwise
  simp only [h]
  rfl

theorem ref_hat (s : Fin 2) (l : Fin 2064) (n : Fin 4096) : val_main_v24 (F := Ideal) x (ix3 s l n) = hat (arow x (row s l)) n := by
  have h := fun s l n => ref_less x s l n
  have h' := fun s l => ref_spread x s l
  unfold val_main_v24 val_main_v23 val_main_v19
  generalize val_main_v9 (F := Ideal) x = A at h
  generalize val_main_v18 (F := Ideal) x = B at h'
  pointwise
  simp only [h, h']
  rfl

theorem ref_gained (s : Fin 2) (l : Fin 2064) (n : Fin 4096) : val_main_v26 (F := Ideal) g (ix3 s l n) = (g (ix2 0 n) : EReal) := by
  unfold val_main_v26 val_main_v25 val_main_v2
  pointwise

theorem ref_gained' (s : Fin 2) (l : Fin 2064) (n : Fin 4096) : val_main_v60 (F := Ideal) g (ix3 s l n) = (g (ix2 0 n) : EReal) := by
  unfold val_main_v60 val_main_v25 val_main_v2
  pointwise

theorem ref_shifted (s : Fin 2) (l : Fin 2064) (n : Fin 4096) : val_main_v29 (F := Ideal) b (ix3 s l n) = (b (ix2 0 n) : EReal) := by
  unfold val_main_v29 val_main_v28 val_main_v3
  pointwise

theorem ref_norm (s : Fin 2) (l : Fin 2064) (n : Fin 4096) : val_main_v30 (F := Ideal) x g b (ix3 s l n) = (hat (arow x (row s l)) n * g (ix2 0 n) + b (ix2 0 n) : EReal) := by
  rw [← ref_hat, ← ref_gained g s l n, ← ref_shifted b s l n]
  rfl

theorem ref_err (s : Fin 2) (q : Fin 2048) (n : Fin 4096) : val_main_v32 (F := Ideal) x t g b (ix3 s q n) = err x t g b (row s ⟨16 + q.val, by omega⟩) n := by
  rw [err_late x t g b s ⟨16 + q.val, by omega⟩ q n rfl, ← ref_norm, val_main_v32_apply, val_main_v31_apply]
  refine congrArg (fun a : EReal => a - t (ix3 s q n)) (congrArg (val_main_v30 (F := Ideal) x g b) ?_)
  funext a; match a with | ⟨0, _⟩ => rfl | ⟨1, _⟩ => rfl | ⟨2, _⟩ => rfl

theorem ref_err' (s : Fin 2) (q : Fin 2048) (n : Fin 4096) : val_main_v41 (F := Ideal) x t g b (ix3 s q n) = err x t g b (row s ⟨16 + q.val, by omega⟩) n :=
  ref_err x t g b s q n

theorem ref_part (s : Fin 2) (q : Fin 2048) (n : Fin 4096) : val_main_v52 (F := Ideal) x t g b (ix3 s q n) = slopeAt x t g b (row s ⟨16 + q.val, by omega⟩) n := by
  rw [slopeAt, ← ref_err, ← weight]
  unfold val_main_v52 val_main_v51 val_main_v50 val_main_v49 val_main_v48 val_main_v47 val_main_v35 val_main_v34 val_main_cst_6 val_main_cst_13 val_main_cst_14 val_main_cst_15
  generalize val_main_v32 (F := Ideal) x t g b = A
  pointwise

theorem ref_slope (s : Fin 2) (l : Fin 2064) (n : Fin 4096) : val_main_v53 (F := Ideal) x t g b (ix3 s l n) = slopeAt x t g b (row s l) n := by
  have h := fun s q n => ref_part x t g b s q n
  unfold val_main_v53 val_main_cst_16
  generalize val_main_v52 (F := Ideal) x t g b = A at h
  pointwise
  by_cases e : 16 ≤ l.val
  · have e' : row s l = row s ⟨16 + (⟨l.val - 16, by omega⟩ : Fin 2048).val, by dsimp only; omega⟩ := congrArg (row s) (Fin.ext (by dsimp only; omega))
    rw [e', ← h]
    exact dif_pos ⟨e, by omega⟩
  · rw [slopeAt, err_early x t g b s l n (by omega), zero_mul]
    exact dif_neg fun q => e q.1

theorem ref_scaled (s : Fin 2) (l : Fin 2064) (n : Fin 4096) : val_main_v61 (F := Ideal) x t g b (ix3 s l n) = scaled x t g b (row s l) n := by
  rw [scaled, ← ref_slope, ← ref_gained' g s l n]
  rfl

theorem ref_inner (s : Fin 2) (l : Fin 2064) (n : Fin 4096) : val_main_v74 (F := Ideal) x t g b (ix3 s l n) = inner (arow x (row s l)) (scaled x t g b (row s l)) n := by
  have h := fun s l n => ref_less x s l n
  have h' := fun s l => ref_spread x s l
  have hd := fun s l n => ref_scaled x t g b s l n
  unfold val_main_v74 val_main_v73 val_main_v72 val_main_v71 val_main_v70 val_main_v69 val_main_v68 val_main_v67 val_main_v66 val_main_v65 val_main_v64 val_main_v63 val_main_v22 val_main_v21 val_main_v20 val_main_v19 val_main_v12 val_main_v11 val_main_cst_1 val_main_cst_5 val_main_cst_21 val_main_cst_22 val_main_cst_23
  generalize val_main_v9 (F := Ideal) x = A at h
  generalize val_main_v18 (F := Ideal) x = B at h'
  generalize val_main_v61 (F := Ideal) x t g b = C at hd
  pointwise
  rw [Fin.sum_univ_one]
  simp only [h, h', hd]
  rfl

theorem ref_long (s : Fin 2) (l : Fin 2064) (n : Fin 4096) : val_main_v82 (F := Ideal) x t g b (ix3 s l n) = long (arow x (row s l)) (scaled x t g b (row s l)) n := by
  have h := fun s l n => ref_inner x t g b s l n
  unfold val_main_v82 val_main_v81 val_main_v80 val_main_v79 val_main_v78 val_main_v77 val_main_v76 val_main_v75 val_main_cst_24 val_main_cst_25 val_main_cst_26
  generalize val_main_v74 (F := Ideal) x t g b = A at h
  pointwise
  rw [Fin.sum_univ_one]
  simp only [h]
  rfl

theorem ref_out (r : Fin 4224) (n : Fin 4096) : val_main_v86 (F := Ideal) x t g b (ix2 r n) = (if r.val < 4128 then long (arow x r) (scaled x t g b r) n else 0 : EReal) := by
  have h := fun s l n => ref_long x t g b s l n
  unfold val_main_v86 val_main_v85 val_main_cst_27
  generalize val_main_v82 (F := Ideal) x t g b = A at h
  pointwise
  by_cases e : r.val < 4128
  · rw [if_pos e]
    refine (dif_pos e).trans ?_
    rw [h, row_div r e]
  · rw [if_neg e]
    exact dif_neg e

theorem ref_cast (i : S4224x4096.Idx) : val_main_v87 (F := Ideal) x t g b i = (val_main_v86 (F := Ideal) x t g b i : EReal) := by
  unfold val_main_v87
  generalize val_main_v86 (F := Ideal) x t g b = A
  pointwise

theorem ref_gain (n : Fin 4096) : val_main_v84 (F := Ideal) x t g b (ix2 0 n) = (∑ r : Fin 4224, slopeAt x t g b r n * hat (arow x r) n : EReal) := by
  have h := fun s l n => ref_slope x t g b s l n
  have h' := fun s l n => ref_hat x s l n
  unfold val_main_v84 val_main_v62 val_main_v59 val_main_v58 val_main_v57 val_main_cst_19 val_main_cst_20
  generalize val_main_v53 (F := Ideal) x t g b = A at h
  generalize val_main_v24 (F := Ideal) x = B at h'
  pointwise
  rw [sum01]
  pointwise
  rw [sum01]
  simp only [Finset.univ_unique, Finset.sum_singleton, zero_add]
  rw [sum_row _ (fun r h => by rw [slope_end x t g b r n h, zero_mul])]
  refine Finset.sum_congr rfl fun b _ => Finset.sum_congr rfl fun l _ => ?_
  pointwise
  rw [h, h', mul_comm]

theorem ref_shift (n : Fin 4096) : val_main_v83 (F := Ideal) x t g b (ix2 0 n) = (∑ r : Fin 4224, slopeAt x t g b r n : EReal) := by
  have h := fun s l n => ref_slope x t g b s l n
  unfold val_main_v83 val_main_v56 val_main_v55 val_main_v54 val_main_cst_17 val_main_cst_18
  generalize val_main_v53 (F := Ideal) x t g b = A at h
  pointwise
  rw [sum01]
  pointwise
  rw [sum01]
  simp only [Finset.univ_unique, Finset.sum_singleton, zero_add]
  rw [sum_row _ (fun r h => slope_end x t g b r n h)]
  refine Finset.sum_congr rfl fun b _ => Finset.sum_congr rfl fun l _ => ?_
  exact h _ _ _

theorem ref_squares (n : Fin 4096) : val_main_v46 (F := Ideal) x t g b (ix2 0 n) = (∑ r : Fin 4224, err x t g b r n * err x t g b r n : EReal) := by
  have h := fun s q n => ref_err' x t g b s q n
  unfold val_main_v46 val_main_v45 val_main_v42 val_main_cst_12
  generalize val_main_v41 (F := Ideal) x t g b = A at h
  pointwise
  rw [sum01, zero_add]
  rw [sum_row _ (fun r h => by rw [err_end x t g b r n h, zero_mul])]
  refine Finset.sum_congr rfl fun s _ => ?_
  have e : ∑ l : Fin (16 + 2048), err x t g b (row s l) n * err x t g b (row s l) n = _ := Fin.sum_univ_add (a := 16) (b := 2048) _
  refine Eq.trans ?_ e.symm
  rw [Finset.sum_eq_zero (s := Finset.univ) (f := fun i : Fin 16 => _) (fun i _ => by rw [err_early x t g b s _ n (by show i.val < 16; omega), zero_mul]), zero_add]
  refine Finset.sum_congr rfl fun q _ => ?_
  pointwise
  rw [h]
  rfl
end

end Cert.LossRows
end
-- ==== Proof.LossValue.lean ====
/- The loss and its derivative through the layer norm: what the kernel leaves in its results is what the reference
   computes, element by element, over the extended reals. -/
module

public import proofs.«01_k».proof.Proof.Gen.LossIdeal.Value
public import proofs.«01_k».proof.Pre_loss_finite
public import Idealize.ShloMosaic.Lib.Pipeline.ValueKit
import Idealize.ShloMosaic.Lib.Pipeline.ReadBack
import Idealize.ShloMosaic.Lib.KernelVsHost
import Idealize.ShloMosaic.Lib.ReduceAll
public import proofs.«01_k».proof.Proof.LossRows
public import proofs.«01_k».proof.Proof.Finite

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)
open Cert.LayerNorm (mean less spread hat short inner long forms)
open Cert.LossRows (live arow err slopeAt scaled err_end ref_out ref_cast ref_gain ref_shift ref_squares)
open Cert.Rows (pad_zero)

variable (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S128x4096 .f32) (harg5 : arg5.IsWhole) (arg6 : Memref sig .tc .vmem S128x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)

section
variable (hc0 : cond0_0 i) (hc1 : ¬cond0_1 i) (hc2 : cond0_2 i) (hc3 : ¬cond0_3 i) (hc4 : cond0_4 i) (hc5 : ¬cond0_5 i) (x0 x1 : Vec Ideal S128x4096 .f32) (x2 x3 : Vec Ideal S1x4096 .f32)

theorem out_A4 : out0_A_4 c i arg1 harg1 arg2 harg2 arg3 harg3 arg4 harg4 arg5 harg5 arg6 harg6 arg7 harg7 arg8 harg8 arg9 harg9 hc0 hc1 hc2 hc3 hc4 hc5 x0 x1 x2 x3 = k0_pay11 (k0_pay5 x0) (k0_pay6 x0) x2 (k0_pay7 i) (k0_pay8 x0 x2 x3 x1) (Scalar.ofBits .f32 0x00000000#32) := by frame_out
theorem out_A5 : out0_A_5 c i arg1 harg1 arg2 harg2 arg3 harg3 arg4 harg4 arg5 harg5 arg6 harg6 arg7 harg7 arg8 harg8 arg9 harg9 hc0 hc1 hc2 hc3 hc4 hc5 x0 x1 x2 x3 = k0_pay12 (k0_pay5 x0) (k0_pay6 x0) x2 (k0_pay7 i) (k0_pay8 x0 x2 x3 x1) (Scalar.ofBits .f32 0x00000000#32) := by frame_out
theorem out_A6 : out0_A_6 c i arg1 harg1 arg2 harg2 arg3 harg3 arg4 harg4 arg5 harg5 arg6 harg6 arg7 harg7 arg8 harg8 arg9 harg9 hc0 hc1 hc2 hc3 hc4 hc5 x0 x1 x2 x3 = k0_pay13 (k0_pay6 x0) (k0_pay7 i) (k0_pay8 x0 x2 x3 x1) (Scalar.ofBits .f32 0x00000000#32) := by frame_out
theorem out_A7 : out0_A_7 c i arg1 harg1 arg2 harg2 arg3 harg3 arg4 harg4 arg5 harg5 arg6 harg6 arg7 harg7 arg8 harg8 arg9 harg9 hc0 hc1 hc2 hc3 hc4 hc5 x0 x1 x2 x3 = k0_pay15 (k0_pay7 i) (k0_pay8 x0 x2 x3 x1) (Scalar.ofBits .f32 0x00000000#32) := by frame_out
theorem out_A8 : out0_A_8 c i arg1 harg1 arg2 harg2 arg3 harg3 arg4 harg4 arg5 harg5 arg6 harg6 arg7 harg7 arg8 harg8 arg9 harg9 hc0 hc1 hc2 hc3 hc4 hc5 x0 x1 x2 x3 = k0_pay2 (k0_pay9 (k0_pay7 i) (k0_pay8 x0 x2 x3 x1) (Scalar.ofBits .f32 0x00000000#32)) := by frame_out
end

section
variable (hc0 : ¬cond0_0 i) (hc1 : cond0_1 i) (hc2 : ¬cond0_2 i) (hc3 : cond0_3 i) (hc4 : ¬cond0_4 i) (hc5 : cond0_5 i) (x0 x1 : Vec Ideal S128x4096 .f32) (x2 x3 y6 y7 y8 : Vec Ideal S1x4096 .f32)

theorem out_B4 : out0_B_4 c i arg1 harg1 arg2 harg2 arg3 harg3 arg4 harg4 arg5 harg5 arg6 harg6 arg7 harg7 arg8 harg8 arg9 harg9 hc0 hc1 hc2 hc3 hc4 hc5 x0 x1 x2 x3 y6 y7 y8 = k0_pay11 (k0_pay5 x0) (k0_pay6 x0) x2 (k0_pay7 i) (k0_pay8 x0 x2 x3 x1) (Scalar.ofBits .f32 0x00000000#32) := by frame_out
theorem out_B5 : out0_B_5 c i arg1 harg1 arg2 harg2 arg3 harg3 arg4 harg4 arg5 harg5 arg6 harg6 arg7 harg7 arg8 harg8 arg9 harg9 hc0 hc1 hc2 hc3 hc4 hc5 x0 x1 x2 x3 y6 y7 y8 = k0_pay12 (k0_pay5 x0) (k0_pay6 x0) x2 (k0_pay7 i) (k0_pay8 x0 x2 x3 x1) (Scalar.ofBits .f32 0x00000000#32) := by frame_out
theorem out_B6 : out0_B_6 c i arg1 harg1 arg2 harg2 arg3 harg3 arg4 harg4 arg5 harg5 arg6 harg6 arg7 harg7 arg8 harg8 arg9 harg9 hc0 hc1 hc2 hc3 hc4 hc5 x0 x1 x2 x3 y6 y7 y8 = k0_pay14 (k0_pay6 x0) (k0_pay7 i) (k0_pay8 x0 x2 x3 x1) (Scalar.ofBits .f32 0x00000000#32) y6 := by frame_out
theorem out_B7 : out0_B_7 c i arg1 harg1 arg2 harg2 arg3 harg3 arg4 harg4 arg5 harg5 arg6 harg6 arg7 harg7 arg8 harg8 arg9 harg9 hc0 hc1 hc2 hc3 hc4 hc5 x0 x1 x2 x3 y6 y7 y8 = k0_pay1 (k0_pay15 (k0_pay7 i) (k0_pay8 x0 x2 x3 x1) (Scalar.ofBits .f32 0x00000000#32)) y7 := by frame_out
theorem out_B8 : out0_B_8 c i arg1 harg1 arg2 harg2 arg3 harg3 arg4 harg4 arg5 harg5 arg6 harg6 arg7 harg7 arg8 harg8 arg9 harg9 hc0 hc1 hc2 hc3 hc4 hc5 x0 x1 x2 x3 y6 y7 y8 = k0_pay3 (k0_pay9 (k0_pay7 i) (k0_pay8 x0 x2 x3 x1) (Scalar.ofBits .f32 0x00000000#32)) y8 := by frame_out
end

omit c i arg1 harg1 arg2 harg2 arg3 harg3 arg4 harg4 arg5 harg5 arg6 harg6 arg7 harg7 arg8 harg8 arg9 harg9

/-- A row of a block. -/
def brow (x : Vec Ideal S128x4096 .f32) (r : Fin 128) (n : Fin 4096) : EReal := x (ix2 r n)

theorem pay4_apply (x0 : Vec Ideal S128x4096 .f32) (j : S128x4096.Idx) : k0_pay4 (F := Ideal) x0 j = less (brow x0 (j 0)) (j 1) := by
  pointwise [k0_pay4, less, mean, brow]

theorem pay5_apply (x0 : Vec Ideal S128x4096 .f32) (j : S128x1.Idx) : k0_pay5 (F := Ideal) x0 j = Ideal.rsqrt (spread (brow x0 (j 0))) := by
  have h := pay4_apply x0
  unfold k0_pay5
  generalize k0_pay4 (F := Ideal) x0 = A at h
  pointwise
  simp only [h]
  rfl

theorem pay6_apply (x0 : Vec Ideal S128x4096 .f32) (j : S128x4096.Idx) : k0_pay6 (F := Ideal) x0 j = hat (brow x0 (j 0)) (j 1) := by
  have h := pay4_apply x0
  have h' := pay5_apply x0
  unfold k0_pay6
  generalize k0_pay4 (F := Ideal) x0 = A at h
  generalize k0_pay5 (F := Ideal) x0 = B at h'
  pointwise
  simp only [h, h']
  rfl

theorem pay8_apply (x0 x1 : Vec Ideal S128x4096 .f32) (x2 x3 : Vec Ideal S1x4096 .f32) (r : Fin 128) (n : Fin 4096) :
    k0_pay8 (F := Ideal) x0 x2 x3 x1 (ix2 r n) = (hat (brow x0 r) n * x2 (ix2 0 n) + x3 (ix2 0 n) - x1 (ix2 r n) : EReal) := by
  have h := pay6_apply x0
  unfold k0_pay8
  generalize k0_pay6 (F := Ideal) x0 = A at h
  pointwise
  rw [h]
  rfl

theorem pay9_apply (f : IVec S128x1 1) (A : Vec Ideal S128x4096 .f32) (z : Ideal .f32) (r : Fin 128) (n : Fin 4096) :
    k0_pay9 (F := Ideal) f A z (ix2 r n) = Scalar.select (f (ix2 r 0)) (A (ix2 r n)) z := by
  pointwise [k0_pay9]

theorem pay10_apply (f : IVec S128x1 1) (A : Vec Ideal S128x4096 .f32) (z : Ideal .f32) (r : Fin 128) (n : Fin 4096) :
    k0_pay10 (F := Ideal) f A z (ix2 r n) = (k0_pay9 (F := Ideal) f A z (ix2 r n) * Ideal.ofBits .f32 0x39800000#32 : EReal) := by
  unfold k0_pay10
  generalize k0_pay9 (F := Ideal) f A z = B
  pointwise

theorem pay11_apply (x0 : Vec Ideal S128x4096 .f32) (x2 : Vec Ideal S1x4096 .f32) (f : IVec S128x1 1) (A : Vec Ideal S128x4096 .f32) (z : Ideal .f32) (r : Fin 128) (n : Fin 4096) :
    k0_pay11 (F := Ideal) (k0_pay5 x0) (k0_pay6 x0) x2 f A z (ix2 r n) = short (brow x0 r) (fun n => (k0_pay10 (F := Ideal) f A z (ix2 r n) * x2 (ix2 0 n) : EReal)) n := by
  have h := pay6_apply x0
  have h' := pay5_apply x0
  unfold k0_pay11
  generalize k0_pay10 (F := Ideal) f A z = D
  generalize k0_pay6 (F := Ideal) x0 = B at h
  generalize k0_pay5 (F := Ideal) x0 = C at h'
  pointwise
  simp only [h, h']
  rfl

theorem pay12_apply (B : FVec Ideal S128x1 .f32) (C : FVec Ideal S128x4096 .f32) (x2 : Vec Ideal S1x4096 .f32) (f : IVec S128x1 1) (A : Vec Ideal S128x4096 .f32) (z : Ideal .f32) (j : S128x4096.Idx) :
    k0_pay12 (F := Ideal) B C x2 f A z j = (k0_pay11 (F := Ideal) B C x2 f A z j : EReal) := by
  unfold k0_pay12
  generalize k0_pay11 (F := Ideal) B C x2 f A z = D
  pointwise

theorem pay13_apply (C : FVec Ideal S128x4096 .f32) (f : IVec S128x1 1) (A : Vec Ideal S128x4096 .f32) (z : Ideal .f32) (j : S1x4096.Idx) :
    k0_pay13 (F := Ideal) C f A z j = (0 + ∑ k : Fin 128, k0_pay10 (F := Ideal) f A z (ix2 k (j 1)) * C (ix2 k (j 1)) : EReal) := by
  unfold k0_pay13
  generalize k0_pay10 (F := Ideal) f A z = D
  rw [zero_add]; pointwise

theorem pay14_apply (C : FVec Ideal S128x4096 .f32) (f : IVec S128x1 1) (A : Vec Ideal S128x4096 .f32) (z : Ideal .f32) (acc : Vec Ideal S1x4096 .f32) (j : S1x4096.Idx) :
    k0_pay14 (F := Ideal) C f A z acc j = (acc j + ∑ k : Fin 128, k0_pay10 (F := Ideal) f A z (ix2 k (j 1)) * C (ix2 k (j 1)) : EReal) := by
  have h := pay13_apply C f A z j
  rw [zero_add] at h
  rw [← h]
  unfold k0_pay14
  generalize k0_pay13 (F := Ideal) C f A z = B
  pointwise

theorem pay15_apply (f : IVec S128x1 1) (A : Vec Ideal S128x4096 .f32) (z : Ideal .f32) (j : S1x4096.Idx) :
    k0_pay15 (F := Ideal) f A z j = (0 + ∑ k : Fin 128, k0_pay10 (F := Ideal) f A z (ix2 k (j 1)) : EReal) := by
  unfold k0_pay15
  generalize k0_pay10 (F := Ideal) f A z = D
  rw [zero_add]; pointwise

theorem pay1_apply (B : FVec Ideal S1x4096 .f32) (acc : Vec Ideal S1x4096 .f32) (j : S1x4096.Idx) : k0_pay1 (F := Ideal) B acc j = (acc j + B j : EReal) := by
  pointwise [k0_pay1]

theorem pay2_apply (E : FVec Ideal S128x4096 .f32) (j : S1x4096.Idx) :
    k0_pay2 (F := Ideal) E j = (0 + ∑ k : Fin 128, E (ix2 k (j 1)) * E (ix2 k (j 1)) : EReal) := by
  rw [zero_add]; pointwise [k0_pay2]

theorem pay3_apply (E : FVec Ideal S128x4096 .f32) (acc : Vec Ideal S1x4096 .f32) (j : S1x4096.Idx) :
    k0_pay3 (F := Ideal) E acc j = (acc j + ∑ k : Fin 128, E (ix2 k (j 1)) * E (ix2 k (j 1)) : EReal) := by
  have h := pay2_apply E j
  rw [zero_add] at h
  rw [← h]
  unfold k0_pay3
  generalize k0_pay2 (F := Ideal) E = B
  pointwise

set_option maxRecDepth 200000 in
theorem flag_row : ∀ (p : Fin 33) (k : Fin 128), IntOp.andi (IntOp.cmpi .slt (IntOp.addi (IntOp.muli (BitVec.ofNat 32 p.val) 128#32) (BitVec.ofNat 32 k.val)) 4128#32) (IntOp.cmpi .sge (Scalar.select (IntOp.cmpi .sge (IntOp.addi (IntOp.muli (BitVec.ofNat 32 p.val) 128#32) (BitVec.ofNat 32 k.val)) 2064#32) (IntOp.subi (IntOp.addi (IntOp.muli (BitVec.ofNat 32 p.val) 128#32) (BitVec.ofNat 32 k.val)) 2064#32) (IntOp.addi (IntOp.muli (BitVec.ofNat 32 p.val) 128#32) (BitVec.ofNat 32 k.val))) 16#32) = if live (p.val * 128 + k.val) then 1#1 else 0#1 := by decide +kernel

theorem coord : ∀ t : Fin cfg0.N, ((grid0.coords t) 0).val = t.val := (by decide +kernel : ∀ t : Fin grid0.N, _)

theorem pay7_apply (t : Fin cfg0.N) (k : Fin 128) : k0_pay7 (grid0.coords t) (ix2 k 0) = if live (t.val * 128 + k.val) then 1#1 else 0#1 := by
  have hN := lt_of_lt_of_eq t.isLt N_0
  rw [← flag_row ⟨t.val, hN⟩ k]
  unfold k0_pay7
  rw [coord t]
  pointwise
  rfl

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

/-- The blocks at a point. -/
abbrev b0 (c : Dev nD) (p : Fin cfg0.N) : Vec Ideal S128x4096 .f32 := iblk m c 0 p
abbrev b1 (c : Dev nD) (p : Fin cfg0.N) : Vec Ideal S128x4096 .f32 := iblk m c 1 p
abbrev b2 (c : Dev nD) (p : Fin cfg0.N) : Vec Ideal S1x4096 .f32 := iblk m c 2 p
abbrev b3 (c : Dev nD) (p : Fin cfg0.N) : Vec Ideal S1x4096 .f32 := iblk m c 3 p

/-- The arguments. -/
abbrev ax (c : Dev nD) : LossRows.Big := m ((c : Thread nD τ).loc main_arg0)
abbrev at' (c : Dev nD) : LossRows.Tgt := m ((c : Thread nD τ).loc main_arg1)
abbrev ag (c : Dev nD) : LossRows.Vec1 := m ((c : Thread nD τ).loc main_arg2)
abbrev ab (c : Dev nD) : LossRows.Vec1 := m ((c : Thread nD τ).loc main_arg3)

/-- The rows that the host adds at the end, and those it adds before each sequence. -/
theorem pad_end (Q : (⟨S2x2064x4096, .f32⟩ : BufTy).Contents (Elt Ideal)) (z : (⟨S_, .f32⟩ : BufTy).Contents (Elt Ideal)) (r : Fin 4224) (n : Fin 4096) (h : r.val < 4128) :
    (pad S4224x4096 ![0, 0] ![96, 0] ![0, 0] (shapeCast S4128x4096 Q shapeCasts_S2x2064x4096_S4128x4096) z pads_S4128x4096_S4224x4096_0960_000 h_S_ : FVec Ideal S4224x4096 .f32) (ix2 r n) = Q (ix3 ⟨r.val / 2064, by omega⟩ ⟨r.val % 2064, by omega⟩ n) := by
  pointwise
  exact dif_pos h

theorem pad_front (B : (⟨S2x2048x4096, .f32⟩ : BufTy).Contents (Elt Ideal)) (z : (⟨S_, .f32⟩ : BufTy).Contents (Elt Ideal)) (s : Fin 2) (l : Fin 2064) (n : Fin 4096) (h : 16 ≤ l.val) :
    (pad S2x2064x4096 ![0, 16, 0] ![0, 0, 0] ![0, 0, 0] B z pads_S2x2048x4096_S2x2064x4096_000_1600_000 h_S_ : FVec Ideal S2x2064x4096 .f32) (ix3 s l n) = B (ix3 s ⟨l.val - 16, by omega⟩ n) := by
  pointwise
  exact dif_pos ⟨h, by omega⟩

/-- The target that the host extends by rows of zeros, in a row that has one. -/
theorem padded (c : Dev nD) (r : Fin 4224) (n : Fin 4096) (h : live r.val) :
    (show EReal from V m c main_v2 (ix2 r n)) = at' m c (ix3 ⟨r.val / 2064, by omega⟩ ⟨r.val % 2064 - 16, by omega⟩ n) := by
  show _ = (m (c, Proc.tc.devRef main_arg1)) _
  unfold V
  simp only [hostOps0, hostOps0_1, hostOps0_2, hostOps0_3, List.flatten_cons, List.flatten_nil, List.append_nil, List.cons_append, List.nil_append]
  after_results_simp
  simp only [StableHlo.TRef.toBuf, StableHlo.TRef.ofBuf, cast_eq]
  generalize m (c, Proc.tc.devRef main_arg1) = B
  exact (pad_end _ _ r n h.1).trans (pad_front B _ _ _ n h.2)

theorem blk0 (c : Dev nD) (p : Fin cfg0.N) (k : Fin 128) (j : Fin 4096) (l : Fin 4224) (hl : l.val = p.val * 128 + k.val) :
    b0 m c p (ix2 k j) = ax m c (ix2 l j) := by
  show _ = m ((c : Thread nD τ).loc main_arg0) (ix2 l j)
  rw [← V_main_arg0 m c]
  show (V m c main_arg0) (((cfg0.win 0).blk p).view.emb (ix2 k j)) = V m c main_arg0 (ix2 l j)
  generalize V m c main_arg0 = A
  blk_point [idx p]

theorem blk1 (c : Dev nD) (p : Fin cfg0.N) (k : Fin 128) (j : Fin 4096) (l : Fin 4224) (hl : l.val = p.val * 128 + k.val) :
    b1 m c p (ix2 k j) = (show EReal from V m c main_v2 (ix2 l j)) := by
  show (V m c main_v2) (((cfg0.win 1).blk p).view.emb (ix2 k j)) = V m c main_v2 (ix2 l j)
  generalize V m c main_v2 = A
  blk_point [idx p]

theorem blk2 (c : Dev nD) (p : Fin cfg0.N) (j : Fin 4096) : b2 m c p (ix2 0 j) = ag m c (ix2 0 j) := by
  show _ = m ((c : Thread nD τ).loc main_arg2) (ix2 0 j)
  rw [← V_main_arg2 m c]
  show (V m c main_arg2) (((cfg0.win 2).blk p).view.emb (ix2 0 j)) = V m c main_arg2 (ix2 0 j)
  generalize V m c main_arg2 = A
  blk_point [idx p]

theorem blk3 (c : Dev nD) (p : Fin cfg0.N) (j : Fin 4096) : b3 m c p (ix2 0 j) = ab m c (ix2 0 j) := by
  show _ = m ((c : Thread nD τ).loc main_arg3) (ix2 0 j)
  rw [← V_main_arg3 m c]
  show (V m c main_arg3) (((cfg0.win 3).blk p).view.emb (ix2 0 j)) = V m c main_arg3 (ix2 0 j)
  generalize V m c main_arg3 = A
  blk_point [idx p]

theorem brow_eq (c : Dev nD) (p : Fin cfg0.N) (k : Fin 128) (l : Fin 4224) (hl : l.val = p.val * 128 + k.val) :
    brow (b0 m c p) k = arow (ax m c) l := by
  funext n; exact blk0 m c p k n l hl

/-- The error and the slope of a block's row. -/
theorem err_eq (c : Dev nD) (p : Fin cfg0.N) (k : Fin 128) (n : Fin 4096) (l : Fin 4224) (hl : l.val = p.val * 128 + k.val) :
    k0_pay9 (F := Ideal) (k0_pay7 (grid0.coords p)) (k0_pay8 (b0 m c p) (b2 m c p) (b3 m c p) (b1 m c p)) (Scalar.ofBits .f32 0x00000000#32) (ix2 k n) = err (ax m c) (at' m c) (ag m c) (ab m c) l n := by
  rw [pay9_apply, pay7_apply, ← hl, Rows.select_ite]
  unfold err
  by_cases h : live l.val
  · rw [if_pos h, dif_pos h, pay8_apply, brow_eq m c p k l hl, blk1 m c p k n l hl, blk2, blk3]
    exact congrArg (fun a : EReal => _ - a) (padded m c l n h)
  · rw [if_neg h, dif_neg h]
    exact (by show Ideal.ofBits .f32 0x00000000#32 = 0; simp [Ideal.ofBits, Ideal.ieee])

theorem slope_eq (c : Dev nD) (p : Fin cfg0.N) (k : Fin 128) (n : Fin 4096) (l : Fin 4224) (hl : l.val = p.val * 128 + k.val) :
    k0_pay10 (F := Ideal) (k0_pay7 (grid0.coords p)) (k0_pay8 (b0 m c p) (b2 m c p) (b3 m c p) (b1 m c p)) (Scalar.ofBits .f32 0x00000000#32) (ix2 k n) = slopeAt (ax m c) (at' m c) (ag m c) (ab m c) l n := by
  rw [pay10_apply, err_eq m c p k n l hl, slopeAt]

/-! What the rows of sums hold after the last point: the sums over the points of their blocks' sums. -/

theorem sums6 (c : Dev nD) (t : Fin cfg0.N) (h : t.val % 33 = 32) (j : S1x4096.Idx) :
    (outsAt0 m c t.val t.isLt).2.2.1 j = (∑ s : Fin 33, ∑ k : Fin 128, k0_pay10 (F := Ideal) (k0_pay7 (grid0.coords ⟨33 * (t.val / 33) + s.val, Pipeline.run_point_lt_of_flush t h s⟩)) (k0_pay8 (b0 m c ⟨33 * (t.val / 33) + s.val, Pipeline.run_point_lt_of_flush t h s⟩) (b2 m c ⟨33 * (t.val / 33) + s.val, Pipeline.run_point_lt_of_flush t h s⟩) (b3 m c ⟨33 * (t.val / 33) + s.val, Pipeline.run_point_lt_of_flush t h s⟩) (b1 m c ⟨33 * (t.val / 33) + s.val, Pipeline.run_point_lt_of_flush t h s⟩)) (Scalar.ofBits .f32 0x00000000#32) (ix2 k (j 1)) * k0_pay6 (F := Ideal) (b0 m c ⟨33 * (t.val / 33) + s.val, Pipeline.run_point_lt_of_flush t h s⟩) (ix2 k (j 1)) : EReal) := by
  rw [Pipeline.eq_sum_fin_of_reset_step_apply_of_flush (fun n h => (outsAt0 m c n h).2.2.1) 33 (fun _ => 0)
    (fun p j => (∑ k : Fin 128, k0_pay10 (F := Ideal) (k0_pay7 (grid0.coords p)) (k0_pay8 (b0 m c p) (b2 m c p) (b3 m c p) (b1 m c p)) (Scalar.ofBits .f32 0x00000000#32) (ix2 k (j 1)) * k0_pay6 (F := Ideal) (b0 m c p) (ix2 k (j 1)) : EReal))
    (fun t h j => by
      have hN := lt_of_lt_of_eq t.isLt N_0
      rw [outsAt0_A m c t h (by omega) h (by omega) h (by omega)]; dsimp only; rw [out_A6, pay13_apply])
    (fun t h j => by
      rw [outsAt0_B m c t h (by omega) h (by omega) h (by omega)]; dsimp only; rw [out_B6, pay14_apply])
    t h j, zero_add]

theorem sums7 (c : Dev nD) (t : Fin cfg0.N) (h : t.val % 33 = 32) (j : S1x4096.Idx) :
    (outsAt0 m c t.val t.isLt).2.2.2.1 j = (∑ s : Fin 33, ∑ k : Fin 128, k0_pay10 (F := Ideal) (k0_pay7 (grid0.coords ⟨33 * (t.val / 33) + s.val, Pipeline.run_point_lt_of_flush t h s⟩)) (k0_pay8 (b0 m c ⟨33 * (t.val / 33) + s.val, Pipeline.run_point_lt_of_flush t h s⟩) (b2 m c ⟨33 * (t.val / 33) + s.val, Pipeline.run_point_lt_of_flush t h s⟩) (b3 m c ⟨33 * (t.val / 33) + s.val, Pipeline.run_point_lt_of_flush t h s⟩) (b1 m c ⟨33 * (t.val / 33) + s.val, Pipeline.run_point_lt_of_flush t h s⟩)) (Scalar.ofBits .f32 0x00000000#32) (ix2 k (j 1)) : EReal) := by
  rw [Pipeline.eq_sum_fin_of_reset_step_apply_of_flush (fun n h => (outsAt0 m c n h).2.2.2.1) 33 (fun _ => 0)
    (fun p j => (∑ k : Fin 128, k0_pay10 (F := Ideal) (k0_pay7 (grid0.coords p)) (k0_pay8 (b0 m c p) (b2 m c p) (b3 m c p) (b1 m c p)) (Scalar.ofBits .f32 0x00000000#32) (ix2 k (j 1)) : EReal))
    (fun t h j => by
      have hN := lt_of_lt_of_eq t.isLt N_0
      rw [outsAt0_A m c t h (by omega) h (by omega) h (by omega)]; dsimp only; rw [out_A7, pay15_apply])
    (fun t h j => by
      rw [outsAt0_B m c t h (by omega) h (by omega) h (by omega)]; dsimp only; rw [out_B7, pay1_apply, pay15_apply, zero_add])
    t h j, zero_add]

theorem sums8 (c : Dev nD) (t : Fin cfg0.N) (h : t.val % 33 = 32) (j : S1x4096.Idx) :
    (outsAt0 m c t.val t.isLt).2.2.2.2 j = (∑ s : Fin 33, ∑ k : Fin 128, k0_pay9 (F := Ideal) (k0_pay7 (grid0.coords ⟨33 * (t.val / 33) + s.val, Pipeline.run_point_lt_of_flush t h s⟩)) (k0_pay8 (b0 m c ⟨33 * (t.val / 33) + s.val, Pipeline.run_point_lt_of_flush t h s⟩) (b2 m c ⟨33 * (t.val / 33) + s.val, Pipeline.run_point_lt_of_flush t h s⟩) (b3 m c ⟨33 * (t.val / 33) + s.val, Pipeline.run_point_lt_of_flush t h s⟩) (b1 m c ⟨33 * (t.val / 33) + s.val, Pipeline.run_point_lt_of_flush t h s⟩)) (Scalar.ofBits .f32 0x00000000#32) (ix2 k (j 1)) * k0_pay9 (F := Ideal) (k0_pay7 (grid0.coords ⟨33 * (t.val / 33) + s.val, Pipeline.run_point_lt_of_flush t h s⟩)) (k0_pay8 (b0 m c ⟨33 * (t.val / 33) + s.val, Pipeline.run_point_lt_of_flush t h s⟩) (b2 m c ⟨33 * (t.val / 33) + s.val, Pipeline.run_point_lt_of_flush t h s⟩) (b3 m c ⟨33 * (t.val / 33) + s.val, Pipeline.run_point_lt_of_flush t h s⟩) (b1 m c ⟨33 * (t.val / 33) + s.val, Pipeline.run_point_lt_of_flush t h s⟩)) (Scalar.ofBits .f32 0x00000000#32) (ix2 k (j 1)) : EReal) := by
  rw [Pipeline.eq_sum_fin_of_reset_step_apply_of_flush (fun n h => (outsAt0 m c n h).2.2.2.2) 33 (fun _ => 0)
    (fun p j => (∑ k : Fin 128, k0_pay9 (F := Ideal) (k0_pay7 (grid0.coords p)) (k0_pay8 (b0 m c p) (b2 m c p) (b3 m c p) (b1 m c p)) (Scalar.ofBits .f32 0x00000000#32) (ix2 k (j 1)) * k0_pay9 (F := Ideal) (k0_pay7 (grid0.coords p)) (k0_pay8 (b0 m c p) (b2 m c p) (b3 m c p) (b1 m c p)) (Scalar.ofBits .f32 0x00000000#32) (ix2 k (j 1)) : EReal))
    (fun t h j => by
      have hN := lt_of_lt_of_eq t.isLt N_0
      rw [outsAt0_A m c t h (by omega) h (by omega) h (by omega)]; dsimp only; rw [out_A8, pay2_apply])
    (fun t h j => by
      rw [outsAt0_B m c t h (by omega) h (by omega) h (by omega)]; dsimp only; rw [out_B8, pay3_apply])
    t h j, zero_add]

/-- What the precondition says of the arguments: every element is a real number. -/
def Reals (c : Dev nD) : Prop :=
  (∀ i, Common.IsReal (ax m c i)) ∧ (∀ i, Common.IsReal (at' m c i)) ∧ (∀ i, Common.IsReal (ag m c i)) ∧ ∀ i, Common.IsReal (ab m c i)

theorem reals_of_pre [Cert.Pre_loss_finite.Facts] (c : Dev nD) (h : Cert.Pre_loss_finite.fn (F := Ideal) (m ((c : Thread nD τ).loc main_arg0)) (m ((c : Thread nD τ).loc main_arg1)) (m ((c : Thread nD τ).loc main_arg2)) (m ((c : Thread nD τ).loc main_arg3)) = fun _ => 1#1) :
    Reals m c := by
  have h := congrFun h ix0
  dsimp only [Cert.Pre_loss_finite.fn, Cert.Pre_loss_finite.fn_part1] at h
  obtain ⟨h012, h3⟩ := IntOp.andi_eq_one.1 h
  obtain ⟨h01, h2⟩ := IntOp.andi_eq_one.1 h012
  obtain ⟨h0, h1⟩ := IntOp.andi_eq_one.1 h01
  haveI : Subsingleton (Shape.Idx Cert.Pre_loss_finite.S_) := ⟨fun a b => funext fun i => i.elim0⟩
  exact ⟨fun i => Common.isReal_of_lt_wide (Host.reduce_andi_all _ _ _ _ _ h0 i), fun i => Common.isReal_of_lt_wide (Host.reduce_andi_all _ _ _ _ _ h1 i),
    fun i => Common.isReal_of_lt_wide (Host.reduce_andi_all _ _ _ _ _ h2 i), fun i => Common.isReal_of_lt_wide (Host.reduce_andi_all _ _ _ _ _ h3 i)⟩

/-- In a row without a derivative nothing is left. -/
theorem short_zero (row : Fin 4096 → EReal) (n : Fin 4096) : short row (fun _ => 0) n = 0 := by
  have hm : mean (fun _ => 0) = 0 := by
    rw [mean, Finset.sum_const_zero, LayerNorm.width, Ideal.div_coe (by norm_num), zero_mul]
  unfold short
  simp only [zero_mul]
  rw [hm, mul_zero, sub_zero, sub_zero, mul_zero]

theorem scaled_real (c : Dev nD) (hr : Reals m c) (l : Fin 4224) (n : Fin 4096) : Common.IsReal (scaled (ax m c) (at' m c) (ag m c) (ab m c) l n) := by
  have hs : Common.IsReal (Ideal.ofBits .f32 0x39800000#32) := ⟨_, LossRows.share⟩
  refine Common.IsReal.mul (Common.IsReal.mul ?_ hs) (hr.2.2.1 _)
  unfold err
  split
  · exact LossRows.real_sub (Common.IsReal.add (Common.IsReal.mul (LossRows.hat_real (fun n => hr.1 _) n) (hr.2.2.1 _)) (hr.2.2.2 _)) (hr.2.1 _)
  · exact ⟨0, rfl⟩

theorem point (c : Dev nD) (hr : Reals m c) (t : Fin cfg0.N) (j : Fin 128) (n : Fin 4096) (i : S4224x4096.Idx)
    (h0 : (i 0).val = t.val * 128 + j.val) (h1 : (i 1).val = n.val) :
    (k0_pay11 (F := Ideal) (k0_pay5 (b0 m c t)) (k0_pay6 (b0 m c t)) (b2 m c t) (k0_pay7 (grid0.coords t)) (k0_pay8 (b0 m c t) (b2 m c t) (b3 m c t) (b1 m c t)) (Scalar.ofBits .f32 0x00000000#32) (ix2 j n) : EReal) = LossRefIdeal.Read.val_main_v86 (F := Ideal) (m ((c : Thread nD τ).loc main_arg0)) (m ((c : Thread nD τ).loc main_arg1)) (m ((c : Thread nD τ).loc main_arg2)) (m ((c : Thread nD τ).loc main_arg3)) i := by
  obtain ⟨q, k, rfl⟩ : ∃ (q : Fin 4224) (k : Fin 4096), i = ix2 q k := ⟨i 0, i 1, by funext a; match a with | ⟨0, _⟩ => rfl | ⟨1, _⟩ => rfl⟩
  obtain rfl : k = n := Fin.ext h1
  refine ((pay11_apply _ _ _ _ _ _ _).trans ?_).trans (ref_out _ _ _ _ q k).symm
  have e : (fun n => (k0_pay10 (F := Ideal) (k0_pay7 (grid0.coords t)) (k0_pay8 (b0 m c t) (b2 m c t) (b3 m c t) (b1 m c t)) (Scalar.ofBits .f32 0x00000000#32) (ix2 j n) * b2 m c t (ix2 0 n) : EReal)) = scaled (ax m c) (at' m c) (ag m c) (ab m c) q := by
    funext n
    rw [slope_eq m c t j n q h0, blk2]
    rfl
  rw [e, brow_eq m c t j q h0]
  by_cases h : q.val < 4128
  · rw [if_pos h]
    exact forms (fun n => hr.1 _) (fun n => scaled_real m c hr q n) k
  · rw [if_neg h]
    have z : scaled (ax m c) (at' m c) (ag m c) (ab m c) q = fun _ => 0 := by
      funext n
      rw [scaled, slopeAt, err_end _ _ _ _ _ _ (by omega), zero_mul, zero_mul]
    rw [z]
    exact short_zero _ k

theorem point_cast (c : Dev nD) (hr : Reals m c) (t : Fin cfg0.N) (j : Fin 128) (n : Fin 4096) (i : S4224x4096.Idx)
    (h0 : (i 0).val = t.val * 128 + j.val) (h1 : (i 1).val = n.val) :
    (k0_pay12 (F := Ideal) (k0_pay5 (b0 m c t)) (k0_pay6 (b0 m c t)) (b2 m c t) (k0_pay7 (grid0.coords t)) (k0_pay8 (b0 m c t) (b2 m c t) (b3 m c t) (b1 m c t)) (Scalar.ofBits .f32 0x00000000#32) (ix2 j n) : EReal) = LossRefIdeal.Read.val_main_v87 (F := Ideal) (m ((c : Thread nD τ).loc main_arg0)) (m ((c : Thread nD τ).loc main_arg1)) (m ((c : Thread nD τ).loc main_arg2)) (m ((c : Thread nD τ).loc main_arg3)) i :=
  ((pay12_apply _ _ _ _ _ _ _).trans (point m c hr t j n i h0 h1)).trans (ref_cast _ _ _ _ i).symm

theorem final0 (c : Dev nD) (hr : Reals m c) : (dats m 0 c).arrAt 4 cfg0.N = LossRefIdeal.Read.val_main_v86 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  have e : (outsAt0 m c t.val t.isLt).1 = k0_pay11 (F := Ideal) (k0_pay5 (b0 m c t)) (k0_pay6 (b0 m c t)) (b2 m c t) (k0_pay7 (grid0.coords t)) (k0_pay8 (b0 m c t) (b2 m c t) (b3 m c t) (b1 m c t)) (Scalar.ofBits .f32 0x00000000#32) := by
    have hN := lt_of_lt_of_eq t.isLt N_0
    rcases Nat.eq_zero_or_pos t.val with h | h
    · rw [outsAt0_A m c t (by omega) (by omega) (by omega) (by omega) (by omega) (by omega)]; dsimp only; rw [out_A4]
    · rw [outsAt0_B m c t (by omega) (by omega) (by omega) (by omega) (by omega) (by omega)]; dsimp only; rw [out_B4]
  rw [e]
  obtain ⟨r, k, rfl⟩ : ∃ (r : Fin 128) (k : Fin 4096), y = ix2 r k := ⟨y 0, y 1, by funext a; match a with | ⟨0, _⟩ => rfl | ⟨1, _⟩ => rfl⟩
  refine point m c hr t r k _ ?_ ?_
  all_goals blk_simp [idx t] <;> try omega

theorem final1 (c : Dev nD) (hr : Reals m c) : (dats m 0 c).arrAt 5 cfg0.N = LossRefIdeal.Read.val_main_v87 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  have e : (outsAt0 m c t.val t.isLt).2.1 = k0_pay12 (F := Ideal) (k0_pay5 (b0 m c t)) (k0_pay6 (b0 m c t)) (b2 m c t) (k0_pay7 (grid0.coords t)) (k0_pay8 (b0 m c t) (b2 m c t) (b3 m c t) (b1 m c t)) (Scalar.ofBits .f32 0x00000000#32) := by
    have hN := lt_of_lt_of_eq t.isLt N_0
    rcases Nat.eq_zero_or_pos t.val with h | h
    · rw [outsAt0_A m c t (by omega) (by omega) (by omega) (by omega) (by omega) (by omega)]; dsimp only; rw [out_A5]
    · rw [outsAt0_B m c t (by omega) (by omega) (by omega) (by omega) (by omega) (by omega)]; dsimp only; rw [out_B5]
  rw [e]
  obtain ⟨r, k, rfl⟩ : ∃ (r : Fin 128) (k : Fin 4096), y = ix2 r k := ⟨y 0, y 1, by funext a; match a with | ⟨0, _⟩ => rfl | ⟨1, _⟩ => rfl⟩
  refine point_cast m c hr t r k _ ?_ ?_
  all_goals blk_simp [idx t] <;> try omega

theorem final2 (c : Dev nD) (hr : Reals m c) : (dats m 0 c).arrAt 6 cfg0.N = LossRefIdeal.Read.val_main_v84 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  have ht := (flush0_6 t).mp hf
  have hN := lt_of_lt_of_eq t.isLt N_0
  rw [after0_6]
  obtain ⟨r, n, rfl⟩ : ∃ (r : Fin 1) (n : Fin 4096), y = ix2 r n := ⟨y 0, y 1, by funext a; match a with | ⟨0, _⟩ => rfl | ⟨1, _⟩ => rfl⟩
  obtain rfl : r = 0 := Subsingleton.elim _ _
  have key : ∀ i : S1x4096.Idx, (i 1).val = n.val → ((outsAt0 m c t.val t.isLt).2.2.1 (ix2 0 n) : EReal) = LossRefIdeal.Read.val_main_v84 (F := Ideal) (m ((c : Thread nD τ).loc main_arg0)) (m ((c : Thread nD τ).loc main_arg1)) (m ((c : Thread nD τ).loc main_arg2)) (m ((c : Thread nD τ).loc main_arg3)) i := by
    intro i h1
    obtain ⟨r, n', rfl⟩ : ∃ (r : Fin 1) (n : Fin 4096), i = ix2 r n := ⟨i 0, i 1, by funext a; match a with | ⟨0, _⟩ => rfl | ⟨1, _⟩ => rfl⟩
    obtain rfl : r = 0 := Subsingleton.elim _ _
    obtain rfl : n' = n := Fin.ext h1
    refine Eq.trans ?_ (ref_gain _ _ _ _ n').symm
    rw [sums6 m c t ht]
    refine Fin.sum_mul_add_congr fun s k hl => ?_
    have hs := s.isLt
    refine congrArg₂ (fun a b : EReal => a * b) (slope_eq m c _ k n' ⟨s.val * 128 + k.val, hl⟩ (by dsimp only; omega)) ?_
    refine (pay6_apply _ _).trans ?_
    exact congrArg (fun f => hat f n') (brow_eq m c _ k ⟨s.val * 128 + k.val, hl⟩ (by dsimp only; omega))
  refine key _ ?_
  all_goals blk_simp [idx t] <;> try omega

theorem final3 (c : Dev nD) (hr : Reals m c) : (dats m 0 c).arrAt 7 cfg0.N = LossRefIdeal.Read.val_main_v83 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  have ht := (flush0_7 t).mp hf
  have hN := lt_of_lt_of_eq t.isLt N_0
  rw [after0_7]
  obtain ⟨r, n, rfl⟩ : ∃ (r : Fin 1) (n : Fin 4096), y = ix2 r n := ⟨y 0, y 1, by funext a; match a with | ⟨0, _⟩ => rfl | ⟨1, _⟩ => rfl⟩
  obtain rfl : r = 0 := Subsingleton.elim _ _
  have key : ∀ i : S1x4096.Idx, (i 1).val = n.val → ((outsAt0 m c t.val t.isLt).2.2.2.1 (ix2 0 n) : EReal) = LossRefIdeal.Read.val_main_v83 (F := Ideal) (m ((c : Thread nD τ).loc main_arg0)) (m ((c : Thread nD τ).loc main_arg1)) (m ((c : Thread nD τ).loc main_arg2)) (m ((c : Thread nD τ).loc main_arg3)) i := by
    intro i h1
    obtain ⟨r, n', rfl⟩ : ∃ (r : Fin 1) (n : Fin 4096), i = ix2 r n := ⟨i 0, i 1, by funext a; match a with | ⟨0, _⟩ => rfl | ⟨1, _⟩ => rfl⟩
    obtain rfl : r = 0 := Subsingleton.elim _ _
    obtain rfl : n' = n := Fin.ext h1
    refine Eq.trans ?_ (ref_shift _ _ _ _ n').symm
    rw [sums7 m c t ht]
    refine Fin.sum_mul_add_congr fun s k hl => ?_
    have hs := s.isLt
    exact slope_eq m c _ k n' ⟨s.val * 128 + k.val, hl⟩ (by dsimp only; omega)
  refine key _ ?_
  all_goals blk_simp [idx t] <;> try omega

theorem final4 (c : Dev nD) (hr : Reals m c) : (dats m 0 c).arrAt 8 cfg0.N = LossRefIdeal.Read.val_main_v46 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  have ht := (flush0_8 t).mp hf
  have hN := lt_of_lt_of_eq t.isLt N_0
  rw [after0_8]
  obtain ⟨r, n, rfl⟩ : ∃ (r : Fin 1) (n : Fin 4096), y = ix2 r n := ⟨y 0, y 1, by funext a; match a with | ⟨0, _⟩ => rfl | ⟨1, _⟩ => rfl⟩
  obtain rfl : r = 0 := Subsingleton.elim _ _
  have key : ∀ i : S1x4096.Idx, (i 1).val = n.val → ((outsAt0 m c t.val t.isLt).2.2.2.2 (ix2 0 n) : EReal) = LossRefIdeal.Read.val_main_v46 (F := Ideal) (m ((c : Thread nD τ).loc main_arg0)) (m ((c : Thread nD τ).loc main_arg1)) (m ((c : Thread nD τ).loc main_arg2)) (m ((c : Thread nD τ).loc main_arg3)) i := by
    intro i h1
    obtain ⟨r, n', rfl⟩ : ∃ (r : Fin 1) (n : Fin 4096), i = ix2 r n := ⟨i 0, i 1, by funext a; match a with | ⟨0, _⟩ => rfl | ⟨1, _⟩ => rfl⟩
    obtain rfl : r = 0 := Subsingleton.elim _ _
    obtain rfl : n' = n := Fin.ext h1
    refine Eq.trans ?_ (ref_squares _ _ _ _ n').symm
    rw [sums8 m c t ht]
    refine Fin.sum_mul_add_congr fun s k hl => ?_
    have hs := s.isLt
    refine congrArg₂ (fun a b : EReal => a * b) ?_ ?_ <;> exact err_eq m c _ k n' ⟨s.val * 128 + k.val, hl⟩ (by dsimp only; omega)
  refine key _ ?_
  all_goals blk_simp [idx t] <;> try omega

end Cert.LossIdeal.Value
end
-- ==== Proof.lean ====
/- Each call's three frames, the identity of the kernel with its reading over the extended reals, and the equality of
   what the kernel and its reference compute. The equation of the two results is in the call's own module. -/
module

public import proofs.«01_k».proof.Defs
public import proofs.«01_k».proof.Proof.Gen.Wd
public import proofs.«01_k».proof.Proof.Gen.Wd.Skeleton
public import proofs.«01_k».proof.Proof.Gen.Wd.Loops
public import proofs.«01_k».proof.Proof.Gen.Wd.Launch
public import proofs.«01_k».proof.Proof.Gen.Wd.Points
public import proofs.«01_k».proof.Proof.Gen.Wd.Frame
public import proofs.«01_k».proof.Proof.Gen.WdIdeal
public import proofs.«01_k».proof.Proof.Gen.WdIdeal.Skeleton
public import proofs.«01_k».proof.Proof.Gen.WdIdeal.Loops
public import proofs.«01_k».proof.Proof.Gen.WdIdeal.Launch
public import proofs.«01_k».proof.Proof.Gen.WdIdeal.Points
public import proofs.«01_k».proof.Proof.Gen.WdIdeal.Frame
public import proofs.«01_k».proof.Proof.Gen.WdRefIdeal
public import proofs.«01_k».proof.Proof.Gen.Dgu
public import proofs.«01_k».proof.Proof.Gen.Dgu.Skeleton
public import proofs.«01_k».proof.Proof.Gen.Dgu.Loops
public import proofs.«01_k».proof.Proof.Gen.Dgu.Launch
public import proofs.«01_k».proof.Proof.Gen.Dgu.Points
public import proofs.«01_k».proof.Proof.Gen.Dgu.Frame
public import proofs.«01_k».proof.Proof.Gen.DguIdeal
public import proofs.«01_k».proof.Proof.Gen.DguIdeal.Skeleton
public import proofs.«01_k».proof.Proof.Gen.DguIdeal.Loops
public import proofs.«01_k».proof.Proof.Gen.DguIdeal.Launch
public import proofs.«01_k».proof.Proof.Gen.DguIdeal.Points
public import proofs.«01_k».proof.Proof.Gen.DguIdeal.Frame
public import proofs.«01_k».proof.Proof.Gen.DguRefIdeal
public import proofs.«01_k».proof.Proof.Gen.Wgu
public import proofs.«01_k».proof.Proof.Gen.Wgu.Skeleton
public import proofs.«01_k».proof.Proof.Gen.Wgu.Loops
public import proofs.«01_k».proof.Proof.Gen.Wgu.Launch
public import proofs.«01_k».proof.Proof.Gen.Wgu.Points
public import proofs.«01_k».proof.Proof.Gen.Wgu.Frame
public import proofs.«01_k».proof.Proof.Gen.WguIdeal
public import proofs.«01_k».proof.Proof.Gen.WguIdeal.Skeleton
public import proofs.«01_k».proof.Proof.Gen.WguIdeal.Loops
public import proofs.«01_k».proof.Proof.Gen.WguIdeal.Launch
public import proofs.«01_k».proof.Proof.Gen.WguIdeal.Points
public import proofs.«01_k».proof.Proof.Gen.WguIdeal.Frame
public import proofs.«01_k».proof.Proof.Gen.WguRefIdeal
public import proofs.«01_k».proof.Proof.Gen.Dh
public import proofs.«01_k».proof.Proof.Gen.Dh.Skeleton
public import proofs.«01_k».proof.Proof.Gen.Dh.Loops
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Loops
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.OutY
public import proofs.«01_k».proof.Proof.Gen.OutY.Skeleton
public import proofs.«01_k».proof.Proof.Gen.OutY.Launch
public import proofs.«01_k».proof.Proof.Gen.OutY.Points
public import proofs.«01_k».proof.Proof.Gen.OutY.Frame
public import proofs.«01_k».proof.Proof.Gen.OutYIdeal
public import proofs.«01_k».proof.Proof.Gen.OutYIdeal.Skeleton
public import proofs.«01_k».proof.Proof.Gen.OutYIdeal.Launch
public import proofs.«01_k».proof.Proof.Gen.OutYIdeal.Points
public import proofs.«01_k».proof.Proof.Gen.OutYIdeal.Frame
public import proofs.«01_k».proof.Proof.Gen.OutYRefIdeal
public import proofs.«01_k».proof.Proof.Gen.OutW
public import proofs.«01_k».proof.Proof.Gen.OutW.Skeleton
public import proofs.«01_k».proof.Proof.Gen.OutW.Loops
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Loops
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWRefIdeal
public import proofs.«01_k».proof.Proof.Gen.InW
public import proofs.«01_k».proof.Proof.Gen.InW.Skeleton
public import proofs.«01_k».proof.Proof.Gen.InW.Loops
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Loops
public import proofs.«01_k».proof.Proof.Gen.InWIdeal.Launch
public import proofs.«01_k».proof.Proof.Gen.InWIdeal.Points
public import proofs.«01_k».proof.Proof.Gen.InWIdeal.Frame
public import proofs.«01_k».proof.Proof.Gen.InWRefIdeal
public import proofs.«01_k».proof.Proof.Gen.InH
public import proofs.«01_k».proof.Proof.Gen.InH.Skeleton
public import proofs.«01_k».proof.Proof.Gen.InH.Loops
public import proofs.«01_k».proof.Proof.Gen.InH.Launch
public import proofs.«01_k».proof.Proof.Gen.InH.Points
public import proofs.«01_k».proof.Proof.Gen.InH.Frame
public import proofs.«01_k».proof.Proof.Gen.InHIdeal
public import proofs.«01_k».proof.Proof.Gen.InHIdeal.Skeleton
public import proofs.«01_k».proof.Proof.Gen.InHIdeal.Loops
public import proofs.«01_k».proof.Proof.Gen.InHIdeal.Launch
public import proofs.«01_k».proof.Proof.Gen.InHIdeal.Points
public import proofs.«01_k».proof.Proof.Gen.InHIdeal.Frame
public import proofs.«01_k».proof.Proof.Gen.InHRefIdeal
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInRefIdeal
public import proofs.«01_k».proof.Proof.Gen.MixW
public import proofs.«01_k».proof.Proof.Gen.MixW.Skeleton
public import proofs.«01_k».proof.Proof.Gen.MixW.Loops
public import proofs.«01_k».proof.Proof.Gen.MixW.Launch
public import proofs.«01_k».proof.Proof.Gen.MixW.Points
public import proofs.«01_k».proof.Proof.Gen.MixW.Frame
public import proofs.«01_k».proof.Proof.Gen.MixWIdeal
public import proofs.«01_k».proof.Proof.Gen.MixWIdeal.Skeleton
public import proofs.«01_k».proof.Proof.Gen.MixWIdeal.Loops
public import proofs.«01_k».proof.Proof.Gen.MixWIdeal.Launch
public import proofs.«01_k».proof.Proof.Gen.MixWIdeal.Points
public import proofs.«01_k».proof.Proof.Gen.MixWIdeal.Frame
public import proofs.«01_k».proof.Proof.Gen.MixWRefIdeal
public import proofs.«01_k».proof.Proof.Gen.Scale
public import proofs.«01_k».proof.Proof.Gen.Scale.Skeleton
public import proofs.«01_k».proof.Proof.Gen.Scale.Launch
public import proofs.«01_k».proof.Proof.Gen.Scale.Points
public import proofs.«01_k».proof.Proof.Gen.Scale.Frame
public import proofs.«01_k».proof.Proof.Gen.ScaleIdeal
public import proofs.«01_k».proof.Proof.Gen.ScaleIdeal.Skeleton
public import proofs.«01_k».proof.Proof.Gen.ScaleIdeal.Launch
public import proofs.«01_k».proof.Proof.Gen.ScaleIdeal.Points
public import proofs.«01_k».proof.Proof.Gen.ScaleIdeal.Frame
public import proofs.«01_k».proof.Proof.Gen.ScaleRefIdeal
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.ProjIn
public import proofs.«01_k».proof.Proof.Gen.ProjIn.Skeleton
public import proofs.«01_k».proof.Proof.Gen.ProjIn.Loops
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Loops
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInRefIdeal
public import proofs.«01_k».proof.Proof.Gen.ProjOut
public import proofs.«01_k».proof.Proof.Gen.ProjOut.Skeleton
public import proofs.«01_k».proof.Proof.Gen.ProjOut.Loops
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Loops
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutRefIdeal
public import proofs.«01_k».proof.Proof.Gen.PoolMix
public import proofs.«01_k».proof.Proof.Gen.PoolMix.Skeleton
public import proofs.«01_k».proof.Proof.Gen.PoolMix.Launch
public import proofs.«01_k».proof.Proof.Gen.PoolMix.Points
public import proofs.«01_k».proof.Proof.Gen.PoolMix.Frame
public import proofs.«01_k».proof.Proof.Gen.PoolMixIdeal
public import proofs.«01_k».proof.Proof.Gen.PoolMixIdeal.Skeleton
public import proofs.«01_k».proof.Proof.Gen.PoolMixIdeal.Launch
public import proofs.«01_k».proof.Proof.Gen.PoolMixIdeal.Points
public import proofs.«01_k».proof.Proof.Gen.PoolMixIdeal.Frame
public import proofs.«01_k».proof.Proof.Gen.PoolMixRefIdeal
public import proofs.«01_k».proof.Proof.Gen.Gu
public import proofs.«01_k».proof.Proof.Gen.Gu.Skeleton
public import proofs.«01_k».proof.Proof.Gen.Gu.Loops
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Loops
public import proofs.«01_k».proof.Proof.Gen.GuIdeal.Launch
public import proofs.«01_k».proof.Proof.Gen.GuIdeal.Points
public import proofs.«01_k».proof.Proof.Gen.GuIdeal.Frame
public import proofs.«01_k».proof.Proof.Gen.GuRefIdeal
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnRefIdeal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.LnB
public import proofs.«01_k».proof.Proof.Gen.LnB.Skeleton
public import proofs.«01_k».proof.Proof.Gen.LnB.Launch
public import proofs.«01_k».proof.Proof.Gen.LnB.Points
public import proofs.«01_k».proof.Proof.Gen.LnB.Frame
public import proofs.«01_k».proof.Proof.Gen.LnBIdeal
public import proofs.«01_k».proof.Proof.Gen.LnBIdeal.Skeleton
public import proofs.«01_k».proof.Proof.Gen.LnBIdeal.Launch
public import proofs.«01_k».proof.Proof.Gen.LnBIdeal.Points
public import proofs.«01_k».proof.Proof.Gen.LnBIdeal.Frame
public import proofs.«01_k».proof.Proof.Gen.LnBRefIdeal
public import proofs.«01_k».proof.Proof.Gen.ConvF
public import proofs.«01_k».proof.Proof.Gen.ConvF.Skeleton
public import proofs.«01_k».proof.Proof.Gen.ConvF.Launch
public import proofs.«01_k».proof.Proof.Gen.ConvF.Points
public import proofs.«01_k».proof.Proof.Gen.ConvF.Frame
public import proofs.«01_k».proof.Proof.Gen.ConvFIdeal
public import proofs.«01_k».proof.Proof.Gen.ConvFIdeal.Skeleton
public import proofs.«01_k».proof.Proof.Gen.ConvFIdeal.Launch
public import proofs.«01_k».proof.Proof.Gen.ConvFIdeal.Points
public import proofs.«01_k».proof.Proof.Gen.ConvFIdeal.Frame
public import proofs.«01_k».proof.Proof.Gen.ConvFRefIdeal
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.Sum.Frame
public import proofs.«01_k».proof.Proof.Gen.SumIdeal
public import proofs.«01_k».proof.Proof.Gen.SumIdeal.Skeleton
public import proofs.«01_k».proof.Proof.Gen.SumIdeal.Launch
public import proofs.«01_k».proof.Proof.Gen.SumIdeal.Points
public import proofs.«01_k».proof.Proof.Gen.SumIdeal.Frame
public import proofs.«01_k».proof.Proof.Gen.SumRefIdeal
public import proofs.«01_k».proof.Proof.Gen.PoolF
public import proofs.«01_k».proof.Proof.Gen.PoolF.Skeleton
public import proofs.«01_k».proof.Proof.Gen.PoolF.Launch
public import proofs.«01_k».proof.Proof.Gen.PoolF.Points
public import proofs.«01_k».proof.Proof.Gen.PoolF.Frame
public import proofs.«01_k».proof.Proof.Gen.PoolFIdeal
public import proofs.«01_k».proof.Proof.Gen.PoolFIdeal.Skeleton
public import proofs.«01_k».proof.Proof.Gen.PoolFIdeal.Launch
public import proofs.«01_k».proof.Proof.Gen.PoolFIdeal.Points
public import proofs.«01_k».proof.Proof.Gen.PoolFIdeal.Frame
public import proofs.«01_k».proof.Proof.Gen.PoolFRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Pre_finite
public import proofs.«01_k».proof.Proof.Gen.Pre_pool_finite
public import proofs.«01_k».proof.Proof.Gen.Pre_ln_finite
public import proofs.«01_k».proof.Proof.Gen.Pre_pool_fwd_finite
public import proofs.«01_k».proof.Proof.Gen.Pre_loss_finite
public import proofs.«01_k».proof.Proof.Gen.WdIdeal.Value
public import proofs.«01_k».proof.Proof.Gen.WdRefIdeal.Run
public import proofs.«01_k».proof.Proof.Gen.WdRefIdeal.Read
public import proofs.«01_k».proof.Proof.WdValue
public import proofs.«01_k».proof.Proof.Gen.DguIdeal.Value
public import proofs.«01_k».proof.Proof.Gen.DguRefIdeal.Run
public import proofs.«01_k».proof.Proof.Gen.DguRefIdeal.Read
public import proofs.«01_k».proof.Proof.DguValue
public import proofs.«01_k».proof.Proof.Gen.WguIdeal.Value
public import proofs.«01_k».proof.Proof.Gen.WguRefIdeal.Run
public import proofs.«01_k».proof.Proof.Gen.WguRefIdeal.Read
public import proofs.«01_k».proof.Proof.WguValue
public import proofs.«01_k».proof.Proof.Gen.DhIdeal.Value
public import proofs.«01_k».proof.Proof.Gen.DhRefIdeal.Run
public import proofs.«01_k».proof.Proof.Gen.DhRefIdeal.Read
public import proofs.«01_k».proof.Proof.DhValue
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvValue
public import proofs.«01_k».proof.Proof.Gen.OutYIdeal.Value
public import proofs.«01_k».proof.Proof.Gen.OutYRefIdeal.Run
public import proofs.«01_k».proof.Proof.Gen.OutYRefIdeal.Read
public import proofs.«01_k».proof.Proof.OutYValue
public import proofs.«01_k».proof.Proof.Gen.OutWIdeal.Value
public import proofs.«01_k».proof.Proof.Gen.OutWRefIdeal.Run
public import proofs.«01_k».proof.Proof.Gen.OutWRefIdeal.Read
public import proofs.«01_k».proof.Proof.OutWValue
public import proofs.«01_k».proof.Proof.Gen.InWIdeal.Value
public import proofs.«01_k».proof.Proof.Gen.InWRefIdeal.Run
public import proofs.«01_k».proof.Proof.Gen.InWRefIdeal.Read
public import proofs.«01_k».proof.Proof.InWValue
public import proofs.«01_k».proof.Proof.Gen.InHIdeal.Value
public import proofs.«01_k».proof.Proof.Gen.InHRefIdeal.Run
public import proofs.«01_k».proof.Proof.Gen.InHRefIdeal.Read
public import proofs.«01_k».proof.Proof.InHValue
public import proofs.«01_k».proof.Proof.Gen.MixInIdeal.Value
public import proofs.«01_k».proof.Proof.Gen.MixInRefIdeal.Run
public import proofs.«01_k».proof.Proof.Gen.MixInRefIdeal.Read
public import proofs.«01_k».proof.Proof.MixInValue
public import proofs.«01_k».proof.Proof.Gen.MixWIdeal.Value
public import proofs.«01_k».proof.Proof.Gen.MixWRefIdeal.Run
public import proofs.«01_k».proof.Proof.Gen.MixWRefIdeal.Read
public import proofs.«01_k».proof.Proof.MixWValue
public import proofs.«01_k».proof.Proof.Gen.ScaleIdeal.Value
public import proofs.«01_k».proof.Proof.Gen.ScaleRefIdeal.Run
public import proofs.«01_k».proof.Proof.Gen.ScaleRefIdeal.Read
public import proofs.«01_k».proof.Proof.ScaleValue
public import proofs.«01_k».proof.Proof.Gen.DownIdeal.Value
public import proofs.«01_k».proof.Proof.Gen.DownRefIdeal.Run
public import proofs.«01_k».proof.Proof.Gen.DownRefIdeal.Read
public import proofs.«01_k».proof.Proof.DownValue
public import proofs.«01_k».proof.Proof.Gen.ProjInIdeal.Value
public import proofs.«01_k».proof.Proof.Gen.ProjInRefIdeal.Run
public import proofs.«01_k».proof.Proof.Gen.ProjInRefIdeal.Read
public import proofs.«01_k».proof.Proof.ProjInValue
public import proofs.«01_k».proof.Proof.Gen.ProjOutIdeal.Value
public import proofs.«01_k».proof.Proof.Gen.ProjOutRefIdeal.Run
public import proofs.«01_k».proof.Proof.Gen.ProjOutRefIdeal.Read
public import proofs.«01_k».proof.Proof.ProjOutValue
public import proofs.«01_k».proof.Proof.Gen.PoolMixIdeal.Value
public import proofs.«01_k».proof.Proof.Gen.PoolMixRefIdeal.Run
public import proofs.«01_k».proof.Proof.Gen.PoolMixRefIdeal.Read
public import proofs.«01_k».proof.Proof.PoolMixValue
public import proofs.«01_k».proof.Proof.Gen.GuIdeal.Value
public import proofs.«01_k».proof.Proof.Gen.GuRefIdeal.Run
public import proofs.«01_k».proof.Proof.Gen.GuRefIdeal.Read
public import proofs.«01_k».proof.Proof.GuValue
public import proofs.«01_k».proof.Proof.Gen.LnIdeal.Value
public import proofs.«01_k».proof.Proof.Gen.LnRefIdeal.Run
public import proofs.«01_k».proof.Proof.Gen.LnRefIdeal.Read
public import proofs.«01_k».proof.Proof.LnValue
public import proofs.«01_k».proof.Proof.Gen.PoolIdeal.Value
public import proofs.«01_k».proof.Proof.Gen.PoolRefIdeal.Run
public import proofs.«01_k».proof.Proof.Gen.PoolRefIdeal.Read
public import proofs.«01_k».proof.Proof.PoolValue
public import proofs.«01_k».proof.Proof.Gen.LnBIdeal.Value
public import proofs.«01_k».proof.Proof.Gen.LnBRefIdeal.Run
public import proofs.«01_k».proof.Proof.Gen.LnBRefIdeal.Read
public import proofs.«01_k».proof.Proof.LnBValue
public import proofs.«01_k».proof.Proof.Gen.ConvFIdeal.Value
public import proofs.«01_k».proof.Proof.Gen.ConvFRefIdeal.Run
public import proofs.«01_k».proof.Proof.Gen.ConvFRefIdeal.Read
public import proofs.«01_k».proof.Proof.ConvFValue
public import proofs.«01_k».proof.Proof.Gen.SumIdeal.Value
public import proofs.«01_k».proof.Proof.Gen.SumRefIdeal.Run
public import proofs.«01_k».proof.Proof.Gen.SumRefIdeal.Read
public import proofs.«01_k».proof.Proof.SumValue
public import proofs.«01_k».proof.Proof.Gen.PoolFIdeal.Value
public import proofs.«01_k».proof.Proof.Gen.PoolFRefIdeal.Run
public import proofs.«01_k».proof.Proof.Gen.PoolFRefIdeal.Read
public import proofs.«01_k».proof.Proof.PoolFValue
public import proofs.«01_k».proof.Proof.Gen.LossIdeal.Value
public import proofs.«01_k».proof.Proof.Gen.LossRefIdeal.Run
public import proofs.«01_k».proof.Proof.Gen.LossRefIdeal.Read
public import proofs.«01_k».proof.Proof.LossValue
public import Idealize.ShloMosaic.Adequacy
public import Idealize.ShloMosaic.Init

@[expose] public section

noncomputable section

namespace Cert.Proof

open Idealize.ShloMosaic Idealize.ShloMosaic.TcCoe Idealize.SL.Sem

/-- The reference of the down projection's weight gradient runs, leaves its arguments and ends with every counter at zero. -/
theorem frame_WdRefIdeal : Cert.quiescent_WdRefIdeal := fun m ρ _ =>
  (θ_run _ _ _).mono (fun r h => ⟨fun c => (h c).2, sem_eq_zero_of_no_sems (by decide) r.2⟩) (Cert.WdRefIdeal.Value.run m ρ)

/-- The kernel of the down projection's weight gradient and its reference compute the same function over the extended reals. -/
theorem algebraic_Wd : Cert.algebraic_WdIdeal_WdRefIdeal := by
  intro m g m' g' hpre hagree
  refine ⟨fun c => (Cert.WdIdeal.Gen.dats m 0 c).arrAt 2 Cert.WdIdeal.cfg0.N, Cert.WdIdeal.Value.run_blocks m g, ?_⟩
  refine (θ_run _ _ _).mono (fun r h c => ?_) (Cert.WdRefIdeal.Value.run m' g')
  obtain ⟨r0, kept⟩ := h c
  obtain ⟨e0, e1⟩ := hagree c
  refine ⟨r0.trans ?_, kept⟩
  rw [e0, e1]
  exact (Cert.WdRefIdeal.Read.val_main_v22_eq (F := Ideal) (m ((c : Thread Cert.WdIdeal.nD Cert.WdIdeal.τ).loc Cert.WdIdeal.main_arg0)) (m ((c : Thread Cert.WdIdeal.nD Cert.WdIdeal.τ).loc Cert.WdIdeal.main_arg1))).trans (Cert.WdIdeal.Value.final m c).symm

/-- The reference of the gradient through the gated activation runs, leaves its arguments and ends with every counter at zero. -/
theorem frame_DguRefIdeal : Cert.quiescent_DguRefIdeal := fun m ρ _ =>
  (θ_run _ _ _).mono (fun r h => ⟨fun c => (h c).2, sem_eq_zero_of_no_sems (by decide) r.2⟩) (Cert.DguRefIdeal.Value.run m ρ)

/-- The kernel of the gradient through the gated activation and its reference compute the same function over the extended reals. -/
theorem algebraic_Dgu : Cert.algebraic_DguIdeal_DguRefIdeal_pre_finite := by
  intro m g m' g' hpre hagree
  refine ⟨fun c => (Cert.DguIdeal.Gen.dats m 0 c).arrAt 3 Cert.DguIdeal.cfg0.N, Cert.DguIdeal.Value.run_blocks m g, ?_⟩
  refine (θ_run _ _ _).mono (fun r h c => ?_) (Cert.DguRefIdeal.Value.run m' g')
  obtain ⟨r0, kept⟩ := h c
  obtain ⟨e0, e1, e2⟩ := hagree c
  refine ⟨r0.trans ?_, kept⟩
  refine (Cert.DguRefIdeal.Read.val_main_v30_eq (F := Ideal) m' c).trans ?_
  rw [e0, e1, e2]
  exact (Cert.DguIdeal.Value.final m c (Cert.DguIdeal.Value.reals_of_pre m c (hpre c))).symm

/-- The reference of the gate and up projections' weight gradient runs, leaves its arguments and ends with every counter at zero. -/
theorem frame_WguRefIdeal : Cert.quiescent_WguRefIdeal := fun m ρ _ =>
  (θ_run _ _ _).mono (fun r h => ⟨fun c => (h c).2, sem_eq_zero_of_no_sems (by decide) r.2⟩) (Cert.WguRefIdeal.Value.run m ρ)

/-- The kernel of the gate and up projections' weight gradient and its reference compute the same function over the extended reals. -/
theorem algebraic_Wgu : Cert.algebraic_WguIdeal_WguRefIdeal := by
  intro m g m' g' hpre hagree
  refine ⟨fun c => (Cert.WguIdeal.Gen.dats m 0 c).arrAt 2 Cert.WguIdeal.cfg0.N, Cert.WguIdeal.Value.run_blocks m g, ?_⟩
  refine (θ_run _ _ _).mono (fun r h c => ?_) (Cert.WguRefIdeal.Value.run m' g')
  obtain ⟨r0, kept⟩ := h c
  obtain ⟨e0, e1⟩ := hagree c
  refine ⟨r0.trans ?_, kept⟩
  rw [e0, e1]
  exact (Cert.WguRefIdeal.Read.val_main_v20_eq (F := Ideal) (m ((c : Thread Cert.WguIdeal.nD Cert.WguIdeal.τ).loc Cert.WguIdeal.main_arg0)) (m ((c : Thread Cert.WguIdeal.nD Cert.WguIdeal.τ).loc Cert.WguIdeal.main_arg1))).trans (Cert.WguIdeal.Value.final m c).symm

/-- The reference of the gradient of the feed-forward block's input runs, leaves its arguments and ends with every counter at zero. -/
theorem frame_DhRefIdeal : Cert.quiescent_DhRefIdeal := fun m ρ _ =>
  (θ_run _ _ _).mono (fun r h => ⟨fun c => (h c).2, sem_eq_zero_of_no_sems (by decide) r.2⟩) (Cert.DhRefIdeal.Value.run m ρ)

/-- The kernel of the gradient of the feed-forward block's input and its reference compute the same function over the extended reals. -/
theorem algebraic_Dh : Cert.algebraic_DhIdeal_DhRefIdeal := by
  intro m g m' g' hpre hagree
  refine ⟨fun c => (Cert.DhIdeal.Gen.dats m 0 c).arrAt 3 Cert.DhIdeal.cfg0.N, Cert.DhIdeal.Value.run_blocks m g, ?_⟩
  refine (θ_run _ _ _).mono (fun r h c => ?_) (Cert.DhRefIdeal.Value.run m' g')
  obtain ⟨r0, kept⟩ := h c
  obtain ⟨e0, e1, e2⟩ := hagree c
  refine ⟨r0.trans ?_, kept⟩
  rw [e0, e1, e2]
  exact (Cert.DhRefIdeal.Read.val_main_v19_eq (F := Ideal) (m ((c : Thread Cert.DhIdeal.nD Cert.DhIdeal.τ).loc Cert.DhIdeal.main_arg0)) (m ((c : Thread Cert.DhIdeal.nD Cert.DhIdeal.τ).loc Cert.DhIdeal.main_arg1)) (m ((c : Thread Cert.DhIdeal.nD Cert.DhIdeal.τ).loc Cert.DhIdeal.main_arg2))).trans (Cert.DhIdeal.Value.final m c).symm

/-- The reference of the gradient of the gated causal convolution runs, leaves its arguments and ends with every counter at zero. -/
theorem frame_ConvRefIdeal : Cert.quiescent_ConvRefIdeal := fun m ρ _ =>
  (θ_run _ _ _).mono (fun r h => ⟨fun c => (h c).2.2.2.2, sem_eq_zero_of_no_sems (by decide) r.2⟩) (Cert.ConvRefIdeal.Value.run m ρ)

/-- The kernel of the gradient of the gated causal convolution and its reference compute the same function over the extended reals. -/
theorem algebraic_Conv : Cert.algebraic_ConvIdeal_ConvRefIdeal := by
  intro m g m' g' hpre hagree
  refine ⟨fun c => (Cert.ConvIdeal.Gen.dats m 0 c).arrAt 5 Cert.ConvIdeal.cfg0.N, fun c => (Cert.ConvIdeal.Gen.dats m 0 c).arrAt 6 Cert.ConvIdeal.cfg0.N, fun c => (Cert.ConvIdeal.Gen.dats m 0 c).arrAt 7 Cert.ConvIdeal.cfg0.N, fun c => (Cert.ConvIdeal.Gen.dats m 0 c).arrAt 8 Cert.ConvIdeal.cfg0.N, Cert.ConvIdeal.Value.run_blocks m g, ?_⟩
  refine (θ_run _ _ _).mono (fun r h c => ?_) (Cert.ConvRefIdeal.Value.run m' g')
  obtain ⟨r0, r1, r2, r3, kept⟩ := h c
  obtain ⟨e0, e1, e2⟩ := hagree c
  refine ⟨r0.trans ?_, r1.trans ?_, r2.trans ?_, r3.trans ?_, kept⟩
  · rw [e0, e1, e2]
    exact (Cert.ConvRefIdeal.Read.val_main_v70_eq (F := Ideal) (m ((c : Thread Cert.ConvIdeal.nD Cert.ConvIdeal.τ).loc Cert.ConvIdeal.main_arg0)) (m ((c : Thread Cert.ConvIdeal.nD Cert.ConvIdeal.τ).loc Cert.ConvIdeal.main_arg1)) (m ((c : Thread Cert.ConvIdeal.nD Cert.ConvIdeal.τ).loc Cert.ConvIdeal.main_arg2))).trans (Cert.ConvIdeal.Value.final0 m c).symm
  · rw [e0, e1, e2]
    exact (Cert.ConvRefIdeal.Read.val_main_v73_eq (F := Ideal) (m ((c : Thread Cert.ConvIdeal.nD Cert.ConvIdeal.τ).loc Cert.ConvIdeal.main_arg0)) (m ((c : Thread Cert.ConvIdeal.nD Cert.ConvIdeal.τ).loc Cert.ConvIdeal.main_arg1)) (m ((c : Thread Cert.ConvIdeal.nD Cert.ConvIdeal.τ).loc Cert.ConvIdeal.main_arg2))).trans (Cert.ConvIdeal.Value.final1 m c).symm
  · rw [e0, e1, e2]
    exact (Cert.ConvRefIdeal.Read.val_main_v76_eq (F := Ideal) (m ((c : Thread Cert.ConvIdeal.nD Cert.ConvIdeal.τ).loc Cert.ConvIdeal.main_arg0)) (m ((c : Thread Cert.ConvIdeal.nD Cert.ConvIdeal.τ).loc Cert.ConvIdeal.main_arg1)) (m ((c : Thread Cert.ConvIdeal.nD Cert.ConvIdeal.τ).loc Cert.ConvIdeal.main_arg2))).trans (Cert.ConvIdeal.Value.final2 m c).symm
  · refine (Cert.ConvRefIdeal.Read.val_main_v61_eq (F := Ideal) m' c).trans ?_
    rw [e0, e2]
    exact (Cert.ConvIdeal.Value.final3 m c).symm

/-- The reference of the mixer's output projection, the gradient in its input runs, leaves its arguments and ends with every counter at zero. -/
theorem frame_OutYRefIdeal : Cert.quiescent_OutYRefIdeal := fun m ρ _ =>
  (θ_run _ _ _).mono (fun r h => ⟨fun c => (h c).2, sem_eq_zero_of_no_sems (by decide) r.2⟩) (Cert.OutYRefIdeal.Value.run m ρ)

/-- The kernel of the mixer's output projection, the gradient in its input and its reference compute the same function over the extended reals. -/
theorem algebraic_OutY : Cert.algebraic_OutYIdeal_OutYRefIdeal := by
  intro m g m' g' hpre hagree
  refine ⟨fun c => (Cert.OutYIdeal.Gen.dats m 0 c).arrAt 2 Cert.OutYIdeal.cfg0.N, Cert.OutYIdeal.Value.run_blocks m g, ?_⟩
  refine (θ_run _ _ _).mono (fun r h c => ?_) (Cert.OutYRefIdeal.Value.run m' g')
  obtain ⟨r0, kept⟩ := h c
  obtain ⟨e0, e1⟩ := hagree c
  refine ⟨r0.trans ?_, kept⟩
  rw [e0, e1]
  exact (Cert.OutYRefIdeal.Read.val_main_v4_eq (F := Ideal) (m ((c : Thread Cert.OutYIdeal.nD Cert.OutYIdeal.τ).loc Cert.OutYIdeal.main_arg0)) (m ((c : Thread Cert.OutYIdeal.nD Cert.OutYIdeal.τ).loc Cert.OutYIdeal.main_arg1))).trans (Cert.OutYIdeal.Value.final m c).symm

/-- The reference of the mixer's output projection, the gradient in its weights runs, leaves its arguments and ends with every counter at zero. -/
theorem frame_OutWRefIdeal : Cert.quiescent_OutWRefIdeal := fun m ρ _ =>
  (θ_run _ _ _).mono (fun r h => ⟨fun c => (h c).2, sem_eq_zero_of_no_sems (by decide) r.2⟩) (Cert.OutWRefIdeal.Value.run m ρ)

/-- The kernel of the mixer's output projection, the gradient in its weights and its reference compute the same function over the extended reals. -/
theorem algebraic_OutW : Cert.algebraic_OutWIdeal_OutWRefIdeal := by
  intro m g m' g' hpre hagree
  refine ⟨fun c => (Cert.OutWIdeal.Gen.dats m 0 c).arrAt 2 Cert.OutWIdeal.cfg0.N, Cert.OutWIdeal.Value.run_blocks m g, ?_⟩
  refine (θ_run _ _ _).mono (fun r h c => ?_) (Cert.OutWRefIdeal.Value.run m' g')
  obtain ⟨r0, kept⟩ := h c
  obtain ⟨e0, e1⟩ := hagree c
  refine ⟨r0.trans ?_, kept⟩
  rw [e0, e1]
  exact (Cert.OutWRefIdeal.Read.val_main_v7_eq (F := Ideal) (m ((c : Thread Cert.OutWIdeal.nD Cert.OutWIdeal.τ).loc Cert.OutWIdeal.main_arg0)) (m ((c : Thread Cert.OutWIdeal.nD Cert.OutWIdeal.τ).loc Cert.OutWIdeal.main_arg1))).trans (Cert.OutWIdeal.Value.final m c).symm

/-- The reference of the mixer's input projection, the gradient in its weights runs, leaves its arguments and ends with every counter at zero. -/
theorem frame_InWRefIdeal : Cert.quiescent_InWRefIdeal := fun m ρ _ =>
  (θ_run _ _ _).mono (fun r h => ⟨fun c => (h c).2, sem_eq_zero_of_no_sems (by decide) r.2⟩) (Cert.InWRefIdeal.Value.run m ρ)

/-- The kernel of the mixer's input projection, the gradient in its weights and its reference compute the same function over the extended reals. -/
theorem algebraic_InW : Cert.algebraic_InWIdeal_InWRefIdeal := by
  intro m g m' g' hpre hagree
  refine ⟨fun c => (Cert.InWIdeal.Gen.dats m 0 c).arrAt 2 Cert.InWIdeal.cfg0.N, Cert.InWIdeal.Value.run_blocks m g, ?_⟩
  refine (θ_run _ _ _).mono (fun r h c => ?_) (Cert.InWRefIdeal.Value.run m' g')
  obtain ⟨r0, kept⟩ := h c
  obtain ⟨e0, e1⟩ := hagree c
  refine ⟨r0.trans ?_, kept⟩
  rw [e0, e1]
  exact (Cert.InWRefIdeal.Read.val_main_v10_eq (F := Ideal) (m ((c : Thread Cert.InWIdeal.nD Cert.InWIdeal.τ).loc Cert.InWIdeal.main_arg0)) (m ((c : Thread Cert.InWIdeal.nD Cert.InWIdeal.τ).loc Cert.InWIdeal.main_arg1))).trans (Cert.InWIdeal.Value.final m c).symm

/-- The reference of the mixer's input projection, the gradient in its input runs, leaves its arguments and ends with every counter at zero. -/
theorem frame_InHRefIdeal : Cert.quiescent_InHRefIdeal := fun m ρ _ =>
  (θ_run _ _ _).mono (fun r h => ⟨fun c => (h c).2, sem_eq_zero_of_no_sems (by decide) r.2⟩) (Cert.InHRefIdeal.Value.run m ρ)

/-- The kernel of the mixer's input projection, the gradient in its input and its reference compute the same function over the extended reals. -/
theorem algebraic_InH : Cert.algebraic_InHIdeal_InHRefIdeal := by
  intro m g m' g' hpre hagree
  refine ⟨fun c => (Cert.InHIdeal.Gen.dats m 0 c).arrAt 3 Cert.InHIdeal.cfg0.N, Cert.InHIdeal.Value.run_blocks m g, ?_⟩
  refine (θ_run _ _ _).mono (fun r h c => ?_) (Cert.InHRefIdeal.Value.run m' g')
  obtain ⟨r0, kept⟩ := h c
  obtain ⟨e0, e1, e2⟩ := hagree c
  refine ⟨r0.trans ?_, kept⟩
  rw [e0, e1, e2]
  exact (Cert.InHRefIdeal.Read.val_main_v9_eq (F := Ideal) (m ((c : Thread Cert.InHIdeal.nD Cert.InHIdeal.τ).loc Cert.InHIdeal.main_arg0)) (m ((c : Thread Cert.InHIdeal.nD Cert.InHIdeal.τ).loc Cert.InHIdeal.main_arg1)) (m ((c : Thread Cert.InHIdeal.nD Cert.InHIdeal.τ).loc Cert.InHIdeal.main_arg2))).trans (Cert.InHIdeal.Value.final m c).symm

/-- The reference of the grouped mixing product, the gradient in its input runs, leaves its arguments and ends with every counter at zero. -/
theorem frame_MixInRefIdeal : Cert.quiescent_MixInRefIdeal := fun m ρ _ =>
  (θ_run _ _ _).mono (fun r h => ⟨fun c => (h c).2, sem_eq_zero_of_no_sems (by decide) r.2⟩) (Cert.MixInRefIdeal.Value.run m ρ)

/-- The kernel of the grouped mixing product, the gradient in its input and its reference compute the same function over the extended reals. -/
theorem algebraic_MixIn : Cert.algebraic_MixInIdeal_MixInRefIdeal := by
  intro m g m' g' hpre hagree
  refine ⟨fun c => (Cert.MixInIdeal.Gen.dats m 0 c).arrAt 2 Cert.MixInIdeal.cfg0.N, Cert.MixInIdeal.Value.run_blocks m g, ?_⟩
  refine (θ_run _ _ _).mono (fun r h c => ?_) (Cert.MixInRefIdeal.Value.run m' g')
  obtain ⟨r0, kept⟩ := h c
  obtain ⟨e0, e1⟩ := hagree c
  refine ⟨r0.trans ?_, kept⟩
  rw [e0, e1]
  exact (Cert.MixInRefIdeal.Read.val_main_v11_eq (F := Ideal) (m ((c : Thread Cert.MixInIdeal.nD Cert.MixInIdeal.τ).loc Cert.MixInIdeal.main_arg0)) (m ((c : Thread Cert.MixInIdeal.nD Cert.MixInIdeal.τ).loc Cert.MixInIdeal.main_arg1))).trans (Cert.MixInIdeal.Value.final m c).symm

/-- The reference of the grouped mixing product, the gradient in its weights runs, leaves its arguments and ends with every counter at zero. -/
theorem frame_MixWRefIdeal : Cert.quiescent_MixWRefIdeal := fun m ρ _ =>
  (θ_run _ _ _).mono (fun r h => ⟨fun c => (h c).2, sem_eq_zero_of_no_sems (by decide) r.2⟩) (Cert.MixWRefIdeal.Value.run m ρ)

/-- The kernel of the grouped mixing product, the gradient in its weights and its reference compute the same function over the extended reals. -/
theorem algebraic_MixW : Cert.algebraic_MixWIdeal_MixWRefIdeal := by
  intro m g m' g' hpre hagree
  refine ⟨fun c => (Cert.MixWIdeal.Gen.dats m 0 c).arrAt 2 Cert.MixWIdeal.cfg0.N, Cert.MixWIdeal.Value.run_blocks m g, ?_⟩
  refine (θ_run _ _ _).mono (fun r h c => ?_) (Cert.MixWRefIdeal.Value.run m' g')
  obtain ⟨r0, kept⟩ := h c
  obtain ⟨e0, e1⟩ := hagree c
  refine ⟨r0.trans ?_, kept⟩
  rw [e0, e1]
  exact (Cert.MixWRefIdeal.Read.val_main_v10_eq (F := Ideal) (m ((c : Thread Cert.MixWIdeal.nD Cert.MixWIdeal.τ).loc Cert.MixWIdeal.main_arg0)) (m ((c : Thread Cert.MixWIdeal.nD Cert.MixWIdeal.τ).loc Cert.MixWIdeal.main_arg1))).trans (Cert.MixWIdeal.Value.final m c).symm

/-- The reference of the pooled half's scaling, backward runs, leaves its arguments and ends with every counter at zero. -/
theorem frame_ScaleRefIdeal : Cert.quiescent_ScaleRefIdeal := fun m ρ _ =>
  (θ_run _ _ _).mono (fun r h => ⟨fun c => (h c).2.2, sem_eq_zero_of_no_sems (by decide) r.2⟩) (Cert.ScaleRefIdeal.Value.run m ρ)

/-- The kernel of the pooled half's scaling, backward and its reference compute the same function over the extended reals. -/
theorem algebraic_Scale : Cert.algebraic_ScaleIdeal_ScaleRefIdeal := by
  intro m g m' g' hpre hagree
  refine ⟨fun c => (Cert.ScaleIdeal.Gen.dats m 0 c).arrAt 3 Cert.ScaleIdeal.cfg0.N, fun c => (Cert.ScaleIdeal.Gen.dats m 0 c).arrAt 4 Cert.ScaleIdeal.cfg0.N, Cert.ScaleIdeal.Value.run_blocks m g, ?_⟩
  refine (θ_run _ _ _).mono (fun r h c => ?_) (Cert.ScaleRefIdeal.Value.run m' g')
  obtain ⟨r0, r1, kept⟩ := h c
  obtain ⟨e0, e1, e2⟩ := hagree c
  refine ⟨r0.trans ?_, r1.trans ?_, kept⟩
  · rw [e0, e2]
    exact (Cert.ScaleRefIdeal.Read.val_main_v12_eq (F := Ideal) (m ((c : Thread Cert.ScaleIdeal.nD Cert.ScaleIdeal.τ).loc Cert.ScaleIdeal.main_arg0)) (m ((c : Thread Cert.ScaleIdeal.nD Cert.ScaleIdeal.τ).loc Cert.ScaleIdeal.main_arg2))).trans (Cert.ScaleIdeal.Value.final0 m c).symm
  · rw [e0, e1]
    exact (Cert.ScaleRefIdeal.Read.val_main_v11_eq (F := Ideal) (m ((c : Thread Cert.ScaleIdeal.nD Cert.ScaleIdeal.τ).loc Cert.ScaleIdeal.main_arg0)) (m ((c : Thread Cert.ScaleIdeal.nD Cert.ScaleIdeal.τ).loc Cert.ScaleIdeal.main_arg1))).trans (Cert.ScaleIdeal.Value.final1 m c).symm

/-- The reference of the feed-forward block's down projection, forward runs, leaves its arguments and ends with every counter at zero. -/
theorem frame_DownRefIdeal : Cert.quiescent_DownRefIdeal := fun m ρ _ =>
  (θ_run _ _ _).mono (fun r h => ⟨fun c => (h c).2, sem_eq_zero_of_no_sems (by decide) r.2⟩) (Cert.DownRefIdeal.Value.run m ρ)

/-- The kernel of the feed-forward block's down projection, forward and its reference compute the same function over the extended reals. -/
theorem algebraic_Down : Cert.algebraic_DownIdeal_DownRefIdeal := by
  intro m g m' g' hpre hagree
  refine ⟨fun c => (Cert.DownIdeal.Gen.dats m 0 c).arrAt 3 Cert.DownIdeal.cfg0.N, Cert.DownIdeal.Value.run_blocks m g, ?_⟩
  refine (θ_run _ _ _).mono (fun r h c => ?_) (Cert.DownRefIdeal.Value.run m' g')
  obtain ⟨r0, kept⟩ := h c
  obtain ⟨e0, e1, e2⟩ := hagree c
  refine ⟨r0.trans ?_, kept⟩
  rw [e0, e1, e2]
  exact (Cert.DownRefIdeal.Read.val_main_v9_eq (F := Ideal) (m ((c : Thread Cert.DownIdeal.nD Cert.DownIdeal.τ).loc Cert.DownIdeal.main_arg0)) (m ((c : Thread Cert.DownIdeal.nD Cert.DownIdeal.τ).loc Cert.DownIdeal.main_arg1)) (m ((c : Thread Cert.DownIdeal.nD Cert.DownIdeal.τ).loc Cert.DownIdeal.main_arg2))).trans (Cert.DownIdeal.Value.final m c).symm

/-- The reference of the mixer's input projection, forward runs, leaves its arguments and ends with every counter at zero. -/
theorem frame_ProjInRefIdeal : Cert.quiescent_ProjInRefIdeal := fun m ρ _ =>
  (θ_run _ _ _).mono (fun r h => ⟨fun c => (h c).2, sem_eq_zero_of_no_sems (by decide) r.2⟩) (Cert.ProjInRefIdeal.Value.run m ρ)

/-- The kernel of the mixer's input projection, forward and its reference compute the same function over the extended reals. -/
theorem algebraic_ProjIn : Cert.algebraic_ProjInIdeal_ProjInRefIdeal := by
  intro m g m' g' hpre hagree
  refine ⟨fun c => (Cert.ProjInIdeal.Gen.dats m 0 c).arrAt 2 Cert.ProjInIdeal.cfg0.N, Cert.ProjInIdeal.Value.run_blocks m g, ?_⟩
  refine (θ_run _ _ _).mono (fun r h c => ?_) (Cert.ProjInRefIdeal.Value.run m' g')
  obtain ⟨r0, kept⟩ := h c
  obtain ⟨e0, e1⟩ := hagree c
  refine ⟨r0.trans ?_, kept⟩
  rw [e0, e1]
  exact (Cert.ProjInRefIdeal.Read.val_main_v4_eq (F := Ideal) (m ((c : Thread Cert.ProjInIdeal.nD Cert.ProjInIdeal.τ).loc Cert.ProjInIdeal.main_arg0)) (m ((c : Thread Cert.ProjInIdeal.nD Cert.ProjInIdeal.τ).loc Cert.ProjInIdeal.main_arg1))).trans (Cert.ProjInIdeal.Value.final m c).symm

/-- The reference of the mixer's output projection, forward runs, leaves its arguments and ends with every counter at zero. -/
theorem frame_ProjOutRefIdeal : Cert.quiescent_ProjOutRefIdeal := fun m ρ _ =>
  (θ_run _ _ _).mono (fun r h => ⟨fun c => (h c).2, sem_eq_zero_of_no_sems (by decide) r.2⟩) (Cert.ProjOutRefIdeal.Value.run m ρ)

/-- The kernel of the mixer's output projection, forward and its reference compute the same function over the extended reals. -/
theorem algebraic_ProjOut : Cert.algebraic_ProjOutIdeal_ProjOutRefIdeal := by
  intro m g m' g' hpre hagree
  refine ⟨fun c => (Cert.ProjOutIdeal.Gen.dats m 0 c).arrAt 3 Cert.ProjOutIdeal.cfg0.N, Cert.ProjOutIdeal.Value.run_blocks m g, ?_⟩
  refine (θ_run _ _ _).mono (fun r h c => ?_) (Cert.ProjOutRefIdeal.Value.run m' g')
  obtain ⟨r0, kept⟩ := h c
  obtain ⟨e0, e1, e2⟩ := hagree c
  refine ⟨r0.trans ?_, kept⟩
  rw [e0, e1, e2]
  exact (Cert.ProjOutRefIdeal.Read.val_main_v5_eq (F := Ideal) (m ((c : Thread Cert.ProjOutIdeal.nD Cert.ProjOutIdeal.τ).loc Cert.ProjOutIdeal.main_arg0)) (m ((c : Thread Cert.ProjOutIdeal.nD Cert.ProjOutIdeal.τ).loc Cert.ProjOutIdeal.main_arg1)) (m ((c : Thread Cert.ProjOutIdeal.nD Cert.ProjOutIdeal.τ).loc Cert.ProjOutIdeal.main_arg2))).trans (Cert.ProjOutIdeal.Value.final m c).symm

/-- The reference of the grouped mixing product, forward runs, leaves its arguments and ends with every counter at zero. -/
theorem frame_PoolMixRefIdeal : Cert.quiescent_PoolMixRefIdeal := fun m ρ _ =>
  (θ_run _ _ _).mono (fun r h => ⟨fun c => (h c).2.2, sem_eq_zero_of_no_sems (by decide) r.2⟩) (Cert.PoolMixRefIdeal.Value.run m ρ)

/-- The kernel of the grouped mixing product, forward and its reference compute the same function over the extended reals. -/
theorem algebraic_PoolMix : Cert.algebraic_PoolMixIdeal_PoolMixRefIdeal := by
  intro m g m' g' hpre hagree
  refine ⟨fun c => (Cert.PoolMixIdeal.Gen.dats m 0 c).arrAt 3 Cert.PoolMixIdeal.cfg0.N, fun c => (Cert.PoolMixIdeal.Gen.dats m 0 c).arrAt 4 Cert.PoolMixIdeal.cfg0.N, Cert.PoolMixIdeal.Value.run_blocks m g, ?_⟩
  refine (θ_run _ _ _).mono (fun r h c => ?_) (Cert.PoolMixRefIdeal.Value.run m' g')
  obtain ⟨r0, r1, kept⟩ := h c
  obtain ⟨e0, e1, e2⟩ := hagree c
  refine ⟨r0.trans ?_, r1.trans ?_, kept⟩
  · rw [e0, e1]
    exact (Cert.PoolMixRefIdeal.Read.val_main_v5_eq (F := Ideal) (m ((c : Thread Cert.PoolMixIdeal.nD Cert.PoolMixIdeal.τ).loc Cert.PoolMixIdeal.main_arg0)) (m ((c : Thread Cert.PoolMixIdeal.nD Cert.PoolMixIdeal.τ).loc Cert.PoolMixIdeal.main_arg1))).trans (Cert.PoolMixIdeal.Value.final0 m c).symm
  · rw [e0, e1, e2]
    exact (Cert.PoolMixRefIdeal.Read.val_main_v10_eq (F := Ideal) (m ((c : Thread Cert.PoolMixIdeal.nD Cert.PoolMixIdeal.τ).loc Cert.PoolMixIdeal.main_arg0)) (m ((c : Thread Cert.PoolMixIdeal.nD Cert.PoolMixIdeal.τ).loc Cert.PoolMixIdeal.main_arg1)) (m ((c : Thread Cert.PoolMixIdeal.nD Cert.PoolMixIdeal.τ).loc Cert.PoolMixIdeal.main_arg2))).trans (Cert.PoolMixIdeal.Value.final1 m c).symm

/-- The reference of the feed-forward block's gate and up projections, forward runs, leaves its arguments and ends with every counter at zero. -/
theorem frame_GuRefIdeal : Cert.quiescent_GuRefIdeal := fun m ρ _ =>
  (θ_run _ _ _).mono (fun r h => ⟨fun c => (h c).2.2, sem_eq_zero_of_no_sems (by decide) r.2⟩) (Cert.GuRefIdeal.Value.run m ρ)

/-- The kernel of the feed-forward block's gate and up projections, forward and its reference compute the same function over the extended reals. -/
theorem algebraic_Gu : Cert.algebraic_GuIdeal_GuRefIdeal := by
  intro m g m' g' hpre hagree
  refine ⟨fun c => (Cert.GuIdeal.Gen.dats m 0 c).arrAt 3 Cert.GuIdeal.cfg0.N, fun c => (Cert.GuIdeal.Gen.dats m 0 c).arrAt 4 Cert.GuIdeal.cfg0.N, Cert.GuIdeal.Value.run_blocks m g, ?_⟩
  refine (θ_run _ _ _).mono (fun r h c => ?_) (Cert.GuRefIdeal.Value.run m' g')
  obtain ⟨r0, r1, kept⟩ := h c
  obtain ⟨e0, e1⟩ := hagree c
  refine ⟨r0.trans ?_, r1.trans ?_, kept⟩
  · rw [e0, e1]
    exact (Cert.GuRefIdeal.Read.val_main_v18_eq (F := Ideal) (m ((c : Thread Cert.GuIdeal.nD Cert.GuIdeal.τ).loc Cert.GuIdeal.main_arg0)) (m ((c : Thread Cert.GuIdeal.nD Cert.GuIdeal.τ).loc Cert.GuIdeal.main_arg1))).trans (Cert.GuIdeal.Value.final0 m c).symm
  · rw [e0, e1]
    exact (Cert.GuRefIdeal.Read.val_main_v15_eq (F := Ideal) (m ((c : Thread Cert.GuIdeal.nD Cert.GuIdeal.τ).loc Cert.GuIdeal.main_arg0)) (m ((c : Thread Cert.GuIdeal.nD Cert.GuIdeal.τ).loc Cert.GuIdeal.main_arg1))).trans (Cert.GuIdeal.Value.final1 m c).symm

/-- The reference of the layer norm, forward runs, leaves its arguments and ends with every counter at zero. -/
theorem frame_LnRefIdeal : Cert.quiescent_LnRefIdeal := fun m ρ _ =>
  (θ_run _ _ _).mono (fun r h => ⟨fun c => (h c).2.2, sem_eq_zero_of_no_sems (by decide) r.2⟩) (Cert.LnRefIdeal.Value.run m ρ)

/-- The kernel of the layer norm, forward and its reference compute the same function over the extended reals. -/
theorem algebraic_Ln : Cert.algebraic_LnIdeal_LnRefIdeal := by
  intro m g m' g' hpre hagree
  refine ⟨fun c => (Cert.LnIdeal.Gen.dats m 0 c).arrAt 3 Cert.LnIdeal.cfg0.N, fun c => (Cert.LnIdeal.Gen.dats m 0 c).arrAt 4 Cert.LnIdeal.cfg0.N, Cert.LnIdeal.Value.run_blocks m g, ?_⟩
  refine (θ_run _ _ _).mono (fun r h c => ?_) (Cert.LnRefIdeal.Value.run m' g')
  obtain ⟨r0, r1, kept⟩ := h c
  obtain ⟨e0, e1, e2⟩ := hagree c
  refine ⟨r0.trans ?_, r1.trans ?_, kept⟩
  · rw [e0, e1, e2]
    exact (Cert.LnRefIdeal.Read.val_main_v23_eq (F := Ideal) (m ((c : Thread Cert.LnIdeal.nD Cert.LnIdeal.τ).loc Cert.LnIdeal.main_arg0)) (m ((c : Thread Cert.LnIdeal.nD Cert.LnIdeal.τ).loc Cert.LnIdeal.main_arg1)) (m ((c : Thread Cert.LnIdeal.nD Cert.LnIdeal.τ).loc Cert.LnIdeal.main_arg2))).trans (Cert.LnIdeal.Value.final0 m c).symm
  · rw [e0, e1, e2]
    exact (Cert.LnRefIdeal.Read.val_main_v24_eq (F := Ideal) (m ((c : Thread Cert.LnIdeal.nD Cert.LnIdeal.τ).loc Cert.LnIdeal.main_arg0)) (m ((c : Thread Cert.LnIdeal.nD Cert.LnIdeal.τ).loc Cert.LnIdeal.main_arg1)) (m ((c : Thread Cert.LnIdeal.nD Cert.LnIdeal.τ).loc Cert.LnIdeal.main_arg2))).trans (Cert.LnIdeal.Value.final1 m c).symm

/-- The reference of the pooling over windows, backward runs, leaves its arguments and ends with every counter at zero. -/
theorem frame_PoolRefIdeal : Cert.quiescent_PoolRefIdeal := fun m ρ _ =>
  (θ_run _ _ _).mono (fun r h => ⟨fun c => (h c).2, sem_eq_zero_of_no_sems (by decide) r.2⟩) (Cert.PoolRefIdeal.Value.run m ρ)

/-- The kernel of the pooling over windows, backward and its reference compute the same function over the extended reals. -/
theorem algebraic_Pool : Cert.algebraic_PoolIdeal_PoolRefIdeal_pre_pool_finite := by
  intro m g m' g' hpre hagree
  refine ⟨fun c => (Cert.PoolIdeal.Gen.dats m 0 c).arrAt 1 Cert.PoolIdeal.cfg0.N, Cert.PoolIdeal.Value.run_blocks m g, ?_⟩
  refine (θ_run _ _ _).mono (fun r h c => ?_) (Cert.PoolRefIdeal.Value.run m' g')
  obtain ⟨r0, kept⟩ := h c
  have e0 := hagree c
  refine ⟨r0.trans ?_, kept⟩
  refine (Cert.PoolRefIdeal.Read.val_main_v133_eq (F := Ideal) m' c).trans ?_
  rw [e0]
  exact (Cert.PoolIdeal.Value.final m c (Cert.PoolIdeal.Value.reals_of_pre m c (hpre c))).symm

/-- The reference of the layer norm, backward runs, leaves its arguments and ends with every counter at zero. -/
theorem frame_LnBRefIdeal : Cert.quiescent_LnBRefIdeal := fun m ρ _ =>
  (θ_run _ _ _).mono (fun r h => ⟨fun c => (h c).2.2.2.2, sem_eq_zero_of_no_sems (by decide) r.2⟩) (Cert.LnBRefIdeal.Value.run m ρ)

/-- The kernel of the layer norm, backward and its reference compute the same function over the extended reals. -/
theorem algebraic_LnB : Cert.algebraic_LnBIdeal_LnBRefIdeal_pre_ln_finite := by
  intro m g m' g' hpre hagree
  refine ⟨fun c => (Cert.LnBIdeal.Gen.dats m 0 c).arrAt 3 Cert.LnBIdeal.cfg0.N, fun c => (Cert.LnBIdeal.Gen.dats m 0 c).arrAt 4 Cert.LnBIdeal.cfg0.N, fun c => (Cert.LnBIdeal.Gen.dats m 0 c).arrAt 5 Cert.LnBIdeal.cfg0.N, fun c => (Cert.LnBIdeal.Gen.dats m 0 c).arrAt 6 Cert.LnBIdeal.cfg0.N, Cert.LnBIdeal.Value.run_blocks m g, ?_⟩
  refine (θ_run _ _ _).mono (fun r h c => ?_) (Cert.LnBRefIdeal.Value.run m' g')
  obtain ⟨r0, r1, r2, r3, kept⟩ := h c
  obtain ⟨e0, e1, e2⟩ := hagree c
  refine ⟨r0.trans ?_, r1.trans ?_, r2.trans ?_, r3.trans ?_, kept⟩
  · refine (Cert.LnBRefIdeal.Read.val_main_v59_eq (F := Ideal) m' c).trans ?_
    rw [e0, e1, e2]
    exact (Cert.LnBIdeal.Value.final0 m c (Cert.LnBIdeal.Value.reals_of_pre m c (hpre c))).symm
  · refine (Cert.LnBRefIdeal.Read.val_main_v62_eq (F := Ideal) m' c).trans ?_
    rw [e0, e1, e2]
    exact (Cert.LnBIdeal.Value.final1 m c (Cert.LnBIdeal.Value.reals_of_pre m c (hpre c))).symm
  · rw [e0, e1]
    exact (Cert.LnBRefIdeal.Read.val_main_v61_eq (F := Ideal) (m ((c : Thread Cert.LnBIdeal.nD Cert.LnBIdeal.τ).loc Cert.LnBIdeal.main_arg0)) (m ((c : Thread Cert.LnBIdeal.nD Cert.LnBIdeal.τ).loc Cert.LnBIdeal.main_arg1))).trans (Cert.LnBIdeal.Value.final2 m c (Cert.LnBIdeal.Value.reals_of_pre m c (hpre c))).symm
  · rw [e1]
    exact (Cert.LnBRefIdeal.Read.val_main_v60_eq (F := Ideal) (m ((c : Thread Cert.LnBIdeal.nD Cert.LnBIdeal.τ).loc Cert.LnBIdeal.main_arg1))).trans (Cert.LnBIdeal.Value.final3 m c (Cert.LnBIdeal.Value.reals_of_pre m c (hpre c))).symm

/-- The reference of the gated causal convolution, forward runs, leaves its arguments and ends with every counter at zero. -/
theorem frame_ConvFRefIdeal : Cert.quiescent_ConvFRefIdeal := fun m ρ _ =>
  (θ_run _ _ _).mono (fun r h => ⟨fun c => (h c).2, sem_eq_zero_of_no_sems (by decide) r.2⟩) (Cert.ConvFRefIdeal.Value.run m ρ)

/-- The kernel of the gated causal convolution, forward and its reference compute the same function over the extended reals. -/
theorem algebraic_ConvF : Cert.algebraic_ConvFIdeal_ConvFRefIdeal := by
  intro m g m' g' hpre hagree
  refine ⟨fun c => (Cert.ConvFIdeal.Gen.dats m 0 c).arrAt 4 Cert.ConvFIdeal.cfg0.N, Cert.ConvFIdeal.Value.run_blocks m g, ?_⟩
  refine (θ_run _ _ _).mono (fun r h c => ?_) (Cert.ConvFRefIdeal.Value.run m' g')
  obtain ⟨r0, kept⟩ := h c
  obtain ⟨e0, e1⟩ := hagree c
  refine ⟨r0.trans ?_, kept⟩
  rw [e0, e1]
  exact (Cert.ConvFRefIdeal.Read.val_main_v29_eq (F := Ideal) (m ((c : Thread Cert.ConvFIdeal.nD Cert.ConvFIdeal.τ).loc Cert.ConvFIdeal.main_arg0)) (m ((c : Thread Cert.ConvFIdeal.nD Cert.ConvFIdeal.τ).loc Cert.ConvFIdeal.main_arg1))).trans (Cert.ConvFIdeal.Value.final m c).symm

/-- The reference of the sum of the devices' parts runs, leaves its arguments and ends with every counter at zero. -/
theorem frame_SumRefIdeal : Cert.quiescent_SumRefIdeal := fun m ρ _ =>
  (θ_run _ _ _).mono (fun r h => ⟨fun c => (h c).2, sem_eq_zero_of_no_sems (by decide) r.2⟩) (Cert.SumRefIdeal.Value.run m ρ)

/-- The kernel of the sum of the devices' parts and its reference compute the same function over the extended reals. -/
theorem algebraic_Sum : Cert.algebraic_SumIdeal_SumRefIdeal := by
  intro m g m' g' hpre hagree
  refine ⟨fun c => (Cert.SumIdeal.Gen.dats m 0 c).arrAt 1 Cert.SumIdeal.cfg0.N, Cert.SumIdeal.Value.run_blocks m g, ?_⟩
  refine (θ_run _ _ _).mono (fun r h c => ?_) (Cert.SumRefIdeal.Value.run m' g')
  obtain ⟨r0, kept⟩ := h c
  have e0 := hagree c
  refine ⟨r0.trans ?_, kept⟩
  rw [e0]
  exact (Cert.SumRefIdeal.Read.val_main_v0_eq (F := Ideal) (m ((c : Thread Cert.SumIdeal.nD Cert.SumIdeal.τ).loc Cert.SumIdeal.main_arg0))).trans (Cert.SumIdeal.Value.final m c).symm

/-- The reference of the pooling over windows, forward runs, leaves its arguments and ends with every counter at zero. -/
theorem frame_PoolFRefIdeal : Cert.quiescent_PoolFRefIdeal := fun m ρ _ =>
  (θ_run _ _ _).mono (fun r h => ⟨fun c => (h c).2, sem_eq_zero_of_no_sems (by decide) r.2⟩) (Cert.PoolFRefIdeal.Value.run m ρ)

/-- The kernel of the pooling over windows, forward and its reference compute the same function over the extended reals. -/
theorem algebraic_PoolF : Cert.algebraic_PoolFIdeal_PoolFRefIdeal_pre_pool_fwd_finite := by
  intro m g m' g' hpre hagree
  refine ⟨fun c => (Cert.PoolFIdeal.Gen.dats m 0 c).arrAt 1 Cert.PoolFIdeal.cfg0.N, Cert.PoolFIdeal.Value.run_blocks m g, ?_⟩
  refine (θ_run _ _ _).mono (fun r h c => ?_) (Cert.PoolFRefIdeal.Value.run m' g')
  obtain ⟨r0, kept⟩ := h c
  have e0 := hagree c
  refine ⟨r0.trans ?_, kept⟩
  refine (Cert.PoolFRefIdeal.Read.val_main_v83_eq (F := Ideal) m' c).trans ?_
  rw [e0]
  exact (Cert.PoolFIdeal.Value.final m c (Cert.PoolFIdeal.Value.reals_of_pre m c (hpre c))).symm

/-- The reference of the loss and its derivative through the layer norm runs, leaves its arguments and ends with every counter at zero. -/
theorem frame_LossRefIdeal : Cert.quiescent_LossRefIdeal := fun m ρ _ =>
  (θ_run _ _ _).mono (fun r h => ⟨fun c => (h c).2.2.2.2.2, sem_eq_zero_of_no_sems (by decide) r.2⟩) (Cert.LossRefIdeal.Value.run m ρ)

/-- The kernel of the loss and its derivative through the layer norm and its reference compute the same function over the extended reals. -/
theorem algebraic_Loss : Cert.algebraic_LossIdeal_LossRefIdeal_pre_loss_finite := by
  intro m g m' g' hpre hagree
  refine ⟨fun c => (Cert.LossIdeal.Gen.dats m 0 c).arrAt 4 Cert.LossIdeal.cfg0.N, fun c => (Cert.LossIdeal.Gen.dats m 0 c).arrAt 5 Cert.LossIdeal.cfg0.N, fun c => (Cert.LossIdeal.Gen.dats m 0 c).arrAt 6 Cert.LossIdeal.cfg0.N, fun c => (Cert.LossIdeal.Gen.dats m 0 c).arrAt 7 Cert.LossIdeal.cfg0.N, fun c => (Cert.LossIdeal.Gen.dats m 0 c).arrAt 8 Cert.LossIdeal.cfg0.N, Cert.LossIdeal.Value.run_blocks m g, ?_⟩
  refine (θ_run _ _ _).mono (fun r h c => ?_) (Cert.LossRefIdeal.Value.run m' g')
  obtain ⟨r0, r1, r2, r3, r4, kept⟩ := h c
  obtain ⟨e0, e1, e2, e3⟩ := hagree c
  refine ⟨r0.trans ?_, r1.trans ?_, r2.trans ?_, r3.trans ?_, r4.trans ?_, kept⟩
  · refine (Cert.LossRefIdeal.Read.val_main_v86_eq (F := Ideal) m' c).trans ?_
    rw [e0, e1, e2, e3]
    exact (Cert.LossIdeal.Value.final0 m c (Cert.LossIdeal.Value.reals_of_pre m c (hpre c))).symm
  · refine (Cert.LossRefIdeal.Read.val_main_v87_eq (F := Ideal) m' c).trans ?_
    rw [e0, e1, e2, e3]
    exact (Cert.LossIdeal.Value.final1 m c (Cert.LossIdeal.Value.reals_of_pre m c (hpre c))).symm
  · refine (Cert.LossRefIdeal.Read.val_main_v84_eq (F := Ideal) m' c).trans ?_
    rw [e0, e1, e2, e3]
    exact (Cert.LossIdeal.Value.final2 m c (Cert.LossIdeal.Value.reals_of_pre m c (hpre c))).symm
  · rw [e0, e1, e2, e3]
    exact (Cert.LossRefIdeal.Read.val_main_v83_eq (F := Ideal) (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)) (m ((c : Thread Cert.LossIdeal.nD Cert.LossIdeal.τ).loc Cert.LossIdeal.main_arg3))).trans (Cert.LossIdeal.Value.final3 m c (Cert.LossIdeal.Value.reals_of_pre m c (hpre c))).symm
  · refine (Cert.LossRefIdeal.Read.val_main_v46_eq (F := Ideal) m' c).trans ?_
    rw [e0, e1, e2, e3]
    exact (Cert.LossIdeal.Value.final4 m c (Cert.LossIdeal.Value.reals_of_pre m c (hpre c))).symm

theorem claim : Cert.Claim := ⟨Cert.Wd.Gen.facts, Cert.WdIdeal.Gen.facts, Cert.WdRefIdeal.Gen.facts, Cert.Dgu.Gen.facts, Cert.DguIdeal.Gen.facts, Cert.DguRefIdeal.Gen.facts, Cert.Wgu.Gen.facts, Cert.WguIdeal.Gen.facts, Cert.WguRefIdeal.Gen.facts, Cert.Dh.Gen.facts, Cert.DhIdeal.Gen.facts, Cert.DhRefIdeal.Gen.facts, Cert.Conv.Gen.facts, Cert.ConvIdeal.Gen.facts, Cert.ConvRefIdeal.Gen.facts, Cert.OutY.Gen.facts, Cert.OutYIdeal.Gen.facts, Cert.OutYRefIdeal.Gen.facts, Cert.OutW.Gen.facts, Cert.OutWIdeal.Gen.facts, Cert.OutWRefIdeal.Gen.facts, Cert.InW.Gen.facts, Cert.InWIdeal.Gen.facts, Cert.InWRefIdeal.Gen.facts, Cert.InH.Gen.facts, Cert.InHIdeal.Gen.facts, Cert.InHRefIdeal.Gen.facts, Cert.MixIn.Gen.facts, Cert.MixInIdeal.Gen.facts, Cert.MixInRefIdeal.Gen.facts, Cert.MixW.Gen.facts, Cert.MixWIdeal.Gen.facts, Cert.MixWRefIdeal.Gen.facts, Cert.Scale.Gen.facts, Cert.ScaleIdeal.Gen.facts, Cert.ScaleRefIdeal.Gen.facts, Cert.Down.Gen.facts, Cert.DownIdeal.Gen.facts, Cert.DownRefIdeal.Gen.facts, Cert.ProjIn.Gen.facts, Cert.ProjInIdeal.Gen.facts, Cert.ProjInRefIdeal.Gen.facts, Cert.ProjOut.Gen.facts, Cert.ProjOutIdeal.Gen.facts, Cert.ProjOutRefIdeal.Gen.facts, Cert.PoolMix.Gen.facts, Cert.PoolMixIdeal.Gen.facts, Cert.PoolMixRefIdeal.Gen.facts, Cert.Gu.Gen.facts, Cert.GuIdeal.Gen.facts, Cert.GuRefIdeal.Gen.facts, Cert.Ln.Gen.facts, Cert.LnIdeal.Gen.facts, Cert.LnRefIdeal.Gen.facts, Cert.Pool.Gen.facts, Cert.PoolIdeal.Gen.facts, Cert.PoolRefIdeal.Gen.facts, Cert.LnB.Gen.facts, Cert.LnBIdeal.Gen.facts, Cert.LnBRefIdeal.Gen.facts, Cert.ConvF.Gen.facts, Cert.ConvFIdeal.Gen.facts, Cert.ConvFRefIdeal.Gen.facts, Cert.Sum.Gen.facts, Cert.SumIdeal.Gen.facts, Cert.SumRefIdeal.Gen.facts, Cert.PoolF.Gen.facts, Cert.PoolFIdeal.Gen.facts, Cert.PoolFRefIdeal.Gen.facts, Cert.Loss.Gen.facts, Cert.LossIdeal.Gen.facts, Cert.LossRefIdeal.Gen.facts, Cert.Pre_finite.Gen.facts, Cert.Pre_pool_finite.Gen.facts, Cert.Pre_ln_finite.Gen.facts, Cert.Pre_pool_fwd_finite.Gen.facts, Cert.Pre_loss_finite.Gen.facts,
  fun m ρ _ => Cert.Wd.Gen.frame m ρ,
  fun m ρ _ => Cert.WdIdeal.Gen.frame m ρ,
  frame_WdRefIdeal,
  fun m ρ _ => Cert.Dgu.Gen.frame m ρ,
  fun m ρ _ => Cert.DguIdeal.Gen.frame m ρ,
  fun m ρ _ => Cert.DguIdeal.Gen.frame m ρ,
  frame_DguRefIdeal,
  fun m ρ _ => frame_DguRefIdeal m ρ trivial,
  fun m ρ _ => Cert.Wgu.Gen.frame m ρ,
  fun m ρ _ => Cert.WguIdeal.Gen.frame m ρ,
  frame_WguRefIdeal,
  fun m ρ _ => Cert.Dh.Gen.frame m ρ,
  fun m ρ _ => Cert.DhIdeal.Gen.frame m ρ,
  frame_DhRefIdeal,
  fun m ρ _ => Cert.Conv.Gen.frame m ρ,
  fun m ρ _ => Cert.ConvIdeal.Gen.frame m ρ,
  frame_ConvRefIdeal,
  fun m ρ _ => Cert.OutY.Gen.frame m ρ,
  fun m ρ _ => Cert.OutYIdeal.Gen.frame m ρ,
  frame_OutYRefIdeal,
  fun m ρ _ => Cert.OutW.Gen.frame m ρ,
  fun m ρ _ => Cert.OutWIdeal.Gen.frame m ρ,
  frame_OutWRefIdeal,
  fun m ρ _ => Cert.InW.Gen.frame m ρ,
  fun m ρ _ => Cert.InWIdeal.Gen.frame m ρ,
  frame_InWRefIdeal,
  fun m ρ _ => Cert.InH.Gen.frame m ρ,
  fun m ρ _ => Cert.InHIdeal.Gen.frame m ρ,
  frame_InHRefIdeal,
  fun m ρ _ => Cert.MixIn.Gen.frame m ρ,
  fun m ρ _ => Cert.MixInIdeal.Gen.frame m ρ,
  frame_MixInRefIdeal,
  fun m ρ _ => Cert.MixW.Gen.frame m ρ,
  fun m ρ _ => Cert.MixWIdeal.Gen.frame m ρ,
  frame_MixWRefIdeal,
  fun m ρ _ => Cert.Scale.Gen.frame m ρ,
  fun m ρ _ => Cert.ScaleIdeal.Gen.frame m ρ,
  frame_ScaleRefIdeal,
  fun m ρ _ => Cert.Down.Gen.frame m ρ,
  fun m ρ _ => Cert.DownIdeal.Gen.frame m ρ,
  frame_DownRefIdeal,
  fun m ρ _ => Cert.ProjIn.Gen.frame m ρ,
  fun m ρ _ => Cert.ProjInIdeal.Gen.frame m ρ,
  frame_ProjInRefIdeal,
  fun m ρ _ => Cert.ProjOut.Gen.frame m ρ,
  fun m ρ _ => Cert.ProjOutIdeal.Gen.frame m ρ,
  frame_ProjOutRefIdeal,
  fun m ρ _ => Cert.PoolMix.Gen.frame m ρ,
  fun m ρ _ => Cert.PoolMixIdeal.Gen.frame m ρ,
  frame_PoolMixRefIdeal,
  fun m ρ _ => Cert.Gu.Gen.frame m ρ,
  fun m ρ _ => Cert.GuIdeal.Gen.frame m ρ,
  frame_GuRefIdeal,
  fun m ρ _ => Cert.Ln.Gen.frame m ρ,
  fun m ρ _ => Cert.LnIdeal.Gen.frame m ρ,
  frame_LnRefIdeal,
  fun m ρ _ => Cert.Pool.Gen.frame m ρ,
  fun m ρ _ => Cert.PoolIdeal.Gen.frame m ρ,
  fun m ρ _ => Cert.PoolIdeal.Gen.frame m ρ,
  frame_PoolRefIdeal,
  fun m ρ _ => frame_PoolRefIdeal m ρ trivial,
  fun m ρ _ => Cert.LnB.Gen.frame m ρ,
  fun m ρ _ => Cert.LnBIdeal.Gen.frame m ρ,
  fun m ρ _ => Cert.LnBIdeal.Gen.frame m ρ,
  frame_LnBRefIdeal,
  fun m ρ _ => frame_LnBRefIdeal m ρ trivial,
  fun m ρ _ => Cert.ConvF.Gen.frame m ρ,
  fun m ρ _ => Cert.ConvFIdeal.Gen.frame m ρ,
  frame_ConvFRefIdeal,
  fun m ρ _ => Cert.Sum.Gen.frame m ρ,
  fun m ρ _ => Cert.SumIdeal.Gen.frame m ρ,
  frame_SumRefIdeal,
  fun m ρ _ => Cert.PoolF.Gen.frame m ρ,
  fun m ρ _ => Cert.PoolFIdeal.Gen.frame m ρ,
  fun m ρ _ => Cert.PoolFIdeal.Gen.frame m ρ,
  frame_PoolFRefIdeal,
  fun m ρ _ => frame_PoolFRefIdeal m ρ trivial,
  fun m ρ _ => Cert.Loss.Gen.frame m ρ,
  fun m ρ _ => Cert.LossIdeal.Gen.frame m ρ,
  fun m ρ _ => Cert.LossIdeal.Gen.frame m ρ,
  frame_LossRefIdeal,
  fun m ρ _ => frame_LossRefIdeal m ρ trivial,
  trivial,
  algebraic_Wd,
  trivial,
  algebraic_Dgu,
  trivial,
  algebraic_Wgu,
  trivial,
  algebraic_Dh,
  trivial,
  algebraic_Conv,
  trivial,
  algebraic_OutY,
  trivial,
  algebraic_OutW,
  trivial,
  algebraic_InW,
  trivial,
  algebraic_InH,
  trivial,
  algebraic_MixIn,
  trivial,
  algebraic_MixW,
  trivial,
  algebraic_Scale,
  trivial,
  algebraic_Down,
  trivial,
  algebraic_ProjIn,
  trivial,
  algebraic_ProjOut,
  trivial,
  algebraic_PoolMix,
  trivial,
  algebraic_Gu,
  trivial,
  algebraic_Ln,
  trivial,
  algebraic_Pool,
  trivial,
  algebraic_LnB,
  trivial,
  algebraic_ConvF,
  trivial,
  algebraic_Sum,
  trivial,
  algebraic_PoolF,
  trivial,
  algebraic_Loss⟩

end Cert.Proof

end
